-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_sample_finite [hPre_sample_finite : Cert.Pre_sample_finite.Facts] (m : (ℓ : Loc Cert.SampleIdeal.nD Cert.SampleIdeal.τ Cert.SampleIdeal.sig) → Buf (Elt Ideal) ℓ) : Prop :=
  ∀ c : Dev Cert.SampleIdeal.nD,
    (Cert.Pre_sample_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14)) (m ((c.tc : Thread Cert.SampleIdeal.nD Cert.SampleIdeal.τ).loc Cert.SampleIdeal.main_arg15))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_sample_finite [hPre_sample_finite : Cert.Pre_sample_finite.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_sample_finite.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7)) (m ((c.tc : Thread Cert.SampleReferenceIdeal.nD Cert.SampleReferenceIdeal.τ).loc Cert.SampleReferenceIdeal.main_arg8)) (m ((c.tc : Thread Cert.SampleReferenceIdeal.nD Cert.SampleReferenceIdeal.τ).loc Cert.SampleReferenceIdeal.main_arg9)) (m ((c.tc : Thread Cert.SampleReferenceIdeal.nD Cert.SampleReferenceIdeal.τ).loc Cert.SampleReferenceIdeal.main_arg10)) (m ((c.tc : Thread Cert.SampleReferenceIdeal.nD Cert.SampleReferenceIdeal.τ).loc Cert.SampleReferenceIdeal.main_arg11)) (m ((c.tc : Thread Cert.SampleReferenceIdeal.nD Cert.SampleReferenceIdeal.τ).loc Cert.SampleReferenceIdeal.main_arg12)) (m ((c.tc : Thread Cert.SampleReferenceIdeal.nD Cert.SampleReferenceIdeal.τ).loc Cert.SampleReferenceIdeal.main_arg13)) (m ((c.tc : Thread Cert.SampleReferenceIdeal.nD Cert.SampleReferenceIdeal.τ).loc Cert.SampleReferenceIdeal.main_arg14)) (m ((c.tc : Thread Cert.SampleReferenceIdeal.nD Cert.SampleReferenceIdeal.τ).loc Cert.SampleReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15))
      ∧ r.2.sem = fun _ => 0)

def quiescent_SampleIdeal_pre_sample_finite [hSampleIdeal : Cert.SampleIdeal.Facts] [hPre_sample_finite : Cert.Pre_sample_finite.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_sample_finite m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10)
      ∧ r.2.mem ((c.tc : Thread Cert.SampleReferenceIdeal.nD Cert.SampleReferenceIdeal.τ).loc Cert.SampleReferenceIdeal.main_arg11) = m ((c.tc : Thread Cert.SampleReferenceIdeal.nD Cert.SampleReferenceIdeal.τ).loc Cert.SampleReferenceIdeal.main_arg11)
      ∧ r.2.mem ((c.tc : Thread Cert.SampleReferenceIdeal.nD Cert.SampleReferenceIdeal.τ).loc Cert.SampleReferenceIdeal.main_arg12) = m ((c.tc : Thread Cert.SampleReferenceIdeal.nD Cert.SampleReferenceIdeal.τ).loc Cert.SampleReferenceIdeal.main_arg12)
      ∧ r.2.mem ((c.tc : Thread Cert.SampleReferenceIdeal.nD Cert.SampleReferenceIdeal.τ).loc Cert.SampleReferenceIdeal.main_arg13) = m ((c.tc : Thread Cert.SampleReferenceIdeal.nD Cert.SampleReferenceIdeal.τ).loc Cert.SampleReferenceIdeal.main_arg13)
      ∧ r.2.mem ((c.tc : Thread Cert.SampleReferenceIdeal.nD Cert.SampleReferenceIdeal.τ).loc Cert.SampleReferenceIdeal.main_arg14) = m ((c.tc : Thread Cert.SampleReferenceIdeal.nD Cert.SampleReferenceIdeal.τ).loc Cert.SampleReferenceIdeal.main_arg14)
      ∧ r.2.mem ((c.tc : Thread Cert.SampleReferenceIdeal.nD Cert.SampleReferenceIdeal.τ).loc Cert.SampleReferenceIdeal.main_arg15) = m ((c.tc : Thread Cert.SampleReferenceIdeal.nD Cert.SampleReferenceIdeal.τ).loc Cert.SampleReferenceIdeal.main_arg15))
      ∧ r.2.sem = fun _ => 0)

def quiescent_SampleReferenceIdeal_pre_sample_finite [hSampleReferenceIdeal : Cert.SampleReferenceIdeal.Facts] [hPre_sample_finite : Cert.Pre_sample_finite.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_sample_finite m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10)
      ∧ r.2.mem ((c.tc : Thread Cert.SampleReferenceIdeal.nD Cert.SampleReferenceIdeal.τ).loc Cert.SampleReferenceIdeal.main_arg11) = m ((c.tc : Thread Cert.SampleReferenceIdeal.nD Cert.SampleReferenceIdeal.τ).loc Cert.SampleReferenceIdeal.main_arg11)
      ∧ r.2.mem ((c.tc : Thread Cert.SampleReferenceIdeal.nD Cert.SampleReferenceIdeal.τ).loc Cert.SampleReferenceIdeal.main_arg12) = m ((c.tc : Thread Cert.SampleReferenceIdeal.nD Cert.SampleReferenceIdeal.τ).loc Cert.SampleReferenceIdeal.main_arg12)
      ∧ r.2.mem ((c.tc : Thread Cert.SampleReferenceIdeal.nD Cert.SampleReferenceIdeal.τ).loc Cert.SampleReferenceIdeal.main_arg13) = m ((c.tc : Thread Cert.SampleReferenceIdeal.nD Cert.SampleReferenceIdeal.τ).loc Cert.SampleReferenceIdeal.main_arg13)
      ∧ r.2.mem ((c.tc : Thread Cert.SampleReferenceIdeal.nD Cert.SampleReferenceIdeal.τ).loc Cert.SampleReferenceIdeal.main_arg14) = m ((c.tc : Thread Cert.SampleReferenceIdeal.nD Cert.SampleReferenceIdeal.τ).loc Cert.SampleReferenceIdeal.main_arg14)
      ∧ r.2.mem ((c.tc : Thread Cert.SampleReferenceIdeal.nD Cert.SampleReferenceIdeal.τ).loc Cert.SampleReferenceIdeal.main_arg15) = m ((c.tc : Thread Cert.SampleReferenceIdeal.nD Cert.SampleReferenceIdeal.τ).loc Cert.SampleReferenceIdeal.main_arg15))
      ∧ r.2.sem = fun _ => 0)

def preserves_Kernel_KernelIdeal : Prop :=
  IdealRules.named_const.Statement Cert.KernelIdeal.κ "mem_scale" .f32 0x3E0293EE#32 (((Real.log 2)⁻¹ * (Real.sqrt 128)⁻¹ : ℝ) : EReal)
  ∧ IdealRules.named_const.Statement Cert.KernelIdeal.κ "swa_scale" .f32 0x3E38AA3B#32 (((Real.log 2)⁻¹ * 8⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v501) = v0 c
          ∧ r.2.mem ((c.tc : Thread Cert.ReferenceIdeal.nD Cert.ReferenceIdeal.τ).loc Cert.ReferenceIdeal.main_v506) = v1 c
          ∧ r.2.mem ((c.tc : Thread Cert.ReferenceIdeal.nD Cert.ReferenceIdeal.τ).loc Cert.ReferenceIdeal.main_v503) = v2 c
          ∧ r.2.mem ((c.tc : Thread Cert.ReferenceIdeal.nD Cert.ReferenceIdeal.τ).loc Cert.ReferenceIdeal.main_v505) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)) (v2 : (c : Dev Cert.MemKvIdeal.nD) → Buf (Elt Ideal) ((c.tc : Thread Cert.MemKvIdeal.nD Cert.MemKvIdeal.τ).loc Cert.MemKvIdeal.main_v3_2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_v3_2) = v2 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v3) = v0 c
          ∧ r.2.mem ((c.tc : Thread Cert.MemKvReferenceIdeal.nD Cert.MemKvReferenceIdeal.τ).loc Cert.MemKvReferenceIdeal.main_v5) = v1 c
          ∧ r.2.mem ((c.tc : Thread Cert.MemKvReferenceIdeal.nD Cert.MemKvReferenceIdeal.τ).loc Cert.MemKvReferenceIdeal.main_v7) = v2 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_Sample_SampleIdeal : Prop :=
  IdealRules.named_const.Statement Cert.SampleIdeal.κ "mem_scale" .f32 0x3E0293EE#32 (((Real.log 2)⁻¹ * (Real.sqrt 128)⁻¹ : ℝ) : EReal)
  ∧ IdealRules.named_const.Statement Cert.SampleIdeal.κ "swa_scale" .f32 0x3E38AA3B#32 (((Real.log 2)⁻¹ * 8⁻¹ : ℝ) : EReal)
  ∧ IdealRules.named_const.Statement Cert.SampleIdeal.κ "log2e" .f32 0x3FB8AA3B#32 (((Real.log 2)⁻¹ : ℝ) : EReal)

def algebraic_SampleIdeal_SampleReferenceIdeal_pre_sample_finite [hSampleIdeal : Cert.SampleIdeal.Facts] [hSampleReferenceIdeal : Cert.SampleReferenceIdeal.Facts] [hPre_sample_finite : Cert.Pre_sample_finite.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal_sample_finite m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
      ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
      ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)
      ∧ m' ((c.tc : Thread Cert.SampleReferenceIdeal.nD Cert.SampleReferenceIdeal.τ).loc Cert.SampleReferenceIdeal.main_arg10) = m ((c.tc : Thread Cert.SampleIdeal.nD Cert.SampleIdeal.τ).loc Cert.SampleIdeal.main_arg10)
      ∧ m' ((c.tc : Thread Cert.SampleReferenceIdeal.nD Cert.SampleReferenceIdeal.τ).loc Cert.SampleReferenceIdeal.main_arg11) = m ((c.tc : Thread Cert.SampleIdeal.nD Cert.SampleIdeal.τ).loc Cert.SampleIdeal.main_arg11)
      ∧ m' ((c.tc : Thread Cert.SampleReferenceIdeal.nD Cert.SampleReferenceIdeal.τ).loc Cert.SampleReferenceIdeal.main_arg12) = m ((c.tc : Thread Cert.SampleIdeal.nD Cert.SampleIdeal.τ).loc Cert.SampleIdeal.main_arg12)
      ∧ m' ((c.tc : Thread Cert.SampleReferenceIdeal.nD Cert.SampleReferenceIdeal.τ).loc Cert.SampleReferenceIdeal.main_arg13) = m ((c.tc : Thread Cert.SampleIdeal.nD Cert.SampleIdeal.τ).loc Cert.SampleIdeal.main_arg13)
      ∧ m' ((c.tc : Thread Cert.SampleReferenceIdeal.nD Cert.SampleReferenceIdeal.τ).loc Cert.SampleReferenceIdeal.main_arg14) = m ((c.tc : Thread Cert.SampleIdeal.nD Cert.SampleIdeal.τ).loc Cert.SampleIdeal.main_arg14)
      ∧ m' ((c.tc : Thread Cert.SampleReferenceIdeal.nD Cert.SampleReferenceIdeal.τ).loc Cert.SampleReferenceIdeal.main_arg15) = m ((c.tc : Thread Cert.SampleIdeal.nD Cert.SampleIdeal.τ).loc Cert.SampleIdeal.main_arg15)) →
    ∃ (v0 : (c : Dev Cert.SampleIdeal.nD) → Buf (Elt Ideal) ((c.tc : Thread Cert.SampleIdeal.nD Cert.SampleIdeal.τ).loc Cert.SampleIdeal.main_v28_0)) (v1 : (c : Dev Cert.SampleIdeal.nD) → Buf (Elt Ideal) ((c.tc : Thread Cert.SampleIdeal.nD Cert.SampleIdeal.τ).loc Cert.SampleIdeal.main_v28_1)) (v2 : (c : Dev Cert.SampleIdeal.nD) → Buf (Elt Ideal) ((c.tc : Thread Cert.SampleIdeal.nD Cert.SampleIdeal.τ).loc Cert.SampleIdeal.main_v28_2)) (v3 : (c : Dev Cert.SampleIdeal.nD) → Buf (Elt Ideal) ((c.tc : Thread Cert.SampleIdeal.nD Cert.SampleIdeal.τ).loc Cert.SampleIdeal.main_v28_3)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v28_0) = v0 c
          ∧ r.2.mem ((c.tc : Thread Cert.SampleIdeal.nD Cert.SampleIdeal.τ).loc Cert.SampleIdeal.main_v28_1) = v1 c
          ∧ r.2.mem ((c.tc : Thread Cert.SampleIdeal.nD Cert.SampleIdeal.τ).loc Cert.SampleIdeal.main_v28_2) = v2 c
          ∧ r.2.mem ((c.tc : Thread Cert.SampleIdeal.nD Cert.SampleIdeal.τ).loc Cert.SampleIdeal.main_v28_3) = v3 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v475) = v0 c
          ∧ r.2.mem ((c.tc : Thread Cert.SampleReferenceIdeal.nD Cert.SampleReferenceIdeal.τ).loc Cert.SampleReferenceIdeal.main_v480) = v1 c
          ∧ r.2.mem ((c.tc : Thread Cert.SampleReferenceIdeal.nD Cert.SampleReferenceIdeal.τ).loc Cert.SampleReferenceIdeal.main_v477) = v2 c
          ∧ r.2.mem ((c.tc : Thread Cert.SampleReferenceIdeal.nD Cert.SampleReferenceIdeal.τ).loc Cert.SampleReferenceIdeal.main_v479) = v3 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9)
          ∧ r.2.mem ((c.tc : Thread Cert.SampleReferenceIdeal.nD Cert.SampleReferenceIdeal.τ).loc Cert.SampleReferenceIdeal.main_arg10) = m' ((c.tc : Thread Cert.SampleReferenceIdeal.nD Cert.SampleReferenceIdeal.τ).loc Cert.SampleReferenceIdeal.main_arg10)
          ∧ r.2.mem ((c.tc : Thread Cert.SampleReferenceIdeal.nD Cert.SampleReferenceIdeal.τ).loc Cert.SampleReferenceIdeal.main_arg11) = m' ((c.tc : Thread Cert.SampleReferenceIdeal.nD Cert.SampleReferenceIdeal.τ).loc Cert.SampleReferenceIdeal.main_arg11)
          ∧ r.2.mem ((c.tc : Thread Cert.SampleReferenceIdeal.nD Cert.SampleReferenceIdeal.τ).loc Cert.SampleReferenceIdeal.main_arg12) = m' ((c.tc : Thread Cert.SampleReferenceIdeal.nD Cert.SampleReferenceIdeal.τ).loc Cert.SampleReferenceIdeal.main_arg12)
          ∧ r.2.mem ((c.tc : Thread Cert.SampleReferenceIdeal.nD Cert.SampleReferenceIdeal.τ).loc Cert.SampleReferenceIdeal.main_arg13) = m' ((c.tc : Thread Cert.SampleReferenceIdeal.nD Cert.SampleReferenceIdeal.τ).loc Cert.SampleReferenceIdeal.main_arg13)
          ∧ r.2.mem ((c.tc : Thread Cert.SampleReferenceIdeal.nD Cert.SampleReferenceIdeal.τ).loc Cert.SampleReferenceIdeal.main_arg14) = m' ((c.tc : Thread Cert.SampleReferenceIdeal.nD Cert.SampleReferenceIdeal.τ).loc Cert.SampleReferenceIdeal.main_arg14)
          ∧ r.2.mem ((c.tc : Thread Cert.SampleReferenceIdeal.nD Cert.SampleReferenceIdeal.τ).loc Cert.SampleReferenceIdeal.main_arg15) = m' ((c.tc : Thread Cert.SampleReferenceIdeal.nD Cert.SampleReferenceIdeal.τ).loc Cert.SampleReferenceIdeal.main_arg15))

def Claim : Prop :=
  ∃ (hKernel : Cert.Kernel.Facts) (hKernelIdeal : Cert.KernelIdeal.Facts) (hReferenceIdeal : Cert.ReferenceIdeal.Facts) (hMemKv : Cert.MemKv.Facts) (hMemKvIdeal : Cert.MemKvIdeal.Facts) (hMemKvReferenceIdeal : Cert.MemKvReferenceIdeal.Facts) (hSample : Cert.Sample.Facts) (hSampleIdeal : Cert.SampleIdeal.Facts) (hSampleReferenceIdeal : Cert.SampleReferenceIdeal.Facts) (hPre_finite : Cert.Pre_finite.Facts) (hPre_sample_finite : Cert.Pre_sample_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Sample (hSample := hSample)
    ∧ quiescent_SampleIdeal (hSampleIdeal := hSampleIdeal)
    ∧ quiescent_SampleIdeal_pre_sample_finite (hSampleIdeal := hSampleIdeal) (hPre_sample_finite := hPre_sample_finite)
    ∧ quiescent_SampleReferenceIdeal (hSampleReferenceIdeal := hSampleReferenceIdeal)
    ∧ quiescent_SampleReferenceIdeal_pre_sample_finite (hSampleReferenceIdeal := hSampleReferenceIdeal) (hPre_sample_finite := hPre_sample_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_MemKv_MemKvIdeal
    ∧ algebraic_MemKvIdeal_MemKvReferenceIdeal (hMemKvIdeal := hMemKvIdeal) (hMemKvReferenceIdeal := hMemKvReferenceIdeal)
    ∧ preserves_Sample_SampleIdeal
    ∧ algebraic_SampleIdeal_SampleReferenceIdeal_pre_sample_finite (hSampleIdeal := hSampleIdeal) (hSampleReferenceIdeal := hSampleReferenceIdeal) (hPre_sample_finite := hPre_sample_finite)
-- ==== Pre_finite.lean ====
abbrev S2x16384x1024 : Shape := ⟨3, ![2, 16384, 1024]⟩
abbrev S2x512x1024 : Shape := ⟨3, ![2, 512, 1024]⟩
abbrev S2x1024 : Shape := ⟨2, ![2, 1024]⟩
abbrev S1x1024x4096 : Shape := ⟨3, ![1, 1024, 4096]⟩
abbrev S1x31x1024 : Shape := ⟨3, ![1, 31, 1024]⟩
abbrev S1x1024 : Shape := ⟨2, ![1, 1024]⟩
abbrev S1x1024x3328 : Shape := ⟨3, ![1, 1024, 3328]⟩
abbrev S1x16 : Shape := ⟨2, ![1, 16]⟩
abbrev S2x1536x1024 : Shape := ⟨3, ![2, 1536, 1024]⟩
abbrev S1024 : Shape := ⟨1, ![1024]⟩
abbrev S_ : Shape := ⟨0, ![]⟩

class Facts : Prop where
  bitsLt_bf16_f32 : FTy.bits .bf16 < FTy.bits .f32
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x1024x3328 : S_.BroadcastsInDim S1x1024x3328 (![] : Fin 0 → Fin S1x1024x3328.rank)
  reducesTo_S1x1024x3328_S_d0_1_2 : S1x1024x3328.ReducesTo [0, 1, 2] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg9 : FVec F S1x16 .f32) (main_v14 : IVec S_ 1) (main_v15 : FVec F S1x1024x3328 .f32) (main_v16 : FVec F S1x1024x3328 .f32) : IVec S_ 1 :=
  let main_v17 : IVec S1x1024x3328 1 := cmpf .olt main_v15 main_v16
  let main_c_5 : IVec S_ 1 := constantI S_ 1 1#1
  let main_v18 : IVec S_ 1 := (fun x v => Host.reduce IntOp.andi x v reducesTo_S1x1024x3328_S_d0_1_2 h_S_) main_v17 main_c_5
  let main_v19 : IVec S_ 1 := andi main_v14 main_v18
  let main_v20 : FVec F S1x16 .f32 := Host.absf main_arg9
  let main_cst_6 : FVec F S_ .f32 := constant S_ .f32 0x7F800000#32
  let main_v21 : FVec F S1x16 .f32 := broadcastInDim S1x16 ![] bcast_S_S1x16 main_cst_6
  let main_v22 : IVec S1x16 1 := cmpf .olt main_v20 main_v21
  let main_c_7 : IVec S_ 1 := constantI S_ 1 1#1
  let main_v23 : IVec S_ 1 := (fun x v => Host.reduce IntOp.andi x v reducesTo_S1x16_S_d0_1 h_S_) main_v22 main_c_7
  let main_v24 : IVec S_ 1 := andi main_v19 main_v23
  main_v24

def fn {F : FTy → Type} [FloatOps F] (main_arg0 : FVec F S2x16384x1024 .f32) (main_arg1 : FVec F S2x512x1024 .bf16) (main_arg2 : FVec F S2x1024 .f32) (main_arg3 : FVec F S1x1024x4096 .f32) (main_arg4 : FVec F S1x31x1024 .f32) (main_arg5 : FVec F S1x1024 .f32) (main_arg6 : FVec F S1x1024 .f32) (main_arg7 : FVec F S1x1024 .f32) (main_arg8 : FVec F S1x1024x3328 .f32) (main_arg9 : FVec F S1x16 .f32) (main_arg10 : FVec F S2x1536x1024 .f32) (main_arg11 : FVec F S1024 .f32) : IVec S_ 1 :=
  let main_v0 : FVec F S2x512x1024 .f32 := (extf .f32 · bitsLt_bf16_f32) main_arg1
  let main_v1 : FVec F S2x512x1024 .f32 := Host.absf main_v0
  let main_cst : FVec F S_ .f32 := constant S_ .f32 0x7F800000#32
  let main_v2 : FVec F S2x512x1024 .f32 := broadcastInDim S2x512x1024 ![] bcast_S_S2x512x1024 main_cst
  let main_v3 : IVec S2x512x1024 1 := cmpf .olt main_v1 main_v2
  let main_c : IVec S_ 1 := constantI S_ 1 1#1
  let main_v4 : IVec S_ 1 := (fun x v => Host.reduce IntOp.andi x v reducesTo_S2x512x1024_S_d0_1_2 h_S_) main_v3 main_c
  let main_v5 : FVec F S2x1024 .f32 := Host.absf main_arg2
  let main_cst_0 : FVec F S_ .f32 := constant S_ .f32 0x7F800000#32
  let main_v6 : FVec F S2x1024 .f32 := broadcastInDim S2x1024 ![] bcast_S_S2x1024 main_cst_0
  let main_v7 : IVec S2x1024 1 := cmpf .olt main_v5 main_v6
  let main_c_1 : IVec S_ 1 := constantI S_ 1 1#1
  let main_v8 : IVec S_ 1 := (fun x v => Host.reduce IntOp.andi x v reducesTo_S2x1024_S_d0_1 h_S_) main_v7 main_c_1
  let main_v9 : IVec S_ 1 := andi main_v4 main_v8
  let main_v10 : FVec F S1x1024x4096 .f32 := Host.absf main_arg3
  let main_cst_2 : FVec F S_ .f32 := constant S_ .f32 0x7F800000#32
  let main_v11 : FVec F S1x1024x4096 .f32 := broadcastInDim S1x1024x4096 ![] bcast_S_S1x1024x4096 main_cst_2
  let main_v12 : IVec S1x1024x4096 1 := cmpf .olt main_v10 main_v11
  let main_c_3 : IVec S_ 1 := constantI S_ 1 1#1
  let main_v13 : IVec S_ 1 := (fun x v => Host.reduce IntOp.andi x v reducesTo_S1x1024x4096_S_d0_1_2 h_S_) main_v12 main_c_3
  let main_v14 : IVec S_ 1 := andi main_v9 main_v13
  let main_v15 : FVec F S1x1024x3328 .f32 := Host.absf main_arg8
  let main_cst_4 : FVec F S_ .f32 := constant S_ .f32 0x7F800000#32
  let main_v16 : FVec F S1x1024x3328 .f32 := broadcastInDim S1x1024x3328 ![] bcast_S_S1x1024x3328 main_cst_4
  fn_part1 (F := F) main_arg9 main_v14 main_v15 main_v16
-- ==== Pre_sample_finite.lean ====
abbrev S16x64x1024 : Shape := ⟨3, ![16, 64, 1024]⟩
abbrev S1x16x30x1024 : Shape := ⟨4, ![1, 16, 30, 1024]⟩
abbrev S1x16x128x2x64 : Shape := ⟨5, ![1, 16, 128, 2, 64]⟩
abbrev S2x16x256x4x128 : Shape := ⟨5, ![2, 16, 256, 4, 128]⟩
abbrev S2x1024 : Shape := ⟨2, ![2, 1024]⟩
abbrev S1x1024x4096 : Shape := ⟨3, ![1, 1024, 4096]⟩
abbrev S1x31x1024 : Shape := ⟨3, ![1, 31, 1024]⟩
abbrev S1x1024 : Shape := ⟨2, ![1, 1024]⟩
abbrev S1x1024x3328 : Shape := ⟨3, ![1, 1024, 3328]⟩
abbrev S1x16 : Shape := ⟨2, ![1, 16]⟩
abbrev S2x1536x1024 : Shape := ⟨3, ![2, 1536, 1024]⟩
abbrev S1024 : Shape := ⟨1, ![1024]⟩
abbrev S_ : Shape := ⟨0, ![]⟩

class Facts : Prop where
  bcast_S_S1x16x128x2x64 : S_.BroadcastsInDim S1x16x128x2x64 (![] : Fin 0 → Fin S1x16x128x2x64.rank)
  reducesTo_S1x16x128x2x64_S_d0_1_2_3_4 : S1x16x128x2x64.ReducesTo [0, 1, 2, 3, 4] S_
  h_S_ : 0 < S_.numel
  bcast_S_S2x16x256x4x128 : S_.BroadcastsInDim S2x16x256x4x128 (![] : Fin 0 → Fin S2x16x256x4x128.rank)
  reducesTo_S2x16x256x4x128_S_d0_1_2_3_4 : S2x16x256x4x128.ReducesTo [0, 1, 2, 3, 4] S_
  bcast_S_S2x1024 : S_.BroadcastsInDim S2x1024 (![] : Fin 0 → Fin S2x1024.rank)
  reducesTo_S2x1024_S_d0_1 : S2x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x1024x3328 : S_.BroadcastsInDim S1x1024x3328 (![] : Fin 0 → Fin S1x1024x3328.rank)
  reducesTo_S1x1024x3328_S_d0_1_2 : S1x1024x3328.ReducesTo [0, 1, 2] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg12 : FVec F S1x1024x3328 .f32) (main_arg13 : FVec F S1x16 .f32) (main_v13 : IVec S_ 1) (main_v16 : IVec S1x1024x4096 1) : IVec S_ 1 :=
  let main_c_5 : IVec S_ 1 := constantI S_ 1 1#1
  let main_v17 : IVec S_ 1 := (fun x v => Host.reduce IntOp.andi x v reducesTo_S1x1024x4096_S_d0_1_2 h_S_) main_v16 main_c_5
  let main_v18 : IVec S_ 1 := andi main_v13 main_v17
  let main_v19 : FVec F S1x1024x3328 .f32 := Host.absf main_arg12
  let main_cst_6 : FVec F S_ .f32 := constant S_ .f32 0x7F800000#32
  let main_v20 : FVec F S1x1024x3328 .f32 := broadcastInDim S1x1024x3328 ![] bcast_S_S1x1024x3328 main_cst_6
  let main_v21 : IVec S1x1024x3328 1 := cmpf .olt main_v19 main_v20
  let main_c_7 : IVec S_ 1 := constantI S_ 1 1#1
  let main_v22 : IVec S_ 1 := (fun x v => Host.reduce IntOp.andi x v reducesTo_S1x1024x3328_S_d0_1_2 h_S_) main_v21 main_c_7
  let main_v23 : IVec S_ 1 := andi main_v18 main_v22
  let main_v24 : FVec F S1x16 .f32 := Host.absf main_arg13
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  main_v28

def fn {F : FTy → Type} [FloatOps F] (main_arg0 : FVec F S16x64x1024 .f32) (main_arg1 : FVec F S1x16x30x1024 .f32) (main_arg2 : FVec F S1x16x128x2x64 .f32) (main_arg3 : FVec F S1x16x128x2x64 .f32) (main_arg4 : FVec F S2x16x256x4x128 .f32) (main_arg5 : FVec F S2x16x256x4x128 .f32) (main_arg6 : FVec F S2x1024 .f32) (main_arg7 : FVec F S1x1024x4096 .f32) (main_arg8 : FVec F S1x31x1024 .f32) (main_arg9 : FVec F S1x1024 .f32) (main_arg10 : FVec F S1x1024 .f32) (main_arg11 : FVec F S1x1024 .f32) (main_arg12 : FVec F S1x1024x3328 .f32) (main_arg13 : FVec F S1x16 .f32) (main_arg14 : FVec F S2x1536x1024 .f32) (main_arg15 : FVec F S1024 .f32) : IVec S_ 1 :=
  let main_v0 : FVec F S1x16x128x2x64 .f32 := Host.absf main_arg2
  let main_cst : FVec F S_ .f32 := constant S_ .f32 0x7F800000#32
  let main_v1 : FVec F S1x16x128x2x64 .f32 := broadcastInDim S1x16x128x2x64 ![] bcast_S_S1x16x128x2x64 main_cst
  let main_v2 : IVec S1x16x128x2x64 1 := cmpf .olt main_v0 main_v1
  let main_c : IVec S_ 1 := constantI S_ 1 1#1
  let main_v3 : IVec S_ 1 := (fun x v => Host.reduce IntOp.andi x v reducesTo_S1x16x128x2x64_S_d0_1_2_3_4 h_S_) main_v2 main_c
  let main_v4 : FVec F S2x16x256x4x128 .f32 := Host.absf main_arg4
  let main_cst_0 : FVec F S_ .f32 := constant S_ .f32 0x7F800000#32
  let main_v5 : FVec F S2x16x256x4x128 .f32 := broadcastInDim S2x16x256x4x128 ![] bcast_S_S2x16x256x4x128 main_cst_0
  let main_v6 : IVec S2x16x256x4x128 1 := cmpf .olt main_v4 main_v5
  let main_c_1 : IVec S_ 1 := constantI S_ 1 1#1
  let main_v7 : IVec S_ 1 := (fun x v => Host.reduce IntOp.andi x v reducesTo_S2x16x256x4x128_S_d0_1_2_3_4 h_S_) main_v6 main_c_1
  let main_v8 : IVec S_ 1 := andi main_v3 main_v7
  let main_v9 : FVec F S2x1024 .f32 := Host.absf main_arg6
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1x1024x4096 .f32 := Host.absf main_arg7
  let main_cst_4 : FVec F S_ .f32 := constant S_ .f32 0x7F800000#32
  let main_v15 : FVec F S1x1024x4096 .f32 := broadcastInDim S1x1024x4096 ![] bcast_S_S1x1024x4096 main_cst_4
  let main_v16 : IVec S1x1024x4096 1 := cmpf .olt main_v14 main_v15
  fn_part1 (F := F) main_arg12 main_arg13 main_v13 main_v16
-- ==== Kernel.lean ====
abbrev S2x16384x1024 : Shape := ⟨3, ![2, 16384, 1024]⟩
abbrev S2x512x1024 : Shape := ⟨3, ![2, 512, 1024]⟩
abbrev S2x1024 : Shape := ⟨2, ![2, 1024]⟩
abbrev S1x1024x4096 : Shape := ⟨3, ![1, 1024, 4096]⟩
abbrev S1x31x1024 : Shape := ⟨3, ![1, 31, 1024]⟩
abbrev S1x1024 : Shape := ⟨2, ![1, 1024]⟩
abbrev S1x1024x3328 : Shape := ⟨3, ![1, 1024, 3328]⟩
abbrev S1x16 : Shape := ⟨2, ![1, 16]⟩
abbrev S2x1536x1024 : Shape := ⟨3, ![2, 1536, 1024]⟩
abbrev S1024 : Shape := ⟨1, ![1024]⟩
abbrev S_ : Shape := ⟨0, ![]⟩
abbrev S1x1024x4224 : Shape := ⟨3, ![1, 1024, 4224]⟩
abbrev S2x1536x1152 : Shape := ⟨3, ![2, 1536, 1152]⟩
abbrev S16 : Shape := ⟨1, ![16]⟩
abbrev S2x2x256x1024 : Shape := ⟨4, ![2, 2, 256, 1024]⟩
abbrev S16384 : Shape := ⟨1, ![16384]⟩
abbrev S32 : Shape := ⟨1, ![32]⟩
abbrev S32x1 : Shape := ⟨2, ![32, 1]⟩
abbrev S1x16384 : Shape := ⟨2, ![1, 16384]⟩
abbrev S32x16384 : Shape := ⟨2, ![32, 16384]⟩
abbrev S1x2x30x1024 : Shape := ⟨4, ![1, 2, 30, 1024]⟩
abbrev S1x2x128x128 : Shape := ⟨4, ![1, 2, 128, 128]⟩
abbrev S1x256x1024 : Shape := ⟨3, ![1, 256, 1024]⟩
abbrev S32x256 : Shape := ⟨2, ![32, 256]⟩
abbrev S1x1x30x1024 : Shape := ⟨4, ![1, 1, 30, 1024]⟩
abbrev S1x1x128x128 : Shape := ⟨4, ![1, 1, 128, 128]⟩
abbrev S2x1x256x512 : Shape := ⟨4, ![2, 1, 256, 512]⟩
abbrev S1x288x1024 : Shape := ⟨3, ![1, 288, 1024]⟩
abbrev S2x1x384x128 : Shape := ⟨4, ![2, 1, 384, 128]⟩
abbrev S1x30x1024 : Shape := ⟨3, ![1, 30, 1024]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩
abbrev S1x256 : Shape := ⟨2, ![1, 256]⟩
abbrev S1x1x256 : Shape := ⟨3, ![1, 1, 256]⟩
abbrev S1x280x256 : Shape := ⟨3, ![1, 280, 256]⟩
abbrev S1x272x256 : Shape := ⟨3, ![1, 272, 256]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩
abbrev S256x512 : Shape := ⟨2, ![256, 512]⟩
abbrev S1x1x256x512 : Shape := ⟨4, ![1, 1, 256, 512]⟩
abbrev S256x128 : Shape := ⟨2, ![256, 128]⟩
abbrev S256x1536 : Shape := ⟨2, ![256, 1536]⟩
abbrev S1x1536x1024 : Shape := ⟨3, ![1, 1536, 1024]⟩
abbrev S1536x1024 : Shape := ⟨2, ![1536, 1024]⟩
abbrev S128x256 : Shape := ⟨2, ![128, 256]⟩
abbrev S1x1024x128 : Shape := ⟨3, ![1, 1024, 128]⟩
abbrev S1024x128 : Shape := ⟨2, ![1024, 128]⟩
abbrev S1x1x256x128 : Shape := ⟨4, ![1, 1, 256, 128]⟩
abbrev S1x192 : Shape := ⟨2, ![1, 192]⟩
abbrev S64x1024 : Shape := ⟨2, ![64, 1024]⟩
abbrev S64x128 : Shape := ⟨2, ![64, 128]⟩
abbrev S1x1x192x128 : Shape := ⟨4, ![1, 1, 192, 128]⟩
abbrev S192x128 : Shape := ⟨2, ![192, 128]⟩
abbrev S256x192 : Shape := ⟨2, ![256, 192]⟩
abbrev S64x192 : Shape := ⟨2, ![64, 192]⟩
abbrev S1 : Shape := ⟨1, ![1]⟩
abbrev S64 : Shape := ⟨1, ![64]⟩
abbrev S64x1 : Shape := ⟨2, ![64, 1]⟩
abbrev S1x32x1024 : Shape := ⟨3, ![1, 32, 1024]⟩
abbrev S2x1x128x128 : Shape := ⟨4, ![2, 1, 128, 128]⟩

abbrev nBuf : Space → Nat
  | .hbm => 51
  | .vmem => 36
  | .smem => 1
  | _ => 0

abbrev bufTy : (tb : Table) → Fin (tcTables nBuf tb) → BufTy
  | .hbm, ⟨0, _⟩ => ⟨S2x16384x1024, .f32⟩
  | .hbm, ⟨1, _⟩ => ⟨S2x512x1024, .bf16⟩
  | .hbm, ⟨2, _⟩ => ⟨S2x1024, .f32⟩
  | .hbm, ⟨3, _⟩ => ⟨S1x1024x4096, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x3328, .f32⟩
  | .hbm, ⟨9, _⟩ => ⟨S1x16, .f32⟩
  | .hbm, ⟨10, _⟩ => ⟨S2x1536x1024, .f32⟩
  | .hbm, ⟨11, _⟩ => ⟨S1024, .f32⟩
  | .hbm, ⟨12, _⟩ => ⟨S_, .i32⟩
  | .hbm, ⟨13, _⟩ => ⟨S_, .f32⟩
  | .hbm, ⟨14, _⟩ => ⟨S1x1024x4224, .f32⟩
  | .hbm, ⟨15, _⟩ => ⟨S1x1024x4224, .bf16⟩
  | .hbm, ⟨16, _⟩ => ⟨S1x1024x3328, .bf16⟩
  | .hbm, ⟨17, _⟩ => ⟨S_, .i32⟩
  | .hbm, ⟨18, _⟩ => ⟨S_, .f32⟩
  | .hbm, ⟨19, _⟩ => ⟨S2x1536x1152, .f32⟩
  | .hbm, ⟨20, _⟩ => ⟨S2x1536x1152, .bf16⟩
  | .hbm, ⟨21, _⟩ => ⟨S1x1024, .f32⟩
  | .hbm, ⟨22, _⟩ => ⟨S16, .f32⟩
  | .hbm, ⟨23, _⟩ => ⟨S2x2x256x1024, .bf16⟩
  | .hbm, ⟨24, _⟩ => ⟨S16384, .i32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S32x1, .f32⟩
  | .hbm, ⟨34, _⟩ => ⟨S16384, .f32⟩
  | .hbm, ⟨35, _⟩ => ⟨S1x16384, .f32⟩
  | .hbm, ⟨36, _⟩ => ⟨S32x16384, .f32⟩
  | .hbm, ⟨37, _⟩ => ⟨S32x16384, .f32⟩
  | .hbm, ⟨38, _⟩ => ⟨S32x16384, .f32⟩
  | .hbm, ⟨39, _⟩ => ⟨S32x16384, .f32⟩
  | .hbm, ⟨40, _⟩ => ⟨S32x16384, .f32⟩
  | .hbm, ⟨41, _⟩ => ⟨S_, .f32⟩
  | .hbm, ⟨42, _⟩ => ⟨S1x2x30x1024, .f32⟩
  | .hbm, ⟨43, _⟩ => ⟨S_, .f32⟩
  | .hbm, ⟨44, _⟩ => ⟨S1x2x128x128, .f32⟩
  | .hbm, ⟨45, _⟩ => ⟨S_, .f32⟩
  | .hbm, ⟨46, _⟩ => ⟨S1x2x128x128, .f32⟩
  | .hbm, ⟨47, _⟩ => ⟨S2x16384x1024, .f32⟩
  | .hbm, ⟨48, _⟩ => ⟨S1x2x30x1024, .f32⟩
  | .hbm, ⟨49, _⟩ => ⟨S1x2x128x128, .f32⟩
  | .hbm, ⟨50, _⟩ => ⟨S1x2x128x128, .f32⟩
  | .local _ .vmem, ⟨0, _⟩ => ⟨S1x256x1024, .f32⟩
  | .local _ .vmem, ⟨1, _⟩ => ⟨S1x256x1024, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S1x1x30x1024, .f32⟩
  | .local _ .vmem, ⟨7, _⟩ => ⟨S1x1x30x1024, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S2x1x256x512, .bf16⟩
  | .local _ .vmem, ⟨13, _⟩ => ⟨S2x1x256x512, .bf16⟩
  | .local _ .vmem, ⟨14, _⟩ => ⟨S2x1024, .f32⟩
  | .local _ .vmem, ⟨15, _⟩ => ⟨S1x1024x4224, .bf16⟩
  | .local _ .vmem, ⟨16, _⟩ => ⟨S1x31x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024x3328, .bf16⟩
  | .local _ .vmem, ⟨21, _⟩ => ⟨S2x1536x1152, .bf16⟩
  | .local _ .vmem, ⟨22, _⟩ => ⟨S1x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x1x30x1024, .f32⟩
  | .local _ .vmem, ⟨26, _⟩ => ⟨S1x1x30x1024, .f32⟩
  | .local _ .vmem, ⟨27, _⟩ => ⟨S1x1x128x128, .f32⟩
  | .local _ .vmem, ⟨28, _⟩ => ⟨S1x1x128x128, .f32⟩
  | .local _ .vmem, ⟨29, _⟩ => ⟨S1x1x128x128, .f32⟩
  | .local _ .vmem, ⟨30, _⟩ => ⟨S1x1x128x128, .f32⟩
  | .local _ .vmem, ⟨31, _⟩ => ⟨S1x288x1024, .f32⟩
  | .local _ .vmem, ⟨32, _⟩ => ⟨S2x1x384x128, .bf16⟩
  | .local _ .vmem, ⟨33, _⟩ => ⟨S2x1x384x128, .bf16⟩
  | .local _ .vmem, ⟨34, _⟩ => ⟨S2x1x384x128, .bf16⟩
  | .local _ .vmem, ⟨35, _⟩ => ⟨S2x1x384x128, .bf16⟩
  | .local _ .smem, ⟨0, _⟩ => ⟨S16, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v26_2 : Ref sig .tc := ⟨.hbm, 49, rfl⟩
abbrev main_v26_3 : Ref sig .tc := ⟨.hbm, 50, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, arg0.toNat, c0_i32_0.toNat, c1_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x30x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x1x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S2x1x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x4224 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x31x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024x3328 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2x1536x1152 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x30x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x1x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x1x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== KernelIdeal.lean ====
variable {F : FTy → Type} [FloatOps F] [Named F]
def κ : String → Option EReal := fun
  | "log2e" => some (((Real.log 2)⁻¹ : ℝ) : EReal)
  | "mem_scale" => some (((Real.log 2)⁻¹ * (Real.sqrt 128)⁻¹ : ℝ) : EReal)
  | "swa_scale" => some (((Real.log 2)⁻¹ * 8⁻¹ : ℝ) : EReal)
  | _ => none
-- ==== ReferenceIdeal.lean ====
abbrev S2x16384x1024 : Shape := ⟨3, ![2, 16384, 1024]⟩
abbrev S2x512x1024 : Shape := ⟨3, ![2, 512, 1024]⟩
abbrev S2x1024 : Shape := ⟨2, ![2, 1024]⟩
abbrev S1x1024x4096 : Shape := ⟨3, ![1, 1024, 4096]⟩
abbrev S1x31x1024 : Shape := ⟨3, ![1, 31, 1024]⟩
abbrev S1x1024 : Shape := ⟨2, ![1, 1024]⟩
abbrev S1x1024x3328 : Shape := ⟨3, ![1, 1024, 3328]⟩
abbrev S1x16 : Shape := ⟨2, ![1, 16]⟩
abbrev S2x1536x1024 : Shape := ⟨3, ![2, 1536, 1024]⟩
abbrev S1024 : Shape := ⟨1, ![1024]⟩
abbrev S2x2x256x1024 : Shape := ⟨4, ![2, 2, 256, 1024]⟩
abbrev S2x2x256x512 : Shape := ⟨4, ![2, 2, 256, 512]⟩
abbrev S2x2x256x4x128 : Shape := ⟨5, ![2, 2, 256, 4, 128]⟩
abbrev S16384 : Shape := ⟨1, ![16384]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x4096 : Shape := ⟨2, ![1024, 4096]⟩
abbrev S2x16384x4096 : Shape := ⟨3, ![2, 16384, 4096]⟩
abbrev S2x16384x512 : Shape := ⟨3, ![2, 16384, 512]⟩
abbrev S2x30x1024 : Shape := ⟨3, ![2, 30, 1024]⟩
abbrev S2x16414x1024 : Shape := ⟨3, ![2, 16414, 1024]⟩
abbrev S31x1024 : Shape := ⟨2, ![31, 1024]⟩
abbrev S2x16384x4x128 : Shape := ⟨4, ![2, 16384, 4, 128]⟩
abbrev S1x2x256x4x128 : Shape := ⟨5, ![1, 2, 256, 4, 128]⟩
abbrev S2x256x4x128 : Shape := ⟨4, ![2, 256, 4, 128]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S2x16384x1536 : Shape := ⟨3, ![2, 16384, 1536]⟩
abbrev S1x1536x1024 : Shape := ⟨3, ![1, 1536, 1024]⟩
abbrev S1536x1024 : Shape := ⟨2, ![1536, 1024]⟩
abbrev S1024x3328 : Shape := ⟨2, ![1024, 3328]⟩
abbrev S2x16384x3328 : Shape := ⟨3, ![2, 16384, 3328]⟩
abbrev S2x16384x128 : Shape := ⟨3, ![2, 16384, 128]⟩
abbrev S2x16384x16x64 : Shape := ⟨4, ![2, 16384, 16, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S2x16384x16x32 : Shape := ⟨4, ![2, 16384, 16, 32]⟩
abbrev S1x16384x1x32 : Shape := ⟨4, ![1, 16384, 1, 32]⟩
abbrev S2x16384x2x64 : Shape := ⟨4, ![2, 16384, 2, 64]⟩
abbrev S2x16384x2x32 : Shape := ⟨4, ![2, 16384, 2, 32]⟩
abbrev S16 : Shape := ⟨1, ![16]⟩
abbrev S2x16512x2x64 : Shape := ⟨4, ![2, 16512, 2, 64]⟩
abbrev S2x258x64x2x64 : Shape := ⟨5, ![2, 258, 64, 2, 64]⟩
abbrev S2x256x64x2x64 : Shape := ⟨5, ![2, 256, 64, 2, 64]⟩
abbrev S2x256x192x2x64 : Shape := ⟨5, ![2, 256, 192, 2, 64]⟩
abbrev S2x256x64x2x8x64 : Shape := ⟨6, ![2, 256, 64, 2, 8, 64]⟩
abbrev S2x256x2x192x64x8 : Shape := ⟨6, ![2, 256, 2, 192, 64, 8]⟩
abbrev S2x256x2x8x64x192 : Shape := ⟨6, ![2, 256, 2, 8, 64, 192]⟩
abbrev S256 : Shape := ⟨1, ![256]⟩
abbrev S256x1 : Shape := ⟨2, ![256, 1]⟩
abbrev S192 : Shape := ⟨1, ![192]⟩
abbrev S1x192 : Shape := ⟨2, ![1, 192]⟩
abbrev S256x192 : Shape := ⟨2, ![256, 192]⟩
abbrev S1x256x1x1x1x192 : Shape := ⟨6, ![1, 256, 1, 1, 1, 192]⟩
abbrev S1x1x2x8x1x1 : Shape := ⟨6, ![1, 1, 2, 8, 1, 1]⟩
abbrev S2x256x2x8x64x1 : Shape := ⟨6, ![2, 256, 2, 8, 64, 1]⟩
abbrev S2x256x2x8x64x193 : Shape := ⟨6, ![2, 256, 2, 8, 64, 193]⟩
abbrev S2x256x2x8x64 : Shape := ⟨5, ![2, 256, 2, 8, 64]⟩
abbrev S2x256x2x64x8x64 : Shape := ⟨6, ![2, 256, 2, 64, 8, 64]⟩
abbrev S2x128x2x64 : Shape := ⟨4, ![2, 128, 2, 64]⟩
abbrev S1x2x128x128 : Shape := ⟨4, ![1, 2, 128, 128]⟩
abbrev S1x2x30x1024 : Shape := ⟨4, ![1, 2, 30, 1024]⟩

abbrev nBuf : Space → Nat
  | .hbm => 619
  | .vmem => 0
  | .smem => 0
  | _ => 0

abbrev hbmTy0_0 (i : Nat) : BufTy := match i % 128 with
  | 0 => ⟨S2x16384x1024, .f32⟩
  | 1 => ⟨S2x512x1024, .bf16⟩
  | 2 => ⟨S2x1024, .f32⟩
  | 3 => ⟨S1x1024x4096, .f32⟩
  | 4 => ⟨S1x31x1024, .f32⟩
  | 5 => ⟨S1x1024, .f32⟩
  | 6 => ⟨S1x1024, .f32⟩
  | 7 => ⟨S1x1024, .f32⟩
  | 8 => ⟨S1x1024x3328, .f32⟩
  | 9 => ⟨S1x16, .f32⟩
  | 10 => ⟨S2x1536x1024, .f32⟩
  | 11 => ⟨S1024, .f32⟩
  | 12 => ⟨S2x512x1024, .f32⟩
  | 13 => ⟨S2x2x256x1024, .f32⟩
  | 14 => ⟨S2x2x256x512, .f32⟩
  | 15 => ⟨S2x2x256x4x128, .f32⟩
  | 16 => ⟨S2x2x256x512, .f32⟩
  | 17 => ⟨S2x2x256x4x128, .f32⟩
  | 18 => ⟨S16384, .i32⟩
  | 19 => ⟨S1x1024, .f32⟩
  | 20 => ⟨S1024, .f32⟩
  | 21 => ⟨S2x16384x1024, .f32⟩
  | 22 => ⟨S_, .f32⟩
  | 23 => ⟨S2x16384, .f32⟩
  | 24 => ⟨S2x16384x1, .f32⟩
  | 25 => ⟨S_, .f32⟩
  | 26 => ⟨S2x16384x1, .f32⟩
  | 27 => ⟨S2x16384x1, .f32⟩
  | 28 => ⟨S_, .f32⟩
  | 29 => ⟨S2x16384x1, .f32⟩
  | 30 => ⟨S2x16384x1, .f32⟩
  | 31 => ⟨S2x16384x1, .f32⟩
  | 32 => ⟨S2x16384x1024, .f32⟩
  | 33 => ⟨S2x16384x1024, .f32⟩
  | 34 => ⟨S1x1x1024, .f32⟩
  | 35 => ⟨S2x16384x1024, .f32⟩
  | 36 => ⟨S2x16384x1024, .f32⟩
  | 37 => ⟨S1024x4096, .f32⟩
  | 38 => ⟨S2x16384x4096, .f32⟩
  | 39 => ⟨S2x16384x1024, .f32⟩
  | 40 => ⟨S2x16384x1024, .f32⟩
  | 41 => ⟨S2x16384x1024, .f32⟩
  | 42 => ⟨S2x16384x512, .f32⟩
  | 43 => ⟨S2x16384x512, .f32⟩
  | 44 => ⟨S2x16384x1024, .f32⟩
  | 45 => ⟨S2x16384x1024, .f32⟩
  | 46 => ⟨S_, .f32⟩
  | 47 => ⟨S2x16384x1024, .f32⟩
  | 48 => ⟨S2x16384x1024, .f32⟩
  | 49 => ⟨S_, .f32⟩
  | 50 => ⟨S2x16384x1024, .f32⟩
  | 51 => ⟨S2x16384x1024, .f32⟩
  | 52 => ⟨S2x16384x1024, .f32⟩
  | 53 => ⟨S_, .f32⟩
  | 54 => ⟨S2x30x1024, .f32⟩
  | 55 => ⟨S2x16414x1024, .f32⟩
  | 56 => ⟨S31x1024, .f32⟩
  | 57 => ⟨S1024, .f32⟩
  | 58 => ⟨S2x16384x1024, .f32⟩
  | 59 => ⟨S1x1024, .f32⟩
  | 60 => ⟨S1024, .f32⟩
  | 61 => ⟨S1x1x1024, .f32⟩
  | 62 => ⟨S2x16384x1024, .f32⟩
  | 63 => ⟨S2x16384x1024, .f32⟩
  | 64 => ⟨S_, .f32⟩
  | 65 => ⟨S2x16384x1024, .f32⟩
  | 66 => ⟨S2x16384x1024, .f32⟩
  | 67 => ⟨S2x16384x1024, .f32⟩
  | 68 => ⟨S1x1024, .f32⟩
  | 69 => ⟨S1024, .f32⟩
  | 70 => ⟨S1x1x1024, .f32⟩
  | 71 => ⟨S2x16384x1024, .f32⟩
  | 72 => ⟨S2x16384x1024, .f32⟩
  | 73 => ⟨S2x16384x1024, .f32⟩
  | 74 => ⟨S2x16384x1024, .f32⟩
  | 75 => ⟨S1x1024, .f32⟩
  | 76 => ⟨S1024, .f32⟩
  | 77 => ⟨S1x1x1024, .f32⟩
  | 78 => ⟨S2x16384x1024, .f32⟩
  | 79 => ⟨S2x16384x1024, .f32⟩
  | 80 => ⟨S2x16384x1024, .f32⟩
  | 81 => ⟨S2x16384x1024, .f32⟩
  | 82 => ⟨S1x1024, .f32⟩
  | 83 => ⟨S1024, .f32⟩
  | 84 => ⟨S1x1x1024, .f32⟩
  | 85 => ⟨S2x16384x1024, .f32⟩
  | 86 => ⟨S2x16384x1024, .f32⟩
  | 87 => ⟨S2x16384x1024, .f32⟩
  | 88 => ⟨S2x16384x1024, .f32⟩
  | 89 => ⟨S1x1024, .f32⟩
  | 90 => ⟨S1024, .f32⟩
  | 91 => ⟨S1x1x1024, .f32⟩
  | 92 => ⟨S2x16384x1024, .f32⟩
  | 93 => ⟨S2x16384x1024, .f32⟩
  | 94 => ⟨S2x16384x1024, .f32⟩
  | 95 => ⟨S2x16384x1024, .f32⟩
  | 96 => ⟨S1x1024, .f32⟩
  | 97 => ⟨S1024, .f32⟩
  | 98 => ⟨S1x1x1024, .f32⟩
  | 99 => ⟨S2x16384x1024, .f32⟩
  | 100 => ⟨S2x16384x1024, .f32⟩
  | 101 => ⟨S2x16384x1024, .f32⟩
  | 102 => ⟨S2x16384x1024, .f32⟩
  | 103 => ⟨S1x1024, .f32⟩
  | 104 => ⟨S1024, .f32⟩
  | 105 => ⟨S1x1x1024, .f32⟩
  | 106 => ⟨S2x16384x1024, .f32⟩
  | 107 => ⟨S2x16384x1024, .f32⟩
  | 108 => ⟨S2x16384x1024, .f32⟩
  | 109 => ⟨S2x16384x1024, .f32⟩
  | 110 => ⟨S1x1024, .f32⟩
  | 111 => ⟨S1024, .f32⟩
  | 112 => ⟨S1x1x1024, .f32⟩
  | 113 => ⟨S2x16384x1024, .f32⟩
  | 114 => ⟨S2x16384x1024, .f32⟩
  | 115 => ⟨S2x16384x1024, .f32⟩
  | 116 => ⟨S2x16384x1024, .f32⟩
  | 117 => ⟨S1x1024, .f32⟩
  | 118 => ⟨S1024, .f32⟩
  | 119 => ⟨S1x1x1024, .f32⟩
  | 120 => ⟨S2x16384x1024, .f32⟩
  | 121 => ⟨S2x16384x1024, .f32⟩
  | 122 => ⟨S2x16384x1024, .f32⟩
  | 123 => ⟨S2x16384x1024, .f32⟩
  | 124 => ⟨S1x1024, .f32⟩
  | 125 => ⟨S1024, .f32⟩
  | 126 => ⟨S1x1x1024, .f32⟩
  | 127 => ⟨S2x16384x1024, .f32⟩
  | _ => ⟨S2x16384x1024, .f32⟩

abbrev hbmTy0_1 (i : Nat) : BufTy := match i % 128 with
  | 0 => ⟨S2x16384x1024, .f32⟩
  | 1 => ⟨S2x16384x1024, .f32⟩
  | 2 => ⟨S2x16384x1024, .f32⟩
  | 3 => ⟨S1x1024, .f32⟩
  | 4 => ⟨S1024, .f32⟩
  | 5 => ⟨S1x1x1024, .f32⟩
  | 6 => ⟨S2x16384x1024, .f32⟩
  | 7 => ⟨S2x16384x1024, .f32⟩
  | 8 => ⟨S2x16384x1024, .f32⟩
  | 9 => ⟨S2x16384x1024, .f32⟩
  | 10 => ⟨S1x1024, .f32⟩
  | 11 => ⟨S1024, .f32⟩
  | 12 => ⟨S1x1x1024, .f32⟩
  | 13 => ⟨S2x16384x1024, .f32⟩
  | 14 => ⟨S2x16384x1024, .f32⟩
  | 15 => ⟨S2x16384x1024, .f32⟩
  | 16 => ⟨S2x16384x1024, .f32⟩
  | 17 => ⟨S1x1024, .f32⟩
  | 18 => ⟨S1024, .f32⟩
  | 19 => ⟨S1x1x1024, .f32⟩
  | 20 => ⟨S2x16384x1024, .f32⟩
  | 21 => ⟨S2x16384x1024, .f32⟩
  | 22 => ⟨S2x16384x1024, .f32⟩
  | 23 => ⟨S2x16384x1024, .f32⟩
  | 24 => ⟨S1x1024, .f32⟩
  | 25 => ⟨S1024, .f32⟩
  | 26 => ⟨S1x1x1024, .f32⟩
  | 27 => ⟨S2x16384x1024, .f32⟩
  | 28 => ⟨S2x16384x1024, .f32⟩
  | 29 => ⟨S2x16384x1024, .f32⟩
  | 30 => ⟨S2x16384x1024, .f32⟩
  | 31 => ⟨S1x1024, .f32⟩
  | 32 => ⟨S1024, .f32⟩
  | 33 => ⟨S1x1x1024, .f32⟩
  | 34 => ⟨S2x16384x1024, .f32⟩
  | 35 => ⟨S2x16384x1024, .f32⟩
  | 36 => ⟨S2x16384x1024, .f32⟩
  | 37 => ⟨S2x16384x1024, .f32⟩
  | 38 => ⟨S1x1024, .f32⟩
  | 39 => ⟨S1024, .f32⟩
  | 40 => ⟨S1x1x1024, .f32⟩
  | 41 => ⟨S2x16384x1024, .f32⟩
  | 42 => ⟨S2x16384x1024, .f32⟩
  | 43 => ⟨S2x16384x1024, .f32⟩
  | 44 => ⟨S2x16384x1024, .f32⟩
  | 45 => ⟨S1x1024, .f32⟩
  | 46 => ⟨S1024, .f32⟩
  | 47 => ⟨S1x1x1024, .f32⟩
  | 48 => ⟨S2x16384x1024, .f32⟩
  | 49 => ⟨S2x16384x1024, .f32⟩
  | 50 => ⟨S2x16384x1024, .f32⟩
  | 51 => ⟨S2x16384x1024, .f32⟩
  | 52 => ⟨S1x1024, .f32⟩
  | 53 => ⟨S1024, .f32⟩
  | 54 => ⟨S1x1x1024, .f32⟩
  | 55 => ⟨S2x16384x1024, .f32⟩
  | 56 => ⟨S2x16384x1024, .f32⟩
  | 57 => ⟨S2x16384x1024, .f32⟩
  | 58 => ⟨S2x16384x1024, .f32⟩
  | 59 => ⟨S1x1024, .f32⟩
  | 60 => ⟨S1024, .f32⟩
  | 61 => ⟨S1x1x1024, .f32⟩
  | 62 => ⟨S2x16384x1024, .f32⟩
  | 63 => ⟨S2x16384x1024, .f32⟩
  | 64 => ⟨S2x16384x1024, .f32⟩
  | 65 => ⟨S2x16384x1024, .f32⟩
  | 66 => ⟨S1x1024, .f32⟩
  | 67 => ⟨S1024, .f32⟩
  | 68 => ⟨S1x1x1024, .f32⟩
  | 69 => ⟨S2x16384x1024, .f32⟩
  | 70 => ⟨S2x16384x1024, .f32⟩
  | 71 => ⟨S2x16384x1024, .f32⟩
  | 72 => ⟨S2x16384x1024, .f32⟩
  | 73 => ⟨S1x1024, .f32⟩
  | 74 => ⟨S1024, .f32⟩
  | 75 => ⟨S1x1x1024, .f32⟩
  | 76 => ⟨S2x16384x1024, .f32⟩
  | 77 => ⟨S2x16384x1024, .f32⟩
  | 78 => ⟨S2x16384x1024, .f32⟩
  | 79 => ⟨S2x16384x1024, .f32⟩
  | 80 => ⟨S1x1024, .f32⟩
  | 81 => ⟨S1024, .f32⟩
  | 82 => ⟨S1x1x1024, .f32⟩
  | 83 => ⟨S2x16384x1024, .f32⟩
  | 84 => ⟨S2x16384x1024, .f32⟩
  | 85 => ⟨S2x16384x1024, .f32⟩
  | 86 => ⟨S2x16384x1024, .f32⟩
  | 87 => ⟨S1x1024, .f32⟩
  | 88 => ⟨S1024, .f32⟩
  | 89 => ⟨S1x1x1024, .f32⟩
  | 90 => ⟨S2x16384x1024, .f32⟩
  | 91 => ⟨S2x16384x1024, .f32⟩
  | 92 => ⟨S2x16384x1024, .f32⟩
  | 93 => ⟨S2x16384x1024, .f32⟩
  | 94 => ⟨S1x1024, .f32⟩
  | 95 => ⟨S1024, .f32⟩
  | 96 => ⟨S1x1x1024, .f32⟩
  | 97 => ⟨S2x16384x1024, .f32⟩
  | 98 => ⟨S2x16384x1024, .f32⟩
  | 99 => ⟨S2x16384x1024, .f32⟩
  | 100 => ⟨S2x16384x1024, .f32⟩
  | 101 => ⟨S1x1024, .f32⟩
  | 102 => ⟨S1024, .f32⟩
  | 103 => ⟨S1x1x1024, .f32⟩
  | 104 => ⟨S2x16384x1024, .f32⟩
  | 105 => ⟨S2x16384x1024, .f32⟩
  | 106 => ⟨S2x16384x1024, .f32⟩
  | 107 => ⟨S2x16384x1024, .f32⟩
  | 108 => ⟨S1x1024, .f32⟩
  | 109 => ⟨S1024, .f32⟩
  | 110 => ⟨S1x1x1024, .f32⟩
  | 111 => ⟨S2x16384x1024, .f32⟩
  | 112 => ⟨S2x16384x1024, .f32⟩
  | 113 => ⟨S2x16384x1024, .f32⟩
  | 114 => ⟨S2x16384x1024, .f32⟩
  | 115 => ⟨S1x1024, .f32⟩
  | 116 => ⟨S1024, .f32⟩
  | 117 => ⟨S1x1x1024, .f32⟩
  | 118 => ⟨S2x16384x1024, .f32⟩
  | 119 => ⟨S2x16384x1024, .f32⟩
  | 120 => ⟨S2x16384x1024, .f32⟩
  | 121 => ⟨S2x16384x1024, .f32⟩
  | 122 => ⟨S1x1024, .f32⟩
  | 123 => ⟨S1024, .f32⟩
  | 124 => ⟨S1x1x1024, .f32⟩
  | 125 => ⟨S2x16384x1024, .f32⟩
  | 126 => ⟨S2x16384x1024, .f32⟩
  | 127 => ⟨S2x16384x1024, .f32⟩
  | _ => ⟨S2x16384x1024, .f32⟩

abbrev hbmTy0_2 (i : Nat) : BufTy := match i % 128 with
  | 0 => ⟨S2x16384x1024, .f32⟩
  | 1 => ⟨S1x1024, .f32⟩
  | 2 => ⟨S1024, .f32⟩
  | 3 => ⟨S1x1x1024, .f32⟩
  | 4 => ⟨S2x16384x1024, .f32⟩
  | 5 => ⟨S2x16384x1024, .f32⟩
  | 6 => ⟨S2x16384x1024, .f32⟩
  | 7 => ⟨S2x16384x1024, .f32⟩
  | 8 => ⟨S1x1024, .f32⟩
  | 9 => ⟨S1024, .f32⟩
  | 10 => ⟨S1x1x1024, .f32⟩
  | 11 => ⟨S2x16384x1024, .f32⟩
  | 12 => ⟨S2x16384x1024, .f32⟩
  | 13 => ⟨S2x16384x1024, .f32⟩
  | 14 => ⟨S2x16384x1024, .f32⟩
  | 15 => ⟨S1x1024, .f32⟩
  | 16 => ⟨S1024, .f32⟩
  | 17 => ⟨S1x1x1024, .f32⟩
  | 18 => ⟨S2x16384x1024, .f32⟩
  | 19 => ⟨S2x16384x1024, .f32⟩
  | 20 => ⟨S2x16384x1024, .f32⟩
  | 21 => ⟨S1x1x1024, .f32⟩
  | 22 => ⟨S2x16384x1024, .f32⟩
  | 23 => ⟨S2x16384x1024, .f32⟩
  | 24 => ⟨S1024, .f32⟩
  | 25 => ⟨S1024, .f32⟩
  | 26 => ⟨S_, .f32⟩
  | 27 => ⟨S2x16384, .f32⟩
  | 28 => ⟨S2x16384x1, .f32⟩
  | 29 => ⟨S_, .f32⟩
  | 30 => ⟨S2x16384x1, .f32⟩
  | 31 => ⟨S2x16384x1, .f32⟩
  | 32 => ⟨S2x16384x1024, .f32⟩
  | 33 => ⟨S2x16384x1024, .f32⟩
  | 34 => ⟨S2x16384x1024, .f32⟩
  | 35 => ⟨S_, .f32⟩
  | 36 => ⟨S2x16384, .f32⟩
  | 37 => ⟨S2x16384x1, .f32⟩
  | 38 => ⟨S_, .f32⟩
  | 39 => ⟨S2x16384x1, .f32⟩
  | 40 => ⟨S2x16384x1, .f32⟩
  | 41 => ⟨S_, .f32⟩
  | 42 => ⟨S2x16384x1, .f32⟩
  | 43 => ⟨S2x16384x1, .f32⟩
  | 44 => ⟨S2x16384x1, .f32⟩
  | 45 => ⟨S2x16384x1024, .f32⟩
  | 46 => ⟨S2x16384x1024, .f32⟩
  | 47 => ⟨S1x1x1024, .f32⟩
  | 48 => ⟨S2x16384x1024, .f32⟩
  | 49 => ⟨S2x16384x1024, .f32⟩
  | 50 => ⟨S1x1x1024, .f32⟩
  | 51 => ⟨S2x16384x1024, .f32⟩
  | 52 => ⟨S2x16384x1024, .f32⟩
  | 53 => ⟨S2x16384x1024, .f32⟩
  | 54 => ⟨S2x16384x1024, .f32⟩
  | 55 => ⟨S_, .f32⟩
  | 56 => ⟨S2x16384x1024, .f32⟩
  | 57 => ⟨S2x16384x1024, .f32⟩
  | 58 => ⟨S_, .f32⟩
  | 59 => ⟨S2x16384x1024, .f32⟩
  | 60 => ⟨S2x16384x1024, .f32⟩
  | 61 => ⟨S2x16384x1024, .f32⟩
  | 62 => ⟨S2x16384x1024, .f32⟩
  | 63 => ⟨S2x16384x1024, .f32⟩
  | 64 => ⟨S_, .f32⟩
  | 65 => ⟨S2x16384x1024, .f32⟩
  | 66 => ⟨S2x16384x1024, .f32⟩
  | 67 => ⟨S_, .f32⟩
  | 68 => ⟨S2x16384x1024, .f32⟩
  | 69 => ⟨S2x16384x1024, .f32⟩
  | 70 => ⟨S2x16384x1024, .f32⟩
  | 71 => ⟨S2x16384x1024, .f32⟩
  | 72 => ⟨S2x30x1024, .f32⟩
  | 73 => ⟨S2x16384x4x128, .f32⟩
  | 74 => ⟨S1x2x256x4x128, .f32⟩
  | 75 => ⟨S2x256x4x128, .f32⟩
  | 76 => ⟨S1x2x256x4x128, .f32⟩
  | 77 => ⟨S2x256x4x128, .f32⟩
  | 78 => ⟨S2x4x16384x256, .f32⟩
  | 79 => ⟨S_, .f32⟩
  | 80 => ⟨S_, .f32⟩
  | 81 => ⟨S_, .f32⟩
  | 82 => ⟨S_, .f32⟩
  | 83 => ⟨S2x4x16384x256, .f32⟩
  | 84 => ⟨S2x4x16384x256, .f32⟩
  | 85 => ⟨S_, .f32⟩
  | 86 => ⟨S2x4x16384, .f32⟩
  | 87 => ⟨S2x4x16384x1, .f32⟩
  | 88 => ⟨S2x4x16384x256, .f32⟩
  | 89 => ⟨S2x4x16384x256, .f32⟩
  | 90 => ⟨S2x4x16384x256, .f32⟩
  | 91 => ⟨S_, .f32⟩
  | 92 => ⟨S2x4x16384, .f32⟩
  | 93 => ⟨S2x4x16384x1, .f32⟩
  | 94 => ⟨S2x4x16384x256, .f32⟩
  | 95 => ⟨S2x4x16384x256, .f32⟩
  | 96 => ⟨S2x4x128x16384, .f32⟩
  | 97 => ⟨S2x16384x4x128, .f32⟩
  | 98 => ⟨S2x16384x512, .f32⟩
  | 99 => ⟨S2x16384x512, .f32⟩
  | 100 => ⟨S2x16384x512, .f32⟩
  | 101 => ⟨S_, .f32⟩
  | 102 => ⟨S2x16384x512, .f32⟩
  | 103 => ⟨S2x16384x512, .f32⟩
  | 104 => ⟨S_, .f32⟩
  | 105 => ⟨S2x16384x512, .f32⟩
  | 106 => ⟨S2x16384x512, .f32⟩
  | 107 => ⟨S2x16384x512, .f32⟩
  | 108 => ⟨S2x16384x512, .f32⟩
  | 109 => ⟨S2x16384x1536, .f32⟩
  | 110 => ⟨S1x1536x1024, .f32⟩
  | 111 => ⟨S1536x1024, .f32⟩
  | 112 => ⟨S2x16384x1024, .f32⟩
  | 113 => ⟨S2x16384x1024, .f32⟩
  | 114 => ⟨S1x1024, .f32⟩
  | 115 => ⟨S1024, .f32⟩
  | 116 => ⟨S2x16384x1024, .f32⟩
  | 117 => ⟨S_, .f32⟩
  | 118 => ⟨S2x16384, .f32⟩
  | 119 => ⟨S2x16384x1, .f32⟩
  | 120 => ⟨S_, .f32⟩
  | 121 => ⟨S2x16384x1, .f32⟩
  | 122 => ⟨S2x16384x1, .f32⟩
  | 123 => ⟨S_, .f32⟩
  | 124 => ⟨S2x16384x1, .f32⟩
  | 125 => ⟨S2x16384x1, .f32⟩
  | 126 => ⟨S2x16384x1, .f32⟩
  | 127 => ⟨S2x16384x1024, .f32⟩
  | _ => ⟨S2x16384x1024, .f32⟩

abbrev hbmTy0_3 (i : Nat) : BufTy := match i % 128 with
  | 0 => ⟨S2x16384x1024, .f32⟩
  | 1 => ⟨S1x1x1024, .f32⟩
  | 2 => ⟨S2x16384x1024, .f32⟩
  | 3 => ⟨S2x16384x1024, .f32⟩
  | 4 => ⟨S1024x3328, .f32⟩
  | 5 => ⟨S2x16384x3328, .f32⟩
  | 6 => ⟨S2x16384x1024, .f32⟩
  | 7 => ⟨S2x16384x128, .f32⟩
  | 8 => ⟨S2x16384x128, .f32⟩
  | 9 => ⟨S2x16384x1024, .f32⟩
  | 10 => ⟨S2x16384x512, .f32⟩
  | 11 => ⟨S2x16384x512, .f32⟩
  | 12 => ⟨S2x16384x16x64, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S16384, .f32⟩
  | 22 => ⟨S16384x1, .f32⟩
  | 23 => ⟨S1x32, .f32⟩
  | 24 => ⟨S16384x32, .f32⟩
  | 25 => ⟨S16384x32, .f32⟩
  | 26 => ⟨S16384x32, .f32⟩
  | 27 => ⟨S16384x32, .f32⟩
  | 28 => ⟨S16384x1x32, .f32⟩
  | 29 => ⟨S16384x32, .f32⟩
  | 30 => ⟨S16384x1x32, .f32⟩
  | 31 => ⟨S2x16384x16x32, .f32⟩
  | 32 => ⟨S2x16384x16x32, .f32⟩
  | 33 => ⟨S1x16384x1x32, .f32⟩
  | 34 => ⟨S2x16384x16x32, .f32⟩
  | 35 => ⟨S2x16384x16x32, .f32⟩
  | 36 => ⟨S1x16384x1x32, .f32⟩
  | 37 => ⟨S2x16384x16x32, .f32⟩
  | 38 => ⟨S2x16384x16x32, .f32⟩
  | 39 => ⟨S2x16384x16x32, .f32⟩
  | 40 => ⟨S1x16384x1x32, .f32⟩
  | 41 => ⟨S2x16384x16x32, .f32⟩
  | 42 => ⟨S2x16384x16x32, .f32⟩
  | 43 => ⟨S1x16384x1x32, .f32⟩
  | 44 => ⟨S2x16384x16x32, .f32⟩
  | 45 => ⟨S2x16384x16x32, .f32⟩
  | 46 => ⟨S2x16384x16x32, .f32⟩
  | 47 => ⟨S2x16384x16x64, .f32⟩
  | 48 => ⟨S2x16384x2x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S16384, .f32⟩
  | 58 => ⟨S16384x1, .f32⟩
  | 59 => ⟨S1x32, .f32⟩
  | 60 => ⟨S16384x32, .f32⟩
  | 61 => ⟨S16384x32, .f32⟩
  | 62 => ⟨S16384x32, .f32⟩
  | 63 => ⟨S16384x32, .f32⟩
  | 64 => ⟨S16384x1x32, .f32⟩
  | 65 => ⟨S16384x32, .f32⟩
  | 66 => ⟨S16384x1x32, .f32⟩
  | 67 => ⟨S2x16384x2x32, .f32⟩
  | 68 => ⟨S2x16384x2x32, .f32⟩
  | 69 => ⟨S1x16384x1x32, .f32⟩
  | 70 => ⟨S2x16384x2x32, .f32⟩
  | 71 => ⟨S2x16384x2x32, .f32⟩
  | 72 => ⟨S1x16384x1x32, .f32⟩
  | 73 => ⟨S2x16384x2x32, .f32⟩
  | 74 => ⟨S2x16384x2x32, .f32⟩
  | 75 => ⟨S2x16384x2x32, .f32⟩
  | 76 => ⟨S1x16384x1x32, .f32⟩
  | 77 => ⟨S2x16384x2x32, .f32⟩
  | 78 => ⟨S2x16384x2x32, .f32⟩
  | 79 => ⟨S1x16384x1x32, .f32⟩
  | 80 => ⟨S2x16384x2x32, .f32⟩
  | 81 => ⟨S2x16384x2x32, .f32⟩
  | 82 => ⟨S2x16384x2x32, .f32⟩
  | 83 => ⟨S2x16384x2x64, .f32⟩
  | 84 => ⟨S2x16384x2x64, .f32⟩
  | 85 => ⟨S16, .f32⟩
  | 86 => ⟨S_, .i32⟩
  | 87 => ⟨S_, .f32⟩
  | 88 => ⟨S2x16512x2x64, .f32⟩
  | 89 => ⟨S2x258x64x2x64, .f32⟩
  | 90 => ⟨S_, .i32⟩
  | 91 => ⟨S_, .f32⟩
  | 92 => ⟨S2x16512x2x64, .f32⟩
  | 93 => ⟨S2x258x64x2x64, .f32⟩
  | 94 => ⟨S2x256x64x2x64, .f32⟩
  | 95 => ⟨S2x256x64x2x64, .f32⟩
  | 96 => ⟨S2x256x64x2x64, .f32⟩
  | 97 => ⟨S2x256x192x2x64, .f32⟩
  | 98 => ⟨S2x256x64x2x64, .f32⟩
  | 99 => ⟨S2x256x64x2x64, .f32⟩
  | 100 => ⟨S2x256x64x2x64, .f32⟩
  | 101 => ⟨S2x256x192x2x64, .f32⟩
  | 102 => ⟨S2x256x64x2x8x64, .f32⟩
  | 103 => ⟨S2x256x2x192x64x8, .f32⟩
  | 104 => ⟨S2x256x2x8x64x192, .f32⟩
  | 105 => ⟨S_, .f32⟩
  | 106 => ⟨S2x256x2x8x64x192, .f32⟩
  | 107 => ⟨S2x256x2x8x64x192, .f32⟩
  | 108 => ⟨S256, .i32⟩
  | 109 => ⟨S256x1, .i32⟩
  | 110 => ⟨S_, .i32⟩
  | 111 => ⟨S256x1, .i32⟩
  | 112 => ⟨S256x1, .i32⟩
  | 113 => ⟨S192, .i32⟩
  | 114 => ⟨S1x192, .i32⟩
  | 115 => ⟨S_, .i32⟩
  | 116 => ⟨S_, .i32⟩
  | 117 => ⟨S1x192, .i32⟩
  | 118 => ⟨S1x192, .i32⟩
  | 119 => ⟨S1x192, .i32⟩
  | 120 => ⟨S_, .i32⟩
  | 121 => ⟨S1x192, .i32⟩
  | 122 => ⟨S1x192, .i1⟩
  | 123 => ⟨S1x192, .i32⟩
  | 124 => ⟨S1x192, .i32⟩
  | 125 => ⟨S_, .i32⟩
  | 126 => ⟨S1x192, .i32⟩
  | 127 => ⟨S1x192, .i1⟩
  | _ => ⟨S2x16384x1024, .f32⟩

abbrev hbmTy0_4 (i : Nat) : BufTy := match i % 128 with
  | 0 => ⟨S1x192, .i1⟩
  | 1 => ⟨S_, .i32⟩
  | 2 => ⟨S1x192, .i32⟩
  | 3 => ⟨S1x192, .i32⟩
  | 4 => ⟨S1x192, .i32⟩
  | 5 => ⟨S256x192, .i32⟩
  | 6 => ⟨S256x192, .i32⟩
  | 7 => ⟨S256x192, .i32⟩
  | 8 => ⟨S_, .i32⟩
  | 9 => ⟨S256x192, .i32⟩
  | 10 => ⟨S256x192, .i1⟩
  | 11 => ⟨S1x256x1x1x1x192, .i1⟩
  | 12 => ⟨S_, .f32⟩
  | 13 => ⟨S_, .f32⟩
  | 14 => ⟨S2x256x2x8x64x192, .i1⟩
  | 15 => ⟨S2x256x2x8x64x192, .f32⟩
  | 16 => ⟨S2x256x2x8x64x192, .f32⟩
  | 17 => ⟨S1x1x2x8x1x1, .f32⟩
  | 18 => ⟨S2x256x2x8x64x1, .f32⟩
  | 19 => ⟨S2x256x2x8x64x193, .f32⟩
  | 20 => ⟨S_, .f32⟩
  | 21 => ⟨S2x256x2x8x64, .f32⟩
  | 22 => ⟨S2x256x2x8x64x1, .f32⟩
  | 23 => ⟨S2x256x2x8x64x193, .f32⟩
  | 24 => ⟨S2x256x2x8x64x193, .f32⟩
  | 25 => ⟨S2x256x2x8x64x193, .f32⟩
  | 26 => ⟨S_, .f32⟩
  | 27 => ⟨S2x256x2x8x64, .f32⟩
  | 28 => ⟨S2x256x2x8x64x1, .f32⟩
  | 29 => ⟨S2x256x2x8x64x193, .f32⟩
  | 30 => ⟨S2x256x2x8x64x193, .f32⟩
  | 31 => ⟨S2x256x2x8x64x192, .f32⟩
  | 32 => ⟨S2x256x2x64x8x64, .f32⟩
  | 33 => ⟨S2x256x64x2x8x64, .f32⟩
  | 34 => ⟨S2x16384x1024, .f32⟩
  | 35 => ⟨S2x16384x1024, .f32⟩
  | 36 => ⟨S2x16384x1024, .f32⟩
  | 37 => ⟨S_, .f32⟩
  | 38 => ⟨S2x16384x1024, .f32⟩
  | 39 => ⟨S2x16384x1024, .f32⟩
  | 40 => ⟨S_, .f32⟩
  | 41 => ⟨S2x16384x1024, .f32⟩
  | 42 => ⟨S2x16384x1024, .f32⟩
  | 43 => ⟨S2x16384x1024, .f32⟩
  | 44 => ⟨S2x16384x1024, .f32⟩
  | 45 => ⟨S2x16384x4x128, .f32⟩
  | 46 => ⟨S1x2x256x4x128, .f32⟩
  | 47 => ⟨S2x256x4x128, .f32⟩
  | 48 => ⟨S1x2x256x4x128, .f32⟩
  | 49 => ⟨S2x256x4x128, .f32⟩
  | 50 => ⟨S2x4x16384x256, .f32⟩
  | 51 => ⟨S_, .f32⟩
  | 52 => ⟨S_, .f32⟩
  | 53 => ⟨S_, .f32⟩
  | 54 => ⟨S_, .f32⟩
  | 55 => ⟨S2x4x16384x256, .f32⟩
  | 56 => ⟨S2x4x16384x256, .f32⟩
  | 57 => ⟨S_, .f32⟩
  | 58 => ⟨S2x4x16384, .f32⟩
  | 59 => ⟨S2x4x16384x1, .f32⟩
  | 60 => ⟨S2x4x16384x256, .f32⟩
  | 61 => ⟨S2x4x16384x256, .f32⟩
  | 62 => ⟨S2x4x16384x256, .f32⟩
  | 63 => ⟨S_, .f32⟩
  | 64 => ⟨S2x4x16384, .f32⟩
  | 65 => ⟨S2x4x16384x1, .f32⟩
  | 66 => ⟨S2x4x16384x256, .f32⟩
  | 67 => ⟨S2x4x16384x256, .f32⟩
  | 68 => ⟨S2x4x128x16384, .f32⟩
  | 69 => ⟨S2x16384x4x128, .f32⟩
  | 70 => ⟨S2x16384x512, .f32⟩
  | 71 => ⟨S2x16384x512, .f32⟩
  | 72 => ⟨S2x16384x512, .f32⟩
  | 73 => ⟨S_, .f32⟩
  | 74 => ⟨S2x16384x512, .f32⟩
  | 75 => ⟨S2x16384x512, .f32⟩
  | 76 => ⟨S_, .f32⟩
  | 77 => ⟨S2x16384x512, .f32⟩
  | 78 => ⟨S2x16384x512, .f32⟩
  | 79 => ⟨S2x16384x512, .f32⟩
  | 80 => ⟨S2x16384x512, .f32⟩
  | 81 => ⟨S2x16384x1536, .f32⟩
  | 82 => ⟨S1x1536x1024, .f32⟩
  | 83 => ⟨S1536x1024, .f32⟩
  | 84 => ⟨S2x16384x1024, .f32⟩
  | 85 => ⟨S2x16384x1024, .f32⟩
  | 86 => ⟨S2x16384x1024, .f32⟩
  | 87 => ⟨S_, .f32⟩
  | 88 => ⟨S2x16384, .f32⟩
  | 89 => ⟨S2x16384x1, .f32⟩
  | 90 => ⟨S_, .f32⟩
  | 91 => ⟨S2x16384x1, .f32⟩
  | 92 => ⟨S2x16384x1, .f32⟩
  | 93 => ⟨S_, .f32⟩
  | 94 => ⟨S2x16384x1, .f32⟩
  | 95 => ⟨S2x16384x1, .f32⟩
  | 96 => ⟨S2x16384x1, .f32⟩
  | 97 => ⟨S2x16384x1024, .f32⟩
  | 98 => ⟨S2x16384x1024, .f32⟩
  | 99 => ⟨S1x1x1024, .f32⟩
  | 100 => ⟨S2x16384x1024, .f32⟩
  | 101 => ⟨S2x16384x1024, .f32⟩
  | 102 => ⟨S2x128x2x64, .f32⟩
  | 103 => ⟨S1x2x128x128, .f32⟩
  | 104 => ⟨S2x128x2x64, .f32⟩
  | 105 => ⟨S1x2x128x128, .f32⟩
  | 106 => ⟨S1x2x30x1024, .f32⟩
  | _ => ⟨S2x16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_cst_6 : Ref sig .tc := ⟨.hbm, 282, rfl⟩
abbrev main_v263 : Ref sig .tc := ⟨.hbm, 283, rfl⟩
abbrev main_v264 : Ref sig .tc := ⟨.hbm, 284, rfl⟩
abbrev main_cst_7 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_cst_8 : Ref sig .tc := ⟨.hbm, 291, rfl⟩
abbrev main_v270 : Ref sig .tc := ⟨.hbm, 292, rfl⟩
abbrev main_v271 : Ref sig .tc := ⟨.hbm, 293, rfl⟩
abbrev main_cst_9 : Ref sig .tc := ⟨.hbm, 294, rfl⟩
abbrev main_v272 : Ref sig .tc := ⟨.hbm, 295, rfl⟩
abbrev main_v273 : Ref sig .tc := ⟨.hbm, 296, rfl⟩
abbrev main_cst_10 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_call0_v0 : Ref sig .tc := ⟨.hbm, 309, rfl⟩
abbrev main_call0_v1 : Ref sig .tc := ⟨.hbm, 310, rfl⟩
abbrev main_call0_cst : Ref sig .tc := ⟨.hbm, 311, rfl⟩
abbrev main_call0_v2 : Ref sig .tc := ⟨.hbm, 312, rfl⟩
abbrev main_call0_v3 : Ref sig .tc := ⟨.hbm, 313, rfl⟩
abbrev main_call0_cst_0 : Ref sig .tc := ⟨.hbm, 314, rfl⟩
abbrev main_call0_v4 : Ref sig .tc := ⟨.hbm, 315, rfl⟩
abbrev main_call0_v5 : Ref sig .tc := ⟨.hbm, 316, rfl⟩
abbrev main_v285 : Ref sig .tc := ⟨.hbm, 317, rfl⟩
abbrev main_call1_v0 : Ref sig .tc := ⟨.hbm, 318, rfl⟩
abbrev main_call1_v1 : Ref sig .tc := ⟨.hbm, 319, rfl⟩
abbrev main_call1_cst : Ref sig .tc := ⟨.hbm, 320, rfl⟩
abbrev main_call1_v2 : Ref sig .tc := ⟨.hbm, 321, rfl⟩
abbrev main_call1_v3 : Ref sig .tc := ⟨.hbm, 322, rfl⟩
abbrev main_call1_cst_0 : Ref sig .tc := ⟨.hbm, 323, rfl⟩
abbrev main_call1_v4 : Ref sig .tc := ⟨.hbm, 324, rfl⟩
abbrev main_call1_v5 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_cst_11 : Ref sig .tc := ⟨.hbm, 335, rfl⟩
abbrev main_v295 : Ref sig .tc := ⟨.hbm, 336, rfl⟩
abbrev main_cst_12 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_cst_13 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_cst_14 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_call2_v0 : Ref sig .tc := ⟨.hbm, 355, rfl⟩
abbrev main_call2_v1 : Ref sig .tc := ⟨.hbm, 356, rfl⟩
abbrev main_call2_cst : Ref sig .tc := ⟨.hbm, 357, rfl⟩
abbrev main_call2_v2 : Ref sig .tc := ⟨.hbm, 358, rfl⟩
abbrev main_call2_v3 : Ref sig .tc := ⟨.hbm, 359, rfl⟩
abbrev main_call2_cst_0 : Ref sig .tc := ⟨.hbm, 360, rfl⟩
abbrev main_call2_v4 : Ref sig .tc := ⟨.hbm, 361, rfl⟩
abbrev main_call2_v5 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_cst_15 : Ref sig .tc := ⟨.hbm, 373, rfl⟩
abbrev main_v321 : Ref sig .tc := ⟨.hbm, 374, rfl⟩
abbrev main_v322 : Ref sig .tc := ⟨.hbm, 375, rfl⟩
abbrev main_cst_16 : Ref sig .tc := ⟨.hbm, 376, rfl⟩
abbrev main_v323 : Ref sig .tc := ⟨.hbm, 377, rfl⟩
abbrev main_v324 : Ref sig .tc := ⟨.hbm, 378, rfl⟩
abbrev main_cst_17 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_cst_18 : Ref sig .tc := ⟨.hbm, 399, rfl⟩
abbrev main_v344 : Ref sig .tc := ⟨.hbm, 400, rfl⟩
abbrev main_v345 : Ref sig .tc := ⟨.hbm, 401, rfl⟩
abbrev main_cst_19 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_v354 : Ref sig .tc := ⟨.hbm, 411, rfl⟩
abbrev main_v355 : Ref sig .tc := ⟨.hbm, 412, rfl⟩
abbrev main_v356 : Ref sig .tc := ⟨.hbm, 413, rfl⟩
abbrev main_v357 : Ref sig .tc := ⟨.hbm, 414, rfl⟩
abbrev main_v358 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_v369 : Ref sig .tc := ⟨.hbm, 426, rfl⟩
abbrev main_v370 : Ref sig .tc := ⟨.hbm, 427, rfl⟩
abbrev main_v371 : Ref sig .tc := ⟨.hbm, 428, rfl⟩
abbrev main_v372 : Ref sig .tc := ⟨.hbm, 429, rfl⟩
abbrev main_v373 : Ref sig .tc := ⟨.hbm, 430, rfl⟩
abbrev main_v374 : Ref sig .tc := ⟨.hbm, 431, rfl⟩
abbrev main_v375 : Ref sig .tc := ⟨.hbm, 432, rfl⟩
abbrev main_v376 : Ref sig .tc := ⟨.hbm, 433, rfl⟩
abbrev main_v377 : Ref sig .tc := ⟨.hbm, 434, rfl⟩
abbrev main_cst_20 : Ref sig .tc := ⟨.hbm, 435, rfl⟩
abbrev main_v378 : Ref sig .tc := ⟨.hbm, 436, rfl⟩
abbrev main_v379 : Ref sig .tc := ⟨.hbm, 437, rfl⟩
abbrev main_cst_21 : Ref sig .tc := ⟨.hbm, 438, rfl⟩
abbrev main_v380 : Ref sig .tc := ⟨.hbm, 439, rfl⟩
abbrev main_v381 : Ref sig .tc := ⟨.hbm, 440, rfl⟩
abbrev main_v382 : Ref sig .tc := ⟨.hbm, 441, rfl⟩
abbrev main_v383 : Ref sig .tc := ⟨.hbm, 442, rfl⟩
abbrev main_v384 : Ref sig .tc := ⟨.hbm, 443, rfl⟩
abbrev main_v385 : Ref sig .tc := ⟨.hbm, 444, rfl⟩
abbrev main_v386 : Ref sig .tc := ⟨.hbm, 445, rfl⟩
abbrev main_v387 : Ref sig .tc := ⟨.hbm, 446, rfl⟩
abbrev main_v388 : Ref sig .tc := ⟨.hbm, 447, rfl⟩
abbrev main_v389 : Ref sig .tc := ⟨.hbm, 448, rfl⟩
abbrev main_v390 : Ref sig .tc := ⟨.hbm, 449, rfl⟩
abbrev main_v391 : Ref sig .tc := ⟨.hbm, 450, rfl⟩
abbrev main_v392 : Ref sig .tc := ⟨.hbm, 451, rfl⟩
abbrev main_v393 : Ref sig .tc := ⟨.hbm, 452, rfl⟩
abbrev main_v394 : Ref sig .tc := ⟨.hbm, 453, rfl⟩
abbrev main_v395 : Ref sig .tc := ⟨.hbm, 454, rfl⟩
abbrev main_v396 : Ref sig .tc := ⟨.hbm, 455, rfl⟩
abbrev main_v397 : Ref sig .tc := ⟨.hbm, 456, rfl⟩
abbrev main_v398 : Ref sig .tc := ⟨.hbm, 457, rfl⟩
abbrev main_v399 : Ref sig .tc := ⟨.hbm, 458, rfl⟩
abbrev main_v400 : Ref sig .tc := ⟨.hbm, 459, rfl⟩
abbrev main_v401 : Ref sig .tc := ⟨.hbm, 460, rfl⟩
abbrev main_v402 : Ref sig .tc := ⟨.hbm, 461, rfl⟩
abbrev main_v403 : Ref sig .tc := ⟨.hbm, 462, rfl⟩
abbrev main_v404 : Ref sig .tc := ⟨.hbm, 463, rfl⟩
abbrev main_v405 : Ref sig .tc := ⟨.hbm, 464, rfl⟩
abbrev main_v406 : Ref sig .tc := ⟨.hbm, 465, rfl⟩
abbrev main_v407 : Ref sig .tc := ⟨.hbm, 466, rfl⟩
abbrev main_v408 : Ref sig .tc := ⟨.hbm, 467, rfl⟩
abbrev main_v409 : Ref sig .tc := ⟨.hbm, 468, rfl⟩
abbrev main_v410 : Ref sig .tc := ⟨.hbm, 469, rfl⟩
abbrev main_c : Ref sig .tc := ⟨.hbm, 470, rfl⟩
abbrev main_call3_v0 : Ref sig .tc := ⟨.hbm, 471, rfl⟩
abbrev main_v411 : Ref sig .tc := ⟨.hbm, 472, rfl⟩
abbrev main_v412 : Ref sig .tc := ⟨.hbm, 473, rfl⟩
abbrev main_c_22 : Ref sig .tc := ⟨.hbm, 474, rfl⟩
abbrev main_call4_v0 : Ref sig .tc := ⟨.hbm, 475, rfl⟩
abbrev main_v413 : Ref sig .tc := ⟨.hbm, 476, rfl⟩
abbrev main_v414 : Ref sig .tc := ⟨.hbm, 477, rfl⟩
abbrev main_v415 : Ref sig .tc := ⟨.hbm, 478, rfl⟩
abbrev main_v416 : Ref sig .tc := ⟨.hbm, 479, rfl⟩
abbrev main_v417 : Ref sig .tc := ⟨.hbm, 480, rfl⟩
abbrev main_v418 : Ref sig .tc := ⟨.hbm, 481, rfl⟩
abbrev main_v419 : Ref sig .tc := ⟨.hbm, 482, rfl⟩
abbrev main_v420 : Ref sig .tc := ⟨.hbm, 483, rfl⟩
abbrev main_v421 : Ref sig .tc := ⟨.hbm, 484, rfl⟩
abbrev main_v422 : Ref sig .tc := ⟨.hbm, 485, rfl⟩
abbrev main_v423 : Ref sig .tc := ⟨.hbm, 486, rfl⟩
abbrev main_v424 : Ref sig .tc := ⟨.hbm, 487, rfl⟩
abbrev main_v425 : Ref sig .tc := ⟨.hbm, 488, rfl⟩
abbrev main_cst_23 : Ref sig .tc := ⟨.hbm, 489, rfl⟩
abbrev main_v426 : Ref sig .tc := ⟨.hbm, 490, rfl⟩
abbrev main_v427 : Ref sig .tc := ⟨.hbm, 491, rfl⟩
abbrev main_v428 : Ref sig .tc := ⟨.hbm, 492, rfl⟩
abbrev main_v429 : Ref sig .tc := ⟨.hbm, 493, rfl⟩
abbrev main_c_24 : Ref sig .tc := ⟨.hbm, 494, rfl⟩
abbrev main_v430 : Ref sig .tc := ⟨.hbm, 495, rfl⟩
abbrev main_v431 : Ref sig .tc := ⟨.hbm, 496, rfl⟩
abbrev main_v432 : Ref sig .tc := ⟨.hbm, 497, rfl⟩
abbrev main_v433 : Ref sig .tc := ⟨.hbm, 498, rfl⟩
abbrev main_c_25 : Ref sig .tc := ⟨.hbm, 499, rfl⟩
abbrev main_call5_v0 : Ref sig .tc := ⟨.hbm, 500, rfl⟩
abbrev main_call5_v1 : Ref sig .tc := ⟨.hbm, 501, rfl⟩
abbrev main_call5_v2 : Ref sig .tc := ⟨.hbm, 502, rfl⟩
abbrev main_call5_v3 : Ref sig .tc := ⟨.hbm, 503, rfl⟩
abbrev main_call5_v4 : Ref sig .tc := ⟨.hbm, 504, rfl⟩
abbrev main_call5_v5 : Ref sig .tc := ⟨.hbm, 505, rfl⟩
abbrev main_call5_v6 : Ref sig .tc := ⟨.hbm, 506, rfl⟩
abbrev main_call5_v7 : Ref sig .tc := ⟨.hbm, 507, rfl⟩
abbrev main_call5_v8 : Ref sig .tc := ⟨.hbm, 508, rfl⟩
abbrev main_call5_c : Ref sig .tc := ⟨.hbm, 509, rfl⟩
abbrev main_call5_v9 : Ref sig .tc := ⟨.hbm, 510, rfl⟩
abbrev main_call5_v10 : Ref sig .tc := ⟨.hbm, 511, rfl⟩
abbrev main_call5_v11 : Ref sig .tc := ⟨.hbm, 512, rfl⟩
abbrev main_call5_c_0 : Ref sig .tc := ⟨.hbm, 513, rfl⟩
abbrev main_call5_v12 : Ref sig .tc := ⟨.hbm, 514, rfl⟩
abbrev main_call5_v13 : Ref sig .tc := ⟨.hbm, 515, rfl⟩
abbrev main_v434 : Ref sig .tc := ⟨.hbm, 516, rfl⟩
abbrev main_v435 : Ref sig .tc := ⟨.hbm, 517, rfl⟩
abbrev main_v436 : Ref sig .tc := ⟨.hbm, 518, rfl⟩
abbrev main_v437 : Ref sig .tc := ⟨.hbm, 519, rfl⟩
abbrev main_c_26 : Ref sig .tc := ⟨.hbm, 520, rfl⟩
abbrev main_v438 : Ref sig .tc := ⟨.hbm, 521, rfl⟩
abbrev main_v439 : Ref sig .tc := ⟨.hbm, 522, rfl⟩
abbrev main_v440 : Ref sig .tc := ⟨.hbm, 523, rfl⟩
abbrev main_cst_27 : Ref sig .tc := ⟨.hbm, 524, rfl⟩
abbrev main_call6_v0 : Ref sig .tc := ⟨.hbm, 525, rfl⟩
abbrev main_call6_v1 : Ref sig .tc := ⟨.hbm, 526, rfl⟩
abbrev main_call6_v2 : Ref sig .tc := ⟨.hbm, 527, rfl⟩
abbrev main_v441 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_cst_28 : Ref sig .tc := ⟨.hbm, 532, rfl⟩
abbrev main_v445 : Ref sig .tc := ⟨.hbm, 533, rfl⟩
abbrev main_v446 : Ref sig .tc := ⟨.hbm, 534, rfl⟩
abbrev main_v447 : Ref sig .tc := ⟨.hbm, 535, rfl⟩
abbrev main_v448 : Ref sig .tc := ⟨.hbm, 536, rfl⟩
abbrev main_v449 : Ref sig .tc := ⟨.hbm, 537, rfl⟩
abbrev main_cst_29 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_v456 : Ref sig .tc := ⟨.hbm, 545, rfl⟩
abbrev main_v457 : Ref sig .tc := ⟨.hbm, 546, rfl⟩
abbrev main_call7_v0 : Ref sig .tc := ⟨.hbm, 547, rfl⟩
abbrev main_call7_v1 : Ref sig .tc := ⟨.hbm, 548, rfl⟩
abbrev main_call7_cst : Ref sig .tc := ⟨.hbm, 549, rfl⟩
abbrev main_call7_v2 : Ref sig .tc := ⟨.hbm, 550, rfl⟩
abbrev main_call7_v3 : Ref sig .tc := ⟨.hbm, 551, rfl⟩
abbrev main_call7_cst_0 : Ref sig .tc := ⟨.hbm, 552, rfl⟩
abbrev main_call7_v4 : Ref sig .tc := ⟨.hbm, 553, rfl⟩
abbrev main_call7_v5 : Ref sig .tc := ⟨.hbm, 554, rfl⟩
abbrev main_v458 : Ref sig .tc := ⟨.hbm, 555, rfl⟩
abbrev main_v459 : Ref sig .tc := ⟨.hbm, 556, rfl⟩
abbrev main_v460 : Ref sig .tc := ⟨.hbm, 557, rfl⟩
abbrev main_v461 : Ref sig .tc := ⟨.hbm, 558, rfl⟩
abbrev main_v462 : Ref sig .tc := ⟨.hbm, 559, rfl⟩
abbrev main_v463 : Ref sig .tc := ⟨.hbm, 560, rfl⟩
abbrev main_v464 : Ref sig .tc := ⟨.hbm, 561, rfl⟩
abbrev main_v465 : Ref sig .tc := ⟨.hbm, 562, rfl⟩
abbrev main_cst_30 : Ref sig .tc := ⟨.hbm, 563, rfl⟩
abbrev main_v466 : Ref sig .tc := ⟨.hbm, 564, rfl⟩
abbrev main_cst_31 : Ref sig .tc := ⟨.hbm, 565, rfl⟩
abbrev main_v467 : Ref sig .tc := ⟨.hbm, 566, rfl⟩
abbrev main_v468 : Ref sig .tc := ⟨.hbm, 567, rfl⟩
abbrev main_v469 : Ref sig .tc := ⟨.hbm, 568, rfl⟩
abbrev main_cst_32 : Ref sig .tc := ⟨.hbm, 569, rfl⟩
abbrev main_v470 : Ref sig .tc := ⟨.hbm, 570, rfl⟩
abbrev main_v471 : Ref sig .tc := ⟨.hbm, 571, rfl⟩
abbrev main_v472 : Ref sig .tc := ⟨.hbm, 572, rfl⟩
abbrev main_v473 : Ref sig .tc := ⟨.hbm, 573, rfl⟩
abbrev main_v474 : Ref sig .tc := ⟨.hbm, 574, rfl⟩
abbrev main_cst_33 : Ref sig .tc := ⟨.hbm, 575, rfl⟩
abbrev main_v475 : Ref sig .tc := ⟨.hbm, 576, rfl⟩
abbrev main_v476 : Ref sig .tc := ⟨.hbm, 577, rfl⟩
abbrev main_v477 : Ref sig .tc := ⟨.hbm, 578, rfl⟩
abbrev main_v478 : Ref sig .tc := ⟨.hbm, 579, rfl⟩
abbrev main_v479 : Ref sig .tc := ⟨.hbm, 580, rfl⟩
abbrev main_v480 : Ref sig .tc := ⟨.hbm, 581, rfl⟩
abbrev main_v481 : Ref sig .tc := ⟨.hbm, 582, rfl⟩
abbrev main_call8_v0 : Ref sig .tc := ⟨.hbm, 583, rfl⟩
abbrev main_call8_v1 : Ref sig .tc := ⟨.hbm, 584, rfl⟩
abbrev main_call8_cst : Ref sig .tc := ⟨.hbm, 585, rfl⟩
abbrev main_call8_v2 : Ref sig .tc := ⟨.hbm, 586, rfl⟩
abbrev main_call8_v3 : Ref sig .tc := ⟨.hbm, 587, rfl⟩
abbrev main_call8_cst_0 : Ref sig .tc := ⟨.hbm, 588, rfl⟩
abbrev main_call8_v4 : Ref sig .tc := ⟨.hbm, 589, rfl⟩
abbrev main_call8_v5 : Ref sig .tc := ⟨.hbm, 590, rfl⟩
abbrev main_v482 : Ref sig .tc := ⟨.hbm, 591, rfl⟩
abbrev main_v483 : Ref sig .tc := ⟨.hbm, 592, rfl⟩
abbrev main_v484 : Ref sig .tc := ⟨.hbm, 593, rfl⟩
abbrev main_v485 : Ref sig .tc := ⟨.hbm, 594, rfl⟩
abbrev main_v486 : Ref sig .tc := ⟨.hbm, 595, rfl⟩
abbrev main_v487 : Ref sig .tc := ⟨.hbm, 596, rfl⟩
abbrev main_v488 : Ref sig .tc := ⟨.hbm, 597, rfl⟩
abbrev main_v489 : Ref sig .tc := ⟨.hbm, 598, rfl⟩
abbrev main_cst_34 : Ref sig .tc := ⟨.hbm, 599, rfl⟩
abbrev main_v490 : Ref sig .tc := ⟨.hbm, 600, rfl⟩
abbrev main_v491 : Ref sig .tc := ⟨.hbm, 601, rfl⟩
abbrev main_cst_35 : Ref sig .tc := ⟨.hbm, 602, rfl⟩
abbrev main_v492 : Ref sig .tc := ⟨.hbm, 603, rfl⟩
abbrev main_v493 : Ref sig .tc := ⟨.hbm, 604, rfl⟩
abbrev main_cst_36 : Ref sig .tc := ⟨.hbm, 605, rfl⟩
abbrev main_v494 : Ref sig .tc := ⟨.hbm, 606, rfl⟩
abbrev main_v495 : Ref sig .tc := ⟨.hbm, 607, rfl⟩
abbrev main_v496 : Ref sig .tc := ⟨.hbm, 608, rfl⟩
abbrev main_v497 : Ref sig .tc := ⟨.hbm, 609, rfl⟩
abbrev main_v498 : Ref sig .tc := ⟨.hbm, 610, rfl⟩
abbrev main_v499 : Ref sig .tc := ⟨.hbm, 611, rfl⟩
abbrev main_v500 : Ref sig .tc := ⟨.hbm, 612, rfl⟩
abbrev main_v501 : Ref sig .tc := ⟨.hbm, 613, rfl⟩
abbrev main_v502 : Ref sig .tc := ⟨.hbm, 614, rfl⟩
abbrev main_v503 : Ref sig .tc := ⟨.hbm, 615, rfl⟩
abbrev main_v504 : Ref sig .tc := ⟨.hbm, 616, rfl⟩
abbrev main_v505 : Ref sig .tc := ⟨.hbm, 617, rfl⟩
abbrev main_v506 : Ref sig .tc := ⟨.hbm, 618, rfl⟩

abbrev nD : Nat := 1
abbrev τ : Topo := Topo.v7x

variable {F : FTy → Type} [FloatOps F]
-- ==== MemKv.lean ====
abbrev S2x256x1024 : Shape := ⟨3, ![2, 256, 1024]⟩
abbrev S2x1024x1024 : Shape := ⟨3, ![2, 1024, 1024]⟩
abbrev S512x1024 : Shape := ⟨2, ![512, 1024]⟩
abbrev S2x512x4x128 : Shape := ⟨4, ![2, 512, 4, 128]⟩
abbrev S2x512x1024 : Shape := ⟨3, ![2, 512, 1024]⟩
abbrev S1x1024x1024 : Shape := ⟨3, ![1, 1024, 1024]⟩
abbrev S1x512x4x128 : Shape := ⟨4, ![1, 512, 4, 128]⟩
abbrev S1x512x1024 : Shape := ⟨3, ![1, 512, 1024]⟩
abbrev S1024x1024 : Shape := ⟨2, ![1024, 1024]⟩
abbrev S512x128 : Shape := ⟨2, ![512, 128]⟩
abbrev S1x512x1x128 : Shape := ⟨4, ![1, 512, 1, 128]⟩

abbrev nBuf : Space → Nat
  | .hbm => 8
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S2x1024x1024, .f32⟩
  | .hbm, ⟨2, _⟩ => ⟨S512x1024, .f32⟩
  | .hbm, ⟨3, _⟩ => ⟨S512x1024, .bf16⟩
  | .hbm, ⟨4, _⟩ => ⟨S2x1024x1024, .bf16⟩
  | .hbm, ⟨5, _⟩ => ⟨S2x512x4x128, .f32⟩
  | .hbm, ⟨6, _⟩ => ⟨S2x512x4x128, .f32⟩
  | .hbm, ⟨7, _⟩ => ⟨S2x512x1024, .bf16⟩
  | .local _ .vmem, ⟨0, _⟩ => ⟨S512x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x512x4x128, .f32⟩
  | .local _ .vmem, ⟨4, _⟩ => ⟨S1x512x4x128, .f32⟩
  | .local _ .vmem, ⟨5, _⟩ => ⟨S1x512x4x128, .f32⟩
  | .local _ .vmem, ⟨6, _⟩ => ⟨S1x512x4x128, .f32⟩
  | .local _ .vmem, ⟨7, _⟩ => ⟨S1x512x1024, .bf16⟩
  | .local _ .vmem, ⟨8, _⟩ => ⟨S1x512x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvReferenceIdeal.lean ====
abbrev S2x256x1024 : Shape := ⟨3, ![2, 256, 1024]⟩
abbrev S2x1024x1024 : Shape := ⟨3, ![2, 1024, 1024]⟩
abbrev S2x1024x2x256 : Shape := ⟨4, ![2, 1024, 2, 256]⟩
abbrev S2x2x256x1024 : Shape := ⟨4, ![2, 2, 256, 1024]⟩
abbrev S2x2x256x512 : Shape := ⟨4, ![2, 2, 256, 512]⟩
abbrev S2x512x4x128 : Shape := ⟨4, ![2, 512, 4, 128]⟩
abbrev S2x512x1024 : Shape := ⟨3, ![2, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x1024x1024, .f32⟩
  | .hbm, ⟨2, _⟩ => ⟨S2x1024x2x256, .f32⟩
  | .hbm, ⟨3, _⟩ => ⟨S2x2x256x1024, .f32⟩
  | .hbm, ⟨4, _⟩ => ⟨S2x2x256x512, .f32⟩
  | .hbm, ⟨5, _⟩ => ⟨S2x512x4x128, .f32⟩
  | .hbm, ⟨6, _⟩ => ⟨S2x2x256x512, .f32⟩
  | .hbm, ⟨7, _⟩ => ⟨S2x512x4x128, .f32⟩
  | .hbm, ⟨8, _⟩ => ⟨S2x512x1024, .f32⟩
  | .hbm, ⟨9, _⟩ => ⟨S2x512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Sample.lean ====
abbrev S16x64x1024 : Shape := ⟨3, ![16, 64, 1024]⟩
abbrev S1x16x30x1024 : Shape := ⟨4, ![1, 16, 30, 1024]⟩
abbrev S1x16x128x2x64 : Shape := ⟨5, ![1, 16, 128, 2, 64]⟩
abbrev S2x16x256x4x128 : Shape := ⟨5, ![2, 16, 256, 4, 128]⟩
abbrev S2x1024 : Shape := ⟨2, ![2, 1024]⟩
abbrev S1x1024x4096 : Shape := ⟨3, ![1, 1024, 4096]⟩
abbrev S1x31x1024 : Shape := ⟨3, ![1, 31, 1024]⟩
abbrev S1x1024 : Shape := ⟨2, ![1, 1024]⟩
abbrev S1x1024x3328 : Shape := ⟨3, ![1, 1024, 3328]⟩
abbrev S1x16 : Shape := ⟨2, ![1, 16]⟩
abbrev S2x1536x1024 : Shape := ⟨3, ![2, 1536, 1024]⟩
abbrev S1024 : Shape := ⟨1, ![1024]⟩
abbrev S_ : Shape := ⟨0, ![]⟩
abbrev S1x1024x4224 : Shape := ⟨3, ![1, 1024, 4224]⟩
abbrev S2x1536x1152 : Shape := ⟨3, ![2, 1536, 1152]⟩
abbrev S16 : Shape := ⟨1, ![16]⟩
abbrev S128 : Shape := ⟨1, ![128]⟩
abbrev S32 : Shape := ⟨1, ![32]⟩
abbrev S32x1 : Shape := ⟨2, ![32, 1]⟩
abbrev S1x128 : Shape := ⟨2, ![1, 128]⟩
abbrev S32x128 : Shape := ⟨2, ![32, 128]⟩
abbrev S1x16x128x128 : Shape := ⟨4, ![1, 16, 128, 128]⟩
abbrev S2x16x1024x128 : Shape := ⟨4, ![2, 16, 1024, 128]⟩
abbrev S2x64x1024 : Shape := ⟨3, ![2, 64, 1024]⟩
abbrev S1x2x30x1024 : Shape := ⟨4, ![1, 2, 30, 1024]⟩
abbrev S1x2x128x128 : Shape := ⟨4, ![1, 2, 128, 128]⟩
abbrev S2x2x1024x128 : Shape := ⟨4, ![2, 2, 1024, 128]⟩
abbrev S2x96x1024 : Shape := ⟨3, ![2, 96, 1024]⟩
abbrev S2x2x192x128 : Shape := ⟨4, ![2, 2, 192, 128]⟩
abbrev S2x30x1024 : Shape := ⟨3, ![2, 30, 1024]⟩
abbrev S1x1x128x128 : Shape := ⟨4, ![1, 1, 128, 128]⟩
abbrev S128x128 : Shape := ⟨2, ![128, 128]⟩
abbrev S128x1024 : Shape := ⟨2, ![128, 1024]⟩
abbrev S128x1 : Shape := ⟨2, ![128, 1]⟩
abbrev S1x1024x256 : Shape := ⟨3, ![1, 1024, 256]⟩
abbrev S1024x256 : Shape := ⟨2, ![1024, 256]⟩
abbrev S128x256 : Shape := ⟨2, ![128, 256]⟩
abbrev S2x64x256 : Shape := ⟨3, ![2, 64, 256]⟩
abbrev S1x256 : Shape := ⟨2, ![1, 256]⟩
abbrev S1x1x256 : Shape := ⟨3, ![1, 1, 256]⟩
abbrev S2x88x256 : Shape := ⟨3, ![2, 88, 256]⟩
abbrev S2x80x256 : Shape := ⟨3, ![2, 80, 256]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩
abbrev S128x512 : Shape := ⟨2, ![128, 512]⟩
abbrev S64x512 : Shape := ⟨2, ![64, 512]⟩
abbrev S1x1x256x128 : Shape := ⟨4, ![1, 1, 256, 128]⟩
abbrev S256x128 : Shape := ⟨2, ![256, 128]⟩
abbrev S256x512 : Shape := ⟨2, ![256, 512]⟩
abbrev S64x128 : Shape := ⟨2, ![64, 128]⟩
abbrev S64x256 : Shape := ⟨2, ![64, 256]⟩
abbrev S64 : Shape := ⟨1, ![64]⟩
abbrev S64x1 : Shape := ⟨2, ![64, 1]⟩
abbrev S128x1536 : Shape := ⟨2, ![128, 1536]⟩
abbrev S1x1536x1024 : Shape := ⟨3, ![1, 1536, 1024]⟩
abbrev S1536x1024 : Shape := ⟨2, ![1536, 1024]⟩
abbrev S1x1024x128 : Shape := ⟨3, ![1, 1024, 128]⟩
abbrev S1024x128 : Shape := ⟨2, ![1024, 128]⟩
abbrev S1x1x64x128 : Shape := ⟨4, ![1, 1, 64, 128]⟩
abbrev S64x1024 : Shape := ⟨2, ![64, 1024]⟩
abbrev S1x1x192x128 : Shape := ⟨4, ![1, 1, 192, 128]⟩
abbrev S192x128 : Shape := ⟨2, ![192, 128]⟩
abbrev S256x192 : Shape := ⟨2, ![256, 192]⟩
abbrev S64x192 : Shape := ⟨2, ![64, 192]⟩
abbrev S1 : Shape := ⟨1, ![1]⟩

abbrev nBuf : Space → Nat
  | .hbm => 55
  | .vmem => 36
  | .smem => 1
  | _ => 0

abbrev bufTy : (tb : Table) → Fin (tcTables nBuf tb) → BufTy
  | .hbm, ⟨0, _⟩ => ⟨S16x64x1024, .f32⟩
  | .hbm, ⟨1, _⟩ => ⟨S1x16x30x1024, .f32⟩
  | .hbm, ⟨2, _⟩ => ⟨S1x16x128x2x64, .f32⟩
  | .hbm, ⟨3, _⟩ => ⟨S1x16x128x2x64, .f32⟩
  | .hbm, ⟨4, _⟩ => ⟨S2x16x256x4x128, .f32⟩
  | .hbm, ⟨5, _⟩ => ⟨S2x16x256x4x128, .f32⟩
  | .hbm, ⟨6, _⟩ => ⟨S2x1024, .f32⟩
  | .hbm, ⟨7, _⟩ => ⟨S1x1024x4096, .f32⟩
  | .hbm, ⟨8, _⟩ => ⟨S1x31x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024x3328, .f32⟩
  | .hbm, ⟨13, _⟩ => ⟨S1x16, .f32⟩
  | .hbm, ⟨14, _⟩ => ⟨S2x1536x1024, .f32⟩
  | .hbm, ⟨15, _⟩ => ⟨S1024, .f32⟩
  | .hbm, ⟨16, _⟩ => ⟨S_, .i32⟩
  | .hbm, ⟨17, _⟩ => ⟨S_, .f32⟩
  | .hbm, ⟨18, _⟩ => ⟨S1x1024x4224, .f32⟩
  | .hbm, ⟨19, _⟩ => ⟨S1x1024x4224, .bf16⟩
  | .hbm, ⟨20, _⟩ => ⟨S1x1024x3328, .bf16⟩
  | .hbm, ⟨21, _⟩ => ⟨S_, .i32⟩
  | .hbm, ⟨22, _⟩ => ⟨S_, .f32⟩
  | .hbm, ⟨23, _⟩ => ⟨S2x1536x1152, .f32⟩
  | .hbm, ⟨24, _⟩ => ⟨S2x1536x1152, .bf16⟩
  | .hbm, ⟨25, _⟩ => ⟨S1x1024, .f32⟩
  | .hbm, ⟨26, _⟩ => ⟨S16, .f32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32x1, .f32⟩
  | .hbm, ⟨40, _⟩ => ⟨S128, .f32⟩
  | .hbm, ⟨41, _⟩ => ⟨S1x128, .f32⟩
  | .hbm, ⟨42, _⟩ => ⟨S32x128, .f32⟩
  | .hbm, ⟨43, _⟩ => ⟨S32x128, .f32⟩
  | .hbm, ⟨44, _⟩ => ⟨S32x128, .f32⟩
  | .hbm, ⟨45, _⟩ => ⟨S32x128, .f32⟩
  | .hbm, ⟨46, _⟩ => ⟨S32x128, .f32⟩
  | .hbm, ⟨47, _⟩ => ⟨S1x16x128x128, .f32⟩
  | .hbm, ⟨48, _⟩ => ⟨S1x16x128x128, .f32⟩
  | .hbm, ⟨49, _⟩ => ⟨S2x16x1024x128, .f32⟩
  | .hbm, ⟨50, _⟩ => ⟨S2x16x1024x128, .f32⟩
  | .hbm, ⟨51, _⟩ => ⟨S16x64x1024, .f32⟩
  | .hbm, ⟨52, _⟩ => ⟨S1x16x30x1024, .f32⟩
  | .hbm, ⟨53, _⟩ => ⟨S1x16x128x128, .f32⟩
  | .hbm, ⟨54, _⟩ => ⟨S1x16x128x128, .f32⟩
  | .local _ .vmem, ⟨0, _⟩ => ⟨S2x64x1024, .f32⟩
  | .local _ .vmem, ⟨1, _⟩ => ⟨S2x64x1024, .f32⟩
  | .local _ .vmem, ⟨2, _⟩ => ⟨S32x128, .f32⟩
  | .local _ .vmem, ⟨3, _⟩ => ⟨S32x128, .f32⟩
  | .local _ .vmem, ⟨4, _⟩ => ⟨S1x2x30x1024, .f32⟩
  | .local _ .vmem, ⟨5, _⟩ => ⟨S1x2x30x1024, .f32⟩
  | .local _ .vmem, ⟨6, _⟩ => ⟨S1x2x128x128, .f32⟩
  | .local _ .vmem, ⟨7, _⟩ => ⟨S1x2x128x128, .f32⟩
  | .local _ .vmem, ⟨8, _⟩ => ⟨S1x2x128x128, .f32⟩
  | .local _ .vmem, ⟨9, _⟩ => ⟨S1x2x128x128, .f32⟩
  | .local _ .vmem, ⟨10, _⟩ => ⟨S2x2x1024x128, .f32⟩
  | .local _ .vmem, ⟨11, _⟩ => ⟨S2x2x1024x128, .f32⟩
  | .local _ .vmem, ⟨12, _⟩ => ⟨S2x2x1024x128, .f32⟩
  | .local _ .vmem, ⟨13, _⟩ => ⟨S2x2x1024x128, .f32⟩
  | .local _ .vmem, ⟨14, _⟩ => ⟨S2x1024, .f32⟩
  | .local _ .vmem, ⟨15, _⟩ => ⟨S1x1024x4224, .bf16⟩
  | .local _ .vmem, ⟨16, _⟩ => ⟨S1x31x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024x3328, .bf16⟩
  | .local _ .vmem, ⟨21, _⟩ => ⟨S2x1536x1152, .bf16⟩
  | .local _ .vmem, ⟨22, _⟩ => ⟨S1x1024, .f32⟩
  | .local _ .vmem, ⟨23, _⟩ => ⟨S2x64x1024, .f32⟩
  | .local _ .vmem, ⟨24, _⟩ => ⟨S2x64x1024, .f32⟩
  | .local _ .vmem, ⟨25, _⟩ => ⟨S1x2x30x1024, .f32⟩
  | .local _ .vmem, ⟨26, _⟩ => ⟨S1x2x30x1024, .f32⟩
  | .local _ .vmem, ⟨27, _⟩ => ⟨S1x2x128x128, .f32⟩
  | .local _ .vmem, ⟨28, _⟩ => ⟨S1x2x128x128, .f32⟩
  | .local _ .vmem, ⟨29, _⟩ => ⟨S1x2x128x128, .f32⟩
  | .local _ .vmem, ⟨30, _⟩ => ⟨S1x2x128x128, .f32⟩
  | .local _ .vmem, ⟨31, _⟩ => ⟨S2x96x1024, .f32⟩
  | .local _ .vmem, ⟨32, _⟩ => ⟨S2x2x192x128, .bf16⟩
  | .local _ .vmem, ⟨33, _⟩ => ⟨S2x2x192x128, .bf16⟩
  | .local _ .vmem, ⟨34, _⟩ => ⟨S2x2x192x128, .bf16⟩
  | .local _ .vmem, ⟨35, _⟩ => ⟨S2x2x192x128, .bf16⟩
  | .local _ .smem, ⟨0, _⟩ => ⟨S16, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28_0 : Ref sig .tc := ⟨.hbm, 51, rfl⟩
abbrev main_v28_1 : Ref sig .tc := ⟨.hbm, 52, rfl⟩
abbrev main_v28_2 : Ref sig .tc := ⟨.hbm, 53, rfl⟩
abbrev main_v28_3 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x30x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x4224 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x31x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x3328 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x1536x1152 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2x64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x30x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x2x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x2x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== SampleIdeal.lean ====
variable {F : FTy → Type} [FloatOps F] [Named F]
def κ : String → Option EReal := fun
  | "log2e" => some (((Real.log 2)⁻¹ : ℝ) : EReal)
  | "mem_scale" => some (((Real.log 2)⁻¹ * (Real.sqrt 128)⁻¹ : ℝ) : EReal)
  | "swa_scale" => some (((Real.log 2)⁻¹ * 8⁻¹ : ℝ) : EReal)
  | _ => none
-- ==== SampleReferenceIdeal.lean ====
abbrev S16x64x1024 : Shape := ⟨3, ![16, 64, 1024]⟩
abbrev S1x16x30x1024 : Shape := ⟨4, ![1, 16, 30, 1024]⟩
abbrev S1x16x128x2x64 : Shape := ⟨5, ![1, 16, 128, 2, 64]⟩
abbrev S2x16x256x4x128 : Shape := ⟨5, ![2, 16, 256, 4, 128]⟩
abbrev S2x1024 : Shape := ⟨2, ![2, 1024]⟩
abbrev S1x1024x4096 : Shape := ⟨3, ![1, 1024, 4096]⟩
abbrev S1x31x1024 : Shape := ⟨3, ![1, 31, 1024]⟩
abbrev S1x1024 : Shape := ⟨2, ![1, 1024]⟩
abbrev S1x1024x3328 : Shape := ⟨3, ![1, 1024, 3328]⟩
abbrev S1x16 : Shape := ⟨2, ![1, 16]⟩
abbrev S2x1536x1024 : Shape := ⟨3, ![2, 1536, 1024]⟩
abbrev S1024 : Shape := ⟨1, ![1024]⟩
abbrev S64 : Shape := ⟨1, ![64]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S1024x4096 : Shape := ⟨2, ![1024, 4096]⟩
abbrev S16x64x4096 : Shape := ⟨3, ![16, 64, 4096]⟩
abbrev S16x64x512 : Shape := ⟨3, ![16, 64, 512]⟩
abbrev S16x30x1024 : Shape := ⟨3, ![16, 30, 1024]⟩
abbrev S16x94x1024 : Shape := ⟨3, ![16, 94, 1024]⟩
abbrev S31x1024 : Shape := ⟨2, ![31, 1024]⟩
abbrev S16x64x4x128 : Shape := ⟨4, ![16, 64, 4, 128]⟩
abbrev S1x16x256x4x128 : Shape := ⟨5, ![1, 16, 256, 4, 128]⟩
abbrev S16x256x4x128 : Shape := ⟨4, ![16, 256, 4, 128]⟩
abbrev S16x4x64x256 : Shape := ⟨4, ![16, 4, 64, 256]⟩
abbrev S16x4x64 : Shape := ⟨3, ![16, 4, 64]⟩
abbrev S16x4x64x1 : Shape := ⟨4, ![16, 4, 64, 1]⟩
abbrev S16x4x128x64 : Shape := ⟨4, ![16, 4, 128, 64]⟩
abbrev S16x64x1536 : Shape := ⟨3, ![16, 64, 1536]⟩
abbrev S1x1536x1024 : Shape := ⟨3, ![1, 1536, 1024]⟩
abbrev S1536x1024 : Shape := ⟨2, ![1536, 1024]⟩
abbrev S1024x3328 : Shape := ⟨2, ![1024, 3328]⟩
abbrev S16x64x3328 : Shape := ⟨3, ![16, 64, 3328]⟩
abbrev S16x64x128 : Shape := ⟨3, ![16, 64, 128]⟩
abbrev S16x64x16x64 : Shape := ⟨4, ![16, 64, 16, 64]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S64x1x32 : Shape := ⟨3, ![64, 1, 32]⟩
abbrev S16x64x16x32 : Shape := ⟨4, ![16, 64, 16, 32]⟩
abbrev S1x64x1x32 : Shape := ⟨4, ![1, 64, 1, 32]⟩
abbrev S16x64x2x64 : Shape := ⟨4, ![16, 64, 2, 64]⟩
abbrev S16x64x2x32 : Shape := ⟨4, ![16, 64, 2, 32]⟩
abbrev S16x128x2x64 : Shape := ⟨4, ![16, 128, 2, 64]⟩
abbrev S16x192x2x64 : Shape := ⟨4, ![16, 192, 2, 64]⟩
abbrev S16 : Shape := ⟨1, ![16]⟩
abbrev S16x64x2x8x64 : Shape := ⟨5, ![16, 64, 2, 8, 64]⟩
abbrev S16x2x192x64x8 : Shape := ⟨5, ![16, 2, 192, 64, 8]⟩
abbrev S16x2x8x64x192 : Shape := ⟨5, ![16, 2, 8, 64, 192]⟩
abbrev S1x2x8x1x1 : Shape := ⟨5, ![1, 2, 8, 1, 1]⟩
abbrev S16x2x8x64x1 : Shape := ⟨5, ![16, 2, 8, 64, 1]⟩
abbrev S16x2x8x64x193 : Shape := ⟨5, ![16, 2, 8, 64, 193]⟩
abbrev S16x2x8x64 : Shape := ⟨4, ![16, 2, 8, 64]⟩
abbrev S16x2x64x8x64 : Shape := ⟨5, ![16, 2, 64, 8, 64]⟩
abbrev S1x16x128x128 : Shape := ⟨4, ![1, 16, 128, 128]⟩

abbrev nBuf : Space → Nat
  | .hbm => 570
  | .vmem => 0
  | .smem => 0
  | _ => 0

abbrev hbmTy0_0 (i : Nat) : BufTy := match i % 128 with
  | 0 => ⟨S16x64x1024, .f32⟩
  | 1 => ⟨S1x16x30x1024, .f32⟩
  | 2 => ⟨S1x16x128x2x64, .f32⟩
  | 3 => ⟨S1x16x128x2x64, .f32⟩
  | 4 => ⟨S2x16x256x4x128, .f32⟩
  | 5 => ⟨S2x16x256x4x128, .f32⟩
  | 6 => ⟨S2x1024, .f32⟩
  | 7 => ⟨S1x1024x4096, .f32⟩
  | 8 => ⟨S1x31x1024, .f32⟩
  | 9 => ⟨S1x1024, .f32⟩
  | 10 => ⟨S1x1024, .f32⟩
  | 11 => ⟨S1x1024, .f32⟩
  | 12 => ⟨S1x1024x3328, .f32⟩
  | 13 => ⟨S1x16, .f32⟩
  | 14 => ⟨S2x1536x1024, .f32⟩
  | 15 => ⟨S1024, .f32⟩
  | 16 => ⟨S64, .i32⟩
  | 17 => ⟨S_, .i32⟩
  | 18 => ⟨S64, .i32⟩
  | 19 => ⟨S64, .i32⟩
  | 20 => ⟨S1x1024, .f32⟩
  | 21 => ⟨S1024, .f32⟩
  | 22 => ⟨S16x64x1024, .f32⟩
  | 23 => ⟨S_, .f32⟩
  | 24 => ⟨S16x64, .f32⟩
  | 25 => ⟨S16x64x1, .f32⟩
  | 26 => ⟨S_, .f32⟩
  | 27 => ⟨S16x64x1, .f32⟩
  | 28 => ⟨S16x64x1, .f32⟩
  | 29 => ⟨S_, .f32⟩
  | 30 => ⟨S16x64x1, .f32⟩
  | 31 => ⟨S16x64x1, .f32⟩
  | 32 => ⟨S16x64x1, .f32⟩
  | 33 => ⟨S16x64x1024, .f32⟩
  | 34 => ⟨S16x64x1024, .f32⟩
  | 35 => ⟨S1x1x1024, .f32⟩
  | 36 => ⟨S16x64x1024, .f32⟩
  | 37 => ⟨S16x64x1024, .f32⟩
  | 38 => ⟨S1024x4096, .f32⟩
  | 39 => ⟨S16x64x4096, .f32⟩
  | 40 => ⟨S16x64x1024, .f32⟩
  | 41 => ⟨S16x64x1024, .f32⟩
  | 42 => ⟨S16x64x1024, .f32⟩
  | 43 => ⟨S16x64x512, .f32⟩
  | 44 => ⟨S16x64x512, .f32⟩
  | 45 => ⟨S16x64x1024, .f32⟩
  | 46 => ⟨S16x64x1024, .f32⟩
  | 47 => ⟨S_, .f32⟩
  | 48 => ⟨S16x64x1024, .f32⟩
  | 49 => ⟨S16x64x1024, .f32⟩
  | 50 => ⟨S_, .f32⟩
  | 51 => ⟨S16x64x1024, .f32⟩
  | 52 => ⟨S16x64x1024, .f32⟩
  | 53 => ⟨S16x64x1024, .f32⟩
  | 54 => ⟨S16x30x1024, .f32⟩
  | 55 => ⟨S16x94x1024, .f32⟩
  | 56 => ⟨S31x1024, .f32⟩
  | 57 => ⟨S1024, .f32⟩
  | 58 => ⟨S16x64x1024, .f32⟩
  | 59 => ⟨S1x1024, .f32⟩
  | 60 => ⟨S1024, .f32⟩
  | 61 => ⟨S1x1x1024, .f32⟩
  | 62 => ⟨S16x64x1024, .f32⟩
  | 63 => ⟨S16x64x1024, .f32⟩
  | 64 => ⟨S_, .f32⟩
  | 65 => ⟨S16x64x1024, .f32⟩
  | 66 => ⟨S16x64x1024, .f32⟩
  | 67 => ⟨S16x64x1024, .f32⟩
  | 68 => ⟨S1x1024, .f32⟩
  | 69 => ⟨S1024, .f32⟩
  | 70 => ⟨S1x1x1024, .f32⟩
  | 71 => ⟨S16x64x1024, .f32⟩
  | 72 => ⟨S16x64x1024, .f32⟩
  | 73 => ⟨S16x64x1024, .f32⟩
  | 74 => ⟨S16x64x1024, .f32⟩
  | 75 => ⟨S1x1024, .f32⟩
  | 76 => ⟨S1024, .f32⟩
  | 77 => ⟨S1x1x1024, .f32⟩
  | 78 => ⟨S16x64x1024, .f32⟩
  | 79 => ⟨S16x64x1024, .f32⟩
  | 80 => ⟨S16x64x1024, .f32⟩
  | 81 => ⟨S16x64x1024, .f32⟩
  | 82 => ⟨S1x1024, .f32⟩
  | 83 => ⟨S1024, .f32⟩
  | 84 => ⟨S1x1x1024, .f32⟩
  | 85 => ⟨S16x64x1024, .f32⟩
  | 86 => ⟨S16x64x1024, .f32⟩
  | 87 => ⟨S16x64x1024, .f32⟩
  | 88 => ⟨S16x64x1024, .f32⟩
  | 89 => ⟨S1x1024, .f32⟩
  | 90 => ⟨S1024, .f32⟩
  | 91 => ⟨S1x1x1024, .f32⟩
  | 92 => ⟨S16x64x1024, .f32⟩
  | 93 => ⟨S16x64x1024, .f32⟩
  | 94 => ⟨S16x64x1024, .f32⟩
  | 95 => ⟨S16x64x1024, .f32⟩
  | 96 => ⟨S1x1024, .f32⟩
  | 97 => ⟨S1024, .f32⟩
  | 98 => ⟨S1x1x1024, .f32⟩
  | 99 => ⟨S16x64x1024, .f32⟩
  | 100 => ⟨S16x64x1024, .f32⟩
  | 101 => ⟨S16x64x1024, .f32⟩
  | 102 => ⟨S16x64x1024, .f32⟩
  | 103 => ⟨S1x1024, .f32⟩
  | 104 => ⟨S1024, .f32⟩
  | 105 => ⟨S1x1x1024, .f32⟩
  | 106 => ⟨S16x64x1024, .f32⟩
  | 107 => ⟨S16x64x1024, .f32⟩
  | 108 => ⟨S16x64x1024, .f32⟩
  | 109 => ⟨S16x64x1024, .f32⟩
  | 110 => ⟨S1x1024, .f32⟩
  | 111 => ⟨S1024, .f32⟩
  | 112 => ⟨S1x1x1024, .f32⟩
  | 113 => ⟨S16x64x1024, .f32⟩
  | 114 => ⟨S16x64x1024, .f32⟩
  | 115 => ⟨S16x64x1024, .f32⟩
  | 116 => ⟨S16x64x1024, .f32⟩
  | 117 => ⟨S1x1024, .f32⟩
  | 118 => ⟨S1024, .f32⟩
  | 119 => ⟨S1x1x1024, .f32⟩
  | 120 => ⟨S16x64x1024, .f32⟩
  | 121 => ⟨S16x64x1024, .f32⟩
  | 122 => ⟨S16x64x1024, .f32⟩
  | 123 => ⟨S16x64x1024, .f32⟩
  | 124 => ⟨S1x1024, .f32⟩
  | 125 => ⟨S1024, .f32⟩
  | 126 => ⟨S1x1x1024, .f32⟩
  | 127 => ⟨S16x64x1024, .f32⟩
  | _ => ⟨S16x64x1024, .f32⟩

abbrev hbmTy0_1 (i : Nat) : BufTy := match i % 128 with
  | 0 => ⟨S16x64x1024, .f32⟩
  | 1 => ⟨S16x64x1024, .f32⟩
  | 2 => ⟨S16x64x1024, .f32⟩
  | 3 => ⟨S1x1024, .f32⟩
  | 4 => ⟨S1024, .f32⟩
  | 5 => ⟨S1x1x1024, .f32⟩
  | 6 => ⟨S16x64x1024, .f32⟩
  | 7 => ⟨S16x64x1024, .f32⟩
  | 8 => ⟨S16x64x1024, .f32⟩
  | 9 => ⟨S16x64x1024, .f32⟩
  | 10 => ⟨S1x1024, .f32⟩
  | 11 => ⟨S1024, .f32⟩
  | 12 => ⟨S1x1x1024, .f32⟩
  | 13 => ⟨S16x64x1024, .f32⟩
  | 14 => ⟨S16x64x1024, .f32⟩
  | 15 => ⟨S16x64x1024, .f32⟩
  | 16 => ⟨S16x64x1024, .f32⟩
  | 17 => ⟨S1x1024, .f32⟩
  | 18 => ⟨S1024, .f32⟩
  | 19 => ⟨S1x1x1024, .f32⟩
  | 20 => ⟨S16x64x1024, .f32⟩
  | 21 => ⟨S16x64x1024, .f32⟩
  | 22 => ⟨S16x64x1024, .f32⟩
  | 23 => ⟨S16x64x1024, .f32⟩
  | 24 => ⟨S1x1024, .f32⟩
  | 25 => ⟨S1024, .f32⟩
  | 26 => ⟨S1x1x1024, .f32⟩
  | 27 => ⟨S16x64x1024, .f32⟩
  | 28 => ⟨S16x64x1024, .f32⟩
  | 29 => ⟨S16x64x1024, .f32⟩
  | 30 => ⟨S16x64x1024, .f32⟩
  | 31 => ⟨S1x1024, .f32⟩
  | 32 => ⟨S1024, .f32⟩
  | 33 => ⟨S1x1x1024, .f32⟩
  | 34 => ⟨S16x64x1024, .f32⟩
  | 35 => ⟨S16x64x1024, .f32⟩
  | 36 => ⟨S16x64x1024, .f32⟩
  | 37 => ⟨S16x64x1024, .f32⟩
  | 38 => ⟨S1x1024, .f32⟩
  | 39 => ⟨S1024, .f32⟩
  | 40 => ⟨S1x1x1024, .f32⟩
  | 41 => ⟨S16x64x1024, .f32⟩
  | 42 => ⟨S16x64x1024, .f32⟩
  | 43 => ⟨S16x64x1024, .f32⟩
  | 44 => ⟨S16x64x1024, .f32⟩
  | 45 => ⟨S1x1024, .f32⟩
  | 46 => ⟨S1024, .f32⟩
  | 47 => ⟨S1x1x1024, .f32⟩
  | 48 => ⟨S16x64x1024, .f32⟩
  | 49 => ⟨S16x64x1024, .f32⟩
  | 50 => ⟨S16x64x1024, .f32⟩
  | 51 => ⟨S16x64x1024, .f32⟩
  | 52 => ⟨S1x1024, .f32⟩
  | 53 => ⟨S1024, .f32⟩
  | 54 => ⟨S1x1x1024, .f32⟩
  | 55 => ⟨S16x64x1024, .f32⟩
  | 56 => ⟨S16x64x1024, .f32⟩
  | 57 => ⟨S16x64x1024, .f32⟩
  | 58 => ⟨S16x64x1024, .f32⟩
  | 59 => ⟨S1x1024, .f32⟩
  | 60 => ⟨S1024, .f32⟩
  | 61 => ⟨S1x1x1024, .f32⟩
  | 62 => ⟨S16x64x1024, .f32⟩
  | 63 => ⟨S16x64x1024, .f32⟩
  | 64 => ⟨S16x64x1024, .f32⟩
  | 65 => ⟨S16x64x1024, .f32⟩
  | 66 => ⟨S1x1024, .f32⟩
  | 67 => ⟨S1024, .f32⟩
  | 68 => ⟨S1x1x1024, .f32⟩
  | 69 => ⟨S16x64x1024, .f32⟩
  | 70 => ⟨S16x64x1024, .f32⟩
  | 71 => ⟨S16x64x1024, .f32⟩
  | 72 => ⟨S16x64x1024, .f32⟩
  | 73 => ⟨S1x1024, .f32⟩
  | 74 => ⟨S1024, .f32⟩
  | 75 => ⟨S1x1x1024, .f32⟩
  | 76 => ⟨S16x64x1024, .f32⟩
  | 77 => ⟨S16x64x1024, .f32⟩
  | 78 => ⟨S16x64x1024, .f32⟩
  | 79 => ⟨S16x64x1024, .f32⟩
  | 80 => ⟨S1x1024, .f32⟩
  | 81 => ⟨S1024, .f32⟩
  | 82 => ⟨S1x1x1024, .f32⟩
  | 83 => ⟨S16x64x1024, .f32⟩
  | 84 => ⟨S16x64x1024, .f32⟩
  | 85 => ⟨S16x64x1024, .f32⟩
  | 86 => ⟨S16x64x1024, .f32⟩
  | 87 => ⟨S1x1024, .f32⟩
  | 88 => ⟨S1024, .f32⟩
  | 89 => ⟨S1x1x1024, .f32⟩
  | 90 => ⟨S16x64x1024, .f32⟩
  | 91 => ⟨S16x64x1024, .f32⟩
  | 92 => ⟨S16x64x1024, .f32⟩
  | 93 => ⟨S16x64x1024, .f32⟩
  | 94 => ⟨S1x1024, .f32⟩
  | 95 => ⟨S1024, .f32⟩
  | 96 => ⟨S1x1x1024, .f32⟩
  | 97 => ⟨S16x64x1024, .f32⟩
  | 98 => ⟨S16x64x1024, .f32⟩
  | 99 => ⟨S16x64x1024, .f32⟩
  | 100 => ⟨S16x64x1024, .f32⟩
  | 101 => ⟨S1x1024, .f32⟩
  | 102 => ⟨S1024, .f32⟩
  | 103 => ⟨S1x1x1024, .f32⟩
  | 104 => ⟨S16x64x1024, .f32⟩
  | 105 => ⟨S16x64x1024, .f32⟩
  | 106 => ⟨S16x64x1024, .f32⟩
  | 107 => ⟨S16x64x1024, .f32⟩
  | 108 => ⟨S1x1024, .f32⟩
  | 109 => ⟨S1024, .f32⟩
  | 110 => ⟨S1x1x1024, .f32⟩
  | 111 => ⟨S16x64x1024, .f32⟩
  | 112 => ⟨S16x64x1024, .f32⟩
  | 113 => ⟨S16x64x1024, .f32⟩
  | 114 => ⟨S16x64x1024, .f32⟩
  | 115 => ⟨S1x1024, .f32⟩
  | 116 => ⟨S1024, .f32⟩
  | 117 => ⟨S1x1x1024, .f32⟩
  | 118 => ⟨S16x64x1024, .f32⟩
  | 119 => ⟨S16x64x1024, .f32⟩
  | 120 => ⟨S16x64x1024, .f32⟩
  | 121 => ⟨S16x64x1024, .f32⟩
  | 122 => ⟨S1x1024, .f32⟩
  | 123 => ⟨S1024, .f32⟩
  | 124 => ⟨S1x1x1024, .f32⟩
  | 125 => ⟨S16x64x1024, .f32⟩
  | 126 => ⟨S16x64x1024, .f32⟩
  | 127 => ⟨S16x64x1024, .f32⟩
  | _ => ⟨S16x64x1024, .f32⟩

abbrev hbmTy0_2 (i : Nat) : BufTy := match i % 128 with
  | 0 => ⟨S16x64x1024, .f32⟩
  | 1 => ⟨S1x1024, .f32⟩
  | 2 => ⟨S1024, .f32⟩
  | 3 => ⟨S1x1x1024, .f32⟩
  | 4 => ⟨S16x64x1024, .f32⟩
  | 5 => ⟨S16x64x1024, .f32⟩
  | 6 => ⟨S16x64x1024, .f32⟩
  | 7 => ⟨S16x64x1024, .f32⟩
  | 8 => ⟨S1x1024, .f32⟩
  | 9 => ⟨S1024, .f32⟩
  | 10 => ⟨S1x1x1024, .f32⟩
  | 11 => ⟨S16x64x1024, .f32⟩
  | 12 => ⟨S16x64x1024, .f32⟩
  | 13 => ⟨S16x64x1024, .f32⟩
  | 14 => ⟨S16x64x1024, .f32⟩
  | 15 => ⟨S1x1024, .f32⟩
  | 16 => ⟨S1024, .f32⟩
  | 17 => ⟨S1x1x1024, .f32⟩
  | 18 => ⟨S16x64x1024, .f32⟩
  | 19 => ⟨S16x64x1024, .f32⟩
  | 20 => ⟨S16x64x1024, .f32⟩
  | 21 => ⟨S1x1x1024, .f32⟩
  | 22 => ⟨S16x64x1024, .f32⟩
  | 23 => ⟨S16x64x1024, .f32⟩
  | 24 => ⟨S1024, .f32⟩
  | 25 => ⟨S1024, .f32⟩
  | 26 => ⟨S_, .f32⟩
  | 27 => ⟨S16x64, .f32⟩
  | 28 => ⟨S16x64x1, .f32⟩
  | 29 => ⟨S_, .f32⟩
  | 30 => ⟨S16x64x1, .f32⟩
  | 31 => ⟨S16x64x1, .f32⟩
  | 32 => ⟨S16x64x1024, .f32⟩
  | 33 => ⟨S16x64x1024, .f32⟩
  | 34 => ⟨S16x64x1024, .f32⟩
  | 35 => ⟨S_, .f32⟩
  | 36 => ⟨S16x64, .f32⟩
  | 37 => ⟨S16x64x1, .f32⟩
  | 38 => ⟨S_, .f32⟩
  | 39 => ⟨S16x64x1, .f32⟩
  | 40 => ⟨S16x64x1, .f32⟩
  | 41 => ⟨S_, .f32⟩
  | 42 => ⟨S16x64x1, .f32⟩
  | 43 => ⟨S16x64x1, .f32⟩
  | 44 => ⟨S16x64x1, .f32⟩
  | 45 => ⟨S16x64x1024, .f32⟩
  | 46 => ⟨S16x64x1024, .f32⟩
  | 47 => ⟨S1x1x1024, .f32⟩
  | 48 => ⟨S16x64x1024, .f32⟩
  | 49 => ⟨S16x64x1024, .f32⟩
  | 50 => ⟨S1x1x1024, .f32⟩
  | 51 => ⟨S16x64x1024, .f32⟩
  | 52 => ⟨S16x64x1024, .f32⟩
  | 53 => ⟨S16x64x1024, .f32⟩
  | 54 => ⟨S16x64x1024, .f32⟩
  | 55 => ⟨S_, .f32⟩
  | 56 => ⟨S16x64x1024, .f32⟩
  | 57 => ⟨S16x64x1024, .f32⟩
  | 58 => ⟨S_, .f32⟩
  | 59 => ⟨S16x64x1024, .f32⟩
  | 60 => ⟨S16x64x1024, .f32⟩
  | 61 => ⟨S16x64x1024, .f32⟩
  | 62 => ⟨S16x64x1024, .f32⟩
  | 63 => ⟨S16x64x1024, .f32⟩
  | 64 => ⟨S_, .f32⟩
  | 65 => ⟨S16x64x1024, .f32⟩
  | 66 => ⟨S16x64x1024, .f32⟩
  | 67 => ⟨S_, .f32⟩
  | 68 => ⟨S16x64x1024, .f32⟩
  | 69 => ⟨S16x64x1024, .f32⟩
  | 70 => ⟨S16x64x1024, .f32⟩
  | 71 => ⟨S16x64x1024, .f32⟩
  | 72 => ⟨S16x30x1024, .f32⟩
  | 73 => ⟨S16x64x4x128, .f32⟩
  | 74 => ⟨S1x16x256x4x128, .f32⟩
  | 75 => ⟨S16x256x4x128, .f32⟩
  | 76 => ⟨S1x16x256x4x128, .f32⟩
  | 77 => ⟨S16x256x4x128, .f32⟩
  | 78 => ⟨S16x4x64x256, .f32⟩
  | 79 => ⟨S_, .f32⟩
  | 80 => ⟨S_, .f32⟩
  | 81 => ⟨S_, .f32⟩
  | 82 => ⟨S_, .f32⟩
  | 83 => ⟨S16x4x64x256, .f32⟩
  | 84 => ⟨S16x4x64x256, .f32⟩
  | 85 => ⟨S_, .f32⟩
  | 86 => ⟨S16x4x64, .f32⟩
  | 87 => ⟨S16x4x64x1, .f32⟩
  | 88 => ⟨S16x4x64x256, .f32⟩
  | 89 => ⟨S16x4x64x256, .f32⟩
  | 90 => ⟨S16x4x64x256, .f32⟩
  | 91 => ⟨S_, .f32⟩
  | 92 => ⟨S16x4x64, .f32⟩
  | 93 => ⟨S16x4x64x1, .f32⟩
  | 94 => ⟨S16x4x64x256, .f32⟩
  | 95 => ⟨S16x4x64x256, .f32⟩
  | 96 => ⟨S16x4x128x64, .f32⟩
  | 97 => ⟨S16x64x4x128, .f32⟩
  | 98 => ⟨S16x64x512, .f32⟩
  | 99 => ⟨S16x64x512, .f32⟩
  | 100 => ⟨S16x64x512, .f32⟩
  | 101 => ⟨S_, .f32⟩
  | 102 => ⟨S16x64x512, .f32⟩
  | 103 => ⟨S16x64x512, .f32⟩
  | 104 => ⟨S_, .f32⟩
  | 105 => ⟨S16x64x512, .f32⟩
  | 106 => ⟨S16x64x512, .f32⟩
  | 107 => ⟨S16x64x512, .f32⟩
  | 108 => ⟨S16x64x512, .f32⟩
  | 109 => ⟨S16x64x1536, .f32⟩
  | 110 => ⟨S1x1536x1024, .f32⟩
  | 111 => ⟨S1536x1024, .f32⟩
  | 112 => ⟨S16x64x1024, .f32⟩
  | 113 => ⟨S16x64x1024, .f32⟩
  | 114 => ⟨S1x1024, .f32⟩
  | 115 => ⟨S1024, .f32⟩
  | 116 => ⟨S16x64x1024, .f32⟩
  | 117 => ⟨S_, .f32⟩
  | 118 => ⟨S16x64, .f32⟩
  | 119 => ⟨S16x64x1, .f32⟩
  | 120 => ⟨S_, .f32⟩
  | 121 => ⟨S16x64x1, .f32⟩
  | 122 => ⟨S16x64x1, .f32⟩
  | 123 => ⟨S_, .f32⟩
  | 124 => ⟨S16x64x1, .f32⟩
  | 125 => ⟨S16x64x1, .f32⟩
  | 126 => ⟨S16x64x1, .f32⟩
  | 127 => ⟨S16x64x1024, .f32⟩
  | _ => ⟨S16x64x1024, .f32⟩

abbrev hbmTy0_3 (i : Nat) : BufTy := match i % 128 with
  | 0 => ⟨S16x64x1024, .f32⟩
  | 1 => ⟨S1x1x1024, .f32⟩
  | 2 => ⟨S16x64x1024, .f32⟩
  | 3 => ⟨S16x64x1024, .f32⟩
  | 4 => ⟨S1024x3328, .f32⟩
  | 5 => ⟨S16x64x3328, .f32⟩
  | 6 => ⟨S16x64x1024, .f32⟩
  | 7 => ⟨S16x64x128, .f32⟩
  | 8 => ⟨S16x64x128, .f32⟩
  | 9 => ⟨S16x64x1024, .f32⟩
  | 10 => ⟨S16x64x512, .f32⟩
  | 11 => ⟨S16x64x512, .f32⟩
  | 12 => ⟨S16x64x16x64, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S64, .f32⟩
  | 22 => ⟨S64x1, .f32⟩
  | 23 => ⟨S1x32, .f32⟩
  | 24 => ⟨S64x32, .f32⟩
  | 25 => ⟨S64x32, .f32⟩
  | 26 => ⟨S64x32, .f32⟩
  | 27 => ⟨S64x32, .f32⟩
  | 28 => ⟨S64x1x32, .f32⟩
  | 29 => ⟨S64x32, .f32⟩
  | 30 => ⟨S64x1x32, .f32⟩
  | 31 => ⟨S16x64x16x32, .f32⟩
  | 32 => ⟨S16x64x16x32, .f32⟩
  | 33 => ⟨S1x64x1x32, .f32⟩
  | 34 => ⟨S16x64x16x32, .f32⟩
  | 35 => ⟨S16x64x16x32, .f32⟩
  | 36 => ⟨S1x64x1x32, .f32⟩
  | 37 => ⟨S16x64x16x32, .f32⟩
  | 38 => ⟨S16x64x16x32, .f32⟩
  | 39 => ⟨S16x64x16x32, .f32⟩
  | 40 => ⟨S1x64x1x32, .f32⟩
  | 41 => ⟨S16x64x16x32, .f32⟩
  | 42 => ⟨S16x64x16x32, .f32⟩
  | 43 => ⟨S1x64x1x32, .f32⟩
  | 44 => ⟨S16x64x16x32, .f32⟩
  | 45 => ⟨S16x64x16x32, .f32⟩
  | 46 => ⟨S16x64x16x32, .f32⟩
  | 47 => ⟨S16x64x16x64, .f32⟩
  | 48 => ⟨S16x64x2x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S64, .f32⟩
  | 58 => ⟨S64x1, .f32⟩
  | 59 => ⟨S1x32, .f32⟩
  | 60 => ⟨S64x32, .f32⟩
  | 61 => ⟨S64x32, .f32⟩
  | 62 => ⟨S64x32, .f32⟩
  | 63 => ⟨S64x32, .f32⟩
  | 64 => ⟨S64x1x32, .f32⟩
  | 65 => ⟨S64x32, .f32⟩
  | 66 => ⟨S64x1x32, .f32⟩
  | 67 => ⟨S16x64x2x32, .f32⟩
  | 68 => ⟨S16x64x2x32, .f32⟩
  | 69 => ⟨S1x64x1x32, .f32⟩
  | 70 => ⟨S16x64x2x32, .f32⟩
  | 71 => ⟨S16x64x2x32, .f32⟩
  | 72 => ⟨S1x64x1x32, .f32⟩
  | 73 => ⟨S16x64x2x32, .f32⟩
  | 74 => ⟨S16x64x2x32, .f32⟩
  | 75 => ⟨S16x64x2x32, .f32⟩
  | 76 => ⟨S1x64x1x32, .f32⟩
  | 77 => ⟨S16x64x2x32, .f32⟩
  | 78 => ⟨S16x64x2x32, .f32⟩
  | 79 => ⟨S1x64x1x32, .f32⟩
  | 80 => ⟨S16x64x2x32, .f32⟩
  | 81 => ⟨S16x64x2x32, .f32⟩
  | 82 => ⟨S16x64x2x32, .f32⟩
  | 83 => ⟨S16x64x2x64, .f32⟩
  | 84 => ⟨S16x64x2x64, .f32⟩
  | 85 => ⟨S16x128x2x64, .f32⟩
  | 86 => ⟨S16x192x2x64, .f32⟩
  | 87 => ⟨S16x128x2x64, .f32⟩
  | 88 => ⟨S16x192x2x64, .f32⟩
  | 89 => ⟨S16, .f32⟩
  | 90 => ⟨S16x64x2x8x64, .f32⟩
  | 91 => ⟨S16x2x192x64x8, .f32⟩
  | 92 => ⟨S16x2x8x64x192, .f32⟩
  | 93 => ⟨S_, .f32⟩
  | 94 => ⟨S16x2x8x64x192, .f32⟩
  | 95 => ⟨S16x2x8x64x192, .f32⟩
  | 96 => ⟨S1x2x8x1x1, .f32⟩
  | 97 => ⟨S16x2x8x64x1, .f32⟩
  | 98 => ⟨S16x2x8x64x193, .f32⟩
  | 99 => ⟨S_, .f32⟩
  | 100 => ⟨S16x2x8x64, .f32⟩
  | 101 => ⟨S16x2x8x64x1, .f32⟩
  | 102 => ⟨S16x2x8x64x193, .f32⟩
  | 103 => ⟨S16x2x8x64x193, .f32⟩
  | 104 => ⟨S16x2x8x64x193, .f32⟩
  | 105 => ⟨S_, .f32⟩
  | 106 => ⟨S16x2x8x64, .f32⟩
  | 107 => ⟨S16x2x8x64x1, .f32⟩
  | 108 => ⟨S16x2x8x64x193, .f32⟩
  | 109 => ⟨S16x2x8x64x193, .f32⟩
  | 110 => ⟨S16x2x8x64x192, .f32⟩
  | 111 => ⟨S16x2x64x8x64, .f32⟩
  | 112 => ⟨S16x64x2x8x64, .f32⟩
  | 113 => ⟨S16x64x1024, .f32⟩
  | 114 => ⟨S16x64x1024, .f32⟩
  | 115 => ⟨S16x64x1024, .f32⟩
  | 116 => ⟨S_, .f32⟩
  | 117 => ⟨S16x64x1024, .f32⟩
  | 118 => ⟨S16x64x1024, .f32⟩
  | 119 => ⟨S_, .f32⟩
  | 120 => ⟨S16x64x1024, .f32⟩
  | 121 => ⟨S16x64x1024, .f32⟩
  | 122 => ⟨S16x64x1024, .f32⟩
  | 123 => ⟨S16x64x1024, .f32⟩
  | 124 => ⟨S16x64x4x128, .f32⟩
  | 125 => ⟨S1x16x256x4x128, .f32⟩
  | 126 => ⟨S16x256x4x128, .f32⟩
  | 127 => ⟨S1x16x256x4x128, .f32⟩
  | _ => ⟨S16x64x1024, .f32⟩

abbrev hbmTy0_4 (i : Nat) : BufTy := match i % 128 with
  | 0 => ⟨S16x256x4x128, .f32⟩
  | 1 => ⟨S16x4x64x256, .f32⟩
  | 2 => ⟨S_, .f32⟩
  | 3 => ⟨S_, .f32⟩
  | 4 => ⟨S_, .f32⟩
  | 5 => ⟨S_, .f32⟩
  | 6 => ⟨S16x4x64x256, .f32⟩
  | 7 => ⟨S16x4x64x256, .f32⟩
  | 8 => ⟨S_, .f32⟩
  | 9 => ⟨S16x4x64, .f32⟩
  | 10 => ⟨S16x4x64x1, .f32⟩
  | 11 => ⟨S16x4x64x256, .f32⟩
  | 12 => ⟨S16x4x64x256, .f32⟩
  | 13 => ⟨S16x4x64x256, .f32⟩
  | 14 => ⟨S_, .f32⟩
  | 15 => ⟨S16x4x64, .f32⟩
  | 16 => ⟨S16x4x64x1, .f32⟩
  | 17 => ⟨S16x4x64x256, .f32⟩
  | 18 => ⟨S16x4x64x256, .f32⟩
  | 19 => ⟨S16x4x128x64, .f32⟩
  | 20 => ⟨S16x64x4x128, .f32⟩
  | 21 => ⟨S16x64x512, .f32⟩
  | 22 => ⟨S16x64x512, .f32⟩
  | 23 => ⟨S16x64x512, .f32⟩
  | 24 => ⟨S_, .f32⟩
  | 25 => ⟨S16x64x512, .f32⟩
  | 26 => ⟨S16x64x512, .f32⟩
  | 27 => ⟨S_, .f32⟩
  | 28 => ⟨S16x64x512, .f32⟩
  | 29 => ⟨S16x64x512, .f32⟩
  | 30 => ⟨S16x64x512, .f32⟩
  | 31 => ⟨S16x64x512, .f32⟩
  | 32 => ⟨S16x64x1536, .f32⟩
  | 33 => ⟨S1x1536x1024, .f32⟩
  | 34 => ⟨S1536x1024, .f32⟩
  | 35 => ⟨S16x64x1024, .f32⟩
  | 36 => ⟨S16x64x1024, .f32⟩
  | 37 => ⟨S16x64x1024, .f32⟩
  | 38 => ⟨S_, .f32⟩
  | 39 => ⟨S16x64, .f32⟩
  | 40 => ⟨S16x64x1, .f32⟩
  | 41 => ⟨S_, .f32⟩
  | 42 => ⟨S16x64x1, .f32⟩
  | 43 => ⟨S16x64x1, .f32⟩
  | 44 => ⟨S_, .f32⟩
  | 45 => ⟨S16x64x1, .f32⟩
  | 46 => ⟨S16x64x1, .f32⟩
  | 47 => ⟨S16x64x1, .f32⟩
  | 48 => ⟨S16x64x1024, .f32⟩
  | 49 => ⟨S16x64x1024, .f32⟩
  | 50 => ⟨S1x1x1024, .f32⟩
  | 51 => ⟨S16x64x1024, .f32⟩
  | 52 => ⟨S16x64x1024, .f32⟩
  | 53 => ⟨S16x128x2x64, .f32⟩
  | 54 => ⟨S1x16x128x128, .f32⟩
  | 55 => ⟨S16x128x2x64, .f32⟩
  | 56 => ⟨S1x16x128x128, .f32⟩
  | 57 => ⟨S1x16x30x1024, .f32⟩
  | _ => ⟨S16x64x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x64x1024, .f32⟩

abbrev bufTy : (tb : Table) → Fin (tcTables nBuf tb) → BufTy
  | .hbm, ⟨i, _⟩ => hbmTy i
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_cst_5 : Ref sig .tc := ⟨.hbm, 282, rfl⟩
abbrev main_v259 : Ref sig .tc := ⟨.hbm, 283, rfl⟩
abbrev main_v260 : Ref sig .tc := ⟨.hbm, 284, rfl⟩
abbrev main_cst_6 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_cst_7 : Ref sig .tc := ⟨.hbm, 291, rfl⟩
abbrev main_v266 : Ref sig .tc := ⟨.hbm, 292, rfl⟩
abbrev main_v267 : Ref sig .tc := ⟨.hbm, 293, rfl⟩
abbrev main_cst_8 : Ref sig .tc := ⟨.hbm, 294, rfl⟩
abbrev main_v268 : Ref sig .tc := ⟨.hbm, 295, rfl⟩
abbrev main_v269 : Ref sig .tc := ⟨.hbm, 296, rfl⟩
abbrev main_cst_9 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_call0_v0 : Ref sig .tc := ⟨.hbm, 309, rfl⟩
abbrev main_call0_v1 : Ref sig .tc := ⟨.hbm, 310, rfl⟩
abbrev main_call0_cst : Ref sig .tc := ⟨.hbm, 311, rfl⟩
abbrev main_call0_v2 : Ref sig .tc := ⟨.hbm, 312, rfl⟩
abbrev main_call0_v3 : Ref sig .tc := ⟨.hbm, 313, rfl⟩
abbrev main_call0_cst_0 : Ref sig .tc := ⟨.hbm, 314, rfl⟩
abbrev main_call0_v4 : Ref sig .tc := ⟨.hbm, 315, rfl⟩
abbrev main_call0_v5 : Ref sig .tc := ⟨.hbm, 316, rfl⟩
abbrev main_v281 : Ref sig .tc := ⟨.hbm, 317, rfl⟩
abbrev main_call1_v0 : Ref sig .tc := ⟨.hbm, 318, rfl⟩
abbrev main_call1_v1 : Ref sig .tc := ⟨.hbm, 319, rfl⟩
abbrev main_call1_cst : Ref sig .tc := ⟨.hbm, 320, rfl⟩
abbrev main_call1_v2 : Ref sig .tc := ⟨.hbm, 321, rfl⟩
abbrev main_call1_v3 : Ref sig .tc := ⟨.hbm, 322, rfl⟩
abbrev main_call1_cst_0 : Ref sig .tc := ⟨.hbm, 323, rfl⟩
abbrev main_call1_v4 : Ref sig .tc := ⟨.hbm, 324, rfl⟩
abbrev main_call1_v5 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_cst_10 : Ref sig .tc := ⟨.hbm, 335, rfl⟩
abbrev main_v291 : Ref sig .tc := ⟨.hbm, 336, rfl⟩
abbrev main_cst_11 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_cst_12 : Ref sig .tc := ⟨.hbm, 341, rfl⟩
abbrev main_v295 : Ref sig .tc := ⟨.hbm, 342, rfl⟩
abbrev main_v296 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_cst_13 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_call2_v0 : Ref sig .tc := ⟨.hbm, 355, rfl⟩
abbrev main_call2_v1 : Ref sig .tc := ⟨.hbm, 356, rfl⟩
abbrev main_call2_cst : Ref sig .tc := ⟨.hbm, 357, rfl⟩
abbrev main_call2_v2 : Ref sig .tc := ⟨.hbm, 358, rfl⟩
abbrev main_call2_v3 : Ref sig .tc := ⟨.hbm, 359, rfl⟩
abbrev main_call2_cst_0 : Ref sig .tc := ⟨.hbm, 360, rfl⟩
abbrev main_call2_v4 : Ref sig .tc := ⟨.hbm, 361, rfl⟩
abbrev main_call2_v5 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_v312 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_v316 : Ref sig .tc := ⟨.hbm, 372, rfl⟩
abbrev main_cst_14 : Ref sig .tc := ⟨.hbm, 373, rfl⟩
abbrev main_v317 : Ref sig .tc := ⟨.hbm, 374, rfl⟩
abbrev main_v318 : Ref sig .tc := ⟨.hbm, 375, rfl⟩
abbrev main_cst_15 : Ref sig .tc := ⟨.hbm, 376, rfl⟩
abbrev main_v319 : Ref sig .tc := ⟨.hbm, 377, rfl⟩
abbrev main_v320 : Ref sig .tc := ⟨.hbm, 378, rfl⟩
abbrev main_cst_16 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩
abbrev main_v326 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_v335 : Ref sig .tc := ⟨.hbm, 394, rfl⟩
abbrev main_v336 : Ref sig .tc := ⟨.hbm, 395, rfl⟩
abbrev main_v337 : Ref sig .tc := ⟨.hbm, 396, rfl⟩
abbrev main_v338 : Ref sig .tc := ⟨.hbm, 397, rfl⟩
abbrev main_v339 : Ref sig .tc := ⟨.hbm, 398, rfl⟩
abbrev main_cst_17 : Ref sig .tc := ⟨.hbm, 399, rfl⟩
abbrev main_v340 : Ref sig .tc := ⟨.hbm, 400, rfl⟩
abbrev main_v341 : Ref sig .tc := ⟨.hbm, 401, rfl⟩
abbrev main_cst_18 : Ref sig .tc := ⟨.hbm, 402, rfl⟩
abbrev main_v342 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_v346 : Ref sig .tc := ⟨.hbm, 407, rfl⟩
abbrev main_v347 : Ref sig .tc := ⟨.hbm, 408, rfl⟩
abbrev main_v348 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_v352 : Ref sig .tc := ⟨.hbm, 413, rfl⟩
abbrev main_v353 : Ref sig .tc := ⟨.hbm, 414, rfl⟩
abbrev main_v354 : Ref sig .tc := ⟨.hbm, 415, rfl⟩
abbrev main_v355 : Ref sig .tc := ⟨.hbm, 416, rfl⟩
abbrev main_v356 : Ref sig .tc := ⟨.hbm, 417, rfl⟩
abbrev main_v357 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_v361 : Ref sig .tc := ⟨.hbm, 422, rfl⟩
abbrev main_v362 : Ref sig .tc := ⟨.hbm, 423, rfl⟩
abbrev main_v363 : Ref sig .tc := ⟨.hbm, 424, rfl⟩
abbrev main_v364 : Ref sig .tc := ⟨.hbm, 425, rfl⟩
abbrev main_v365 : Ref sig .tc := ⟨.hbm, 426, rfl⟩
abbrev main_v366 : Ref sig .tc := ⟨.hbm, 427, rfl⟩
abbrev main_v367 : Ref sig .tc := ⟨.hbm, 428, rfl⟩
abbrev main_v368 : Ref sig .tc := ⟨.hbm, 429, rfl⟩
abbrev main_v369 : Ref sig .tc := ⟨.hbm, 430, rfl⟩
abbrev main_v370 : Ref sig .tc := ⟨.hbm, 431, rfl⟩
abbrev main_v371 : Ref sig .tc := ⟨.hbm, 432, rfl⟩
abbrev main_v372 : Ref sig .tc := ⟨.hbm, 433, rfl⟩
abbrev main_v373 : Ref sig .tc := ⟨.hbm, 434, rfl⟩
abbrev main_cst_19 : Ref sig .tc := ⟨.hbm, 435, rfl⟩
abbrev main_v374 : Ref sig .tc := ⟨.hbm, 436, rfl⟩
abbrev main_v375 : Ref sig .tc := ⟨.hbm, 437, rfl⟩
abbrev main_cst_20 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_v380 : Ref sig .tc := ⟨.hbm, 443, rfl⟩
abbrev main_v381 : Ref sig .tc := ⟨.hbm, 444, rfl⟩
abbrev main_v382 : Ref sig .tc := ⟨.hbm, 445, rfl⟩
abbrev main_v383 : Ref sig .tc := ⟨.hbm, 446, rfl⟩
abbrev main_v384 : Ref sig .tc := ⟨.hbm, 447, rfl⟩
abbrev main_v385 : Ref sig .tc := ⟨.hbm, 448, rfl⟩
abbrev main_v386 : Ref sig .tc := ⟨.hbm, 449, rfl⟩
abbrev main_v387 : Ref sig .tc := ⟨.hbm, 450, rfl⟩
abbrev main_v388 : Ref sig .tc := ⟨.hbm, 451, rfl⟩
abbrev main_v389 : Ref sig .tc := ⟨.hbm, 452, rfl⟩
abbrev main_v390 : Ref sig .tc := ⟨.hbm, 453, rfl⟩
abbrev main_v391 : Ref sig .tc := ⟨.hbm, 454, rfl⟩
abbrev main_v392 : Ref sig .tc := ⟨.hbm, 455, rfl⟩
abbrev main_v393 : Ref sig .tc := ⟨.hbm, 456, rfl⟩
abbrev main_v394 : Ref sig .tc := ⟨.hbm, 457, rfl⟩
abbrev main_v395 : Ref sig .tc := ⟨.hbm, 458, rfl⟩
abbrev main_v396 : Ref sig .tc := ⟨.hbm, 459, rfl⟩
abbrev main_v397 : Ref sig .tc := ⟨.hbm, 460, rfl⟩
abbrev main_v398 : Ref sig .tc := ⟨.hbm, 461, rfl⟩
abbrev main_v399 : Ref sig .tc := ⟨.hbm, 462, rfl⟩
abbrev main_v400 : Ref sig .tc := ⟨.hbm, 463, rfl⟩
abbrev main_v401 : Ref sig .tc := ⟨.hbm, 464, rfl⟩
abbrev main_v402 : Ref sig .tc := ⟨.hbm, 465, rfl⟩
abbrev main_v403 : Ref sig .tc := ⟨.hbm, 466, rfl⟩
abbrev main_v404 : Ref sig .tc := ⟨.hbm, 467, rfl⟩
abbrev main_v405 : Ref sig .tc := ⟨.hbm, 468, rfl⟩
abbrev main_v406 : Ref sig .tc := ⟨.hbm, 469, rfl⟩
abbrev main_v407 : Ref sig .tc := ⟨.hbm, 470, rfl⟩
abbrev main_v408 : Ref sig .tc := ⟨.hbm, 471, rfl⟩
abbrev main_v409 : Ref sig .tc := ⟨.hbm, 472, rfl⟩
abbrev main_v410 : Ref sig .tc := ⟨.hbm, 473, rfl⟩
abbrev main_v411 : Ref sig .tc := ⟨.hbm, 474, rfl⟩
abbrev main_v412 : Ref sig .tc := ⟨.hbm, 475, rfl⟩
abbrev main_v413 : Ref sig .tc := ⟨.hbm, 476, rfl⟩
abbrev main_cst_21 : Ref sig .tc := ⟨.hbm, 477, rfl⟩
abbrev main_v414 : Ref sig .tc := ⟨.hbm, 478, rfl⟩
abbrev main_v415 : Ref sig .tc := ⟨.hbm, 479, rfl⟩
abbrev main_v416 : Ref sig .tc := ⟨.hbm, 480, rfl⟩
abbrev main_v417 : Ref sig .tc := ⟨.hbm, 481, rfl⟩
abbrev main_v418 : Ref sig .tc := ⟨.hbm, 482, rfl⟩
abbrev main_cst_22 : Ref sig .tc := ⟨.hbm, 483, rfl⟩
abbrev main_v419 : Ref sig .tc := ⟨.hbm, 484, rfl⟩
abbrev main_v420 : Ref sig .tc := ⟨.hbm, 485, rfl⟩
abbrev main_v421 : Ref sig .tc := ⟨.hbm, 486, rfl⟩
abbrev main_v422 : Ref sig .tc := ⟨.hbm, 487, rfl⟩
abbrev main_v423 : Ref sig .tc := ⟨.hbm, 488, rfl⟩
abbrev main_cst_23 : Ref sig .tc := ⟨.hbm, 489, rfl⟩
abbrev main_v424 : Ref sig .tc := ⟨.hbm, 490, rfl⟩
abbrev main_v425 : Ref sig .tc := ⟨.hbm, 491, rfl⟩
abbrev main_v426 : Ref sig .tc := ⟨.hbm, 492, rfl⟩
abbrev main_v427 : Ref sig .tc := ⟨.hbm, 493, rfl⟩
abbrev main_v428 : Ref sig .tc := ⟨.hbm, 494, rfl⟩
abbrev main_v429 : Ref sig .tc := ⟨.hbm, 495, rfl⟩
abbrev main_v430 : Ref sig .tc := ⟨.hbm, 496, rfl⟩
abbrev main_v431 : Ref sig .tc := ⟨.hbm, 497, rfl⟩
abbrev main_call3_v0 : Ref sig .tc := ⟨.hbm, 498, rfl⟩
abbrev main_call3_v1 : Ref sig .tc := ⟨.hbm, 499, rfl⟩
abbrev main_call3_cst : Ref sig .tc := ⟨.hbm, 500, rfl⟩
abbrev main_call3_v2 : Ref sig .tc := ⟨.hbm, 501, rfl⟩
abbrev main_call3_v3 : Ref sig .tc := ⟨.hbm, 502, rfl⟩
abbrev main_call3_cst_0 : Ref sig .tc := ⟨.hbm, 503, rfl⟩
abbrev main_call3_v4 : Ref sig .tc := ⟨.hbm, 504, rfl⟩
abbrev main_call3_v5 : Ref sig .tc := ⟨.hbm, 505, rfl⟩
abbrev main_v432 : Ref sig .tc := ⟨.hbm, 506, rfl⟩
abbrev main_v433 : Ref sig .tc := ⟨.hbm, 507, rfl⟩
abbrev main_v434 : Ref sig .tc := ⟨.hbm, 508, rfl⟩
abbrev main_v435 : Ref sig .tc := ⟨.hbm, 509, rfl⟩
abbrev main_v436 : Ref sig .tc := ⟨.hbm, 510, rfl⟩
abbrev main_v437 : Ref sig .tc := ⟨.hbm, 511, rfl⟩
abbrev main_v438 : Ref sig .tc := ⟨.hbm, 512, rfl⟩
abbrev main_v439 : Ref sig .tc := ⟨.hbm, 513, rfl⟩
abbrev main_cst_24 : Ref sig .tc := ⟨.hbm, 514, rfl⟩
abbrev main_v440 : Ref sig .tc := ⟨.hbm, 515, rfl⟩
abbrev main_cst_25 : Ref sig .tc := ⟨.hbm, 516, rfl⟩
abbrev main_v441 : Ref sig .tc := ⟨.hbm, 517, rfl⟩
abbrev main_v442 : Ref sig .tc := ⟨.hbm, 518, rfl⟩
abbrev main_v443 : Ref sig .tc := ⟨.hbm, 519, rfl⟩
abbrev main_cst_26 : Ref sig .tc := ⟨.hbm, 520, rfl⟩
abbrev main_v444 : Ref sig .tc := ⟨.hbm, 521, rfl⟩
abbrev main_v445 : Ref sig .tc := ⟨.hbm, 522, rfl⟩
abbrev main_v446 : Ref sig .tc := ⟨.hbm, 523, rfl⟩
abbrev main_v447 : Ref sig .tc := ⟨.hbm, 524, rfl⟩
abbrev main_v448 : Ref sig .tc := ⟨.hbm, 525, rfl⟩
abbrev main_cst_27 : Ref sig .tc := ⟨.hbm, 526, rfl⟩
abbrev main_v449 : Ref sig .tc := ⟨.hbm, 527, rfl⟩
abbrev main_v450 : Ref sig .tc := ⟨.hbm, 528, rfl⟩
abbrev main_v451 : Ref sig .tc := ⟨.hbm, 529, rfl⟩
abbrev main_v452 : Ref sig .tc := ⟨.hbm, 530, rfl⟩
abbrev main_v453 : Ref sig .tc := ⟨.hbm, 531, rfl⟩
abbrev main_v454 : Ref sig .tc := ⟨.hbm, 532, rfl⟩
abbrev main_v455 : Ref sig .tc := ⟨.hbm, 533, rfl⟩
abbrev main_call4_v0 : Ref sig .tc := ⟨.hbm, 534, rfl⟩
abbrev main_call4_v1 : Ref sig .tc := ⟨.hbm, 535, rfl⟩
abbrev main_call4_cst : Ref sig .tc := ⟨.hbm, 536, rfl⟩
abbrev main_call4_v2 : Ref sig .tc := ⟨.hbm, 537, rfl⟩
abbrev main_call4_v3 : Ref sig .tc := ⟨.hbm, 538, rfl⟩
abbrev main_call4_cst_0 : Ref sig .tc := ⟨.hbm, 539, rfl⟩
abbrev main_call4_v4 : Ref sig .tc := ⟨.hbm, 540, rfl⟩
abbrev main_call4_v5 : Ref sig .tc := ⟨.hbm, 541, rfl⟩
abbrev main_v456 : Ref sig .tc := ⟨.hbm, 542, rfl⟩
abbrev main_v457 : Ref sig .tc := ⟨.hbm, 543, rfl⟩
abbrev main_v458 : Ref sig .tc := ⟨.hbm, 544, rfl⟩
abbrev main_v459 : Ref sig .tc := ⟨.hbm, 545, rfl⟩
abbrev main_v460 : Ref sig .tc := ⟨.hbm, 546, rfl⟩
abbrev main_v461 : Ref sig .tc := ⟨.hbm, 547, rfl⟩
abbrev main_v462 : Ref sig .tc := ⟨.hbm, 548, rfl⟩
abbrev main_v463 : Ref sig .tc := ⟨.hbm, 549, rfl⟩
abbrev main_cst_28 : Ref sig .tc := ⟨.hbm, 550, rfl⟩
abbrev main_v464 : Ref sig .tc := ⟨.hbm, 551, rfl⟩
abbrev main_v465 : Ref sig .tc := ⟨.hbm, 552, rfl⟩
abbrev main_cst_29 : Ref sig .tc := ⟨.hbm, 553, rfl⟩
abbrev main_v466 : Ref sig .tc := ⟨.hbm, 554, rfl⟩
abbrev main_v467 : Ref sig .tc := ⟨.hbm, 555, rfl⟩
abbrev main_cst_30 : Ref sig .tc := ⟨.hbm, 556, rfl⟩
abbrev main_v468 : Ref sig .tc := ⟨.hbm, 557, rfl⟩
abbrev main_v469 : Ref sig .tc := ⟨.hbm, 558, rfl⟩
abbrev main_v470 : Ref sig .tc := ⟨.hbm, 559, rfl⟩
abbrev main_v471 : Ref sig .tc := ⟨.hbm, 560, rfl⟩
abbrev main_v472 : Ref sig .tc := ⟨.hbm, 561, rfl⟩
abbrev main_v473 : Ref sig .tc := ⟨.hbm, 562, rfl⟩
abbrev main_v474 : Ref sig .tc := ⟨.hbm, 563, rfl⟩
abbrev main_v475 : Ref sig .tc := ⟨.hbm, 564, rfl⟩
abbrev main_v476 : Ref sig .tc := ⟨.hbm, 565, rfl⟩
abbrev main_v477 : Ref sig .tc := ⟨.hbm, 566, rfl⟩
abbrev main_v478 : Ref sig .tc := ⟨.hbm, 567, rfl⟩
abbrev main_v479 : Ref sig .tc := ⟨.hbm, 568, rfl⟩
abbrev main_v480 : Ref sig .tc := ⟨.hbm, 569, rfl⟩

abbrev nD : Nat := 1
abbrev τ : Topo := Topo.v7x

variable {F : FTy → Type} [FloatOps F]
-- ==== Proof.Frames.lean ====
/- Every program runs and leaves its arguments as they were; the named constants are the reals they stand for. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.Gen.MemKv.Frame
public import proofs.«01_k».proof.Proof.Gen.MemKvIdeal.Frame
public import proofs.«01_k».proof.Proof.Gen.MemKvReferenceIdeal.Run
public import Idealize.ShloMosaic.Lib.Quiescent

@[expose] public section

noncomputable section

namespace Cert.Proof

open Idealize.ShloMosaic Idealize.SL.Sem

/-- The prompt kernel runs, quiescent, with its arguments unchanged. -/
theorem frame_p : Cert.quiescent_Kernel := fun m ρ _ => Cert.Kernel.Gen.frame m ρ

/-- So does the prompt kernel at the exact numbers. -/
theorem frame_pi : Cert.quiescent_KernelIdeal := fun m ρ _ => Cert.KernelIdeal.Gen.frame m ρ

/-- The same under the value claim's precondition, which the frame does not use. -/
theorem frame_pi_finite : Cert.quiescent_KernelIdeal_pre_finite := fun m ρ _ => Cert.KernelIdeal.Gen.frame m ρ

/-- The plain reference runs with its arguments unchanged; it declares no semaphore. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The same under the value claim's precondition, which the frame does not use. -/
theorem frame_ri_finite : Cert.quiescent_ReferenceIdeal_pre_finite := fun m ρ _ => frame_ri m ρ trivial

/-- The memory projection kernel runs, quiescent, with its arguments unchanged. -/
theorem frame_p2 : Cert.quiescent_MemKv := fun m ρ _ => Cert.MemKv.Gen.frame m ρ

/-- So does the memory projection kernel at the exact numbers. -/
theorem frame_pi2 : Cert.quiescent_MemKvIdeal := fun m ρ _ => Cert.MemKvIdeal.Gen.frame m ρ

/-- The memory projection's reference runs with its arguments unchanged; it declares no semaphore. -/
theorem frame_ri2 : Cert.quiescent_MemKvReferenceIdeal := fun m ρ _ =>
  (θ_run Cert.MemKvReferenceIdeal.defs _ _).mono (fun r h => ⟨fun c => (h c).2.2.2,
      Idealize.ShloMosaic.sem_eq_zero_of_no_sems (by decide) r.2⟩)
    (Cert.MemKvReferenceIdeal.Value.run (F := Ideal) m ρ)

/-- Each named constant of the prompt kernel is the value its name is given. -/
theorem preserves : Cert.preserves_Kernel_KernelIdeal :=
  ⟨IdealRules.named_const.statement Cert.KernelIdeal.κ "mem_scale" .f32 0x3E0293EE#32 _ rfl,
    IdealRules.named_const.statement Cert.KernelIdeal.κ "swa_scale" .f32 0x3E38AA3B#32 _ rfl,
    IdealRules.named_const.statement Cert.KernelIdeal.κ "log2e" .f32 0x3FB8AA3B#32 _ rfl⟩

end Cert.Proof

end
-- ==== Proof.MemKv.lean ====
module

public import proofs.«01_k».proof.Proof.Gen.MemKvIdeal.Value
public import proofs.«01_k».proof.Proof.Gen.MemKvReferenceIdeal.Read
public import Idealize.ShloMosaic.Lib.Pipeline.ValueKit

@[expose] public section

/-! The memory projection: each layer's rows times that layer's weights, read at an index. -/

set_option maxRecDepth 16384

noncomputable section
open Idealize.ShloMosaic Idealize.ShloMosaic.TcCoe Idealize.SL.Sem
open Idealize.ShloMosaic.Pipeline (Dat)

namespace Cert.MemKvIdeal.Value
open Cert.MemKvIdeal Cert.MemKvIdeal.Gen
variable (m : (ℓ : Loc nD τ sig) → Buf (Elt Ideal) ℓ)

/-- Where each window's block sits at a grid point: the point is the layer. -/
theorem idx : ∀ t : Fin cfg0.N, win0_0.index t = ![0, 0] ∧ win0_1.index t = ![t.val, 0, 0]
    ∧ win0_2.index t = ![t.val, 0, 0, 0] ∧ win0_3.index t = ![t.val, 0, 0, 0] ∧ win0_4.index t = ![t.val, 0, 0] ∧ t.val < 2 :=
  (by decide +kernel : ∀ t : Fin grid0.N, _)

/-- What a layer's grid point computes: the memory rows times that layer's weights. -/
theorem prod_at (c : Dev nD) (t : Fin cfg0.N) (r : Fin 512) (e : Fin 1024) :
    k0_pay5 (View.ld (iblk m c 0 t) r0_0) (View.ld (iblk m c 1 t) r0_1) (ValueIdx.ix2 r e)
      = Cert.MemKvReferenceIdeal.Read.val_main_v1 (F := Ideal) (m ((c : Thread nD τ).loc main_arg0)) (m ((c : Thread nD τ).loc main_arg1))
          (ValueIdx.ix4 ⟨t.val, (idx t).2.2.2.2.2⟩ ⟨r.val / 256, by omega⟩ ⟨r.val % 256, by omega⟩ e) := by
  have e0 : View.ld (iblk m c 0 t) r0_0 = (iblk m c 0 t : FVec Ideal S512x1024 .bf16) := View.ld_unit_lit _ _ (fun a => by fin_cases a <;> rfl)
  have e1 : View.ld (iblk m c 1 t) r0_1 = (iblk m c 1 t : FVec Ideal S1x1024x1024 .bf16) := View.ld_unit_lit _ _ (fun a => by fin_cases a <;> rfl)
  rw [e0, e1]
  pointwise [k0_pay5, Cert.MemKvReferenceIdeal.Read.val_main_v1, Cert.MemKvReferenceIdeal.Read.val_main_v0]
  refine Finset.sum_congr rfl fun k _ => (mul_comm _ _).trans ?_
  blk_point [iblk, V, idx t]
  exact Nat.add_zero _

/-- The key rows after the run are the reference's key rows. -/
theorem final2 (c : Dev nD) : (dats m 0 c).arrAt 2 (cfgs 0).N
    = Cert.MemKvReferenceIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold_out out0_2
  refine (canon2_eq (F := Ideal) _ _ y).trans ?_
  show k0_pay5 _ _ (ix2_0 y) = _
  rw [ValueIdx.eq_ix2 (ix2_0 y)]
  refine (prod_at m c t _ _).trans ?_
  pointwise [Cert.MemKvReferenceIdeal.Read.val_main_v3, Cert.MemKvReferenceIdeal.Read.val_main_v2]
  blk_ext [idx t]

/-- The value rows after the run are the reference's value rows. -/
theorem final3 (c : Dev nD) : (dats m 0 c).arrAt 3 (cfgs 0).N
    = Cert.MemKvReferenceIdeal.Read.val_main_v5 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold_out out0_3
  refine (canon3_eq (F := Ideal) _ _ y).trans ?_
  show k0_pay5 _ _ (ix3_0 y) = _
  rw [ValueIdx.eq_ix2 (ix3_0 y)]
  refine (prod_at m c t _ _).trans ?_
  pointwise [Cert.MemKvReferenceIdeal.Read.val_main_v5, Cert.MemKvReferenceIdeal.Read.val_main_v4]
  blk_ext [idx t]

/-- The joint rows after the run are the reference's joint rows. -/
theorem final4 (c : Dev nD) : (dats m 0 c).arrAt 4 (cfgs 0).N
    = Cert.MemKvReferenceIdeal.Read.val_main_v7 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  unfold_out out0_4
  refine (canon4_eq (F := Ideal) _ _ y).trans ?_
  show k0_pay5 _ _ (ix4_0 y) = _
  rw [ValueIdx.eq_ix2 (ix4_0 y)]
  refine (prod_at m c t _ _).trans ?_
  pointwise [Cert.MemKvReferenceIdeal.Read.val_main_v7, Cert.MemKvReferenceIdeal.Read.val_main_v6]
  blk_ext [idx t]

end Cert.MemKvIdeal.Value
-- ==== Proof.MemClaim.lean ====
/- The memory projection's value claim. -/
module

public import proofs.«01_k».proof.Defs
public import proofs.«01_k».proof.Proof.MemKv
public import proofs.«01_k».proof.Proof.Gen.MemKvReferenceIdeal.Run

@[expose] public section

set_option maxRecDepth 16384

noncomputable section

namespace Cert.Proof

open Idealize.ShloMosaic Idealize.SL.Sem

/-- At the exact numbers the memory projection kernel and its reference leave the same three arrays. -/
theorem algebraic_mem : Cert.algebraic_MemKvIdeal_MemKvReferenceIdeal := by
  pair_intro
  · run_from Cert.MemKvIdeal.Value.run_blocks m g
  · run_from Cert.MemKvReferenceIdeal.Value.run m' g'
    · exact (Cert.MemKvIdeal.Value.final2 m c).symm
    · exact (Cert.MemKvIdeal.Value.final3 m c).symm
    · exact (Cert.MemKvIdeal.Value.final4 m c).symm

end Cert.Proof

end
-- ==== Proof.Body.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

/-! # What one step of the trunk kernel computes

One grid step reads a tile of 256 positions, the constant tables and weights, and the rows the step
before it left in the five scratch buffers. The definitions below name the parts of that step in
the order the kernel's function computes them, so that each part is written and reasoned about
once however many times the function repeats it. -/

noncomputable section

namespace Cert.KernelIdeal.Trunk

open Idealize.ShloMosaic Idealize.ShloMosaic.TcCoe Idealize.SL.Sem
open Idealize.ShloMosaic.Pipeline (Dat)
open Cert.KernelIdeal Cert.KernelIdeal.Gen

variable {F : FTy → Type} [FloatOps F] [Named F]

/-- The elements of a tensor at a rectangle. -/
abbrev kLd {S : Shape} {f : FTy} (X : FVec F S f) (r : Rect S) : FVec F r.shape f := fun x => X (r.idx x)

/-- A rectangle of a shape with three axes lies inside it when it does on each axis. -/
theorem inb3 {a b c : ℕ} {o0 o1 o2 n0 n1 n2 : ℕ} (h0 : o0 + n0 ≤ a) (h1 : o1 + n1 ≤ b) (h2 : o2 + n2 ≤ c) :
    ∀ x, (![o0, o1, o2] : Fin 3 → ℕ) x + (⟨3, ![n0, n1, n2]⟩ : Shape).size x ≤ (⟨3, ![a, b, c]⟩ : Shape).size x :=
  fun x => match x with
    | ⟨0, _⟩ => h0
    | ⟨1, _⟩ => h1
    | ⟨2, _⟩ => h2

/-- A rectangle of a shape with four axes lies inside it when it does on each axis. -/
theorem inb4 {a b c d : ℕ} {o0 o1 o2 o3 n0 n1 n2 n3 : ℕ} (h0 : o0 + n0 ≤ a) (h1 : o1 + n1 ≤ b) (h2 : o2 + n2 ≤ c)
    (h3 : o3 + n3 ≤ d) :
    ∀ x, (![o0, o1, o2, o3] : Fin 4 → ℕ) x + (⟨4, ![n0, n1, n2, n3]⟩ : Shape).size x ≤ (⟨4, ![a, b, c, d]⟩ : Shape).size x :=
  fun x => match x with
    | ⟨0, _⟩ => h0
    | ⟨1, _⟩ => h1
    | ⟨2, _⟩ => h2
    | ⟨3, _⟩ => h3

/-- A rectangle of a shape with two axes lies inside it when it does on each axis. -/
theorem inb2 {a b : ℕ} {o0 o1 n0 n1 : ℕ} (h0 : o0 + n0 ≤ a) (h1 : o1 + n1 ≤ b) :
    ∀ x, (![o0, o1] : Fin 2 → ℕ) x + (⟨2, ![n0, n1]⟩ : Shape).size x ≤ (⟨2, ![a, b]⟩ : Shape).size x :=
  fun x => match x with
    | ⟨0, _⟩ => h0
    | ⟨1, _⟩ => h1

/-- The mean over the 1024 channels of each row, kept as a column. -/
def kMean (X : FVec F S256x1024 .f32) : FVec F S256x1 .f32 :=
  divf (shapeCast S256x1 (multiReduction .add [1] S256 X 0x00000000#32 reduces_S256x1024_S256 (.inl rfl) rfl) shapeCasts_S256_S256x1)
    (broadcast S256x1 (Scalar.ofBits .f32 0x44800000#32))

/-- Rows scaled by the reciprocal root of a column plus `eps`. -/
def kScaleRsqrt (X : FVec F S256x1024 .f32) (M : FVec F S256x1 .f32) (eps : BitVec 32) : FVec F S256x1024 .f32 :=
  mulf X (broadcastTo S256x1024 (rsqrt (addf M (broadcast S256x1 (Scalar.ofBits .f32 eps)))) broadcasts_S256x1_S256x1024)

/-- The root-mean-square normalization with its gain row. -/
def kRms (X : FVec F S256x1024 .f32) (G : FVec F S1x1024 .f32) : FVec F S256x1024 .f32 :=
  mulf (kScaleRsqrt X (kMean (mulf X X)) 0x358637BD#32) (broadcastTo S256x1024 G broadcasts_S1x1024_S256x1024)

/-- Rows with their mean taken off. -/
def kCenter (X : FVec F S256x1024 .f32) : FVec F S256x1024 .f32 :=
  subf X (broadcastTo S256x1024 (kMean X) broadcasts_S256x1_S256x1024)

/-- The layer normalization with gain and bias rows. -/
def kLn (X : FVec F S256x1024 .f32) (G B : FVec F S1x1024 .f32) : FVec F S256x1024 .f32 :=
  addf (mulf (kScaleRsqrt (kCenter X) (kMean (mulf (kCenter X) (kCenter X))) 0x3727C5AC#32)
    (broadcastTo S256x1024 G broadcasts_S1x1024_S256x1024)) (broadcastTo S256x1024 B broadcasts_S1x1024_S256x1024)

/-- A value times its logistic. -/
def kSilu {S : Shape} (X : FVec F S .f32) : FVec F S .f32 := mulf X (logistic X)

/-- 1024 columns of the projection. -/
def kDot1024 (H : FVec F S256x1024 .bf16) (w : FVec F S1x1024x1024 .bf16) : FVec F S256x1024 .f32 :=
  matmul dot_S256x1024_S1024x1024_S256x1024_1_0_0_1_n_n none H (shapeCast S1024x1024 w shapeCasts_S1x1024x1024_S1024x1024)
    (constant S256x1024 .f32 0x00000000#32)

/-- 512 columns of the projection. -/
def kDot512 (H : FVec F S256x1024 .bf16) (w : FVec F S1x1024x512 .bf16) : FVec F S256x512 .f32 :=
  matmul dot_S256x1024_S1024x512_S256x512_1_0_0_1_n_n none H (shapeCast S1024x512 w shapeCasts_S1x1024x512_S1024x512)
    (constant S256x512 .f32 0x00000000#32)

/-- 256 columns of the projection. -/
def kDot256 (H : FVec F S256x1024 .bf16) (w : FVec F S1x1024x256 .bf16) : FVec F S256x256 .f32 :=
  matmul dot_S256x1024_S1024x256_S256x256_1_0_0_1_n_n none H (shapeCast S1024x256 w shapeCasts_S1x1024x256_S1024x256)
    (constant S256x256 .f32 0x00000000#32)

/-- 128 columns of the projection. -/
def kDot128 (H : FVec F S256x1024 .bf16) (w : FVec F S1x1024x128 .bf16) : FVec F S256x128 .f32 :=
  matmul dot_S256x1024_S1024x128_S256x128_1_0_0_1_n_n none H (shapeCast S1024x128 w shapeCasts_S1x1024x128_S1024x128)
    (constant S256x128 .f32 0x00000000#32)

/-- 256 columns of the gated input of the convolution. -/
def kGlu (H : FVec F S256x1024 .bf16) (wa wg : FVec F S1x1024x256 .bf16) : FVec F S1x256x256 .f32 :=
  shapeCast S1x256x256 (shapeCast S1x256x256 (mulf (kDot256 H wa) (logistic (kDot256 H wg))) shapeCasts_S256x256_S1x256x256)
    shapeCasts_S1x256x256_S1x256x256

/-- One tap of the convolution: shifted rows times a weight row. -/
def kTap {n : ℕ} (L : FVec F ⟨3, ![1, n, 256]⟩ .f32) (o : Fin 3 → ℕ) (hs : (⟨3, ![1, n, 256]⟩ : Shape).Slices o S1x256x256) (w : FVec F S1x1x256 .f32) : FVec F S1x256x256 .f32 :=
  mulf (extractStridedSlice S1x256x256 o L hs)
    (broadcastTo S1x256x256 (shapeCast S1x1x256 (shapeCast S1x256 w shapeCasts_S1x1x256_S1x256) shapeCasts_S1x256_S1x1x256)
      broadcasts_S1x1x256_S1x256x256)

/-- The weight row of tap `k` in the 256 columns from `c0`. -/
def kCw (cw : FVec F S1x31x1024 .f32) (k c0 : ℕ) (hk : k + 1 ≤ 31) (hc : c0 + 256 ≤ 1024) : FVec F S1x1x256 .f32 :=
  kLd cw (Rect.unit (s := S1x31x1024) ![0, k, c0] S1x1x256.size (inb3 (Nat.le_refl 1) hk hc))

/-- Four taps, eight rows apart, of the rows from `lo`. -/
def kPart4 (U : FVec F S1x288x1024 .f32) (cw : FVec F S1x31x1024 .f32) (lo k c0 : ℕ) (hl : lo + 280 ≤ 288) (hk : k + 24 + 1 ≤ 31)
    (hc : c0 + 256 ≤ 1024) : FVec F S1x256x256 .f32 :=
  let L : FVec F S1x280x256 .f32 := kLd U (Rect.unit (s := S1x288x1024) ![0, lo, c0] S1x280x256.size (inb3 (Nat.le_refl 1) hl hc))
  addf (addf (addf
    (kTap L ![0, 0, 0] slices_S1x280x256_o0_0_0_S1x256x256 (kCw cw k c0 (by omega) hc))
    (kTap L ![0, 8, 0] slices_S1x280x256_o0_8_0_S1x256x256 (kCw cw (k + 8) c0 (by omega) hc)))
    (kTap L ![0, 16, 0] slices_S1x280x256_o0_16_0_S1x256x256 (kCw cw (k + 16) c0 (by omega) hc)))
    (kTap L ![0, 24, 0] slices_S1x280x256_o0_24_0_S1x256x256 (kCw cw (k + 24) c0 (by omega) hc))

/-- Three taps, eight rows apart, of the rows from 9. -/
def kPart3 (U : FVec F S1x288x1024 .f32) (cw : FVec F S1x31x1024 .f32) (c0 : ℕ) (hc : c0 + 256 ≤ 1024) : FVec F S1x256x256 .f32 :=
  let L : FVec F S1x272x256 .f32 := kLd U (Rect.unit (s := S1x288x1024) ![0, 9, c0] S1x272x256.size (inb3 (Nat.le_refl 1) (by omega) hc))
  addf (addf
    (kTap L ![0, 0, 0] slices_S1x272x256_o0_0_0_S1x256x256 (kCw cw 7 c0 (by omega) hc))
    (kTap L ![0, 8, 0] slices_S1x272x256_o0_8_0_S1x256x256 (kCw cw 15 c0 (by omega) hc)))
    (kTap L ![0, 16, 0] slices_S1x272x256_o0_16_0_S1x256x256 (kCw cw 23 c0 (by omega) hc))

/-- 256 columns of the convolution with its bias. -/
def kConv (U : FVec F S1x288x1024 .f32) (cw : FVec F S1x31x1024 .f32) (cb : FVec F S1x1024 .f32) (c0 : ℕ) (hc : c0 + 256 ≤ 1024) :
    FVec F S256x256 .f32 :=
  shapeCast S256x256
    (addf (addf (addf (addf (addf (addf (addf (addf
      (broadcastTo S1x256x256 (shapeCast S1x1x256 (shapeCast S1x1x256
        (kLd cb (Rect.unit (s := S1x1024) ![0, c0] S1x256.size (inb2 (Nat.le_refl 1) hc)))
        shapeCasts_S1x256_S1x1x256) shapeCasts_S1x1x256_S1x1x256) broadcasts_S1x1x256_S1x256x256)
      (kPart4 U cw 8 6 c0 (by omega) (by omega) hc)) (kPart3 U cw c0 hc))
      (kPart4 U cw 2 0 c0 (by omega) (by omega) hc)) (kPart4 U cw 3 1 c0 (by omega) (by omega) hc))
      (kPart4 U cw 4 2 c0 (by omega) (by omega) hc)) (kPart4 U cw 5 3 c0 (by omega) (by omega) hc))
      (kPart4 U cw 6 4 c0 (by omega) (by omega) hc)) (kPart4 U cw 7 5 c0 (by omega) (by omega) hc))
    shapeCasts_S1x256x256_S256x256

/-- The scores of a memory head: scaled queries against the stored keys, 128 columns from `o`. -/
def kMemScore (Q : FVec F S256x512 .f32) (K : FVec F S256x512 .bf16) (o : Fin 2 → ℕ) (hs : S256x512.Slices o S256x128) : FVec F S256x256 .f32 :=
  matmul dot_S256x128_S256x128_S256x256_1_1_0_0_n_n none
    (truncf .bf16 (mulf (extractStridedSlice S256x128 o Q hs) (broadcast S256x128 (Named.named κ "mem_scale" 0x3E0293EE#32))) bitsLt_bf16_f32)
    (extractStridedSlice S256x128 o K hs) (constant S256x256 .f32 0x00000000#32)

/-- The powers of two of a memory head's scores less their row's largest. -/
def kMemP (Q : FVec F S256x512 .f32) (K : FVec F S256x512 .bf16) (o : Fin 2 → ℕ) (hs : S256x512.Slices o S256x128) : FVec F S256x256 .f32 :=
  exp2 (subf (kMemScore Q K o hs) (broadcastTo S256x256 (shapeCast S256x1 (multiReduction .maximumf [1] S256 (kMemScore Q K o hs)
    0xFF800000#32 reduces_S256x256_S256 (.inl rfl) rfl) shapeCasts_S256_S256x1) broadcasts_S256x1_S256x256))

/-- One head of the attention over the memory. -/
def kMemHead (Q : FVec F S256x512 .f32) (K V : FVec F S256x512 .bf16) (o : Fin 2 → ℕ) (hs : S256x512.Slices o S256x128) : FVec F S256x128 .f32 :=
  mulf (matmul dot_S256x256_S256x128_S256x128_1_0_0_1_n_n none (truncf .bf16 (kMemP Q K o hs) bitsLt_bf16_f32)
      (extractStridedSlice S256x128 o V hs) (constant S256x128 .f32 0x00000000#32))
    (broadcastTo S256x128 (divf (broadcast S256x1 (Scalar.ofBits .f32 0x3F800000#32))
      (shapeCast S256x1 (multiReduction .add [1] S256 (kMemP Q K o hs) 0x00000000#32 reduces_S256x256_S256 (.inl rfl) rfl)
        shapeCasts_S256_S256x1)) broadcasts_S256x1_S256x128)

/-- The attention over the memory: four heads side by side. -/
def kMem (Q : FVec F S256x512 .f32) (K V : FVec F S256x512 .bf16) : FVec F S256x512 .f32 :=
  concatenate S256x512 1 [⟨S256x128, kMemHead Q K V ![0, 0] slices_S256x512_o0_0_S256x128⟩,
    ⟨S256x128, kMemHead Q K V ![0, 128] slices_S256x512_o0_128_S256x128⟩,
    ⟨S256x128, kMemHead Q K V ![0, 256] slices_S256x512_o0_256_S256x128⟩,
    ⟨S256x128, kMemHead Q K V ![0, 384] slices_S256x512_o0_384_S256x128⟩]
    concatenates_S256x128_S256x128_S256x128_S256x128_S256x512_d1

/-- The residual of a half layer: the mixed rows beside the memory's rows, through the output weights. -/
def kOut (M : FVec F S256x1024 .f32) (XO : FVec F S256x512 .f32) (w : FVec F S1x1536x1024 .bf16) : FVec F S256x1024 .f32 :=
  matmul dot_S256x1536_S1536x1024_S256x1024_1_0_0_1_n_n none
    (concatenate S256x1536 1 [⟨S256x1024, truncf .bf16 M bitsLt_bf16_f32⟩, ⟨S256x512, truncf .bf16 XO bitsLt_bf16_f32⟩]
      concatenates_S256x1024_S256x512_S256x1536_d1)
    (shapeCast S1536x1024 w shapeCasts_S1x1536x1024_S1536x1024) (constant S256x1024 .f32 0x00000000#32)

/-- The lanes that hold the first half of a head. -/
def kFirstHalf : IVec S256x128 1 :=
  let s : BitVec 32 := Scalar.select (Scalar.cmpi .eq 64#32 0#32) 1#32 64#32
  let r : IVec S256x128 32 := remsi (iota .tc S256x128 32 [1] iota_S256x128_d1_w32) (broadcast S256x128 s)
  cmpi .slt
    (select (andi (xori (cmpi .slt r (broadcast S256x128 0#32))
        (broadcastTo S256x128 (broadcast S256x128 (Scalar.cmpi .slt s 0#32)) broadcasts_S256x128_S256x128))
        (cmpi .ne r (broadcast S256x128 0#32))) (addi r (broadcast S256x128 s)) r)
    (broadcast S256x128 32#32)

/-- The rotary embedding of 128 lanes with its two tables. -/
def kRope (X C Sn : FVec F S256x128 .f32) : FVec F S256x128 .f32 :=
  addf (mulf X C) (mulf (select kFirstHalf (dynamicRotate 1 96#32 none X rotates_S256x128_d1)
    (dynamicRotate 1 32#32 none X rotates_S256x128_d1)) Sn)

/-- The cosine table laid over 128 lanes. -/
def kCos (t : FVec F S32x256 .f32) : FVec F S256x128 .f32 :=
  let a : FVec F S32x256 .f32 := shapeCast S32x256 t shapeCasts_S32x256_S32x256
  transpose S256x128 [1, 0] (concatenate S128x256 0 [⟨S32x256, a⟩, ⟨S32x256, a⟩, ⟨S32x256, a⟩, ⟨S32x256, a⟩]
    concatenates_S32x256_S32x256_S32x256_S32x256_S128x256_d0) transposes_S128x256_p1_0_S256x128

/-- The sine table laid over 128 lanes, the first half of each head with its sign turned. -/
def kSin (t : FVec F S32x256 .f32) : FVec F S256x128 .f32 :=
  let a : FVec F S32x256 .f32 := shapeCast S32x256 t shapeCasts_S32x256_S32x256
  let n : FVec F S32x256 .f32 := subf (broadcast S32x256 (Scalar.ofBits .f32 0x00000000#32)) a
  transpose S256x128 [1, 0] (concatenate S128x256 0 [⟨S32x256, n⟩, ⟨S32x256, a⟩, ⟨S32x256, n⟩, ⟨S32x256, a⟩]
    concatenates_S32x256_S32x256_S32x256_S32x256_S128x256_d0) transposes_S128x256_p1_0_S256x128

/-- A table times the queries' scale. -/
def kScaled (t : FVec F S256x128 .f32) : FVec F S256x128 .f32 :=
  mulf t (broadcast S256x128 (Named.named κ "swa_scale" 0x3E38AA3B#32))

/-- The queries: the rotary embedding of eight blocks of 128 lanes. -/
def kQ (P : FVec F S256x1024 .f32) (C Sn : FVec F S256x128 .f32) : FVec F S256x1024 .f32 :=
  let b := fun (o : Fin 2 → ℕ) (hs : S256x1024.Slices o S256x128) => kRope (extractStridedSlice S256x128 o P hs) C Sn
  concatenate S256x1024 1 [⟨S256x128, b ![0, 0] slices_S256x1024_o0_0_S256x128⟩, ⟨S256x128, b ![0, 128] slices_S256x1024_o0_128_S256x128⟩,
    ⟨S256x128, b ![0, 256] slices_S256x1024_o0_256_S256x128⟩, ⟨S256x128, b ![0, 384] slices_S256x1024_o0_384_S256x128⟩,
    ⟨S256x128, b ![0, 512] slices_S256x1024_o0_512_S256x128⟩, ⟨S256x128, b ![0, 640] slices_S256x1024_o0_640_S256x128⟩,
    ⟨S256x128, b ![0, 768] slices_S256x1024_o0_768_S256x128⟩, ⟨S256x128, b ![0, 896] slices_S256x1024_o0_896_S256x128⟩]
    concatenates_S256x128_S256x128_S256x128_S256x128_S256x128_S256x128_S256x128_S256x128_S256x1024_d1

/-- The lanes of the first head of a pair. -/
def kLo : IVec S256x128 1 := cmpi .slt (iota .tc S256x128 32 [1] iota_S256x128_d1_w32) (broadcast S256x128 64#32)

/-- The lanes of the first head of a pair, over 64 rows. -/
def kLo64 : IVec S64x128 1 := cmpi .slt (iota .tc S64x128 32 [1] iota_S64x128_d1_w32) (broadcast S64x128 64#32)

/-- Zeros over a tile's rows and 128 lanes. -/
def kZero : FVec F S256x128 .f32 := broadcast S256x128 (Scalar.ofBits .f32 0x00000000#32)

/-- A row block as it is stored in a scratch of keys or values. -/
def kStored (X : FVec F S256x128 .f32) : FVec F S1x1x256x128 .bf16 :=
  shapeCast S1x1x256x128 (truncf .bf16 X bitsLt_bf16_f32) shapeCasts_S256x128_S1x1x256x128

/-- The two lanes' halves exchanged. -/
def kSwap (X : FVec F S256x128 .f32) : FVec F S256x128 .f32 := dynamicRotate 1 64#32 none X rotates_S256x128_d1

/-- The first key-value head over the low lanes. -/
def kFillA0 (X : FVec F S256x128 .f32) : FVec F S1x1x256x128 .bf16 := kStored (select kLo X kZero)
/-- The first key-value head over the high lanes. -/
def kFillB0 (X : FVec F S256x128 .f32) : FVec F S1x1x256x128 .bf16 := kStored (select kLo kZero (kSwap X))
/-- The second key-value head over the low lanes. -/
def kFillA1 (X : FVec F S256x128 .f32) : FVec F S1x1x256x128 .bf16 := kStored (select kLo (kSwap X) kZero)
/-- The second key-value head over the high lanes. -/
def kFillB1 (X : FVec F S256x128 .f32) : FVec F S1x1x256x128 .bf16 := kStored (select kLo kZero X)

/-- The sink of head `k`, scaled for powers of two. -/
def kSink (sk : FVec F S16 .f32) (k : ℕ) (hk : ∀ a, (![k] : Fin 1 → ℕ) a + S1.size a ≤ S16.size a) : F .f32 :=
  Scalar.mulf (kLd sk (Rect.unit (s := S16) ![k] S1.size hk) (Shape.Idx.first (numel1_S1 ▸ Nat.one_pos))) (Named.named κ "log2e" 0x3FB8AA3B#32)

/-- The largest of a head's scores and its sink. -/
def kMax (S : FVec F S256x192 .f32) (o : Fin 2 → ℕ) (hs : S256x192.Slices o S64x192) (s : F .f32) : FVec F S64x1 .f32 :=
  maximumf (shapeCast S64x1 (multiReduction .maximumf [1] S64 (extractStridedSlice S64x192 o S hs) 0xFF800000#32
    reduces_S64x192_S64 (.inl rfl) rfl) shapeCasts_S64_S64x1) (broadcast S64x1 s)

/-- A head's powers of two. -/
def kP (S : FVec F S256x192 .f32) (o : Fin 2 → ℕ) (hs : S256x192.Slices o S64x192) (s : F .f32) : FVec F S64x192 .f32 :=
  exp2 (subf (extractStridedSlice S64x192 o S hs) (broadcastTo S64x192 (kMax S o hs s) broadcasts_S64x1_S64x192))

/-- The reciprocal of a head's denominator. -/
def kInv (S : FVec F S256x192 .f32) (o : Fin 2 → ℕ) (hs : S256x192.Slices o S64x192) (s : F .f32) : FVec F S64x128 .f32 :=
  broadcastTo S64x128 (shapeCast S64x1 (divf (broadcast S64x1 (Scalar.ofBits .f32 0x3F800000#32))
    (addf (shapeCast S64x1 (multiReduction .add [1] S64 (kP S o hs s) 0x00000000#32 reduces_S64x192_S64 (.inl rfl) rfl) shapeCasts_S64_S64x1)
      (exp2 (subf (broadcast S64x1 s) (kMax S o hs s))))) shapeCasts_S64x1_S64x1) broadcasts_S64x1_S64x128

/-- Four heads' powers of two, one under the other. -/
def kProbs (S : FVec F S256x192 .f32) (s0 s1 s2 s3 : F .f32) : FVec F S256x192 .bf16 :=
  concatenate S256x192 0 [⟨S64x192, truncf .bf16 (kP S ![0, 0] slices_S256x192_o0_0_S64x192 s0) bitsLt_bf16_f32⟩,
    ⟨S64x192, truncf .bf16 (kP S ![64, 0] slices_S256x192_o64_0_S64x192 s1) bitsLt_bf16_f32⟩,
    ⟨S64x192, truncf .bf16 (kP S ![128, 0] slices_S256x192_o128_0_S64x192 s2) bitsLt_bf16_f32⟩,
    ⟨S64x192, truncf .bf16 (kP S ![192, 0] slices_S256x192_o192_0_S64x192 s3) bitsLt_bf16_f32⟩]
    concatenates_S64x192_S64x192_S64x192_S64x192_S256x192_d0

/-- Both parities' weighted values of four pairs of heads. -/
def kPairs (Se So : FVec F S256x192 .f32) (va vb : FVec F S1x1x192x128 .bf16) (e0 e1 e2 e3 o0 o1 o2 o3 : F .f32) : FVec F S256x128 .f32 :=
  addf (matmul dot_S256x192_S192x128_S256x128_1_0_0_1_n_n none (kProbs Se e0 e1 e2 e3)
      (shapeCast S192x128 va shapeCasts_S1x1x192x128_S192x128) (constant S256x128 .f32 0x00000000#32))
    (matmul dot_S256x192_S192x128_S256x128_1_0_0_1_n_n none (kProbs So o0 o1 o2 o3)
      (shapeCast S192x128 vb shapeCasts_S1x1x192x128_S192x128) (constant S256x128 .f32 0x00000000#32))

/-- One pair of heads of a chunk: the weighted values over the denominators. -/
def kPair (Se So : FVec F S256x192 .f32) (O : FVec F S256x128 .f32) (o : Fin 2 → ℕ) (hs : S256x192.Slices o S64x192) (ho : S256x128.Slices o S64x128)
    (e d : F .f32) : FVec F S64x128 .f32 :=
  mulf (extractStridedSlice S64x128 o O ho) (select kLo64 (kInv Se o hs e) (kInv So o hs d))

/-- The queries of one key-value head's four pairs, one under the other. -/
def kQs (Q : FVec F S64x1024 .f32) (c0 c1 c2 c3 : Fin 2 → ℕ) (h0 : S64x1024.Slices c0 S64x128) (h1 : S64x1024.Slices c1 S64x128)
    (h2 : S64x1024.Slices c2 S64x128) (h3 : S64x1024.Slices c3 S64x128) : FVec F S256x128 .bf16 :=
  truncf .bf16 (concatenate S256x128 0 [⟨S64x128, extractStridedSlice S64x128 c0 Q h0⟩, ⟨S64x128, extractStridedSlice S64x128 c1 Q h1⟩,
    ⟨S64x128, extractStridedSlice S64x128 c2 Q h2⟩, ⟨S64x128, extractStridedSlice S64x128 c3 Q h3⟩]
    concatenates_S64x128_S64x128_S64x128_S64x128_S256x128_d0) bitsLt_bf16_f32

/-- The scores of four heads against 192 keys. -/
def kScore (Qs : FVec F S256x128 .bf16) (k : FVec F S1x1x192x128 .bf16) : FVec F S256x192 .f32 :=
  matmul dot_S256x128_S192x128_S256x192_1_1_0_0_n_n none Qs (shapeCast S192x128 k shapeCasts_S1x1x192x128_S192x128)
    (constant S256x192 .f32 0x00000000#32)

/-- The bias that hides the keys before the sequence's start. -/
def kBias (tile : BitVec 32) (n : BitVec 32) : FVec F S256x192 .f32 :=
  broadcastTo S256x192 (select (cmpi .sge (iota .tc S1x192 32 [1] iota_S1x192_d1_w32)
      (broadcast S1x192 (Scalar.select (Scalar.cmpi .eq tile 0#32) n 0#32)))
    (broadcast S1x192 (Scalar.ofBits .f32 0x00000000#32)) (broadcast S1x192 (Scalar.ofBits .f32 0xFF800000#32))) broadcasts_S1x192_S256x192

/-- 192 rows from `r` of head `h` of a scratch of keys or values. -/
def kRows (K : FVec F S2x1x384x128 .bf16) (h r : ℕ) (hh : h + 1 ≤ 2) (hr : r + 192 ≤ 384) : FVec F S1x1x192x128 .bf16 :=
  kLd K (Rect.unit (s := S2x1x384x128) ![h, 0, r, 0] S1x1x192x128.size (inb4 hh (Nat.le_refl 1) hr (Nat.le_refl 128)))

/-- One chunk of 64 positions: sixteen heads, given each key-value head's two score blocks. -/
def kChunkOf (Se0 So0 Se1 So1 : FVec F S256x192 .f32) (VA VB : FVec F S2x1x384x128 .bf16) (sk : FVec F S16 .f32) (r : ℕ) (hr : r + 192 ≤ 384) :
    FVec F S64x1024 .f32 :=
  let O0 := kPairs Se0 So0 (kRows VA 0 r (by omega) hr) (kRows VB 0 r (by omega) hr)
    (kSink sk 0 inb_S16_S1_0) (kSink sk 2 inb_S16_S1_2) (kSink sk 4 inb_S16_S1_4) (kSink sk 6 inb_S16_S1_6)
    (kSink sk 1 inb_S16_S1_1) (kSink sk 3 inb_S16_S1_3) (kSink sk 5 inb_S16_S1_5) (kSink sk 7 inb_S16_S1_7)
  let O1 := kPairs Se1 So1 (kRows VA 1 r (by omega) hr) (kRows VB 1 r (by omega) hr)
    (kSink sk 8 inb_S16_S1_8) (kSink sk 10 inb_S16_S1_10) (kSink sk 12 inb_S16_S1_12) (kSink sk 14 inb_S16_S1_14)
    (kSink sk 9 inb_S16_S1_9) (kSink sk 11 inb_S16_S1_11) (kSink sk 13 inb_S16_S1_13) (kSink sk 15 inb_S16_S1_15)
  concatenate S64x1024 1 [
    ⟨S64x128, kPair Se0 So0 O0 ![0, 0] slices_S256x192_o0_0_S64x192 slices_S256x128_o0_0_S64x128 (kSink sk 0 inb_S16_S1_0) (kSink sk 1 inb_S16_S1_1)⟩,
    ⟨S64x128, kPair Se0 So0 O0 ![64, 0] slices_S256x192_o64_0_S64x192 slices_S256x128_o64_0_S64x128 (kSink sk 2 inb_S16_S1_2) (kSink sk 3 inb_S16_S1_3)⟩,
    ⟨S64x128, kPair Se0 So0 O0 ![128, 0] slices_S256x192_o128_0_S64x192 slices_S256x128_o128_0_S64x128 (kSink sk 4 inb_S16_S1_4) (kSink sk 5 inb_S16_S1_5)⟩,
    ⟨S64x128, kPair Se0 So0 O0 ![192, 0] slices_S256x192_o192_0_S64x192 slices_S256x128_o192_0_S64x128 (kSink sk 6 inb_S16_S1_6) (kSink sk 7 inb_S16_S1_7)⟩,
    ⟨S64x128, kPair Se1 So1 O1 ![0, 0] slices_S256x192_o0_0_S64x192 slices_S256x128_o0_0_S64x128 (kSink sk 8 inb_S16_S1_8) (kSink sk 9 inb_S16_S1_9)⟩,
    ⟨S64x128, kPair Se1 So1 O1 ![64, 0] slices_S256x192_o64_0_S64x192 slices_S256x128_o64_0_S64x128 (kSink sk 10 inb_S16_S1_10) (kSink sk 11 inb_S16_S1_11)⟩,
    ⟨S64x128, kPair Se1 So1 O1 ![128, 0] slices_S256x192_o128_0_S64x192 slices_S256x128_o128_0_S64x128 (kSink sk 12 inb_S16_S1_12) (kSink sk 13 inb_S16_S1_13)⟩,
    ⟨S64x128, kPair Se1 So1 O1 ![192, 0] slices_S256x192_o192_0_S64x192 slices_S256x128_o192_0_S64x128 (kSink sk 14 inb_S16_S1_14) (kSink sk 15 inb_S16_S1_15)⟩]
    concatenates_S64x128_S64x128_S64x128_S64x128_S64x128_S64x128_S64x128_S64x128_S64x1024_d1

/-- The queries of the first key-value head's pairs. -/
def kQs0 (Q : FVec F S64x1024 .f32) : FVec F S256x128 .bf16 :=
  kQs Q ![0, 0] ![0, 128] ![0, 256] ![0, 384] slices_S64x1024_o0_0_S64x128 slices_S64x1024_o0_128_S64x128
    slices_S64x1024_o0_256_S64x128 slices_S64x1024_o0_384_S64x128
/-- The queries of the second key-value head's pairs. -/
def kQs1 (Q : FVec F S64x1024 .f32) : FVec F S256x128 .bf16 :=
  kQs Q ![0, 512] ![0, 640] ![0, 768] ![0, 896] slices_S64x1024_o0_512_S64x128 slices_S64x1024_o0_640_S64x128
    slices_S64x1024_o0_768_S64x128 slices_S64x1024_o0_896_S64x128

/-- A chunk whose keys may lie before the sequence's start. -/
def kChunkB (Q : FVec F S64x1024 .f32) (B : FVec F S256x192 .f32) (KA KB VA VB : FVec F S2x1x384x128 .bf16) (sk : FVec F S16 .f32) (r : ℕ)
    (hr : r + 192 ≤ 384) : FVec F S64x1024 .f32 :=
  kChunkOf (addf (kScore (kQs0 Q) (kRows KA 0 r (by omega) hr)) B) (addf (kScore (kQs0 Q) (kRows KB 0 r (by omega) hr)) B)
    (addf (kScore (kQs1 Q) (kRows KA 1 r (by omega) hr)) B) (addf (kScore (kQs1 Q) (kRows KB 1 r (by omega) hr)) B) VA VB sk r hr

/-- A chunk whose keys all lie in this tile. -/
def kChunkN (Q : FVec F S64x1024 .f32) (KA KB VA VB : FVec F S2x1x384x128 .bf16) (sk : FVec F S16 .f32) (r : ℕ)
    (hr : r + 192 ≤ 384) : FVec F S64x1024 .f32 :=
  kChunkOf (kScore (kQs0 Q) (kRows KA 0 r (by omega) hr)) (kScore (kQs0 Q) (kRows KB 0 r (by omega) hr))
    (kScore (kQs1 Q) (kRows KA 1 r (by omega) hr)) (kScore (kQs1 Q) (kRows KB 1 r (by omega) hr)) VA VB sk r hr

/-- The windowed attention of a tile: four chunks. -/
def kSwa (tile : BitVec 32) (Q : FVec F S256x1024 .f32) (KA KB VA VB KA' KB' VA' VB' : FVec F S2x1x384x128 .bf16) (sk : FVec F S16 .f32) :
    FVec F S256x1024 .f32 :=
  concatenate S256x1024 0 [
    ⟨S64x1024, kChunkB (extractStridedSlice S64x1024 ![0, 0] Q slices_S256x1024_o0_0_S64x1024) (kBias tile 128#32) KA KB VA VB sk 0 (by omega)⟩,
    ⟨S64x1024, kChunkB (extractStridedSlice S64x1024 ![64, 0] Q slices_S256x1024_o64_0_S64x1024) (kBias tile 64#32) KA KB VA VB sk 64 (by omega)⟩,
    ⟨S64x1024, kChunkN (extractStridedSlice S64x1024 ![128, 0] Q slices_S256x1024_o128_0_S64x1024) KA' KB' VA' VB' sk 128 (by omega)⟩,
    ⟨S64x1024, kChunkN (extractStridedSlice S64x1024 ![192, 0] Q slices_S256x1024_o192_0_S64x1024) KA' KB' VA' VB' sk 192 (by omega)⟩]
    concatenates_S64x1024_S64x1024_S64x1024_S64x1024_S256x1024_d0

/-- The windows a step reads. -/
structure Win (F : FTy → Type) where
  w0 : FVec F S16 .f32
  w1 : FVec F S1x256x1024 .f32
  w2 : FVec F S32x256 .f32
  w3 : FVec F S32x256 .f32
  w4 : FVec F S1x1x30x1024 .f32
  w5 : FVec F S1x1x128x128 .f32
  w6 : FVec F S1x1x128x128 .f32
  w7 : FVec F S2x1x256x512 .bf16
  w8 : FVec F S2x1x256x512 .bf16
  w9 : FVec F S2x1024 .f32
  w10 : FVec F S1x1024x4224 .bf16
  w11 : FVec F S1x31x1024 .f32
  w12 : FVec F S1x1024 .f32
  w13 : FVec F S1x1024 .f32
  w14 : FVec F S1x1024 .f32
  w15 : FVec F S1x1024x3328 .bf16
  w16 : FVec F S2x1536x1152 .bf16
  w17 : FVec F S1x1024 .f32

/-- `n` columns from `c` of the convolution half's input weights. -/
def kWc (w : FVec F S1x1024x4224 .bf16) (c n : ℕ) (h : c + n ≤ 4224) : FVec F ⟨3, ![1, 1024, n]⟩ .bf16 :=
  kLd w (Rect.unit (s := S1x1024x4224) ![0, 0, c] (⟨3, ![1, 1024, n]⟩ : Shape).size (inb3 (Nat.le_refl 1) (Nat.le_refl 1024) h))
/-- `n` columns from `c` of the attention half's input weights. -/
def kWa (w : FVec F S1x1024x3328 .bf16) (c n : ℕ) (h : c + n ≤ 3328) : FVec F ⟨3, ![1, 1024, n]⟩ .bf16 :=
  kLd w (Rect.unit (s := S1x1024x3328) ![0, 0, c] (⟨3, ![1, 1024, n]⟩ : Shape).size (inb3 (Nat.le_refl 1) (Nat.le_refl 1024) h))
/-- A layer's output weights. -/
def kWo (w : FVec F S2x1536x1152 .bf16) (l : ℕ) (h : l + 1 ≤ 2) : FVec F S1x1536x1024 .bf16 :=
  kLd w (Rect.unit (s := S2x1536x1152) ![l, 0, 0] S1x1536x1024.size (inb3 h (Nat.le_refl 1536) (by omega)))
/-- A layer's memory keys or values. -/
def kMk (w : FVec F S2x1x256x512 .bf16) (l : ℕ) (h : l + 1 ≤ 2) : FVec F S256x512 .bf16 :=
  shapeCast S256x512 (kLd w (Rect.unit (s := S2x1x256x512) ![l, 0, 0, 0] S1x1x256x512.size
    (inb4 h (Nat.le_refl 1) (Nat.le_refl 256) (Nat.le_refl 512)))) shapeCasts_S1x1x256x512_S256x512
/-- A layer's gain row. -/
def kNg (w : FVec F S2x1024 .f32) (l : ℕ) (h : l + 1 ≤ 2) : FVec F S1x1024 .f32 :=
  kLd w (Rect.unit (s := S2x1024) ![l, 0] S1x1024.size (inb2 h (Nat.le_refl 1024)))
/-- A row of 1024 read whole. -/
def kRow (w : FVec F S1x1024 .f32) : FVec F S1x1024 .f32 :=
  kLd w (Rect.unit (s := S1x1024) ![0, 0] S1x1024.size (inb2 (Nat.le_refl 1) (Nat.le_refl 1024)))
/-- A rotary table read whole. -/
def kTab (w : FVec F S32x256 .f32) : FVec F S32x256 .f32 :=
  kLd w (Rect.unit (s := S32x256) ![0, 0] S32x256.size (inb2 (Nat.le_refl 32) (Nat.le_refl 256)))
/-- The tile's rows of the residual stream. -/
def kX (w : FVec F S1x256x1024 .f32) : FVec F S256x1024 .f32 :=
  shapeCast S256x1024 (kLd w (Rect.unit (s := S1x256x1024) ![0, 0, 0] S1x256x1024.size
    (inb3 (Nat.le_refl 1) (Nat.le_refl 256) (Nat.le_refl 1024)))) shapeCasts_S1x256x1024_S256x1024

/-- The convolution half's normalized rows. -/
def kH (W : Win F) : FVec F S256x1024 .bf16 := truncf .bf16 (kRms (kX W.w1) (kNg W.w9 0 (by omega))) bitsLt_bf16_f32

/-- The 256 columns from `c0` of the gated input. -/
def kU (W : Win F) (c0 : ℕ) (hc : c0 + 256 ≤ 1024) : FVec F S1x256x256 .f32 :=
  kGlu (kH W) (kWc W.w10 c0 256 (by omega)) (kWc W.w10 (1024 + c0) 256 (by omega))

/-- The residual stream after the convolution half, given the convolution's inputs block by block. -/
def kX1 (W : Win F) (U0 U1 U2 U3 : FVec F S1x288x1024 .f32) : FVec F S256x1024 .f32 :=
  let C : FVec F S256x1024 .f32 := concatenate S256x1024 1 [⟨S256x256, kConv U0 W.w11 W.w12 0 (by omega)⟩,
    ⟨S256x256, kConv U1 W.w11 W.w12 256 (by omega)⟩, ⟨S256x256, kConv U2 W.w11 W.w12 512 (by omega)⟩,
    ⟨S256x256, kConv U3 W.w11 W.w12 768 (by omega)⟩] concatenates_S256x256_S256x256_S256x256_S256x256_S256x1024_d1
  let M := mulf (kSilu (kLn C (kRow W.w13) (kRow W.w14))) (kSilu (kDot1024 (kH W) (kWc W.w10 2048 1024 (by omega))))
  let XO := mulf (kMem (kDot512 (kH W) (kWc W.w10 3072 512 (by omega))) (kMk W.w7 0 (by omega)) (kMk W.w8 0 (by omega)))
    (kSilu (kDot512 (kH W) (kWc W.w10 3584 512 (by omega))))
  addf (kX W.w1) (kOut M XO (kWo W.w16 0 (by omega)))

/-- The attention half's normalized rows. -/
def kH2 (W : Win F) (X1 : FVec F S256x1024 .f32) : FVec F S256x1024 .bf16 := truncf .bf16 (kRms X1 (kNg W.w9 1 (by omega))) bitsLt_bf16_f32

/-- The tile's keys. -/
def kK (W : Win F) (X1 : FVec F S256x1024 .f32) : FVec F S256x128 .f32 :=
  kRope (kDot128 (kH2 W X1) (kWa W.w15 1024 128 (by omega))) (kCos (kTab W.w2)) (kSin (kTab W.w3))

/-- The tile's values. -/
def kV (W : Win F) (X1 : FVec F S256x1024 .f32) : FVec F S256x128 .f32 := kDot128 (kH2 W X1) (kWa W.w15 1152 128 (by omega))

/-- The tile's queries. -/
def kQW (W : Win F) (X1 : FVec F S256x1024 .f32) : FVec F S256x1024 .f32 :=
  kQ (kDot1024 (kH2 W X1) (kWa W.w15 0 1024 (by omega))) (kScaled (kCos (kTab W.w2))) (kScaled (kSin (kTab W.w3)))

/-- The residual stream after the attention half. -/
def kX2 (W : Win F) (X1 O : FVec F S256x1024 .f32) : FVec F S256x1024 .f32 :=
  addf X1 (kOut (mulf O (kSilu (kDot1024 (kH2 W X1) (kWa W.w15 1280 1024 (by omega)))))
    (mulf (kMem (kDot512 (kH2 W X1) (kWa W.w15 2304 512 (by omega))) (kMk W.w7 1 (by omega)) (kMk W.w8 1 (by omega)))
      (kSilu (kDot512 (kH2 W X1) (kWa W.w15 2816 512 (by omega))))) (kWo W.w16 1 (by omega)))

/-- The step's result rows. -/
def kY (W : Win F) (X1 O : FVec F S256x1024 .f32) : FVec F S1x256x1024 .f32 :=
  shapeCast S1x256x1024 (kRms (kX2 W X1 O) (shapeCast S1x1024 (kRow W.w17) shapeCasts_S1x1024_S1x1024)) shapeCasts_S256x1024_S1x256x1024

/-- A piece of the convolution's input: 256 columns of the tile's rows, after the 32 rows of history. -/
abbrev kUPiece (W : Win F) (c0 : ℕ) (hc : c0 + 256 ≤ 1024) : View.Piece (Elt F) S1x288x1024 .f32 :=
  ⟨Rect.unit (s := S1x288x1024) ![0, 32, c0] S1x256x256.size (inb3 (Nat.le_refl 1) (Nat.le_refl 288) hc), kU W c0 hc⟩

/-- What the scratch of the convolution's input holds once the first block is in. -/
def kUs0 (W : Win F) (L : List (View.Piece (Elt F) S1x288x1024 .f32)) := kUPiece W 0 (by omega) :: L
/-- … once the second is in. -/
def kUs1 (W : Win F) (L : List (View.Piece (Elt F) S1x288x1024 .f32)) := kUPiece W 256 (by omega) :: kUs0 W L
/-- … once the third is in. -/
def kUs2 (W : Win F) (L : List (View.Piece (Elt F) S1x288x1024 .f32)) := kUPiece W 512 (by omega) :: kUs1 W L
/-- … once all four are in. -/
def kUs3 (W : Win F) (L : List (View.Piece (Elt F) S1x288x1024 .f32)) := kUPiece W 768 (by omega) :: kUs2 W L

/-- A scratch of keys or values once the tile's rows are in, head by head. -/
def kFill (X0 X1 : FVec F S1x1x256x128 .bf16) (L : List (View.Piece (Elt F) S2x1x384x128 .bf16)) : List (View.Piece (Elt F) S2x1x384x128 .bf16) :=
  ⟨Rect.unit (s := S2x1x384x128) ![1, 0, 128, 0] S1x1x256x128.size (inb4 (Nat.le_refl 2) (Nat.le_refl 1) (Nat.le_refl 384) (Nat.le_refl 128)), X1⟩ ::
  ⟨Rect.unit (s := S2x1x384x128) ![0, 0, 128, 0] S1x1x256x128.size (inb4 (by omega) (Nat.le_refl 1) (Nat.le_refl 384) (Nat.le_refl 128)), X0⟩ :: L

/-- What is read of a buffer after some stores. -/
abbrev kRd {S : Shape} {e : EltTy} (v : View sig .tc .vmem S e) (f : v.ty.Contents (Elt F)) (L : List (View.Piece (Elt F) S e)) : S.Idx → Elt F e :=
  v.read (Elt F) (v.writes (Elt F) f L)

/-- The residual stream after the convolution half, from what the scratch of its input held before. -/
def kX1' (W : Win F) (v : View sig .tc .vmem S1x288x1024 .f32) (f : v.ty.Contents (Elt F)) (L : List (View.Piece (Elt F) S1x288x1024 .f32)) :
    FVec F S256x1024 .f32 :=
  kX1 W (kRd v f (kUs0 W L)) (kRd v f (kUs1 W L)) (kRd v f (kUs2 W L)) (kRd v f (kUs3 W L))

/-- The windowed attention of a tile, from what the scratches of keys and values held before. -/
def kSwa' (W : Win F) (tile : BitVec 32) (X1 : FVec F S256x1024 .f32)
    (v1 v2 v3 v4 : View sig .tc .vmem S2x1x384x128 .bf16) (f1 g1 : v1.ty.Contents (Elt F)) (f2 g2 : v2.ty.Contents (Elt F))
    (f3 g3 : v3.ty.Contents (Elt F)) (f4 g4 : v4.ty.Contents (Elt F)) (L1 L2 L3 L4 : List (View.Piece (Elt F) S2x1x384x128 .bf16)) :
    FVec F S256x1024 .f32 :=
  kSwa tile (kQW W X1)
    (kRd v1 f1 (kFill (kFillA0 (kK W X1)) (kFillA1 (kK W X1)) L1)) (kRd v2 f2 (kFill (kFillB0 (kK W X1)) (kFillB1 (kK W X1)) L2))
    (kRd v3 f3 (kFill (kFillA0 (kV W X1)) (kFillA1 (kV W X1)) L3)) (kRd v4 f4 (kFill (kFillB0 (kV W X1)) (kFillB1 (kV W X1)) L4))
    (kRd v1 g1 (kFill (kFillA0 (kK W X1)) (kFillA1 (kK W X1)) L1)) (kRd v2 g2 (kFill (kFillB0 (kK W X1)) (kFillB1 (kK W X1)) L2))
    (kRd v3 g3 (kFill (kFillA0 (kV W X1)) (kFillA1 (kV W X1)) L3)) (kRd v4 g4 (kFill (kFillB0 (kV W X1)) (kFillB1 (kV W X1)) L4))
    W.w0

/-- The convolution's history, as it is stored before a sequence's first tile. -/
def kUHist (W : Win F) : List (View.Piece (Elt F) S1x288x1024 .f32) :=
  [⟨Rect.unit (s := S1x288x1024) ![0, 2, 0] S1x30x1024.size (inb3 (Nat.le_refl 1) (by omega) (Nat.le_refl 1024)),
    shapeCast S1x30x1024 (shapeCast S1x30x1024 (kLd W.w4 (Rect.unit (s := S1x1x30x1024) ![0, 0, 0, 0] S1x1x30x1024.size
      (inb4 (Nat.le_refl 1) (Nat.le_refl 1) (Nat.le_refl 30) (Nat.le_refl 1024)))) shapeCasts_S1x1x30x1024_S1x30x1024) shapeCasts_S1x30x1024_S1x30x1024⟩]

/-- Two heads' rows of history, as they are stored before a sequence's first tile. -/
def kHist (X0 X1 : FVec F S1x1x128x128 .bf16) : List (View.Piece (Elt F) S2x1x384x128 .bf16) :=
  [⟨Rect.unit (s := S2x1x384x128) ![1, 0, 0, 0] S1x1x128x128.size (inb4 (Nat.le_refl 2) (Nat.le_refl 1) (by omega) (Nat.le_refl 128)), X1⟩,
   ⟨Rect.unit (s := S2x1x384x128) ![0, 0, 0, 0] S1x1x128x128.size (inb4 (by omega) (Nat.le_refl 1) (by omega) (Nat.le_refl 128)), X0⟩]

/-- A block of history read whole. -/
def kOld (w : FVec F S1x1x128x128 .f32) : FVec F S1x1x128x128 .f32 :=
  kLd w (Rect.unit (s := S1x1x128x128) ![0, 0, 0, 0] S1x1x128x128.size (inb4 (Nat.le_refl 1) (Nat.le_refl 1) (Nat.le_refl 128) (Nat.le_refl 128)))

/-- The history of the first scratch of keys. -/
def kHistKA (W : Win F) := kHist (k0_pay7 (kOld W.w5)) (k0_pay9 (kOld W.w5))
/-- The history of the second scratch of keys. -/
def kHistKB (W : Win F) := kHist (k0_pay8 (kOld W.w5)) (k0_pay11 (k0_pay10 (kOld W.w5)))
/-- The history of the first scratch of values. -/
def kHistVA (W : Win F) := kHist (k0_pay16 (kOld W.w6)) (k0_pay18 (kOld W.w6))
/-- The history of the second scratch of values. -/
def kHistVB (W : Win F) := kHist (k0_pay17 (kOld W.w6)) (k0_pay19 (kOld W.w6))

/-- The last 30 rows of the convolution's input. -/
def kConvOut (U : FVec F S1x288x1024 .f32) : FVec F S1x1x30x1024 .f32 :=
  shapeCast S1x1x30x1024 (kLd U (Rect.unit (s := S1x288x1024) ![0, 258, 0] S1x30x1024.size
    (inb3 (Nat.le_refl 1) (Nat.le_refl 288) (Nat.le_refl 1024)))) shapeCasts_S1x30x1024_S1x1x30x1024

/-- The last 128 rows of the tile's keys or values. -/
def kLast (X : FVec F S256x128 .f32) : FVec F S1x1x128x128 .f32 :=
  shapeCast S1x1x128x128 (extractStridedSlice S128x128 ![128, 0] X slices_S256x128_o128_0_S128x128) shapeCasts_S128x128_S1x1x128x128

/-- The convolution's scratch at the step's end: the last 32 rows moved to the front. -/
def kUEnd (v : View sig .tc .vmem S1x288x1024 .f32) (L : List (View.Piece (Elt F) S1x288x1024 .f32)) : List (View.Piece (Elt F) S1x288x1024 .f32) :=
  ⟨Rect.unit (s := S1x288x1024) ![0, 0, 0] S1x32x1024.size (inb3 (Nat.le_refl 1) (by omega) (Nat.le_refl 1024)),
    shapeCast S1x32x1024 (kLd (kRd v v.junk L) (Rect.unit (s := S1x288x1024) ![0, 256, 0] S1x32x1024.size
      (inb3 (Nat.le_refl 1) (Nat.le_refl 288) (Nat.le_refl 1024)))) shapeCasts_S1x32x1024_S1x32x1024⟩ :: L

/-- A scratch of keys or values at the step's end: the last 128 rows moved to the front. -/
def kEnd (v : View sig .tc .vmem S2x1x384x128 .bf16) (L : List (View.Piece (Elt F) S2x1x384x128 .bf16)) : List (View.Piece (Elt F) S2x1x384x128 .bf16) :=
  ⟨Rect.unit (s := S2x1x384x128) ![0, 0, 0, 0] S2x1x128x128.size (inb4 (Nat.le_refl 2) (Nat.le_refl 1) (by omega) (Nat.le_refl 128)),
    shapeCast S2x1x128x128 (kLd (kRd v v.junk L) (Rect.unit (s := S2x1x384x128) ![0, 0, 256, 0] S2x1x128x128.size
      (inb4 (Nat.le_refl 2) (Nat.le_refl 1) (Nat.le_refl 384) (Nat.le_refl 128)))) shapeCasts_S2x1x128x128_S2x1x128x128⟩ :: L

end Cert.KernelIdeal.Trunk
-- ==== Proof.Attn.lean ====
module

public import Idealize.ShloMosaic.Lib.Pipeline.ValueKit

@[expose] public section

/-! # Real values, normalized rows and softmax over the extended reals

The trunk's kernel takes its softmax in powers of two and divides after the weighted sum; the
reference takes it in exponentials and divides before. The two agree where the scores are real or
minus infinity and some score is real. -/

noncomputable section

namespace Cert.KernelIdeal.Trunk

open Idealize.ShloMosaic

/-- An extended real that is a real number. -/
def IsR (x : EReal) : Prop := ∃ r : ℝ, x = (r : EReal)

/-- A real number is real. -/
theorem IsR.coe (r : ℝ) : IsR (r : EReal) := ⟨r, rfl⟩
/-- Zero is real. -/
theorem IsR.zero : IsR (0 : EReal) := ⟨0, rfl⟩
/-- Sums of reals are real. -/
theorem IsR.add {x y : EReal} (hx : IsR x) (hy : IsR y) : IsR (x + y) := by
  obtain ⟨a, rfl⟩ := hx; obtain ⟨b, rfl⟩ := hy; exact ⟨a + b, (EReal.coe_add a b).symm⟩
/-- Products of reals are real. -/
theorem IsR.mul {x y : EReal} (hx : IsR x) (hy : IsR y) : IsR (x * y) := by
  obtain ⟨a, rfl⟩ := hx; obtain ⟨b, rfl⟩ := hy; exact ⟨a * b, (EReal.coe_mul a b).symm⟩
/-- Differences of reals are real. -/
theorem IsR.sub {x y : EReal} (hx : IsR x) (hy : IsR y) : IsR (x - y) := by
  obtain ⟨a, rfl⟩ := hx; obtain ⟨b, rfl⟩ := hy; exact ⟨a - b, (EReal.coe_sub a b).symm⟩
/-- Finite sums of reals are real. -/
theorem IsR.sum {ι : Type*} (s : Finset ι) {f : ι → EReal} (h : ∀ i ∈ s, IsR (f i)) : IsR (∑ i ∈ s, f i) := by
  classical
  induction s using Finset.induction_on with
  | empty => simpa using IsR.zero
  | insert a t ha ih =>
    rw [Finset.sum_insert ha]
    exact (h a (Finset.mem_insert_self a t)).add (ih fun i hi => h i (Finset.mem_insert_of_mem hi))
/-- What lies strictly between the infinities is real. -/
theorem IsR.of_ne {x : EReal} (h : x ≠ ⊤) (h' : x ≠ ⊥) : IsR x := ⟨x.toReal, (EReal.coe_toReal h h').symm⟩
/-- A real is not plus infinity. -/
theorem IsR.ne_top {x : EReal} (h : IsR x) : x ≠ ⊤ := by obtain ⟨a, rfl⟩ := h; exact EReal.coe_ne_top a
/-- A real is not minus infinity. -/
theorem IsR.ne_bot {x : EReal} (h : IsR x) : x ≠ ⊥ := by obtain ⟨a, rfl⟩ := h; exact EReal.coe_ne_bot a

/-- A nonnegative real factor distributes over a finite sum. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- The 1024 channels' count. -/
theorem ofBits_channels : ∃ r : ℝ, 0 < r ∧ Ideal.ofBits .f32 1149239296#32 = (r : EReal) :=
  ⟨1024, by norm_num, by simp [Ideal.ofBits, Ideal.ieee, -EReal.coe_mul]; norm_num⟩
/-- The small number under the root is positive. -/
theorem ofBits_eps : ∃ r : ℝ, 0 < r ∧ Ideal.ofBits .f32 897988541#32 = (r : EReal) := by
  exact ⟨8796093 * (2 : ℝ) ^ (-43 : ℤ), by positivity, by simp [Ideal.ofBits, Ideal.ieee, -EReal.coe_mul]⟩
/-- The pattern of 128. -/
theorem ofBits_128 : Ideal.ofBits .f32 1124073472#32 = ((128 : ℝ) : EReal) := by
  simp [Ideal.ofBits, Ideal.ieee, -EReal.coe_mul]; norm_num
/-- The pattern of one eighth. -/
theorem ofBits_eighth : Ideal.ofBits .f32 0x3E000000#32 = (((8 : ℝ)⁻¹ : ℝ) : EReal) := by
  simp [Ideal.ofBits, Ideal.ieee, -EReal.coe_mul]; norm_num

/-- A sum of squares is nonnegative. -/
theorem sum_sq_nonneg {ι : Type*} (s : Finset ι) (f : ι → EReal) : 0 ≤ ∑ i ∈ s, f i * f i :=
  Finset.sum_nonneg fun i _ => by
    induction f i with
    | bot => simp
    | top => simp
    | coe r => rw [← EReal.coe_mul]; exact EReal.coe_nonneg.mpr (mul_self_nonneg r)

/-- A row normalized by its root mean square is real, whatever the row. -/
theorem rms_real {ι : Type*} [Fintype ι] (f : ι → EReal) (d : ι) {n e : EReal} (hn : ∃ r : ℝ, 0 < r ∧ n = (r : EReal))
    (he : ∃ r : ℝ, 0 < r ∧ e = (r : EReal)) : IsR (f d * Ideal.rsqrt (Ideal.div (∑ i, f i * f i) n + e)) := by
  obtain ⟨n, hn0, rfl⟩ := hn
  obtain ⟨e, he0, rfl⟩ := he
  have hS := sum_sq_nonneg Finset.univ f
  have hn' : ((n : ℝ) : EReal) ≠ 0 := by exact_mod_cast hn0.ne'
  rw [Ideal.div, if_neg hn', ← EReal.coe_inv]
  by_cases hT : ∑ i, f i * f i = ⊤
  · rw [hT, EReal.top_mul_coe_of_pos (inv_pos.mpr hn0), EReal.top_add_coe]
    show IsR (f d * 0)
    rw [mul_zero]
    exact IsR.zero
  · obtain ⟨S, hSe⟩ := IsR.of_ne hT (fun h => by rw [h] at hS; exact absurd hS (by simp))
    have hS0 : 0 ≤ S := by rw [hSe] at hS; exact EReal.coe_nonneg.mp hS
    have hd : IsR (f d) := by
      have hle : f d * f d ≤ ∑ i, f i * f i :=
        Finset.single_le_sum (f := fun i => f i * f i) (fun i _ => by simpa using sum_sq_nonneg {i} f) (Finset.mem_univ d)
      rw [hSe] at hle
      refine IsR.of_ne (fun h => ?_) (fun h => ?_) <;> rw [h] at hle <;> simp at hle
    have hp : 0 < S * n⁻¹ + e := by positivity
    rw [hSe, ← EReal.coe_mul, ← EReal.coe_add]
    refine hd.mul ?_
    show IsR (if S * n⁻¹ + e < 0 then ⊥ else if S * n⁻¹ + e = 0 then ⊤ else (((Real.sqrt (S * n⁻¹ + e))⁻¹ : ℝ) : EReal))
    rw [if_neg hp.le.not_gt, if_neg hp.ne']
    exact IsR.coe _

/-- The reciprocal of the natural logarithm of two. -/
def kLog : ℝ := (Real.log 2)⁻¹

/-- It is positive. -/
theorem kLog_pos : 0 < kLog := inv_pos.mpr (Real.log_pos (by norm_num))

/-- A power of two of a scaled difference is the exponential of the difference. -/
theorem exp2_scaled (x : EReal) {M : EReal} (hM : IsR M) :
    Ideal.exp2 (x * (kLog : EReal) - M * (kLog : EReal)) = Ideal.exp (x - M) := by
  obtain ⟨M, rfl⟩ := hM
  induction x with
  | bot => rw [EReal.bot_mul_coe_of_pos kLog_pos, sub_eq_add_neg, sub_eq_add_neg, EReal.bot_add, EReal.bot_add]; rfl
  | top =>
    rw [EReal.top_mul_coe_of_pos kLog_pos, ← EReal.coe_mul, EReal.top_sub_coe, EReal.top_sub_coe]
    rfl
  | coe r =>
    rw [← EReal.coe_mul, ← EReal.coe_mul, ← EReal.coe_sub, ← EReal.coe_sub]
    show ((Real.rpow 2 (r * kLog - M * kLog) : ℝ) : EReal) = ((Real.exp (r - M) : ℝ) : EReal)
    congr 1
    show (2 : ℝ) ^ (r * kLog - M * kLog) = _
    rw [Real.rpow_def_of_pos (by norm_num)]
    congr 1
    have hl : Real.log 2 ≠ 0 := (Real.log_pos (by norm_num)).ne'
    unfold kLog
    field_simp

/-- A positive real factor commutes with the greater of two. -/
theorem max_mul_real (x y : EReal) {c : ℝ} (hc : 0 < c) : max (x * (c : EReal)) (y * (c : EReal)) = max x y * (c : EReal) := by
  have hm : Monotone fun z : EReal => z * (c : EReal) := fun a b h => mul_le_mul_of_nonneg_right h (EReal.coe_nonneg.mpr hc.le)
  exact (hm.map_max (a := x) (b := y)).symm

/-- A positive real factor commutes with the greatest of a family. -/
theorem fold_max_mul {ι : Type*} (s : Finset ι) (f : ι → EReal) {c : ℝ} (hc : 0 < c) :
    s.fold max ⊥ (fun i => f i * (c : EReal)) = s.fold max ⊥ f * (c : EReal) := by
  rw [← Finset.fold_hom (op := max) (op' := max) (m := fun z : EReal => z * (c : EReal)) (s := s) (b := ⊥) (f := f)
    (fun x y => (max_mul_real x y hc).symm), EReal.bot_mul_coe_of_pos hc]

/-- The greatest of a family below plus infinity is below plus infinity. -/
theorem fold_max_ne_top {ι : Type*} (s : Finset ι) (f : ι → EReal) (h : ∀ i ∈ s, f i ≠ ⊤) : s.fold max ⊥ f ≠ ⊤ := by
  refine ((Finset.fold_max_lt (c := ⊤)).mpr ⟨bot_lt_top, fun i hi => lt_top_iff_ne_top.mpr (h i hi)⟩).ne

/-- The exponential of a difference from a real is a nonnegative real where the argument is not plus infinity. -/
theorem exp_sub_real (x : EReal) (hx : x ≠ ⊤) {M : EReal} (hM : IsR M) : ∃ r : ℝ, 0 ≤ r ∧ Ideal.exp (x - M) = (r : EReal) := by
  obtain ⟨M, rfl⟩ := hM
  induction x with
  | bot => exact ⟨0, le_refl 0, by rw [sub_eq_add_neg, EReal.bot_add]; rfl⟩
  | top => exact absurd rfl hx
  | coe r => exact ⟨Real.exp (r - M), (Real.exp_pos _).le, by rw [← EReal.coe_sub]; rfl⟩

/-- It is positive where the argument is real. -/
theorem exp_sub_pos {x : EReal} (hx : IsR x) {M : EReal} (hM : IsR M) : ∃ r : ℝ, 0 < r ∧ Ideal.exp (x - M) = (r : EReal) := by
  obtain ⟨M, rfl⟩ := hM
  obtain ⟨r, rfl⟩ := hx
  exact ⟨Real.exp (r - M), Real.exp_pos _, by rw [← EReal.coe_sub]; rfl⟩

/-- Finite sums of nonnegative reals are nonnegative reals. -/
theorem sum_real_nonneg {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  obtain ⟨r, hr⟩ := IsR.sum s fun i hi => (h i hi).imp fun _ h => h.2
  refine ⟨r, ?_, hr⟩
  have := Finset.sum_nonneg (s := s) (f := f) fun i hi => by
    obtain ⟨a, ha, e⟩ := h i hi
    rw [e]; exact EReal.coe_nonneg.mpr ha
  rw [hr] at this
  exact EReal.coe_nonneg.mp this

/-- Dividing a weighted sum by a positive real is weighting by the divided weights. -/
theorem sum_div {ι : Type*} (s : Finset ι) (p V : ι → EReal) {D : EReal} (hD : ∃ r : ℝ, 0 < r ∧ D = (r : EReal)) :
    (∑ i ∈ s, p i * V i) * Ideal.div 1 D = ∑ i ∈ s, V i * Ideal.div (p i) D := by
  obtain ⟨D, h0, rfl⟩ := hD
  have hne : ((D : ℝ) : EReal) ≠ 0 := by exact_mod_cast h0.ne'
  simp only [Ideal.div, if_neg hne]
  rw [one_mul, ← EReal.coe_inv, sum_mul_real _ _ (inv_pos.mpr h0).le]
  refine Finset.sum_congr rfl fun i _ => ?_
  rw [mul_comm (p i) (V i), mul_assoc]

/-- Softmax attention of one query in powers of two, divided last, is softmax attention in exponentials, divided first. -/
theorem soft_mem {ι : Type*} [Fintype ι] [Nonempty ι] (s V : ι → EReal) (hs : ∀ i, IsR (s i)) :
    (∑ i, Ideal.exp2 (s i * (kLog : EReal) - Finset.univ.fold max ⊥ fun i => s i * (kLog : EReal)) * V i) *
        Ideal.div 1 (∑ i, Ideal.exp2 (s i * (kLog : EReal) - Finset.univ.fold max ⊥ fun i => s i * (kLog : EReal))) =
      ∑ i, V i * Ideal.div (Ideal.exp (s i - Finset.univ.fold max ⊥ s)) (∑ i, Ideal.exp (s i - Finset.univ.fold max ⊥ s)) := by
  have hM : IsR (Finset.univ.fold max ⊥ s) := by
    refine IsR.of_ne (fold_max_ne_top _ _ fun i _ => (hs i).ne_top) fun h => ?_
    have i0 : ι := Classical.arbitrary ι
    have := (Finset.le_fold_max (s := Finset.univ) (f := s) (b := ⊥) (s i0)).mpr (Or.inr ⟨i0, Finset.mem_univ _, le_refl _⟩)
    rw [h] at this
    exact (hs i0).ne_bot (le_bot_iff.mp this)
  rw [fold_max_mul _ _ kLog_pos]
  simp only [exp2_scaled _ hM]
  refine sum_div _ _ _ ?_
  obtain ⟨r, h0, hr⟩ := sum_real_nonneg Finset.univ (fun i => Ideal.exp (s i - Finset.univ.fold max ⊥ s)) fun i _ =>
    exp_sub_real _ (hs i).ne_top hM
  refine ⟨r, ?_, hr⟩
  have i0 : ι := Classical.arbitrary ι
  obtain ⟨q, q0, hq⟩ := exp_sub_pos (hs i0) hM
  have hle := Finset.single_le_sum (s := Finset.univ) (f := fun i => Ideal.exp (s i - Finset.univ.fold max ⊥ s))
    (fun i _ => by
      obtain ⟨a, ha, e⟩ := exp_sub_real _ (hs i).ne_top hM
      rw [e]; exact EReal.coe_nonneg.mpr ha) (Finset.mem_univ i0)
  simp only [hr, hq] at hle
  exact lt_of_lt_of_le q0 (EReal.coe_le_coe_iff.mp hle)

/-- The same with a sink beside the scores: its weight stands in the denominator only. -/
theorem soft_sink {ι : Type*} [Fintype ι] (s V : ι → EReal) (t : EReal) (hs : ∀ i, s i ≠ ⊤) (ht : IsR t) :
    (∑ i, Ideal.exp2 (s i * (kLog : EReal) - max (Finset.univ.fold max ⊥ fun i => s i * (kLog : EReal)) (t * (kLog : EReal))) * V i) *
        Ideal.div 1 ((∑ i, Ideal.exp2 (s i * (kLog : EReal) - max (Finset.univ.fold max ⊥ fun i => s i * (kLog : EReal)) (t * (kLog : EReal)))) +
          Ideal.exp2 (t * (kLog : EReal) - max (Finset.univ.fold max ⊥ fun i => s i * (kLog : EReal)) (t * (kLog : EReal)))) =
      ∑ i, V i * Ideal.div (Ideal.exp (s i - max (Finset.univ.fold max ⊥ s) t))
        ((∑ i, Ideal.exp (s i - max (Finset.univ.fold max ⊥ s) t)) + Ideal.exp (t - max (Finset.univ.fold max ⊥ s) t)) := by
  have hM : IsR (max (Finset.univ.fold max ⊥ s) t) := by
    refine IsR.of_ne (fun h => ?_) fun h => ?_
    · rcases max_choice (Finset.univ.fold max ⊥ s) t with e | e <;> rw [e] at h
      · exact fold_max_ne_top _ _ (fun i _ => hs i) h
      · exact ht.ne_top h
    · exact ht.ne_bot (le_bot_iff.mp (h ▸ le_max_right _ _))
  rw [fold_max_mul _ _ kLog_pos, max_mul_real _ _ kLog_pos]
  simp only [exp2_scaled _ hM]
  refine sum_div _ _ _ ?_
  obtain ⟨r, h0, hr⟩ := sum_real_nonneg Finset.univ (fun i => Ideal.exp (s i - max (Finset.univ.fold max ⊥ s) t)) fun i _ =>
    exp_sub_real _ (hs i) hM
  obtain ⟨q, q0, hq⟩ := exp_sub_pos ht hM
  exact ⟨r + q, add_pos_of_nonneg_of_pos h0 q0, by rw [hr, hq, EReal.coe_add]⟩

end Cert.KernelIdeal.Trunk
-- ==== Proof.Fits.lean ====
module

public import proofs.«01_k».proof.Proof.Body
public import proofs.«01_k».proof.Proof.Attn
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-- The position in a sequence of row `r` of tile `T`. -/
abbrev pos (T : Fin 64) (r : Fin 256) : Fin 16384 := ⟨256 * T.val + r.val, by omega⟩

/-- The rotary angle of lane `j` at a position. -/
def angle (n : ℕ) (j : ℕ) : EReal :=
  FloatOps.sitofp (F := Ideal) .f32 (BitVec.ofNat 32 n) * Ideal.pow (Ideal.ofBits .f32 1176256512#32)
    (Ideal.div (-FloatOps.sitofp (F := Ideal) .f32 (BitVec.ofNat 32 j)) (Ideal.ofBits .f32 1107296256#32))

/-- The windows of a step hold the parts of the arguments that sequence `b` and tile `T` name. -/
structure Fits (W : Win Ideal) (b : Fin 2) (T : Fin 64) (x0 : FVec Ideal Cert.ReferenceIdeal.S2x16384x1024 .f32)
    (x1 : FVec Ideal Cert.ReferenceIdeal.S2x512x1024 .bf16) (x2 : FVec Ideal Cert.ReferenceIdeal.S2x1024 .f32)
    (x3 : FVec Ideal Cert.ReferenceIdeal.S1x1024x4096 .f32) (x4 : FVec Ideal Cert.ReferenceIdeal.S1x31x1024 .f32)
    (x5 x6 x7 : FVec Ideal Cert.ReferenceIdeal.S1x1024 .f32) (x8 : FVec Ideal Cert.ReferenceIdeal.S1x1024x3328 .f32)
    (x9 : FVec Ideal Cert.ReferenceIdeal.S1x16 .f32) (x10 : FVec Ideal Cert.ReferenceIdeal.S2x1536x1024 .f32)
    (x11 : FVec Ideal Cert.ReferenceIdeal.S1024 .f32) : Prop where
  h0 : ∀ k : Fin 16, W.w0 (ix1 k) = x9 (ix2 0 k)
  h1 : ∀ (r : Fin 256) (d : Fin 1024), W.w1 (ix3 0 r d) = x0 (ix3 b (pos T r) d)
  h2 : ∀ (j : Fin 32) (r : Fin 256), W.w2 (ix2 j r) = Ideal.cos (angle (pos T r).val j.val)
  h3 : ∀ (j : Fin 32) (r : Fin 256), W.w3 (ix2 j r) = Ideal.sin (angle (pos T r).val j.val)
  h4 : ∀ (r : Fin 30) (d : Fin 1024), W.w4 (ix4 0 0 r d) = 0
  h5 : ∀ (r : Fin 128) (d : Fin 128), W.w5 (ix4 0 0 r d) = 0
  h6 : ∀ (r : Fin 128) (d : Fin 128), W.w6 (ix4 0 0 r d) = 0
  h7 : ∀ (l : Fin 2) (m : Fin 256) (e : Fin 512), W.w7 (ix4 l 0 m e) = val_main_v3 (F := Ideal) x1 (ix5 l b m ⟨e.val / 128, by omega⟩ ⟨e.val % 128, by omega⟩)
  h8 : ∀ (l : Fin 2) (m : Fin 256) (e : Fin 512), W.w8 (ix4 l 0 m e) = val_main_v5 (F := Ideal) x1 (ix5 l b m ⟨e.val / 128, by omega⟩ ⟨e.val % 128, by omega⟩)
  h9 : ∀ (l : Fin 2) (d : Fin 1024), W.w9 (ix2 l d) = x2 (ix2 l d)
  h10 : ∀ (k : Fin 1024) (d : Fin 4096), W.w10 (ix3 0 k ⟨d.val, by omega⟩) = x3 (ix3 0 k d)
  h11 : ∀ (k : Fin 31) (d : Fin 1024), W.w11 (ix3 0 k d) = x4 (ix3 0 k d)
  h12 : ∀ d : Fin 1024, W.w12 (ix2 0 d) = x5 (ix2 0 d)
  h13 : ∀ d : Fin 1024, W.w13 (ix2 0 d) = x6 (ix2 0 d)
  h14 : ∀ d : Fin 1024, W.w14 (ix2 0 d) = x7 (ix2 0 d)
  h15 : ∀ (k : Fin 1024) (d : Fin 3328), W.w15 (ix3 0 k d) = x8 (ix3 0 k d)
  h16 : ∀ (l : Fin 2) (k : Fin 1536) (d : Fin 1024), W.w16 (ix3 l k ⟨d.val, by omega⟩) = x10 (ix3 l k d)
  h17 : ∀ d : Fin 1024, W.w17 (ix2 0 d) = x11 (ix1 d)

/-- The element of a rectangle of unit strides is the element of the tensor at the offset index. -/
theorem kLd_at {S : Shape} {f : FTy} (X : FVec Ideal S f) (off size : Fin S.rank → ℕ) (inb : ∀ a, off a + size a ≤ S.size a)
    (x : (Rect.unit (s := S) off size inb).shape.Idx) (i : S.Idx) (hi : ∀ a, (i a : ℕ) = off a + (x a : ℕ)) :
    kLd X (Rect.unit (s := S) off size inb) x = X i :=
  congrArg X (funext fun a => Fin.ext ((Rect.idx_unit_val ..).trans (hi a).symm))

end Cert.KernelIdeal.Trunk
-- ==== Proof.Parts.lean ====
module

public import proofs.«01_k».proof.Proof.Fits
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-! # The parts of a step at an index -/

/-- A row scaled by the reciprocal root of its mean square. -/
def rmsRow (x : Fin 1024 → EReal) (d : Fin 1024) : EReal :=
  x d * Ideal.rsqrt (Ideal.div (∑ i, x i * x i) (Ideal.ofBits .f32 1149239296#32) + Ideal.ofBits .f32 897988541#32)

/-- A normalized row is real. -/
theorem rmsRow_real (x : Fin 1024 → EReal) (d : Fin 1024) : IsR (rmsRow x d) := rms_real x d ofBits_channels ofBits_eps

/-- A rectangle of two axes at an index. -/
theorem kLd2 {A B n0 n1 o0 o1 : ℕ} {f : FTy} (X : FVec Ideal ⟨2, ![A, B]⟩ f)
    (inb : ∀ a, (![o0, o1] : Fin 2 → ℕ) a + (![n0, n1] : Fin 2 → ℕ) a ≤ (⟨2, ![A, B]⟩ : Shape).size a) (a : Fin n0) (b : Fin n1) :
    kLd X (Rect.unit (s := ⟨2, ![A, B]⟩) ![o0, o1] ![n0, n1] inb) (ix2 a b) =
      X (ix2 ⟨o0 + a.val, by have := inb 0; simp at this; omega⟩ ⟨o1 + b.val, by have := inb 1; simp at this; omega⟩) :=
  kLd_at X _ _ inb _ _ fun x => match x with
    | ⟨0, _⟩ => rfl
    | ⟨1, _⟩ => rfl

/-- A rectangle of three axes at an index. -/
theorem kLd3 {A B C n0 n1 n2 o0 o1 o2 : ℕ} {f : FTy} (X : FVec Ideal ⟨3, ![A, B, C]⟩ f)
    (inb : ∀ a, (![o0, o1, o2] : Fin 3 → ℕ) a + (![n0, n1, n2] : Fin 3 → ℕ) a ≤ (⟨3, ![A, B, C]⟩ : Shape).size a)
    (a : Fin n0) (b : Fin n1) (c : Fin n2) :
    kLd X (Rect.unit (s := ⟨3, ![A, B, C]⟩) ![o0, o1, o2] ![n0, n1, n2] inb) (ix3 a b c) =
      X (ix3 ⟨o0 + a.val, by have := inb 0; simp at this; omega⟩ ⟨o1 + b.val, by have := inb 1; simp at this; omega⟩
        ⟨o2 + c.val, by have := inb 2; simp at this; omega⟩) :=
  kLd_at X _ _ inb _ _ fun x => match x with
    | ⟨0, _⟩ => rfl
    | ⟨1, _⟩ => rfl
    | ⟨2, _⟩ => rfl

/-- A rectangle of four axes at an index. -/
theorem kLd4 {A B C D n0 n1 n2 n3 o0 o1 o2 o3 : ℕ} {f : FTy} (X : FVec Ideal ⟨4, ![A, B, C, D]⟩ f)
    (inb : ∀ a, (![o0, o1, o2, o3] : Fin 4 → ℕ) a + (![n0, n1, n2, n3] : Fin 4 → ℕ) a ≤ (⟨4, ![A, B, C, D]⟩ : Shape).size a)
    (a : Fin n0) (b : Fin n1) (c : Fin n2) (d : Fin n3) :
    kLd X (Rect.unit (s := ⟨4, ![A, B, C, D]⟩) ![o0, o1, o2, o3] ![n0, n1, n2, n3] inb) (ix4 a b c d) =
      X (ix4 ⟨o0 + a.val, by have := inb 0; simp at this; omega⟩ ⟨o1 + b.val, by have := inb 1; simp at this; omega⟩
        ⟨o2 + c.val, by have := inb 2; simp at this; omega⟩ ⟨o3 + d.val, by have := inb 3; simp at this; omega⟩) :=
  kLd_at X _ _ inb _ _ fun x => match x with
    | ⟨0, _⟩ => rfl
    | ⟨1, _⟩ => rfl
    | ⟨2, _⟩ => rfl
    | ⟨3, _⟩ => rfl

/-- The root-mean-square normalization at an index. -/
theorem kRms_at (X : FVec Ideal S256x1024 .f32) (G : FVec Ideal S1x1024 .f32) (r : Fin 256) (d : Fin 1024) :
    kRms X G (ix2 r d) = rmsRow (fun k => X (ix2 r k)) d * G (ix2 0 d) := by
  unfold rmsRow
  pointwise [kRms, kScaleRsqrt, kMean]

/-- 1024 columns of the projection at an index. -/
theorem kDot1024_at (H : FVec Ideal S256x1024 .bf16) (w : FVec Ideal S1x1024x1024 .bf16) (r : Fin 256) (d : Fin 1024) :
    kDot1024 H w (ix2 r d) = ∑ k : Fin 1024, H (ix2 r k) * w (ix3 0 k d) := by pointwise [kDot1024]
/-- 512 columns of the projection at an index. -/
theorem kDot512_at (H : FVec Ideal S256x1024 .bf16) (w : FVec Ideal S1x1024x512 .bf16) (r : Fin 256) (d : Fin 512) :
    kDot512 H w (ix2 r d) = ∑ k : Fin 1024, H (ix2 r k) * w (ix3 0 k d) := by pointwise [kDot512]
/-- 128 columns of the projection at an index. -/
theorem kDot128_at (H : FVec Ideal S256x1024 .bf16) (w : FVec Ideal S1x1024x128 .bf16) (r : Fin 256) (d : Fin 128) :
    kDot128 H w (ix2 r d) = ∑ k : Fin 1024, H (ix2 r k) * w (ix3 0 k d) := by pointwise [kDot128]
/-- The gated input at an index. -/
theorem kGlu_at (H : FVec Ideal S256x1024 .bf16) (wa wg : FVec Ideal S1x1024x256 .bf16) (r : Fin 256) (d : Fin 256) :
    kGlu H wa wg (ix3 0 r d) = (∑ k : Fin 1024, H (ix2 r k) * wa (ix3 0 k d)) * Ideal.logistic (∑ k : Fin 1024, H (ix2 r k) * wg (ix3 0 k d)) := by
  pointwise [kGlu, kDot256]

/-- The convolution at an index: its bias and 31 taps. -/
theorem kConv_at (U : FVec Ideal S1x288x1024 .f32) (cw : FVec Ideal S1x31x1024 .f32) (cb : FVec Ideal S1x1024 .f32) (c0 : ℕ) (hc : c0 + 256 ≤ 1024)
    (r : Fin 256) (d : Fin 256) : kConv U cw cb c0 hc (ix2 r d) = (∑ k : Fin 31, U (ix3 0 ⟨2 + k.val + r.val, by omega⟩ ⟨c0 + d.val, by omega⟩) *
      cw (ix3 0 k ⟨c0 + d.val, by omega⟩)) + cb (ix2 0 ⟨c0 + d.val, by omega⟩) := by
  obtain ⟨u, hu⟩ : ∃ u : ℕ → EReal, ∀ i (h : i < 288), U (ix3 0 ⟨i, h⟩ ⟨c0 + d.val, by omega⟩) = u i :=
    ⟨fun i => if h : i < 288 then U (ix3 0 ⟨i, h⟩ ⟨c0 + d.val, by omega⟩) else 0, fun i h => by beta_reduce; rw [dif_pos h]⟩
  obtain ⟨w, hw⟩ : ∃ w : ℕ → EReal, ∀ i (h : i < 31), cw (ix3 0 ⟨i, h⟩ ⟨c0 + d.val, by omega⟩) = w i :=
    ⟨fun i => if h : i < 31 then cw (ix3 0 ⟨i, h⟩ ⟨c0 + d.val, by omega⟩) else 0, fun i h => by beta_reduce; rw [dif_pos h]⟩
  have hr : ∑ k : Fin 31, U (ix3 0 ⟨2 + k.val + r.val, by omega⟩ ⟨c0 + d.val, by omega⟩) * cw (ix3 0 k ⟨c0 + d.val, by omega⟩) =
      ∑ k ∈ Finset.range 31, u (2 + k + r.val) * w k := by
    rw [← Fin.sum_univ_eq_sum_range (fun k => u (2 + k + r.val) * w k)]
    exact Finset.sum_congr rfl fun k _ => by rw [← hu _ (by omega), ← hw _ k.isLt]
  have hU : ∀ (lo n : ℕ) (inb : ∀ a, (![0, lo, c0] : Fin 3 → ℕ) a + (![1, n, 256] : Fin 3 → ℕ) a ≤ (⟨3, ![1, 288, 1024]⟩ : Shape).size a) (i : Fin n),
      kLd U (Rect.unit (s := S1x288x1024) ![0, lo, c0] ![1, n, 256] inb) (ix3 0 i d) = u (lo + i.val) := fun lo n inb i => by
    rw [← hu _ (by have := inb 1; simp at this; omega)]
    exact kLd3 U inb 0 i d
  have hC : ∀ (k : ℕ) (inb : ∀ a, (![0, k, c0] : Fin 3 → ℕ) a + (![1, 1, 256] : Fin 3 → ℕ) a ≤ (⟨3, ![1, 31, 1024]⟩ : Shape).size a),
      kLd cw (Rect.unit (s := S1x31x1024) ![0, k, c0] ![1, 1, 256] inb) (ix3 0 0 d) = w k := fun k inb => by
    rw [← hw _ (by have := inb 1; simp at this; omega)]
    exact kLd3 cw inb 0 0 d
  have hB : ∀ inb, kLd cb (Rect.unit (s := S1x1024) ![0, c0] ![1, 256] inb) (ix2 0 d) = cb (ix2 0 ⟨c0 + d.val, by omega⟩) := fun inb =>
    kLd2 cb inb 0 d
  rw [hr]
  pointwise [kConv, kPart4, kPart3, kTap, kCw]
  simp only [hU, hC, hB, Finset.sum_range_succ, Finset.sum_range_zero, ← Nat.add_assoc, Nat.reduceAdd, zero_add]
  ac_rfl

/-- The layer normalization of a row. -/
def lnRow (x : Fin 1024 → EReal) (d : Fin 1024) : EReal :=
  let m := Ideal.div (∑ i, x i) (Ideal.ofBits .f32 1149239296#32)
  (x d - m) * Ideal.rsqrt (Ideal.div (∑ i, (x i - m) * (x i - m)) (Ideal.ofBits .f32 1149239296#32) + Ideal.ofBits .f32 925353388#32)

/-- The layer normalization at an index. -/
theorem kLn_at (X : FVec Ideal S256x1024 .f32) (G B : FVec Ideal S1x1024 .f32) (r : Fin 256) (d : Fin 1024) :
    kLn X G B (ix2 r d) = lnRow (fun k => X (ix2 r k)) d * G (ix2 0 d) + B (ix2 0 d) := by
  unfold lnRow
  pointwise [kLn, kCenter, kScaleRsqrt, kMean]

/-- The output product at an index. -/
theorem kOut_at (M : FVec Ideal S256x1024 .f32) (XO : FVec Ideal S256x512 .f32) (w : FVec Ideal S1x1536x1024 .bf16) (r : Fin 256) (d : Fin 1024) :
    kOut M XO w (ix2 r d) = (∑ k : Fin 1024, M (ix2 r k) * w (ix3 0 ⟨k.val, by omega⟩ d)) + ∑ k : Fin 512, XO (ix2 r k) * w (ix3 0 ⟨1024 + k.val, by omega⟩ d) := by
  pointwise [kOut]

/-- Softmax attention of one query over the memory. -/
def memRow (q : Fin 128 → EReal) (K : Fin 256 → Fin 128 → EReal) (V : Fin 256 → EReal) : EReal :=
  let s : Fin 256 → EReal := fun m => (∑ e, q e * K m e) * Ideal.div 1 (Ideal.sqrt (Ideal.ofBits .f32 1124073472#32))
  ∑ m, V m * Ideal.div (Ideal.exp (s m - Finset.univ.fold max ⊥ s)) (∑ i, Ideal.exp (s i - Finset.univ.fold max ⊥ s))

/-- A memory head at an index. -/
theorem kMemHead_at (Q : FVec Ideal S256x512 .f32) (K V : FVec Ideal S256x512 .bf16) (o : ℕ) (ho : o + 128 ≤ 512) (hs : S256x512.Slices ![0, o] S256x128)
    (r : Fin 256) (d : Fin 128) (hQ : ∀ e, IsR (Q (ix2 r e))) (hK : ∀ m e, IsR (K (ix2 m e))) :
    kMemHead Q K V ![0, o] hs (ix2 r d) = memRow (fun e => Q (ix2 r ⟨o + e.val, by omega⟩)) (fun m e => K (ix2 m ⟨o + e.val, by omega⟩))
      (fun m => V (ix2 m ⟨o + d.val, by omega⟩)) := by
  have hc : Named.named (F := Ideal) κ (φ := .f32) "mem_scale" 1040356334#32 = ((kLog * (Real.sqrt 128)⁻¹ : ℝ) : EReal) := by
    simp [Named.named, κ, kLog]
  have hr : Ideal.div 1 (Ideal.sqrt (Ideal.ofBits .f32 1124073472#32)) = (((Real.sqrt 128)⁻¹ : ℝ) : EReal) := by
    rw [ofBits_128]
    show Ideal.div 1 (if (128 : ℝ) < 0 then ⊥ else ((Real.sqrt 128 : ℝ) : EReal)) = _
    rw [if_neg (by norm_num), Ideal.div, if_neg (by simp [Real.sqrt_eq_zero']), one_mul, ← EReal.coe_inv]
  have hp : (0 : ℝ) ≤ kLog * (Real.sqrt 128)⁻¹ := mul_nonneg kLog_pos.le (by positivity)
  have hsum : ∀ m : Fin 256, (∑ e : Fin 128, Q (ix2 r ⟨o + e.val, by omega⟩) * ((kLog * (Real.sqrt 128)⁻¹ : ℝ) : EReal) * K (ix2 m ⟨o + e.val, by omega⟩)) =
      (∑ e : Fin 128, Q (ix2 r ⟨o + e.val, by omega⟩) * K (ix2 m ⟨o + e.val, by omega⟩)) * (((Real.sqrt 128)⁻¹ : ℝ) : EReal) * (kLog : EReal) := fun m => by
    rw [mul_assoc, ← EReal.coe_mul, mul_comm _ kLog, sum_mul_real _ _ hp]
    exact Finset.sum_congr rfl fun e _ => mul_right_comm _ _ _
  have hb : Ideal.ofBits .f32 4286578688#32 = ⊥ := by simp [Ideal.ofBits, Ideal.ieee]
  unfold memRow
  pointwise [kMemHead, kMemP, kMemScore]
  simp only [hc, hr, hsum, hb]
  exact soft_mem _ _ fun m => (IsR.sum _ fun e _ => (hQ _).mul (hK _ _)).mul (IsR.coe _)

/-- The attention over the memory at an index. -/
theorem kMem_at (Q : FVec Ideal S256x512 .f32) (K V : FVec Ideal S256x512 .bf16)
    (r : Fin 256) (d : Fin 512) (hQ : ∀ e, IsR (Q (ix2 r e))) (hK : ∀ m e, IsR (K (ix2 m e))) :
    kMem Q K V (ix2 r d) = memRow (fun e => Q (ix2 r ⟨d.val / 128 * 128 + e.val, by omega⟩)) (fun m e => K (ix2 m ⟨d.val / 128 * 128 + e.val, by omega⟩))
      (fun m => V (ix2 m d)) := by
  have key : ∀ (o : ℕ) (ho : o + 128 ≤ 512) (hs : S256x512.Slices ![0, o] S256x128) (e : Fin 128), o % 128 = 0 → d.val = o + e.val →
      kMemHead Q K V ![0, o] hs (ix2 r e) = memRow (fun e => Q (ix2 r ⟨d.val / 128 * 128 + e.val, by omega⟩))
        (fun m e => K (ix2 m ⟨d.val / 128 * 128 + e.val, by omega⟩)) (fun m => V (ix2 m d)) := fun o ho hs e h0 he => by
    rw [kMemHead_at Q K V o ho hs r e hQ hK]
    have h1 : d.val / 128 * 128 = o := by omega
    have h2 : d = ⟨o + e.val, by omega⟩ := Fin.ext he
    simp only [h1, ← h2]
  pointwise [kMem]
  by_cases h1 : d.val < 128
  · rw [dif_pos h1]
    exact key 0 (by omega) slices_S256x512_o0_0_S256x128 ⟨d.val, by omega⟩ (by omega) (by show d.val = 0 + d.val; omega)
  rw [dif_neg h1]
  by_cases h2 : d.val - 128 < 128
  · rw [dif_pos h2]
    exact key 128 (by omega) slices_S256x512_o0_128_S256x128 ⟨d.val - 128, by omega⟩ (by omega) (by show d.val = 128 + (d.val - 128); omega)
  rw [dif_neg h2]
  by_cases h3 : d.val - 128 - 128 < 128
  · rw [dif_pos h3]
    exact key 256 (by omega) slices_S256x512_o0_256_S256x128 ⟨d.val - 128 - 128, by omega⟩ (by omega) (by show d.val = 256 + (d.val - 128 - 128); omega)
  rw [dif_neg h3]
  exact key 384 (by omega) slices_S256x512_o0_384_S256x128 ⟨d.val - 128 - 128 - 128, by omega⟩ (by omega) (by show d.val = 384 + (d.val - 128 - 128 - 128); omega)

end Cert.KernelIdeal.Trunk
-- ==== Proof.Half1.lean ====
module

public import proofs.«01_k».proof.Proof.Parts
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-! # The convolution half of a step against the reference -/

/-- The arguments whose entries the precondition makes real. -/
structure Reals (x1 : FVec Ideal Cert.ReferenceIdeal.S2x512x1024 .bf16) (x2 : FVec Ideal Cert.ReferenceIdeal.S2x1024 .f32)
    (x3 : FVec Ideal Cert.ReferenceIdeal.S1x1024x4096 .f32) (x8 : FVec Ideal Cert.ReferenceIdeal.S1x1024x3328 .f32)
    (x9 : FVec Ideal Cert.ReferenceIdeal.S1x16 .f32) : Prop where
  r1 : ∀ i, IsR (x1 i)
  r2 : ∀ i, IsR (x2 i)
  r3 : ∀ i, IsR (x3 i)
  r8 : ∀ i, IsR (x8 i)
  r9 : ∀ i, IsR (x9 i)

variable (x0 : FVec Ideal Cert.ReferenceIdeal.S2x16384x1024 .f32) (x1 : FVec Ideal Cert.ReferenceIdeal.S2x512x1024 .bf16) (x2 : FVec Ideal Cert.ReferenceIdeal.S2x1024 .f32) (x3 : FVec Ideal Cert.ReferenceIdeal.S1x1024x4096 .f32) (x4 : FVec Ideal Cert.ReferenceIdeal.S1x31x1024 .f32) (x5 : FVec Ideal Cert.ReferenceIdeal.S1x1024 .f32) (x6 : FVec Ideal Cert.ReferenceIdeal.S1x1024 .f32) (x7 : FVec Ideal Cert.ReferenceIdeal.S1x1024 .f32) (x8 : FVec Ideal Cert.ReferenceIdeal.S1x1024x3328 .f32) (x9 : FVec Ideal Cert.ReferenceIdeal.S1x16 .f32) (x10 : FVec Ideal Cert.ReferenceIdeal.S2x1536x1024 .f32) (x11 : FVec Ideal Cert.ReferenceIdeal.S1024 .f32)

/-- Indices of four axes agree when their coordinates do. -/
theorem ix4_ext {n0 n1 n2 n3 : ℕ} {a a' : Fin n0} {b b' : Fin n1} {c c' : Fin n2} {d d' : Fin n3} (ha : a.val = a'.val) (hb : b.val = b'.val)
    (hc : c.val = c'.val) (hd : d.val = d'.val) : ix4 a b c d = ix4 a' b' c' d' := by
  rw [Fin.ext ha, Fin.ext hb, Fin.ext hc, Fin.ext hd]

/-- Indices of five axes agree when their coordinates do. -/
theorem ix5_ext {n0 n1 n2 n3 n4 : ℕ} {a a' : Fin n0} {b b' : Fin n1} {c c' : Fin n2} {d d' : Fin n3} {e e' : Fin n4} (ha : a.val = a'.val)
    (hb : b.val = b'.val) (hc : c.val = c'.val) (hd : d.val = d'.val) (he : e.val = e'.val) : ix5 a b c d e = ix5 a' b' c' d' e' := by
  rw [Fin.ext ha, Fin.ext hb, Fin.ext hc, Fin.ext hd, Fin.ext he]

/-- The tile's rows are the residual stream's. -/
theorem kX_eq {W : Win Ideal} {b : Fin 2} {T : Fin 64} (hW : Fits W b T x0 x1 x2 x3 x4 x5 x6 x7 x8 x9 x10 x11) (r : Fin 256) (d : Fin 1024) : kX W.w1 (ix2 r d) = x0 (ix3 b (pos T r) d) := by
  pointwise [kX]
  refine (kLd3 W.w1 _ 0 r d).trans (Eq.trans ?_ (hW.h1 r d))
  simp

/-- A layer's gain row. -/
theorem kNg_eq {W : Win Ideal} {b : Fin 2} {T : Fin 64} (hW : Fits W b T x0 x1 x2 x3 x4 x5 x6 x7 x8 x9 x10 x11) (l : ℕ) (h : l + 1 ≤ 2) (d : Fin 1024) : kNg W.w9 l h (ix2 0 d) = x2 (ix2 ⟨l, h⟩ d) := by
  refine (kLd2 W.w9 _ 0 d).trans (Eq.trans ?_ (hW.h9 ⟨l, h⟩ d))
  simp

/-- The layer normalization's gain row. -/
theorem kRow13_eq {W : Win Ideal} {b : Fin 2} {T : Fin 64} (hW : Fits W b T x0 x1 x2 x3 x4 x5 x6 x7 x8 x9 x10 x11) (d : Fin 1024) : kRow W.w13 (ix2 0 d) = x6 (ix2 0 d) := by
  refine (kLd2 W.w13 _ 0 d).trans (Eq.trans ?_ (hW.h13 d))
  simp

/-- The layer normalization's bias row. -/
theorem kRow14_eq {W : Win Ideal} {b : Fin 2} {T : Fin 64} (hW : Fits W b T x0 x1 x2 x3 x4 x5 x6 x7 x8 x9 x10 x11) (d : Fin 1024) : kRow W.w14 (ix2 0 d) = x7 (ix2 0 d) := by
  refine (kLd2 W.w14 _ 0 d).trans (Eq.trans ?_ (hW.h14 d))
  simp

/-- The last normalization's gain row. -/
theorem kRow17_eq {W : Win Ideal} {b : Fin 2} {T : Fin 64} (hW : Fits W b T x0 x1 x2 x3 x4 x5 x6 x7 x8 x9 x10 x11) (d : Fin 1024) : kRow W.w17 (ix2 0 d) = x11 (ix1 d) := by
  refine (kLd2 W.w17 _ 0 d).trans (Eq.trans ?_ (hW.h17 d))
  simp

/-- Columns of the convolution half's input weights. -/
theorem kWc_eq {W : Win Ideal} {b : Fin 2} {T : Fin 64} (hW : Fits W b T x0 x1 x2 x3 x4 x5 x6 x7 x8 x9 x10 x11) (c n : ℕ) (h : c + n ≤ 4224) (h' : c + n ≤ 4096) (k : Fin 1024) (d : Fin n) :
    kWc W.w10 c n h (ix3 0 k d) = x3 (ix3 0 k ⟨c + d.val, by omega⟩) := by
  refine (kLd3 W.w10 _ 0 k d).trans (Eq.trans ?_ (hW.h10 k ⟨c + d.val, by omega⟩))
  simp

/-- Columns of the attention half's input weights. -/
theorem kWa_eq {W : Win Ideal} {b : Fin 2} {T : Fin 64} (hW : Fits W b T x0 x1 x2 x3 x4 x5 x6 x7 x8 x9 x10 x11) (c n : ℕ) (h : c + n ≤ 3328) (k : Fin 1024) (d : Fin n) :
    kWa W.w15 c n h (ix3 0 k d) = x8 (ix3 0 k ⟨c + d.val, by omega⟩) := by
  refine (kLd3 W.w15 _ 0 k d).trans (Eq.trans ?_ (hW.h15 k ⟨c + d.val, by omega⟩))
  simp

/-- A layer's output weights. -/
theorem kWo_eq {W : Win Ideal} {b : Fin 2} {T : Fin 64} (hW : Fits W b T x0 x1 x2 x3 x4 x5 x6 x7 x8 x9 x10 x11) (l : ℕ) (h : l + 1 ≤ 2) (k : Fin 1536) (d : Fin 1024) : kWo W.w16 l h (ix3 0 k d) = x10 (ix3 ⟨l, h⟩ k d) := by
  refine (kLd3 W.w16 _ 0 k d).trans (Eq.trans ?_ (hW.h16 ⟨l, h⟩ k d))
  simp

/-- A block with two leading axes of length one, read as a matrix. -/
theorem cast4_at (X : FVec Ideal S1x1x256x512 .bf16) (m : Fin 256) (e : Fin 512) :
    shapeCast S256x512 X shapeCasts_S1x1x256x512_S256x512 (ix2 m e) = X (ix4 0 0 m e) := by pointwise []

/-- A layer's memory keys. -/
theorem kMk7_eq {W : Win Ideal} {b : Fin 2} {T : Fin 64} (hW : Fits W b T x0 x1 x2 x3 x4 x5 x6 x7 x8 x9 x10 x11) (l : ℕ) (h : l + 1 ≤ 2) (m : Fin 256) (e : Fin 512) :
    kMk W.w7 l h (ix2 m e) = val_main_v3 (F := Ideal) x1 (ix5 ⟨l, h⟩ b m ⟨e.val / 128, by omega⟩ ⟨e.val % 128, by omega⟩) := by
  refine (cast4_at _ m e).trans ?_
  refine (kLd4 W.w7 _ 0 0 m e).trans (Eq.trans ?_ (hW.h7 ⟨l, h⟩ m e))
  exact congrArg W.w7 (ix4_ext (Nat.add_zero _) rfl (Nat.zero_add _) (Nat.zero_add _))

/-- A layer's memory values. -/
theorem kMk8_eq {W : Win Ideal} {b : Fin 2} {T : Fin 64} (hW : Fits W b T x0 x1 x2 x3 x4 x5 x6 x7 x8 x9 x10 x11) (l : ℕ) (h : l + 1 ≤ 2) (m : Fin 256) (e : Fin 512) :
    kMk W.w8 l h (ix2 m e) = val_main_v5 (F := Ideal) x1 (ix5 ⟨l, h⟩ b m ⟨e.val / 128, by omega⟩ ⟨e.val % 128, by omega⟩) := by
  refine (cast4_at _ m e).trans ?_
  refine (kLd4 W.w8 _ 0 0 m e).trans (Eq.trans ?_ (hW.h8 ⟨l, h⟩ m e))
  exact congrArg W.w8 (ix4_ext (Nat.add_zero _) rfl (Nat.zero_add _) (Nat.zero_add _))

/-- The reference's first normalized rows. -/
theorem v21_at (b : Fin 2) (n : Fin 16384) (d : Fin 1024) :
    val_main_v21 (F := Ideal) x0 x2 (ix3 b n d) = rmsRow (fun k => x0 (ix3 b n k)) d * x2 (ix2 0 d) := by
  unfold rmsRow
  pointwise [val_main_v7, val_main_v8, val_main_v9, val_main_cst, val_main_v10, val_main_v11, val_main_cst_0, val_main_v12, val_main_v13, val_main_cst_1, val_main_v14, val_main_v15, val_main_v16, val_main_v17, val_main_v18, val_main_v19, val_main_v20, val_main_v21]

/-- The convolution half's normalized rows. -/
theorem kH_eq {W : Win Ideal} {b : Fin 2} {T : Fin 64} (hW : Fits W b T x0 x1 x2 x3 x4 x5 x6 x7 x8 x9 x10 x11) (r : Fin 256) (d : Fin 1024) : kH W (ix2 r d) = val_main_v21 (F := Ideal) x0 x2 (ix3 b (pos T r) d) := by
  rw [v21_at]
  show kRms (kX W.w1) (kNg W.w9 0 (by omega)) (ix2 r d) = _
  rw [kRms_at, kNg_eq x0 x1 x2 x3 x4 x5 x6 x7 x8 x9 x10 x11 hW]
  simp only [kX_eq x0 x1 x2 x3 x4 x5 x6 x7 x8 x9 x10 x11 hW]
  rfl

/-- The first normalized rows are real. -/
theorem v21_real (hR : Reals x1 x2 x3 x8 x9) (i) : IsR (val_main_v21 (F := Ideal) x0 x2 i) := by
  rw [ValueIdx.eq_ix3 i]
  exact (v21_at x0 x2 _ _ _).symm ▸ (rmsRow_real _ _).mul (hR.r2 _)

/-- The projection's columns. -/
theorem v23_at (b : Fin 2) (n : Fin 16384) (d : Fin 4096) :
    val_main_v23 (F := Ideal) x0 x2 x3 (ix3 b n d) = ∑ k : Fin 1024, val_main_v21 (F := Ideal) x0 x2 (ix3 b n k) * x3 (ix3 0 k d) := by
  pointwise [val_main_v22, val_main_v23]

/-- The projection's columns are real. -/
theorem v23_real (hR : Reals x1 x2 x3 x8 x9) (b : Fin 2) (n : Fin 16384) (d : Fin 4096) : IsR (val_main_v23 (F := Ideal) x0 x2 x3 (ix3 b n d)) := by
  rw [v23_at]
  exact IsR.sum _ fun k _ => (v21_real x0 x1 x2 x3 x8 x9 hR _).mul (hR.r3 _)

/-- The gated input. -/
theorem v35_at (b : Fin 2) (n : Fin 16384) (d : Fin 1024) :
    val_main_v35 (F := Ideal) x0 x2 x3 (ix3 b n d) = val_main_v23 (F := Ideal) x0 x2 x3 (ix3 b n ⟨d.val, by omega⟩) *
      Ideal.logistic (val_main_v23 (F := Ideal) x0 x2 x3 (ix3 b n ⟨1024 + d.val, by omega⟩)) := by
  unfold Ideal.logistic
  pointwise [val_main_v24, val_main_v25, val_main_v29, val_main_v30, val_main_cst_2, val_main_v31, val_main_v32, val_main_cst_3, val_main_v33, val_main_v34, val_main_v35]

/-- A block of the gated input. -/
theorem kU_eq {W : Win Ideal} {b : Fin 2} {T : Fin 64} (hW : Fits W b T x0 x1 x2 x3 x4 x5 x6 x7 x8 x9 x10 x11) (c0 : ℕ) (hc : c0 + 256 ≤ 1024) (r d : Fin 256) :
    kU W c0 hc (ix3 0 r d) = val_main_v35 (F := Ideal) x0 x2 x3 (ix3 b (pos T r) ⟨c0 + d.val, by omega⟩) := by
  rw [v35_at, v23_at, v23_at]
  unfold kU
  rw [kGlu_at]
  simp only [kH_eq x0 x1 x2 x3 x4 x5 x6 x7 x8 x9 x10 x11 hW, kWc_eq x0 x1 x2 x3 x4 x5 x6 x7 x8 x9 x10 x11 hW c0 256 (by omega) (by omega),
    kWc_eq x0 x1 x2 x3 x4 x5 x6 x7 x8 x9 x10 x11 hW (1024 + c0) 256 (by omega) (by omega), Nat.add_assoc]

/-- The convolution's padded input. -/
theorem v37_at (b : Fin 2) (m : Fin 16414) (d : Fin 1024) :
    val_main_v37 (F := Ideal) x0 x2 x3 (ix3 b m d) = if h : m.val < 30 then 0 else val_main_v35 (F := Ideal) x0 x2 x3 (ix3 b ⟨m.val - 30, by omega⟩ d) := by
  pointwise [val_main_cst_4, val_main_v36, val_main_v37]

/-- The reference's convolution. -/
theorem v260_at (b : Fin 2) (n : Fin 16384) (d : Fin 1024) :
    val_main_v260 (F := Ideal) x0 x2 x3 x4 x5 (ix3 b n d) = (∑ k : Fin 31, val_main_v37 (F := Ideal) x0 x2 x3 (ix3 b ⟨k.val + n.val, by omega⟩ d) *
      x4 (ix3 0 k d)) + x5 (ix2 0 d) := by
  obtain ⟨u, hu⟩ : ∃ u : ℕ → EReal, ∀ i (h : i < 16414), val_main_v37 (F := Ideal) x0 x2 x3 (ix3 b ⟨i, h⟩ d) = u i :=
    ⟨fun i => if h : i < 16414 then val_main_v37 (F := Ideal) x0 x2 x3 (ix3 b ⟨i, h⟩ d) else 0, fun i h => by beta_reduce; rw [dif_pos h]⟩
  obtain ⟨w, hw⟩ : ∃ w : ℕ → EReal, ∀ i (h : i < 31), x4 (ix3 0 ⟨i, h⟩ d) = w i :=
    ⟨fun i => if h : i < 31 then x4 (ix3 0 ⟨i, h⟩ d) else 0, fun i h => by beta_reduce; rw [dif_pos h]⟩
  have hr : ∑ k : Fin 31, val_main_v37 (F := Ideal) x0 x2 x3 (ix3 b ⟨k.val + n.val, by omega⟩ d) * x4 (ix3 0 k d) =
      ∑ k ∈ Finset.range 31, u (k + n.val) * w k := by
    rw [← Fin.sum_univ_eq_sum_range (fun k => u (k + n.val) * w k)]
    exact Finset.sum_congr rfl fun k _ => by rw [← hu _ (by omega), ← hw _ k.isLt]
  rw [hr]
  pointwise [val_main_v38, val_main_v39, val_main_v40, val_main_v41, val_main_v42, val_main_v43, val_main_v44, val_main_v45, val_main_cst_5, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260]
  have hw' : ∀ k : Fin 31, x4 (ix3 0 k d) = w k.val := fun k => hw _ k.isLt
  simp only [hu, hw', Finset.sum_range_succ, Finset.sum_range_zero, zero_add]
  rfl

/-- The reference's layer normalization. -/
theorem v284_at (b : Fin 2) (n : Fin 16384) (d : Fin 1024) :
    val_main_v284 (F := Ideal) x0 x2 x3 x4 x5 x6 x7 (ix3 b n d) =
      lnRow (fun k => val_main_v260 (F := Ideal) x0 x2 x3 x4 x5 (ix3 b n k)) d * x6 (ix2 0 d) + x7 (ix2 0 d) := by
  unfold lnRow
  pointwise [val_main_v261, val_main_v262, val_main_cst_6, val_main_v263, val_main_v264, val_main_cst_7, val_main_v265, val_main_v266, val_main_v267, val_main_v268, val_main_v269, val_main_cst_8, val_main_v270, val_main_v271, val_main_cst_9, val_main_v272, val_main_v273, val_main_cst_10, val_main_v274, val_main_v275, val_main_v276, val_main_v277, val_main_v278, val_main_v279, val_main_v280, val_main_v281, val_main_v282, val_main_v283, val_main_v284]

/-- The mixed rows. -/
theorem v287_at (b : Fin 2) (n : Fin 16384) (d : Fin 1024) :
    val_main_v287 (F := Ideal) x0 x2 x3 x4 x5 x6 x7 (ix3 b n d) =
      val_main_v284 (F := Ideal) x0 x2 x3 x4 x5 x6 x7 (ix3 b n d) * Ideal.logistic (val_main_v284 (F := Ideal) x0 x2 x3 x4 x5 x6 x7 (ix3 b n d)) *
      (val_main_v23 (F := Ideal) x0 x2 x3 (ix3 b n ⟨2048 + d.val, by omega⟩) * Ideal.logistic (val_main_v23 (F := Ideal) x0 x2 x3 (ix3 b n ⟨2048 + d.val, by omega⟩))) := by
  unfold Ideal.logistic
  pointwise [val_main_v26, val_main_call0_v0, val_main_call0_v1, val_main_call0_cst, val_main_call0_v2, val_main_call0_v3, val_main_call0_cst_0, val_main_call0_v4, val_main_call0_v5, val_main_v285, val_main_call1_v0, val_main_call1_v1, val_main_call1_cst, val_main_call1_v2, val_main_call1_v3, val_main_call1_cst_0, val_main_call1_v4, val_main_call1_v5, val_main_v286, val_main_v287]

/-- The memory's rows. -/
theorem v310_at (b : Fin 2) (n : Fin 16384) (d : Fin 512) :
    val_main_v310 (F := Ideal) x0 x1 x2 x3 (ix3 b n d) =
      memRow (fun e => val_main_v23 (F := Ideal) x0 x2 x3 (ix3 b n ⟨3072 + (d.val / 128 * 128 + e.val), by omega⟩))
        (fun m e => val_main_v3 (F := Ideal) x1 (ix5 0 b m ⟨d.val / 128, by omega⟩ e))
        (fun m => val_main_v5 (F := Ideal) x1 (ix5 0 b m ⟨d.val / 128, by omega⟩ ⟨d.val % 128, by omega⟩)) := by
  have hb : Ideal.ofBits .f32 4286578688#32 = ⊥ := by simp [Ideal.ofBits, Ideal.ieee]
  unfold memRow
  pointwise [val_main_v27, val_main_v289, val_main_v290, val_main_v291, val_main_v292, val_main_v293, val_main_v294, val_main_cst_11, val_main_v295, val_main_cst_12, val_main_v296, val_main_v297, val_main_v298, val_main_cst_13, val_main_v299, val_main_v300, val_main_v301, val_main_v302, val_main_v303, val_main_cst_14, val_main_v304, val_main_v305, val_main_v306, val_main_v307, val_main_v308, val_main_v309, val_main_v310]
  simp only [hb]

/-- The memory's gated rows. -/
theorem v312_at (b : Fin 2) (n : Fin 16384) (d : Fin 512) :
    val_main_v312 (F := Ideal) x0 x1 x2 x3 (ix3 b n d) = val_main_v310 (F := Ideal) x0 x1 x2 x3 (ix3 b n d) *
      (val_main_v23 (F := Ideal) x0 x2 x3 (ix3 b n ⟨3584 + d.val, by omega⟩) * Ideal.logistic (val_main_v23 (F := Ideal) x0 x2 x3 (ix3 b n ⟨3584 + d.val, by omega⟩))) := by
  unfold Ideal.logistic
  pointwise [val_main_v28, val_main_call2_v0, val_main_call2_v1, val_main_call2_cst, val_main_call2_v2, val_main_call2_v3, val_main_call2_cst_0, val_main_call2_v4, val_main_call2_v5, val_main_v311, val_main_v312]

/-- The residual stream after the convolution half. -/
theorem v317_at (b : Fin 2) (n : Fin 16384) (d : Fin 1024) :
    val_main_v317 (F := Ideal) x0 x1 x2 x3 x4 x5 x6 x7 x10 (ix3 b n d) = x0 (ix3 b n d) +
      ((∑ k : Fin 1024, val_main_v287 (F := Ideal) x0 x2 x3 x4 x5 x6 x7 (ix3 b n k) * x10 (ix3 0 ⟨k.val, by omega⟩ d)) +
        ∑ k : Fin 512, val_main_v312 (F := Ideal) x0 x1 x2 x3 (ix3 b n k) * x10 (ix3 0 ⟨1024 + k.val, by omega⟩ d)) := by
  pointwise [val_main_v313, val_main_v314, val_main_v315, val_main_v316, val_main_v317]

/-- Four blocks of columns side by side hold a row when each holds its part of it. -/
theorem cat4_at (A B C D : FVec Ideal S256x256 .f32) (r : Fin 256) (f : Fin 1024 → EReal) (hA : ∀ e : Fin 256, A (ix2 r e) = f ⟨0 + e.val, by omega⟩)
    (hB : ∀ e : Fin 256, B (ix2 r e) = f ⟨256 + e.val, by omega⟩) (hC : ∀ e : Fin 256, C (ix2 r e) = f ⟨512 + e.val, by omega⟩)
    (hD : ∀ e : Fin 256, D (ix2 r e) = f ⟨768 + e.val, by omega⟩) (d : Fin 1024) :
    concatenate S256x1024 1 [⟨S256x256, A⟩, ⟨S256x256, B⟩, ⟨S256x256, C⟩, ⟨S256x256, D⟩]
      concatenates_S256x256_S256x256_S256x256_S256x256_S256x1024_d1 (ix2 r d) = f d := by
  pointwise []
  by_cases h1 : d.val < 256
  · rw [dif_pos h1]
    exact (hA _).trans (congrArg f (Fin.ext (by show 0 + d.val = d.val; omega)))
  rw [dif_neg h1]
  by_cases h2 : d.val - 256 < 256
  · rw [dif_pos h2]
    exact (hB ⟨d.val - 256, h2⟩).trans (congrArg f (Fin.ext (by show 256 + (d.val - 256) = d.val; omega)))
  rw [dif_neg h2]
  by_cases h3 : d.val - 256 - 256 < 256
  · rw [dif_pos h3]
    exact (hC ⟨d.val - 256 - 256, h3⟩).trans (congrArg f (Fin.ext (by show 512 + (d.val - 256 - 256) = d.val; omega)))
  rw [dif_neg h3]
  exact (hD ⟨d.val - 256 - 256 - 256, by omega⟩).trans (congrArg f (Fin.ext (by show 768 + (d.val - 256 - 256 - 256) = d.val; omega)))

/-- The mixture of two rows, each times its own logistic. -/
theorem kSilu_mul_at (A B : FVec Ideal S256x1024 .f32) (i) :
    mulf (kSilu A) (kSilu B) i = A i * Ideal.logistic (A i) * (B i * Ideal.logistic (B i)) := rfl

/-- A row times another times its logistic. -/
theorem kMul_silu_at (A B : FVec Ideal S256x512 .f32) (i) :
    mulf A (kSilu B) i = A i * (B i * Ideal.logistic (B i)) := rfl

/-- A convolution block, given its input's columns. -/
theorem kConv_eq {W : Win Ideal} {b : Fin 2} {T : Fin 64} (hW : Fits W b T x0 x1 x2 x3 x4 x5 x6 x7 x8 x9 x10 x11) (c0 : ℕ) (hc : c0 + 256 ≤ 1024) (U : FVec Ideal S1x288x1024 .f32)
    (hU : ∀ (i : Fin 286) (d : Fin 256), U (ix3 0 ⟨2 + i.val, by omega⟩ ⟨c0 + d.val, by omega⟩) =
      val_main_v37 (F := Ideal) x0 x2 x3 (ix3 b ⟨256 * T.val + i.val, by omega⟩ ⟨c0 + d.val, by omega⟩)) (r d : Fin 256) :
    kConv U W.w11 W.w12 c0 hc (ix2 r d) = val_main_v260 (F := Ideal) x0 x2 x3 x4 x5 (ix3 b (pos T r) ⟨c0 + d.val, by omega⟩) := by
  rw [kConv_at, v260_at, hW.h12]
  congr 1
  refine Finset.sum_congr rfl fun k _ => ?_
  rw [hW.h11]
  congr 1
  refine Eq.trans ?_ ((hU ⟨k.val + r.val, by omega⟩ d).trans ?_)
  · congr 2; apply Fin.ext; show 2 + k.val + r.val = 2 + (k.val + r.val); omega
  · congr 2; apply Fin.ext; show 256 * T.val + (k.val + r.val) = k.val + (256 * T.val + r.val); omega

/-- A stored memory key is an entry of the memory. -/
theorem v3_at (l b : Fin 2) (m : Fin 256) (h : Fin 4) (e : Fin 128) : ∃ i, val_main_v3 (F := Ideal) x1 (ix5 l b m h e) = x1 i := by
  pointwise [val_main_v0, val_main_v1, val_main_v2, val_main_v3]
  exact ⟨_, rfl⟩

/-- The residual stream after the convolution half. -/
theorem kX1_eq {W : Win Ideal} {b : Fin 2} {T : Fin 64} (hW : Fits W b T x0 x1 x2 x3 x4 x5 x6 x7 x8 x9 x10 x11) (hR : Reals x1 x2 x3 x8 x9) (U0 U1 U2 U3 : FVec Ideal S1x288x1024 .f32)
    (h0 : ∀ (i : Fin 286) (d : Fin 256), U0 (ix3 0 ⟨2 + i.val, by omega⟩ ⟨0 + d.val, by omega⟩) =
      val_main_v37 (F := Ideal) x0 x2 x3 (ix3 b ⟨256 * T.val + i.val, by omega⟩ ⟨0 + d.val, by omega⟩))
    (h1 : ∀ (i : Fin 286) (d : Fin 256), U1 (ix3 0 ⟨2 + i.val, by omega⟩ ⟨256 + d.val, by omega⟩) =
      val_main_v37 (F := Ideal) x0 x2 x3 (ix3 b ⟨256 * T.val + i.val, by omega⟩ ⟨256 + d.val, by omega⟩))
    (h2 : ∀ (i : Fin 286) (d : Fin 256), U2 (ix3 0 ⟨2 + i.val, by omega⟩ ⟨512 + d.val, by omega⟩) =
      val_main_v37 (F := Ideal) x0 x2 x3 (ix3 b ⟨256 * T.val + i.val, by omega⟩ ⟨512 + d.val, by omega⟩))
    (h3 : ∀ (i : Fin 286) (d : Fin 256), U3 (ix3 0 ⟨2 + i.val, by omega⟩ ⟨768 + d.val, by omega⟩) =
      val_main_v37 (F := Ideal) x0 x2 x3 (ix3 b ⟨256 * T.val + i.val, by omega⟩ ⟨768 + d.val, by omega⟩)) (r : Fin 256) (d : Fin 1024) :
    kX1 W U0 U1 U2 U3 (ix2 r d) = val_main_v317 (F := Ideal) x0 x1 x2 x3 x4 x5 x6 x7 x10 (ix3 b (pos T r) d) := by
  have hC := cat4_at (kConv U0 W.w11 W.w12 0 (by omega)) (kConv U1 W.w11 W.w12 256 (by omega)) (kConv U2 W.w11 W.w12 512 (by omega))
    (kConv U3 W.w11 W.w12 768 (by omega)) r (fun d => val_main_v260 (F := Ideal) x0 x2 x3 x4 x5 (ix3 b (pos T r) d))
    (kConv_eq x0 x1 x2 x3 x4 x5 x6 x7 x8 x9 x10 x11 hW 0 (by omega) U0 h0 r) (kConv_eq x0 x1 x2 x3 x4 x5 x6 x7 x8 x9 x10 x11 hW 256 (by omega) U1 h1 r)
    (kConv_eq x0 x1 x2 x3 x4 x5 x6 x7 x8 x9 x10 x11 hW 512 (by omega) U2 h2 r) (kConv_eq x0 x1 x2 x3 x4 x5 x6 x7 x8 x9 x10 x11 hW 768 (by omega) U3 h3 r)
  have hM : ∀ k : Fin 1024, mulf (kSilu (kLn (concatenate S256x1024 1 [⟨S256x256, kConv U0 W.w11 W.w12 0 (by omega)⟩,
      ⟨S256x256, kConv U1 W.w11 W.w12 256 (by omega)⟩, ⟨S256x256, kConv U2 W.w11 W.w12 512 (by omega)⟩,
      ⟨S256x256, kConv U3 W.w11 W.w12 768 (by omega)⟩] concatenates_S256x256_S256x256_S256x256_S256x256_S256x1024_d1) (kRow W.w13) (kRow W.w14)))
      (kSilu (kDot1024 (kH W) (kWc W.w10 2048 1024 (by omega)))) (ix2 r k) =
      val_main_v287 (F := Ideal) x0 x2 x3 x4 x5 x6 x7 (ix3 b (pos T r) k) := fun k => by
    rw [kSilu_mul_at, kLn_at, kDot1024_at, v287_at, v284_at, v23_at, kRow13_eq x0 x1 x2 x3 x4 x5 x6 x7 x8 x9 x10 x11 hW,
      kRow14_eq x0 x1 x2 x3 x4 x5 x6 x7 x8 x9 x10 x11 hW]
    simp only [hC, kH_eq x0 x1 x2 x3 x4 x5 x6 x7 x8 x9 x10 x11 hW, kWc_eq x0 x1 x2 x3 x4 x5 x6 x7 x8 x9 x10 x11 hW 2048 1024 (by omega) (by omega)]
  have hQ : ∀ e : Fin 512, kDot512 (kH W) (kWc W.w10 3072 512 (by omega)) (ix2 r e) =
      val_main_v23 (F := Ideal) x0 x2 x3 (ix3 b (pos T r) ⟨3072 + e.val, by omega⟩) := fun e => by
    rw [kDot512_at, v23_at]
    simp only [kH_eq x0 x1 x2 x3 x4 x5 x6 x7 x8 x9 x10 x11 hW, kWc_eq x0 x1 x2 x3 x4 x5 x6 x7 x8 x9 x10 x11 hW 3072 512 (by omega) (by omega)]
  have hXO : ∀ k : Fin 512, mulf (kMem (kDot512 (kH W) (kWc W.w10 3072 512 (by omega))) (kMk W.w7 0 (by omega)) (kMk W.w8 0 (by omega)))
      (kSilu (kDot512 (kH W) (kWc W.w10 3584 512 (by omega)))) (ix2 r k) =
      val_main_v312 (F := Ideal) x0 x1 x2 x3 (ix3 b (pos T r) k) := fun k => by
    rw [kMul_silu_at, v312_at, v310_at, kMem_at]
    · congr 1
      · congr 1
        · funext e; exact hQ _
        · funext m e
          rw [kMk7_eq x0 x1 x2 x3 x4 x5 x6 x7 x8 x9 x10 x11 hW]
          congr 1
          exact ix5_ext rfl rfl rfl (by show (k.val / 128 * 128 + e.val) / 128 = k.val / 128; omega) (by show (k.val / 128 * 128 + e.val) % 128 = e.val; omega)
        · funext m; exact kMk8_eq x0 x1 x2 x3 x4 x5 x6 x7 x8 x9 x10 x11 hW _ _ _ _
      · rw [kDot512_at, v23_at]
        simp only [kH_eq x0 x1 x2 x3 x4 x5 x6 x7 x8 x9 x10 x11 hW, kWc_eq x0 x1 x2 x3 x4 x5 x6 x7 x8 x9 x10 x11 hW 3584 512 (by omega) (by omega)]
    · intro e
      rw [hQ]
      exact v23_real x0 x1 x2 x3 x8 x9 hR _ _ _
    · intro m e
      rw [kMk7_eq x0 x1 x2 x3 x4 x5 x6 x7 x8 x9 x10 x11 hW]
      obtain ⟨i, hi⟩ := v3_at x1 ⟨0, by omega⟩ b m ⟨e.val / 128, by omega⟩ ⟨e.val % 128, by omega⟩
      rw [hi]
      exact hR.r1 i
  rw [v317_at]
  unfold kX1
  show kX W.w1 (ix2 r d) + kOut _ _ _ (ix2 r d) = _
  rw [kX_eq x0 x1 x2 x3 x4 x5 x6 x7 x8 x9 x10 x11 hW, kOut_at]
  simp only [hM, hXO, kWo_eq x0 x1 x2 x3 x4 x5 x6 x7 x8 x9 x10 x11 hW]
  rfl

end Cert.KernelIdeal.Trunk
-- ==== Proof.RefHalf.lean ====
module

public import proofs.«01_k».proof.Proof.Half1
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-! # The reference's attention half -/

variable (x0 : FVec Ideal Cert.ReferenceIdeal.S2x16384x1024 .f32) (x1 : FVec Ideal Cert.ReferenceIdeal.S2x512x1024 .bf16) (x2 : FVec Ideal Cert.ReferenceIdeal.S2x1024 .f32) (x3 : FVec Ideal Cert.ReferenceIdeal.S1x1024x4096 .f32) (x4 : FVec Ideal Cert.ReferenceIdeal.S1x31x1024 .f32) (x5 : FVec Ideal Cert.ReferenceIdeal.S1x1024 .f32) (x6 : FVec Ideal Cert.ReferenceIdeal.S1x1024 .f32) (x7 : FVec Ideal Cert.ReferenceIdeal.S1x1024 .f32) (x8 : FVec Ideal Cert.ReferenceIdeal.S1x1024x3328 .f32) (x9 : FVec Ideal Cert.ReferenceIdeal.S1x16 .f32) (x10 : FVec Ideal Cert.ReferenceIdeal.S2x1536x1024 .f32) (x11 : FVec Ideal Cert.ReferenceIdeal.S1024 .f32)

/-- The rotary embedding of a head's 64 lanes at a position. -/
def ropeRow (t : Fin 64 → EReal) (n : ℕ) (e : Fin 64) : EReal :=
  if h : e.val < 32 then t e * Ideal.cos (angle n e.val) - t ⟨32 + e.val, by omega⟩ * Ideal.sin (angle n e.val)
  else t e * Ideal.cos (angle n (e.val - 32)) + t ⟨e.val - 32, by omega⟩ * Ideal.sin (angle n (e.val - 32))

/-- The reference's second normalized rows. -/
theorem v332_at (b : Fin 2) (n : Fin 16384) (d : Fin 1024) :
    val_main_v332 (F := Ideal) x0 x1 x2 x3 x4 x5 x6 x7 x10 (ix3 b n d) = rmsRow (fun k => val_main_v317 (F := Ideal) x0 x1 x2 x3 x4 x5 x6 x7 x10 (ix3 b n k)) d * x2 (ix2 1 d) := by
  unfold rmsRow
  pointwise [val_main_v318, val_main_v319, val_main_v320, val_main_cst_15, val_main_v321, val_main_v322, val_main_cst_16, val_main_v323, val_main_v324, val_main_cst_17, val_main_v325, val_main_v326, val_main_v327, val_main_v328, val_main_v329, val_main_v330, val_main_v331, val_main_v332]

/-- The attention half's projection. -/
theorem v334_at (b : Fin 2) (n : Fin 16384) (d : Fin 3328) :
    val_main_v334 (F := Ideal) x0 x1 x2 x3 x4 x5 x6 x7 x8 x10 (ix3 b n d) = ∑ k : Fin 1024, val_main_v332 (F := Ideal) x0 x1 x2 x3 x4 x5 x6 x7 x10 (ix3 b n k) * x8 (ix3 0 k d) := by
  pointwise [val_main_v333, val_main_v334]

/-- The attention half's projection is real. -/
theorem v334_real (hR : Reals x1 x2 x3 x8 x9) (b : Fin 2) (n : Fin 16384) (d : Fin 3328) : IsR (val_main_v334 (F := Ideal) x0 x1 x2 x3 x4 x5 x6 x7 x8 x10 (ix3 b n d)) := by
  rw [v334_at]
  refine IsR.sum _ fun k _ => IsR.mul ?_ (hR.r8 _)
  rw [v332_at]
  exact (rmsRow_real _ _).mul (hR.r2 _)

/-- The reference's rotated queries. -/
theorem v374_at (b : Fin 2) (n : Fin 16384) (h : Fin 16) (e : Fin 64) :
    val_main_v374 (F := Ideal) x0 x1 x2 x3 x4 x5 x6 x7 x8 x10 (ix4 b n h e) = ropeRow (fun e => val_main_v334 (F := Ideal) x0 x1 x2 x3 x4 x5 x6 x7 x8 x10 (ix3 b n ⟨h.val * 64 + e.val, by omega⟩)) n.val e := by
  unfold ropeRow angle
  pointwise [val_main_v6, val_main_v335, val_main_v341, val_main_v342, val_main_v343, val_main_cst_18, val_main_v344, val_main_v345, val_main_cst_19, val_main_v346, val_main_v347, val_main_v348, val_main_v349, val_main_v350, val_main_v351, val_main_v352, val_main_v353, val_main_v354, val_main_v355, val_main_v356, val_main_v357, val_main_v358, val_main_v359, val_main_v360, val_main_v361, val_main_v362, val_main_v363, val_main_v364, val_main_v365, val_main_v366, val_main_v367, val_main_v368, val_main_v369, val_main_v370, val_main_v371, val_main_v372, val_main_v373, val_main_v374]
  by_cases he : e.val < 32
  · rw [dif_pos he, dif_pos he]
  · rw [dif_neg he, dif_neg he]
    have h32 : 32 + (e.val - 32) = e.val := by omega
    simp only [h32]

/-- The reference's rotated keys. -/
theorem v408_at (b : Fin 2) (n : Fin 16384) (h : Fin 2) (e : Fin 64) :
    val_main_v408 (F := Ideal) x0 x1 x2 x3 x4 x5 x6 x7 x8 x10 (ix4 b n h e) = ropeRow (fun e => val_main_v334 (F := Ideal) x0 x1 x2 x3 x4 x5 x6 x7 x8 x10 (ix3 b n ⟨1024 + (h.val * 64 + e.val), by omega⟩)) n.val e := by
  unfold ropeRow angle
  pointwise [val_main_v6, val_main_v336, val_main_v375, val_main_v376, val_main_v377, val_main_cst_20, val_main_v378, val_main_v379, val_main_cst_21, val_main_v380, val_main_v381, val_main_v382, val_main_v383, val_main_v384, val_main_v385, val_main_v386, val_main_v387, val_main_v388, val_main_v389, val_main_v390, val_main_v391, val_main_v392, val_main_v393, val_main_v394, val_main_v395, val_main_v396, val_main_v397, val_main_v398, val_main_v399, val_main_v400, val_main_v401, val_main_v402, val_main_v403, val_main_v404, val_main_v405, val_main_v406, val_main_v407, val_main_v408]
  by_cases he : e.val < 32
  · rw [dif_pos he, dif_pos he]
  · rw [dif_neg he, dif_neg he]
    have h32 : 32 + (e.val - 32) = e.val := by omega
    simp only [h32]

/-- The reference's values. -/
theorem v409_at (b : Fin 2) (n : Fin 16384) (h : Fin 2) (e : Fin 64) :
    val_main_v409 (F := Ideal) x0 x1 x2 x3 x4 x5 x6 x7 x8 x10 (ix4 b n h e) = val_main_v334 (F := Ideal) x0 x1 x2 x3 x4 x5 x6 x7 x8 x10 (ix3 b n ⟨1152 + (h.val * 64 + e.val), by omega⟩) := by
  pointwise [val_main_v337, val_main_v409]

/-- The integer zero is the number zero. -/
theorem sitofp_zero : FloatOps.sitofp (F := Ideal) .f32 0#32 = 0 := by
  show ((((0#32 : BitVec 32).toInt : ℤ) : ℝ) : EReal) = 0
  simp

/-- The reference's keys, padded before the sequence's start. -/
theorem v411_at (b : Fin 2) (m : Fin 16512) (h : Fin 2) (e : Fin 64) :
    val_main_v411 (F := Ideal) x0 x1 x2 x3 x4 x5 x6 x7 x8 x10 (ix4 b m h e) = if h' : m.val < 128 then 0 else val_main_v408 (F := Ideal) x0 x1 x2 x3 x4 x5 x6 x7 x8 x10 (ix4 b ⟨m.val - 128, by omega⟩ h e) := by
  pointwise [val_main_c, val_main_call3_v0, val_main_v411]
  by_cases h' : m.val < 128
  · rw [dif_neg (by omega), dif_pos h', sitofp_zero]
  · rw [dif_pos (by omega), dif_neg h']

/-- The reference's values, padded before the sequence's start. -/
theorem v413_at (b : Fin 2) (m : Fin 16512) (h : Fin 2) (e : Fin 64) :
    val_main_v413 (F := Ideal) x0 x1 x2 x3 x4 x5 x6 x7 x8 x10 (ix4 b m h e) = if h' : m.val < 128 then 0 else val_main_v409 (F := Ideal) x0 x1 x2 x3 x4 x5 x6 x7 x8 x10 (ix4 b ⟨m.val - 128, by omega⟩ h e) := by
  pointwise [val_main_c_22, val_main_call4_v0, val_main_v413]
  by_cases h' : m.val < 128
  · rw [dif_neg (by omega), dif_pos h', sitofp_zero]
  · rw [dif_pos (by omega), dif_neg h']

/-- A chunk's keys. -/
theorem v418_at (b : Fin 2) (c : Fin 256) (x : Fin 192) (h : Fin 2) (e : Fin 64) :
    val_main_v418 (F := Ideal) x0 x1 x2 x3 x4 x5 x6 x7 x8 x10 (ix5 b c x h e) = val_main_v411 (F := Ideal) x0 x1 x2 x3 x4 x5 x6 x7 x8 x10 (ix4 b ⟨64 * c.val + x.val, by omega⟩ h e) := by
  pointwise [val_main_v412, val_main_v415, val_main_v416, val_main_v417, val_main_v418]
  by_cases h1 : x.val < 64
  · rw [dif_pos h1]
    exact congrArg _ (ix4_ext rfl (by show c.val * 64 + x.val = 64 * c.val + x.val; omega) rfl rfl)
  rw [dif_neg h1]
  by_cases h2 : x.val - 64 < 64
  · rw [dif_pos h2]
    exact congrArg _ (ix4_ext rfl (by show (1 + c.val) * 64 + (x.val - 64) = 64 * c.val + x.val; omega) rfl rfl)
  · rw [dif_neg h2]
    exact congrArg _ (ix4_ext rfl (by show (2 + c.val) * 64 + (x.val - 64 - 64) = 64 * c.val + x.val; omega) rfl rfl)

/-- A chunk's values. -/
theorem v422_at (b : Fin 2) (c : Fin 256) (x : Fin 192) (h : Fin 2) (e : Fin 64) :
    val_main_v422 (F := Ideal) x0 x1 x2 x3 x4 x5 x6 x7 x8 x10 (ix5 b c x h e) = val_main_v413 (F := Ideal) x0 x1 x2 x3 x4 x5 x6 x7 x8 x10 (ix4 b ⟨64 * c.val + x.val, by omega⟩ h e) := by
  pointwise [val_main_v414, val_main_v419, val_main_v420, val_main_v421, val_main_v422]
  by_cases h1 : x.val < 64
  · rw [dif_pos h1]
    exact congrArg _ (ix4_ext rfl (by show c.val * 64 + x.val = 64 * c.val + x.val; omega) rfl rfl)
  rw [dif_neg h1]
  by_cases h2 : x.val - 64 < 64
  · rw [dif_pos h2]
    exact congrArg _ (ix4_ext rfl (by show (1 + c.val) * 64 + (x.val - 64) = 64 * c.val + x.val; omega) rfl rfl)
  · rw [dif_neg h2]
    exact congrArg _ (ix4_ext rfl (by show (2 + c.val) * 64 + (x.val - 64 - 64) = 64 * c.val + x.val; omega) rfl rfl)

/-- The number of the block of 64 that a key of a chunk lies in. -/
theorem v434_at (x : Fin 192) : val_main_v434 (F := Ideal) (ix2 0 x) = BitVec.ofNat 32 (x.val / 64) := by
  pointwise [val_main_v432, val_main_v433, val_main_c_25, val_main_call5_v0, val_main_call5_v1, val_main_call5_v2, val_main_call5_v3, val_main_call5_v4, val_main_call5_v5, val_main_call5_v6, val_main_call5_v7, val_main_call5_v8, val_main_call5_c, val_main_call5_v9, val_main_call5_v10, val_main_call5_v11, val_main_call5_c_0, val_main_call5_v12, val_main_call5_v13, val_main_v434]
  revert x
  decide +kernel

/-- Whether a key's block lies in the sequence, as a bit. -/
theorem block_bit (c : Fin 256) (k : Fin 3) :
    IntOp.cmpi .sge (IntOp.addi (IntOp.subi (BitVec.ofNat 32 c.val) 2#32) (BitVec.ofNat 32 k.val)) 0#32 = if 2 ≤ c.val + k.val then 1 else 0 := by
  revert c k
  decide +kernel

/-- A key lies in the sequence. -/
theorem v439_at (c : Fin 256) (x : Fin 192) : val_main_v439 (F := Ideal) (ix2 c x) = if 2 ≤ c.val + x.val / 64 then 1 else 0 := by
  rw [← block_bit c ⟨x.val / 64, by omega⟩]
  pointwise [val_main_v428, val_main_v429, val_main_c_24, val_main_v430, val_main_v431, val_main_v435, val_main_v436, val_main_v437, val_main_c_26, val_main_v438, val_main_v439]
  rw [v434_at]

/-- A chunk's queries. -/
theorem v423_at (b : Fin 2) (c : Fin 256) (i : Fin 64) (g : Fin 2) (hh : Fin 8) (e : Fin 64) :
    val_main_v423 (F := Ideal) x0 x1 x2 x3 x4 x5 x6 x7 x8 x10 (ix6 b c i g hh e) = val_main_v374 (F := Ideal) x0 x1 x2 x3 x4 x5 x6 x7 x8 x10 (ix4 b ⟨64 * c.val + i.val, by omega⟩ ⟨8 * g.val + hh.val, by omega⟩ e) := by
  pointwise [val_main_v423]
  exact congrArg _ (ix4_ext rfl (by show c.val * 64 + i.val = 64 * c.val + i.val; omega) (by show g.val * 8 + hh.val = 8 * g.val + hh.val; omega) rfl)

/-- The reference's masked scores. -/
theorem v441_at (b : Fin 2) (c : Fin 256) (g : Fin 2) (hh : Fin 8) (i : Fin 64) (x : Fin 192) :
    val_main_v441 (F := Ideal) x0 x1 x2 x3 x4 x5 x6 x7 x8 x10 (ix6 b c g hh i x) = if 2 ≤ c.val + x.val / 64 then
      (∑ e : Fin 64, val_main_v411 (F := Ideal) x0 x1 x2 x3 x4 x5 x6 x7 x8 x10 (ix4 b ⟨64 * c.val + x.val, by omega⟩ g e) *
        val_main_v374 (F := Ideal) x0 x1 x2 x3 x4 x5 x6 x7 x8 x10 (ix4 b ⟨64 * c.val + i.val, by omega⟩ ⟨8 * g.val + hh.val, by omega⟩ e)) * ((8 : ℝ)⁻¹ : ℝ) else ⊥ := by
  have hb : Ideal.ofBits .f32 4286578688#32 = ⊥ := by simp [Ideal.ofBits, Ideal.ieee]
  simp only [← v418_at, ← v423_at]
  pointwise [val_main_v424, val_main_v425, val_main_cst_23, val_main_v426, val_main_v427, val_main_v440, val_main_cst_27, val_main_call6_v0, val_main_call6_v1, val_main_call6_v2, val_main_v441]
  rw [v439_at]
  by_cases h : 2 ≤ c.val + x.val / 64
  · rw [if_pos h, if_pos h, ← ofBits_eighth]
    rfl
  · rw [if_neg h, if_neg h]
    exact hb

/-- The scores with the sink behind them. -/
theorem v444_at (b : Fin 2) (c : Fin 256) (g : Fin 2) (hh : Fin 8) (i : Fin 64) (k : Fin 193) :
    val_main_v444 (F := Ideal) x0 x1 x2 x3 x4 x5 x6 x7 x8 x9 x10 (ix6 b c g hh i k) = if h : k.val < 192 then val_main_v441 (F := Ideal) x0 x1 x2 x3 x4 x5 x6 x7 x8 x10 (ix6 b c g hh i ⟨k.val, h⟩) else x9 (ix2 0 ⟨8 * g.val + hh.val, by omega⟩) := by
  pointwise [val_main_v410, val_main_v442, val_main_v443, val_main_v444]
  by_cases h : k.val < 192
  · rw [dif_pos h, dif_pos h]
  · rw [dif_neg h, dif_neg h]
    simp only [Nat.mul_comm]

/-- The largest of 192 scores and a sink. -/
theorem fold193 (s : Fin 192 → EReal) (t : EReal) (f : Fin 193 → EReal) (hs : ∀ k : Fin 192, f k.castSucc = s k) (ht : f (Fin.last 192) = t) :
    Finset.univ.fold max ⊥ f = max (Finset.univ.fold max ⊥ s) t := by
  rw [Fin.univ_castSuccEmb, Finset.fold_cons, Finset.fold_map, ht, max_comm]
  congr 1
  exact Finset.fold_congr fun k _ => hs k

/-- The largest score of a head. -/
theorem v445_at (b : Fin 2) (c : Fin 256) (g : Fin 2) (hh : Fin 8) (i : Fin 64) :
    val_main_v445 (F := Ideal) x0 x1 x2 x3 x4 x5 x6 x7 x8 x9 x10 (ix5 b c g hh i) = Finset.univ.fold max ⊥ fun k => val_main_v444 (F := Ideal) x0 x1 x2 x3 x4 x5 x6 x7 x8 x9 x10 (ix6 b c g hh i k) := by
  have hb : Ideal.ofBits .f32 4286578688#32 = ⊥ := by simp [Ideal.ofBits, Ideal.ieee]
  unfold val_main_v445
  generalize val_main_v444 (F := Ideal) x0 x1 x2 x3 x4 x5 x6 x7 x8 x9 x10 = y
  rw [Host.reduce_eq_fold_single _ _ _ _ (by decide)]
  show Finset.univ.fold max (Ideal.ofBits .f32 4286578688#32) _ = _
  rw [hb]
  refine Finset.fold_congr fun k _ => congrArg y (funext fun a => Fin.ext ?_)
  match a with | ⟨0, _⟩ => rfl | ⟨1, _⟩ => rfl | ⟨2, _⟩ => rfl | ⟨3, _⟩ => rfl | ⟨4, _⟩ => rfl | ⟨5, _⟩ => rfl

/-- A score's exponential. -/
theorem v449_at (b : Fin 2) (c : Fin 256) (g : Fin 2) (hh : Fin 8) (i : Fin 64) (k : Fin 193) :
    val_main_v449 (F := Ideal) x0 x1 x2 x3 x4 x5 x6 x7 x8 x9 x10 (ix6 b c g hh i k) = Ideal.exp (val_main_v444 (F := Ideal) x0 x1 x2 x3 x4 x5 x6 x7 x8 x9 x10 (ix6 b c g hh i k) - val_main_v445 (F := Ideal) x0 x1 x2 x3 x4 x5 x6 x7 x8 x9 x10 (ix5 b c g hh i)) := by
  pointwise [val_main_v446, val_main_v447, val_main_v448, val_main_v449]

/-- A head's sum of exponentials. -/
theorem v450_at (b : Fin 2) (c : Fin 256) (g : Fin 2) (hh : Fin 8) (i : Fin 64) :
    val_main_v450 (F := Ideal) x0 x1 x2 x3 x4 x5 x6 x7 x8 x9 x10 (ix5 b c g hh i) = ∑ k, val_main_v449 (F := Ideal) x0 x1 x2 x3 x4 x5 x6 x7 x8 x9 x10 (ix6 b c g hh i k) := by
  rw [val_main_v450_apply, val_main_cst_29_apply]
  show Ideal.ofBits .f32 0#32 + _ = _
  rw [Ideal.ofBits_zero, zero_add]
  refine Finset.sum_congr rfl fun k _ => congrArg _ (funext fun a => ?_)
  match a with | ⟨0, _⟩ => rfl | ⟨1, _⟩ => rfl | ⟨2, _⟩ => rfl | ⟨3, _⟩ => rfl | ⟨4, _⟩ => rfl | ⟨5, _⟩ => rfl

/-- The windowed attention, over the scores with the sink. -/
theorem v457_raw (b : Fin 2) (n : Fin 16384) (d : Fin 1024) (S : Fin 193 → EReal)
    (hS : ∀ k, val_main_v444 (F := Ideal) x0 x1 x2 x3 x4 x5 x6 x7 x8 x9 x10 (ix6 b ⟨n.val / 64, by omega⟩ ⟨d.val / 512, by omega⟩ ⟨d.val / 64 % 8, by omega⟩ ⟨n.val % 64, by omega⟩ k) = S k) :
    val_main_v457 (F := Ideal) x0 x1 x2 x3 x4 x5 x6 x7 x8 x9 x10 (ix3 b n d) = ∑ x : Fin 192, val_main_v422 (F := Ideal) x0 x1 x2 x3 x4 x5 x6 x7 x8 x10 (ix5 b ⟨n.val / 64, by omega⟩ x ⟨d.val / 512, by omega⟩ ⟨d.val % 64, by omega⟩) *
      Ideal.div (Ideal.exp (S ⟨x.val, by omega⟩ - Finset.univ.fold max ⊥ S)) (∑ k, Ideal.exp (S k - Finset.univ.fold max ⊥ S)) := by
  have h : ∀ k, val_main_v449 (F := Ideal) x0 x1 x2 x3 x4 x5 x6 x7 x8 x9 x10 (ix6 b ⟨n.val / 64, by omega⟩ ⟨d.val / 512, by omega⟩ ⟨d.val / 64 % 8, by omega⟩ ⟨n.val % 64, by omega⟩ k) =
      Ideal.exp (S k - Finset.univ.fold max ⊥ S) := fun k => by
    rw [v449_at, v445_at]
    simp only [hS]
  simp only [← h, ← v450_at]
  pointwise [val_main_v451, val_main_v452, val_main_v453, val_main_v454, val_main_v455, val_main_v456, val_main_v457]
  simp only [v450_at]

/-- The reference's scores of one query head, over its chunk's 192 keys. -/
def refScr (b : Fin 2) (n : Fin 16384) (h : Fin 16) (x : Fin 192) : EReal :=
  if 2 ≤ n.val / 64 + x.val / 64 then
    (∑ e : Fin 64, val_main_v411 (F := Ideal) x0 x1 x2 x3 x4 x5 x6 x7 x8 x10 (ix4 b ⟨64 * (n.val / 64) + x.val, by omega⟩ ⟨h.val / 8, by omega⟩ e) * val_main_v374 (F := Ideal) x0 x1 x2 x3 x4 x5 x6 x7 x8 x10 (ix4 b n h e)) * ((8 : ℝ)⁻¹ : ℝ) else ⊥

/-- The windowed attention: softmax over a chunk's keys and the head's sink. -/
theorem v457_at (b : Fin 2) (n : Fin 16384) (d : Fin 1024) (s : Fin 192 → EReal) (t : EReal)
    (hs : s = refScr x0 x1 x2 x3 x4 x5 x6 x7 x8 x10 b n ⟨d.val / 64, by omega⟩) (ht : t = x9 (ix2 0 ⟨d.val / 64, by omega⟩)) :
    val_main_v457 (F := Ideal) x0 x1 x2 x3 x4 x5 x6 x7 x8 x9 x10 (ix3 b n d) = ∑ x : Fin 192, val_main_v413 (F := Ideal) x0 x1 x2 x3 x4 x5 x6 x7 x8 x10 (ix4 b ⟨64 * (n.val / 64) + x.val, by omega⟩ ⟨d.val / 512, by omega⟩ ⟨d.val % 64, by omega⟩) *
      Ideal.div (Ideal.exp (s x - max (Finset.univ.fold max ⊥ s) t))
        ((∑ x, Ideal.exp (s x - max (Finset.univ.fold max ⊥ s) t)) + Ideal.exp (t - max (Finset.univ.fold max ⊥ s) t)) := by
  have e1 : 8 * (d.val / 512) + d.val / 64 % 8 = d.val / 64 := by omega
  have e2 : 64 * (n.val / 64) + n.val % 64 = n.val := by omega
  have e3 : d.val / 64 / 8 = d.val / 512 := by omega
  have h0 : ∀ k : Fin 192, (fun k : Fin 193 => if h : k.val < 192 then s ⟨k.val, h⟩ else t) k.castSucc = s k := fun k => dif_pos k.isLt
  have h1 : (fun k : Fin 193 => if h : k.val < 192 then s ⟨k.val, h⟩ else t) (Fin.last 192) = t := dif_neg (lt_irrefl 192)
  have h2 : ∀ (x : Fin 192) (h : x.val < 193), (fun k : Fin 193 => if h : k.val < 192 then s ⟨k.val, h⟩ else t) ⟨x.val, h⟩ = s x := fun x _ => dif_pos x.isLt
  have h3 : ∀ M : EReal, ∑ k, Ideal.exp ((fun k : Fin 193 => if h : k.val < 192 then s ⟨k.val, h⟩ else t) k - M) =
      (∑ x, Ideal.exp (s x - M)) + Ideal.exp (t - M) := fun M => by
    rw [Fin.sum_univ_castSucc, h1]
    exact congrArg (· + _) (Finset.sum_congr rfl fun x _ => by rw [h0])
  refine (v457_raw x0 x1 x2 x3 x4 x5 x6 x7 x8 x9 x10 b n d (fun k => if h : k.val < 192 then s ⟨k.val, h⟩ else t) fun k => ?_).trans ?_
  rotate_left
  · rw [fold193 s t _ h0 h1, h3]
    exact Finset.sum_congr rfl fun x _ => by rw [dif_pos x.isLt, v422_at]
  · rw [v444_at]
    by_cases h : k.val < 192
    · rw [dif_pos h, dif_pos h, v441_at, hs]
      simp only [refScr, e1, e2, e3]
    · rw [dif_neg h, dif_neg h, ht]
      simp only [e1]

end Cert.KernelIdeal.Trunk
-- ==== Proof.RefEnd.lean ====
module

public import proofs.«01_k».proof.Proof.RefHalf
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-! # The reference's last rows -/

variable (x0 : FVec Ideal Cert.ReferenceIdeal.S2x16384x1024 .f32) (x1 : FVec Ideal Cert.ReferenceIdeal.S2x512x1024 .bf16) (x2 : FVec Ideal Cert.ReferenceIdeal.S2x1024 .f32) (x3 : FVec Ideal Cert.ReferenceIdeal.S1x1024x4096 .f32) (x4 : FVec Ideal Cert.ReferenceIdeal.S1x31x1024 .f32) (x5 : FVec Ideal Cert.ReferenceIdeal.S1x1024 .f32) (x6 : FVec Ideal Cert.ReferenceIdeal.S1x1024 .f32) (x7 : FVec Ideal Cert.ReferenceIdeal.S1x1024 .f32) (x8 : FVec Ideal Cert.ReferenceIdeal.S1x1024x3328 .f32) (x9 : FVec Ideal Cert.ReferenceIdeal.S1x16 .f32) (x10 : FVec Ideal Cert.ReferenceIdeal.S2x1536x1024 .f32) (x11 : FVec Ideal Cert.ReferenceIdeal.S1024 .f32)

/-- The memory's rows, in the attention half. -/
theorem v481_at (b : Fin 2) (n : Fin 16384) (d : Fin 512) :
    val_main_v481 (F := Ideal) x0 x1 x2 x3 x4 x5 x6 x7 x8 x10 (ix3 b n d) =
      memRow (fun e => val_main_v334 (F := Ideal) x0 x1 x2 x3 x4 x5 x6 x7 x8 x10 (ix3 b n ⟨2304 + (d.val / 128 * 128 + e.val), by omega⟩))
        (fun m e => val_main_v3 (F := Ideal) x1 (ix5 1 b m ⟨d.val / 128, by omega⟩ e))
        (fun m => val_main_v5 (F := Ideal) x1 (ix5 1 b m ⟨d.val / 128, by omega⟩ ⟨d.val % 128, by omega⟩)) := by
  have hb : Ideal.ofBits .f32 4286578688#32 = ⊥ := by simp [Ideal.ofBits, Ideal.ieee]
  unfold memRow
  pointwise [val_main_v339, val_main_v460, val_main_v461, val_main_v462, val_main_v463, val_main_v464, val_main_v465, val_main_cst_30, val_main_v466, val_main_cst_31, val_main_v467, val_main_v468, val_main_v469, val_main_cst_32, val_main_v470, val_main_v471, val_main_v472, val_main_v473, val_main_v474, val_main_cst_33, val_main_v475, val_main_v476, val_main_v477, val_main_v478, val_main_v479, val_main_v480, val_main_v481]
  simp only [hb]

/-- The memory's gated rows, in the attention half. -/
theorem v483_at (b : Fin 2) (n : Fin 16384) (d : Fin 512) :
    val_main_v483 (F := Ideal) x0 x1 x2 x3 x4 x5 x6 x7 x8 x10 (ix3 b n d) = val_main_v481 (F := Ideal) x0 x1 x2 x3 x4 x5 x6 x7 x8 x10 (ix3 b n d) *
      (val_main_v334 (F := Ideal) x0 x1 x2 x3 x4 x5 x6 x7 x8 x10 (ix3 b n ⟨2816 + d.val, by omega⟩) * Ideal.logistic (val_main_v334 (F := Ideal) x0 x1 x2 x3 x4 x5 x6 x7 x8 x10 (ix3 b n ⟨2816 + d.val, by omega⟩))) := by
  unfold Ideal.logistic
  pointwise [val_main_v340, val_main_call8_v0, val_main_call8_v1, val_main_call8_cst, val_main_call8_v2, val_main_call8_v3, val_main_call8_cst_0, val_main_call8_v4, val_main_call8_v5, val_main_v482, val_main_v483]

/-- The gate of the windowed attention's rows. -/
theorem v458_at (b : Fin 2) (n : Fin 16384) (d : Fin 1024) :
    val_main_v458 (F := Ideal) x0 x1 x2 x3 x4 x5 x6 x7 x8 x10 (ix3 b n d) = val_main_v334 (F := Ideal) x0 x1 x2 x3 x4 x5 x6 x7 x8 x10 (ix3 b n ⟨1280 + d.val, by omega⟩) * Ideal.logistic (val_main_v334 (F := Ideal) x0 x1 x2 x3 x4 x5 x6 x7 x8 x10 (ix3 b n ⟨1280 + d.val, by omega⟩)) := by
  unfold Ideal.logistic
  pointwise [val_main_v338, val_main_call7_v0, val_main_call7_v1, val_main_call7_cst, val_main_call7_v2, val_main_call7_v3, val_main_call7_cst_0, val_main_call7_v4, val_main_call7_v5, val_main_v458]

/-- The windowed attention's gated rows. -/
theorem v459_at (b : Fin 2) (n : Fin 16384) (d : Fin 1024) :
    val_main_v459 (F := Ideal) x0 x1 x2 x3 x4 x5 x6 x7 x8 x9 x10 (ix3 b n d) = val_main_v457 (F := Ideal) x0 x1 x2 x3 x4 x5 x6 x7 x8 x9 x10 (ix3 b n d) *
      (val_main_v334 (F := Ideal) x0 x1 x2 x3 x4 x5 x6 x7 x8 x10 (ix3 b n ⟨1280 + d.val, by omega⟩) * Ideal.logistic (val_main_v334 (F := Ideal) x0 x1 x2 x3 x4 x5 x6 x7 x8 x10 (ix3 b n ⟨1280 + d.val, by omega⟩))) := by
  rw [val_main_v459_apply, v458_at]
  rfl

/-- The residual stream after the attention half. -/
theorem v488_at (b : Fin 2) (n : Fin 16384) (d : Fin 1024) :
    val_main_v488 (F := Ideal) x0 x1 x2 x3 x4 x5 x6 x7 x8 x9 x10 (ix3 b n d) = val_main_v317 (F := Ideal) x0 x1 x2 x3 x4 x5 x6 x7 x10 (ix3 b n d) +
      ((∑ k : Fin 1024, val_main_v459 (F := Ideal) x0 x1 x2 x3 x4 x5 x6 x7 x8 x9 x10 (ix3 b n k) * x10 (ix3 1 ⟨k.val, by omega⟩ d)) +
        ∑ k : Fin 512, val_main_v483 (F := Ideal) x0 x1 x2 x3 x4 x5 x6 x7 x8 x10 (ix3 b n k) * x10 (ix3 1 ⟨1024 + k.val, by omega⟩ d)) := by
  pointwise [val_main_v484, val_main_v485, val_main_v486, val_main_v487, val_main_v488]

/-- The reference's result rows. -/
theorem v501_at (b : Fin 2) (n : Fin 16384) (d : Fin 1024) :
    val_main_v501 (F := Ideal) x0 x1 x2 x3 x4 x5 x6 x7 x8 x9 x10 x11 (ix3 b n d) = rmsRow (fun k => val_main_v488 (F := Ideal) x0 x1 x2 x3 x4 x5 x6 x7 x8 x9 x10 (ix3 b n k)) d * x11 (ix1 d) := by
  unfold rmsRow
  pointwise [val_main_v489, val_main_cst_34, val_main_v490, val_main_v491, val_main_cst_35, val_main_v492, val_main_v493, val_main_cst_36, val_main_v494, val_main_v495, val_main_v496, val_main_v497, val_main_v498, val_main_v499, val_main_v500, val_main_v501]

/-- The reference's last keys. -/
theorem v503_at (b : Fin 2) (r d : Fin 128) :
    val_main_v503 (F := Ideal) x0 x1 x2 x3 x4 x5 x6 x7 x8 x10 (ix4 0 b r d) = val_main_v408 (F := Ideal) x0 x1 x2 x3 x4 x5 x6 x7 x8 x10 (ix4 b ⟨16256 + r.val, by omega⟩ ⟨d.val / 64, by omega⟩ ⟨d.val % 64, by omega⟩) := by
  pointwise [val_main_v502, val_main_v503]

/-- The reference's last values. -/
theorem v505_at (b : Fin 2) (r d : Fin 128) :
    val_main_v505 (F := Ideal) x0 x1 x2 x3 x4 x5 x6 x7 x8 x10 (ix4 0 b r d) = val_main_v409 (F := Ideal) x0 x1 x2 x3 x4 x5 x6 x7 x8 x10 (ix4 b ⟨16256 + r.val, by omega⟩ ⟨d.val / 64, by omega⟩ ⟨d.val % 64, by omega⟩) := by
  pointwise [val_main_v504, val_main_v505]

/-- The reference's last rows of the convolution's input. -/
theorem v506_at (b : Fin 2) (r : Fin 30) (d : Fin 1024) :
    val_main_v506 (F := Ideal) x0 x2 x3 (ix4 0 b r d) = val_main_v37 (F := Ideal) x0 x2 x3 (ix3 b ⟨16384 + r.val, by omega⟩ d) := by
  pointwise [val_main_v288, val_main_v506]

end Cert.KernelIdeal.Trunk
-- ==== Proof.Chunk.lean ====
module

public import proofs.«01_k».proof.Proof.Parts
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

/-! # One chunk of the windowed attention at an index -/

/-- The pattern of minus infinity. -/
theorem ofBits_bot : Ideal.ofBits .f32 4286578688#32 = ⊥ := by simp [Ideal.ofBits, Ideal.ieee]

/-- The named scale of the exponentials. -/
theorem named_log2e (b : BitVec 32) : Named.named (F := Ideal) κ (φ := .f32) "log2e" b = (kLog : EReal) := by simp [Named.named, κ, kLog]

/-- The named scale of the queries. -/
theorem named_swa (b : BitVec 32) : Named.named (F := Ideal) κ (φ := .f32) "swa_scale" b = ((kLog * 8⁻¹ : ℝ) : EReal) := by
  simp [Named.named, κ, kLog]

/-- The greatest of a row of scores and its sink. -/
def mRow (S : Fin 192 → EReal) (s : EReal) : EReal := max (Finset.univ.fold max ⊥ S) s
/-- A row's powers of two. -/
def pRow (S : Fin 192 → EReal) (s : EReal) (x : Fin 192) : EReal := Ideal.exp2 (S x - mRow S s)
/-- A row's denominator. -/
def dRow (S : Fin 192 → EReal) (s : EReal) : EReal := (∑ x, pRow S s x) + Ideal.exp2 (s - mRow S s)

/-- A head's powers of two at an index. -/
theorem kP_at (S : FVec Ideal S256x192 .f32) (o : ℕ) (ho : o + 64 ≤ 256) (hs : S256x192.Slices ![o, 0] S64x192) (s : EReal) (i : Fin 64) (x : Fin 192) :
    kP S ![o, 0] hs s (ix2 i x) = pRow (fun x => S (ix2 ⟨o + i.val, by omega⟩ x)) s x := by
  unfold pRow mRow
  pointwise [kP, kMax]
  simp only [ofBits_bot]
  rfl

/-- A head's reciprocal denominator at an index. -/
theorem kInv_at (S : FVec Ideal S256x192 .f32) (o : ℕ) (ho : o + 64 ≤ 256) (hs : S256x192.Slices ![o, 0] S64x192) (s : EReal) (i : Fin 64) (l : Fin 128) :
    kInv S ![o, 0] hs s (ix2 i l) = Ideal.div 1 (dRow (fun x => S (ix2 ⟨o + i.val, by omega⟩ x)) s) := by
  unfold dRow pRow mRow
  pointwise [kInv, kP, kMax]
  simp only [ofBits_bot]
  rfl

/-- The low lanes' test. -/
theorem kLo64_at (i : Fin 64) (l : Fin 128) : kLo64 (ix2 i l) = if l.val < 64 then 1 else 0 := by
  pointwise [kLo64]
  revert l
  decide +kernel

/-- The low lanes' test over a tile. -/
theorem kLo_at (i : Fin 256) (l : Fin 128) : kLo (ix2 i l) = if l.val < 64 then 1 else 0 := by
  pointwise [kLo]
  revert l
  decide +kernel

/-- The first halves' test. -/
theorem kFirstHalf_at (i : Fin 256) (l : Fin 128) : kFirstHalf (ix2 i l) = if l.val % 64 < 32 then 1 else 0 := by
  pointwise [kFirstHalf]
  revert l
  decide +kernel

/-- A pair of heads at an index. -/
theorem kPair_at (Se So : FVec Ideal S256x192 .f32) (O : FVec Ideal S256x128 .f32) (o : ℕ) (ho' : o + 64 ≤ 256) (hs : S256x192.Slices ![o, 0] S64x192)
    (ho : S256x128.Slices ![o, 0] S64x128) (e d : EReal) (i : Fin 64) (l : Fin 128) :
    kPair Se So O ![o, 0] hs ho e d (ix2 i l) = O (ix2 ⟨o + i.val, by omega⟩ l) *
      (if l.val < 64 then Ideal.div 1 (dRow (fun x => Se (ix2 ⟨o + i.val, by omega⟩ x)) e)
        else Ideal.div 1 (dRow (fun x => So (ix2 ⟨o + i.val, by omega⟩ x)) d)) := by
  rw [← kInv_at Se o ho' hs e i l, ← kInv_at So o ho' hs d i l]
  pointwise [kPair]
  rw [kLo64_at]
  by_cases h : l.val < 64
  · rw [if_pos h, if_pos h]; rfl
  · rw [if_neg h, if_neg h]; rfl

/-- Four blocks of 64 rows hold a column when each holds its part of it. -/
theorem rows4_at {n : ℕ} {f : FTy} (A B C D : FVec Ideal ⟨2, ![64, n]⟩ f) (hc : Shape.Concatenates [(⟨2, ![64, n]⟩ : Shape), ⟨2, ![64, n]⟩, ⟨2, ![64, n]⟩, ⟨2, ![64, n]⟩] ⟨2, ![256, n]⟩ 0)
    (x : Fin n) (g : Fin 4 → Fin 64 → EReal) (hA : ∀ i, A (ix2 i x) = g 0 i) (hB : ∀ i, B (ix2 i x) = g 1 i) (hC : ∀ i, C (ix2 i x) = g 2 i)
    (hD : ∀ i, D (ix2 i x) = g 3 i) (p : Fin 4) (i : Fin 64) :
    concatenate ⟨2, ![256, n]⟩ 0 [⟨⟨2, ![64, n]⟩, A⟩, ⟨⟨2, ![64, n]⟩, B⟩, ⟨⟨2, ![64, n]⟩, C⟩, ⟨⟨2, ![64, n]⟩, D⟩] hc (ix2 ⟨64 * p.val + i.val, by omega⟩ x) = g p i := by
  have ix : ∀ (k : ℕ) (q : Fin 64) (hk : ∀ b, (if b.val = 0 then k else (ix2 (n0 := 256) (n1 := n) ⟨64 * p.val + i.val, by omega⟩ x b).val) < (⟨2, ![64, n]⟩ : Shape).size b), k = q.val →
      (Shape.Idx.norm fun b => ⟨_, hk b⟩ : (⟨2, ![64, n]⟩ : Shape).Idx) = ix2 q x := fun k q hk h => by
    subst h
    rw [ValueIdx.eq_ix2 (Shape.Idx.norm _)]
    rfl
  pointwise []
  by_cases h1 : 64 * p.val + i.val < 64
  · rw [dif_pos h1, ix _ i _ (by omega), hA, show p = 0 from Fin.ext (by show p.val = 0; omega)]
  rw [dif_neg h1]
  by_cases h2 : 64 * p.val + i.val - 64 < 64
  · rw [dif_pos h2, ix _ i _ (by omega), hB, show p = 1 from Fin.ext (by show p.val = 1; omega)]
  rw [dif_neg h2]
  by_cases h3 : 64 * p.val + i.val - 64 - 64 < 64
  · rw [dif_pos h3, ix _ i _ (by omega), hC, show p = 2 from Fin.ext (by show p.val = 2; omega)]
  rw [dif_neg h3, ix _ i _ (by omega), hD, show p = 3 from Fin.ext (by show p.val = 3; omega)]

/-- Eight blocks of 128 columns hold a row when each holds its part of it. -/
theorem cols8_at {m : ℕ} {f : FTy} (A0 A1 A2 A3 A4 A5 A6 A7 : FVec Ideal ⟨2, ![m, 128]⟩ f)
    (hc : Shape.Concatenates [(⟨2, ![m, 128]⟩ : Shape), ⟨2, ![m, 128]⟩, ⟨2, ![m, 128]⟩, ⟨2, ![m, 128]⟩, ⟨2, ![m, 128]⟩, ⟨2, ![m, 128]⟩, ⟨2, ![m, 128]⟩, ⟨2, ![m, 128]⟩] ⟨2, ![m, 1024]⟩ 1)
    (i : Fin m) (g : Fin 1024 → EReal) (h0 : ∀ l : Fin 128, A0 (ix2 i l) = g ⟨0 + l.val, by omega⟩) (h1 : ∀ l : Fin 128, A1 (ix2 i l) = g ⟨128 + l.val, by omega⟩)
    (h2 : ∀ l : Fin 128, A2 (ix2 i l) = g ⟨256 + l.val, by omega⟩) (h3 : ∀ l : Fin 128, A3 (ix2 i l) = g ⟨384 + l.val, by omega⟩)
    (h4 : ∀ l : Fin 128, A4 (ix2 i l) = g ⟨512 + l.val, by omega⟩) (h5 : ∀ l : Fin 128, A5 (ix2 i l) = g ⟨640 + l.val, by omega⟩)
    (h6 : ∀ l : Fin 128, A6 (ix2 i l) = g ⟨768 + l.val, by omega⟩) (h7 : ∀ l : Fin 128, A7 (ix2 i l) = g ⟨896 + l.val, by omega⟩) (d : Fin 1024) :
    concatenate ⟨2, ![m, 1024]⟩ 1 [⟨⟨2, ![m, 128]⟩, A0⟩, ⟨⟨2, ![m, 128]⟩, A1⟩, ⟨⟨2, ![m, 128]⟩, A2⟩, ⟨⟨2, ![m, 128]⟩, A3⟩,
      ⟨⟨2, ![m, 128]⟩, A4⟩, ⟨⟨2, ![m, 128]⟩, A5⟩, ⟨⟨2, ![m, 128]⟩, A6⟩, ⟨⟨2, ![m, 128]⟩, A7⟩] hc (ix2 i d) = g d := by
  have key : ∀ (A : FVec Ideal ⟨2, ![m, 128]⟩ f) (o k : ℕ) (hk : ∀ b, (if b.val = 1 then k else (ix2 (n0 := m) (n1 := 1024) i d b).val) < (⟨2, ![m, 128]⟩ : Shape).size b)
      (h : ∀ (l : Fin 128) (hl : o + l.val < 1024), A (ix2 i l) = g ⟨o + l.val, hl⟩), d.val = o + k →
      A (Shape.Idx.norm fun b => ⟨_, hk b⟩) = g d := fun A o k hk h e => by
    have hk' : k < 128 := hk 1
    refine Eq.trans (congrArg A ?_) ((h ⟨k, hk'⟩ (by show o + k < 1024; omega)).trans (congrArg g (Fin.ext e.symm)))
    rw [ValueIdx.eq_ix2 (Shape.Idx.norm _)]
    rfl
  pointwise []
  by_cases c0 : d.val < 128
  · rw [dif_pos c0]; exact key A0 0 _ _ (fun l _ => h0 l) (by omega)
  rw [dif_neg c0]
  by_cases c1 : d.val - 128 < 128
  · rw [dif_pos c1]; exact key A1 128 _ _ (fun l _ => h1 l) (by omega)
  rw [dif_neg c1]
  by_cases c2 : d.val - 128 - 128 < 128
  · rw [dif_pos c2]; exact key A2 256 _ _ (fun l _ => h2 l) (by omega)
  rw [dif_neg c2]
  by_cases c3 : d.val - 128 - 128 - 128 < 128
  · rw [dif_pos c3]; exact key A3 384 _ _ (fun l _ => h3 l) (by omega)
  rw [dif_neg c3]
  by_cases c4 : d.val - 128 - 128 - 128 - 128 < 128
  · rw [dif_pos c4]; exact key A4 512 _ _ (fun l _ => h4 l) (by omega)
  rw [dif_neg c4]
  by_cases c5 : d.val - 128 - 128 - 128 - 128 - 128 < 128
  · rw [dif_pos c5]; exact key A5 640 _ _ (fun l _ => h5 l) (by omega)
  rw [dif_neg c5]
  by_cases c6 : d.val - 128 - 128 - 128 - 128 - 128 - 128 < 128
  · rw [dif_pos c6]; exact key A6 768 _ _ (fun l _ => h6 l) (by omega)
  rw [dif_neg c6]; exact key A7 896 _ _ (fun l _ => h7 l) (by omega)

end Cert.KernelIdeal.Trunk
-- ==== Proof.Chunk2.lean ====
module

public import proofs.«01_k».proof.Proof.Chunk
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

/-! # A chunk's heads -/

/-- Four heads' powers of two at an index. -/
theorem kProbs_at (S : FVec Ideal S256x192 .f32) (E : Fin 4 → EReal) (p : Fin 4) (i : Fin 64) (x : Fin 192) :
    kProbs (F := Ideal) S (E 0) (E 1) (E 2) (E 3) (ix2 ⟨64 * p.val + i.val, by omega⟩ x) =
      pRow (fun x => S (ix2 ⟨64 * p.val + i.val, by omega⟩ x)) (E p) x :=
  rows4_at _ _ _ _ _ x (fun p i => pRow (fun x => S (ix2 ⟨64 * p.val + i.val, by omega⟩ x)) (E p) x)
    (fun i => kP_at S 0 (by omega) slices_S256x192_o0_0_S64x192 (E 0) i x) (fun i => kP_at S 64 (by omega) slices_S256x192_o64_0_S64x192 (E 1) i x)
    (fun i => kP_at S 128 (by omega) slices_S256x192_o128_0_S64x192 (E 2) i x) (fun i => kP_at S 192 (by omega) slices_S256x192_o192_0_S64x192 (E 3) i x) p i

/-- Rows of a scratch at an index. -/
theorem kRows_at (K : FVec Ideal S2x1x384x128 .bf16) (h r : ℕ) (hh : h + 1 ≤ 2) (hr : r + 192 ≤ 384) (x : Fin 192) (l : Fin 128) :
    kRows K h r hh hr (ix4 0 0 x l) = K (ix4 ⟨h, hh⟩ 0 ⟨r + x.val, by omega⟩ l) := by
  refine (kLd4 K _ 0 0 x l).trans (congrArg K ?_)
  congr 1
  exact Fin.ext (Nat.zero_add _)

/-- Both parities' weighted values at an index. -/
theorem kPairs_at (Se So : FVec Ideal S256x192 .f32) (va vb : FVec Ideal S1x1x192x128 .bf16) (E D : Fin 4 → EReal) (p : Fin 4) (i : Fin 64) (l : Fin 128) :
    kPairs (F := Ideal) Se So va vb (E 0) (E 1) (E 2) (E 3) (D 0) (D 1) (D 2) (D 3) (ix2 ⟨64 * p.val + i.val, by omega⟩ l) =
      (∑ x, pRow (fun x => Se (ix2 ⟨64 * p.val + i.val, by omega⟩ x)) (E p) x * va (ix4 0 0 x l)) +
        ∑ x, pRow (fun x => So (ix2 ⟨64 * p.val + i.val, by omega⟩ x)) (D p) x * vb (ix4 0 0 x l) := by
  simp only [← kProbs_at]
  pointwise [kPairs]

/-- A pair of heads: weighted values over the denominators. -/
def pairVal (Se So : FVec Ideal S256x192 .f32) (VA VB : FVec Ideal S2x1x384x128 .bf16) (g : Fin 2) (r : ℕ) (hr : r + 192 ≤ 384) (e d : EReal)
    (R : Fin 256) (l : Fin 128) : EReal :=
  ((∑ x : Fin 192, pRow (fun x => Se (ix2 R x)) e x * VA (ix4 g 0 ⟨r + x.val, by omega⟩ l)) +
    ∑ x : Fin 192, pRow (fun x => So (ix2 R x)) d x * VB (ix4 g 0 ⟨r + x.val, by omega⟩ l)) *
  (if l.val < 64 then Ideal.div 1 (dRow (fun x => Se (ix2 R x)) e) else Ideal.div 1 (dRow (fun x => So (ix2 R x)) d))

/-- A pair of heads of a chunk is its value. -/
theorem kPairBlock (Se So : FVec Ideal S256x192 .f32) (VA VB : FVec Ideal S2x1x384x128 .bf16) (g r : ℕ) (hg : g + 1 ≤ 2) (hr : r + 192 ≤ 384) (E D : Fin 4 → EReal)
    (p : Fin 4) (o : ℕ) (h : o = 64 * p.val) (hs : S256x192.Slices ![o, 0] S64x192) (ho : S256x128.Slices ![o, 0] S64x128) (i : Fin 64) (l : Fin 128) :
    kPair (F := Ideal) Se So (kPairs (F := Ideal) Se So (kRows VA g r hg hr) (kRows VB g r hg hr) (E 0) (E 1) (E 2) (E 3) (D 0) (D 1) (D 2) (D 3))
      ![o, 0] hs ho (E p) (D p) (ix2 i l) = pairVal Se So VA VB ⟨g, hg⟩ r hr (E p) (D p) ⟨64 * p.val + i.val, by omega⟩ l := by
  subst h
  rw [kPair_at _ _ _ _ (by omega), kPairs_at]
  simp only [kRows_at]
  rfl

/-- A head's scaled sink. -/
def snk (sk : FVec Ideal S16 .f32) (k : Fin 16) : EReal := sk (ix1 k) * (kLog : EReal)

/-- A head's sink at the kernel's scale. -/
theorem kSink_at (sk : FVec Ideal S16 .f32) (k : ℕ) (hk : ∀ a, (![k] : Fin 1 → ℕ) a + S1.size a ≤ S16.size a) (h : k < 16) :
    kSink sk k hk = snk sk ⟨k, h⟩ := by
  unfold kSink snk
  rw [named_log2e, kLd_at sk _ _ hk _ (ix1 ⟨k, h⟩) (fun a => match a with | ⟨0, _⟩ => rfl)]
  rfl

/-- The scores at an index. -/
theorem kScore_at (Qs : FVec Ideal S256x128 .bf16) (K : FVec Ideal S2x1x384x128 .bf16) (h r : ℕ) (hh : h + 1 ≤ 2) (hr : r + 192 ≤ 384) (R : Fin 256) (x : Fin 192) :
    kScore Qs (kRows K h r hh hr) (ix2 R x) = ∑ l : Fin 128, Qs (ix2 R l) * K (ix4 ⟨h, hh⟩ 0 ⟨r + x.val, by omega⟩ l) := by
  simp only [← kRows_at K h r hh hr x]
  pointwise [kScore]

/-- A slice of 128 columns at an index. -/
theorem slice_at (Q : FVec Ideal S64x1024 .f32) (c : ℕ) (hc : c + 128 ≤ 1024) (h : S64x1024.Slices ![0, c] S64x128) (i : Fin 64) (l : Fin 128) :
    extractStridedSlice S64x128 ![0, c] Q h (ix2 i l) = Q (ix2 i ⟨c + l.val, by omega⟩) := by
  pointwise []

/-- A change of format changes no number. -/
theorem truncf_at {S : Shape} (X : FVec Ideal S .f32) (h) (i : S.Idx) : truncf .bf16 X h i = X i := rfl

/-- The first key-value head's queries at an index. -/
theorem kQs0_at (Q : FVec Ideal S64x1024 .f32) (p : Fin 4) (i : Fin 64) (l : Fin 128) :
    kQs0 Q (ix2 ⟨64 * p.val + i.val, by omega⟩ l) = Q (ix2 i ⟨128 * p.val + l.val, by omega⟩) := by
  unfold kQs0 kQs
  rw [truncf_at]
  exact rows4_at (f := .f32) _ _ _ _ _ l (fun p i => Q (ix2 i ⟨128 * p.val + l.val, by omega⟩))
    (fun i => slice_at Q 0 (by omega) slices_S64x1024_o0_0_S64x128 i l) (fun i => slice_at Q 128 (by omega) slices_S64x1024_o0_128_S64x128 i l)
    (fun i => slice_at Q 256 (by omega) slices_S64x1024_o0_256_S64x128 i l) (fun i => slice_at Q 384 (by omega) slices_S64x1024_o0_384_S64x128 i l) p i

/-- The second key-value head's queries at an index. -/
theorem kQs1_at (Q : FVec Ideal S64x1024 .f32) (p : Fin 4) (i : Fin 64) (l : Fin 128) :
    kQs1 Q (ix2 ⟨64 * p.val + i.val, by omega⟩ l) = Q (ix2 i ⟨512 + 128 * p.val + l.val, by omega⟩) := by
  unfold kQs1 kQs
  rw [truncf_at]
  exact rows4_at (f := .f32) _ _ _ _ _ l (fun p i => Q (ix2 i ⟨512 + 128 * p.val + l.val, by omega⟩))
    (fun i => slice_at Q 512 (by omega) slices_S64x1024_o0_512_S64x128 i l) (fun i => slice_at Q 640 (by omega) slices_S64x1024_o0_640_S64x128 i l)
    (fun i => slice_at Q 768 (by omega) slices_S64x1024_o0_768_S64x128 i l) (fun i => slice_at Q 896 (by omega) slices_S64x1024_o0_896_S64x128 i l) p i

/-- A chunk's row holds the values of its eight pairs of heads. -/
theorem kChunkOf_at (Se0 So0 Se1 So1 : FVec Ideal S256x192 .f32) (VA VB : FVec Ideal S2x1x384x128 .bf16) (sk : FVec Ideal S16 .f32) (r : ℕ) (hr : r + 192 ≤ 384)
    (i : Fin 64) (f : Fin 1024 → EReal)
    (H0 : ∀ (p : Fin 4) (l : Fin 128), pairVal Se0 So0 VA VB 0 r hr (snk sk ⟨2 * p.val, by omega⟩) (snk sk ⟨2 * p.val + 1, by omega⟩)
      ⟨64 * p.val + i.val, by omega⟩ l = f ⟨128 * p.val + l.val, by omega⟩)
    (H1 : ∀ (p : Fin 4) (l : Fin 128), pairVal Se1 So1 VA VB 1 r hr (snk sk ⟨8 + 2 * p.val, by omega⟩) (snk sk ⟨8 + 2 * p.val + 1, by omega⟩)
      ⟨64 * p.val + i.val, by omega⟩ l = f ⟨512 + 128 * p.val + l.val, by omega⟩) (d : Fin 1024) :
    kChunkOf Se0 So0 Se1 So1 VA VB sk r hr (ix2 i d) = f d := by
  have b0 := fun (p : Fin 4) (o : ℕ) (h : o = 64 * p.val) hs ho l => (kPairBlock Se0 So0 VA VB 0 r (by omega) hr (fun p => snk sk ⟨2 * p.val, by omega⟩)
    (fun p => snk sk ⟨2 * p.val + 1, by omega⟩) p o h hs ho i l).trans (H0 p l)
  have b1 := fun (p : Fin 4) (o : ℕ) (h : o = 64 * p.val) hs ho l => (kPairBlock Se1 So1 VA VB 1 r (by omega) hr (fun p => snk sk ⟨8 + 2 * p.val, by omega⟩)
    (fun p => snk sk ⟨8 + 2 * p.val + 1, by omega⟩) p o h hs ho i l).trans (H1 p l)
  unfold kChunkOf
  rw [kSink_at sk 0 _ (by omega), kSink_at sk 1 _ (by omega), kSink_at sk 2 _ (by omega), kSink_at sk 3 _ (by omega), kSink_at sk 4 _ (by omega),
    kSink_at sk 5 _ (by omega), kSink_at sk 6 _ (by omega), kSink_at sk 7 _ (by omega), kSink_at sk 8 _ (by omega), kSink_at sk 9 _ (by omega),
    kSink_at sk 10 _ (by omega), kSink_at sk 11 _ (by omega), kSink_at sk 12 _ (by omega), kSink_at sk 13 _ (by omega), kSink_at sk 14 _ (by omega),
    kSink_at sk 15 _ (by omega)]
  exact cols8_at _ _ _ _ _ _ _ _ _ i f (b0 0 0 rfl _ _) (b0 1 64 rfl _ _) (b0 2 128 rfl _ _) (b0 3 192 rfl _ _)
    (b1 0 0 rfl _ _) (b1 1 64 rfl _ _) (b1 2 128 rfl _ _) (b1 3 192 rfl _ _) d

/-- The first tile of a sequence, as a bit. -/
theorem first_tile (T : Fin 64) : Scalar.cmpi .eq (BitVec.ofNat 32 T.val) 0#32 = if T.val = 0 then 1#1 else 0#1 := by
  revert T; decide +kernel

/-- A key's position compared with a bound, as a bit. -/
theorem sge_bit (n : Fin 129) (x : Fin 192) : IntOp.cmpi .sge (BitVec.ofNat 32 x.val) (BitVec.ofNat 32 n.val) = if n.val ≤ x.val then 1#1 else 0#1 := by
  revert n x; decide +kernel

/-- The bias at an index. -/
theorem kBias_at (T : Fin 64) (n : Fin 129) (R : Fin 256) (x : Fin 192) :
    kBias (F := Ideal) (BitVec.ofNat 32 T.val) (BitVec.ofNat 32 n.val) (ix2 R x) = if T.val = 0 ∧ x.val < n.val then ⊥ else 0 := by
  pointwise [kBias]
  rw [first_tile, ofBits_bot]
  by_cases h : T.val = 0
  · rw [if_pos h]
    show Scalar.select (IntOp.cmpi .sge (BitVec.ofNat 32 x.val) (BitVec.ofNat 32 n.val)) 0 ⊥ = _
    rw [sge_bit]
    by_cases h2 : n.val ≤ x.val
    · rw [if_pos h2, if_neg (by omega)]; rfl
    · rw [if_neg h2, if_pos (by omega)]; rfl
  · rw [if_neg h, if_neg (by omega)]
    show Scalar.select (IntOp.cmpi .sge (BitVec.ofNat 32 x.val) (BitVec.ofNat 32 (0 : Fin 129).val)) 0 ⊥ = _
    rw [sge_bit, if_pos (show (0 : Fin 129).val ≤ x.val from Nat.zero_le _)]; rfl

/-- A head's weighted values over its denominator, at the kernel's scale. -/
def attV (s : Fin 192 → EReal) (t : EReal) (v : Fin 192 → EReal) : EReal := (∑ x, pRow s t x * v x) * Ideal.div 1 (dRow s t)

/-- A sum over 128 lanes is one over each half. -/
theorem sum128 (f : Fin 128 → EReal) : ∑ l, f l = (∑ e : Fin 64, f ⟨e.val, by omega⟩) + ∑ e : Fin 64, f ⟨64 + e.val, by omega⟩ :=
  Fin.sum_univ_add (a := 64) (b := 64) f

/-- The low lanes of a pair belong to the even head. -/
theorem pair_low (Se So : FVec Ideal S256x192 .f32) (VA VB : FVec Ideal S2x1x384x128 .bf16) (g : Fin 2) (r : ℕ) (hr : r + 192 ≤ 384) (e d : EReal)
    (R : Fin 256) (l : Fin 128) (hl : l.val < 64) (s v : Fin 192 → EReal) (hs : ∀ x, Se (ix2 R x) = s x)
    (hA : ∀ x : Fin 192, VA (ix4 g 0 ⟨r + x.val, by omega⟩ l) = v x) (hB : ∀ x : Fin 192, VB (ix4 g 0 ⟨r + x.val, by omega⟩ l) = 0) :
    pairVal Se So VA VB g r hr e d R l = attV s e v := by
  unfold pairVal attV
  simp only [hs, hA, hB, if_pos hl, mul_zero, Finset.sum_const_zero, add_zero]

/-- The high lanes of a pair belong to the odd head. -/
theorem pair_high (Se So : FVec Ideal S256x192 .f32) (VA VB : FVec Ideal S2x1x384x128 .bf16) (g : Fin 2) (r : ℕ) (hr : r + 192 ≤ 384) (e d : EReal)
    (R : Fin 256) (l : Fin 128) (hl : ¬ l.val < 64) (s v : Fin 192 → EReal) (hs : ∀ x, So (ix2 R x) = s x)
    (hA : ∀ x : Fin 192, VA (ix4 g 0 ⟨r + x.val, by omega⟩ l) = 0) (hB : ∀ x : Fin 192, VB (ix4 g 0 ⟨r + x.val, by omega⟩ l) = v x) :
    pairVal Se So VA VB g r hr e d R l = attV s d v := by
  unfold pairVal attV
  simp only [hs, hA, hB, if_neg hl, mul_zero, Finset.sum_const_zero, zero_add]

/-- A scratch that holds each head's 64 lanes below and zeros above. -/
def LowOf (K : FVec Ideal S2x1x384x128 .bf16) (r : ℕ) (hr : r + 192 ≤ 384) (k : Fin 2 → Fin 192 → Fin 64 → EReal) : Prop :=
  ∀ (g : Fin 2) (x : Fin 192) (l : Fin 128), K (ix4 g 0 ⟨r + x.val, by omega⟩ l) = if h : l.val < 64 then k g x ⟨l.val, h⟩ else 0

/-- A scratch that holds each head's 64 lanes above and zeros below. -/
def HighOf (K : FVec Ideal S2x1x384x128 .bf16) (r : ℕ) (hr : r + 192 ≤ 384) (k : Fin 2 → Fin 192 → Fin 64 → EReal) : Prop :=
  ∀ (g : Fin 2) (x : Fin 192) (l : Fin 128), K (ix4 g 0 ⟨r + x.val, by omega⟩ l) = if h : l.val < 64 then 0 else k g x ⟨l.val - 64, by omega⟩

/-- A pair of heads, each lane on its own. -/
theorem pair_eq (Se So : FVec Ideal S256x192 .f32) (VA VB : FVec Ideal S2x1x384x128 .bf16) (g : Fin 2) (r : ℕ) (hr : r + 192 ≤ 384) (t : Fin 16 → EReal)
    (R : Fin 256) (l : Fin 128) (s : Fin 16 → Fin 192 → EReal) (v : Fin 2 → Fin 192 → Fin 64 → EReal) (hA : LowOf VA r hr v) (hB : HighOf VB r hr v)
    (m : ℕ) (hm : m + 1 < 16) (hse : ∀ x, Se (ix2 R x) = s ⟨m, by omega⟩ x) (hso : ∀ x, So (ix2 R x) = s ⟨m + 1, hm⟩ x)
    (n : Fin 1024) (hn : n.val = 64 * m + l.val) (hg : g.val = n.val / 512) :
    pairVal Se So VA VB g r hr (t ⟨m, by omega⟩) (t ⟨m + 1, hm⟩) R l =
      attV (s ⟨n.val / 64, by omega⟩) (t ⟨n.val / 64, by omega⟩) (fun x => v ⟨n.val / 512, by omega⟩ x ⟨n.val % 64, by omega⟩) := by
  have eg : (⟨n.val / 512, by omega⟩ : Fin 2) = g := Fin.ext hg.symm
  by_cases hl : l.val < 64
  · have em : (⟨n.val / 64, by omega⟩ : Fin 16) = ⟨m, by omega⟩ := Fin.ext (by show n.val / 64 = m; omega)
    have el : (⟨n.val % 64, by omega⟩ : Fin 64) = ⟨l.val, hl⟩ := Fin.ext (by show n.val % 64 = l.val; omega)
    rw [em, el, eg]
    exact pair_low Se So VA VB g r hr _ _ R l hl _ _ hse (fun x => (hA g x l).trans (dif_pos hl)) (fun x => (hB g x l).trans (dif_pos hl))
  · have em : (⟨n.val / 64, by omega⟩ : Fin 16) = ⟨m + 1, hm⟩ := Fin.ext (by show n.val / 64 = m + 1; omega)
    have el : (⟨n.val % 64, by omega⟩ : Fin 64) = ⟨l.val - 64, by omega⟩ := Fin.ext (by show n.val % 64 = l.val - 64; omega)
    rw [em, el, eg]
    exact pair_high Se So VA VB g r hr _ _ R l hl _ _ hso (fun x => (hA g x l).trans (dif_neg hl)) (fun x => (hB g x l).trans (dif_neg hl))

/-- A chunk's row, head by head. -/
theorem kChunk_at (Se0 So0 Se1 So1 : FVec Ideal S256x192 .f32) (VA VB : FVec Ideal S2x1x384x128 .bf16) (sk : FVec Ideal S16 .f32) (r : ℕ) (hr : r + 192 ≤ 384)
    (i : Fin 64) (s : Fin 16 → Fin 192 → EReal) (v : Fin 2 → Fin 192 → Fin 64 → EReal) (hA : LowOf VA r hr v) (hB : HighOf VB r hr v)
    (e0 : ∀ (p : Fin 4) x, Se0 (ix2 ⟨64 * p.val + i.val, by omega⟩ x) = s ⟨2 * p.val, by omega⟩ x)
    (o0 : ∀ (p : Fin 4) x, So0 (ix2 ⟨64 * p.val + i.val, by omega⟩ x) = s ⟨2 * p.val + 1, by omega⟩ x)
    (e1 : ∀ (p : Fin 4) x, Se1 (ix2 ⟨64 * p.val + i.val, by omega⟩ x) = s ⟨8 + 2 * p.val, by omega⟩ x)
    (o1 : ∀ (p : Fin 4) x, So1 (ix2 ⟨64 * p.val + i.val, by omega⟩ x) = s ⟨8 + 2 * p.val + 1, by omega⟩ x) (d : Fin 1024) :
    kChunkOf Se0 So0 Se1 So1 VA VB sk r hr (ix2 i d) =
      attV (s ⟨d.val / 64, by omega⟩) (snk sk ⟨d.val / 64, by omega⟩) (fun x => v ⟨d.val / 512, by omega⟩ x ⟨d.val % 64, by omega⟩) := by
  refine kChunkOf_at Se0 So0 Se1 So1 VA VB sk r hr i
    (fun d => attV (s ⟨d.val / 64, by omega⟩) (snk sk ⟨d.val / 64, by omega⟩) (fun x => v ⟨d.val / 512, by omega⟩ x ⟨d.val % 64, by omega⟩))
    (fun p l => ?_) (fun p l => ?_) d
  · exact pair_eq Se0 So0 VA VB 0 r hr (snk sk) _ l s v hA hB (2 * p.val) (by omega) (e0 p) (o0 p) ⟨128 * p.val + l.val, by omega⟩
      (by show 128 * p.val + l.val = _; omega) (by show 0 = (128 * p.val + l.val) / 512; omega)
  · exact pair_eq Se1 So1 VA VB 1 r hr (snk sk) _ l s v hA hB (8 + 2 * p.val) (by omega) (e1 p) (o1 p) ⟨512 + 128 * p.val + l.val, by omega⟩
      (by show 512 + 128 * p.val + l.val = _; omega) (by show 1 = (512 + 128 * p.val + l.val) / 512; omega)

/-- A head's scores at the kernel's scale. -/
def scr (q : Fin 1024 → EReal) (k : Fin 2 → Fin 192 → Fin 64 → EReal) (h : Fin 16) (x : Fin 192) : EReal :=
  ∑ e : Fin 64, q ⟨64 * h.val + e.val, by omega⟩ * k ⟨h.val / 8, by omega⟩ x e

/-- An even head's scores. -/
theorem score_low (Qs : FVec Ideal S256x128 .bf16) (K : FVec Ideal S2x1x384x128 .bf16) (g r : ℕ) (hg : g + 1 ≤ 2) (hr : r + 192 ≤ 384)
    (k : Fin 2 → Fin 192 → Fin 64 → EReal) (hK : LowOf K r hr k) (R : Fin 256) (q : Fin 1024 → EReal) (m : ℕ) (hm : m + 1 < 16) (h8 : g = m / 8)
    (hQ : ∀ l : Fin 128, Qs (ix2 R l) = q ⟨64 * m + l.val, by omega⟩) (x : Fin 192) :
    kScore Qs (kRows K g r hg hr) (ix2 R x) = scr q k ⟨m, by omega⟩ x := by
  subst h8
  rw [kScore_at, sum128]
  simp only [hQ, hK _ _ _]
  have z : (∑ e : Fin 64, q ⟨64 * m + (64 + e.val), by omega⟩ *
      (if h : 64 + e.val < 64 then k ⟨m / 8, hg⟩ x ⟨64 + e.val, h⟩ else 0)) = 0 :=
    Finset.sum_eq_zero fun e _ => by rw [dif_neg (by omega), mul_zero]
  rw [z, add_zero]
  exact Finset.sum_congr rfl fun e _ => congrArg _ (dif_pos e.isLt)

/-- An odd head's scores. -/
theorem score_high (Qs : FVec Ideal S256x128 .bf16) (K : FVec Ideal S2x1x384x128 .bf16) (g r : ℕ) (hg : g + 1 ≤ 2) (hr : r + 192 ≤ 384)
    (k : Fin 2 → Fin 192 → Fin 64 → EReal) (hK : HighOf K r hr k) (R : Fin 256) (q : Fin 1024 → EReal) (m : ℕ) (hm : m + 1 < 16) (h8 : g = (m + 1) / 8)
    (hQ : ∀ l : Fin 128, Qs (ix2 R l) = q ⟨64 * m + l.val, by omega⟩) (x : Fin 192) :
    kScore Qs (kRows K g r hg hr) (ix2 R x) = scr q k ⟨m + 1, hm⟩ x := by
  subst h8
  rw [kScore_at, sum128]
  simp only [hQ, hK _ _ _]
  have z : (∑ e : Fin 64, q ⟨64 * m + e.val, by omega⟩ *
      (if h : e.val < 64 then 0 else k ⟨(m + 1) / 8, hg⟩ x ⟨e.val - 64, by omega⟩)) = 0 :=
    Finset.sum_eq_zero fun e _ => by rw [dif_pos e.isLt, mul_zero]
  rw [z, zero_add]
  refine Finset.sum_congr rfl fun e _ => ?_
  rw [dif_neg (by omega)]
  congr 2
  · exact Fin.ext (by show 64 * m + (64 + e.val) = 64 * (m + 1) + e.val; omega)
  · exact Fin.ext (by show 64 + e.val - 64 = e.val; omega)

/-- A chunk whose keys all lie in the sequence. -/
theorem kChunkN_at (Q : FVec Ideal S64x1024 .f32) (KA KB VA VB : FVec Ideal S2x1x384x128 .bf16) (sk : FVec Ideal S16 .f32) (r : ℕ) (hr : r + 192 ≤ 384)
    (k v : Fin 2 → Fin 192 → Fin 64 → EReal) (hKA : LowOf KA r hr k) (hKB : HighOf KB r hr k) (hVA : LowOf VA r hr v) (hVB : HighOf VB r hr v)
    (i : Fin 64) (d : Fin 1024) :
    kChunkN Q KA KB VA VB sk r hr (ix2 i d) =
      attV (scr (fun c => Q (ix2 i c)) k ⟨d.val / 64, by omega⟩) (snk sk ⟨d.val / 64, by omega⟩)
        (fun x => v ⟨d.val / 512, by omega⟩ x ⟨d.val % 64, by omega⟩) := by
  have q0 := fun (p : Fin 4) (l : Fin 128) => (kQs0_at Q p i l).trans (congrArg (fun c => Q (ix2 i c)) (Fin.ext
    (show 128 * p.val + l.val = 64 * (2 * p.val) + l.val by omega) : (⟨128 * p.val + l.val, by omega⟩ : Fin 1024) = ⟨64 * (2 * p.val) + l.val, by omega⟩))
  have q1 := fun (p : Fin 4) (l : Fin 128) => (kQs1_at Q p i l).trans (congrArg (fun c => Q (ix2 i c)) (Fin.ext
    (show 512 + 128 * p.val + l.val = 64 * (8 + 2 * p.val) + l.val by omega) :
      (⟨512 + 128 * p.val + l.val, by omega⟩ : Fin 1024) = ⟨64 * (8 + 2 * p.val) + l.val, by omega⟩))
  exact kChunk_at _ _ _ _ VA VB sk r hr i (scr (fun c => Q (ix2 i c)) k) v hVA hVB
    (fun p x => score_low _ KA 0 r _ hr k hKA _ _ (2 * p.val) (by omega) (by omega) (q0 p) x)
    (fun p x => score_high _ KB 0 r _ hr k hKB _ _ (2 * p.val) (by omega) (by omega) (q0 p) x)
    (fun p x => score_low _ KA 1 r _ hr k hKA _ _ (8 + 2 * p.val) (by omega) (by omega) (q1 p) x)
    (fun p x => score_high _ KB 1 r _ hr k hKB _ _ (8 + 2 * p.val) (by omega) (by omega) (q1 p) x) d

/-- A chunk some of whose keys may lie before the sequence's start. -/
theorem kChunkB_at (Q : FVec Ideal S64x1024 .f32) (T : Fin 64) (n : Fin 129) (KA KB VA VB : FVec Ideal S2x1x384x128 .bf16) (sk : FVec Ideal S16 .f32) (r : ℕ) (hr : r + 192 ≤ 384)
    (k v : Fin 2 → Fin 192 → Fin 64 → EReal) (hKA : LowOf KA r hr k) (hKB : HighOf KB r hr k) (hVA : LowOf VA r hr v) (hVB : HighOf VB r hr v)
    (i : Fin 64) (d : Fin 1024) :
    kChunkB Q (kBias (BitVec.ofNat 32 T.val) (BitVec.ofNat 32 n.val)) KA KB VA VB sk r hr (ix2 i d) =
      attV (fun x => scr (fun c => Q (ix2 i c)) k ⟨d.val / 64, by omega⟩ x + (if T.val = 0 ∧ x.val < n.val then ⊥ else 0)) (snk sk ⟨d.val / 64, by omega⟩)
        (fun x => v ⟨d.val / 512, by omega⟩ x ⟨d.val % 64, by omega⟩) := by
  have q0 := fun (p : Fin 4) (l : Fin 128) => (kQs0_at Q p i l).trans (congrArg (fun c => Q (ix2 i c)) (Fin.ext
    (show 128 * p.val + l.val = 64 * (2 * p.val) + l.val by omega) : (⟨128 * p.val + l.val, by omega⟩ : Fin 1024) = ⟨64 * (2 * p.val) + l.val, by omega⟩))
  have q1 := fun (p : Fin 4) (l : Fin 128) => (kQs1_at Q p i l).trans (congrArg (fun c => Q (ix2 i c)) (Fin.ext
    (show 512 + 128 * p.val + l.val = 64 * (8 + 2 * p.val) + l.val by omega) :
      (⟨512 + 128 * p.val + l.val, by omega⟩ : Fin 1024) = ⟨64 * (8 + 2 * p.val) + l.val, by omega⟩))
  have b := fun (S : FVec Ideal S256x192 .f32) (R : Fin 256) (x : Fin 192) (e : EReal) (h : S (ix2 R x) = e) =>
    (show addf S (kBias (BitVec.ofNat 32 T.val) (BitVec.ofNat 32 n.val)) (ix2 R x) = e + (if T.val = 0 ∧ x.val < n.val then ⊥ else 0) from
      congrArg₂ (· + ·) h (kBias_at T n R x))
  exact kChunk_at _ _ _ _ VA VB sk r hr i (fun h x => scr (fun c => Q (ix2 i c)) k h x + (if T.val = 0 ∧ x.val < n.val then ⊥ else 0)) v hVA hVB
    (fun p x => b _ _ x _ (score_low _ KA 0 r _ hr k hKA _ _ (2 * p.val) (by omega) (by omega) (q0 p) x))
    (fun p x => b _ _ x _ (score_high _ KB 0 r _ hr k hKB _ _ (2 * p.val) (by omega) (by omega) (q0 p) x))
    (fun p x => b _ _ x _ (score_low _ KA 1 r _ hr k hKA _ _ (8 + 2 * p.val) (by omega) (by omega) (q1 p) x))
    (fun p x => b _ _ x _ (score_high _ KB 1 r _ hr k hKB _ _ (8 + 2 * p.val) (by omega) (by omega) (q1 p) x)) d

end Cert.KernelIdeal.Trunk
-- ==== Proof.Half2.lean ====
module

public import proofs.«01_k».proof.Proof.RefEnd
public import proofs.«01_k».proof.Proof.Chunk2
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-! # The attention half of a step against the reference -/

variable (x0 : FVec Ideal Cert.ReferenceIdeal.S2x16384x1024 .f32) (x1 : FVec Ideal Cert.ReferenceIdeal.S2x512x1024 .bf16) (x2 : FVec Ideal Cert.ReferenceIdeal.S2x1024 .f32) (x3 : FVec Ideal Cert.ReferenceIdeal.S1x1024x4096 .f32) (x4 : FVec Ideal Cert.ReferenceIdeal.S1x31x1024 .f32) (x5 : FVec Ideal Cert.ReferenceIdeal.S1x1024 .f32) (x6 : FVec Ideal Cert.ReferenceIdeal.S1x1024 .f32) (x7 : FVec Ideal Cert.ReferenceIdeal.S1x1024 .f32) (x8 : FVec Ideal Cert.ReferenceIdeal.S1x1024x3328 .f32) (x9 : FVec Ideal Cert.ReferenceIdeal.S1x16 .f32) (x10 : FVec Ideal Cert.ReferenceIdeal.S2x1536x1024 .f32) (x11 : FVec Ideal Cert.ReferenceIdeal.S1024 .f32)

/-- A set bit selects the first. -/
theorem select_set {α : Type} (x y : α) : Scalar.select (1 : BitVec 1) x y = x := rfl

/-- A clear bit selects the second. -/
theorem select_clear {α : Type} (x y : α) : Scalar.select (0 : BitVec 1) x y = y := rfl

/-- The cosine table over the lanes. -/
theorem kCos_at (t : FVec Ideal S32x256 .f32) (r : Fin 256) (d : Fin 128) : kCos t (ix2 r d) = t (ix2 ⟨d.val % 32, by omega⟩ r) := by
  pointwise [kCos]
  have hl : ∀ (j : ℕ) (hj : j < 32), j = d.val % 32 → t (ix2 ⟨j, hj⟩ r) = t (ix2 ⟨d.val % 32, by omega⟩ r) := fun j hj e => by subst e; rfl
  by_cases h1 : d.val < 32
  · rw [dif_pos h1]; exact hl _ _ (by omega)
  rw [dif_neg h1]
  by_cases h2 : d.val - 32 < 32
  · rw [dif_pos h2]; exact hl _ _ (by omega)
  rw [dif_neg h2]
  by_cases h3 : d.val - 32 - 32 < 32
  · rw [dif_pos h3]; exact hl _ _ (by omega)
  rw [dif_neg h3]; exact hl _ _ (by omega)

/-- The sine table over the lanes. -/
theorem kSin_at (t : FVec Ideal S32x256 .f32) (r : Fin 256) (d : Fin 128) :
    kSin t (ix2 r d) = if d.val % 64 < 32 then -t (ix2 ⟨d.val % 32, by omega⟩ r) else t (ix2 ⟨d.val % 32, by omega⟩ r) := by
  pointwise [kSin]
  have hl : ∀ (j : ℕ) (hj : j < 32), j = d.val % 32 → t (ix2 ⟨j, hj⟩ r) = t (ix2 ⟨d.val % 32, by omega⟩ r) := fun j hj e => by subst e; rfl
  by_cases h1 : d.val < 32
  · rw [dif_pos h1]; exact ((zero_sub _).trans (congrArg Neg.neg (hl _ _ (by omega)))).trans (if_pos (show d.val % 64 < 32 by omega)).symm
  rw [dif_neg h1]
  by_cases h2 : d.val - 32 < 32
  · rw [dif_pos h2]; exact (hl _ _ (by omega)).trans (if_neg (show ¬d.val % 64 < 32 by omega)).symm
  rw [dif_neg h2]
  by_cases h3 : d.val - 32 - 32 < 32
  · rw [dif_pos h3]; exact ((zero_sub _).trans (congrArg Neg.neg (hl _ _ (by omega)))).trans (if_pos (show d.val % 64 < 32 by omega)).symm
  rw [dif_neg h3]; exact (hl _ _ (by omega)).trans (if_neg (show ¬d.val % 64 < 32 by omega)).symm

/-- The rotary embedding at an index. -/
theorem kRope_at (X C S : FVec Ideal S256x128 .f32) (r : Fin 256) (d : Fin 128) :
    kRope X C S (ix2 r d) = X (ix2 r d) * C (ix2 r d) +
      (if h : d.val % 64 < 32 then X (ix2 r ⟨32 + d.val, by omega⟩) else X (ix2 r ⟨d.val - 32, by omega⟩)) * S (ix2 r d) := by
  unfold kRope
  show X (ix2 r d) * C (ix2 r d) + Scalar.select (kFirstHalf (ix2 r d)) (dynamicRotate 1 96#32 none X rotates_S256x128_d1 (ix2 r d))
    (dynamicRotate 1 32#32 none X rotates_S256x128_d1 (ix2 r d)) * S (ix2 r d) = _
  rw [kFirstHalf_at]
  pointwise []
  refine congrArg (fun y => X (ix2 r d) * C (ix2 r d) + y * S (ix2 r d)) ?_
  by_cases h : d.val % 64 < 32
  · rw [if_pos h, dif_pos h]
    refine (select_set _ _).trans (congrArg (fun j => X (ix2 r j)) (Fin.ext ?_))
    show (d.val + 128 - 96) % 128 = 32 + d.val
    omega
  · rw [if_neg h, dif_neg h]
    refine (select_clear _ _).trans (congrArg (fun j => X (ix2 r j)) (Fin.ext ?_))
    show (d.val + 128 - 32) % 128 = d.val - 32
    omega

/-- A table read whole. -/
theorem kTab_at (t : FVec Ideal S32x256 .f32) (j : Fin 32) (r : Fin 256) : kTab t (ix2 j r) = t (ix2 j r) := by
  refine (kLd2 t _ j r).trans (congrArg t ?_)
  simp

/-- A nonnegative real factor distributes over a sum of two. -/
theorem add_mul_real (x y : EReal) {c : ℝ} (hc : 0 ≤ c) : (x + y) * (c : EReal) = x * (c : EReal) + y * (c : EReal) := by
  have h := sum_mul_real Finset.univ (![x, y] : Fin 2 → EReal) hc
  simpa [Fin.sum_univ_two] using h

/-- The attention half's normalized rows. -/
theorem kH2_eq {W : Win Ideal} {b : Fin 2} {T : Fin 64} (hW : Fits W b T x0 x1 x2 x3 x4 x5 x6 x7 x8 x9 x10 x11) {X1 : FVec Ideal S256x1024 .f32} (hX : ∀ (r : Fin 256) (d : Fin 1024), X1 (ix2 r d) = val_main_v317 (F := Ideal) x0 x1 x2 x3 x4 x5 x6 x7 x10 (ix3 b (pos T r) d)) (r : Fin 256) (d : Fin 1024) : kH2 W X1 (ix2 r d) = val_main_v332 (F := Ideal) x0 x1 x2 x3 x4 x5 x6 x7 x10 (ix3 b (pos T r) d) := by
  rw [v332_at]
  show kRms X1 (kNg W.w9 1 (by omega)) (ix2 r d) = _
  rw [kRms_at, kNg_eq x0 x1 x2 x3 x4 x5 x6 x7 x8 x9 x10 x11 hW]
  simp only [hX]
  rfl

/-- The tile's values. -/
theorem kV_eq {W : Win Ideal} {b : Fin 2} {T : Fin 64} (hW : Fits W b T x0 x1 x2 x3 x4 x5 x6 x7 x8 x9 x10 x11) {X1 : FVec Ideal S256x1024 .f32} (hX : ∀ (r : Fin 256) (d : Fin 1024), X1 (ix2 r d) = val_main_v317 (F := Ideal) x0 x1 x2 x3 x4 x5 x6 x7 x10 (ix3 b (pos T r) d)) (r : Fin 256) (d : Fin 128) :
    kV W X1 (ix2 r d) = val_main_v409 (F := Ideal) x0 x1 x2 x3 x4 x5 x6 x7 x8 x10 (ix4 b (pos T r) ⟨d.val / 64, by omega⟩ ⟨d.val % 64, by omega⟩) := by
  unfold kV
  rw [kDot128_at, v409_at, v334_at]
  simp only [kH2_eq x0 x1 x2 x3 x4 x5 x6 x7 x8 x9 x10 x11 hW hX, kWa_eq x0 x1 x2 x3 x4 x5 x6 x7 x8 x9 x10 x11 hW]
  refine Finset.sum_congr rfl fun k _ => congrArg _ (congrArg x8 ?_)
  congr 1
  exact Fin.ext (by show 1152 + d.val = 1152 + (d.val / 64 * 64 + d.val % 64); omega)

/-- A block of 128 lanes with two heads, rotated: each lane is its head's. -/
theorem rope_lane (X C S : FVec Ideal S256x128 .f32) (p : Fin 16384) (r : Fin 256) (d : Fin 128) (t : Fin 64 → EReal)
    (hC : C (ix2 r d) = Ideal.cos (angle p.val (d.val % 32)))
    (hS : S (ix2 r d) = if d.val % 64 < 32 then -Ideal.sin (angle p.val (d.val % 32)) else Ideal.sin (angle p.val (d.val % 32)))
    (hX : ∀ e : Fin 64, X (ix2 r ⟨d.val / 64 * 64 + e.val, by omega⟩) = t e) :
    kRope X C S (ix2 r d) = ropeRow t p.val ⟨d.val % 64, by omega⟩ := by
  have x0 : X (ix2 r d) = t ⟨d.val % 64, by omega⟩ := by
    rw [← hX]
    congr 2
    exact Fin.ext (by show d.val = d.val / 64 * 64 + d.val % 64; omega)
  rw [kRope_at, hC, hS, x0]
  unfold ropeRow
  by_cases h : d.val % 64 < 32
  · have x1 : X (ix2 r ⟨32 + d.val, by omega⟩) = t ⟨32 + d.val % 64, by omega⟩ := by
      rw [← hX]
      congr 2
      exact Fin.ext (by show 32 + d.val = d.val / 64 * 64 + (32 + d.val % 64); omega)
    have e : d.val % 32 = d.val % 64 := by omega
    rw [dif_pos h, if_pos h, dif_pos h, x1, e, mul_neg, ← sub_eq_add_neg]
  · have x1 : X (ix2 r ⟨d.val - 32, by omega⟩) = t ⟨d.val % 64 - 32, by omega⟩ := by
      rw [← hX]
      congr 2
      exact Fin.ext (by show d.val - 32 = d.val / 64 * 64 + (d.val % 64 - 32); omega)
    have e : d.val % 32 = d.val % 64 - 32 := by omega
    rw [dif_neg h, if_neg h, dif_neg h, x1, e]

/-- The step's cosine lanes. -/
theorem cos_eq {W : Win Ideal} {b : Fin 2} {T : Fin 64} (hW : Fits W b T x0 x1 x2 x3 x4 x5 x6 x7 x8 x9 x10 x11) (r : Fin 256) (d : Fin 128) : kCos (kTab W.w2) (ix2 r d) = Ideal.cos (angle (pos T r).val (d.val % 32)) := by
  rw [kCos_at, kTab_at, hW.h2]

/-- The step's sine lanes. -/
theorem sin_eq {W : Win Ideal} {b : Fin 2} {T : Fin 64} (hW : Fits W b T x0 x1 x2 x3 x4 x5 x6 x7 x8 x9 x10 x11) (r : Fin 256) (d : Fin 128) : kSin (kTab W.w3) (ix2 r d) =
    if d.val % 64 < 32 then -Ideal.sin (angle (pos T r).val (d.val % 32)) else Ideal.sin (angle (pos T r).val (d.val % 32)) := by
  rw [kSin_at, kTab_at, hW.h3]

/-- The tile's keys. -/
theorem kK_eq {W : Win Ideal} {b : Fin 2} {T : Fin 64} (hW : Fits W b T x0 x1 x2 x3 x4 x5 x6 x7 x8 x9 x10 x11) {X1 : FVec Ideal S256x1024 .f32} (hX : ∀ (r : Fin 256) (d : Fin 1024), X1 (ix2 r d) = val_main_v317 (F := Ideal) x0 x1 x2 x3 x4 x5 x6 x7 x10 (ix3 b (pos T r) d)) (r : Fin 256) (d : Fin 128) :
    kK W X1 (ix2 r d) = val_main_v408 (F := Ideal) x0 x1 x2 x3 x4 x5 x6 x7 x8 x10 (ix4 b (pos T r) ⟨d.val / 64, by omega⟩ ⟨d.val % 64, by omega⟩) := by
  rw [v408_at]
  unfold kK
  refine rope_lane _ _ _ (pos T r) r d _ (cos_eq x0 x1 x2 x3 x4 x5 x6 x7 x8 x9 x10 x11 hW r d) (sin_eq x0 x1 x2 x3 x4 x5 x6 x7 x8 x9 x10 x11 hW r d) fun e => ?_
  rw [kDot128_at, v334_at]
  simp only [kH2_eq x0 x1 x2 x3 x4 x5 x6 x7 x8 x9 x10 x11 hW hX, kWa_eq x0 x1 x2 x3 x4 x5 x6 x7 x8 x9 x10 x11 hW]

/-- The scale the kernel's queries carry. -/
def qScale : ℝ := kLog * 8⁻¹

/-- The rotary embedding with scaled tables is scaled. -/
theorem rope_scaled (X C S : FVec Ideal S256x128 .f32) (r : Fin 256) (d : Fin 128) :
    kRope X (kScaled C) (kScaled S) (ix2 r d) = kRope X C S (ix2 r d) * ((qScale : ℝ) : EReal) := by
  have hc : (0 : ℝ) ≤ qScale := mul_nonneg kLog_pos.le (by norm_num)
  have hs : ∀ Y : FVec Ideal S256x128 .f32, kScaled Y (ix2 r d) = Y (ix2 r d) * ((qScale : ℝ) : EReal) := fun Y => by
    show Y (ix2 r d) * _ = _
    exact congrArg _ (named_swa _)
  rw [kRope_at, kRope_at, hs, hs, add_mul_real _ _ hc, mul_assoc, mul_assoc]

/-- The tile's queries. -/
theorem kQW_eq {W : Win Ideal} {b : Fin 2} {T : Fin 64} (hW : Fits W b T x0 x1 x2 x3 x4 x5 x6 x7 x8 x9 x10 x11) {X1 : FVec Ideal S256x1024 .f32} (hX : ∀ (r : Fin 256) (d : Fin 1024), X1 (ix2 r d) = val_main_v317 (F := Ideal) x0 x1 x2 x3 x4 x5 x6 x7 x10 (ix3 b (pos T r) d)) (r : Fin 256) (d : Fin 1024) :
    kQW W X1 (ix2 r d) = val_main_v374 (F := Ideal) x0 x1 x2 x3 x4 x5 x6 x7 x8 x10 (ix4 b (pos T r) ⟨d.val / 64, by omega⟩ ⟨d.val % 64, by omega⟩) * ((qScale : ℝ) : EReal) := by
  have key : ∀ (o : ℕ) (ho : o + 128 ≤ 1024) (h64 : o % 64 = 0) (hs : S256x1024.Slices ![0, o] S256x128) (l : Fin 128),
      kRope (extractStridedSlice S256x128 ![0, o] (kDot1024 (kH2 W X1) (kWa W.w15 0 1024 (by omega))) hs) (kScaled (kCos (kTab W.w2))) (kScaled (kSin (kTab W.w3))) (ix2 r l) =
        val_main_v374 (F := Ideal) x0 x1 x2 x3 x4 x5 x6 x7 x8 x10 (ix4 b (pos T r) ⟨(o + l.val) / 64, by omega⟩ ⟨(o + l.val) % 64, by omega⟩) * ((qScale : ℝ) : EReal) := fun o ho h64 hs l => by
    have e64 : (o + l.val) % 64 = l.val % 64 := by omega
    rw [rope_scaled, v374_at]
    refine congrArg (· * _) ?_
    simp only [e64]
    refine rope_lane _ _ _ (pos T r) r l _ (cos_eq x0 x1 x2 x3 x4 x5 x6 x7 x8 x9 x10 x11 hW r l) (sin_eq x0 x1 x2 x3 x4 x5 x6 x7 x8 x9 x10 x11 hW r l) fun e => ?_
    have hsl : extractStridedSlice S256x128 ![0, o] (kDot1024 (kH2 W X1) (kWa W.w15 0 1024 (by omega))) hs (ix2 r ⟨l.val / 64 * 64 + e.val, by omega⟩) =
        kDot1024 (kH2 W X1) (kWa W.w15 0 1024 (by omega)) (ix2 r ⟨o + (l.val / 64 * 64 + e.val), by omega⟩) := by pointwise []
    rw [hsl, kDot1024_at, v334_at]
    simp only [kH2_eq x0 x1 x2 x3 x4 x5 x6 x7 x8 x9 x10 x11 hW hX, kWa_eq x0 x1 x2 x3 x4 x5 x6 x7 x8 x9 x10 x11 hW]
    refine Finset.sum_congr rfl fun k _ => congrArg _ (congrArg x8 ?_)
    congr 1
    exact Fin.ext (by show 0 + (o + (l.val / 64 * 64 + e.val)) = (o + l.val) / 64 * 64 + e.val; omega)
  unfold kQW kQ
  exact cols8_at _ _ _ _ _ _ _ _ concatenates_S256x128_S256x128_S256x128_S256x128_S256x128_S256x128_S256x128_S256x128_S256x1024_d1 r (fun d => val_main_v374 (F := Ideal) x0 x1 x2 x3 x4 x5 x6 x7 x8 x10 (ix4 b (pos T r) ⟨d.val / 64, by omega⟩ ⟨d.val % 64, by omega⟩) * ((qScale : ℝ) : EReal))
    (key 0 (by omega) rfl _) (key 128 (by omega) rfl _) (key 256 (by omega) rfl _) (key 384 (by omega) rfl _) (key 512 (by omega) rfl _)
    (key 640 (by omega) rfl _) (key 768 (by omega) rfl _) (key 896 (by omega) rfl _) d

/-- The residual stream after the attention half. -/
theorem kX2_eq {W : Win Ideal} {b : Fin 2} {T : Fin 64} (hW : Fits W b T x0 x1 x2 x3 x4 x5 x6 x7 x8 x9 x10 x11) (hR : Reals x1 x2 x3 x8 x9) {X1 : FVec Ideal S256x1024 .f32} (hX : ∀ (r : Fin 256) (d : Fin 1024), X1 (ix2 r d) = val_main_v317 (F := Ideal) x0 x1 x2 x3 x4 x5 x6 x7 x10 (ix3 b (pos T r) d)) {O : FVec Ideal S256x1024 .f32}
    (hO : ∀ (r : Fin 256) (d : Fin 1024), O (ix2 r d) = val_main_v457 (F := Ideal) x0 x1 x2 x3 x4 x5 x6 x7 x8 x9 x10 (ix3 b (pos T r) d)) (r : Fin 256) (d : Fin 1024) :
    kX2 W X1 O (ix2 r d) = val_main_v488 (F := Ideal) x0 x1 x2 x3 x4 x5 x6 x7 x8 x9 x10 (ix3 b (pos T r) d) := by
  have hQ : ∀ e : Fin 512, kDot512 (kH2 W X1) (kWa W.w15 2304 512 (by omega)) (ix2 r e) = val_main_v334 (F := Ideal) x0 x1 x2 x3 x4 x5 x6 x7 x8 x10 (ix3 b (pos T r) ⟨2304 + e.val, by omega⟩) := fun e => by
    rw [kDot512_at, v334_at]
    simp only [kH2_eq x0 x1 x2 x3 x4 x5 x6 x7 x8 x9 x10 x11 hW hX, kWa_eq x0 x1 x2 x3 x4 x5 x6 x7 x8 x9 x10 x11 hW]
  have hM : ∀ k : Fin 1024, mulf O (kSilu (kDot1024 (kH2 W X1) (kWa W.w15 1280 1024 (by omega)))) (ix2 r k) = val_main_v459 (F := Ideal) x0 x1 x2 x3 x4 x5 x6 x7 x8 x9 x10 (ix3 b (pos T r) k) := fun k => by
    rw [v459_at, ← hO]
    have e : ∀ A B : FVec Ideal S256x1024 .f32, mulf A (kSilu B) (ix2 r k) = A (ix2 r k) * (B (ix2 r k) * Ideal.logistic (B (ix2 r k))) := fun A B => rfl
    rw [e, kDot1024_at, v334_at]
    simp only [kH2_eq x0 x1 x2 x3 x4 x5 x6 x7 x8 x9 x10 x11 hW hX, kWa_eq x0 x1 x2 x3 x4 x5 x6 x7 x8 x9 x10 x11 hW]
  have hXO : ∀ k : Fin 512, mulf (kMem (kDot512 (kH2 W X1) (kWa W.w15 2304 512 (by omega))) (kMk W.w7 1 (by omega)) (kMk W.w8 1 (by omega)))
      (kSilu (kDot512 (kH2 W X1) (kWa W.w15 2816 512 (by omega)))) (ix2 r k) = val_main_v483 (F := Ideal) x0 x1 x2 x3 x4 x5 x6 x7 x8 x10 (ix3 b (pos T r) k) := fun k => by
    rw [kMul_silu_at, v483_at, v481_at, kMem_at]
    · congr 1
      · congr 1
        · funext e; exact hQ _
        · funext m e
          rw [kMk7_eq x0 x1 x2 x3 x4 x5 x6 x7 x8 x9 x10 x11 hW]
          congr 1
          exact ix5_ext rfl rfl rfl (by show (k.val / 128 * 128 + e.val) / 128 = k.val / 128; omega) (by show (k.val / 128 * 128 + e.val) % 128 = e.val; omega)
        · funext m; exact kMk8_eq x0 x1 x2 x3 x4 x5 x6 x7 x8 x9 x10 x11 hW _ _ _ _
      · rw [kDot512_at, v334_at]
        simp only [kH2_eq x0 x1 x2 x3 x4 x5 x6 x7 x8 x9 x10 x11 hW hX, kWa_eq x0 x1 x2 x3 x4 x5 x6 x7 x8 x9 x10 x11 hW]
    · intro e
      rw [hQ]
      exact v334_real x0 x1 x2 x3 x4 x5 x6 x7 x8 x9 x10 hR _ _ _
    · intro m e
      rw [kMk7_eq x0 x1 x2 x3 x4 x5 x6 x7 x8 x9 x10 x11 hW]
      obtain ⟨i, hi⟩ := v3_at x1 ⟨1, by omega⟩ b m ⟨e.val / 128, by omega⟩ ⟨e.val % 128, by omega⟩
      rw [hi]
      exact hR.r1 i
  rw [v488_at]
  unfold kX2
  show X1 (ix2 r d) + kOut _ _ _ (ix2 r d) = _
  rw [hX, kOut_at]
  simp only [hM, hXO, kWo_eq x0 x1 x2 x3 x4 x5 x6 x7 x8 x9 x10 x11 hW]
  rfl

/-- The step's result rows. -/
theorem kY_eq {W : Win Ideal} {b : Fin 2} {T : Fin 64} (hW : Fits W b T x0 x1 x2 x3 x4 x5 x6 x7 x8 x9 x10 x11) (hR : Reals x1 x2 x3 x8 x9) {X1 : FVec Ideal S256x1024 .f32} (hX : ∀ (r : Fin 256) (d : Fin 1024), X1 (ix2 r d) = val_main_v317 (F := Ideal) x0 x1 x2 x3 x4 x5 x6 x7 x10 (ix3 b (pos T r) d)) {O : FVec Ideal S256x1024 .f32}
    (hO : ∀ (r : Fin 256) (d : Fin 1024), O (ix2 r d) = val_main_v457 (F := Ideal) x0 x1 x2 x3 x4 x5 x6 x7 x8 x9 x10 (ix3 b (pos T r) d)) (r : Fin 256) (d : Fin 1024) :
    kY W X1 O (ix3 0 r d) = val_main_v501 (F := Ideal) x0 x1 x2 x3 x4 x5 x6 x7 x8 x9 x10 x11 (ix3 b (pos T r) d) := by
  have h : kY W X1 O (ix3 0 r d) = kRms (kX2 W X1 O) (kRow W.w17) (ix2 r d) := by
    unfold kY
    pointwise []
  rw [h, kRms_at, v501_at, kRow17_eq x0 x1 x2 x3 x4 x5 x6 x7 x8 x9 x10 x11 hW]
  simp only [kX2_eq x0 x1 x2 x3 x4 x5 x6 x7 x8 x9 x10 x11 hW hR hX hO]

/-- The lanes' test picks the low lanes. -/
theorem pickLo (r : Fin 256) (l : Fin 128) (x y : EReal) : Scalar.select (kLo (ix2 r l)) x y = if l.val < 64 then x else y := by
  rw [kLo_at]
  by_cases h : l.val < 64
  · rw [if_pos h, if_pos h]; exact select_set _ _
  · rw [if_neg h, if_neg h]; exact select_clear _ _

/-- The lanes' halves exchanged. -/
theorem kSwap_at (X : FVec Ideal S256x128 .f32) (r : Fin 256) (l : Fin 128) : kSwap X (ix2 r l) = X (ix2 r ⟨(l.val + 64) % 128, by omega⟩) := by
  pointwise [kSwap]
  exact congrArg (fun j => X (ix2 r j)) (Fin.ext (by show (l.val + 128 - 64) % 128 = (l.val + 64) % 128; omega))

/-- The first head's lanes, stored low. -/
theorem kFillA0_at (X : FVec Ideal S256x128 .f32) (r : Fin 256) (l : Fin 128) :
    kFillA0 X (ix4 0 0 r l) = if h : l.val < 64 then X (ix2 r ⟨0 * 64 + l.val, by omega⟩) else 0 := by
  have h : kFillA0 X (ix4 0 0 r l) = Scalar.select (kLo (ix2 r l)) (X (ix2 r l)) 0 := by pointwise [kFillA0, kStored, kZero]
  rw [h, pickLo]
  by_cases h : l.val < 64
  · rw [if_pos h, dif_pos h]; exact congrArg (fun j => X (ix2 r j)) (Fin.ext (by show l.val = 0 * 64 + l.val; omega))
  · rw [if_neg h, dif_neg h]

/-- The second head's lanes, stored low. -/
theorem kFillA1_at (X : FVec Ideal S256x128 .f32) (r : Fin 256) (l : Fin 128) :
    kFillA1 X (ix4 0 0 r l) = if h : l.val < 64 then X (ix2 r ⟨1 * 64 + l.val, by omega⟩) else 0 := by
  have h : kFillA1 X (ix4 0 0 r l) = Scalar.select (kLo (ix2 r l)) (kSwap X (ix2 r l)) 0 := by pointwise [kFillA1, kStored, kZero]
  rw [h, pickLo, kSwap_at]
  by_cases h : l.val < 64
  · rw [if_pos h, dif_pos h]; exact congrArg (fun j => X (ix2 r j)) (Fin.ext (by show (l.val + 64) % 128 = 1 * 64 + l.val; omega))
  · rw [if_neg h, dif_neg h]

/-- The first head's lanes, stored high. -/
theorem kFillB0_at (X : FVec Ideal S256x128 .f32) (r : Fin 256) (l : Fin 128) :
    kFillB0 X (ix4 0 0 r l) = if h : l.val < 64 then 0 else X (ix2 r ⟨0 * 64 + (l.val - 64), by omega⟩) := by
  have h : kFillB0 X (ix4 0 0 r l) = Scalar.select (kLo (ix2 r l)) 0 (kSwap X (ix2 r l)) := by pointwise [kFillB0, kStored, kZero]
  rw [h, pickLo, kSwap_at]
  by_cases h : l.val < 64
  · rw [if_pos h, dif_pos h]
  · rw [if_neg h, dif_neg h]; exact congrArg (fun j => X (ix2 r j)) (Fin.ext (by show (l.val + 64) % 128 = 0 * 64 + (l.val - 64); omega))

/-- The second head's lanes, stored high. -/
theorem kFillB1_at (X : FVec Ideal S256x128 .f32) (r : Fin 256) (l : Fin 128) :
    kFillB1 X (ix4 0 0 r l) = if h : l.val < 64 then 0 else X (ix2 r ⟨1 * 64 + (l.val - 64), by omega⟩) := by
  have h : kFillB1 X (ix4 0 0 r l) = Scalar.select (kLo (ix2 r l)) 0 (X (ix2 r l)) := by pointwise [kFillB1, kStored, kZero]
  rw [h, pickLo]
  by_cases h : l.val < 64
  · rw [if_pos h, dif_pos h]
  · rw [if_neg h, dif_neg h]; exact congrArg (fun j => X (ix2 r j)) (Fin.ext (by show l.val = 1 * 64 + (l.val - 64); omega))

end Cert.KernelIdeal.Trunk
-- ==== Proof.Swa.lean ====
module

public import proofs.«01_k».proof.Proof.Half2
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-! # The windowed attention of a tile against the reference -/

variable (x0 : FVec Ideal Cert.ReferenceIdeal.S2x16384x1024 .f32) (x1 : FVec Ideal Cert.ReferenceIdeal.S2x512x1024 .bf16) (x2 : FVec Ideal Cert.ReferenceIdeal.S2x1024 .f32) (x3 : FVec Ideal Cert.ReferenceIdeal.S1x1024x4096 .f32) (x4 : FVec Ideal Cert.ReferenceIdeal.S1x31x1024 .f32) (x5 : FVec Ideal Cert.ReferenceIdeal.S1x1024 .f32) (x6 : FVec Ideal Cert.ReferenceIdeal.S1x1024 .f32) (x7 : FVec Ideal Cert.ReferenceIdeal.S1x1024 .f32) (x8 : FVec Ideal Cert.ReferenceIdeal.S1x1024x3328 .f32) (x9 : FVec Ideal Cert.ReferenceIdeal.S1x16 .f32) (x10 : FVec Ideal Cert.ReferenceIdeal.S2x1536x1024 .f32) (x11 : FVec Ideal Cert.ReferenceIdeal.S1024 .f32)

/-- A rotary angle is a real number. -/
theorem angle_real (n j : ℕ) : IsR (angle n j) := by
  unfold angle
  have h1 : Ideal.ofBits .f32 1176256512#32 = ((10000 : ℝ) : EReal) := by
    simp [Ideal.ofBits, Ideal.ieee, -EReal.coe_mul]; norm_num
  have h2 : Ideal.ofBits .f32 1107296256#32 = ((32 : ℝ) : EReal) := by
    simp [Ideal.ofBits, Ideal.ieee, -EReal.coe_mul]; norm_num
  rw [h1, h2]
  refine IsR.mul ⟨_, rfl⟩ ?_
  have h3 : Ideal.div (-FloatOps.sitofp (F := Ideal) .f32 (BitVec.ofNat 32 j)) ((32 : ℝ) : EReal) = ((-(((BitVec.ofNat 32 j).toInt : ℤ) : ℝ) * 32⁻¹ : ℝ) : EReal) := by
    unfold Ideal.div
    rw [if_neg (by norm_num), ← EReal.coe_inv, EReal.coe_mul, EReal.coe_neg]
    rfl
  rw [h3]
  exact ⟨_, rfl⟩

/-- The cosine of a rotary angle is a real number. -/
theorem cos_real (n j : ℕ) : IsR (Ideal.cos (angle n j)) := by
  obtain ⟨a, ha⟩ := angle_real n j
  rw [ha]
  exact ⟨Real.cos a, rfl⟩

/-- The sine of a rotary angle is a real number. -/
theorem sin_real (n j : ℕ) : IsR (Ideal.sin (angle n j)) := by
  obtain ⟨a, ha⟩ := angle_real n j
  rw [ha]
  exact ⟨Real.sin a, rfl⟩

/-- A rotated row of real numbers is real. -/
theorem ropeRow_real (t : Fin 64 → EReal) (n : ℕ) (e : Fin 64) (ht : ∀ e, IsR (t e)) : IsR (ropeRow t n e) := by
  unfold ropeRow
  by_cases h : e.val < 32
  · rw [dif_pos h]; exact ((ht _).mul (cos_real _ _)).sub ((ht _).mul (sin_real _ _))
  · rw [dif_neg h]; exact ((ht _).mul (cos_real _ _)).add ((ht _).mul (sin_real _ _))

/-- The reference's queries are real. -/
theorem v374_real (hR : Reals x1 x2 x3 x8 x9) (b : Fin 2) (n : Fin 16384) (h : Fin 16) (e : Fin 64) : IsR (val_main_v374 (F := Ideal) x0 x1 x2 x3 x4 x5 x6 x7 x8 x10 (ix4 b n h e)) := by
  rw [v374_at]
  exact ropeRow_real _ _ _ fun _ => v334_real x0 x1 x2 x3 x4 x5 x6 x7 x8 x9 x10 hR _ _ _

/-- The reference's padded keys are real. -/
theorem v411_real (hR : Reals x1 x2 x3 x8 x9) (b : Fin 2) (m : Fin 16512) (h : Fin 2) (e : Fin 64) : IsR (val_main_v411 (F := Ideal) x0 x1 x2 x3 x4 x5 x6 x7 x8 x10 (ix4 b m h e)) := by
  rw [v411_at]
  by_cases h' : m.val < 128
  · rw [dif_pos h']; exact IsR.zero
  · rw [dif_neg h', v408_at]
    exact ropeRow_real _ _ _ fun _ => v334_real x0 x1 x2 x3 x4 x5 x6 x7 x8 x9 x10 hR _ _ _

/-- The reference's scores never are the largest element. -/
theorem refScr_ne_top (hR : Reals x1 x2 x3 x8 x9) (b : Fin 2) (n : Fin 16384) (h : Fin 16) (x : Fin 192) : refScr x0 x1 x2 x3 x4 x5 x6 x7 x8 x10 b n h x ≠ ⊤ := by
  unfold refScr
  by_cases h' : 2 ≤ n.val / 64 + x.val / 64
  · rw [if_pos h']
    exact ((IsR.sum _ fun e _ => (v411_real x0 x1 x2 x3 x4 x5 x6 x7 x8 x9 x10 hR _ _ _ _).mul (v374_real x0 x1 x2 x3 x4 x5 x6 x7 x8 x9 x10 hR _ _ _ _)).mul (IsR.coe _)).ne_top
  · rw [if_neg h']; exact bot_ne_top

/-- A scratch that holds, from row `a` on, each head's 64 lanes below and zeros above. -/
def LowFrom (K : FVec Ideal S2x1x384x128 .bf16) (a : ℕ) (k : Fin 2 → Fin 384 → Fin 64 → EReal) : Prop :=
  ∀ (g : Fin 2) (j : Fin 384) (l : Fin 128), a ≤ j.val → K (ix4 g 0 j l) = if h : l.val < 64 then k g j ⟨l.val, h⟩ else 0

/-- A scratch that holds, from row `a` on, each head's 64 lanes above and zeros below. -/
def HighFrom (K : FVec Ideal S2x1x384x128 .bf16) (a : ℕ) (k : Fin 2 → Fin 384 → Fin 64 → EReal) : Prop :=
  ∀ (g : Fin 2) (j : Fin 384) (l : Fin 128), a ≤ j.val → K (ix4 g 0 j l) = if h : l.val < 64 then 0 else k g j ⟨l.val - 64, by omega⟩

/-- The rows a chunk of the tile reads of such a scratch. -/
theorem LowFrom.of {K : FVec Ideal S2x1x384x128 .bf16} {a : ℕ} {k : Fin 2 → Fin 384 → Fin 64 → EReal} (h : LowFrom K a k) (r : ℕ) (hr : r + 192 ≤ 384) (ha : a ≤ r) :
    LowOf K r hr fun g x e => k g ⟨r + x.val, by omega⟩ e := fun g x l => h g _ l (by show a ≤ r + x.val; omega)

/-- The rows a chunk of the tile reads of such a scratch. -/
theorem HighFrom.of {K : FVec Ideal S2x1x384x128 .bf16} {a : ℕ} {k : Fin 2 → Fin 384 → Fin 64 → EReal} (h : HighFrom K a k) (r : ℕ) (hr : r + 192 ≤ 384) (ha : a ≤ r) :
    HighOf K r hr fun g x e => k g ⟨r + x.val, by omega⟩ e := fun g x l => h g _ l (by show a ≤ r + x.val; omega)

/-- The keys a tile sees: the 128 rows before it and its own. -/
def keyWin (b : Fin 2) (T : Fin 64) (g : Fin 2) (j : Fin 384) (e : Fin 64) : EReal :=
  val_main_v411 (F := Ideal) x0 x1 x2 x3 x4 x5 x6 x7 x8 x10 (ix4 b ⟨256 * T.val + j.val, by omega⟩ g e)

/-- The values a tile sees: the 128 rows before it and its own. -/
def valWin (b : Fin 2) (T : Fin 64) (g : Fin 2) (j : Fin 384) (e : Fin 64) : EReal :=
  val_main_v413 (F := Ideal) x0 x1 x2 x3 x4 x5 x6 x7 x8 x10 (ix4 b ⟨256 * T.val + j.val, by omega⟩ g e)

/-- A chunk of the tile: the kernel's scores, in powers of two, give the reference's attention. -/
theorem attV_eq (hR : Reals x1 x2 x3 x8 x9) (b : Fin 2) (T : Fin 64) (p : Fin 4) (i : Fin 64) (d : Fin 1024) (s : Fin 192 → EReal) (t : EReal)
    (hs : ∀ x, s x = if 2 ≤ 4 * T.val + p.val + x.val / 64 then
      scr (fun c => val_main_v374 (F := Ideal) x0 x1 x2 x3 x4 x5 x6 x7 x8 x10 (ix4 b ⟨256 * T.val + (64 * p.val + i.val), by omega⟩ ⟨c.val / 64, by omega⟩ ⟨c.val % 64, by omega⟩) * ((qScale : ℝ) : EReal))
        (fun g x e => keyWin x0 x1 x2 x3 x4 x5 x6 x7 x8 x10 b T g ⟨64 * p.val + x.val, by omega⟩ e) ⟨d.val / 64, by omega⟩ x else ⊥)
    (ht : t = x9 (ix2 0 ⟨d.val / 64, by omega⟩) * (kLog : EReal)) :
    attV s t (fun x => valWin x0 x1 x2 x3 x4 x5 x6 x7 x8 x10 b T ⟨d.val / 512, by omega⟩ ⟨64 * p.val + x.val, by omega⟩ ⟨d.val % 64, by omega⟩) =
      val_main_v457 (F := Ideal) x0 x1 x2 x3 x4 x5 x6 x7 x8 x9 x10 (ix3 b ⟨256 * T.val + (64 * p.val + i.val), by omega⟩ d) := by
  have hsr : s = fun x => refScr x0 x1 x2 x3 x4 x5 x6 x7 x8 x10 b ⟨256 * T.val + (64 * p.val + i.val), by omega⟩ ⟨d.val / 64, by omega⟩ x * (kLog : EReal) := by
    funext x
    rw [hs]
    unfold refScr
    have hn : (256 * T.val + (64 * p.val + i.val)) / 64 = 4 * T.val + p.val := by omega
    by_cases h : 2 ≤ 4 * T.val + p.val + x.val / 64
    · rw [if_pos h, if_pos (show 2 ≤ (256 * T.val + (64 * p.val + i.val)) / 64 + x.val / 64 by omega), mul_assoc, ← EReal.coe_mul,
        show (8 : ℝ)⁻¹ * kLog = qScale from mul_comm _ _, sum_mul_real _ _ (show (0 : ℝ) ≤ qScale from mul_nonneg kLog_pos.le (by norm_num))]
      refine Finset.sum_congr rfl fun e _ => ?_
      refine (mul_right_comm _ _ _).trans (congrArg (· * _) ((mul_comm _ _).trans ?_))
      unfold keyWin
      congr 1
      · refine congrArg _ (ix4_ext rfl ?_ rfl rfl)
        show 256 * T.val + (64 * p.val + x.val) = 64 * ((256 * T.val + (64 * p.val + i.val)) / 64) + x.val
        omega
      · refine congrArg _ (ix4_ext rfl rfl ?_ ?_)
        · show (64 * (d.val / 64) + e.val) / 64 = d.val / 64
          omega
        · show (64 * (d.val / 64) + e.val) % 64 = e.val
          omega
    · rw [if_neg h, if_neg (show ¬2 ≤ (256 * T.val + (64 * p.val + i.val)) / 64 + x.val / 64 by omega), EReal.bot_mul_coe_of_pos kLog_pos]
  rw [v457_at x0 x1 x2 x3 x4 x5 x6 x7 x8 x9 x10 b _ d _ _ rfl rfl, hsr, ht]
  refine (soft_sink _ _ _ (refScr_ne_top x0 x1 x2 x3 x4 x5 x6 x7 x8 x9 x10 hR _ _ _) (hR.r9 _)).trans (Finset.sum_congr rfl fun x _ => congrArg (· * _) ?_)
  unfold valWin
  refine congrArg _ (ix4_ext rfl ?_ rfl rfl)
  show 256 * T.val + (64 * p.val + x.val) = 64 * ((256 * T.val + (64 * p.val + i.val)) / 64) + x.val
  omega

/-- The windowed attention of a tile is the reference's. -/
theorem kSwa_eq {W : Win Ideal} {b : Fin 2} {T : Fin 64} (hW : Fits W b T x0 x1 x2 x3 x4 x5 x6 x7 x8 x9 x10 x11) (hR : Reals x1 x2 x3 x8 x9) {Q : FVec Ideal S256x1024 .f32} {KA KB VA VB KA' KB' VA' VB' : FVec Ideal S2x1x384x128 .bf16}
    (hQ : ∀ (r : Fin 256) (d : Fin 1024), Q (ix2 r d) = val_main_v374 (F := Ideal) x0 x1 x2 x3 x4 x5 x6 x7 x8 x10 (ix4 b (pos T r) ⟨d.val / 64, by omega⟩ ⟨d.val % 64, by omega⟩) * ((qScale : ℝ) : EReal))
    (hKA : LowFrom KA 0 (keyWin x0 x1 x2 x3 x4 x5 x6 x7 x8 x10 b T)) (hKB : HighFrom KB 0 (keyWin x0 x1 x2 x3 x4 x5 x6 x7 x8 x10 b T))
    (hVA : LowFrom VA 0 (valWin x0 x1 x2 x3 x4 x5 x6 x7 x8 x10 b T)) (hVB : HighFrom VB 0 (valWin x0 x1 x2 x3 x4 x5 x6 x7 x8 x10 b T))
    (hKA' : LowFrom KA' 128 (keyWin x0 x1 x2 x3 x4 x5 x6 x7 x8 x10 b T)) (hKB' : HighFrom KB' 128 (keyWin x0 x1 x2 x3 x4 x5 x6 x7 x8 x10 b T))
    (hVA' : LowFrom VA' 128 (valWin x0 x1 x2 x3 x4 x5 x6 x7 x8 x10 b T)) (hVB' : HighFrom VB' 128 (valWin x0 x1 x2 x3 x4 x5 x6 x7 x8 x10 b T)) (r : Fin 256) (d : Fin 1024) :
    kSwa (BitVec.ofNat 32 T.val) Q KA KB VA VB KA' KB' VA' VB' W.w0 (ix2 r d) = val_main_v457 (F := Ideal) x0 x1 x2 x3 x4 x5 x6 x7 x8 x9 x10 (ix3 b (pos T r) d) := by
  have hq : ∀ (o : ℕ) (ho : o + 64 ≤ 256) (hsl : S256x1024.Slices ![o, 0] S64x1024) (i : Fin 64),
      (fun c : Fin 1024 => extractStridedSlice S64x1024 ![o, 0] Q hsl (ix2 i c)) =
        fun c => val_main_v374 (F := Ideal) x0 x1 x2 x3 x4 x5 x6 x7 x8 x10 (ix4 b ⟨256 * T.val + (o + i.val), by omega⟩ ⟨c.val / 64, by omega⟩ ⟨c.val % 64, by omega⟩) * ((qScale : ℝ) : EReal) := fun o ho hsl i => by
    funext c
    have e : extractStridedSlice S64x1024 ![o, 0] Q hsl (ix2 i c) = Q (ix2 ⟨o + i.val, by omega⟩ c) := by pointwise []
    rw [e, hQ]
  have ht : snk W.w0 ⟨d.val / 64, by omega⟩ = x9 (ix2 0 ⟨d.val / 64, by omega⟩) * (kLog : EReal) := congrArg (· * _) (hW.h0 _)
  have hb : ∀ (y : EReal) (p x : ℕ) (n : ℕ) (hn : n + 64 * p = 128), y + (if T.val = 0 ∧ x < n then ⊥ else 0) = if 2 ≤ 4 * T.val + p + x / 64 then y else ⊥ := fun y p x n hn => by
    by_cases h : T.val = 0 ∧ x < n
    · rw [if_pos h, if_neg (show ¬2 ≤ 4 * T.val + p + x / 64 by omega), EReal.add_bot]
    · rw [if_neg h, if_pos (show 2 ≤ 4 * T.val + p + x / 64 by omega), add_zero]
  have er : r = ⟨64 * (⟨r.val / 64, by omega⟩ : Fin 4).val + (⟨r.val % 64, by omega⟩ : Fin 64).val, by show 64 * (r.val / 64) + r.val % 64 < 256; omega⟩ :=
    Fin.ext (by show r.val = 64 * (r.val / 64) + r.val % 64; omega)
  rw [er]
  unfold kSwa
  refine rows4_at _ _ _ _ concatenates_S64x1024_S64x1024_S64x1024_S64x1024_S256x1024_d0 d
    (fun p i => val_main_v457 (F := Ideal) x0 x1 x2 x3 x4 x5 x6 x7 x8 x9 x10 (ix3 b ⟨256 * T.val + (64 * p.val + i.val), by omega⟩ d)) (fun i => ?_) (fun i => ?_) (fun i => ?_) (fun i => ?_) _ _
  · refine (kChunkB_at _ T 128 _ _ _ _ _ 0 _ _ _ (hKA.of 0 (by omega) (by omega)) (hKB.of 0 (by omega) (by omega)) (hVA.of 0 (by omega) (by omega)) (hVB.of 0 (by omega) (by omega)) i d).trans ?_
    rw [hq 0 (by omega)]
    exact attV_eq x0 x1 x2 x3 x4 x5 x6 x7 x8 x9 x10 hR b T 0 i d _ _ (fun x => hb _ 0 x.val 128 rfl) ht
  · refine (kChunkB_at _ T 64 _ _ _ _ _ 64 _ _ _ (hKA.of 64 (by omega) (by omega)) (hKB.of 64 (by omega) (by omega)) (hVA.of 64 (by omega) (by omega)) (hVB.of 64 (by omega) (by omega)) i d).trans ?_
    rw [hq 64 (by omega)]
    exact attV_eq x0 x1 x2 x3 x4 x5 x6 x7 x8 x9 x10 hR b T 1 i d _ _ (fun x => hb _ 1 x.val 64 rfl) ht
  · refine (kChunkN_at _ _ _ _ _ _ 128 _ _ _ (hKA'.of 128 (by omega) (by omega)) (hKB'.of 128 (by omega) (by omega)) (hVA'.of 128 (by omega) (by omega)) (hVB'.of 128 (by omega) (by omega)) i d).trans ?_
    rw [hq 128 (by omega)]
    exact attV_eq x0 x1 x2 x3 x4 x5 x6 x7 x8 x9 x10 hR b T 2 i d _ _ (fun x => (if_pos (show 2 ≤ 4 * T.val + 2 + x.val / 64 by omega)).symm) ht
  · refine (kChunkN_at _ _ _ _ _ _ 192 _ _ _ (hKA'.of 192 (by omega) (by omega)) (hKB'.of 192 (by omega) (by omega)) (hVA'.of 192 (by omega) (by omega)) (hVB'.of 192 (by omega) (by omega)) i d).trans ?_
    rw [hq 192 (by omega)]
    exact attV_eq x0 x1 x2 x3 x4 x5 x6 x7 x8 x9 x10 hR b T 3 i d _ _ (fun x => (if_pos (show 2 ≤ 4 * T.val + 3 + x.val / 64 by omega)).symm) ht

end Cert.KernelIdeal.Trunk
-- ==== Proof.Step.lean ====
module

public import proofs.«01_k».proof.Proof.Swa
public import Idealize.ShloMosaic.Lib.WritesUnit
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-! # The scratch a step reads and leaves -/

variable (x0 : FVec Ideal Cert.ReferenceIdeal.S2x16384x1024 .f32) (x1 : FVec Ideal Cert.ReferenceIdeal.S2x512x1024 .bf16) (x2 : FVec Ideal Cert.ReferenceIdeal.S2x1024 .f32) (x3 : FVec Ideal Cert.ReferenceIdeal.S1x1024x4096 .f32) (x4 : FVec Ideal Cert.ReferenceIdeal.S1x31x1024 .f32) (x5 : FVec Ideal Cert.ReferenceIdeal.S1x1024 .f32) (x6 : FVec Ideal Cert.ReferenceIdeal.S1x1024 .f32) (x7 : FVec Ideal Cert.ReferenceIdeal.S1x1024 .f32) (x8 : FVec Ideal Cert.ReferenceIdeal.S1x1024x3328 .f32) (x9 : FVec Ideal Cert.ReferenceIdeal.S1x16 .f32) (x10 : FVec Ideal Cert.ReferenceIdeal.S2x1536x1024 .f32) (x11 : FVec Ideal Cert.ReferenceIdeal.S1024 .f32)

/-- The rows before tile `T` that the convolution reads. -/
def UBefore (b : Fin 2) (T : Fin 64) (U : FVec Ideal S1x288x1024 .f32) : Prop :=
  ∀ (i : Fin 30) (d : Fin 1024), U (ix3 0 ⟨2 + i.val, by omega⟩ d) = val_main_v37 (F := Ideal) x0 x2 x3 (ix3 b ⟨256 * T.val + i.val, by omega⟩ d)

/-- A scratch whose first 128 rows hold each head's lanes below. -/
def LowBefore (K : FVec Ideal S2x1x384x128 .bf16) (k : Fin 2 → Fin 384 → Fin 64 → EReal) : Prop :=
  ∀ (g : Fin 2) (j : Fin 128) (l : Fin 128), K (ix4 g 0 ⟨j.val, by omega⟩ l) = if h : l.val < 64 then k g ⟨j.val, by omega⟩ ⟨l.val, h⟩ else 0

/-- A scratch whose first 128 rows hold each head's lanes above. -/
def HighBefore (K : FVec Ideal S2x1x384x128 .bf16) (k : Fin 2 → Fin 384 → Fin 64 → EReal) : Prop :=
  ∀ (g : Fin 2) (j : Fin 128) (l : Fin 128), K (ix4 g 0 ⟨j.val, by omega⟩ l) = if h : l.val < 64 then 0 else k g ⟨j.val, by omega⟩ ⟨l.val - 64, by omega⟩

/-- A tile's block of the convolution's input, where it was stored. -/
theorem kUPiece_hit (W : Win Ideal) (c0 : ℕ) (hc : c0 + 256 ≤ 1024) (v : View sig .tc .vmem S1x288x1024 .f32) (f : v.ty.Contents (Elt Ideal)) (L : List (View.Piece (Elt Ideal) S1x288x1024 .f32)) (r d : Fin 256) :
    kRd v f (kUPiece W c0 hc :: L) (ix3 0 ⟨32 + r.val, by omega⟩ ⟨c0 + d.val, by omega⟩) = kU W c0 hc (ix3 0 r d) := by
  refine (View.read_writes_cons_unit_of_mem v f _ _ L _ (ix3 0 r d) rfl fun a => ?_).trans ?_
  · match a with
    | ⟨0, _⟩ => rfl
    | ⟨1, _⟩ => rfl
    | ⟨2, _⟩ => rfl
  · pointwise []

/-- The rows before a tile's are not touched. -/
theorem kUPiece_row (W : Win Ideal) (c0 : ℕ) (hc : c0 + 256 ≤ 1024) (v : View sig .tc .vmem S1x288x1024 .f32) (f : v.ty.Contents (Elt Ideal)) (L : List (View.Piece (Elt Ideal) S1x288x1024 .f32)) (r : Fin 288) (hr : r.val < 32) (d : Fin 1024) :
    kRd v f (kUPiece W c0 hc :: L) (ix3 0 r d) = kRd v f L (ix3 0 r d) :=
  View.read_writes_cons_unit_of_not_mem v f _ _ L _ rfl 1 (.inl hr)

/-- The other columns are not touched. -/
theorem kUPiece_col (W : Win Ideal) (c0 : ℕ) (hc : c0 + 256 ≤ 1024) (v : View sig .tc .vmem S1x288x1024 .f32) (f : v.ty.Contents (Elt Ideal)) (L : List (View.Piece (Elt Ideal) S1x288x1024 .f32)) (r : Fin 288) (d : Fin 1024) (hd : d.val < c0 ∨ c0 + 256 ≤ d.val) :
    kRd v f (kUPiece W c0 hc :: L) (ix3 0 r d) = kRd v f L (ix3 0 r d) :=
  View.read_writes_cons_unit_of_not_mem v f _ _ L _ rfl 2 hd

/-- The reference's padded input at a tile's row. -/
theorem v37_tile (b : Fin 2) (T : Fin 64) (r : Fin 256) (d : Fin 1024) :
    val_main_v37 (F := Ideal) x0 x2 x3 (ix3 b ⟨256 * T.val + (30 + r.val), by omega⟩ d) = val_main_v35 (F := Ideal) x0 x2 x3 (ix3 b (pos T r) d) := by
  rw [v37_at, dif_neg (show ¬256 * T.val + (30 + r.val) < 30 by omega)]
  exact congrArg (fun n => val_main_v35 (F := Ideal) x0 x2 x3 (ix3 b n d)) (Fin.ext (by show 256 * T.val + (30 + r.val) - 30 = 256 * T.val + r.val; omega))

/-- A stored block and the rows before it, against the reference. -/
theorem kUPiece_eq {W : Win Ideal} {b : Fin 2} {T : Fin 64} (hW : Fits W b T x0 x1 x2 x3 x4 x5 x6 x7 x8 x9 x10 x11) (c0 : ℕ) (hc : c0 + 256 ≤ 1024) (v : View sig .tc .vmem S1x288x1024 .f32) (f : v.ty.Contents (Elt Ideal)) (L : List (View.Piece (Elt Ideal) S1x288x1024 .f32)) (hU : UBefore x0 x2 x3 b T (kRd v f L)) (i : Fin 286) (d : Fin 256) :
    kRd v f (kUPiece W c0 hc :: L) (ix3 0 ⟨2 + i.val, by omega⟩ ⟨c0 + d.val, by omega⟩) =
      val_main_v37 (F := Ideal) x0 x2 x3 (ix3 b ⟨256 * T.val + i.val, by omega⟩ ⟨c0 + d.val, by omega⟩) := by
  by_cases h : i.val < 30
  · rw [kUPiece_row W c0 hc v f L _ (by show 2 + i.val < 32; omega)]
    exact hU ⟨i.val, h⟩ _
  · have e : i = ⟨30 + (i.val - 30), by omega⟩ := Fin.ext (by show i.val = 30 + (i.val - 30); omega)
    have e2 : kRd v f (kUPiece W c0 hc :: L) (ix3 0 ⟨2 + i.val, by omega⟩ ⟨c0 + d.val, by omega⟩) = kU W c0 hc (ix3 0 ⟨i.val - 30, by omega⟩ d) := by
      rw [← kUPiece_hit W c0 hc v f L ⟨i.val - 30, by omega⟩ d]
      congr 2
      exact Fin.ext (by show 2 + i.val = 32 + (i.val - 30); omega)
    rw [e2, kU_eq x0 x1 x2 x3 x4 x5 x6 x7 x8 x9 x10 x11 hW, ← v37_tile]
    congr 2
    exact Fin.ext (by show 256 * T.val + (30 + (i.val - 30)) = 256 * T.val + i.val; omega)

/-- The rows before the tile stay. -/
theorem UBefore.cons {b : Fin 2} {T : Fin 64} (W : Win Ideal) (c0 : ℕ) (hc : c0 + 256 ≤ 1024) (v : View sig .tc .vmem S1x288x1024 .f32) (f : v.ty.Contents (Elt Ideal)) (L : List (View.Piece (Elt Ideal) S1x288x1024 .f32)) (hU : UBefore x0 x2 x3 b T (kRd v f L)) :
    UBefore x0 x2 x3 b T (kRd v f (kUPiece W c0 hc :: L)) := fun i d =>
  (kUPiece_row W c0 hc v f L _ (by show 2 + i.val < 32; omega) d).trans (hU i d)

/-- The residual stream after the convolution half. -/
theorem kX1'_eq {W : Win Ideal} {b : Fin 2} {T : Fin 64} (hW : Fits W b T x0 x1 x2 x3 x4 x5 x6 x7 x8 x9 x10 x11) (hR : Reals x1 x2 x3 x8 x9) (v : View sig .tc .vmem S1x288x1024 .f32) (f : v.ty.Contents (Elt Ideal)) (L : List (View.Piece (Elt Ideal) S1x288x1024 .f32)) (hU : UBefore x0 x2 x3 b T (kRd v f L)) (r : Fin 256) (d : Fin 1024) :
    kX1' W v f L (ix2 r d) = val_main_v317 (F := Ideal) x0 x1 x2 x3 x4 x5 x6 x7 x10 (ix3 b (pos T r) d) := by
  have h1 := hU.cons x0 x2 x3 W 0 (by omega) v f L
  have h2 := h1.cons x0 x2 x3 W 256 (by omega) v f _
  have h3 := h2.cons x0 x2 x3 W 512 (by omega) v f _
  exact kX1_eq x0 x1 x2 x3 x4 x5 x6 x7 x8 x9 x10 x11 hW hR _ _ _ _ (kUPiece_eq x0 x1 x2 x3 x4 x5 x6 x7 x8 x9 x10 x11 hW 0 (by omega) v f L hU) (kUPiece_eq x0 x1 x2 x3 x4 x5 x6 x7 x8 x9 x10 x11 hW 256 (by omega) v f _ h1)
    (kUPiece_eq x0 x1 x2 x3 x4 x5 x6 x7 x8 x9 x10 x11 hW 512 (by omega) v f _ h2) (kUPiece_eq x0 x1 x2 x3 x4 x5 x6 x7 x8 x9 x10 x11 hW 768 (by omega) v f _ h3) r d

/-- The tile's rows of the convolution's input once all four blocks are in. -/
theorem kUs3_eq {W : Win Ideal} {b : Fin 2} {T : Fin 64} (hW : Fits W b T x0 x1 x2 x3 x4 x5 x6 x7 x8 x9 x10 x11) (v : View sig .tc .vmem S1x288x1024 .f32) (f : v.ty.Contents (Elt Ideal)) (L : List (View.Piece (Elt Ideal) S1x288x1024 .f32)) (r : Fin 256) (d : Fin 1024) :
    kRd v f (kUs3 W L) (ix3 0 ⟨32 + r.val, by omega⟩ d) = val_main_v37 (F := Ideal) x0 x2 x3 (ix3 b ⟨256 * T.val + (30 + r.val), by omega⟩ d) := by
  rw [v37_tile]
  have hit : ∀ (c0 : ℕ) (hc : c0 + 256 ≤ 1024) (L' : List (View.Piece (Elt Ideal) S1x288x1024 .f32)), c0 ≤ d.val → d.val < c0 + 256 →
      kRd v f (kUPiece W c0 hc :: L') (ix3 0 ⟨32 + r.val, by omega⟩ d) = val_main_v35 (F := Ideal) x0 x2 x3 (ix3 b (pos T r) d) := fun c0 hc L' h h' => by
    have e : d = ⟨c0 + (⟨d.val - c0, by omega⟩ : Fin 256).val, by show c0 + (d.val - c0) < 1024; omega⟩ := Fin.ext (by show d.val = c0 + (d.val - c0); omega)
    rw [e]
    exact (kUPiece_hit W c0 hc v f L' r ⟨d.val - c0, by omega⟩).trans (kU_eq x0 x1 x2 x3 x4 x5 x6 x7 x8 x9 x10 x11 hW c0 hc r _)
  unfold kUs3 kUs2 kUs1 kUs0
  by_cases h3 : 768 ≤ d.val
  · exact hit 768 _ _ h3 (by omega)
  rw [kUPiece_col W 768 _ v f _ _ d (.inl (by omega))]
  by_cases h2 : 512 ≤ d.val
  · exact hit 512 _ _ h2 (by omega)
  rw [kUPiece_col W 512 _ v f _ _ d (.inl (by omega))]
  by_cases h1 : 256 ≤ d.val
  · exact hit 256 _ _ h1 (by omega)
  rw [kUPiece_col W 256 _ v f _ _ d (.inl (by omega))]
  exact hit 0 _ _ (by omega) (by omega)

/-- The convolution's last rows. -/
theorem kConvOut_eq {W : Win Ideal} {b : Fin 2} {T : Fin 64} (hW : Fits W b T x0 x1 x2 x3 x4 x5 x6 x7 x8 x9 x10 x11) (v : View sig .tc .vmem S1x288x1024 .f32) (f : v.ty.Contents (Elt Ideal)) (L : List (View.Piece (Elt Ideal) S1x288x1024 .f32)) (r : Fin 30) (d : Fin 1024) :
    kConvOut (kRd v f (kUs3 W L)) (ix4 0 0 r d) = val_main_v37 (F := Ideal) x0 x2 x3 (ix3 b ⟨256 * T.val + (256 + r.val), by omega⟩ d) := by
  have h : kConvOut (kRd v f (kUs3 W L)) (ix4 0 0 r d) = kRd v f (kUs3 W L) (ix3 0 ⟨32 + (226 + r.val), by omega⟩ d) := by
    unfold kConvOut
    pointwise []
    refine (kLd_at _ _ _ _ _ (ix3 0 ⟨32 + (226 + r.val), by omega⟩ d) fun a => ?_)
    match a with
    | ⟨0, _⟩ => rfl
    | ⟨1, _⟩ => show 32 + (226 + r.val) = 258 + r.val; omega
    | ⟨2, _⟩ => show d.val = 0 + d.val; omega
  rw [h]
  refine (kUs3_eq x0 x1 x2 x3 x4 x5 x6 x7 x8 x9 x10 x11 hW v f L ⟨226 + r.val, by omega⟩ d).trans ?_
  congr 2
  exact Fin.ext (by show 256 * T.val + (30 + (226 + r.val)) = 256 * T.val + (256 + r.val); omega)

/-- The convolution's scratch after the step holds the rows before the next tile. -/
theorem kUEnd_eq {W : Win Ideal} {b : Fin 2} {T : Fin 64} (hW : Fits W b T x0 x1 x2 x3 x4 x5 x6 x7 x8 x9 x10 x11) {T' : Fin 64} (hT : T'.val = T.val + 1) (w : View sig .tc .vmem S1x288x1024 .f32) (g : w.ty.Contents (Elt Ideal)) (v : View sig .tc .vmem S1x288x1024 .f32)
    (L : List (View.Piece (Elt Ideal) S1x288x1024 .f32)) : UBefore x0 x2 x3 b T' (kRd w g (kUEnd v (kUs3 W L))) := fun i d => by
  have hi : (ix3 (n0 := 1) (n1 := 32) (n2 := 1024) 0 ⟨2 + i.val, by omega⟩ d) = ix3 0 ⟨2 + i.val, by omega⟩ d := rfl
  refine (View.read_writes_cons_unit_of_mem w g _ _ _ _ (ix3 (n0 := 1) (n1 := 32) (n2 := 1024) 0 ⟨2 + i.val, by omega⟩ d) rfl fun a => ?_).trans ?_
  · match a with
    | ⟨0, _⟩ => rfl
    | ⟨1, _⟩ => show 2 + i.val = 0 + (2 + i.val); omega
    | ⟨2, _⟩ => show d.val = 0 + d.val; omega
  · have h : shapeCast S1x32x1024 (kLd (kRd v v.junk (kUs3 W L)) (Rect.unit (s := S1x288x1024) ![0, 256, 0] S1x32x1024.size
        (inb3 (Nat.le_refl 1) (Nat.le_refl 288) (Nat.le_refl 1024)))) shapeCasts_S1x32x1024_S1x32x1024 (ix3 0 ⟨2 + i.val, by omega⟩ d) =
        kRd v v.junk (kUs3 W L) (ix3 0 ⟨32 + (226 + i.val), by omega⟩ d) := by
      pointwise []
      refine (kLd_at _ _ _ _ _ (ix3 0 ⟨32 + (226 + i.val), by omega⟩ d) fun a => ?_)
      match a with
      | ⟨0, _⟩ => rfl
      | ⟨1, _⟩ => show 32 + (226 + i.val) = 256 + (2 + i.val); omega
      | ⟨2, _⟩ => show d.val = 0 + d.val; omega
    refine h.trans ((kUs3_eq x0 x1 x2 x3 x4 x5 x6 x7 x8 x9 x10 x11 hW v _ L ⟨226 + i.val, by omega⟩ d).trans ?_)
    congr 2
    exact Fin.ext (by show 256 * T.val + (30 + (226 + i.val)) = 256 * T'.val + i.val; omega)

/-- The tile's rows of a filled scratch, and the rows before it. -/
theorem kFill_at (X0 X1 : FVec Ideal S1x1x256x128 .bf16) (v : View sig .tc .vmem S2x1x384x128 .bf16) (f : v.ty.Contents (Elt Ideal)) (L : List (View.Piece (Elt Ideal) S2x1x384x128 .bf16)) (g : Fin 2) (j : Fin 384) (l : Fin 128) :
    kRd v f (kFill X0 X1 L) (ix4 g 0 j l) = if h : 128 ≤ j.val then (if g.val = 0 then X0 (ix4 0 0 ⟨j.val - 128, by omega⟩ l) else X1 (ix4 0 0 ⟨j.val - 128, by omega⟩ l))
      else kRd v f L (ix4 g 0 j l) := by
  unfold kFill
  by_cases h : 128 ≤ j.val
  · rw [dif_pos h]
    have hx : ∀ a, (ix4 g (0 : Fin 1) j l a).val = (![g.val, 0, 128, 0] : Fin 4 → ℕ) a + (ix4 (0 : Fin 1) (0 : Fin 1) (⟨j.val - 128, by omega⟩ : Fin 256) l a).val := fun a => by
      match a with
      | ⟨0, _⟩ => rfl
      | ⟨1, _⟩ => rfl
      | ⟨2, _⟩ => show j.val = 128 + (j.val - 128); omega
      | ⟨3, _⟩ => show l.val = 0 + l.val; omega
    by_cases hg : g.val = 0
    · rw [if_pos hg]
      refine (View.read_writes_cons_unit_of_not_mem v f _ _ _ _ rfl 0 (.inl (by show g.val < 1; omega))).trans ?_
      exact View.read_writes_cons_unit_of_mem v f _ _ L _ (ix4 (0 : Fin 1) (0 : Fin 1) (⟨j.val - 128, by omega⟩ : Fin 256) l) rfl (hg ▸ hx)
    · rw [if_neg hg]
      exact View.read_writes_cons_unit_of_mem v f _ _ _ _ (ix4 (0 : Fin 1) (0 : Fin 1) (⟨j.val - 128, by omega⟩ : Fin 256) l) rfl (show g.val = 1 by omega ▸ hx)
  · rw [dif_neg h]
    exact (View.read_writes_cons_unit_of_not_mem v f _ _ _ _ rfl 2 (.inl (by show j.val < 128; omega))).trans
      (View.read_writes_cons_unit_of_not_mem v f _ _ L _ rfl 2 (.inl (by show j.val < 128; omega)))

/-- The rows a tile's filled scratch moves to the front. -/
theorem kEnd_at (v : View sig .tc .vmem S2x1x384x128 .bf16) (L : List (View.Piece (Elt Ideal) S2x1x384x128 .bf16)) (w : View sig .tc .vmem S2x1x384x128 .bf16) (g : w.ty.Contents (Elt Ideal)) (h : Fin 2) (j l : Fin 128) :
    kRd w g (kEnd v L) (ix4 h 0 ⟨j.val, by omega⟩ l) = kRd v v.junk L (ix4 h 0 ⟨256 + j.val, by omega⟩ l) := by
  unfold kEnd
  refine (View.read_writes_cons_unit_of_mem w g _ _ _ _ (ix4 (n0 := 2) (n1 := 1) (n2 := 128) (n3 := 128) h 0 j l) rfl fun a => ?_).trans ?_
  · match a with
    | ⟨0, _⟩ => show h.val = 0 + h.val; omega
    | ⟨1, _⟩ => rfl
    | ⟨2, _⟩ => show j.val = 0 + j.val; omega
    | ⟨3, _⟩ => show l.val = 0 + l.val; omega
  · pointwise []
    refine (kLd_at _ _ _ _ _ (ix4 h 0 ⟨256 + j.val, by omega⟩ l) fun a => ?_)
    match a with
    | ⟨0, _⟩ => show h.val = 0 + h.val; omega
    | ⟨1, _⟩ => rfl
    | ⟨2, _⟩ => rfl
    | ⟨3, _⟩ => show l.val = 0 + l.val; omega

/-- A scratch filled with a tile's rows, each head's lanes below. -/
theorem low_fill {X : FVec Ideal S256x128 .f32} {k : Fin 2 → Fin 384 → Fin 64 → EReal}
    (hX : ∀ (r : Fin 256) (g : Fin 2) (e : Fin 64), X (ix2 r ⟨g.val * 64 + e.val, by omega⟩) = k g ⟨128 + r.val, by omega⟩ e) (v : View sig .tc .vmem S2x1x384x128 .bf16) (f : v.ty.Contents (Elt Ideal)) (L : List (View.Piece (Elt Ideal) S2x1x384x128 .bf16)) :
    LowFrom (kRd v f (kFill (kFillA0 X) (kFillA1 X) L)) 128 k := fun g j l hj => by
  have e : (⟨128 + (j.val - 128), by omega⟩ : Fin 384) = j := Fin.ext (by show 128 + (j.val - 128) = j.val; omega)
  rw [kFill_at, dif_pos hj]
  by_cases hl : l.val < 64
  · have h0 := hX ⟨j.val - 128, by omega⟩ 0 ⟨l.val, hl⟩
    have h1 := hX ⟨j.val - 128, by omega⟩ 1 ⟨l.val, hl⟩
    rw [dif_pos hl, kFillA0_at, kFillA1_at, dif_pos hl, dif_pos hl]
    match g with
    | ⟨0, _⟩ => rw [if_pos rfl]; exact h0.trans (congrArg (fun j => k 0 j ⟨l.val, hl⟩) e)
    | ⟨1, _⟩ => rw [if_neg Nat.one_ne_zero]; exact h1.trans (congrArg (fun j => k 1 j ⟨l.val, hl⟩) e)
  · rw [dif_neg hl, kFillA0_at, kFillA1_at, dif_neg hl, dif_neg hl, ite_self]

/-- A scratch filled with a tile's rows, each head's lanes above. -/
theorem high_fill {X : FVec Ideal S256x128 .f32} {k : Fin 2 → Fin 384 → Fin 64 → EReal}
    (hX : ∀ (r : Fin 256) (g : Fin 2) (e : Fin 64), X (ix2 r ⟨g.val * 64 + e.val, by omega⟩) = k g ⟨128 + r.val, by omega⟩ e) (v : View sig .tc .vmem S2x1x384x128 .bf16) (f : v.ty.Contents (Elt Ideal)) (L : List (View.Piece (Elt Ideal) S2x1x384x128 .bf16)) :
    HighFrom (kRd v f (kFill (kFillB0 X) (kFillB1 X) L)) 128 k := fun g j l hj => by
  have e : (⟨128 + (j.val - 128), by omega⟩ : Fin 384) = j := Fin.ext (by show 128 + (j.val - 128) = j.val; omega)
  rw [kFill_at, dif_pos hj]
  by_cases hl : l.val < 64
  · rw [dif_pos hl, kFillB0_at, kFillB1_at, dif_pos hl, dif_pos hl, ite_self]
  · have h0 := hX ⟨j.val - 128, by omega⟩ 0 ⟨l.val - 64, by omega⟩
    have h1 := hX ⟨j.val - 128, by omega⟩ 1 ⟨l.val - 64, by omega⟩
    rw [dif_neg hl, kFillB0_at, kFillB1_at, dif_neg hl, dif_neg hl]
    match g with
    | ⟨0, _⟩ => rw [if_pos rfl]; exact h0.trans (congrArg (fun j => k 0 j ⟨l.val - 64, by omega⟩) e)
    | ⟨1, _⟩ => rw [if_neg Nat.one_ne_zero]; exact h1.trans (congrArg (fun j => k 1 j ⟨l.val - 64, by omega⟩) e)

/-- With the rows before it the filled scratch is whole. -/
theorem LowFrom.whole {k : Fin 2 → Fin 384 → Fin 64 → EReal} {X0 X1 : FVec Ideal S1x1x256x128 .bf16} (v : View sig .tc .vmem S2x1x384x128 .bf16) (f : v.ty.Contents (Elt Ideal)) (L : List (View.Piece (Elt Ideal) S2x1x384x128 .bf16))
    (h : LowFrom (kRd v f (kFill X0 X1 L)) 128 k) (hB : LowBefore (kRd v f L) k) : LowFrom (kRd v f (kFill X0 X1 L)) 0 k := fun g j l _ => by
  by_cases hj : 128 ≤ j.val
  · exact h g j l hj
  · rw [kFill_at, dif_neg hj]
    exact hB g ⟨j.val, by omega⟩ l

/-- With the rows before it the filled scratch is whole. -/
theorem HighFrom.whole {k : Fin 2 → Fin 384 → Fin 64 → EReal} {X0 X1 : FVec Ideal S1x1x256x128 .bf16} (v : View sig .tc .vmem S2x1x384x128 .bf16) (f : v.ty.Contents (Elt Ideal)) (L : List (View.Piece (Elt Ideal) S2x1x384x128 .bf16))
    (h : HighFrom (kRd v f (kFill X0 X1 L)) 128 k) (hB : HighBefore (kRd v f L) k) : HighFrom (kRd v f (kFill X0 X1 L)) 0 k := fun g j l _ => by
  by_cases hj : 128 ≤ j.val
  · exact h g j l hj
  · rw [kFill_at, dif_neg hj]
    exact hB g ⟨j.val, by omega⟩ l

/-- What a step leaves in front: the last 128 rows. -/
theorem LowFrom.carry {k k' : Fin 2 → Fin 384 → Fin 64 → EReal} (hk : ∀ g (j : Fin 128) e, k g ⟨256 + j.val, by omega⟩ e = k' g ⟨j.val, by omega⟩ e) (v : View sig .tc .vmem S2x1x384x128 .bf16)
    {L : List (View.Piece (Elt Ideal) S2x1x384x128 .bf16)} (h : LowFrom (kRd v v.junk L) 128 k) (w : View sig .tc .vmem S2x1x384x128 .bf16) (g : w.ty.Contents (Elt Ideal)) :
    LowBefore (kRd w g (kEnd v L)) k' := fun q j l => by
  rw [kEnd_at, h q _ l (by show 128 ≤ 256 + j.val; omega)]
  simp only [hk]

/-- What a step leaves in front: the last 128 rows. -/
theorem HighFrom.carry {k k' : Fin 2 → Fin 384 → Fin 64 → EReal} (hk : ∀ g (j : Fin 128) e, k g ⟨256 + j.val, by omega⟩ e = k' g ⟨j.val, by omega⟩ e) (v : View sig .tc .vmem S2x1x384x128 .bf16)
    {L : List (View.Piece (Elt Ideal) S2x1x384x128 .bf16)} (h : HighFrom (kRd v v.junk L) 128 k) (w : View sig .tc .vmem S2x1x384x128 .bf16) (g : w.ty.Contents (Elt Ideal)) :
    HighBefore (kRd w g (kEnd v L)) k' := fun q j l => by
  rw [kEnd_at, h q _ l (by show 128 ≤ 256 + j.val; omega)]
  simp only [hk]

/-- The next tile's first rows are this tile's last: keys. -/
theorem keyWin_next (b : Fin 2) {T T' : Fin 64} (hT : T'.val = T.val + 1) (g : Fin 2) (j : Fin 128) (e : Fin 64) :
    keyWin x0 x1 x2 x3 x4 x5 x6 x7 x8 x10 b T g ⟨256 + j.val, by omega⟩ e = keyWin x0 x1 x2 x3 x4 x5 x6 x7 x8 x10 b T' g ⟨j.val, by omega⟩ e := by
  unfold keyWin
  refine congrArg _ (ix4_ext rfl ?_ rfl rfl)
  show 256 * T.val + (256 + j.val) = 256 * T'.val + j.val
  omega

/-- The next tile's first rows are this tile's last: values. -/
theorem valWin_next (b : Fin 2) {T T' : Fin 64} (hT : T'.val = T.val + 1) (g : Fin 2) (j : Fin 128) (e : Fin 64) :
    valWin x0 x1 x2 x3 x4 x5 x6 x7 x8 x10 b T g ⟨256 + j.val, by omega⟩ e = valWin x0 x1 x2 x3 x4 x5 x6 x7 x8 x10 b T' g ⟨j.val, by omega⟩ e := by
  unfold valWin
  refine congrArg _ (ix4_ext rfl ?_ rfl rfl)
  show 256 * T.val + (256 + j.val) = 256 * T'.val + j.val
  omega

/-- The tile's keys are the window's from row 128 on. -/
theorem kK_win {W : Win Ideal} {b : Fin 2} {T : Fin 64} (hW : Fits W b T x0 x1 x2 x3 x4 x5 x6 x7 x8 x9 x10 x11) {X1 : FVec Ideal S256x1024 .f32} (hX : ∀ (r : Fin 256) (d : Fin 1024), X1 (ix2 r d) = val_main_v317 (F := Ideal) x0 x1 x2 x3 x4 x5 x6 x7 x10 (ix3 b (pos T r) d)) (r : Fin 256) (g : Fin 2) (e : Fin 64) :
    kK W X1 (ix2 r ⟨g.val * 64 + e.val, by omega⟩) = keyWin x0 x1 x2 x3 x4 x5 x6 x7 x8 x10 b T g ⟨128 + r.val, by omega⟩ e := by
  rw [kK_eq x0 x1 x2 x3 x4 x5 x6 x7 x8 x9 x10 x11 hW hX]
  unfold keyWin
  rw [v411_at, dif_neg (show ¬256 * T.val + (128 + r.val) < 128 by omega)]
  refine congrArg _ (ix4_ext rfl ?_ ?_ ?_)
  · show 256 * T.val + r.val = 256 * T.val + (128 + r.val) - 128
    omega
  · show (g.val * 64 + e.val) / 64 = g.val
    omega
  · show (g.val * 64 + e.val) % 64 = e.val
    omega

/-- The tile's values are the window's from row 128 on. -/
theorem kV_win {W : Win Ideal} {b : Fin 2} {T : Fin 64} (hW : Fits W b T x0 x1 x2 x3 x4 x5 x6 x7 x8 x9 x10 x11) {X1 : FVec Ideal S256x1024 .f32} (hX : ∀ (r : Fin 256) (d : Fin 1024), X1 (ix2 r d) = val_main_v317 (F := Ideal) x0 x1 x2 x3 x4 x5 x6 x7 x10 (ix3 b (pos T r) d)) (r : Fin 256) (g : Fin 2) (e : Fin 64) :
    kV W X1 (ix2 r ⟨g.val * 64 + e.val, by omega⟩) = valWin x0 x1 x2 x3 x4 x5 x6 x7 x8 x10 b T g ⟨128 + r.val, by omega⟩ e := by
  rw [kV_eq x0 x1 x2 x3 x4 x5 x6 x7 x8 x9 x10 x11 hW hX]
  unfold valWin
  rw [v413_at, dif_neg (show ¬256 * T.val + (128 + r.val) < 128 by omega)]
  refine congrArg _ (ix4_ext rfl ?_ ?_ ?_)
  · show 256 * T.val + r.val = 256 * T.val + (128 + r.val) - 128
    omega
  · show (g.val * 64 + e.val) / 64 = g.val
    omega
  · show (g.val * 64 + e.val) % 64 = e.val
    omega

/-- The last keys or values of a tile. -/
theorem kLast_at (X : FVec Ideal S256x128 .f32) (r d : Fin 128) : kLast X (ix4 0 0 r d) = X (ix2 ⟨128 + r.val, by omega⟩ d) := by
  unfold kLast
  pointwise []

/-- What the scratches hold before a tile. -/
structure Before (b : Fin 2) (T : Fin 64) (U : FVec Ideal S1x288x1024 .f32) (KA KB VA VB : FVec Ideal S2x1x384x128 .bf16) : Prop where
  u : UBefore x0 x2 x3 b T U
  ka : LowBefore KA (keyWin x0 x1 x2 x3 x4 x5 x6 x7 x8 x10 b T)
  kb : HighBefore KB (keyWin x0 x1 x2 x3 x4 x5 x6 x7 x8 x10 b T)
  va : LowBefore VA (valWin x0 x1 x2 x3 x4 x5 x6 x7 x8 x10 b T)
  vb : HighBefore VB (valWin x0 x1 x2 x3 x4 x5 x6 x7 x8 x10 b T)

end Cert.KernelIdeal.Trunk
-- ==== Proof.Ident.lean ====
module

public import proofs.«01_k».proof.Proof.Body
public import Idealize.ShloMosaic.Lib.Tactic.Stretches

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

variable {F : FTy → Type} [FloatOps F] [Named F]

/-! # The step's definitions are the parts of the kernel's function

Each theorem opens one generated result of a step and finds in it the parts named before. -/

variable (c : Dev nD) (i : grid0.Coords) (arg2 : Memref sig .tc .smem S16 .f32) (harg2 : arg2.IsWhole) (arg3 : Memref sig .tc .vmem S1x256x1024 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S1x1x30x1024 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S2x1x256x512 .bf16) (harg9 : arg9.IsWhole) (arg10 : Memref sig .tc .vmem S2x1x256x512 .bf16) (harg10 : arg10.IsWhole) (arg11 : Memref sig .tc .vmem S2x1024 .f32) (harg11 : arg11.IsWhole) (arg12 : Memref sig .tc .vmem S1x1024x4224 .bf16) (harg12 : arg12.IsWhole) (arg13 : Memref sig .tc .vmem S1x31x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024x3328 .bf16) (harg17 : arg17.IsWhole) (arg18 : Memref sig .tc .vmem S2x1536x1152 .bf16) (harg18 : arg18.IsWhole) (arg19 : Memref sig .tc .vmem S1x1024 .f32) (harg19 : arg19.IsWhole) (arg20 : Memref sig .tc .vmem S1x256x1024 .f32) (harg20 : arg20.IsWhole) (arg21 : Memref sig .tc .vmem S1x1x30x1024 .f32) (harg21 : arg21.IsWhole) (arg22 : Memref sig .tc .vmem S1x1x128x128 .f32) (harg22 : arg22.IsWhole) (arg23 : Memref sig .tc .vmem S1x1x128x128 .f32) (harg23 : arg23.IsWhole) (arg24 : Memref sig .tc .vmem S1x288x1024 .f32) (harg24 : arg24.IsWhole) (arg25 : Memref sig .tc .vmem S2x1x384x128 .bf16) (harg25 : arg25.IsWhole) (arg26 : Memref sig .tc .vmem S2x1x384x128 .bf16) (harg26 : arg26.IsWhole) (arg27 : Memref sig .tc .vmem S2x1x384x128 .bf16) (harg27 : arg27.IsWhole) (arg28 : Memref sig .tc .vmem S2x1x384x128 .bf16) (harg28 : arg28.IsWhole)
  (x0 : Vec F S16 .f32) (x1 : Vec F S1x256x1024 .f32) (x2 : Vec F S32x256 .f32) (x3 : Vec F S32x256 .f32) (x4 : Vec F S1x1x30x1024 .f32) (x5 : Vec F S1x1x128x128 .f32) (x6 : Vec F S1x1x128x128 .f32) (x7 : Vec F S2x1x256x512 .bf16) (x8 : Vec F S2x1x256x512 .bf16) (x9 : Vec F S2x1024 .f32) (x10 : Vec F S1x1024x4224 .bf16) (x11 : Vec F S1x31x1024 .f32) (x12 : Vec F S1x1024 .f32) (x13 : Vec F S1x1024 .f32) (x14 : Vec F S1x1024 .f32) (x15 : Vec F S1x1024x3328 .bf16) (x16 : Vec F S2x1536x1152 .bf16) (x17 : Vec F S1x1024 .f32)
  (xs0 : Vec F S1x288x1024 .f32) (xs1 : Vec F S2x1x384x128 .bf16) (xs2 : Vec F S2x1x384x128 .bf16) (xs3 : Vec F S2x1x384x128 .bf16) (xs4 : Vec F S2x1x384x128 .bf16)

/-- The windows of a step, as the memories they arrive in are read. -/
abbrev winOf : Win F :=
  ⟨View.read (Elt F) arg2.view (harg2.unread x0), View.read (Elt F) arg3.view (harg3.unread x1), View.read (Elt F) arg4.view (harg4.unread x2), View.read (Elt F) arg5.view (harg5.unread x3), View.read (Elt F) arg6.view (harg6.unread x4), View.read (Elt F) arg7.view (harg7.unread x5), View.read (Elt F) arg8.view (harg8.unread x6), View.read (Elt F) arg9.view (harg9.unread x7), View.read (Elt F) arg10.view (harg10.unread x8), View.read (Elt F) arg11.view (harg11.unread x9), View.read (Elt F) arg12.view (harg12.unread x10), View.read (Elt F) arg13.view (harg13.unread x11), View.read (Elt F) arg14.view (harg14.unread x12), View.read (Elt F) arg15.view (harg15.unread x13), View.read (Elt F) arg16.view (harg16.unread x14), View.read (Elt F) arg17.view (harg17.unread x15), View.read (Elt F) arg18.view (harg18.unread x16), View.read (Elt F) arg19.view (harg19.unread x17)⟩

/-- At the first tile: the result rows. -/
theorem out0_A_18_eq (hc0 : cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view arg24.view.junk (kUHist W)
    Gen.out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 =
      View.read (Elt F) VO0_18 (VO0_18.writes (Elt F) VO0_18.junk [⟨Rect.unit (s := S1x256x1024) ![0, 0, 0] S1x256x1024.size (inb3 (Nat.le_refl 1) (Nat.le_refl 256) (Nat.le_refl 1024)),
        kY W X1 (kSwa' W (BitVec.ofNat 32 (i 1)) X1 arg25.view arg26.view arg27.view arg28.view arg25.view.junk arg25.view.junk arg26.view.junk arg26.view.junk arg27.view.junk arg27.view.junk arg28.view.junk arg28.view.junk (kHistKA W) (kHistKB W) (kHistVA W) (kHistVB W))⟩]) := by
  intro W X1
  frame_open
  sl_kernel_rfl

/-- At the first tile: the convolution's last rows. -/
theorem out0_A_19_eq (hc0 : cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view arg24.view.junk (kUHist W)
    Gen.out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 =
      View.read (Elt F) VO0_19 (VO0_19.writes (Elt F) VO0_19.junk [⟨Rect.unit (s := S1x1x30x1024) ![0, 0, 0, 0] S1x1x30x1024.size (inb4 (Nat.le_refl 1) (Nat.le_refl 1) (Nat.le_refl 30) (Nat.le_refl 1024)),
        kConvOut (kRd arg24.view arg24.view.junk (kUs3 W (kUHist W)))⟩]) := by
  intro W X1
  frame_open
  sl_kernel_rfl

/-- At the first tile: the last keys. -/
theorem out0_A_20_eq (hc0 : cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view arg24.view.junk (kUHist W)
    Gen.out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 =
      View.read (Elt F) VO0_20 (VO0_20.writes (Elt F) VO0_20.junk [⟨Rect.unit (s := S1x1x128x128) ![0, 0, 0, 0] S1x1x128x128.size (inb4 (Nat.le_refl 1) (Nat.le_refl 1) (Nat.le_refl 128) (Nat.le_refl 128)), kLast (kK W X1)⟩]) := by
  intro W X1
  frame_open
  sl_kernel_rfl

/-- At the first tile: the last values. -/
theorem out0_A_21_eq (hc0 : cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view arg24.view.junk (kUHist W)
    Gen.out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 =
      View.read (Elt F) VO0_21 (VO0_21.writes (Elt F) VO0_21.junk [⟨Rect.unit (s := S1x1x128x128) ![0, 0, 0, 0] S1x1x128x128.size (inb4 (Nat.le_refl 1) (Nat.le_refl 1) (Nat.le_refl 128) (Nat.le_refl 128)), kLast (kV W X1)⟩]) := by
  intro W X1
  frame_open
  sl_kernel_rfl

/-- At the first tile: the convolution's scratch afterwards. -/
theorem sout0_A_0_eq (hc0 : cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view arg24.view.junk (kUHist W)
    Gen.sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 =
      View.read (Elt F) VS0_0 (VS0_0.writes (Elt F) VS0_0.junk (kUEnd arg24.view (kUs3 W (kUHist W)))) := by
  intro W X1
  frame_open
  sl_kernel_rfl

/-- At the first tile: the first scratch of keys afterwards. -/
theorem sout0_A_1_eq (hc0 : cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view arg24.view.junk (kUHist W)
    Gen.sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 =
      View.read (Elt F) VS0_1 (VS0_1.writes (Elt F) VS0_1.junk (kEnd arg25.view (kFill (kFillA0 (kK W X1)) (kFillA1 (kK W X1)) (kHistKA W)))) := by
  intro W X1
  frame_open
  sl_kernel_rfl

/-- At the first tile: the second scratch of keys afterwards. -/
theorem sout0_A_2_eq (hc0 : cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view arg24.view.junk (kUHist W)
    Gen.sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 =
      View.read (Elt F) VS0_2 (VS0_2.writes (Elt F) VS0_2.junk (kEnd arg26.view (kFill (kFillB0 (kK W X1)) (kFillB1 (kK W X1)) (kHistKB W)))) := by
  intro W X1
  frame_open
  sl_kernel_rfl

/-- At the first tile: the first scratch of values afterwards. -/
theorem sout0_A_3_eq (hc0 : cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view arg24.view.junk (kUHist W)
    Gen.sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 =
      View.read (Elt F) VS0_3 (VS0_3.writes (Elt F) VS0_3.junk (kEnd arg27.view (kFill (kFillA0 (kV W X1)) (kFillA1 (kV W X1)) (kHistVA W)))) := by
  intro W X1
  frame_open
  sl_kernel_rfl

/-- At the first tile: the second scratch of values afterwards. -/
theorem sout0_A_4_eq (hc0 : cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view arg24.view.junk (kUHist W)
    Gen.sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 =
      View.read (Elt F) VS0_4 (VS0_4.writes (Elt F) VS0_4.junk (kEnd arg28.view (kFill (kFillB0 (kV W X1)) (kFillB1 (kV W X1)) (kHistVB W)))) := by
  intro W X1
  frame_open
  sl_kernel_rfl

/-- At a later tile: the result rows. -/
theorem out0_B_18_eq (hc0 : ¬cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view (harg24.unread xs0) []
    Gen.out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 xs0 xs1 xs2 xs3 xs4 =
      View.read (Elt F) VO0_18 (VO0_18.writes (Elt F) VO0_18.junk [⟨Rect.unit (s := S1x256x1024) ![0, 0, 0] S1x256x1024.size (inb3 (Nat.le_refl 1) (Nat.le_refl 256) (Nat.le_refl 1024)),
        kY W X1 (kSwa' W (BitVec.ofNat 32 (i 1)) X1 arg25.view arg26.view arg27.view arg28.view (harg25.unread xs1) arg25.view.junk (harg26.unread xs2) arg26.view.junk (harg27.unread xs3) arg27.view.junk (harg28.unread xs4) arg28.view.junk [] [] [] [])⟩]) := by
  intro W X1
  frame_open
  sl_kernel_rfl

/-- At a later tile: the convolution's last rows. -/
theorem out0_B_19_eq (hc0 : ¬cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view (harg24.unread xs0) []
    Gen.out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 xs0 xs1 xs2 xs3 xs4 =
      View.read (Elt F) VO0_19 (VO0_19.writes (Elt F) VO0_19.junk [⟨Rect.unit (s := S1x1x30x1024) ![0, 0, 0, 0] S1x1x30x1024.size (inb4 (Nat.le_refl 1) (Nat.le_refl 1) (Nat.le_refl 30) (Nat.le_refl 1024)),
        kConvOut (kRd arg24.view arg24.view.junk (kUs3 W []))⟩]) := by
  intro W X1
  frame_open
  sl_kernel_rfl

/-- At a later tile: the last keys. -/
theorem out0_B_20_eq (hc0 : ¬cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view (harg24.unread xs0) []
    Gen.out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 xs0 xs1 xs2 xs3 xs4 =
      View.read (Elt F) VO0_20 (VO0_20.writes (Elt F) VO0_20.junk [⟨Rect.unit (s := S1x1x128x128) ![0, 0, 0, 0] S1x1x128x128.size (inb4 (Nat.le_refl 1) (Nat.le_refl 1) (Nat.le_refl 128) (Nat.le_refl 128)), kLast (kK W X1)⟩]) := by
  intro W X1
  frame_open
  sl_kernel_rfl

/-- At a later tile: the last values. -/
theorem out0_B_21_eq (hc0 : ¬cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view (harg24.unread xs0) []
    Gen.out0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 xs0 xs1 xs2 xs3 xs4 =
      View.read (Elt F) VO0_21 (VO0_21.writes (Elt F) VO0_21.junk [⟨Rect.unit (s := S1x1x128x128) ![0, 0, 0, 0] S1x1x128x128.size (inb4 (Nat.le_refl 1) (Nat.le_refl 1) (Nat.le_refl 128) (Nat.le_refl 128)), kLast (kV W X1)⟩]) := by
  intro W X1
  frame_open
  sl_kernel_rfl

/-- At a later tile: the convolution's scratch afterwards. -/
theorem sout0_B_0_eq (hc0 : ¬cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view (harg24.unread xs0) []
    Gen.sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 xs0 xs1 xs2 xs3 xs4 =
      View.read (Elt F) VS0_0 (VS0_0.writes (Elt F) VS0_0.junk (kUEnd arg24.view (kUs3 W []))) := by
  intro W X1
  frame_open
  sl_kernel_rfl

/-- At a later tile: the first scratch of keys afterwards. -/
theorem sout0_B_1_eq (hc0 : ¬cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view (harg24.unread xs0) []
    Gen.sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 xs0 xs1 xs2 xs3 xs4 =
      View.read (Elt F) VS0_1 (VS0_1.writes (Elt F) VS0_1.junk (kEnd arg25.view (kFill (kFillA0 (kK W X1)) (kFillA1 (kK W X1)) []))) := by
  intro W X1
  frame_open
  sl_kernel_rfl

/-- At a later tile: the second scratch of keys afterwards. -/
theorem sout0_B_2_eq (hc0 : ¬cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view (harg24.unread xs0) []
    Gen.sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 xs0 xs1 xs2 xs3 xs4 =
      View.read (Elt F) VS0_2 (VS0_2.writes (Elt F) VS0_2.junk (kEnd arg26.view (kFill (kFillB0 (kK W X1)) (kFillB1 (kK W X1)) []))) := by
  intro W X1
  frame_open
  sl_kernel_rfl

/-- At a later tile: the first scratch of values afterwards. -/
theorem sout0_B_3_eq (hc0 : ¬cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view (harg24.unread xs0) []
    Gen.sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 xs0 xs1 xs2 xs3 xs4 =
      View.read (Elt F) VS0_3 (VS0_3.writes (Elt F) VS0_3.junk (kEnd arg27.view (kFill (kFillA0 (kV W X1)) (kFillA1 (kV W X1)) []))) := by
  intro W X1
  frame_open
  sl_kernel_rfl

/-- At a later tile: the second scratch of values afterwards. -/
theorem sout0_B_4_eq (hc0 : ¬cond0_0 i) :
    let W : Win F := winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
    let X1 := kX1' W arg24.view (harg24.unread xs0) []
    Gen.sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 xs0 xs1 xs2 xs3 xs4 =
      View.read (Elt F) VS0_4 (VS0_4.writes (Elt F) VS0_4.junk (kEnd arg28.view (kFill (kFillB0 (kV W X1)) (kFillB1 (kV W X1)) []))) := by
  intro W X1
  frame_open
  sl_kernel_rfl

end Cert.KernelIdeal.Trunk
-- ==== Proof.Steps.lean ====
module

public import proofs.«01_k».proof.Proof.Step
public import proofs.«01_k».proof.Proof.Ident
public import Idealize.ShloMosaic.Lib.WritesUnit
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-! # One step of the kernel against the reference -/

variable (x0 : FVec Ideal Cert.ReferenceIdeal.S2x16384x1024 .f32) (x1 : FVec Ideal Cert.ReferenceIdeal.S2x512x1024 .bf16) (x2 : FVec Ideal Cert.ReferenceIdeal.S2x1024 .f32) (x3 : FVec Ideal Cert.ReferenceIdeal.S1x1024x4096 .f32) (x4 : FVec Ideal Cert.ReferenceIdeal.S1x31x1024 .f32) (x5 : FVec Ideal Cert.ReferenceIdeal.S1x1024 .f32) (x6 : FVec Ideal Cert.ReferenceIdeal.S1x1024 .f32) (x7 : FVec Ideal Cert.ReferenceIdeal.S1x1024 .f32) (x8 : FVec Ideal Cert.ReferenceIdeal.S1x1024x3328 .f32) (x9 : FVec Ideal Cert.ReferenceIdeal.S1x16 .f32) (x10 : FVec Ideal Cert.ReferenceIdeal.S2x1536x1024 .f32) (x11 : FVec Ideal Cert.ReferenceIdeal.S1024 .f32)

/-- Two rows of zeros choose zero. -/
theorem select_zeros (m : IVec S128x128 1) (A B : FVec Ideal S128x128 .f32) (hA : ∀ i, A i = 0) (hB : ∀ i, B i = 0) (i : S128x128.Idx) : select m A B i = 0 := by
  unfold select Scalar.select
  rw [hA, hB, ite_self]

/-- A history of zeros read whole is zero. -/
theorem kOld_zero {w : FVec Ideal S1x1x128x128 .f32} (hw : ∀ r d : Fin 128, w (ix4 0 0 r d) = 0) (i : S1x1x128x128.Idx) : kOld w i = 0 := by
  have h : ∀ j : S1x1x128x128.Idx, w j = 0 := fun j => by
    obtain ⟨a, e, r, d, rfl⟩ : ∃ a e r d, j = ix4 a e r d := ⟨j 0, j 1, j 2, j 3, ValueIdx.eq_ix4 j⟩
    have ha : a = 0 := Subsingleton.elim _ _
    have he : e = 0 := Subsingleton.elim _ _
    subst ha he
    exact hw r d
  exact h _

/-- The zero constant of the kernel. -/
theorem pay6_zero (i : S128x128.Idx) : k0_pay6 (F := Ideal) i = 0 := by
  have h : k0_pay6 (F := Ideal) i = Ideal.ofBits .f32 0x00000000#32 := rfl
  rw [h]
  simp [Ideal.ofBits, Ideal.ieee, -EReal.coe_mul]

/-- The zero constant of the kernel, once more. -/
theorem pay15_zero (i : S128x128.Idx) : k0_pay15 (F := Ideal) i = 0 := pay6_zero i

variable {o : FVec Ideal S1x1x128x128 .f32}

/-- Zero rows, reshaped. -/
theorem pay3_zero (ho : ∀ i, o i = 0) (i : S128x128.Idx) : k0_pay3 (F := Ideal) o i = 0 := ho _
/-- Zero rows, rotated. -/
theorem pay5_zero (ho : ∀ i, o i = 0) (i : S128x128.Idx) : k0_pay5 (F := Ideal) o i = 0 := ho _
/-- Zero rows, reshaped. -/
theorem pay12_zero (ho : ∀ i, o i = 0) (i : S128x128.Idx) : k0_pay12 (F := Ideal) o i = 0 := ho _
/-- Zero rows, rotated. -/
theorem pay14_zero (ho : ∀ i, o i = 0) (i : S128x128.Idx) : k0_pay14 (F := Ideal) o i = 0 := ho _

/-- Zero rows as the first scratch of keys takes them. -/
theorem pay7_zero (ho : ∀ i, o i = 0) (i : S1x1x128x128.Idx) : k0_pay7 (F := Ideal) o i = 0 := select_zeros _ _ _ (pay3_zero ho) pay6_zero _
/-- Zero rows as the second scratch of keys takes them. -/
theorem pay8_zero (ho : ∀ i, o i = 0) (i : S1x1x128x128.Idx) : k0_pay8 (F := Ideal) o i = 0 := select_zeros _ _ _ pay6_zero (pay5_zero ho) _
/-- Zero rows as the first scratch of keys takes them, second head. -/
theorem pay9_zero (ho : ∀ i, o i = 0) (i : S1x1x128x128.Idx) : k0_pay9 (F := Ideal) o i = 0 := select_zeros _ _ _ (pay5_zero ho) pay6_zero _
/-- Zero rows as the second scratch of keys takes them, second head. -/
theorem pay11_zero (ho : ∀ i, o i = 0) (i : S1x1x128x128.Idx) : k0_pay11 (k0_pay10 (F := Ideal) o) i = 0 := select_zeros _ _ _ pay6_zero (pay3_zero ho) _
/-- Zero rows as the first scratch of values takes them. -/
theorem pay16_zero (ho : ∀ i, o i = 0) (i : S1x1x128x128.Idx) : k0_pay16 (F := Ideal) o i = 0 := select_zeros _ _ _ (pay12_zero ho) pay15_zero _
/-- Zero rows as the second scratch of values takes them. -/
theorem pay17_zero (ho : ∀ i, o i = 0) (i : S1x1x128x128.Idx) : k0_pay17 (F := Ideal) o i = 0 := select_zeros _ _ _ pay15_zero (pay14_zero ho) _
/-- Zero rows as the first scratch of values takes them, second head. -/
theorem pay18_zero (ho : ∀ i, o i = 0) (i : S1x1x128x128.Idx) : k0_pay18 (F := Ideal) o i = 0 := select_zeros _ _ _ (pay14_zero ho) pay15_zero _
/-- Zero rows as the second scratch of values takes them, second head. -/
theorem pay19_zero (ho : ∀ i, o i = 0) (i : S1x1x128x128.Idx) : k0_pay19 (F := Ideal) o i = 0 := select_zeros _ _ _ pay15_zero (pay12_zero ho) _

/-- The first rows of a scratch that was given a history of zeros. -/
theorem kHist_zero {X0 X1 : FVec Ideal S1x1x128x128 .bf16} (h0 : ∀ i, X0 i = 0) (h1 : ∀ i, X1 i = 0) (v : View sig .tc .vmem S2x1x384x128 .bf16)
    (f : v.ty.Contents (Elt Ideal)) (g : Fin 2) (j l : Fin 128) : kRd v f (kHist X0 X1) (ix4 g 0 ⟨j.val, by omega⟩ l) = 0 := by
  unfold kHist
  have hx : ∀ n, g.val = n → ∀ a, (ix4 g (0 : Fin 1) (⟨j.val, by omega⟩ : Fin 384) l a).val = (![n, 0, 0, 0] : Fin 4 → ℕ) a + (ix4 (0 : Fin 1) (0 : Fin 1) j l a).val := fun n hn a => by
    match a with
    | ⟨0, _⟩ => exact hn
    | ⟨1, _⟩ => rfl
    | ⟨2, _⟩ => show j.val = 0 + j.val; omega
    | ⟨3, _⟩ => show l.val = 0 + l.val; omega
  by_cases hg : g.val = 0
  · refine (View.read_writes_cons_unit_of_not_mem v f _ _ _ _ rfl 0 (.inl (by show g.val < 1; omega))).trans ?_
    exact (View.read_writes_cons_unit_of_mem v f _ _ [] _ (ix4 (0 : Fin 1) (0 : Fin 1) j l) rfl (hx 0 hg)).trans (h0 _)
  · have hg1 : g.val = 1 := by omega
    exact (View.read_writes_cons_unit_of_mem v f _ _ _ _ (ix4 (0 : Fin 1) (0 : Fin 1) j l) rfl (hx 1 hg1)).trans (h1 _)

/-- Before the first tile the keys' window is zero. -/
theorem keyWin_zero (b : Fin 2) {T : Fin 64} (hT : T.val = 0) (g : Fin 2) (j : Fin 128) (e : Fin 64) : keyWin x0 x1 x2 x3 x4 x5 x6 x7 x8 x10 b T g ⟨j.val, by omega⟩ e = 0 := by
  unfold keyWin
  rw [v411_at, dif_pos (show 256 * T.val + j.val < 128 by omega)]

/-- Before the first tile the values' window is zero. -/
theorem valWin_zero (b : Fin 2) {T : Fin 64} (hT : T.val = 0) (g : Fin 2) (j : Fin 128) (e : Fin 64) : valWin x0 x1 x2 x3 x4 x5 x6 x7 x8 x10 b T g ⟨j.val, by omega⟩ e = 0 := by
  unfold valWin
  rw [v413_at, dif_pos (show 256 * T.val + j.val < 128 by omega)]

/-- What the first tile finds in the scratches. -/
theorem Before.first {W : Win Ideal} {b : Fin 2} {T : Fin 64} (hW : Fits W b T x0 x1 x2 x3 x4 x5 x6 x7 x8 x9 x10 x11) (hT : T.val = 0) (u : View sig .tc .vmem S1x288x1024 .f32) (fu : u.ty.Contents (Elt Ideal))
    (v1 v2 v3 v4 : View sig .tc .vmem S2x1x384x128 .bf16) (f1 : v1.ty.Contents (Elt Ideal)) (f2 : v2.ty.Contents (Elt Ideal)) (f3 : v3.ty.Contents (Elt Ideal)) (f4 : v4.ty.Contents (Elt Ideal)) :
    Before x0 x1 x2 x3 x4 x5 x6 x7 x8 x10 b T (kRd u fu (kUHist W)) (kRd v1 f1 (kHistKA W)) (kRd v2 f2 (kHistKB W)) (kRd v3 f3 (kHistVA W)) (kRd v4 f4 (kHistVB W)) where
  u := fun i d => by
    rw [v37_at, dif_pos (show 256 * T.val + i.val < 30 by omega)]
    unfold kUHist
    refine (View.read_writes_cons_unit_of_mem u fu _ _ [] _ (ix3 (n0 := 1) (n1 := 30) (n2 := 1024) 0 i d) rfl fun a => ?_).trans ?_
    · match a with
      | ⟨0, _⟩ => rfl
      | ⟨1, _⟩ => rfl
      | ⟨2, _⟩ => show d.val = 0 + d.val; omega
    · pointwise []
      refine (kLd_at _ _ _ _ _ (ix4 0 0 i d) fun a => ?_).trans (hW.h4 i d)
      match a with
      | ⟨0, _⟩ => rfl
      | ⟨1, _⟩ => rfl
      | ⟨2, _⟩ => show i.val = 0 + i.val; omega
      | ⟨3, _⟩ => show d.val = 0 + d.val; omega
  ka := fun g j l => by
    rw [show kRd v1 f1 (kHistKA W) _ = 0 from kHist_zero (pay7_zero (kOld_zero hW.h5)) (pay9_zero (kOld_zero hW.h5)) v1 f1 g j l]
    split
    · exact (keyWin_zero x0 x1 x2 x3 x4 x5 x6 x7 x8 x10 b hT g j _).symm
    · rfl
  kb := fun g j l => by
    rw [show kRd v2 f2 (kHistKB W) _ = 0 from kHist_zero (pay8_zero (kOld_zero hW.h5)) (pay11_zero (kOld_zero hW.h5)) v2 f2 g j l]
    split
    · rfl
    · exact (keyWin_zero x0 x1 x2 x3 x4 x5 x6 x7 x8 x10 b hT g j _).symm
  va := fun g j l => by
    rw [show kRd v3 f3 (kHistVA W) _ = 0 from kHist_zero (pay16_zero (kOld_zero hW.h6)) (pay18_zero (kOld_zero hW.h6)) v3 f3 g j l]
    split
    · exact (valWin_zero x0 x1 x2 x3 x4 x5 x6 x7 x8 x10 b hT g j _).symm
    · rfl
  vb := fun g j l => by
    rw [show kRd v4 f4 (kHistVB W) _ = 0 from kHist_zero (pay17_zero (kOld_zero hW.h6)) (pay19_zero (kOld_zero hW.h6)) v4 f4 g j l]
    split
    · rfl
    · exact (valWin_zero x0 x1 x2 x3 x4 x5 x6 x7 x8 x10 b hT g j _).symm

/-- A step's result rows, from what the scratches hold before it. -/
theorem step_y {W : Win Ideal} {b : Fin 2} {T : Fin 64} (hW : Fits W b T x0 x1 x2 x3 x4 x5 x6 x7 x8 x9 x10 x11) (hR : Reals x1 x2 x3 x8 x9) (tile : BitVec 32) (ht : tile = BitVec.ofNat 32 T.val) (u : View sig .tc .vmem S1x288x1024 .f32) (fu : u.ty.Contents (Elt Ideal)) (Lu : List (View.Piece (Elt Ideal) S1x288x1024 .f32))
    (v1 v2 v3 v4 : View sig .tc .vmem S2x1x384x128 .bf16) (f1 g1 : v1.ty.Contents (Elt Ideal)) (f2 g2 : v2.ty.Contents (Elt Ideal)) (f3 g3 : v3.ty.Contents (Elt Ideal)) (f4 g4 : v4.ty.Contents (Elt Ideal))
    (L1 L2 L3 L4 : List (View.Piece (Elt Ideal) S2x1x384x128 .bf16)) (hB : Before x0 x1 x2 x3 x4 x5 x6 x7 x8 x10 b T (kRd u fu Lu) (kRd v1 f1 L1) (kRd v2 f2 L2) (kRd v3 f3 L3) (kRd v4 f4 L4)) (r : Fin 256) (d : Fin 1024) :
    kY W (kX1' W u fu Lu) (kSwa' W tile (kX1' W u fu Lu) v1 v2 v3 v4 f1 g1 f2 g2 f3 g3 f4 g4 L1 L2 L3 L4) (ix3 0 r d) = val_main_v501 (F := Ideal) x0 x1 x2 x3 x4 x5 x6 x7 x8 x9 x10 x11 (ix3 b (pos T r) d) := by
  have hX := kX1'_eq x0 x1 x2 x3 x4 x5 x6 x7 x8 x9 x10 x11 hW hR u fu Lu hB.u
  have hk := kK_win x0 x1 x2 x3 x4 x5 x6 x7 x8 x9 x10 x11 hW hX
  have hv := kV_win x0 x1 x2 x3 x4 x5 x6 x7 x8 x9 x10 x11 hW hX
  subst ht
  exact kY_eq x0 x1 x2 x3 x4 x5 x6 x7 x8 x9 x10 x11 hW hR hX (kSwa_eq x0 x1 x2 x3 x4 x5 x6 x7 x8 x9 x10 x11 hW hR (kQW_eq x0 x1 x2 x3 x4 x5 x6 x7 x8 x9 x10 x11 hW hX)
    ((low_fill hk v1 f1 L1).whole v1 f1 L1 hB.ka) ((high_fill hk v2 f2 L2).whole v2 f2 L2 hB.kb)
    ((low_fill hv v3 f3 L3).whole v3 f3 L3 hB.va) ((high_fill hv v4 f4 L4).whole v4 f4 L4 hB.vb)
    (low_fill hk v1 g1 L1) (high_fill hk v2 g2 L2) (low_fill hv v3 g3 L3) (high_fill hv v4 g4 L4)) r d

/-- What a step leaves: its results and the scratches as the next tile reads them. -/
structure Done (b : Fin 2) (T : Fin 64) (o18 : FVec Ideal S1x256x1024 .f32) (o19 : FVec Ideal S1x1x30x1024 .f32) (o20 o21 : FVec Ideal S1x1x128x128 .f32)
    (s0 : FVec Ideal S1x288x1024 .f32) (s1 s2 s3 s4 : FVec Ideal S2x1x384x128 .bf16) : Prop where
  y : ∀ (r : Fin 256) (d : Fin 1024), o18 (ix3 0 r d) = val_main_v501 (F := Ideal) x0 x1 x2 x3 x4 x5 x6 x7 x8 x9 x10 x11 (ix3 b (pos T r) d)
  conv : ∀ (r : Fin 30) (d : Fin 1024), o19 (ix4 0 0 r d) = val_main_v37 (F := Ideal) x0 x2 x3 (ix3 b ⟨256 * T.val + (256 + r.val), by omega⟩ d)
  k : ∀ r d : Fin 128, o20 (ix4 0 0 r d) = val_main_v408 (F := Ideal) x0 x1 x2 x3 x4 x5 x6 x7 x8 x10 (ix4 b (pos T ⟨128 + r.val, by omega⟩) ⟨d.val / 64, by omega⟩ ⟨d.val % 64, by omega⟩)
  v : ∀ r d : Fin 128, o21 (ix4 0 0 r d) = val_main_v409 (F := Ideal) x0 x1 x2 x3 x4 x5 x6 x7 x8 x10 (ix4 b (pos T ⟨128 + r.val, by omega⟩) ⟨d.val / 64, by omega⟩ ⟨d.val % 64, by omega⟩)
  next : ∀ T' : Fin 64, T'.val = T.val + 1 → Before x0 x1 x2 x3 x4 x5 x6 x7 x8 x10 b T' s0 s1 s2 s3 s4

/-- The first step of a sequence. -/
theorem stepA {b : Fin 2} {T : Fin 64} (c : Dev nD) (i : grid0.Coords) (arg2 : Memref sig .tc .smem S16 .f32) (harg2 : arg2.IsWhole) (arg3 : Memref sig .tc .vmem S1x256x1024 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S1x1x30x1024 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S2x1x256x512 .bf16) (harg9 : arg9.IsWhole) (arg10 : Memref sig .tc .vmem S2x1x256x512 .bf16) (harg10 : arg10.IsWhole) (arg11 : Memref sig .tc .vmem S2x1024 .f32) (harg11 : arg11.IsWhole) (arg12 : Memref sig .tc .vmem S1x1024x4224 .bf16) (harg12 : arg12.IsWhole) (arg13 : Memref sig .tc .vmem S1x31x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024x3328 .bf16) (harg17 : arg17.IsWhole) (arg18 : Memref sig .tc .vmem S2x1536x1152 .bf16) (harg18 : arg18.IsWhole) (arg19 : Memref sig .tc .vmem S1x1024 .f32) (harg19 : arg19.IsWhole) (arg20 : Memref sig .tc .vmem S1x256x1024 .f32) (harg20 : arg20.IsWhole) (arg21 : Memref sig .tc .vmem S1x1x30x1024 .f32) (harg21 : arg21.IsWhole) (arg22 : Memref sig .tc .vmem S1x1x128x128 .f32) (harg22 : arg22.IsWhole) (arg23 : Memref sig .tc .vmem S1x1x128x128 .f32) (harg23 : arg23.IsWhole) (arg24 : Memref sig .tc .vmem S1x288x1024 .f32) (harg24 : arg24.IsWhole) (arg25 : Memref sig .tc .vmem S2x1x384x128 .bf16) (harg25 : arg25.IsWhole) (arg26 : Memref sig .tc .vmem S2x1x384x128 .bf16) (harg26 : arg26.IsWhole) (arg27 : Memref sig .tc .vmem S2x1x384x128 .bf16) (harg27 : arg27.IsWhole) (arg28 : Memref sig .tc .vmem S2x1x384x128 .bf16) (harg28 : arg28.IsWhole) (y0 : Vec Ideal S16 .f32) (y1 : Vec Ideal S1x256x1024 .f32) (y2 : Vec Ideal S32x256 .f32) (y3 : Vec Ideal S32x256 .f32) (y4 : Vec Ideal S1x1x30x1024 .f32) (y5 : Vec Ideal S1x1x128x128 .f32) (y6 : Vec Ideal S1x1x128x128 .f32) (y7 : Vec Ideal S2x1x256x512 .bf16) (y8 : Vec Ideal S2x1x256x512 .bf16) (y9 : Vec Ideal S2x1024 .f32) (y10 : Vec Ideal S1x1024x4224 .bf16) (y11 : Vec Ideal S1x31x1024 .f32) (y12 : Vec Ideal S1x1024 .f32) (y13 : Vec Ideal S1x1024 .f32) (y14 : Vec Ideal S1x1024 .f32) (y15 : Vec Ideal S1x1024x3328 .bf16) (y16 : Vec Ideal S2x1536x1152 .bf16) (y17 : Vec Ideal S1x1024 .f32) (hc0 : cond0_0 i)
    (hi : BitVec.ofNat 32 (i 1) = BitVec.ofNat 32 T.val) (hW : Fits ⟨y0, y1, y2, y3, y4, y5, y6, y7, y8, y9, y10, y11, y12, y13, y14, y15, y16, y17⟩ b T x0 x1 x2 x3 x4 x5 x6 x7 x8 x9 x10 x11) (hR : Reals x1 x2 x3 x8 x9) (hT : T.val = 0) :
    Done x0 x1 x2 x3 x4 x5 x6 x7 x8 x9 x10 x11 b T (Gen.out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17)
      (Gen.out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17)
      (Gen.out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17)
      (Gen.out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17)
      (Gen.sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17)
      (Gen.sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17)
      (Gen.sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17)
      (Gen.sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17)
      (Gen.sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17) := by
  have hW' : Fits (winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y0 y1 y2 y3 y4 y5 y6 y7 y8 y9 y10 y11 y12 y13 y14 y15 y16 y17) b T x0 x1 x2 x3 x4 x5 x6 x7 x8 x9 x10 x11 := by
    simpa only [winOf, Memref.IsWhole.read_unread] using hW
  have hB := Before.first x0 x1 x2 x3 x4 x5 x6 x7 x8 x9 x10 x11 hW' hT arg24.view arg24.view.junk arg25.view arg26.view arg27.view arg28.view arg25.view.junk arg26.view.junk arg27.view.junk arg28.view.junk
  have hX := kX1'_eq x0 x1 x2 x3 x4 x5 x6 x7 x8 x9 x10 x11 hW' hR arg24.view arg24.view.junk (kUHist _) hB.u
  have hk := kK_win x0 x1 x2 x3 x4 x5 x6 x7 x8 x9 x10 x11 hW' hX
  have hv := kV_win x0 x1 x2 x3 x4 x5 x6 x7 x8 x9 x10 x11 hW' hX
  have hy := step_y x0 x1 x2 x3 x4 x5 x6 x7 x8 x9 x10 x11 hW' hR (BitVec.ofNat 32 (i 1)) hi arg24.view arg24.view.junk (kUHist _) arg25.view arg26.view arg27.view arg28.view arg25.view.junk arg25.view.junk arg26.view.junk arg26.view.junk arg27.view.junk arg27.view.junk arg28.view.junk arg28.view.junk (kHistKA _) (kHistKB _) (kHistVA _) (kHistVB _) hB
  exact {
    y := fun r d => by
      refine (congrFun (out0_A_18_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 hc0) _).trans ?_
      refine (View.read_writes_cons_unit_of_mem _ _ _ _ [] _ (ix3 (n0 := 1) (n1 := 256) (n2 := 1024) 0 r d) rfl (fun a => ?_)).trans ?_
      · match a with
        | ⟨0, _⟩ => rfl
        | ⟨1, _⟩ => show r.val = 0 + r.val; omega
        | ⟨2, _⟩ => show d.val = 0 + d.val; omega
      · exact hy r d
    conv := fun r d => by
      refine (congrFun (out0_A_19_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 hc0) _).trans ?_
      refine (View.read_writes_cons_unit_of_mem _ _ _ _ [] _ (ix4 (n0 := 1) (n1 := 1) (n2 := 30) (n3 := 1024) 0 0 r d) rfl (fun a => ?_)).trans ?_
      · match a with
        | ⟨0, _⟩ => rfl
        | ⟨1, _⟩ => rfl
        | ⟨2, _⟩ => show r.val = 0 + r.val; omega
        | ⟨3, _⟩ => show d.val = 0 + d.val; omega
      · exact kConvOut_eq x0 x1 x2 x3 x4 x5 x6 x7 x8 x9 x10 x11 hW' arg24.view _ (kUHist _) r d
    k := fun r d => by
      refine (congrFun (out0_A_20_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 hc0) _).trans ?_
      refine (View.read_writes_cons_unit_of_mem _ _ _ _ [] _ (ix4 (n0 := 1) (n1 := 1) (n2 := 128) (n3 := 128) 0 0 r d) rfl (fun a => ?_)).trans ?_
      · match a with
        | ⟨0, _⟩ => rfl
        | ⟨1, _⟩ => rfl
        | ⟨2, _⟩ => show r.val = 0 + r.val; omega
        | ⟨3, _⟩ => show d.val = 0 + d.val; omega
      · exact (kLast_at _ r d).trans (kK_eq x0 x1 x2 x3 x4 x5 x6 x7 x8 x9 x10 x11 hW' hX _ d)
    v := fun r d => by
      refine (congrFun (out0_A_21_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 hc0) _).trans ?_
      refine (View.read_writes_cons_unit_of_mem _ _ _ _ [] _ (ix4 (n0 := 1) (n1 := 1) (n2 := 128) (n3 := 128) 0 0 r d) rfl (fun a => ?_)).trans ?_
      · match a with
        | ⟨0, _⟩ => rfl
        | ⟨1, _⟩ => rfl
        | ⟨2, _⟩ => show r.val = 0 + r.val; omega
        | ⟨3, _⟩ => show d.val = 0 + d.val; omega
      · exact (kLast_at _ r d).trans (kV_eq x0 x1 x2 x3 x4 x5 x6 x7 x8 x9 x10 x11 hW' hX _ d)
    next := fun T' hT' => {
      u := fun i' d => (congrFun (sout0_A_0_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 hc0) _).trans (kUEnd_eq x0 x1 x2 x3 x4 x5 x6 x7 x8 x9 x10 x11 hW' hT' _ _ arg24.view (kUHist _) i' d)
      ka := fun g j l => (congrFun (sout0_A_1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 hc0) _).trans (LowFrom.carry (keyWin_next x0 x1 x2 x3 x4 x5 x6 x7 x8 x10 b hT') arg25.view (low_fill hk arg25.view arg25.view.junk (kHistKA _)) _ _ g j l)
      kb := fun g j l => (congrFun (sout0_A_2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 hc0) _).trans (HighFrom.carry (keyWin_next x0 x1 x2 x3 x4 x5 x6 x7 x8 x10 b hT') arg26.view (high_fill hk arg26.view arg26.view.junk (kHistKB _)) _ _ g j l)
      va := fun g j l => (congrFun (sout0_A_3_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 hc0) _).trans (LowFrom.carry (valWin_next x0 x1 x2 x3 x4 x5 x6 x7 x8 x10 b hT') arg27.view (low_fill hv arg27.view arg27.view.junk (kHistVA _)) _ _ g j l)
      vb := fun g j l => (congrFun (sout0_A_4_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 hc0) _).trans (HighFrom.carry (valWin_next x0 x1 x2 x3 x4 x5 x6 x7 x8 x10 b hT') arg28.view (high_fill hv arg28.view arg28.view.junk (kHistVB _)) _ _ g j l)
    } }

/-- A later step of a sequence. -/
theorem stepB {b : Fin 2} {T : Fin 64} (c : Dev nD) (i : grid0.Coords) (arg2 : Memref sig .tc .smem S16 .f32) (harg2 : arg2.IsWhole) (arg3 : Memref sig .tc .vmem S1x256x1024 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S1x1x30x1024 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S2x1x256x512 .bf16) (harg9 : arg9.IsWhole) (arg10 : Memref sig .tc .vmem S2x1x256x512 .bf16) (harg10 : arg10.IsWhole) (arg11 : Memref sig .tc .vmem S2x1024 .f32) (harg11 : arg11.IsWhole) (arg12 : Memref sig .tc .vmem S1x1024x4224 .bf16) (harg12 : arg12.IsWhole) (arg13 : Memref sig .tc .vmem S1x31x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024x3328 .bf16) (harg17 : arg17.IsWhole) (arg18 : Memref sig .tc .vmem S2x1536x1152 .bf16) (harg18 : arg18.IsWhole) (arg19 : Memref sig .tc .vmem S1x1024 .f32) (harg19 : arg19.IsWhole) (arg20 : Memref sig .tc .vmem S1x256x1024 .f32) (harg20 : arg20.IsWhole) (arg21 : Memref sig .tc .vmem S1x1x30x1024 .f32) (harg21 : arg21.IsWhole) (arg22 : Memref sig .tc .vmem S1x1x128x128 .f32) (harg22 : arg22.IsWhole) (arg23 : Memref sig .tc .vmem S1x1x128x128 .f32) (harg23 : arg23.IsWhole) (arg24 : Memref sig .tc .vmem S1x288x1024 .f32) (harg24 : arg24.IsWhole) (arg25 : Memref sig .tc .vmem S2x1x384x128 .bf16) (harg25 : arg25.IsWhole) (arg26 : Memref sig .tc .vmem S2x1x384x128 .bf16) (harg26 : arg26.IsWhole) (arg27 : Memref sig .tc .vmem S2x1x384x128 .bf16) (harg27 : arg27.IsWhole) (arg28 : Memref sig .tc .vmem S2x1x384x128 .bf16) (harg28 : arg28.IsWhole) (y0 : Vec Ideal S16 .f32) (y1 : Vec Ideal S1x256x1024 .f32) (y2 : Vec Ideal S32x256 .f32) (y3 : Vec Ideal S32x256 .f32) (y4 : Vec Ideal S1x1x30x1024 .f32) (y5 : Vec Ideal S1x1x128x128 .f32) (y6 : Vec Ideal S1x1x128x128 .f32) (y7 : Vec Ideal S2x1x256x512 .bf16) (y8 : Vec Ideal S2x1x256x512 .bf16) (y9 : Vec Ideal S2x1024 .f32) (y10 : Vec Ideal S1x1024x4224 .bf16) (y11 : Vec Ideal S1x31x1024 .f32) (y12 : Vec Ideal S1x1024 .f32) (y13 : Vec Ideal S1x1024 .f32) (y14 : Vec Ideal S1x1024 .f32) (y15 : Vec Ideal S1x1024x3328 .bf16) (y16 : Vec Ideal S2x1536x1152 .bf16) (y17 : Vec Ideal S1x1024 .f32) (ys0 : Vec Ideal S1x288x1024 .f32) (ys1 : Vec Ideal S2x1x384x128 .bf16) (ys2 : Vec Ideal S2x1x384x128 .bf16) (ys3 : Vec Ideal S2x1x384x128 .bf16) (ys4 : Vec Ideal S2x1x384x128 .bf16) (hc0 : ¬cond0_0 i)
    (hi : BitVec.ofNat 32 (i 1) = BitVec.ofNat 32 T.val) (hW : Fits ⟨y0, y1, y2, y3, y4, y5, y6, y7, y8, y9, y10, y11, y12, y13, y14, y15, y16, y17⟩ b T x0 x1 x2 x3 x4 x5 x6 x7 x8 x9 x10 x11) (hR : Reals x1 x2 x3 x8 x9) (hB0 : Before x0 x1 x2 x3 x4 x5 x6 x7 x8 x10 b T ys0 ys1 ys2 ys3 ys4) :
    Done x0 x1 x2 x3 x4 x5 x6 x7 x8 x9 x10 x11 b T (Gen.out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17 ys0 ys1 ys2 ys3 ys4)
      (Gen.out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17 ys0 ys1 ys2 ys3 ys4)
      (Gen.out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17 ys0 ys1 ys2 ys3 ys4)
      (Gen.out0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17 ys0 ys1 ys2 ys3 ys4)
      (Gen.sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17 ys0 ys1 ys2 ys3 ys4)
      (Gen.sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17 ys0 ys1 ys2 ys3 ys4)
      (Gen.sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17 ys0 ys1 ys2 ys3 ys4)
      (Gen.sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17 ys0 ys1 ys2 ys3 ys4)
      (Gen.sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 y0 y1 y2 y3 y4 y5 y6 y7 y8 y9 y10 y11 y12 y13 y14 y15 y16 y17 ys0 ys1 ys2 ys3 ys4) := by
  have hW' : Fits (winOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 y0 y1 y2 y3 y4 y5 y6 y7 y8 y9 y10 y11 y12 y13 y14 y15 y16 y17) b T x0 x1 x2 x3 x4 x5 x6 x7 x8 x9 x10 x11 := by
    simpa only [winOf, Memref.IsWhole.read_unread] using hW
  have hB : Before x0 x1 x2 x3 x4 x5 x6 x7 x8 x10 b T (kRd arg24.view (harg24.unread ys0) []) (kRd arg25.view (harg25.unread ys1) []) (kRd arg26.view (harg26.unread ys2) []) (kRd arg27.view (harg27.unread ys3) []) (kRd arg28.view (harg28.unread ys4) []) := by
    simpa only [kRd, View.writes_nil, Memref.IsWhole.read_unread] using hB0
  have hX := kX1'_eq x0 x1 x2 x3 x4 x5 x6 x7 x8 x9 x10 x11 hW' hR arg24.view (harg24.unread ys0) [] hB.u
  have hk := kK_win x0 x1 x2 x3 x4 x5 x6 x7 x8 x9 x10 x11 hW' hX
  have hv := kV_win x0 x1 x2 x3 x4 x5 x6 x7 x8 x9 x10 x11 hW' hX
  have hy := step_y x0 x1 x2 x3 x4 x5 x6 x7 x8 x9 x10 x11 hW' hR (BitVec.ofNat 32 (i 1)) hi arg24.view (harg24.unread ys0) [] arg25.view arg26.view arg27.view arg28.view (harg25.unread ys1) arg25.view.junk (harg26.unread ys2) arg26.view.junk (harg27.unread ys3) arg27.view.junk (harg28.unread ys4) arg28.view.junk [] [] [] [] hB
  exact {
    y := fun r d => by
      refine (congrFun (out0_B_18_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 ys0 ys1 ys2 ys3 ys4 hc0) _).trans ?_
      refine (View.read_writes_cons_unit_of_mem _ _ _ _ [] _ (ix3 (n0 := 1) (n1 := 256) (n2 := 1024) 0 r d) rfl (fun a => ?_)).trans ?_
      · match a with
        | ⟨0, _⟩ => rfl
        | ⟨1, _⟩ => show r.val = 0 + r.val; omega
        | ⟨2, _⟩ => show d.val = 0 + d.val; omega
      · exact hy r d
    conv := fun r d => by
      refine (congrFun (out0_B_19_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 ys0 ys1 ys2 ys3 ys4 hc0) _).trans ?_
      refine (View.read_writes_cons_unit_of_mem _ _ _ _ [] _ (ix4 (n0 := 1) (n1 := 1) (n2 := 30) (n3 := 1024) 0 0 r d) rfl (fun a => ?_)).trans ?_
      · match a with
        | ⟨0, _⟩ => rfl
        | ⟨1, _⟩ => rfl
        | ⟨2, _⟩ => show r.val = 0 + r.val; omega
        | ⟨3, _⟩ => show d.val = 0 + d.val; omega
      · exact kConvOut_eq x0 x1 x2 x3 x4 x5 x6 x7 x8 x9 x10 x11 hW' arg24.view _ [] r d
    k := fun r d => by
      refine (congrFun (out0_B_20_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 ys0 ys1 ys2 ys3 ys4 hc0) _).trans ?_
      refine (View.read_writes_cons_unit_of_mem _ _ _ _ [] _ (ix4 (n0 := 1) (n1 := 1) (n2 := 128) (n3 := 128) 0 0 r d) rfl (fun a => ?_)).trans ?_
      · match a with
        | ⟨0, _⟩ => rfl
        | ⟨1, _⟩ => rfl
        | ⟨2, _⟩ => show r.val = 0 + r.val; omega
        | ⟨3, _⟩ => show d.val = 0 + d.val; omega
      · exact (kLast_at _ r d).trans (kK_eq x0 x1 x2 x3 x4 x5 x6 x7 x8 x9 x10 x11 hW' hX _ d)
    v := fun r d => by
      refine (congrFun (out0_B_21_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 ys0 ys1 ys2 ys3 ys4 hc0) _).trans ?_
      refine (View.read_writes_cons_unit_of_mem _ _ _ _ [] _ (ix4 (n0 := 1) (n1 := 1) (n2 := 128) (n3 := 128) 0 0 r d) rfl (fun a => ?_)).trans ?_
      · match a with
        | ⟨0, _⟩ => rfl
        | ⟨1, _⟩ => rfl
        | ⟨2, _⟩ => show r.val = 0 + r.val; omega
        | ⟨3, _⟩ => show d.val = 0 + d.val; omega
      · exact (kLast_at _ r d).trans (kV_eq x0 x1 x2 x3 x4 x5 x6 x7 x8 x9 x10 x11 hW' hX _ d)
    next := fun T' hT' => {
      u := fun i' d => (congrFun (sout0_B_0_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 ys0 ys1 ys2 ys3 ys4 hc0) _).trans (kUEnd_eq x0 x1 x2 x3 x4 x5 x6 x7 x8 x9 x10 x11 hW' hT' _ _ arg24.view [] i' d)
      ka := fun g j l => (congrFun (sout0_B_1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 ys0 ys1 ys2 ys3 ys4 hc0) _).trans (LowFrom.carry (keyWin_next x0 x1 x2 x3 x4 x5 x6 x7 x8 x10 b hT') arg25.view (low_fill hk arg25.view arg25.view.junk []) _ _ g j l)
      kb := fun g j l => (congrFun (sout0_B_2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 ys0 ys1 ys2 ys3 ys4 hc0) _).trans (HighFrom.carry (keyWin_next x0 x1 x2 x3 x4 x5 x6 x7 x8 x10 b hT') arg26.view (high_fill hk arg26.view arg26.view.junk []) _ _ g j l)
      va := fun g j l => (congrFun (sout0_B_3_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 ys0 ys1 ys2 ys3 ys4 hc0) _).trans (LowFrom.carry (valWin_next x0 x1 x2 x3 x4 x5 x6 x7 x8 x10 b hT') arg27.view (low_fill hv arg27.view arg27.view.junk []) _ _ g j l)
      vb := fun g j l => (congrFun (sout0_B_4_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 y0 y1 y2 y3 y4 y5 y6 y7 y8 y9 y10 y11 y12 y13 y14 y15 y16 y17 ys0 ys1 ys2 ys3 ys4 hc0) _).trans (HighFrom.carry (valWin_next x0 x1 x2 x3 x4 x5 x6 x7 x8 x10 b hT') arg28.view (high_fill hv arg28.view arg28.view.junk []) _ _ g j l)
    } }

end Cert.KernelIdeal.Trunk
-- ==== Proof.FitsV.lean ====
module

public import proofs.«01_k».proof.Proof.Fits
public import proofs.«01_k».proof.Proof.Gen.KernelIdeal.Value
public import Idealize.ShloMosaic.Lib.StableHlo.ReadAt
public import Idealize.ShloMosaic.Lib.Claim
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read

/-! # What the windows of a step hold -/

variable (m : (ℓ : Loc nD τ sig) → Buf (Elt Ideal) ℓ) (c : Dev nD)

/-- Where each window's block sits at a point of the grid. -/
theorem idx : ∀ t : Fin cfg0.N, win0_0.index t = ![0] ∧ win0_1.index t = ![t.val / 64, t.val % 64, 0] ∧ win0_2.index t = ![0, t.val % 64] ∧ win0_3.index t = ![0, t.val % 64] ∧
    win0_4.index t = ![0, t.val / 64, 0, 0] ∧ win0_5.index t = ![0, t.val / 64, 0, 0] ∧ win0_6.index t = ![0, t.val / 64, 0, 0] ∧ win0_7.index t = ![0, t.val / 64, 0, 0] ∧
    win0_8.index t = ![0, t.val / 64, 0, 1] ∧ win0_9.index t = ![0, 0] ∧ win0_10.index t = ![0, 0, 0] ∧ win0_11.index t = ![0, 0, 0] ∧ win0_12.index t = ![0, 0] ∧
    win0_13.index t = ![0, 0] ∧ win0_14.index t = ![0, 0] ∧ win0_15.index t = ![0, 0, 0] ∧ win0_16.index t = ![0, 0, 0] ∧ win0_17.index t = ![0, 0] :=
  (by decide +kernel : ∀ t : Fin grid0.N, _)

/-- A step's sequence. -/
abbrev seqOf (t : Fin cfg0.N) : Fin 2 := ⟨t.val / 64, by have := t.isLt; have : cfg0.N = 128 := N_0; omega⟩
/-- A step's tile. -/
abbrev tileOf (t : Fin cfg0.N) : Fin 64 := ⟨t.val % 64, by omega⟩

/-- The sinks, one row. -/
theorem host6_at (k : Fin 16) : V m c main_v6 (ix1 k) = (m ((c : Thread nD τ).loc main_arg9)) (ix2 0 k) := by
  show StableHlo.after _ _ (Proc.devRef .tc main_v6) _ = _
  after_reads_at

/-- The last norm, one row. -/
theorem host5_at (d : Fin 1024) : V m c main_v5 (ix2 0 d) = (m ((c : Thread nD τ).loc main_arg11)) (ix1 d) := by
  show StableHlo.after _ _ (Proc.devRef .tc main_v5) _ = _
  after_reads_at

/-- The convolution starts from zeros. -/
theorem host23_at (i : S1x2x30x1024.Idx) : V m c main_v23 i = Ideal.ofBits .f32 0x00000000#32 := by
  show StableHlo.after _ _ (Proc.devRef .tc main_v23) _ = _
  after_reads_at

/-- The windowed attention starts from zeros. -/
theorem host24_at (i : S1x2x128x128.Idx) : V m c main_v24 i = Ideal.ofBits .f32 0x00000000#32 := by
  show StableHlo.after _ _ (Proc.devRef .tc main_v24) _ = _
  after_reads_at

/-- The windowed attention starts from zeros. -/
theorem host25_at (i : S1x2x128x128.Idx) : V m c main_v25 i = Ideal.ofBits .f32 0x00000000#32 := by
  show StableHlo.after _ _ (Proc.devRef .tc main_v25) _ = _
  after_reads_at

/-- The rotary table. -/
theorem host21_at (j : Fin 32) (n : Fin 16384) : V m c main_v21 (ix2 j n) = Ideal.cos (angle n.val j.val) := by
  show StableHlo.after _ _ (Proc.devRef .tc main_v21) _ = _
  after_reads_at
  exact congrArg Ideal.cos (mul_comm _ _)

/-- The rotary table. -/
theorem host22_at (j : Fin 32) (n : Fin 16384) : V m c main_v22 (ix2 j n) = Ideal.sin (angle n.val j.val) := by
  show StableHlo.after _ _ (Proc.devRef .tc main_v22) _ = _
  after_reads_at
  exact congrArg Ideal.sin (mul_comm _ _)

/-- The memory, by batch. -/
theorem host7_at (l b : Fin 2) (k : Fin 256) (e : Fin 1024) : V m c main_v7 (ix4 l b k e) = (m ((c : Thread nD τ).loc main_arg1)) (ix3 l ⟨b.val * 256 + k.val, by omega⟩ e) := by
  show StableHlo.after _ _ (Proc.devRef .tc main_v7) _ = _
  after_reads_at

/-- The first weights, widened. -/
theorem host1_at (k : Fin 1024) (d : Fin 4096) : V m c main_v1 (ix3 0 k ⟨d.val, by omega⟩) = (m ((c : Thread nD τ).loc main_arg3)) (ix3 0 k d) := by
  show StableHlo.after _ _ (Proc.devRef .tc main_v1) _ = _
  after_reads_at

/-- The output weights, widened. -/
theorem host4_at (l : Fin 2) (k : Fin 1536) (d : Fin 1024) : V m c main_v4 (ix3 l k ⟨d.val, by omega⟩) = (m ((c : Thread nD τ).loc main_arg10)) (ix3 l k d) := by
  show StableHlo.after _ _ (Proc.devRef .tc main_v4) _ = _
  after_reads_at

/-- The zero constant. -/
theorem ofBits_zero : Ideal.ofBits .f32 0x00000000#32 = 0 := by
  simp [Ideal.ofBits, Ideal.ieee, -EReal.coe_mul]

/-- The keys of the memory, in the reference's order. -/
theorem mk_at (x1 : FVec Ideal Cert.ReferenceIdeal.S2x512x1024 .bf16) (l b : Fin 2) (k : Fin 256) (e : Fin 512) :
    x1 (ix3 l ⟨b.val * 256 + k.val, by omega⟩ ⟨e.val, by omega⟩) = val_main_v3 (F := Ideal) x1 (ix5 l b k ⟨e.val / 128, by omega⟩ ⟨e.val % 128, by omega⟩) := by
  pointwise [val_main_v3, val_main_v2, val_main_v1, val_main_v0]

/-- The values of the memory, in the reference's order. -/
theorem mv_at (x1 : FVec Ideal Cert.ReferenceIdeal.S2x512x1024 .bf16) (l b : Fin 2) (k : Fin 256) (e : Fin 512) :
    x1 (ix3 l ⟨b.val * 256 + k.val, by omega⟩ ⟨512 + e.val, by omega⟩) = val_main_v5 (F := Ideal) x1 (ix5 l b k ⟨e.val / 128, by omega⟩ ⟨e.val % 128, by omega⟩) := by
  pointwise [val_main_v5, val_main_v4, val_main_v1, val_main_v0]

/-- Window 0 at a step. -/
theorem win0_at (t : Fin cfg0.N) (k : Fin 16) : iblk m c 0 t (ix1 k) = (m ((c : Thread nD τ).loc main_arg9)) (ix2 0 k) := by
  refine Eq.trans ?_ (host6_at m c k)
  blk_ext [iblk, idx t]

/-- Window 1 at a step. -/
theorem win1_at (t : Fin cfg0.N) (r : Fin 256) (d : Fin 1024) : iblk m c 1 t (ix3 0 r d) = (m ((c : Thread nD τ).loc main_arg0)) (ix3 (seqOf t) (pos (tileOf t) r) d) := by
  blk_ext [iblk, V, idx t]

/-- Window 2 at a step. -/
theorem win2_at (t : Fin cfg0.N) (j : Fin 32) (r : Fin 256) : iblk m c 2 t (ix2 j r) = Ideal.cos (angle (pos (tileOf t) r).val j.val) := by
  refine Eq.trans ?_ (host21_at m c j (pos (tileOf t) r))
  blk_ext [iblk, idx t]

/-- Window 3 at a step. -/
theorem win3_at (t : Fin cfg0.N) (j : Fin 32) (r : Fin 256) : iblk m c 3 t (ix2 j r) = Ideal.sin (angle (pos (tileOf t) r).val j.val) := by
  refine Eq.trans ?_ (host22_at m c j (pos (tileOf t) r))
  blk_ext [iblk, idx t]

/-- Window 4 at a step. -/
theorem win4_at (t : Fin cfg0.N) (r : Fin 30) (d : Fin 1024) : iblk m c 4 t (ix4 0 0 r d) = Ideal.ofBits .f32 0x00000000#32 := by
  refine Eq.trans ?_ (host23_at m c (ix4 0 (seqOf t) r d))
  blk_ext [iblk, idx t]

/-- Window 5 at a step. -/
theorem win5_at (t : Fin cfg0.N) (r d : Fin 128) : iblk m c 5 t (ix4 0 0 r d) = Ideal.ofBits .f32 0x00000000#32 := by
  refine Eq.trans ?_ (host24_at m c (ix4 0 (seqOf t) r d))
  blk_ext [iblk, idx t]

/-- Window 6 at a step. -/
theorem win6_at (t : Fin cfg0.N) (r d : Fin 128) : iblk m c 6 t (ix4 0 0 r d) = Ideal.ofBits .f32 0x00000000#32 := by
  refine Eq.trans ?_ (host25_at m c (ix4 0 (seqOf t) r d))
  blk_ext [iblk, idx t]

/-- Window 7 at a step. -/
theorem win7_at (t : Fin cfg0.N) (l : Fin 2) (k : Fin 256) (e : Fin 512) : iblk m c 7 t (ix4 l 0 k e) = val_main_v3 (F := Ideal) (m ((c : Thread nD τ).loc main_arg1)) (ix5 l (seqOf t) k ⟨e.val / 128, by omega⟩ ⟨e.val % 128, by omega⟩) := by
  refine Eq.trans ?_ ((host7_at m c l (seqOf t) k ⟨e.val, by omega⟩).trans (mk_at _ l (seqOf t) k e))
  blk_ext [iblk, idx t]

/-- Window 8 at a step. -/
theorem win8_at (t : Fin cfg0.N) (l : Fin 2) (k : Fin 256) (e : Fin 512) : iblk m c 8 t (ix4 l 0 k e) = val_main_v5 (F := Ideal) (m ((c : Thread nD τ).loc main_arg1)) (ix5 l (seqOf t) k ⟨e.val / 128, by omega⟩ ⟨e.val % 128, by omega⟩) := by
  refine Eq.trans ?_ ((host7_at m c l (seqOf t) k ⟨512 + e.val, by omega⟩).trans (mv_at _ l (seqOf t) k e))
  blk_ext [iblk, idx t]

/-- Window 9 at a step. -/
theorem win9_at (t : Fin cfg0.N) (l : Fin 2) (d : Fin 1024) : iblk m c 9 t (ix2 l d) = (m ((c : Thread nD τ).loc main_arg2)) (ix2 l d) := by
  blk_ext [iblk, V, idx t]

/-- Window 10 at a step. -/
theorem win10_at (t : Fin cfg0.N) (k : Fin 1024) (d : Fin 4096) : iblk m c 10 t (ix3 0 k ⟨d.val, by omega⟩) = (m ((c : Thread nD τ).loc main_arg3)) (ix3 0 k d) := by
  refine Eq.trans ?_ (host1_at m c k d)
  blk_ext [iblk, idx t]

/-- Window 11 at a step. -/
theorem win11_at (t : Fin cfg0.N) (k : Fin 31) (d : Fin 1024) : iblk m c 11 t (ix3 0 k d) = (m ((c : Thread nD τ).loc main_arg4)) (ix3 0 k d) := by
  blk_ext [iblk, V, idx t]

/-- Window 12 at a step. -/
theorem win12_at (t : Fin cfg0.N) (d : Fin 1024) : iblk m c 12 t (ix2 0 d) = (m ((c : Thread nD τ).loc main_arg5)) (ix2 0 d) := by
  blk_ext [iblk, V, idx t]

/-- Window 13 at a step. -/
theorem win13_at (t : Fin cfg0.N) (d : Fin 1024) : iblk m c 13 t (ix2 0 d) = (m ((c : Thread nD τ).loc main_arg6)) (ix2 0 d) := by
  blk_ext [iblk, V, idx t]

/-- Window 14 at a step. -/
theorem win14_at (t : Fin cfg0.N) (d : Fin 1024) : iblk m c 14 t (ix2 0 d) = (m ((c : Thread nD τ).loc main_arg7)) (ix2 0 d) := by
  blk_ext [iblk, V, idx t]

/-- Window 15 at a step. -/
theorem win15_at (t : Fin cfg0.N) (k : Fin 1024) (d : Fin 3328) : iblk m c 15 t (ix3 0 k d) = (m ((c : Thread nD τ).loc main_arg8)) (ix3 0 k d) := by
  blk_ext [iblk, V, idx t]

/-- Window 16 at a step. -/
theorem win16_at (t : Fin cfg0.N) (l : Fin 2) (k : Fin 1536) (d : Fin 1024) : iblk m c 16 t (ix3 l k ⟨d.val, by omega⟩) = (m ((c : Thread nD τ).loc main_arg10)) (ix3 l k d) := by
  refine Eq.trans ?_ (host4_at m c l k d)
  blk_ext [iblk, idx t]

/-- Window 17 at a step. -/
theorem win17_at (t : Fin cfg0.N) (d : Fin 1024) : iblk m c 17 t (ix2 0 d) = (m ((c : Thread nD τ).loc main_arg11)) (ix1 d) := by
  refine Eq.trans ?_ (host5_at m c d)
  blk_ext [iblk, idx t]

set_option maxHeartbeats 4000000 in
/-- The windows of every step hold the parts of the arguments its sequence and tile name. -/
theorem fits (t : Fin cfg0.N) : Fits ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩ (seqOf t) (tileOf t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) where
  h0 := win0_at m c t
  h1 := win1_at m c t
  h2 := win2_at m c t
  h3 := win3_at m c t
  h4 := fun r d => (win4_at m c t r d).trans ofBits_zero
  h5 := fun r d => (win5_at m c t r d).trans ofBits_zero
  h6 := fun r d => (win6_at m c t r d).trans ofBits_zero
  h7 := win7_at m c t
  h8 := win8_at m c t
  h9 := win9_at m c t
  h10 := win10_at m c t
  h11 := win11_at m c t
  h12 := win12_at m c t
  h13 := win13_at m c t
  h14 := win14_at m c t
  h15 := win15_at m c t
  h16 := win16_at m c t
  h17 := win17_at m c t

end Cert.KernelIdeal.Trunk
-- ==== Proof.Finals.lean ====
module

public import proofs.«01_k».proof.Proof.Steps
public import proofs.«01_k».proof.Proof.FitsV
public import proofs.«01_k».proof.Proof.Gen.KernelIdeal.Value
public import proofs.«01_k».proof.Proof.Gen.ReferenceIdeal.Read
public import Idealize.ShloMosaic.Lib.Pipeline.ValueKit

@[expose] public section

set_option maxRecDepth 16384

noncomputable section

namespace Cert.KernelIdeal.Trunk

open Idealize.ShloMosaic Idealize.ShloMosaic.TcCoe Idealize.SL.Sem
open Idealize.ShloMosaic.Pipeline (Dat)
open Cert.KernelIdeal Cert.KernelIdeal.Gen

open Cert.ReferenceIdeal.Read
open Cert.KernelIdeal.Value

/-! # The arrays after the run -/

variable (m : (ℓ : Loc nD τ sig) → Buf (Elt Ideal) ℓ) (c : Dev nD)

/-- The tile's number, as the kernel reads it. -/
theorem tile_word (t : Fin cfg0.N) : BitVec.ofNat 32 (grid0.coords t 1).val = BitVec.ofNat 32 (tileOf t).val := by
  have e : (grid0.coords t 1).val = t.val / 1 % 64 := Pipeline.Grid.coords_val t 1 (by decide) rfl
  rw [e, Nat.div_one]

/-- Two three-axis indices with equal parts are equal. -/
theorem ix3_ext {a b c : ℕ} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

/-- What a step leaves, read off the tuple of its results. -/
theorem doneOf (hR : Reals (m ((c : Thread nD τ).loc main_arg1)) (m ((c : Thread nD τ).loc main_arg2)) (m ((c : Thread nD τ).loc main_arg3)) (m ((c : Thread nD τ).loc main_arg8)) (m ((c : Thread nD τ).loc main_arg9))) {b : Fin 2} {T : Fin 64} {o : Vec Ideal S1x256x1024 .f32 × Vec Ideal S1x1x30x1024 .f32 × Vec Ideal S1x1x128x128 .f32 × Vec Ideal S1x1x128x128 .f32 × Vec Ideal S1x288x1024 .f32 × Vec Ideal S2x1x384x128 .bf16 × Vec Ideal S2x1x384x128 .bf16 × Vec Ideal S2x1x384x128 .bf16 × Vec Ideal S2x1x384x128 .bf16}
    {a18 a19 a20 a21 s0 s1 s2 s3 s4} (e : o = (a18, a19, a20, a21, s0, s1, s2, s3, s4)) (h : Done (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b T a18 a19 a20 a21 s0 s1 s2 s3 s4) :
    Done (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b T o.1 o.2.1 o.2.2.1 o.2.2.2.1 o.2.2.2.2.1 o.2.2.2.2.2.1 o.2.2.2.2.2.2.1 o.2.2.2.2.2.2.2.1 o.2.2.2.2.2.2.2.2 := by
  subst e
  exact h

/-- What a step leaves of its results. -/
abbrev DoneAt (n : ℕ) (hn : n < cfg0.N) : Prop := Done (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (seqOf ⟨n, hn⟩) (tileOf ⟨n, hn⟩)
    (outsAt0 m c n hn).1 (outsAt0 m c n hn).2.1 (outsAt0 m c n hn).2.2.1 (outsAt0 m c n hn).2.2.2.1 (outsAt0 m c n hn).2.2.2.2.1 (outsAt0 m c n hn).2.2.2.2.2.1
    (outsAt0 m c n hn).2.2.2.2.2.2.1 (outsAt0 m c n hn).2.2.2.2.2.2.2.1 (outsAt0 m c n hn).2.2.2.2.2.2.2.2

set_option maxHeartbeats 4000000 in
/-- The first step of a sequence. -/
theorem done_first (hR : Reals (m ((c : Thread nD τ).loc main_arg1)) (m ((c : Thread nD τ).loc main_arg2)) (m ((c : Thread nD τ).loc main_arg3)) (m ((c : Thread nD τ).loc main_arg8)) (m ((c : Thread nD τ).loc main_arg9))) (t : Fin cfg0.N) (h0 : t.val % 64 = 0) : DoneAt m c t.val t.isLt :=
  doneOf m c hR (outsAt0_A m c t h0) (stepA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (tile_word t) (fits m c t) hR h0)

set_option maxHeartbeats 4000000 in
/-- A later step of a sequence. -/
theorem done_next (hR : Reals (m ((c : Thread nD τ).loc main_arg1)) (m ((c : Thread nD τ).loc main_arg2)) (m ((c : Thread nD τ).loc main_arg3)) (m ((c : Thread nD τ).loc main_arg8)) (m ((c : Thread nD τ).loc main_arg9))) (t : Fin cfg0.N) (h0 : ¬t.val % 64 = 0) (ih : DoneAt m c (t.val - 1) (by omega)) : DoneAt m c t.val t.isLt := by
  have hs : seqOf ⟨t.val - 1, by omega⟩ = seqOf t := Fin.ext (by show (t.val - 1) / 64 = t.val / 64; omega)
  have hB := ih.next (tileOf t) (by show t.val % 64 = (t.val - 1) % 64 + 1; omega)
  rw [hs] at hB
  exact doneOf m c hR (outsAt0_B m c t h0) (stepB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (tile_word t) (fits m c t) hR hB)

/-- What every step leaves. -/
theorem done (hR : Reals (m ((c : Thread nD τ).loc main_arg1)) (m ((c : Thread nD τ).loc main_arg2)) (m ((c : Thread nD τ).loc main_arg3)) (m ((c : Thread nD τ).loc main_arg8)) (m ((c : Thread nD τ).loc main_arg9))) : ∀ (n : ℕ) (hn : n < cfg0.N), DoneAt m c n hn := fun n => by
  induction n with
  | zero => exact fun hn => done_first m c hR ⟨0, hn⟩ rfl
  | succ n ih =>
    intro hn
    by_cases h0 : (n + 1) % 64 = 0
    · exact done_first m c hR ⟨n + 1, hn⟩ h0
    · exact done_next m c hR ⟨n + 1, hn⟩ h0 (ih (Nat.lt_of_succ_lt hn))

/-- The result array. -/
theorem G18_eq (hR : Reals (m ((c : Thread nD τ).loc main_arg1)) (m ((c : Thread nD τ).loc main_arg2)) (m ((c : Thread nD τ).loc main_arg3)) (m ((c : Thread nD τ).loc main_arg8)) (m ((c : Thread nD τ).loc main_arg9))) : G18 m c = val_main_v501 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨b, n, d, rfl⟩ : ∃ b n d, i = ix3 b n d := ⟨i 0, i 1, i 2, ValueIdx.eq_ix3 i⟩
  have hp : pt18Of (ix3 b n d) = 64 * b.val + n.val / 256 := by
    show 64 * (b.val / 1 - 0) + 1 * (n.val / 256 - 0) + 1 * (d.val / 1024 - 0) = _
    omega
  have hN : pt18Of (ix3 b n d) < cfg0.N := lt_of_lt_of_eq (by rw [hp]; omega) N_0.symm
  have hl : loc18Of (ix3 b n d) = ix3 0 ⟨n.val % 256, by omega⟩ d := by
    funext a
    match a with
    | ⟨0, _⟩ => exact Fin.ext (by show b.val % 1 = 0; omega)
    | ⟨1, _⟩ => rfl
    | ⟨2, _⟩ => exact Fin.ext (by show d.val % 1024 = d.val; omega)
  unfold G18
  rw [dif_pos hN, ← outsAt0_sweep m c _ hN, hl]
  refine ((done m c hR _ hN).y _ d).trans (congrArg _ (ix3_ext ?_ ?_ rfl))
  · show pt18Of (ix3 b n d) / 64 = b.val
    omega
  · show 256 * (pt18Of (ix3 b n d) % 64) + n.val % 256 = n.val
    omega

/-- The array of the convolution history. -/
theorem G19_eq (hR : Reals (m ((c : Thread nD τ).loc main_arg1)) (m ((c : Thread nD τ).loc main_arg2)) (m ((c : Thread nD τ).loc main_arg3)) (m ((c : Thread nD τ).loc main_arg8)) (m ((c : Thread nD τ).loc main_arg9))) : G19 m c = val_main_v506 (F := Ideal) (m ((c : Thread nD τ).loc main_arg0)) (m ((c : Thread nD τ).loc main_arg2)) (m ((c : Thread nD τ).loc main_arg3)) := by
  funext i
  obtain ⟨a, b, r, d, rfl⟩ : ∃ a b r d, i = ix4 a b r d := ⟨i 0, i 1, i 2, i 3, ValueIdx.eq_ix4 i⟩
  have ha : a = 0 := Subsingleton.elim _ _
  have hp : pt19Of (ix4 a b r d) = 64 * b.val + 63 := by
    show 64 * (2 * (a.val / 1 - 0) + 1 * (b.val / 1 - 0) + 1 * (r.val / 30 - 0) + 1 * (d.val / 1024 - 0)) + 63 = _
    omega
  have hN : pt19Of (ix4 a b r d) < cfg0.N := lt_of_lt_of_eq (by rw [hp]; omega) N_0.symm
  have hl : loc19Of (ix4 a b r d) = ix4 0 0 r d := by
    funext x
    match x with
    | ⟨0, _⟩ => exact Fin.ext (by show a.val % 1 = 0; omega)
    | ⟨1, _⟩ => exact Fin.ext (by show b.val % 1 = 0; omega)
    | ⟨2, _⟩ => exact Fin.ext (by show r.val % 30 = r.val; omega)
    | ⟨3, _⟩ => exact Fin.ext (by show d.val % 1024 = d.val; omega)
  unfold G19
  rw [dif_pos hN, ← outsAt0_sweep m c _ hN, hl]
  subst ha
  refine ((done m c hR _ hN).conv r d).trans (Eq.trans (congrArg _ (ix3_ext ?_ ?_ rfl)) (v506_at (m ((c : Thread nD τ).loc main_arg0)) (m ((c : Thread nD τ).loc main_arg2)) (m ((c : Thread nD τ).loc main_arg3)) b r d).symm)
  · show pt19Of (ix4 0 b r d) / 64 = b.val
    omega
  · show 256 * (pt19Of (ix4 0 b r d) % 64) + (256 + r.val) = 16384 + r.val
    omega

/-- The array of the keys. -/
theorem G20_eq (hR : Reals (m ((c : Thread nD τ).loc main_arg1)) (m ((c : Thread nD τ).loc main_arg2)) (m ((c : Thread nD τ).loc main_arg3)) (m ((c : Thread nD τ).loc main_arg8)) (m ((c : Thread nD τ).loc main_arg9))) : G20 m c = val_main_v503 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) := by
  funext i
  obtain ⟨a, b, r, d, rfl⟩ : ∃ a b r d, i = ix4 a b r d := ⟨i 0, i 1, i 2, i 3, ValueIdx.eq_ix4 i⟩
  have ha : a = 0 := Subsingleton.elim _ _
  have hp : pt20Of (ix4 a b r d) = 64 * b.val + 63 := by
    show 64 * (2 * (a.val / 1 - 0) + 1 * (b.val / 1 - 0) + 1 * (r.val / 128 - 0) + 1 * (d.val / 128 - 0)) + 63 = _
    omega
  have hN : pt20Of (ix4 a b r d) < cfg0.N := lt_of_lt_of_eq (by rw [hp]; omega) N_0.symm
  have hl : loc20Of (ix4 a b r d) = ix4 0 0 r d := by
    funext x
    match x with
    | ⟨0, _⟩ => exact Fin.ext (by show a.val % 1 = 0; omega)
    | ⟨1, _⟩ => exact Fin.ext (by show b.val % 1 = 0; omega)
    | ⟨2, _⟩ => exact Fin.ext (by show r.val % 128 = r.val; omega)
    | ⟨3, _⟩ => exact Fin.ext (by show d.val % 128 = d.val; omega)
  unfold G20
  rw [dif_pos hN, ← outsAt0_sweep m c _ hN, hl]
  subst ha
  refine ((done m c hR _ hN).k r d).trans (Eq.trans (congrArg _ (ix4_ext ?_ ?_ rfl rfl)) (v503_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) b r d).symm)
  · show pt20Of (ix4 0 b r d) / 64 = b.val
    omega
  · show 256 * (pt20Of (ix4 0 b r d) % 64) + (128 + r.val) = 16256 + r.val
    omega

/-- The array of the values. -/
theorem G21_eq (hR : Reals (m ((c : Thread nD τ).loc main_arg1)) (m ((c : Thread nD τ).loc main_arg2)) (m ((c : Thread nD τ).loc main_arg3)) (m ((c : Thread nD τ).loc main_arg8)) (m ((c : Thread nD τ).loc main_arg9))) : G21 m c = val_main_v505 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) := by
  funext i
  obtain ⟨a, b, r, d, rfl⟩ : ∃ a b r d, i = ix4 a b r d := ⟨i 0, i 1, i 2, i 3, ValueIdx.eq_ix4 i⟩
  have ha : a = 0 := Subsingleton.elim _ _
  have hp : pt21Of (ix4 a b r d) = 64 * b.val + 63 := by
    show 64 * (2 * (a.val / 1 - 0) + 1 * (b.val / 1 - 0) + 1 * (r.val / 128 - 0) + 1 * (d.val / 128 - 0)) + 63 = _
    omega
  have hN : pt21Of (ix4 a b r d) < cfg0.N := lt_of_lt_of_eq (by rw [hp]; omega) N_0.symm
  have hl : loc21Of (ix4 a b r d) = ix4 0 0 r d := by
    funext x
    match x with
    | ⟨0, _⟩ => exact Fin.ext (by show a.val % 1 = 0; omega)
    | ⟨1, _⟩ => exact Fin.ext (by show b.val % 1 = 0; omega)
    | ⟨2, _⟩ => exact Fin.ext (by show r.val % 128 = r.val; omega)
    | ⟨3, _⟩ => exact Fin.ext (by show d.val % 128 = d.val; omega)
  unfold G21
  rw [dif_pos hN, ← outsAt0_sweep m c _ hN, hl]
  subst ha
  refine ((done m c hR _ hN).v r d).trans (Eq.trans (congrArg _ (ix4_ext ?_ ?_ rfl rfl)) (v505_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) b r d).symm)
  · show pt21Of (ix4 0 b r d) / 64 = b.val
    omega
  · show 256 * (pt21Of (ix4 0 b r d) % 64) + (128 + r.val) = 16256 + r.val
    omega

end Cert.KernelIdeal.Trunk
-- ==== Proof.TrunkClaim.lean ====
/- The trunk's value claim. -/
module

public import proofs.«01_k».proof.Defs
public import proofs.«01_k».proof.Proof.Finals
public import proofs.«01_k».proof.Proof.Gen.Pre_finite
public import proofs.«01_k».proof.Proof.Gen.ReferenceIdeal.Run
public import proofs.«01_k».proof.Proof.Gen.ReferenceIdeal.Read
public import Idealize.ShloMosaic.Lib.ReduceAll
public import Idealize.ShloMosaic.Lib.Claim

@[expose] public section

set_option maxRecDepth 16384

noncomputable section

namespace Cert.Proof

open Idealize.ShloMosaic Idealize.ShloMosaic.TcCoe Idealize.SL.Sem Cert.KernelIdeal.Trunk

/-- Two bits whose conjunction is set are set. -/
theorem and_bits : ∀ a b : BitVec 1, IntOp.andi a b = 1#1 → a = 1#1 ∧ b = 1#1 := by decide

/-- A number whose absolute value is below infinity is real. -/
theorem real_of_lt {x : EReal} (h : BitVec.ofBool (decide (max x (-x) < Ideal.ofBits .f32 0x7F800000#32)) = 1#1) : IsR x := by
  have ht : Ideal.ofBits .f32 0x7F800000#32 = ⊤ := by simp [Ideal.ofBits, Ideal.ieee]
  rw [ht] at h
  induction x with
  | bot => simp at h
  | top => simp at h
  | coe r => exact ⟨r, rfl⟩

/-- The predicate's result has one index. -/
theorem one_index (a b : Cert.Pre_finite.S_.Idx) : a = b := funext fun i => i.elim0

/-- The precondition gives real entries of the five arguments it names. -/
theorem reals_of (x0 x1 x2 x3 x4 x5 x6 x7 x8 x9 x10 x11) (h : ∀ j, Cert.Pre_finite.fn (F := Ideal) x0 x1 x2 x3 x4 x5 x6 x7 x8 x9 x10 x11 j = 1#1) :
    Reals x1 x2 x3 x8 x9 := by
  haveI : Subsingleton Cert.Pre_finite.S_.Idx := ⟨one_index⟩
  have h0 := h (fun i => i.elim0)
  dsimp only [Cert.Pre_finite.fn, Cert.Pre_finite.fn_part1] at h0
  obtain ⟨h0, h9⟩ := and_bits _ _ h0
  obtain ⟨h0, h8⟩ := and_bits _ _ h0
  obtain ⟨h0, h3⟩ := and_bits _ _ h0
  obtain ⟨h1, h2⟩ := and_bits _ _ h0
  exact ⟨fun i => real_of_lt (Host.reduce_andi_all _ _ _ _ _ h1 i), fun i => real_of_lt (Host.reduce_andi_all _ _ _ _ _ h2 i),
    fun i => real_of_lt (Host.reduce_andi_all _ _ _ _ _ h3 i), fun i => real_of_lt (Host.reduce_andi_all _ _ _ _ _ h8 i),
    fun i => real_of_lt (Host.reduce_andi_all _ _ _ _ _ h9 i)⟩

/-- The precondition on the kernel's arguments gives real entries. -/
theorem reals_pre (m : (ℓ : Loc Cert.KernelIdeal.nD Cert.KernelIdeal.τ Cert.KernelIdeal.sig) → Buf (Elt Ideal) ℓ) (h : Cert.Pre_KernelIdeal_finite m) (c : Dev Cert.KernelIdeal.nD) :
    Reals (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg8)) (m ((c : Thread Cert.KernelIdeal.nD Cert.KernelIdeal.τ).loc Cert.KernelIdeal.main_arg9)) :=
  reals_of _ _ _ _ _ _ _ _ _ _ _ _ (fun j => congrFun (h c) j)

/-- At the exact numbers the trunk kernel and its reference leave the same four arrays, given finite weights. -/
theorem algebraic_trunk : Cert.algebraic_KernelIdeal_ReferenceIdeal_pre_finite := by
  pair_intro
  · run_from Cert.KernelIdeal.Value.run m g
  · run_from Cert.ReferenceIdeal.Value.run m' g'
    · rw [← (hagree c).2.2.2.2.2.2.2.2.2.2.2]
      refine (Cert.ReferenceIdeal.Read.val_main_v501_eq (Idealize.ShloMosaic.StableHlo.launchContents m' c)).trans ?_
      simp only [Idealize.ShloMosaic.StableHlo.launchContents_devRef, hagree c]
      exact (G18_eq m c (reals_pre m hpre c)).symm
    · refine (Cert.ReferenceIdeal.Read.val_main_v506_eq (Idealize.ShloMosaic.StableHlo.launchContents m' c)).trans ?_
      simp only [Idealize.ShloMosaic.StableHlo.launchContents_devRef, hagree c]
      exact (G19_eq m c (reals_pre m hpre c)).symm
    · refine (Cert.ReferenceIdeal.Read.val_main_v503_eq (Idealize.ShloMosaic.StableHlo.launchContents m' c)).trans ?_
      simp only [Idealize.ShloMosaic.StableHlo.launchContents_devRef, hagree c]
      exact (G20_eq m c (reals_pre m hpre c)).symm
    · refine (Cert.ReferenceIdeal.Read.val_main_v505_eq (Idealize.ShloMosaic.StableHlo.launchContents m' c)).trans ?_
      simp only [Idealize.ShloMosaic.StableHlo.launchContents_devRef, hagree c]
      exact (G21_eq m c (reals_pre m hpre c)).symm

end Cert.Proof

end
-- ==== Proof.SampleBody.lean ====
module

public import proofs.«01_k».proof.Proof.Gen.SampleIdeal.Skeleton
public import proofs.«01_k».proof.Proof.Body

@[expose] public section

set_option maxRecDepth 16384

/-! # What one step of the sample kernel computes

One grid step reads the 64 new positions of two streams, stacked into 128 rows, with the constant
tables and weights and the streams' caches. The parts of the step are named in the order the
kernel's function computes them; parts over shapes the trunk kernel also uses are the trunk's. -/

noncomputable section

namespace Cert.SampleIdeal.Trunk

open Idealize.ShloMosaic Idealize.ShloMosaic.TcCoe Idealize.SL.Sem
open Idealize.ShloMosaic.Pipeline (Dat)
open Cert.SampleIdeal Cert.SampleIdeal.Gen
open Cert.KernelIdeal.Trunk (kLd inb2 inb3 inb4 kSilu kLo64 kSink kPairs kPair kQs0 kQs1 kScore)

variable {F : FTy → Type} [FloatOps F] [Named F]

/-- The mean over the 1024 channels of each row, kept as a column. -/
def kMean (X : FVec F S128x1024 .f32) : FVec F S128x1 .f32 :=
  divf (shapeCast S128x1 (multiReduction .add [1] S128 X 0x00000000#32 reduces_S128x1024_S128 (.inl rfl) rfl) shapeCasts_S128_S128x1)
    (broadcast S128x1 (Scalar.ofBits .f32 0x44800000#32))

/-- Rows scaled by the reciprocal root of a column plus `eps`. -/
def kScaleRsqrt (X : FVec F S128x1024 .f32) (M : FVec F S128x1 .f32) (eps : BitVec 32) : FVec F S128x1024 .f32 :=
  mulf X (broadcastTo S128x1024 (rsqrt (addf M (broadcast S128x1 (Scalar.ofBits .f32 eps)))) broadcasts_S128x1_S128x1024)

/-- The root-mean-square normalization with its gain row. -/
def kRms (X : FVec F S128x1024 .f32) (G : FVec F S1x1024 .f32) : FVec F S128x1024 .f32 :=
  mulf (kScaleRsqrt X (kMean (mulf X X)) 0x358637BD#32) (broadcastTo S128x1024 G broadcasts_S1x1024_S128x1024)

/-- Rows with their mean taken off. -/
def kCenter (X : FVec F S128x1024 .f32) : FVec F S128x1024 .f32 :=
  subf X (broadcastTo S128x1024 (kMean X) broadcasts_S128x1_S128x1024)

/-- The layer normalization with gain and bias rows. -/
def kLn (X : FVec F S128x1024 .f32) (G B : FVec F S1x1024 .f32) : FVec F S128x1024 .f32 :=
  addf (mulf (kScaleRsqrt (kCenter X) (kMean (mulf (kCenter X) (kCenter X))) 0x3727C5AC#32)
    (broadcastTo S128x1024 G broadcasts_S1x1024_S128x1024)) (broadcastTo S128x1024 B broadcasts_S1x1024_S128x1024)

/-- 1024 columns of the projection. -/
def kDot1024 (H : FVec F S128x1024 .bf16) (w : FVec F S1x1024x1024 .bf16) : FVec F S128x1024 .f32 :=
  matmul dot_S128x1024_S1024x1024_S128x1024_1_0_0_1_n_n none H (shapeCast S1024x1024 w shapeCasts_S1x1024x1024_S1024x1024)
    (constant S128x1024 .f32 0x00000000#32)

/-- 512 columns of the projection. -/
def kDot512 (H : FVec F S128x1024 .bf16) (w : FVec F S1x1024x512 .bf16) : FVec F S128x512 .f32 :=
  matmul dot_S128x1024_S1024x512_S128x512_1_0_0_1_n_n none H (shapeCast S1024x512 w shapeCasts_S1x1024x512_S1024x512)
    (constant S128x512 .f32 0x00000000#32)

/-- 256 columns of the projection. -/
def kDot256 (H : FVec F S128x1024 .bf16) (w : FVec F S1x1024x256 .bf16) : FVec F S128x256 .f32 :=
  matmul dot_S128x1024_S1024x256_S128x256_1_0_0_1_n_n none H (shapeCast S1024x256 w shapeCasts_S1x1024x256_S1024x256)
    (constant S128x256 .f32 0x00000000#32)

/-- 128 columns of the projection. -/
def kDot128 (H : FVec F S128x1024 .bf16) (w : FVec F S1x1024x128 .bf16) : FVec F S128x128 .f32 :=
  matmul dot_S128x1024_S1024x128_S128x128_1_0_0_1_n_n none H (shapeCast S1024x128 w shapeCasts_S1x1024x128_S1024x128)
    (constant S128x128 .f32 0x00000000#32)

/-- 256 columns of the gated input of the convolution. -/
def kGlu (H : FVec F S128x1024 .bf16) (wa wg : FVec F S1x1024x256 .bf16) : FVec F S2x64x256 .f32 :=
  shapeCast S2x64x256 (shapeCast S2x64x256 (mulf (kDot256 H wa) (logistic (kDot256 H wg))) shapeCasts_S128x256_S2x64x256)
    shapeCasts_S2x64x256_S2x64x256

/-- One tap of the convolution: shifted rows times a weight row. -/
def kTap {n : ℕ} (L : FVec F ⟨3, ![2, n, 256]⟩ .f32) (o : Fin 3 → ℕ) (hs : (⟨3, ![2, n, 256]⟩ : Shape).Slices o S2x64x256) (w : FVec F S1x1x256 .f32) : FVec F S2x64x256 .f32 :=
  mulf (extractStridedSlice S2x64x256 o L hs)
    (broadcastTo S2x64x256 (shapeCast S1x1x256 (shapeCast S1x256 w shapeCasts_S1x1x256_S1x256) shapeCasts_S1x256_S1x1x256)
      broadcasts_S1x1x256_S2x64x256)

/-- The weight row of tap `k` in the 256 columns from `c0`. -/
def kCw (cw : FVec F S1x31x1024 .f32) (k c0 : ℕ) (hk : k + 1 ≤ 31) (hc : c0 + 256 ≤ 1024) : FVec F S1x1x256 .f32 :=
  kLd cw (Rect.unit (s := S1x31x1024) ![0, k, c0] S1x1x256.size (inb3 (Nat.le_refl 1) hk hc))

/-- Four taps, eight rows apart, of the rows from `lo`. -/
def kPart4 (U : FVec F S2x96x1024 .f32) (cw : FVec F S1x31x1024 .f32) (lo k c0 : ℕ) (hl : lo + 88 ≤ 96) (hk : k + 24 + 1 ≤ 31)
    (hc : c0 + 256 ≤ 1024) : FVec F S2x64x256 .f32 :=
  let L : FVec F S2x88x256 .f32 := kLd U (Rect.unit (s := S2x96x1024) ![0, lo, c0] S2x88x256.size (inb3 (Nat.le_refl 2) hl hc))
  addf (addf (addf
    (kTap L ![0, 0, 0] slices_S2x88x256_o0_0_0_S2x64x256 (kCw cw k c0 (by omega) hc))
    (kTap L ![0, 8, 0] slices_S2x88x256_o0_8_0_S2x64x256 (kCw cw (k + 8) c0 (by omega) hc)))
    (kTap L ![0, 16, 0] slices_S2x88x256_o0_16_0_S2x64x256 (kCw cw (k + 16) c0 (by omega) hc)))
    (kTap L ![0, 24, 0] slices_S2x88x256_o0_24_0_S2x64x256 (kCw cw (k + 24) c0 (by omega) hc))

/-- Three taps, eight rows apart, of the rows from 9. -/
def kPart3 (U : FVec F S2x96x1024 .f32) (cw : FVec F S1x31x1024 .f32) (c0 : ℕ) (hc : c0 + 256 ≤ 1024) : FVec F S2x64x256 .f32 :=
  let L : FVec F S2x80x256 .f32 := kLd U (Rect.unit (s := S2x96x1024) ![0, 9, c0] S2x80x256.size (inb3 (Nat.le_refl 2) (by omega) hc))
  addf (addf
    (kTap L ![0, 0, 0] slices_S2x80x256_o0_0_0_S2x64x256 (kCw cw 7 c0 (by omega) hc))
    (kTap L ![0, 8, 0] slices_S2x80x256_o0_8_0_S2x64x256 (kCw cw 15 c0 (by omega) hc)))
    (kTap L ![0, 16, 0] slices_S2x80x256_o0_16_0_S2x64x256 (kCw cw 23 c0 (by omega) hc))

/-- 256 columns of the convolution with its bias. -/
def kConv (U : FVec F S2x96x1024 .f32) (cw : FVec F S1x31x1024 .f32) (cb : FVec F S1x1024 .f32) (c0 : ℕ) (hc : c0 + 256 ≤ 1024) :
    FVec F S128x256 .f32 :=
  shapeCast S128x256
    (addf (addf (addf (addf (addf (addf (addf (addf
      (broadcastTo S2x64x256 (shapeCast S1x1x256 (shapeCast S1x1x256
        (kLd cb (Rect.unit (s := S1x1024) ![0, c0] S1x256.size (inb2 (Nat.le_refl 1) hc)))
        shapeCasts_S1x256_S1x1x256) shapeCasts_S1x1x256_S1x1x256) broadcasts_S1x1x256_S2x64x256)
      (kPart4 U cw 8 6 c0 (by omega) (by omega) hc)) (kPart3 U cw c0 hc))
      (kPart4 U cw 2 0 c0 (by omega) (by omega) hc)) (kPart4 U cw 3 1 c0 (by omega) (by omega) hc))
      (kPart4 U cw 4 2 c0 (by omega) (by omega) hc)) (kPart4 U cw 5 3 c0 (by omega) (by omega) hc))
      (kPart4 U cw 6 4 c0 (by omega) (by omega) hc)) (kPart4 U cw 7 5 c0 (by omega) (by omega) hc))
    shapeCasts_S2x64x256_S128x256

/-- The scores of a memory head: scaled queries against the stored keys, 128 columns from `o`. -/
def kMemScore (Q : FVec F S64x512 .f32) (K : FVec F S256x512 .f32) (o : Fin 2 → ℕ) (hs : S64x512.Slices o S64x128)
    (hk : S256x512.Slices o S256x128) : FVec F S64x256 .f32 :=
  matmul dot_S64x128_S256x128_S64x256_1_1_0_0_n_n none
    (truncf .bf16 (mulf (extractStridedSlice S64x128 o Q hs) (broadcast S64x128 (Named.named κ "mem_scale" 0x3E0293EE#32))) bitsLt_bf16_f32)
    (truncf .bf16 (extractStridedSlice S256x128 o K hk) bitsLt_bf16_f32) (constant S64x256 .f32 0x00000000#32)

/-- The powers of two of a memory head's scores less their row's largest. -/
def kMemP (Q : FVec F S64x512 .f32) (K : FVec F S256x512 .f32) (o : Fin 2 → ℕ) (hs : S64x512.Slices o S64x128)
    (hk : S256x512.Slices o S256x128) : FVec F S64x256 .f32 :=
  exp2 (subf (kMemScore Q K o hs hk) (broadcastTo S64x256 (shapeCast S64x1 (multiReduction .maximumf [1] S64 (kMemScore Q K o hs hk)
    0xFF800000#32 reduces_S64x256_S64 (.inl rfl) rfl) shapeCasts_S64_S64x1) broadcasts_S64x1_S64x256))

/-- One head of a stream's attention over its memory. -/
def kMemHead (Q : FVec F S64x512 .f32) (K V : FVec F S256x512 .f32) (o : Fin 2 → ℕ) (hs : S64x512.Slices o S64x128)
    (hk : S256x512.Slices o S256x128) : FVec F S64x128 .f32 :=
  mulf (matmul dot_S64x256_S256x128_S64x128_1_0_0_1_n_n none (truncf .bf16 (kMemP Q K o hs hk) bitsLt_bf16_f32)
      (truncf .bf16 (extractStridedSlice S256x128 o V hk) bitsLt_bf16_f32) (constant S64x128 .f32 0x00000000#32))
    (broadcastTo S64x128 (divf (broadcast S64x1 (Scalar.ofBits .f32 0x3F800000#32))
      (shapeCast S64x1 (multiReduction .add [1] S64 (kMemP Q K o hs hk) 0x00000000#32 reduces_S64x256_S64 (.inl rfl) rfl)
        shapeCasts_S64_S64x1)) broadcasts_S64x1_S64x128)

/-- A stream's attention over its memory: four heads side by side. -/
def kMem (Q : FVec F S64x512 .f32) (K V : FVec F S256x512 .f32) : FVec F S64x512 .f32 :=
  concatenate S64x512 1 [⟨S64x128, kMemHead Q K V ![0, 0] slices_S64x512_o0_0_S64x128 slices_S256x512_o0_0_S256x128⟩,
    ⟨S64x128, kMemHead Q K V ![0, 128] slices_S64x512_o0_128_S64x128 slices_S256x512_o0_128_S256x128⟩,
    ⟨S64x128, kMemHead Q K V ![0, 256] slices_S64x512_o0_256_S64x128 slices_S256x512_o0_256_S256x128⟩,
    ⟨S64x128, kMemHead Q K V ![0, 384] slices_S64x512_o0_384_S64x128 slices_S256x512_o0_384_S256x128⟩]
    concatenates_S64x128_S64x128_S64x128_S64x128_S64x512_d1

/-- Both streams' attention over their memories, one under the other. -/
def kMem2 (Q : FVec F S128x512 .f32) (K0 V0 K1 V1 : FVec F S256x512 .f32) : FVec F S128x512 .f32 :=
  concatenate S128x512 0 [⟨S64x512, kMem (extractStridedSlice S64x512 ![0, 0] Q slices_S128x512_o0_0_S64x512) K0 V0⟩,
    ⟨S64x512, kMem (extractStridedSlice S64x512 ![64, 0] Q slices_S128x512_o64_0_S64x512) K1 V1⟩]
    concatenates_S64x512_S64x512_S128x512_d0

/-- The residual of a half layer: the mixed rows beside the memory's rows, through the output weights. -/
def kOut (M : FVec F S128x1024 .f32) (XO : FVec F S128x512 .f32) (w : FVec F S1x1536x1024 .bf16) : FVec F S128x1024 .f32 :=
  matmul dot_S128x1536_S1536x1024_S128x1024_1_0_0_1_n_n none
    (concatenate S128x1536 1 [⟨S128x1024, truncf .bf16 M bitsLt_bf16_f32⟩, ⟨S128x512, truncf .bf16 XO bitsLt_bf16_f32⟩]
      concatenates_S128x1024_S128x512_S128x1536_d1)
    (shapeCast S1536x1024 w shapeCasts_S1x1536x1024_S1536x1024) (constant S128x1024 .f32 0x00000000#32)

/-- The lanes that hold the first half of a head. -/
def kFirstHalf : IVec S128x128 1 :=
  let s : BitVec 32 := Scalar.select (Scalar.cmpi .eq 64#32 0#32) 1#32 64#32
  let r : IVec S128x128 32 := remsi (iota .tc S128x128 32 [1] iota_S128x128_d1_w32) (broadcast S128x128 s)
  cmpi .slt
    (select (andi (xori (cmpi .slt r (broadcast S128x128 0#32))
        (broadcastTo S128x128 (broadcast S128x128 (Scalar.cmpi .slt s 0#32)) broadcasts_S128x128_S128x128))
        (cmpi .ne r (broadcast S128x128 0#32))) (addi r (broadcast S128x128 s)) r)
    (broadcast S128x128 32#32)

/-- The rotary embedding of 128 lanes with its two tables. -/
def kRope (X C Sn : FVec F S128x128 .f32) : FVec F S128x128 .f32 :=
  addf (mulf X C) (mulf (select kFirstHalf (dynamicRotate 1 96#32 none X rotates_S128x128_d1)
    (dynamicRotate 1 32#32 none X rotates_S128x128_d1)) Sn)

/-- The first 64 rows of a table over 128 lanes, for both streams. -/
def kTwice (t : FVec F S128x128 .f32) : FVec F S128x128 .f32 :=
  concatenate S128x128 0 [⟨S64x128, extractStridedSlice S64x128 ![0, 0] t slices_S128x128_o0_0_S64x128⟩,
    ⟨S64x128, extractStridedSlice S64x128 ![0, 0] t slices_S128x128_o0_0_S64x128⟩] concatenates_S64x128_S64x128_S128x128_d0

/-- The cosine table laid over 128 lanes. -/
def kCos (t : FVec F S32x128 .f32) : FVec F S128x128 .f32 :=
  let a : FVec F S32x128 .f32 := shapeCast S32x128 t shapeCasts_S32x128_S32x128
  kTwice (transpose S128x128 [1, 0] (concatenate S128x128 0 [⟨S32x128, a⟩, ⟨S32x128, a⟩, ⟨S32x128, a⟩, ⟨S32x128, a⟩]
    concatenates_S32x128_S32x128_S32x128_S32x128_S128x128_d0) transposes_S128x128_p1_0_S128x128)

/-- The sine table laid over 128 lanes, the first half of each head with its sign turned. -/
def kSin (t : FVec F S32x128 .f32) : FVec F S128x128 .f32 :=
  let a : FVec F S32x128 .f32 := shapeCast S32x128 t shapeCasts_S32x128_S32x128
  let n : FVec F S32x128 .f32 := subf (broadcast S32x128 (Scalar.ofBits .f32 0x00000000#32)) a
  kTwice (transpose S128x128 [1, 0] (concatenate S128x128 0 [⟨S32x128, n⟩, ⟨S32x128, a⟩, ⟨S32x128, n⟩, ⟨S32x128, a⟩]
    concatenates_S32x128_S32x128_S32x128_S32x128_S128x128_d0) transposes_S128x128_p1_0_S128x128)

/-- A table times the queries' scale. -/
def kScaled (t : FVec F S128x128 .f32) : FVec F S128x128 .f32 :=
  mulf t (broadcast S128x128 (Named.named κ "swa_scale" 0x3E38AA3B#32))

/-- The queries: the rotary embedding of eight blocks of 128 lanes. -/
def kQ (P : FVec F S128x1024 .f32) (C Sn : FVec F S128x128 .f32) : FVec F S128x1024 .f32 :=
  let b := fun (o : Fin 2 → ℕ) (hs : S128x1024.Slices o S128x128) => kRope (extractStridedSlice S128x128 o P hs) C Sn
  concatenate S128x1024 1 [⟨S128x128, b ![0, 0] slices_S128x1024_o0_0_S128x128⟩, ⟨S128x128, b ![0, 128] slices_S128x1024_o0_128_S128x128⟩,
    ⟨S128x128, b ![0, 256] slices_S128x1024_o0_256_S128x128⟩, ⟨S128x128, b ![0, 384] slices_S128x1024_o0_384_S128x128⟩,
    ⟨S128x128, b ![0, 512] slices_S128x1024_o0_512_S128x128⟩, ⟨S128x128, b ![0, 640] slices_S128x1024_o0_640_S128x128⟩,
    ⟨S128x128, b ![0, 768] slices_S128x1024_o0_768_S128x128⟩, ⟨S128x128, b ![0, 896] slices_S128x1024_o0_896_S128x128⟩]
    concatenates_S128x128_S128x128_S128x128_S128x128_S128x128_S128x128_S128x128_S128x128_S128x1024_d1

/-- The lanes of the first head of a pair. -/
def kLo : IVec S128x128 1 := cmpi .slt (iota .tc S128x128 32 [1] iota_S128x128_d1_w32) (broadcast S128x128 64#32)

/-- Rows of history as they are stored in a scratch of keys or values. -/
def kStoredH (X : FVec F S128x128 .f32) : FVec F S1x1x128x128 .bf16 :=
  shapeCast S1x1x128x128 (truncf .bf16 X bitsLt_bf16_f32) shapeCasts_S128x128_S1x1x128x128
/-- New rows as they are stored in a scratch of keys or values. -/
def kStoredN (X : FVec F S64x128 .f32) : FVec F S1x1x64x128 .bf16 :=
  shapeCast S1x1x64x128 (truncf .bf16 X bitsLt_bf16_f32) shapeCasts_S64x128_S1x1x64x128

/-- Zeros over the rows of history. -/
def kZeroH : FVec F S128x128 .f32 := broadcast S128x128 (Scalar.ofBits .f32 0x00000000#32)
/-- Zeros over the new rows. -/
def kZeroN : FVec F S64x128 .f32 := broadcast S64x128 (Scalar.ofBits .f32 0x00000000#32)
/-- The lanes' halves exchanged, over the rows of history. -/
def kSwapH (X : FVec F S128x128 .f32) : FVec F S128x128 .f32 := dynamicRotate 1 64#32 none X rotates_S128x128_d1
/-- The lanes' halves exchanged, over the new rows. -/
def kSwapN (X : FVec F S64x128 .f32) : FVec F S64x128 .f32 := dynamicRotate 1 64#32 none X rotates_S64x128_d1

/-- History of the first key-value head over the low lanes. -/
def kHistA0 (X : FVec F S128x128 .f32) : FVec F S1x1x128x128 .bf16 := kStoredH (select kLo X kZeroH)
/-- History of the first key-value head over the high lanes. -/
def kHistB0 (X : FVec F S128x128 .f32) : FVec F S1x1x128x128 .bf16 := kStoredH (select kLo kZeroH (kSwapH X))
/-- History of the second key-value head over the low lanes. -/
def kHistA1 (X : FVec F S128x128 .f32) : FVec F S1x1x128x128 .bf16 := kStoredH (select kLo (kSwapH X) kZeroH)
/-- History of the second key-value head over the high lanes. -/
def kHistB1 (X : FVec F S128x128 .f32) : FVec F S1x1x128x128 .bf16 := kStoredH (select kLo kZeroH X)
/-- New rows of the first key-value head over the low lanes. -/
def kNewA0 (X : FVec F S64x128 .f32) : FVec F S1x1x64x128 .bf16 := kStoredN (select kLo64 X kZeroN)
/-- New rows of the first key-value head over the high lanes. -/
def kNewB0 (X : FVec F S64x128 .f32) : FVec F S1x1x64x128 .bf16 := kStoredN (select kLo64 kZeroN (kSwapN X))
/-- New rows of the second key-value head over the low lanes. -/
def kNewA1 (X : FVec F S64x128 .f32) : FVec F S1x1x64x128 .bf16 := kStoredN (select kLo64 (kSwapN X) kZeroN)
/-- New rows of the second key-value head over the high lanes. -/
def kNewB1 (X : FVec F S64x128 .f32) : FVec F S1x1x64x128 .bf16 := kStoredN (select kLo64 kZeroN X)

/-- The 192 rows of head `h` of stream `s` of a scratch of keys or values. -/
def kRowsS (K : FVec F S2x2x192x128 .bf16) (h s : ℕ) (hh : h + 1 ≤ 2) (hs : s + 1 ≤ 2) : FVec F S1x1x192x128 .bf16 :=
  kLd K (Rect.unit (s := S2x2x192x128) ![h, s, 0, 0] S1x1x192x128.size (inb4 hh hs (Nat.le_refl 192) (Nat.le_refl 128)))

/-- One chunk of 64 positions: sixteen heads, given each key-value head's two score blocks and value blocks. -/
def kChunkRows (Se0 So0 Se1 So1 : FVec F S256x192 .f32) (va0 vb0 va1 vb1 : FVec F S1x1x192x128 .bf16) (sk : FVec F S16 .f32) :
    FVec F S64x1024 .f32 :=
  let O0 := kPairs Se0 So0 va0 vb0
    (kSink sk 0 inb_S16_S1_0) (kSink sk 2 inb_S16_S1_2) (kSink sk 4 inb_S16_S1_4) (kSink sk 6 inb_S16_S1_6)
    (kSink sk 1 inb_S16_S1_1) (kSink sk 3 inb_S16_S1_3) (kSink sk 5 inb_S16_S1_5) (kSink sk 7 inb_S16_S1_7)
  let O1 := kPairs Se1 So1 va1 vb1
    (kSink sk 8 inb_S16_S1_8) (kSink sk 10 inb_S16_S1_10) (kSink sk 12 inb_S16_S1_12) (kSink sk 14 inb_S16_S1_14)
    (kSink sk 9 inb_S16_S1_9) (kSink sk 11 inb_S16_S1_11) (kSink sk 13 inb_S16_S1_13) (kSink sk 15 inb_S16_S1_15)
  concatenate S64x1024 1 [
    ⟨S64x128, kPair Se0 So0 O0 ![0, 0] slices_S256x192_o0_0_S64x192 slices_S256x128_o0_0_S64x128 (kSink sk 0 inb_S16_S1_0) (kSink sk 1 inb_S16_S1_1)⟩,
    ⟨S64x128, kPair Se0 So0 O0 ![64, 0] slices_S256x192_o64_0_S64x192 slices_S256x128_o64_0_S64x128 (kSink sk 2 inb_S16_S1_2) (kSink sk 3 inb_S16_S1_3)⟩,
    ⟨S64x128, kPair Se0 So0 O0 ![128, 0] slices_S256x192_o128_0_S64x192 slices_S256x128_o128_0_S64x128 (kSink sk 4 inb_S16_S1_4) (kSink sk 5 inb_S16_S1_5)⟩,
    ⟨S64x128, kPair Se0 So0 O0 ![192, 0] slices_S256x192_o192_0_S64x192 slices_S256x128_o192_0_S64x128 (kSink sk 6 inb_S16_S1_6) (kSink sk 7 inb_S16_S1_7)⟩,
    ⟨S64x128, kPair Se1 So1 O1 ![0, 0] slices_S256x192_o0_0_S64x192 slices_S256x128_o0_0_S64x128 (kSink sk 8 inb_S16_S1_8) (kSink sk 9 inb_S16_S1_9)⟩,
    ⟨S64x128, kPair Se1 So1 O1 ![64, 0] slices_S256x192_o64_0_S64x192 slices_S256x128_o64_0_S64x128 (kSink sk 10 inb_S16_S1_10) (kSink sk 11 inb_S16_S1_11)⟩,
    ⟨S64x128, kPair Se1 So1 O1 ![128, 0] slices_S256x192_o128_0_S64x192 slices_S256x128_o128_0_S64x128 (kSink sk 12 inb_S16_S1_12) (kSink sk 13 inb_S16_S1_13)⟩,
    ⟨S64x128, kPair Se1 So1 O1 ![192, 0] slices_S256x192_o192_0_S64x192 slices_S256x128_o192_0_S64x128 (kSink sk 14 inb_S16_S1_14) (kSink sk 15 inb_S16_S1_15)⟩]
    concatenates_S64x128_S64x128_S64x128_S64x128_S64x128_S64x128_S64x128_S64x128_S64x1024_d1

/-- The chunk of one stream. -/
def kChunkS (Q : FVec F S64x1024 .f32) (KA KB VA VB : FVec F S2x2x192x128 .bf16) (sk : FVec F S16 .f32) (s : ℕ) (hs : s + 1 ≤ 2) : FVec F S64x1024 .f32 :=
  kChunkRows (kScore (kQs0 Q) (kRowsS KA 0 s (by omega) hs)) (kScore (kQs0 Q) (kRowsS KB 0 s (by omega) hs))
    (kScore (kQs1 Q) (kRowsS KA 1 s (by omega) hs)) (kScore (kQs1 Q) (kRowsS KB 1 s (by omega) hs))
    (kRowsS VA 0 s (by omega) hs) (kRowsS VB 0 s (by omega) hs) (kRowsS VA 1 s (by omega) hs) (kRowsS VB 1 s (by omega) hs) sk

/-- The windowed attention of both streams. -/
def kSwa (Q : FVec F S128x1024 .f32) (KA KB VA VB : FVec F S2x2x192x128 .bf16) (sk : FVec F S16 .f32) : FVec F S128x1024 .f32 :=
  concatenate S128x1024 0 [
    ⟨S64x1024, kChunkS (extractStridedSlice S64x1024 ![0, 0] Q slices_S128x1024_o0_0_S64x1024) KA KB VA VB sk 0 (by omega)⟩,
    ⟨S64x1024, kChunkS (extractStridedSlice S64x1024 ![64, 0] Q slices_S128x1024_o64_0_S64x1024) KA KB VA VB sk 1 (by omega)⟩]
    concatenates_S64x1024_S64x1024_S128x1024_d0

/-- The windows a step reads. -/
structure Win (F : FTy → Type) where
  w0 : FVec F S16 .f32
  w1 : FVec F S2x64x1024 .f32
  w2 : FVec F S32x128 .f32
  w3 : FVec F S32x128 .f32
  w4 : FVec F S1x2x30x1024 .f32
  w5 : FVec F S1x2x128x128 .f32
  w6 : FVec F S1x2x128x128 .f32
  w7 : FVec F S2x2x1024x128 .f32
  w8 : FVec F S2x2x1024x128 .f32
  w9 : FVec F S2x1024 .f32
  w10 : FVec F S1x1024x4224 .bf16
  w11 : FVec F S1x31x1024 .f32
  w12 : FVec F S1x1024 .f32
  w13 : FVec F S1x1024 .f32
  w14 : FVec F S1x1024 .f32
  w15 : FVec F S1x1024x3328 .bf16
  w16 : FVec F S2x1536x1152 .bf16
  w17 : FVec F S1x1024 .f32

/-- `n` columns from `c` of the convolution half's input weights. -/
def kWc (w : FVec F S1x1024x4224 .bf16) (c n : ℕ) (h : c + n ≤ 4224) : FVec F ⟨3, ![1, 1024, n]⟩ .bf16 :=
  kLd w (Rect.unit (s := S1x1024x4224) ![0, 0, c] (⟨3, ![1, 1024, n]⟩ : Shape).size (inb3 (Nat.le_refl 1) (Nat.le_refl 1024) h))
/-- `n` columns from `c` of the attention half's input weights. -/
def kWa (w : FVec F S1x1024x3328 .bf16) (c n : ℕ) (h : c + n ≤ 3328) : FVec F ⟨3, ![1, 1024, n]⟩ .bf16 :=
  kLd w (Rect.unit (s := S1x1024x3328) ![0, 0, c] (⟨3, ![1, 1024, n]⟩ : Shape).size (inb3 (Nat.le_refl 1) (Nat.le_refl 1024) h))
/-- A layer's output weights. -/
def kWo (w : FVec F S2x1536x1152 .bf16) (l : ℕ) (h : l + 1 ≤ 2) : FVec F S1x1536x1024 .bf16 :=
  kLd w (Rect.unit (s := S2x1536x1152) ![l, 0, 0] S1x1536x1024.size (inb3 h (Nat.le_refl 1536) (by omega)))
/-- The elements of a tensor at a strided rectangle. -/
abbrev kLdS {S : Shape} {f : FTy} (X : FVec F S f) (r : LoadRect S) : FVec F r.shape f := fun x => X (r.idx x)

/-- Every fourth row from row `h` of a layer's memory of one stream lies inside the stored block. -/
theorem inbMem {l s h : ℕ} (hl : l < 2) (hs : s < 2) (hh : h < 4) :
    ∀ a, S1x1x256x128.size a = 0 ∨ (![l, s, h, 0] : Fin 4 → ℕ) a + (![1, 1, 4, 1] : Fin 4 → ℕ) a * (S1x1x256x128.size a - 1) < S2x2x1024x128.size a :=
  fun x => match x with
    | ⟨0, _⟩ => .inr hl
    | ⟨1, _⟩ => .inr hs
    | ⟨2, _⟩ => .inr (show h + 4 * 255 < 1024 by omega)
    | ⟨3, _⟩ => .inr (show 0 + 1 * 127 < 128 by omega)

/-- One head of a layer's memory keys or values of one stream. -/
def kMk1 (w : FVec F S2x2x1024x128 .f32) (l s h : ℕ) (hl : l < 2) (hs : s < 2) (hh : h < 4) : FVec F S256x128 .f32 :=
  shapeCast S256x128 (kLdS w (⟨![l, s, h, 0], S1x1x256x128.size, ![1, 1, 4, 1], inbMem hl hs hh⟩ : LoadRect S2x2x1024x128)) shapeCasts_S1x1x256x128_S256x128

/-- A layer's memory keys or values of one stream, its heads side by side. -/
def kMk (w : FVec F S2x2x1024x128 .f32) (l s : ℕ) (hl : l < 2) (hs : s < 2) : FVec F S256x512 .f32 :=
  concatenate S256x512 1 [⟨S256x128, kMk1 w l s 0 hl hs (by omega)⟩, ⟨S256x128, kMk1 w l s 1 hl hs (by omega)⟩,
    ⟨S256x128, kMk1 w l s 2 hl hs (by omega)⟩, ⟨S256x128, kMk1 w l s 3 hl hs (by omega)⟩]
    concatenates_S256x128_S256x128_S256x128_S256x128_S256x512_d1

/-- A layer's gain row. -/
def kNg (w : FVec F S2x1024 .f32) (l : ℕ) (h : l + 1 ≤ 2) : FVec F S1x1024 .f32 :=
  kLd w (Rect.unit (s := S2x1024) ![l, 0] S1x1024.size (inb2 h (Nat.le_refl 1024)))
/-- A row of 1024 read whole. -/
def kRow (w : FVec F S1x1024 .f32) : FVec F S1x1024 .f32 :=
  kLd w (Rect.unit (s := S1x1024) ![0, 0] S1x1024.size (inb2 (Nat.le_refl 1) (Nat.le_refl 1024)))
/-- A rotary table read whole. -/
def kTab (w : FVec F S32x128 .f32) : FVec F S32x128 .f32 :=
  kLd w (Rect.unit (s := S32x128) ![0, 0] S32x128.size (inb2 (Nat.le_refl 32) (Nat.le_refl 128)))
/-- The step's rows of the residual stream. -/
def kX (w : FVec F S2x64x1024 .f32) : FVec F S128x1024 .f32 :=
  shapeCast S128x1024 (kLd w (Rect.unit (s := S2x64x1024) ![0, 0, 0] S2x64x1024.size
    (inb3 (Nat.le_refl 2) (Nat.le_refl 64) (Nat.le_refl 1024)))) shapeCasts_S2x64x1024_S128x1024

/-- The convolution half's normalized rows. -/
def kH (W : Win F) : FVec F S128x1024 .bf16 := truncf .bf16 (kRms (kX W.w1) (kNg W.w9 0 (by omega))) bitsLt_bf16_f32

/-- The 256 columns from `c0` of the gated input. -/
def kU (W : Win F) (c0 : ℕ) (hc : c0 + 256 ≤ 1024) : FVec F S2x64x256 .f32 :=
  kGlu (kH W) (kWc W.w10 c0 256 (by omega)) (kWc W.w10 (1024 + c0) 256 (by omega))

/-- The residual stream after the convolution half, given the convolution's inputs block by block. -/
def kX1 (W : Win F) (U0 U1 U2 U3 : FVec F S2x96x1024 .f32) : FVec F S128x1024 .f32 :=
  let C : FVec F S128x1024 .f32 := concatenate S128x1024 1 [⟨S128x256, kConv U0 W.w11 W.w12 0 (by omega)⟩,
    ⟨S128x256, kConv U1 W.w11 W.w12 256 (by omega)⟩, ⟨S128x256, kConv U2 W.w11 W.w12 512 (by omega)⟩,
    ⟨S128x256, kConv U3 W.w11 W.w12 768 (by omega)⟩] concatenates_S128x256_S128x256_S128x256_S128x256_S128x1024_d1
  let M := mulf (kSilu (kLn C (kRow W.w13) (kRow W.w14))) (kSilu (kDot1024 (kH W) (kWc W.w10 2048 1024 (by omega))))
  let XO := mulf (kMem2 (kDot512 (kH W) (kWc W.w10 3072 512 (by omega))) (kMk W.w7 0 0 (by omega) (by omega)) (kMk W.w8 0 0 (by omega) (by omega))
      (kMk W.w7 0 1 (by omega) (by omega)) (kMk W.w8 0 1 (by omega) (by omega)))
    (kSilu (kDot512 (kH W) (kWc W.w10 3584 512 (by omega))))
  addf (kX W.w1) (kOut M XO (kWo W.w16 0 (by omega)))

/-- The attention half's normalized rows. -/
def kH2 (W : Win F) (X1 : FVec F S128x1024 .f32) : FVec F S128x1024 .bf16 := truncf .bf16 (kRms X1 (kNg W.w9 1 (by omega))) bitsLt_bf16_f32

/-- The step's keys. -/
def kK (W : Win F) (X1 : FVec F S128x1024 .f32) : FVec F S128x128 .f32 :=
  kRope (kDot128 (kH2 W X1) (kWa W.w15 1024 128 (by omega))) (kCos (kTab W.w2)) (kSin (kTab W.w3))

/-- The step's values. -/
def kV (W : Win F) (X1 : FVec F S128x1024 .f32) : FVec F S128x128 .f32 := kDot128 (kH2 W X1) (kWa W.w15 1152 128 (by omega))

/-- The step's queries. -/
def kQW (W : Win F) (X1 : FVec F S128x1024 .f32) : FVec F S128x1024 .f32 :=
  kQ (kDot1024 (kH2 W X1) (kWa W.w15 0 1024 (by omega))) (kScaled (kCos (kTab W.w2))) (kScaled (kSin (kTab W.w3)))

/-- The residual stream after the attention half. -/
def kX2 (W : Win F) (X1 O : FVec F S128x1024 .f32) : FVec F S128x1024 .f32 :=
  addf X1 (kOut (mulf O (kSilu (kDot1024 (kH2 W X1) (kWa W.w15 1280 1024 (by omega)))))
    (mulf (kMem2 (kDot512 (kH2 W X1) (kWa W.w15 2304 512 (by omega))) (kMk W.w7 1 0 (by omega) (by omega)) (kMk W.w8 1 0 (by omega) (by omega))
      (kMk W.w7 1 1 (by omega) (by omega)) (kMk W.w8 1 1 (by omega) (by omega)))
      (kSilu (kDot512 (kH2 W X1) (kWa W.w15 2816 512 (by omega))))) (kWo W.w16 1 (by omega)))

/-- The step's result rows. -/
def kY (W : Win F) (X1 O : FVec F S128x1024 .f32) : FVec F S2x64x1024 .f32 :=
  shapeCast S2x64x1024 (kRms (kX2 W X1 O) (shapeCast S1x1024 (kRow W.w17) shapeCasts_S1x1024_S1x1024)) shapeCasts_S128x1024_S2x64x1024

/-- A piece of the convolution's input: 256 columns of the new rows, after the 32 rows of history. -/
abbrev kUPiece (W : Win F) (c0 : ℕ) (hc : c0 + 256 ≤ 1024) : View.Piece (Elt F) S2x96x1024 .f32 :=
  ⟨Rect.unit (s := S2x96x1024) ![0, 32, c0] S2x64x256.size (inb3 (Nat.le_refl 2) (Nat.le_refl 96) hc), kU W c0 hc⟩

/-- What the scratch of the convolution's input holds once the first block is in. -/
def kUs0 (W : Win F) (L : List (View.Piece (Elt F) S2x96x1024 .f32)) := kUPiece W 0 (by omega) :: L
/-- … once the second is in. -/
def kUs1 (W : Win F) (L : List (View.Piece (Elt F) S2x96x1024 .f32)) := kUPiece W 256 (by omega) :: kUs0 W L
/-- … once the third is in. -/
def kUs2 (W : Win F) (L : List (View.Piece (Elt F) S2x96x1024 .f32)) := kUPiece W 512 (by omega) :: kUs1 W L
/-- … once all four are in. -/
def kUs3 (W : Win F) (L : List (View.Piece (Elt F) S2x96x1024 .f32)) := kUPiece W 768 (by omega) :: kUs2 W L

/-- The piece of the rows of history of head `h` of stream `s`. -/
abbrev kPieceH (h s : ℕ) (hh : h + 1 ≤ 2) (hs : s + 1 ≤ 2) (X : FVec F S1x1x128x128 .bf16) : View.Piece (Elt F) S2x2x192x128 .bf16 :=
  ⟨Rect.unit (s := S2x2x192x128) ![h, s, 0, 0] S1x1x128x128.size (inb4 hh hs (by omega) (Nat.le_refl 128)), X⟩
/-- The piece of the new rows of head `h` of stream `s`. -/
abbrev kPieceN (h s : ℕ) (hh : h + 1 ≤ 2) (hs : s + 1 ≤ 2) (X : FVec F S1x1x64x128 .bf16) : View.Piece (Elt F) S2x2x192x128 .bf16 :=
  ⟨Rect.unit (s := S2x2x192x128) ![h, s, 128, 0] S1x1x64x128.size (inb4 hh hs (Nat.le_refl 192) (Nat.le_refl 128)), X⟩

/-- The stores into a scratch of keys or values, the last first. -/
def kFill (h00 h10 h01 h11 : FVec F S1x1x128x128 .bf16) (n00 n10 n01 n11 : FVec F S1x1x64x128 .bf16) : List (View.Piece (Elt F) S2x2x192x128 .bf16) :=
  [kPieceN 1 1 (by omega) (by omega) n11, kPieceN 0 1 (by omega) (by omega) n01, kPieceN 1 0 (by omega) (by omega) n10, kPieceN 0 0 (by omega) (by omega) n00,
   kPieceH 1 1 (by omega) (by omega) h11, kPieceH 0 1 (by omega) (by omega) h01, kPieceH 1 0 (by omega) (by omega) h10, kPieceH 0 0 (by omega) (by omega) h00]

/-- The rows of history of stream `s`. -/
def kOld (w : FVec F S1x2x128x128 .f32) (s : ℕ) (hs : s + 1 ≤ 2) : FVec F S128x128 .f32 :=
  shapeCast S128x128 (kLd w (Rect.unit (s := S1x2x128x128) ![0, s, 0, 0] S1x1x128x128.size
    (inb4 (Nat.le_refl 1) hs (Nat.le_refl 128) (Nat.le_refl 128)))) shapeCasts_S1x1x128x128_S128x128

/-- The first stream's new rows. -/
def kNew0 (K : FVec F S128x128 .f32) : FVec F S64x128 .f32 := extractStridedSlice S64x128 ![0, 0] K slices_S128x128_o0_0_S64x128
/-- The second stream's new rows. -/
def kNew1 (K : FVec F S128x128 .f32) : FVec F S64x128 .f32 := extractStridedSlice S64x128 ![64, 0] K slices_S128x128_o64_0_S64x128

/-- The stores over the low lanes, from the history and the new rows. -/
def kFillA (w : FVec F S1x2x128x128 .f32) (K : FVec F S128x128 .f32) : List (View.Piece (Elt F) S2x2x192x128 .bf16) :=
  kFill (kHistA0 (kOld w 0 (by omega))) (kHistA1 (kOld w 0 (by omega))) (kHistA0 (kOld w 1 (by omega))) (kHistA1 (kOld w 1 (by omega)))
    (kNewA0 (kNew0 K)) (kNewA1 (kNew0 K)) (kNewA0 (kNew1 K)) (kNewA1 (kNew1 K))
/-- The stores over the high lanes, from the history and the new rows. -/
def kFillB (w : FVec F S1x2x128x128 .f32) (K : FVec F S128x128 .f32) : List (View.Piece (Elt F) S2x2x192x128 .bf16) :=
  kFill (kHistB0 (kOld w 0 (by omega))) (kHistB1 (kOld w 0 (by omega))) (kHistB0 (kOld w 1 (by omega))) (kHistB1 (kOld w 1 (by omega)))
    (kNewB0 (kNew0 K)) (kNewB1 (kNew0 K)) (kNewB0 (kNew1 K)) (kNewB1 (kNew1 K))

/-- What is read of a buffer after some stores. -/
abbrev kRd {S : Shape} {e : EltTy} (v : View sig .tc .vmem S e) (f : v.ty.Contents (Elt F)) (L : List (View.Piece (Elt F) S e)) : S.Idx → Elt F e :=
  v.read (Elt F) (v.writes (Elt F) f L)

/-- The residual stream after the convolution half, from what the scratch of its input held before. -/
def kX1' (W : Win F) (v : View sig .tc .vmem S2x96x1024 .f32) (f : v.ty.Contents (Elt F)) (L : List (View.Piece (Elt F) S2x96x1024 .f32)) :
    FVec F S128x1024 .f32 :=
  kX1 W (kRd v f (kUs0 W L)) (kRd v f (kUs1 W L)) (kRd v f (kUs2 W L)) (kRd v f (kUs3 W L))

/-- The windowed attention of a step, from the stores into the four scratches. -/
def kSwa' (W : Win F) (X1 : FVec F S128x1024 .f32) (v1 v2 v3 v4 : View sig .tc .vmem S2x2x192x128 .bf16) : FVec F S128x1024 .f32 :=
  kSwa (kQW W X1) (kRd v1 v1.junk (kFillA W.w5 (kK W X1))) (kRd v2 v2.junk (kFillB W.w5 (kK W X1)))
    (kRd v3 v3.junk (kFillA W.w6 (kV W X1))) (kRd v4 v4.junk (kFillB W.w6 (kV W X1))) W.w0

/-- The convolution's history, as it is stored before the new rows. -/
def kUHist (W : Win F) : List (View.Piece (Elt F) S2x96x1024 .f32) :=
  [⟨Rect.unit (s := S2x96x1024) ![0, 2, 0] S2x30x1024.size (inb3 (Nat.le_refl 2) (by omega) (Nat.le_refl 1024)),
    shapeCast S2x30x1024 (shapeCast S2x30x1024 (kLd W.w4 (Rect.unit (s := S1x2x30x1024) ![0, 0, 0, 0] S1x2x30x1024.size
      (inb4 (Nat.le_refl 1) (Nat.le_refl 2) (Nat.le_refl 30) (Nat.le_refl 1024)))) shapeCasts_S1x2x30x1024_S2x30x1024) shapeCasts_S2x30x1024_S2x30x1024⟩]

/-- The last 30 rows of the convolution's input. -/
def kConvOut (U : FVec F S2x96x1024 .f32) : FVec F S1x2x30x1024 .f32 :=
  shapeCast S1x2x30x1024 (kLd U (Rect.unit (s := S2x96x1024) ![0, 66, 0] S2x30x1024.size
    (inb3 (Nat.le_refl 2) (Nat.le_refl 96) (Nat.le_refl 1024)))) shapeCasts_S2x30x1024_S1x2x30x1024

/-- The last 128 rows of a stream's keys or values: half from the history and half new. -/
def kLast (w : FVec F S1x2x128x128 .f32) (s : ℕ) (hs : s + 1 ≤ 2) (N : FVec F S64x128 .f32) : FVec F S1x1x128x128 .f32 :=
  shapeCast S1x1x128x128 (concatenate S128x128 0 [⟨S64x128, shapeCast S64x128 (kLd w (Rect.unit (s := S1x2x128x128) ![0, s, 64, 0] S1x1x64x128.size
    (inb4 (Nat.le_refl 1) hs (Nat.le_refl 128) (Nat.le_refl 128)))) shapeCasts_S1x1x64x128_S64x128⟩, ⟨S64x128, N⟩]
    concatenates_S64x128_S64x128_S128x128_d0) shapeCasts_S128x128_S1x1x128x128

/-- The stores into a result of keys or values, the last first. -/
def kLasts (w : FVec F S1x2x128x128 .f32) (K : FVec F S128x128 .f32) : List (View.Piece (Elt F) S1x2x128x128 .f32) :=
  [⟨Rect.unit (s := S1x2x128x128) ![0, 1, 0, 0] S1x1x128x128.size (inb4 (Nat.le_refl 1) (Nat.le_refl 2) (Nat.le_refl 128) (Nat.le_refl 128)), kLast w 1 (by omega) (kNew1 K)⟩,
   ⟨Rect.unit (s := S1x2x128x128) ![0, 0, 0, 0] S1x1x128x128.size (inb4 (Nat.le_refl 1) (by omega) (Nat.le_refl 128) (Nat.le_refl 128)), kLast w 0 (by omega) (kNew0 K)⟩]

end Cert.SampleIdeal.Trunk
-- ==== Proof.SampleFits.lean ====
module

public import proofs.«01_k».proof.Proof.SampleBody
public import proofs.«01_k».proof.Proof.Finals
public import proofs.«01_k».proof.Proof.Gen.SampleReferenceIdeal.Read

@[expose] public section

set_option maxRecDepth 16384

/-! # The sample kernel's blocks, against its reference's arrays -/

noncomputable section

namespace Cert.SampleIdeal.Trunk

open Idealize.ShloMosaic Idealize.ShloMosaic.TcCoe Idealize.SL.Sem
open Idealize.ShloMosaic.Pipeline (Dat)
open Cert.SampleIdeal Cert.SampleIdeal.Gen Cert.SampleReferenceIdeal.Read
open Cert.KernelIdeal.Trunk (IsR rmsRow rmsRow_real lnRow memRow ropeRow ropeRow_real angle ix3_ext ix4_ext ix5_ext fold193 ofBits_eighth kLd kLd2 kLd3 kLd4 inb2 inb3 inb4)

/-- A stacked row's stream. -/
abbrev st (T : Fin 8) (r : Fin 128) : Fin 16 := ⟨2 * T.val + r.val / 64, by omega⟩
/-- A stacked row's position among the new ones. -/
abbrev po (r : Fin 128) : Fin 64 := ⟨r.val % 64, by omega⟩

/-- The arguments whose entries the proof needs to be real: the cached and memory keys, the gains, the input weights and the sinks. -/
structure Reals (x2 : FVec Ideal Cert.SampleReferenceIdeal.S1x16x128x2x64 .f32) (x4 : FVec Ideal Cert.SampleReferenceIdeal.S2x16x256x4x128 .f32) (x6 : FVec Ideal Cert.SampleReferenceIdeal.S2x1024 .f32) (x7 : FVec Ideal Cert.SampleReferenceIdeal.S1x1024x4096 .f32) (x12 : FVec Ideal Cert.SampleReferenceIdeal.S1x1024x3328 .f32) (x13 : FVec Ideal Cert.SampleReferenceIdeal.S1x16 .f32) : Prop where
  r2 : ∀ i, IsR (x2 i)
  r4 : ∀ i, IsR (x4 i)
  r6 : ∀ i, IsR (x6 i)
  r7 : ∀ i, IsR (x7 i)
  r12 : ∀ i, IsR (x12 i)
  r13 : ∀ i, IsR (x13 i)

/-- What step `T`'s blocks hold, entry by entry, of the kernel's arguments. -/
structure Fits (W : Win Ideal) (T : Fin 8) (x0 : FVec Ideal Cert.SampleReferenceIdeal.S16x64x1024 .f32) (x1 : FVec Ideal Cert.SampleReferenceIdeal.S1x16x30x1024 .f32) (x2 : FVec Ideal Cert.SampleReferenceIdeal.S1x16x128x2x64 .f32) (x3 : FVec Ideal Cert.SampleReferenceIdeal.S1x16x128x2x64 .f32) (x4 : FVec Ideal Cert.SampleReferenceIdeal.S2x16x256x4x128 .f32) (x5 : FVec Ideal Cert.SampleReferenceIdeal.S2x16x256x4x128 .f32) (x6 : FVec Ideal Cert.SampleReferenceIdeal.S2x1024 .f32) (x7 : FVec Ideal Cert.SampleReferenceIdeal.S1x1024x4096 .f32) (x8 : FVec Ideal Cert.SampleReferenceIdeal.S1x31x1024 .f32) (x9 : FVec Ideal Cert.SampleReferenceIdeal.S1x1024 .f32) (x10 : FVec Ideal Cert.SampleReferenceIdeal.S1x1024 .f32) (x11 : FVec Ideal Cert.SampleReferenceIdeal.S1x1024 .f32) (x12 : FVec Ideal Cert.SampleReferenceIdeal.S1x1024x3328 .f32) (x13 : FVec Ideal Cert.SampleReferenceIdeal.S1x16 .f32) (x14 : FVec Ideal Cert.SampleReferenceIdeal.S2x1536x1024 .f32) (x15 : FVec Ideal Cert.SampleReferenceIdeal.S1024 .f32) : Prop where
  h0 : ∀ k : Fin 16, W.w0 (ix1 k) = x13 (ix2 0 k)
  h1 : ∀ (s : Fin 2) (n : Fin 64) (d : Fin 1024), W.w1 (ix3 s n d) = x0 (ix3 ⟨2 * T.val + s.val, by omega⟩ n d)
  h2 : ∀ (j : Fin 32) (r : Fin 128), W.w2 (ix2 j r) = Ideal.cos (angle (2048 + r.val) j.val)
  h3 : ∀ (j : Fin 32) (r : Fin 128), W.w3 (ix2 j r) = Ideal.sin (angle (2048 + r.val) j.val)
  h4 : ∀ (s : Fin 2) (r : Fin 30) (d : Fin 1024), W.w4 (ix4 0 s r d) = x1 (ix4 0 ⟨2 * T.val + s.val, by omega⟩ r d)
  h5 : ∀ (s : Fin 2) (r d : Fin 128), W.w5 (ix4 0 s r d) = x2 (ix5 0 ⟨2 * T.val + s.val, by omega⟩ r ⟨d.val / 64, by omega⟩ ⟨d.val % 64, by omega⟩)
  h6 : ∀ (s : Fin 2) (r d : Fin 128), W.w6 (ix4 0 s r d) = x3 (ix5 0 ⟨2 * T.val + s.val, by omega⟩ r ⟨d.val / 64, by omega⟩ ⟨d.val % 64, by omega⟩)
  h7 : ∀ (l s : Fin 2) (k : Fin 1024) (e : Fin 128), W.w7 (ix4 l s k e) = x4 (ix5 l ⟨2 * T.val + s.val, by omega⟩ ⟨k.val / 4, by omega⟩ ⟨k.val % 4, by omega⟩ e)
  h8 : ∀ (l s : Fin 2) (k : Fin 1024) (e : Fin 128), W.w8 (ix4 l s k e) = x5 (ix5 l ⟨2 * T.val + s.val, by omega⟩ ⟨k.val / 4, by omega⟩ ⟨k.val % 4, by omega⟩ e)
  h9 : ∀ (l : Fin 2) (d : Fin 1024), W.w9 (ix2 l d) = x6 (ix2 l d)
  h10 : ∀ (k : Fin 1024) (d : Fin 4096), W.w10 (ix3 0 k ⟨d.val, by omega⟩) = x7 (ix3 0 k d)
  h11 : ∀ (k : Fin 31) (d : Fin 1024), W.w11 (ix3 0 k d) = x8 (ix3 0 k d)
  h12 : ∀ d : Fin 1024, W.w12 (ix2 0 d) = x9 (ix2 0 d)
  h13 : ∀ d : Fin 1024, W.w13 (ix2 0 d) = x10 (ix2 0 d)
  h14 : ∀ d : Fin 1024, W.w14 (ix2 0 d) = x11 (ix2 0 d)
  h15 : ∀ (k : Fin 1024) (d : Fin 3328), W.w15 (ix3 0 k d) = x12 (ix3 0 k d)
  h16 : ∀ (l : Fin 2) (k : Fin 1536) (d : Fin 1024), W.w16 (ix3 l k ⟨d.val, by omega⟩) = x14 (ix3 l k d)
  h17 : ∀ d : Fin 1024, W.w17 (ix2 0 d) = x15 (ix1 d)

end Cert.SampleIdeal.Trunk
-- ==== Proof.SampleParts.lean ====
module

public import proofs.«01_k».proof.Proof.SampleFits

@[expose] public section

set_option maxRecDepth 16384

/-! # The sample step's parts at an index -/

noncomputable section

namespace Cert.SampleIdeal.Trunk

open Idealize.ShloMosaic Idealize.ShloMosaic.TcCoe Idealize.SL.Sem
open Idealize.ShloMosaic.Pipeline (Dat)
open Cert.SampleIdeal Cert.SampleIdeal.Gen Cert.SampleReferenceIdeal.Read
open Cert.KernelIdeal.Trunk (IsR rmsRow rmsRow_real lnRow memRow ropeRow ropeRow_real angle ix3_ext ix4_ext ix5_ext fold193 ofBits_eighth kLd kLd2 kLd3 kLd4 inb2 inb3 inb4)
open Cert.KernelIdeal.Trunk (kSilu kLo64 kLog kLog_pos sum_mul_real soft_mem ofBits_128 kLd_at cols8_at select_set select_clear kLo64_at)

/-- The root-mean-square normalization at an index. -/
theorem kRms_at (X : FVec Ideal S128x1024 .f32) (G : FVec Ideal S1x1024 .f32) (r : Fin 128) (d : Fin 1024) :
    kRms X G (ix2 r d) = rmsRow (fun k => X (ix2 r k)) d * G (ix2 0 d) := by
  unfold rmsRow
  pointwise [kRms, kScaleRsqrt, kMean]

/-- 1024 columns of the projection at an index. -/
theorem kDot1024_at (H : FVec Ideal S128x1024 .bf16) (w : FVec Ideal S1x1024x1024 .bf16) (r : Fin 128) (d : Fin 1024) :
    kDot1024 H w (ix2 r d) = ∑ k : Fin 1024, H (ix2 r k) * w (ix3 0 k d) := by pointwise [kDot1024]

/-- 512 columns of the projection at an index. -/
theorem kDot512_at (H : FVec Ideal S128x1024 .bf16) (w : FVec Ideal S1x1024x512 .bf16) (r : Fin 128) (d : Fin 512) :
    kDot512 H w (ix2 r d) = ∑ k : Fin 1024, H (ix2 r k) * w (ix3 0 k d) := by pointwise [kDot512]

/-- 128 columns of the projection at an index. -/
theorem kDot128_at (H : FVec Ideal S128x1024 .bf16) (w : FVec Ideal S1x1024x128 .bf16) (r : Fin 128) (d : Fin 128) :
    kDot128 H w (ix2 r d) = ∑ k : Fin 1024, H (ix2 r k) * w (ix3 0 k d) := by pointwise [kDot128]

/-- The gated input at an index. -/
theorem kGlu_at (H : FVec Ideal S128x1024 .bf16) (wa wg : FVec Ideal S1x1024x256 .bf16) (s : Fin 2) (i : Fin 64) (d : Fin 256) :
    kGlu H wa wg (ix3 s i d) = (∑ k : Fin 1024, H (ix2 ⟨s.val * 64 + i.val, by omega⟩ k) * wa (ix3 0 k d)) *
      Ideal.logistic (∑ k : Fin 1024, H (ix2 ⟨s.val * 64 + i.val, by omega⟩ k) * wg (ix3 0 k d)) := by
  pointwise [kGlu, kDot256]

/-- The convolution at an index: its bias and 31 taps. -/
theorem kConv_at (U : FVec Ideal S2x96x1024 .f32) (cw : FVec Ideal S1x31x1024 .f32) (cb : FVec Ideal S1x1024 .f32) (c0 : ℕ) (hc : c0 + 256 ≤ 1024)
    (r : Fin 128) (d : Fin 256) : kConv U cw cb c0 hc (ix2 r d) = (∑ k : Fin 31, U (ix3 ⟨r.val / 64, by omega⟩ ⟨2 + k.val + r.val % 64, by omega⟩ ⟨c0 + d.val, by omega⟩) *
      cw (ix3 0 k ⟨c0 + d.val, by omega⟩)) + cb (ix2 0 ⟨c0 + d.val, by omega⟩) := by
  obtain ⟨u, hu⟩ : ∃ u : ℕ → EReal, ∀ i (h : i < 96), U (ix3 ⟨r.val / 64, by omega⟩ ⟨i, h⟩ ⟨c0 + d.val, by omega⟩) = u i :=
    ⟨fun i => if h : i < 96 then U (ix3 ⟨r.val / 64, by omega⟩ ⟨i, h⟩ ⟨c0 + d.val, by omega⟩) else 0, fun i h => by beta_reduce; rw [dif_pos h]⟩
  obtain ⟨w, hw⟩ : ∃ w : ℕ → EReal, ∀ i (h : i < 31), cw (ix3 0 ⟨i, h⟩ ⟨c0 + d.val, by omega⟩) = w i :=
    ⟨fun i => if h : i < 31 then cw (ix3 0 ⟨i, h⟩ ⟨c0 + d.val, by omega⟩) else 0, fun i h => by beta_reduce; rw [dif_pos h]⟩
  have hr : ∑ k : Fin 31, U (ix3 ⟨r.val / 64, by omega⟩ ⟨2 + k.val + r.val % 64, by omega⟩ ⟨c0 + d.val, by omega⟩) * cw (ix3 0 k ⟨c0 + d.val, by omega⟩) =
      ∑ k ∈ Finset.range 31, u (2 + k + r.val % 64) * w k := by
    rw [← Fin.sum_univ_eq_sum_range (fun k => u (2 + k + r.val % 64) * w k)]
    exact Finset.sum_congr rfl fun k _ => by rw [← hu _ (by omega), ← hw _ k.isLt]
  have hU : ∀ (lo n : ℕ) (inb : ∀ a, (![0, lo, c0] : Fin 3 → ℕ) a + (![2, n, 256] : Fin 3 → ℕ) a ≤ (⟨3, ![2, 96, 1024]⟩ : Shape).size a) (i : Fin n),
      kLd U (Rect.unit (s := S2x96x1024) ![0, lo, c0] ![2, n, 256] inb) (ix3 ⟨r.val / 64, by omega⟩ i d) = u (lo + i.val) := fun lo n inb i => by
    rw [← hu _ (by have := inb 1; simp at this; omega)]
    exact (kLd3 U inb ⟨r.val / 64, by omega⟩ i d).trans (congrArg U (ix3_ext (Nat.zero_add _) rfl rfl))
  have hC : ∀ (k : ℕ) (inb : ∀ a, (![0, k, c0] : Fin 3 → ℕ) a + (![1, 1, 256] : Fin 3 → ℕ) a ≤ (⟨3, ![1, 31, 1024]⟩ : Shape).size a),
      kLd cw (Rect.unit (s := S1x31x1024) ![0, k, c0] ![1, 1, 256] inb) (ix3 0 0 d) = w k := fun k inb => by
    rw [← hw _ (by have := inb 1; simp at this; omega)]
    exact kLd3 cw inb 0 0 d
  have hB : ∀ inb, kLd cb (Rect.unit (s := S1x1024) ![0, c0] ![1, 256] inb) (ix2 0 d) = cb (ix2 0 ⟨c0 + d.val, by omega⟩) := fun inb =>
    kLd2 cb inb 0 d
  rw [hr]
  pointwise [kConv, kPart4, kPart3, kTap, kCw]
  simp only [hU, hC, hB, Finset.sum_range_succ, Finset.sum_range_zero, ← Nat.add_assoc, Nat.reduceAdd, zero_add]
  ac_rfl

/-- The layer normalization at an index. -/
theorem kLn_at (X : FVec Ideal S128x1024 .f32) (G B : FVec Ideal S1x1024 .f32) (r : Fin 128) (d : Fin 1024) :
    kLn X G B (ix2 r d) = lnRow (fun k => X (ix2 r k)) d * G (ix2 0 d) + B (ix2 0 d) := by
  unfold lnRow
  pointwise [kLn, kCenter, kScaleRsqrt, kMean]

/-- The output product at an index. -/
theorem kOut_at (M : FVec Ideal S128x1024 .f32) (XO : FVec Ideal S128x512 .f32) (w : FVec Ideal S1x1536x1024 .bf16) (r : Fin 128) (d : Fin 1024) :
    kOut M XO w (ix2 r d) = (∑ k : Fin 1024, M (ix2 r k) * w (ix3 0 ⟨k.val, by omega⟩ d)) + ∑ k : Fin 512, XO (ix2 r k) * w (ix3 0 ⟨1024 + k.val, by omega⟩ d) := by
  pointwise [kOut]

/-- A memory head at an index. -/
theorem kMemHead_at (Q : FVec Ideal S64x512 .f32) (K V : FVec Ideal S256x512 .f32) (o : ℕ) (ho : o + 128 ≤ 512) (hs : S64x512.Slices ![0, o] S64x128) (hk : S256x512.Slices ![0, o] S256x128)
    (r : Fin 64) (d : Fin 128) (hQ : ∀ e, IsR (Q (ix2 r e))) (hK : ∀ m e, IsR (K (ix2 m e))) :
    kMemHead Q K V ![0, o] hs hk (ix2 r d) = memRow (fun e => Q (ix2 r ⟨o + e.val, by omega⟩)) (fun m e => K (ix2 m ⟨o + e.val, by omega⟩))
      (fun m => V (ix2 m ⟨o + d.val, by omega⟩)) := by
  have hc : Named.named (F := Ideal) κ (φ := .f32) "mem_scale" 1040356334#32 = ((kLog * (Real.sqrt 128)⁻¹ : ℝ) : EReal) := by
    simp [Named.named, κ, kLog]
  have hr : Ideal.div 1 (Ideal.sqrt (Ideal.ofBits .f32 1124073472#32)) = (((Real.sqrt 128)⁻¹ : ℝ) : EReal) := by
    rw [ofBits_128]
    show Ideal.div 1 (if (128 : ℝ) < 0 then ⊥ else ((Real.sqrt 128 : ℝ) : EReal)) = _
    rw [if_neg (by norm_num), Ideal.div, if_neg (by simp [Real.sqrt_eq_zero']), one_mul, ← EReal.coe_inv]
  have hp : (0 : ℝ) ≤ kLog * (Real.sqrt 128)⁻¹ := mul_nonneg kLog_pos.le (by positivity)
  have hsum : ∀ m : Fin 256, (∑ e : Fin 128, Q (ix2 r ⟨o + e.val, by omega⟩) * ((kLog * (Real.sqrt 128)⁻¹ : ℝ) : EReal) * K (ix2 m ⟨o + e.val, by omega⟩)) =
      (∑ e : Fin 128, Q (ix2 r ⟨o + e.val, by omega⟩) * K (ix2 m ⟨o + e.val, by omega⟩)) * (((Real.sqrt 128)⁻¹ : ℝ) : EReal) * (kLog : EReal) := fun m => by
    rw [mul_assoc, ← EReal.coe_mul, mul_comm _ kLog, sum_mul_real _ _ hp]
    exact Finset.sum_congr rfl fun e _ => mul_right_comm _ _ _
  have hb : Ideal.ofBits .f32 4286578688#32 = ⊥ := by simp [Ideal.ofBits, Ideal.ieee]
  unfold memRow
  pointwise [kMemHead, kMemP, kMemScore]
  simp only [hc, hr, hsum, hb]
  exact soft_mem _ _ fun m => (IsR.sum _ fun e _ => (hQ _).mul (hK _ _)).mul (IsR.coe _)

/-- The attention over the memory at an index. -/
theorem kMem_at (Q : FVec Ideal S64x512 .f32) (K V : FVec Ideal S256x512 .f32)
    (r : Fin 64) (d : Fin 512) (hQ : ∀ e, IsR (Q (ix2 r e))) (hK : ∀ m e, IsR (K (ix2 m e))) :
    kMem Q K V (ix2 r d) = memRow (fun e => Q (ix2 r ⟨d.val / 128 * 128 + e.val, by omega⟩)) (fun m e => K (ix2 m ⟨d.val / 128 * 128 + e.val, by omega⟩))
      (fun m => V (ix2 m d)) := by
  have key : ∀ (o : ℕ) (ho : o + 128 ≤ 512) (hs : S64x512.Slices ![0, o] S64x128) (hk : S256x512.Slices ![0, o] S256x128) (e : Fin 128), o % 128 = 0 → d.val = o + e.val →
      kMemHead Q K V ![0, o] hs hk (ix2 r e) = memRow (fun e => Q (ix2 r ⟨d.val / 128 * 128 + e.val, by omega⟩))
        (fun m e => K (ix2 m ⟨d.val / 128 * 128 + e.val, by omega⟩)) (fun m => V (ix2 m d)) := fun o ho hs hk e h0 he => by
    rw [kMemHead_at Q K V o ho hs hk r e hQ hK]
    have h1 : d.val / 128 * 128 = o := by omega
    have h2 : d = ⟨o + e.val, by omega⟩ := Fin.ext he
    simp only [h1, ← h2]
  pointwise [kMem]
  by_cases h1 : d.val < 128
  · rw [dif_pos h1]
    exact key 0 (by omega) slices_S64x512_o0_0_S64x128 slices_S256x512_o0_0_S256x128 ⟨d.val, by omega⟩ (by omega) (by show d.val = 0 + d.val; omega)
  rw [dif_neg h1]
  by_cases h2 : d.val - 128 < 128
  · rw [dif_pos h2]
    exact key 128 (by omega) slices_S64x512_o0_128_S64x128 slices_S256x512_o0_128_S256x128 ⟨d.val - 128, by omega⟩ (by omega) (by show d.val = 128 + (d.val - 128); omega)
  rw [dif_neg h2]
  by_cases h3 : d.val - 128 - 128 < 128
  · rw [dif_pos h3]
    exact key 256 (by omega) slices_S64x512_o0_256_S64x128 slices_S256x512_o0_256_S256x128 ⟨d.val - 128 - 128, by omega⟩ (by omega) (by show d.val = 256 + (d.val - 128 - 128); omega)
  rw [dif_neg h3]
  exact key 384 (by omega) slices_S64x512_o0_384_S64x128 slices_S256x512_o0_384_S256x128 ⟨d.val - 128 - 128 - 128, by omega⟩ (by omega) (by show d.val = 384 + (d.val - 128 - 128 - 128); omega)

/-- Two streams' rows, one block under the other. -/
theorem rows2_512 (A B : FVec Ideal S64x512 .f32) (r : Fin 128) (d : Fin 512) (g : Fin 128 → EReal)
    (hA : ∀ i : Fin 64, A (ix2 i d) = g ⟨i.val, by omega⟩) (hB : ∀ i : Fin 64, B (ix2 i d) = g ⟨64 + i.val, by omega⟩) :
    concatenate S128x512 0 [⟨S64x512, A⟩, ⟨S64x512, B⟩] concatenates_S64x512_S64x512_S128x512_d0 (ix2 r d) = g r := by
  pointwise []
  by_cases h : r.val < 64
  · rw [dif_pos h]
    exact hA ⟨r.val, h⟩
  · rw [dif_neg h]
    exact (hB ⟨r.val - 64, by omega⟩).trans (congrArg g (Fin.ext (by show 64 + (r.val - 64) = r.val; omega)))

/-- Two streams' rows, one block under the other. -/
theorem rows2_1024 (A B : FVec Ideal S64x1024 .f32) (r : Fin 128) (d : Fin 1024) (g : Fin 128 → EReal)
    (hA : ∀ i : Fin 64, A (ix2 i d) = g ⟨i.val, by omega⟩) (hB : ∀ i : Fin 64, B (ix2 i d) = g ⟨64 + i.val, by omega⟩) :
    concatenate S128x1024 0 [⟨S64x1024, A⟩, ⟨S64x1024, B⟩] concatenates_S64x1024_S64x1024_S128x1024_d0 (ix2 r d) = g r := by
  pointwise []
  by_cases h : r.val < 64
  · rw [dif_pos h]
    exact hA ⟨r.val, h⟩
  · rw [dif_neg h]
    exact (hB ⟨r.val - 64, by omega⟩).trans (congrArg g (Fin.ext (by show 64 + (r.val - 64) = r.val; omega)))

/-- Both streams' attention over their memories at an index. -/
theorem kMem2_at (Q : FVec Ideal S128x512 .f32) (K V : Fin 2 → FVec Ideal S256x512 .f32)
    (r : Fin 128) (d : Fin 512) (hQ : ∀ r e, IsR (Q (ix2 r e))) (hK : ∀ s m e, IsR (K s (ix2 m e))) :
    kMem2 Q (K 0) (V 0) (K 1) (V 1) (ix2 r d) = memRow (fun e => Q (ix2 r ⟨d.val / 128 * 128 + e.val, by omega⟩))
      (fun m e => K ⟨r.val / 64, by omega⟩ (ix2 m ⟨d.val / 128 * 128 + e.val, by omega⟩)) (fun m => V ⟨r.val / 64, by omega⟩ (ix2 m d)) := by
  have h0 : ∀ (i : Fin 64) (e : Fin 512), extractStridedSlice S64x512 ![0, 0] Q slices_S128x512_o0_0_S64x512 (ix2 i e) = Q (ix2 ⟨i.val, by omega⟩ e) :=
    fun i e => by pointwise []
  have h1 : ∀ (i : Fin 64) (e : Fin 512), extractStridedSlice S64x512 ![64, 0] Q slices_S128x512_o64_0_S64x512 (ix2 i e) = Q (ix2 ⟨64 + i.val, by omega⟩ e) :=
    fun i e => by pointwise []
  unfold kMem2
  refine rows2_512 _ _ r d (fun r => memRow (fun e => Q (ix2 r ⟨d.val / 128 * 128 + e.val, by omega⟩))
      (fun m e => K ⟨r.val / 64, by omega⟩ (ix2 m ⟨d.val / 128 * 128 + e.val, by omega⟩)) (fun m => V ⟨r.val / 64, by omega⟩ (ix2 m d))) (fun i => ?_) (fun i => ?_)
  · have e : (⟨i.val / 64, by omega⟩ : Fin 2) = 0 := Fin.ext (by show i.val / 64 = 0; omega)
    rw [kMem_at _ _ _ i d (fun e => by rw [h0]; exact hQ _ _) (hK 0)]
    simp only [h0, e]
  · have e : (⟨(64 + i.val) / 64, by omega⟩ : Fin 2) = 1 := Fin.ext (by show (64 + i.val) / 64 = 1; omega)
    rw [kMem_at _ _ _ i d (fun e => by rw [h1]; exact hQ _ _) (hK 1)]
    simp only [h1, e]

/-- One head of a stream's memory at an index. -/
theorem kMk1_at (w : FVec Ideal S2x2x1024x128 .f32) (l s h : ℕ) (hl : l < 2) (hs : s < 2) (hh : h < 4) (m : Fin 256) (e : Fin 128) :
    kMk1 w l s h hl hs hh (ix2 m e) = w (ix4 ⟨l, hl⟩ ⟨s, hs⟩ ⟨4 * m.val + h, by omega⟩ e) := by
  have hc : ∀ X : FVec Ideal S1x1x256x128 .f32, shapeCast S256x128 X shapeCasts_S1x1x256x128_S256x128 (ix2 m e) = X (ix4 0 0 m e) := fun X => by pointwise []
  refine (hc _).trans (congrArg w (funext fun a => Fin.ext ?_))
  match a with
  | ⟨0, _⟩ => rfl
  | ⟨1, _⟩ => rfl
  | ⟨2, _⟩ => show h + 4 * m.val = 4 * m.val + h; omega
  | ⟨3, _⟩ => show 0 + 1 * e.val = e.val; omega

/-- A stream's memory at an index. -/
theorem kMk_at (w : FVec Ideal S2x2x1024x128 .f32) (l s : ℕ) (hl : l < 2) (hs : s < 2) (m : Fin 256) (e : Fin 512) :
    kMk w l s hl hs (ix2 m e) = w (ix4 ⟨l, hl⟩ ⟨s, hs⟩ ⟨4 * m.val + e.val / 128, by omega⟩ ⟨e.val % 128, by omega⟩) := by
  have key : ∀ (h : ℕ) (hh : h < 4) (k : Fin 128), e.val = 128 * h + k.val →
      kMk1 w l s h hl hs hh (ix2 m k) = w (ix4 ⟨l, hl⟩ ⟨s, hs⟩ ⟨4 * m.val + e.val / 128, by omega⟩ ⟨e.val % 128, by omega⟩) := fun h hh k he =>
    (kMk1_at w l s h hl hs hh m k).trans (congrArg w (ix4_ext rfl rfl (by show 4 * m.val + h = 4 * m.val + e.val / 128; omega) (by show k.val = e.val % 128; omega)))
  unfold kMk
  pointwise []
  by_cases h1 : e.val < 128
  · rw [dif_pos h1]
    exact key 0 (by omega) ⟨e.val, h1⟩ (by show e.val = 128 * 0 + e.val; omega)
  rw [dif_neg h1]
  by_cases h2 : e.val - 128 < 128
  · rw [dif_pos h2]
    exact key 1 (by omega) ⟨e.val - 128, h2⟩ (by show e.val = 128 * 1 + (e.val - 128); omega)
  rw [dif_neg h2]
  by_cases h3 : e.val - 128 - 128 < 128
  · rw [dif_pos h3]
    exact key 2 (by omega) ⟨e.val - 128 - 128, h3⟩ (by show e.val = 128 * 2 + (e.val - 128 - 128); omega)
  rw [dif_neg h3]
  exact key 3 (by omega) ⟨e.val - 128 - 128 - 128, by omega⟩ (by show e.val = 128 * 3 + (e.val - 128 - 128 - 128); omega)

/-- A stacked row of the step's input. -/
theorem kX_at (w : FVec Ideal S2x64x1024 .f32) (r : Fin 128) (d : Fin 1024) : kX w (ix2 r d) = w (ix3 ⟨r.val / 64, by omega⟩ ⟨r.val % 64, by omega⟩ d) := by
  have hc : ∀ X : FVec Ideal S2x64x1024 .f32, shapeCast S128x1024 X shapeCasts_S2x64x1024_S128x1024 (ix2 r d) = X (ix3 ⟨r.val / 64, by omega⟩ ⟨r.val % 64, by omega⟩ d) := fun X => by pointwise []
  refine (hc _).trans ((kLd3 w _ _ _ d).trans (congrArg w (ix3_ext ?_ ?_ ?_))) <;> exact Nat.zero_add _

/-- Four blocks of columns side by side hold a row when each holds its part of it. -/
theorem cat4_at (A B C D : FVec Ideal S128x256 .f32) (r : Fin 128) (f : Fin 1024 → EReal) (hA : ∀ e : Fin 256, A (ix2 r e) = f ⟨0 + e.val, by omega⟩)
    (hB : ∀ e : Fin 256, B (ix2 r e) = f ⟨256 + e.val, by omega⟩) (hC : ∀ e : Fin 256, C (ix2 r e) = f ⟨512 + e.val, by omega⟩)
    (hD : ∀ e : Fin 256, D (ix2 r e) = f ⟨768 + e.val, by omega⟩) (d : Fin 1024) :
    concatenate S128x1024 1 [⟨S128x256, A⟩, ⟨S128x256, B⟩, ⟨S128x256, C⟩, ⟨S128x256, D⟩]
      concatenates_S128x256_S128x256_S128x256_S128x256_S128x1024_d1 (ix2 r d) = f d := by
  pointwise []
  by_cases h1 : d.val < 256
  · rw [dif_pos h1]
    exact (hA _).trans (congrArg f (Fin.ext (by show 0 + d.val = d.val; omega)))
  rw [dif_neg h1]
  by_cases h2 : d.val - 256 < 256
  · rw [dif_pos h2]
    exact (hB ⟨d.val - 256, h2⟩).trans (congrArg f (Fin.ext (by show 256 + (d.val - 256) = d.val; omega)))
  rw [dif_neg h2]
  by_cases h3 : d.val - 256 - 256 < 256
  · rw [dif_pos h3]
    exact (hC ⟨d.val - 256 - 256, h3⟩).trans (congrArg f (Fin.ext (by show 512 + (d.val - 256 - 256) = d.val; omega)))
  rw [dif_neg h3]
  exact (hD ⟨d.val - 256 - 256 - 256, by omega⟩).trans (congrArg f (Fin.ext (by show 768 + (d.val - 256 - 256 - 256) = d.val; omega)))

/-- The mixture of two rows, each times its own logistic. -/
theorem kSilu_mul_at (A B : FVec Ideal S128x1024 .f32) (i) :
    mulf (kSilu A) (kSilu B) i = A i * Ideal.logistic (A i) * (B i * Ideal.logistic (B i)) := rfl

/-- A row times another times its logistic. -/
theorem kMul_silu_at (A B : FVec Ideal S128x512 .f32) (i) :
    mulf A (kSilu B) i = A i * (B i * Ideal.logistic (B i)) := rfl

/-- The first halves' test. -/
theorem kFirstHalf_at (i : Fin 128) (l : Fin 128) : kFirstHalf (ix2 i l) = if l.val % 64 < 32 then 1 else 0 := by
  pointwise [kFirstHalf]
  revert l
  decide +kernel

/-- The low lanes' test. -/
theorem kLo_at (i : Fin 128) (l : Fin 128) : kLo (ix2 i l) = if l.val < 64 then 1 else 0 := by
  pointwise [kLo]
  revert l
  decide +kernel

/-- A table over positions, read for both streams. -/
theorem kTwice_at (t : FVec Ideal S128x128 .f32) (r d : Fin 128) : kTwice t (ix2 r d) = t (ix2 ⟨r.val % 64, by omega⟩ d) := by
  pointwise [kTwice]
  by_cases h : r.val < 64
  · rw [dif_pos h]
    exact congrArg (fun j => t (ix2 j d)) (Fin.ext (by show r.val = r.val % 64; omega))
  · rw [dif_neg h]
    exact congrArg (fun j => t (ix2 j d)) (Fin.ext (by show r.val - 64 = r.val % 64; omega))

/-- The cosine table over the lanes. -/
theorem kCos_at (t : FVec Ideal S32x128 .f32) (r : Fin 128) (d : Fin 128) : kCos t (ix2 r d) = t (ix2 ⟨d.val % 32, by omega⟩ ⟨r.val % 64, by omega⟩) := by
  refine (kTwice_at _ r d).trans ?_
  pointwise []
  have hl : ∀ (j : ℕ) (hj : j < 32), j = d.val % 32 → t (ix2 ⟨j, hj⟩ ⟨r.val % 64, by omega⟩) = t (ix2 ⟨d.val % 32, by omega⟩ ⟨r.val % 64, by omega⟩) := fun j hj e => by subst e; rfl
  by_cases h1 : d.val < 32
  · rw [dif_pos h1]; exact hl _ _ (by omega)
  rw [dif_neg h1]
  by_cases h2 : d.val - 32 < 32
  · rw [dif_pos h2]; exact hl _ _ (by omega)
  rw [dif_neg h2]
  by_cases h3 : d.val - 32 - 32 < 32
  · rw [dif_pos h3]; exact hl _ _ (by omega)
  rw [dif_neg h3]; exact hl _ _ (by omega)

/-- The sine table over the lanes. -/
theorem kSin_at (t : FVec Ideal S32x128 .f32) (r : Fin 128) (d : Fin 128) :
    kSin t (ix2 r d) = if d.val % 64 < 32 then -t (ix2 ⟨d.val % 32, by omega⟩ ⟨r.val % 64, by omega⟩) else t (ix2 ⟨d.val % 32, by omega⟩ ⟨r.val % 64, by omega⟩) := by
  refine (kTwice_at _ r d).trans ?_
  pointwise []
  have hl : ∀ (j : ℕ) (hj : j < 32), j = d.val % 32 → t (ix2 ⟨j, hj⟩ ⟨r.val % 64, by omega⟩) = t (ix2 ⟨d.val % 32, by omega⟩ ⟨r.val % 64, by omega⟩) := fun j hj e => by subst e; rfl
  by_cases h1 : d.val < 32
  · rw [dif_pos h1]; exact ((zero_sub _).trans (congrArg Neg.neg (hl _ _ (by omega)))).trans (if_pos (show d.val % 64 < 32 by omega)).symm
  rw [dif_neg h1]
  by_cases h2 : d.val - 32 < 32
  · rw [dif_pos h2]; exact (hl _ _ (by omega)).trans (if_neg (show ¬d.val % 64 < 32 by omega)).symm
  rw [dif_neg h2]
  by_cases h3 : d.val - 32 - 32 < 32
  · rw [dif_pos h3]; exact ((zero_sub _).trans (congrArg Neg.neg (hl _ _ (by omega)))).trans (if_pos (show d.val % 64 < 32 by omega)).symm
  rw [dif_neg h3]; exact (hl _ _ (by omega)).trans (if_neg (show ¬d.val % 64 < 32 by omega)).symm

/-- The rotary embedding at an index. -/
theorem kRope_at (X C S : FVec Ideal S128x128 .f32) (r : Fin 128) (d : Fin 128) :
    kRope X C S (ix2 r d) = X (ix2 r d) * C (ix2 r d) +
      (if h : d.val % 64 < 32 then X (ix2 r ⟨32 + d.val, by omega⟩) else X (ix2 r ⟨d.val - 32, by omega⟩)) * S (ix2 r d) := by
  unfold kRope
  show X (ix2 r d) * C (ix2 r d) + Scalar.select (kFirstHalf (ix2 r d)) (dynamicRotate 1 96#32 none X rotates_S128x128_d1 (ix2 r d))
    (dynamicRotate 1 32#32 none X rotates_S128x128_d1 (ix2 r d)) * S (ix2 r d) = _
  rw [kFirstHalf_at]
  pointwise []
  refine congrArg (fun y => X (ix2 r d) * C (ix2 r d) + y * S (ix2 r d)) ?_
  by_cases h : d.val % 64 < 32
  · rw [if_pos h, dif_pos h]
    refine (select_set _ _).trans (congrArg (fun j => X (ix2 r j)) (Fin.ext ?_))
    show (d.val + 128 - 96) % 128 = 32 + d.val
    omega
  · rw [if_neg h, dif_neg h]
    refine (select_clear _ _).trans (congrArg (fun j => X (ix2 r j)) (Fin.ext ?_))
    show (d.val + 128 - 32) % 128 = d.val - 32
    omega

/-- A table read whole. -/
theorem kTab_at (t : FVec Ideal S32x128 .f32) (j : Fin 32) (r : Fin 128) : kTab t (ix2 j r) = t (ix2 j r) := by
  refine (kLd2 t _ j r).trans (congrArg t ?_)
  simp

/-- A block of 128 lanes with two heads, rotated: each lane is its head's. -/
theorem rope_lane (X C S : FVec Ideal S128x128 .f32) (p : ℕ) (r : Fin 128) (d : Fin 128) (t : Fin 64 → EReal)
    (hC : C (ix2 r d) = Ideal.cos (angle p (d.val % 32)))
    (hS : S (ix2 r d) = if d.val % 64 < 32 then -Ideal.sin (angle p (d.val % 32)) else Ideal.sin (angle p (d.val % 32)))
    (hX : ∀ e : Fin 64, X (ix2 r ⟨d.val / 64 * 64 + e.val, by omega⟩) = t e) :
    kRope X C S (ix2 r d) = ropeRow t p ⟨d.val % 64, by omega⟩ := by
  have x0 : X (ix2 r d) = t ⟨d.val % 64, by omega⟩ := by
    rw [← hX]
    congr 2
    exact Fin.ext (by show d.val = d.val / 64 * 64 + d.val % 64; omega)
  rw [kRope_at, hC, hS, x0]
  unfold ropeRow
  by_cases h : d.val % 64 < 32
  · have x1 : X (ix2 r ⟨32 + d.val, by omega⟩) = t ⟨32 + d.val % 64, by omega⟩ := by
      rw [← hX]
      congr 2
      exact Fin.ext (by show 32 + d.val = d.val / 64 * 64 + (32 + d.val % 64); omega)
    have e : d.val % 32 = d.val % 64 := by omega
    rw [dif_pos h, if_pos h, dif_pos h, x1, e, mul_neg, ← sub_eq_add_neg]
  · have x1 : X (ix2 r ⟨d.val - 32, by omega⟩) = t ⟨d.val % 64 - 32, by omega⟩ := by
      rw [← hX]
      congr 2
      exact Fin.ext (by show d.val - 32 = d.val / 64 * 64 + (d.val % 64 - 32); omega)
    have e : d.val % 32 = d.val % 64 - 32 := by omega
    rw [dif_neg h, if_neg h, dif_neg h, x1, e]

open Cert.KernelIdeal.Trunk (qScale add_mul_real named_swa)

/-- The rotary embedding with scaled tables is scaled. -/
theorem rope_scaled (X C S : FVec Ideal S128x128 .f32) (r : Fin 128) (d : Fin 128) :
    kRope X (kScaled C) (kScaled S) (ix2 r d) = kRope X C S (ix2 r d) * ((qScale : ℝ) : EReal) := by
  have hc : (0 : ℝ) ≤ qScale := mul_nonneg kLog_pos.le (by norm_num)
  have hs : ∀ Y : FVec Ideal S128x128 .f32, kScaled Y (ix2 r d) = Y (ix2 r d) * ((qScale : ℝ) : EReal) := fun Y => by
    show Y (ix2 r d) * _ = _
    exact congrArg _ (named_swa _)
  rw [kRope_at, kRope_at, hs, hs, add_mul_real _ _ hc, mul_assoc, mul_assoc]

/-- The lanes' test picks the low lanes. -/
theorem pickLo (r : Fin 128) (l : Fin 128) (x y : EReal) : Scalar.select (kLo (ix2 r l)) x y = if l.val < 64 then x else y := by
  rw [kLo_at]
  by_cases h : l.val < 64
  · rw [if_pos h, if_pos h]; exact select_set _ _
  · rw [if_neg h, if_neg h]; exact select_clear _ _

/-- The lanes' halves exchanged. -/
theorem kSwapH_at (X : FVec Ideal S128x128 .f32) (r : Fin 128) (l : Fin 128) : kSwapH X (ix2 r l) = X (ix2 r ⟨(l.val + 64) % 128, by omega⟩) := by
  pointwise [kSwapH]
  exact congrArg (fun j => X (ix2 r j)) (Fin.ext (by show (l.val + 128 - 64) % 128 = (l.val + 64) % 128; omega))

/-- The first head's lanes, stored low. -/
theorem kHistA0_at (X : FVec Ideal S128x128 .f32) (r : Fin 128) (l : Fin 128) :
    kHistA0 X (ix4 0 0 r l) = if h : l.val < 64 then X (ix2 r ⟨0 * 64 + l.val, by omega⟩) else 0 := by
  have h : kHistA0 X (ix4 0 0 r l) = Scalar.select (kLo (ix2 r l)) (X (ix2 r l)) 0 := by pointwise [kHistA0, kStoredH, kZeroH]
  rw [h, pickLo]
  by_cases h : l.val < 64
  · rw [if_pos h, dif_pos h]; exact congrArg (fun j => X (ix2 r j)) (Fin.ext (by show l.val = 0 * 64 + l.val; omega))
  · rw [if_neg h, dif_neg h]

/-- The second head's lanes, stored low. -/
theorem kHistA1_at (X : FVec Ideal S128x128 .f32) (r : Fin 128) (l : Fin 128) :
    kHistA1 X (ix4 0 0 r l) = if h : l.val < 64 then X (ix2 r ⟨1 * 64 + l.val, by omega⟩) else 0 := by
  have h : kHistA1 X (ix4 0 0 r l) = Scalar.select (kLo (ix2 r l)) (kSwapH X (ix2 r l)) 0 := by pointwise [kHistA1, kStoredH, kZeroH]
  rw [h, pickLo, kSwapH_at]
  by_cases h : l.val < 64
  · rw [if_pos h, dif_pos h]; exact congrArg (fun j => X (ix2 r j)) (Fin.ext (by show (l.val + 64) % 128 = 1 * 64 + l.val; omega))
  · rw [if_neg h, dif_neg h]

/-- The first head's lanes, stored high. -/
theorem kHistB0_at (X : FVec Ideal S128x128 .f32) (r : Fin 128) (l : Fin 128) :
    kHistB0 X (ix4 0 0 r l) = if h : l.val < 64 then 0 else X (ix2 r ⟨0 * 64 + (l.val - 64), by omega⟩) := by
  have h : kHistB0 X (ix4 0 0 r l) = Scalar.select (kLo (ix2 r l)) 0 (kSwapH X (ix2 r l)) := by pointwise [kHistB0, kStoredH, kZeroH]
  rw [h, pickLo, kSwapH_at]
  by_cases h : l.val < 64
  · rw [if_pos h, dif_pos h]
  · rw [if_neg h, dif_neg h]; exact congrArg (fun j => X (ix2 r j)) (Fin.ext (by show (l.val + 64) % 128 = 0 * 64 + (l.val - 64); omega))

/-- The second head's lanes, stored high. -/
theorem kHistB1_at (X : FVec Ideal S128x128 .f32) (r : Fin 128) (l : Fin 128) :
    kHistB1 X (ix4 0 0 r l) = if h : l.val < 64 then 0 else X (ix2 r ⟨1 * 64 + (l.val - 64), by omega⟩) := by
  have h : kHistB1 X (ix4 0 0 r l) = Scalar.select (kLo (ix2 r l)) 0 (X (ix2 r l)) := by pointwise [kHistB1, kStoredH, kZeroH]
  rw [h, pickLo]
  by_cases h : l.val < 64
  · rw [if_pos h, dif_pos h]
  · rw [if_neg h, dif_neg h]; exact congrArg (fun j => X (ix2 r j)) (Fin.ext (by show l.val = 1 * 64 + (l.val - 64); omega))

/-- The lanes' test picks the low lanes. -/
theorem pickLo64 (r : Fin 64) (l : Fin 128) (x y : EReal) : Scalar.select (kLo64 (ix2 r l)) x y = if l.val < 64 then x else y := by
  rw [kLo64_at]
  by_cases h : l.val < 64
  · rw [if_pos h, if_pos h]; exact select_set _ _
  · rw [if_neg h, if_neg h]; exact select_clear _ _

/-- The lanes' halves exchanged. -/
theorem kSwapN_at (X : FVec Ideal S64x128 .f32) (r : Fin 64) (l : Fin 128) : kSwapN X (ix2 r l) = X (ix2 r ⟨(l.val + 64) % 128, by omega⟩) := by
  pointwise [kSwapN]
  exact congrArg (fun j => X (ix2 r j)) (Fin.ext (by show (l.val + 128 - 64) % 128 = (l.val + 64) % 128; omega))

/-- The first head's lanes, stored low. -/
theorem kNewA0_at (X : FVec Ideal S64x128 .f32) (r : Fin 64) (l : Fin 128) :
    kNewA0 X (ix4 0 0 r l) = if h : l.val < 64 then X (ix2 r ⟨0 * 64 + l.val, by omega⟩) else 0 := by
  have h : kNewA0 X (ix4 0 0 r l) = Scalar.select (kLo64 (ix2 r l)) (X (ix2 r l)) 0 := by pointwise [kNewA0, kStoredN, kZeroN]
  rw [h, pickLo64]
  by_cases h : l.val < 64
  · rw [if_pos h, dif_pos h]; exact congrArg (fun j => X (ix2 r j)) (Fin.ext (by show l.val = 0 * 64 + l.val; omega))
  · rw [if_neg h, dif_neg h]

/-- The second head's lanes, stored low. -/
theorem kNewA1_at (X : FVec Ideal S64x128 .f32) (r : Fin 64) (l : Fin 128) :
    kNewA1 X (ix4 0 0 r l) = if h : l.val < 64 then X (ix2 r ⟨1 * 64 + l.val, by omega⟩) else 0 := by
  have h : kNewA1 X (ix4 0 0 r l) = Scalar.select (kLo64 (ix2 r l)) (kSwapN X (ix2 r l)) 0 := by pointwise [kNewA1, kStoredN, kZeroN]
  rw [h, pickLo64, kSwapN_at]
  by_cases h : l.val < 64
  · rw [if_pos h, dif_pos h]; exact congrArg (fun j => X (ix2 r j)) (Fin.ext (by show (l.val + 64) % 128 = 1 * 64 + l.val; omega))
  · rw [if_neg h, dif_neg h]

/-- The first head's lanes, stored high. -/
theorem kNewB0_at (X : FVec Ideal S64x128 .f32) (r : Fin 64) (l : Fin 128) :
    kNewB0 X (ix4 0 0 r l) = if h : l.val < 64 then 0 else X (ix2 r ⟨0 * 64 + (l.val - 64), by omega⟩) := by
  have h : kNewB0 X (ix4 0 0 r l) = Scalar.select (kLo64 (ix2 r l)) 0 (kSwapN X (ix2 r l)) := by pointwise [kNewB0, kStoredN, kZeroN]
  rw [h, pickLo64, kSwapN_at]
  by_cases h : l.val < 64
  · rw [if_pos h, dif_pos h]
  · rw [if_neg h, dif_neg h]; exact congrArg (fun j => X (ix2 r j)) (Fin.ext (by show (l.val + 64) % 128 = 0 * 64 + (l.val - 64); omega))

/-- The second head's lanes, stored high. -/
theorem kNewB1_at (X : FVec Ideal S64x128 .f32) (r : Fin 64) (l : Fin 128) :
    kNewB1 X (ix4 0 0 r l) = if h : l.val < 64 then 0 else X (ix2 r ⟨1 * 64 + (l.val - 64), by omega⟩) := by
  have h : kNewB1 X (ix4 0 0 r l) = Scalar.select (kLo64 (ix2 r l)) 0 (X (ix2 r l)) := by pointwise [kNewB1, kStoredN, kZeroN]
  rw [h, pickLo64]
  by_cases h : l.val < 64
  · rw [if_pos h, dif_pos h]
  · rw [if_neg h, dif_neg h]; exact congrArg (fun j => X (ix2 r j)) (Fin.ext (by show l.val = 1 * 64 + (l.val - 64); omega))

end Cert.SampleIdeal.Trunk
-- ==== Proof.SampleRef.lean ====
module

public import proofs.«01_k».proof.Proof.SampleFits

@[expose] public section

set_option maxRecDepth 16384

/-! # The sample's plain reference, value by value -/

noncomputable section

namespace Cert.SampleIdeal.Trunk

open Idealize.ShloMosaic Idealize.ShloMosaic.TcCoe Idealize.SL.Sem
open Idealize.ShloMosaic.Pipeline (Dat)
open Cert.SampleIdeal Cert.SampleIdeal.Gen Cert.SampleReferenceIdeal.Read
open Cert.KernelIdeal.Trunk (IsR rmsRow rmsRow_real lnRow memRow ropeRow ropeRow_real angle ix3_ext ix4_ext ix5_ext fold193 ofBits_eighth kLd kLd2 kLd3 kLd4 inb2 inb3 inb4)

variable (x0 : FVec Ideal Cert.SampleReferenceIdeal.S16x64x1024 .f32) (x1 : FVec Ideal Cert.SampleReferenceIdeal.S1x16x30x1024 .f32) (x2 : FVec Ideal Cert.SampleReferenceIdeal.S1x16x128x2x64 .f32) (x3 : FVec Ideal Cert.SampleReferenceIdeal.S1x16x128x2x64 .f32) (x4 : FVec Ideal Cert.SampleReferenceIdeal.S2x16x256x4x128 .f32) (x5 : FVec Ideal Cert.SampleReferenceIdeal.S2x16x256x4x128 .f32) (x6 : FVec Ideal Cert.SampleReferenceIdeal.S2x1024 .f32) (x7 : FVec Ideal Cert.SampleReferenceIdeal.S1x1024x4096 .f32) (x8 : FVec Ideal Cert.SampleReferenceIdeal.S1x31x1024 .f32) (x9 : FVec Ideal Cert.SampleReferenceIdeal.S1x1024 .f32) (x10 : FVec Ideal Cert.SampleReferenceIdeal.S1x1024 .f32) (x11 : FVec Ideal Cert.SampleReferenceIdeal.S1x1024 .f32) (x12 : FVec Ideal Cert.SampleReferenceIdeal.S1x1024x3328 .f32) (x13 : FVec Ideal Cert.SampleReferenceIdeal.S1x16 .f32) (x14 : FVec Ideal Cert.SampleReferenceIdeal.S2x1536x1024 .f32) (x15 : FVec Ideal Cert.SampleReferenceIdeal.S1024 .f32)

/-- The reference's scores of one query head, over its 192 keys. -/
def refScr (b : Fin 16) (n : Fin 64) (h : Fin 16) (x : Fin 192) : EReal :=
  (∑ e : Fin 64, val_main_v407 (F := Ideal) x0 x1 x2 x4 x5 x6 x7 x8 x9 x10 x11 x12 x14 (ix4 b x ⟨h.val / 8, by omega⟩ e) * val_main_v370 (F := Ideal) x0 x1 x4 x5 x6 x7 x8 x9 x10 x11 x12 x14 (ix4 b n h e)) * ((8 : ℝ)⁻¹ : ℝ)

variable {x0} {x1} {x2} {x3} {x4} {x5} {x6} {x7} {x8} {x9} {x10} {x11} {x12} {x13} {x14} {x15}

/-- The reference's first normalized rows. -/
theorem v17_at (b : Fin 16) (n : Fin 64) (d : Fin 1024) :
    val_main_v17 (F := Ideal) x0 x6 (ix3 b n d) = rmsRow (fun k => x0 (ix3 b n k)) d * x6 (ix2 0 d) := by
  unfold rmsRow
  pointwise [val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1]

/-- The first normalized rows are real. -/
theorem v17_real (hR : Reals x2 x4 x6 x7 x12 x13) (i) : IsR (val_main_v17 (F := Ideal) x0 x6 i) := by
  rw [ValueIdx.eq_ix3 i]
  exact (v17_at _ _ _).symm ▸ (rmsRow_real _ _).mul (hR.r6 _)

/-- The projection's columns. -/
theorem v19_at (b : Fin 16) (n : Fin 64) (d : Fin 4096) :
    val_main_v19 (F := Ideal) x0 x6 x7 (ix3 b n d) = ∑ k : Fin 1024, val_main_v17 (F := Ideal) x0 x6 (ix3 b n k) * x7 (ix3 0 k d) := by
  pointwise [val_main_v18, val_main_v19]

/-- The projection's columns are real. -/
theorem v19_real (hR : Reals x2 x4 x6 x7 x12 x13) (b : Fin 16) (n : Fin 64) (d : Fin 4096) : IsR (val_main_v19 (F := Ideal) x0 x6 x7 (ix3 b n d)) := by
  rw [v19_at]
  exact IsR.sum _ fun k _ => (v17_real hR _).mul (hR.r7 _)

/-- The gated input. -/
theorem v31_at (b : Fin 16) (n : Fin 64) (d : Fin 1024) :
    val_main_v31 (F := Ideal) x0 x6 x7 (ix3 b n d) = val_main_v19 (F := Ideal) x0 x6 x7 (ix3 b n ⟨d.val, by omega⟩) *
      Ideal.logistic (val_main_v19 (F := Ideal) x0 x6 x7 (ix3 b n ⟨1024 + d.val, by omega⟩)) := by
  unfold Ideal.logistic
  pointwise [val_main_v20, val_main_v21, val_main_v25, val_main_v26, val_main_cst_2, val_main_v27, val_main_v28, val_main_cst_3, val_main_v29, val_main_v30, val_main_v31]

/-- The convolution's input: the stream's history, then its new rows. -/
theorem v33_at (b : Fin 16) (m : Fin 94) (d : Fin 1024) :
    val_main_v33 (F := Ideal) x0 x1 x6 x7 (ix3 b m d) = if h : m.val < 30 then x1 (ix4 0 b ⟨m.val, h⟩ d) else val_main_v31 (F := Ideal) x0 x6 x7 (ix3 b ⟨m.val - 30, by omega⟩ d) := by
  pointwise [val_main_v32, val_main_v33]

/-- The reference's convolution. -/
theorem v256_at (b : Fin 16) (n : Fin 64) (d : Fin 1024) :
    val_main_v256 (F := Ideal) x0 x1 x6 x7 x8 x9 (ix3 b n d) = (∑ k : Fin 31, val_main_v33 (F := Ideal) x0 x1 x6 x7 (ix3 b ⟨k.val + n.val, by omega⟩ d) *
      x8 (ix3 0 k d)) + x9 (ix2 0 d) := by
  obtain ⟨u, hu⟩ : ∃ u : ℕ → EReal, ∀ i (h : i < 94), val_main_v33 (F := Ideal) x0 x1 x6 x7 (ix3 b ⟨i, h⟩ d) = u i :=
    ⟨fun i => if h : i < 94 then val_main_v33 (F := Ideal) x0 x1 x6 x7 (ix3 b ⟨i, h⟩ d) else 0, fun i h => by beta_reduce; rw [dif_pos h]⟩
  obtain ⟨w, hw⟩ : ∃ w : ℕ → EReal, ∀ i (h : i < 31), x8 (ix3 0 ⟨i, h⟩ d) = w i :=
    ⟨fun i => if h : i < 31 then x8 (ix3 0 ⟨i, h⟩ d) else 0, fun i h => by beta_reduce; rw [dif_pos h]⟩
  have hr : ∑ k : Fin 31, val_main_v33 (F := Ideal) x0 x1 x6 x7 (ix3 b ⟨k.val + n.val, by omega⟩ d) * x8 (ix3 0 k d) =
      ∑ k ∈ Finset.range 31, u (k + n.val) * w k := by
    rw [← Fin.sum_univ_eq_sum_range (fun k => u (k + n.val) * w k)]
    exact Finset.sum_congr rfl fun k _ => by rw [← hu _ (by omega), ← hw _ k.isLt]
  rw [hr]
  pointwise [val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_cst_4]
  have hw' : ∀ k : Fin 31, x8 (ix3 0 k d) = w k.val := fun k => hw _ k.isLt
  simp only [hu, hw', Finset.sum_range_succ, Finset.sum_range_zero, zero_add]
  rfl

/-- The reference's layer normalization. -/
theorem v280_at (b : Fin 16) (n : Fin 64) (d : Fin 1024) :
    val_main_v280 (F := Ideal) x0 x1 x6 x7 x8 x9 x10 x11 (ix3 b n d) =
      lnRow (fun k => val_main_v256 (F := Ideal) x0 x1 x6 x7 x8 x9 (ix3 b n k)) d * x10 (ix2 0 d) + x11 (ix2 0 d) := by
  unfold lnRow
  pointwise [val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_cst_5, val_main_cst_6, val_main_cst_7, val_main_cst_8, val_main_cst_9]

/-- The mixed rows. -/
theorem v283_at (b : Fin 16) (n : Fin 64) (d : Fin 1024) :
    val_main_v283 (F := Ideal) x0 x1 x6 x7 x8 x9 x10 x11 (ix3 b n d) =
      val_main_v280 (F := Ideal) x0 x1 x6 x7 x8 x9 x10 x11 (ix3 b n d) * Ideal.logistic (val_main_v280 (F := Ideal) x0 x1 x6 x7 x8 x9 x10 x11 (ix3 b n d)) *
      (val_main_v19 (F := Ideal) x0 x6 x7 (ix3 b n ⟨2048 + d.val, by omega⟩) * Ideal.logistic (val_main_v19 (F := Ideal) x0 x6 x7 (ix3 b n ⟨2048 + d.val, by omega⟩))) := by
  unfold Ideal.logistic
  pointwise [val_main_v22, val_main_call0_v0, val_main_call0_v1, val_main_call0_cst, val_main_call0_v2, val_main_call0_v3, val_main_call0_cst_0, val_main_call0_v4, val_main_call0_v5, val_main_v281, val_main_call1_v0, val_main_call1_v1, val_main_call1_cst, val_main_call1_v2, val_main_call1_v3, val_main_call1_cst_0, val_main_call1_v4, val_main_call1_v5, val_main_v282, val_main_v283]

/-- The memory's rows. -/
theorem v306_at (b : Fin 16) (n : Fin 64) (d : Fin 512) :
    val_main_v306 (F := Ideal) x0 x4 x5 x6 x7 (ix3 b n d) =
      memRow (fun e => val_main_v19 (F := Ideal) x0 x6 x7 (ix3 b n ⟨3072 + (d.val / 128 * 128 + e.val), by omega⟩))
        (fun m e => x4 (ix5 0 b m ⟨d.val / 128, by omega⟩ e))
        (fun m => x5 (ix5 0 b m ⟨d.val / 128, by omega⟩ ⟨d.val % 128, by omega⟩)) := by
  have hb : Ideal.ofBits .f32 4286578688#32 = ⊥ := by simp [Ideal.ofBits, Ideal.ieee]
  unfold memRow
  pointwise [val_main_v23, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_cst_10, val_main_cst_11, val_main_cst_12, val_main_cst_13]
  simp only [hb]

/-- The memory's gated rows. -/
theorem v308_at (b : Fin 16) (n : Fin 64) (d : Fin 512) :
    val_main_v308 (F := Ideal) x0 x4 x5 x6 x7 (ix3 b n d) = val_main_v306 (F := Ideal) x0 x4 x5 x6 x7 (ix3 b n d) *
      (val_main_v19 (F := Ideal) x0 x6 x7 (ix3 b n ⟨3584 + d.val, by omega⟩) * Ideal.logistic (val_main_v19 (F := Ideal) x0 x6 x7 (ix3 b n ⟨3584 + d.val, by omega⟩))) := by
  unfold Ideal.logistic
  pointwise [val_main_v24, val_main_call2_v0, val_main_call2_v1, val_main_call2_cst, val_main_call2_v2, val_main_call2_v3, val_main_call2_cst_0, val_main_call2_v4, val_main_call2_v5, val_main_v307, val_main_v308]

/-- The residual stream after the convolution half. -/
theorem v313_at (b : Fin 16) (n : Fin 64) (d : Fin 1024) :
    val_main_v313 (F := Ideal) x0 x1 x4 x5 x6 x7 x8 x9 x10 x11 x14 (ix3 b n d) = x0 (ix3 b n d) +
      ((∑ k : Fin 1024, val_main_v283 (F := Ideal) x0 x1 x6 x7 x8 x9 x10 x11 (ix3 b n k) * x14 (ix3 0 ⟨k.val, by omega⟩ d)) +
        ∑ k : Fin 512, val_main_v308 (F := Ideal) x0 x4 x5 x6 x7 (ix3 b n k) * x14 (ix3 0 ⟨1024 + k.val, by omega⟩ d)) := by
  pointwise [val_main_v309, val_main_v310, val_main_v311, val_main_v312, val_main_v313]

/-- The reference's second normalized rows. -/
theorem v328_at (b : Fin 16) (n : Fin 64) (d : Fin 1024) :
    val_main_v328 (F := Ideal) x0 x1 x4 x5 x6 x7 x8 x9 x10 x11 x14 (ix3 b n d) = rmsRow (fun k => val_main_v313 (F := Ideal) x0 x1 x4 x5 x6 x7 x8 x9 x10 x11 x14 (ix3 b n k)) d * x6 (ix2 1 d) := by
  unfold rmsRow
  pointwise [val_main_v314, val_main_v315, val_main_v316, val_main_v317, val_main_v318, val_main_v319, val_main_v320, val_main_v321, val_main_v322, val_main_v323, val_main_v324, val_main_v325, val_main_v326, val_main_v327, val_main_v328, val_main_cst_14, val_main_cst_15, val_main_cst_16]

/-- The attention half's projection. -/
theorem v330_at (b : Fin 16) (n : Fin 64) (d : Fin 3328) :
    val_main_v330 (F := Ideal) x0 x1 x4 x5 x6 x7 x8 x9 x10 x11 x12 x14 (ix3 b n d) = ∑ k : Fin 1024, val_main_v328 (F := Ideal) x0 x1 x4 x5 x6 x7 x8 x9 x10 x11 x14 (ix3 b n k) * x12 (ix3 0 k d) := by
  pointwise [val_main_v329, val_main_v330]

/-- The attention half's projection is real. -/
theorem v330_real (hR : Reals x2 x4 x6 x7 x12 x13) (b : Fin 16) (n : Fin 64) (d : Fin 3328) : IsR (val_main_v330 (F := Ideal) x0 x1 x4 x5 x6 x7 x8 x9 x10 x11 x12 x14 (ix3 b n d)) := by
  rw [v330_at]
  refine IsR.sum _ fun k _ => IsR.mul ?_ (hR.r12 _)
  rw [v328_at]
  exact (rmsRow_real _ _).mul (hR.r6 _)

/-- A new position's number, as the reference adds it up. -/
theorem pos_word (n : ℕ) : IntOp.addi 2048#32 (BitVec.ofNat 32 n) = BitVec.ofNat 32 (2048 + n) := (BitVec.ofNat_add 2048 n).symm

/-- The reference's rotated queries. -/
theorem v370_at (b : Fin 16) (n : Fin 64) (h : Fin 16) (e : Fin 64) :
    val_main_v370 (F := Ideal) x0 x1 x4 x5 x6 x7 x8 x9 x10 x11 x12 x14 (ix4 b n h e) = ropeRow (fun e => val_main_v330 (F := Ideal) x0 x1 x4 x5 x6 x7 x8 x9 x10 x11 x12 x14 (ix3 b n ⟨h.val * 64 + e.val, by omega⟩)) (2048 + n.val) e := by
  unfold ropeRow angle
  simp only [← pos_word]
  pointwise [val_main_v0, val_main_c, val_main_v1, val_main_v2, val_main_v331, val_main_v337, val_main_v338, val_main_v339, val_main_v340, val_main_v341, val_main_v342, val_main_v343, val_main_v344, val_main_v345, val_main_v346, val_main_v347, val_main_v348, val_main_v349, val_main_v350, val_main_v351, val_main_v352, val_main_v353, val_main_v354, val_main_v355, val_main_v356, val_main_v357, val_main_v358, val_main_v359, val_main_v360, val_main_v361, val_main_v362, val_main_v363, val_main_v364, val_main_v365, val_main_v366, val_main_v367, val_main_v368, val_main_v369, val_main_v370, val_main_cst_17, val_main_cst_18]
  by_cases he : e.val < 32
  · rw [dif_pos he, dif_pos he]
  · rw [dif_neg he, dif_neg he]
    have h32 : 32 + (e.val - 32) = e.val := by omega
    simp only [h32]

/-- The reference's rotated keys. -/
theorem v404_at (b : Fin 16) (n : Fin 64) (h : Fin 2) (e : Fin 64) :
    val_main_v404 (F := Ideal) x0 x1 x4 x5 x6 x7 x8 x9 x10 x11 x12 x14 (ix4 b n h e) = ropeRow (fun e => val_main_v330 (F := Ideal) x0 x1 x4 x5 x6 x7 x8 x9 x10 x11 x12 x14 (ix3 b n ⟨1024 + (h.val * 64 + e.val), by omega⟩)) (2048 + n.val) e := by
  unfold ropeRow angle
  simp only [← pos_word]
  pointwise [val_main_v0, val_main_c, val_main_v1, val_main_v2, val_main_v332, val_main_v371, val_main_v372, val_main_v373, val_main_v374, val_main_v375, val_main_v376, val_main_v377, val_main_v378, val_main_v379, val_main_v380, val_main_v381, val_main_v382, val_main_v383, val_main_v384, val_main_v385, val_main_v386, val_main_v387, val_main_v388, val_main_v389, val_main_v390, val_main_v391, val_main_v392, val_main_v393, val_main_v394, val_main_v395, val_main_v396, val_main_v397, val_main_v398, val_main_v399, val_main_v400, val_main_v401, val_main_v402, val_main_v403, val_main_v404, val_main_cst_19, val_main_cst_20]
  by_cases he : e.val < 32
  · rw [dif_pos he, dif_pos he]
  · rw [dif_neg he, dif_neg he]
    have h32 : 32 + (e.val - 32) = e.val := by omega
    simp only [h32]

/-- The reference's values. -/
theorem v405_at (b : Fin 16) (n : Fin 64) (h : Fin 2) (e : Fin 64) :
    val_main_v405 (F := Ideal) x0 x1 x4 x5 x6 x7 x8 x9 x10 x11 x12 x14 (ix4 b n h e) = val_main_v330 (F := Ideal) x0 x1 x4 x5 x6 x7 x8 x9 x10 x11 x12 x14 (ix3 b n ⟨1152 + (h.val * 64 + e.val), by omega⟩) := by
  pointwise [val_main_v333, val_main_v405]

/-- The cached entries, then the new ones. -/
theorem v407_at (b : Fin 16) (m : Fin 192) (h : Fin 2) (e : Fin 64) :
    val_main_v407 (F := Ideal) x0 x1 x2 x4 x5 x6 x7 x8 x9 x10 x11 x12 x14 (ix4 b m h e) = if h' : m.val < 128 then x2 (ix5 0 b ⟨m.val, h'⟩ h e) else val_main_v404 (F := Ideal) x0 x1 x4 x5 x6 x7 x8 x9 x10 x11 x12 x14 (ix4 b ⟨m.val - 128, by omega⟩ h e) := by
  pointwise [val_main_v406, val_main_v407]

/-- The cached entries, then the new ones. -/
theorem v409_at (b : Fin 16) (m : Fin 192) (h : Fin 2) (e : Fin 64) :
    val_main_v409 (F := Ideal) x0 x1 x3 x4 x5 x6 x7 x8 x9 x10 x11 x12 x14 (ix4 b m h e) = if h' : m.val < 128 then x3 (ix5 0 b ⟨m.val, h'⟩ h e) else val_main_v405 (F := Ideal) x0 x1 x4 x5 x6 x7 x8 x9 x10 x11 x12 x14 (ix4 b ⟨m.val - 128, by omega⟩ h e) := by
  pointwise [val_main_v408, val_main_v409]

/-- The queries, by group of heads. -/
theorem v411_at (b : Fin 16) (i : Fin 64) (g : Fin 2) (hh : Fin 8) (e : Fin 64) :
    val_main_v411 (F := Ideal) x0 x1 x4 x5 x6 x7 x8 x9 x10 x11 x12 x14 (ix5 b i g hh e) = val_main_v370 (F := Ideal) x0 x1 x4 x5 x6 x7 x8 x9 x10 x11 x12 x14 (ix4 b i ⟨8 * g.val + hh.val, by omega⟩ e) := by
  pointwise [val_main_v411]
  exact congrArg _ (ix4_ext rfl rfl (by show g.val * 8 + hh.val = 8 * g.val + hh.val; omega) rfl)

/-- The reference's scores. -/
theorem v415_at (b : Fin 16) (g : Fin 2) (hh : Fin 8) (i : Fin 64) (x : Fin 192) :
    val_main_v415 (F := Ideal) x0 x1 x2 x4 x5 x6 x7 x8 x9 x10 x11 x12 x14 (ix5 b g hh i x) = (∑ e : Fin 64, val_main_v407 (F := Ideal) x0 x1 x2 x4 x5 x6 x7 x8 x9 x10 x11 x12 x14 (ix4 b x g e) * val_main_v370 (F := Ideal) x0 x1 x4 x5 x6 x7 x8 x9 x10 x11 x12 x14 (ix4 b i ⟨8 * g.val + hh.val, by omega⟩ e)) * ((8 : ℝ)⁻¹ : ℝ) := by
  simp only [← v411_at]
  pointwise [val_main_v412, val_main_v413, val_main_cst_21, val_main_v414, val_main_v415]
  rw [← ofBits_eighth]

/-- The scores with the sink behind them. -/
theorem v418_at (b : Fin 16) (g : Fin 2) (hh : Fin 8) (i : Fin 64) (k : Fin 193) :
    val_main_v418 (F := Ideal) x0 x1 x2 x4 x5 x6 x7 x8 x9 x10 x11 x12 x13 x14 (ix5 b g hh i k) = if h : k.val < 192 then val_main_v415 (F := Ideal) x0 x1 x2 x4 x5 x6 x7 x8 x9 x10 x11 x12 x14 (ix5 b g hh i ⟨k.val, h⟩) else x13 (ix2 0 ⟨8 * g.val + hh.val, by omega⟩) := by
  pointwise [val_main_v410, val_main_v416, val_main_v417, val_main_v418]
  by_cases h : k.val < 192
  · rw [dif_pos h, dif_pos h]
  · rw [dif_neg h, dif_neg h]
    simp only [Nat.mul_comm]

/-- The largest score of a head. -/
theorem v419_at (b : Fin 16) (g : Fin 2) (hh : Fin 8) (i : Fin 64) :
    val_main_v419 (F := Ideal) x0 x1 x2 x4 x5 x6 x7 x8 x9 x10 x11 x12 x13 x14 (ix4 b g hh i) = Finset.univ.fold max ⊥ fun k => val_main_v418 (F := Ideal) x0 x1 x2 x4 x5 x6 x7 x8 x9 x10 x11 x12 x13 x14 (ix5 b g hh i k) := by
  have hb : Ideal.ofBits .f32 4286578688#32 = ⊥ := by simp [Ideal.ofBits, Ideal.ieee]
  unfold val_main_v419
  generalize val_main_v418 (F := Ideal) x0 x1 x2 x4 x5 x6 x7 x8 x9 x10 x11 x12 x13 x14 = y
  rw [Host.reduce_eq_fold_single _ _ _ _ (by decide)]
  show Finset.univ.fold max (Ideal.ofBits .f32 4286578688#32) _ = _
  rw [hb]
  refine Finset.fold_congr fun k _ => congrArg y (funext fun a => Fin.ext ?_)
  match a with | ⟨0, _⟩ => rfl | ⟨1, _⟩ => rfl | ⟨2, _⟩ => rfl | ⟨3, _⟩ => rfl | ⟨4, _⟩ => rfl

/-- A score's exponential. -/
theorem v423_at (b : Fin 16) (g : Fin 2) (hh : Fin 8) (i : Fin 64) (k : Fin 193) :
    val_main_v423 (F := Ideal) x0 x1 x2 x4 x5 x6 x7 x8 x9 x10 x11 x12 x13 x14 (ix5 b g hh i k) = Ideal.exp (val_main_v418 (F := Ideal) x0 x1 x2 x4 x5 x6 x7 x8 x9 x10 x11 x12 x13 x14 (ix5 b g hh i k) - val_main_v419 (F := Ideal) x0 x1 x2 x4 x5 x6 x7 x8 x9 x10 x11 x12 x13 x14 (ix4 b g hh i)) := by
  pointwise [val_main_v420, val_main_v421, val_main_v422, val_main_v423]

/-- A head's sum of exponentials. -/
theorem v424_at (b : Fin 16) (g : Fin 2) (hh : Fin 8) (i : Fin 64) :
    val_main_v424 (F := Ideal) x0 x1 x2 x4 x5 x6 x7 x8 x9 x10 x11 x12 x13 x14 (ix4 b g hh i) = ∑ k, val_main_v423 (F := Ideal) x0 x1 x2 x4 x5 x6 x7 x8 x9 x10 x11 x12 x13 x14 (ix5 b g hh i k) := by
  rw [val_main_v424_apply, val_main_cst_23_apply]
  show Ideal.ofBits .f32 0#32 + _ = _
  rw [Ideal.ofBits_zero, zero_add]
  refine Finset.sum_congr rfl fun k _ => congrArg _ (funext fun a => ?_)
  match a with | ⟨0, _⟩ => rfl | ⟨1, _⟩ => rfl | ⟨2, _⟩ => rfl | ⟨3, _⟩ => rfl | ⟨4, _⟩ => rfl

/-- The windowed attention, over the scores with the sink. -/
theorem v431_raw (b : Fin 16) (n : Fin 64) (d : Fin 1024) (S : Fin 193 → EReal)
    (hS : ∀ k, val_main_v418 (F := Ideal) x0 x1 x2 x4 x5 x6 x7 x8 x9 x10 x11 x12 x13 x14 (ix5 b ⟨d.val / 512, by omega⟩ ⟨d.val / 64 % 8, by omega⟩ n k) = S k) :
    val_main_v431 (F := Ideal) x0 x1 x2 x3 x4 x5 x6 x7 x8 x9 x10 x11 x12 x13 x14 (ix3 b n d) = ∑ x : Fin 192, val_main_v409 (F := Ideal) x0 x1 x3 x4 x5 x6 x7 x8 x9 x10 x11 x12 x14 (ix4 b x ⟨d.val / 512, by omega⟩ ⟨d.val % 64, by omega⟩) *
      Ideal.div (Ideal.exp (S ⟨x.val, by omega⟩ - Finset.univ.fold max ⊥ S)) (∑ k, Ideal.exp (S k - Finset.univ.fold max ⊥ S)) := by
  have h : ∀ k, val_main_v423 (F := Ideal) x0 x1 x2 x4 x5 x6 x7 x8 x9 x10 x11 x12 x13 x14 (ix5 b ⟨d.val / 512, by omega⟩ ⟨d.val / 64 % 8, by omega⟩ n k) =
      Ideal.exp (S k - Finset.univ.fold max ⊥ S) := fun k => by
    rw [v423_at, v419_at]
    simp only [hS]
  simp only [← h, ← v424_at]
  pointwise [val_main_v425, val_main_v426, val_main_v427, val_main_v428, val_main_v429, val_main_v430, val_main_v431]
  simp only [v424_at]

/-- The windowed attention: softmax over a chunk's keys and the head's sink. -/
theorem v431_at (b : Fin 16) (n : Fin 64) (d : Fin 1024) (s : Fin 192 → EReal) (t : EReal)
    (hs : s = refScr x0 x1 x2 x4 x5 x6 x7 x8 x9 x10 x11 x12 x14 b n ⟨d.val / 64, by omega⟩) (ht : t = x13 (ix2 0 ⟨d.val / 64, by omega⟩)) :
    val_main_v431 (F := Ideal) x0 x1 x2 x3 x4 x5 x6 x7 x8 x9 x10 x11 x12 x13 x14 (ix3 b n d) = ∑ x : Fin 192, val_main_v409 (F := Ideal) x0 x1 x3 x4 x5 x6 x7 x8 x9 x10 x11 x12 x14 (ix4 b x ⟨d.val / 512, by omega⟩ ⟨d.val % 64, by omega⟩) *
      Ideal.div (Ideal.exp (s x - max (Finset.univ.fold max ⊥ s) t))
        ((∑ x, Ideal.exp (s x - max (Finset.univ.fold max ⊥ s) t)) + Ideal.exp (t - max (Finset.univ.fold max ⊥ s) t)) := by
  have e1 : 8 * (d.val / 512) + d.val / 64 % 8 = d.val / 64 := by omega
  have e3 : d.val / 64 / 8 = d.val / 512 := by omega
  have h0 : ∀ k : Fin 192, (fun k : Fin 193 => if h : k.val < 192 then s ⟨k.val, h⟩ else t) k.castSucc = s k := fun k => dif_pos k.isLt
  have h1 : (fun k : Fin 193 => if h : k.val < 192 then s ⟨k.val, h⟩ else t) (Fin.last 192) = t := dif_neg (lt_irrefl 192)
  have h2 : ∀ (x : Fin 192) (h : x.val < 193), (fun k : Fin 193 => if h : k.val < 192 then s ⟨k.val, h⟩ else t) ⟨x.val, h⟩ = s x := fun x _ => dif_pos x.isLt
  have h3 : ∀ M : EReal, ∑ k, Ideal.exp ((fun k : Fin 193 => if h : k.val < 192 then s ⟨k.val, h⟩ else t) k - M) =
      (∑ x, Ideal.exp (s x - M)) + Ideal.exp (t - M) := fun M => by
    rw [Fin.sum_univ_castSucc, h1]
    exact congrArg (· + _) (Finset.sum_congr rfl fun x _ => by rw [h0])
  refine (v431_raw b n d (fun k => if h : k.val < 192 then s ⟨k.val, h⟩ else t) fun k => ?_).trans ?_
  rotate_left
  · rw [fold193 s t _ h0 h1, h3]
    exact Finset.sum_congr rfl fun x _ => by rw [dif_pos x.isLt]
  · rw [v418_at]
    by_cases h : k.val < 192
    · rw [dif_pos h, dif_pos h, v415_at, hs]
      simp only [refScr, e1, e3]
    · rw [dif_neg h, dif_neg h, ht]
      simp only [e1]

/-- The memory's rows, in the attention half. -/
theorem v455_at (b : Fin 16) (n : Fin 64) (d : Fin 512) :
    val_main_v455 (F := Ideal) x0 x1 x4 x5 x6 x7 x8 x9 x10 x11 x12 x14 (ix3 b n d) =
      memRow (fun e => val_main_v330 (F := Ideal) x0 x1 x4 x5 x6 x7 x8 x9 x10 x11 x12 x14 (ix3 b n ⟨2304 + (d.val / 128 * 128 + e.val), by omega⟩))
        (fun m e => x4 (ix5 1 b m ⟨d.val / 128, by omega⟩ e))
        (fun m => x5 (ix5 1 b m ⟨d.val / 128, by omega⟩ ⟨d.val % 128, by omega⟩)) := by
  have hb : Ideal.ofBits .f32 4286578688#32 = ⊥ := by simp [Ideal.ofBits, Ideal.ieee]
  unfold memRow
  pointwise [val_main_v335, val_main_v434, val_main_v435, val_main_v436, val_main_v437, val_main_v438, val_main_v439, val_main_v440, val_main_v441, val_main_v442, val_main_v443, val_main_v444, val_main_v445, val_main_v446, val_main_v447, val_main_v448, val_main_v449, val_main_v450, val_main_v451, val_main_v452, val_main_v453, val_main_v454, val_main_v455, val_main_cst_24, val_main_cst_25, val_main_cst_26, val_main_cst_27]
  simp only [hb]

/-- The memory's gated rows, in the attention half. -/
theorem v457_at (b : Fin 16) (n : Fin 64) (d : Fin 512) :
    val_main_v457 (F := Ideal) x0 x1 x4 x5 x6 x7 x8 x9 x10 x11 x12 x14 (ix3 b n d) = val_main_v455 (F := Ideal) x0 x1 x4 x5 x6 x7 x8 x9 x10 x11 x12 x14 (ix3 b n d) *
      (val_main_v330 (F := Ideal) x0 x1 x4 x5 x6 x7 x8 x9 x10 x11 x12 x14 (ix3 b n ⟨2816 + d.val, by omega⟩) * Ideal.logistic (val_main_v330 (F := Ideal) x0 x1 x4 x5 x6 x7 x8 x9 x10 x11 x12 x14 (ix3 b n ⟨2816 + d.val, by omega⟩))) := by
  unfold Ideal.logistic
  pointwise [val_main_v336, val_main_call4_v0, val_main_call4_v1, val_main_call4_cst, val_main_call4_v2, val_main_call4_v3, val_main_call4_cst_0, val_main_call4_v4, val_main_call4_v5, val_main_v456, val_main_v457]

/-- The gate of the windowed attention's rows. -/
theorem v432_at (b : Fin 16) (n : Fin 64) (d : Fin 1024) :
    val_main_v432 (F := Ideal) x0 x1 x4 x5 x6 x7 x8 x9 x10 x11 x12 x14 (ix3 b n d) = val_main_v330 (F := Ideal) x0 x1 x4 x5 x6 x7 x8 x9 x10 x11 x12 x14 (ix3 b n ⟨1280 + d.val, by omega⟩) * Ideal.logistic (val_main_v330 (F := Ideal) x0 x1 x4 x5 x6 x7 x8 x9 x10 x11 x12 x14 (ix3 b n ⟨1280 + d.val, by omega⟩)) := by
  unfold Ideal.logistic
  pointwise [val_main_v334, val_main_call3_v0, val_main_call3_v1, val_main_call3_cst, val_main_call3_v2, val_main_call3_v3, val_main_call3_cst_0, val_main_call3_v4, val_main_call3_v5, val_main_v432]

/-- The windowed attention's gated rows. -/
theorem v433_at (b : Fin 16) (n : Fin 64) (d : Fin 1024) :
    val_main_v433 (F := Ideal) x0 x1 x2 x3 x4 x5 x6 x7 x8 x9 x10 x11 x12 x13 x14 (ix3 b n d) = val_main_v431 (F := Ideal) x0 x1 x2 x3 x4 x5 x6 x7 x8 x9 x10 x11 x12 x13 x14 (ix3 b n d) *
      (val_main_v330 (F := Ideal) x0 x1 x4 x5 x6 x7 x8 x9 x10 x11 x12 x14 (ix3 b n ⟨1280 + d.val, by omega⟩) * Ideal.logistic (val_main_v330 (F := Ideal) x0 x1 x4 x5 x6 x7 x8 x9 x10 x11 x12 x14 (ix3 b n ⟨1280 + d.val, by omega⟩))) := by
  rw [val_main_v433_apply, v432_at]
  rfl

/-- The residual stream after the attention half. -/
theorem v462_at (b : Fin 16) (n : Fin 64) (d : Fin 1024) :
    val_main_v462 (F := Ideal) x0 x1 x2 x3 x4 x5 x6 x7 x8 x9 x10 x11 x12 x13 x14 (ix3 b n d) = val_main_v313 (F := Ideal) x0 x1 x4 x5 x6 x7 x8 x9 x10 x11 x14 (ix3 b n d) +
      ((∑ k : Fin 1024, val_main_v433 (F := Ideal) x0 x1 x2 x3 x4 x5 x6 x7 x8 x9 x10 x11 x12 x13 x14 (ix3 b n k) * x14 (ix3 1 ⟨k.val, by omega⟩ d)) +
        ∑ k : Fin 512, val_main_v457 (F := Ideal) x0 x1 x4 x5 x6 x7 x8 x9 x10 x11 x12 x14 (ix3 b n k) * x14 (ix3 1 ⟨1024 + k.val, by omega⟩ d)) := by
  pointwise [val_main_v458, val_main_v459, val_main_v460, val_main_v461, val_main_v462]

/-- The reference's result rows. -/
theorem v475_at (b : Fin 16) (n : Fin 64) (d : Fin 1024) :
    val_main_v475 (F := Ideal) x0 x1 x2 x3 x4 x5 x6 x7 x8 x9 x10 x11 x12 x13 x14 x15 (ix3 b n d) = rmsRow (fun k => val_main_v462 (F := Ideal) x0 x1 x2 x3 x4 x5 x6 x7 x8 x9 x10 x11 x12 x13 x14 (ix3 b n k)) d * x15 (ix1 d) := by
  unfold rmsRow
  pointwise [val_main_v463, val_main_v464, val_main_v465, val_main_v466, val_main_v467, val_main_v468, val_main_v469, val_main_v470, val_main_v471, val_main_v472, val_main_v473, val_main_v474, val_main_v475, val_main_cst_28, val_main_cst_29, val_main_cst_30]

/-- The last 128 entries. -/
theorem v477_at (b : Fin 16) (r d : Fin 128) :
    val_main_v477 (F := Ideal) x0 x1 x2 x4 x5 x6 x7 x8 x9 x10 x11 x12 x14 (ix4 0 b r d) = val_main_v407 (F := Ideal) x0 x1 x2 x4 x5 x6 x7 x8 x9 x10 x11 x12 x14 (ix4 b ⟨64 + r.val, by omega⟩ ⟨d.val / 64, by omega⟩ ⟨d.val % 64, by omega⟩) := by
  pointwise [val_main_v476, val_main_v477]

/-- The last 128 entries. -/
theorem v479_at (b : Fin 16) (r d : Fin 128) :
    val_main_v479 (F := Ideal) x0 x1 x3 x4 x5 x6 x7 x8 x9 x10 x11 x12 x14 (ix4 0 b r d) = val_main_v409 (F := Ideal) x0 x1 x3 x4 x5 x6 x7 x8 x9 x10 x11 x12 x14 (ix4 b ⟨64 + r.val, by omega⟩ ⟨d.val / 64, by omega⟩ ⟨d.val % 64, by omega⟩) := by
  pointwise [val_main_v478, val_main_v479]

/-- The last 30 rows of the convolution's input. -/
theorem v480_at (b : Fin 16) (r : Fin 30) (d : Fin 1024) : val_main_v480 (F := Ideal) x0 x1 x6 x7 (ix4 0 b r d) = val_main_v33 (F := Ideal) x0 x1 x6 x7 (ix3 b ⟨64 + r.val, by omega⟩ d) := by
  pointwise [val_main_v284, val_main_v480]

end Cert.SampleIdeal.Trunk
-- ==== Proof.SampleHalf.lean ====
module

public import proofs.«01_k».proof.Proof.SampleParts
public import proofs.«01_k».proof.Proof.SampleRef

@[expose] public section

set_option maxRecDepth 16384

/-! # The sample step against its reference -/

noncomputable section

namespace Cert.SampleIdeal.Trunk

open Idealize.ShloMosaic Idealize.ShloMosaic.TcCoe Idealize.SL.Sem
open Idealize.ShloMosaic.Pipeline (Dat)
open Cert.SampleIdeal Cert.SampleIdeal.Gen Cert.SampleReferenceIdeal.Read
open Cert.KernelIdeal.Trunk (IsR rmsRow rmsRow_real lnRow memRow ropeRow ropeRow_real angle ix3_ext ix4_ext ix5_ext fold193 ofBits_eighth kLd kLd2 kLd3 kLd4 inb2 inb3 inb4)
open Cert.KernelIdeal.Trunk (kSilu kLog kLog_pos sum_mul_real cols8_at qScale soft_sink attV scr snk kChunkN kChunkN_at LowOf HighOf kRows)

variable {x0 : FVec Ideal Cert.SampleReferenceIdeal.S16x64x1024 .f32} {x1 : FVec Ideal Cert.SampleReferenceIdeal.S1x16x30x1024 .f32} {x2 : FVec Ideal Cert.SampleReferenceIdeal.S1x16x128x2x64 .f32} {x3 : FVec Ideal Cert.SampleReferenceIdeal.S1x16x128x2x64 .f32} {x4 : FVec Ideal Cert.SampleReferenceIdeal.S2x16x256x4x128 .f32} {x5 : FVec Ideal Cert.SampleReferenceIdeal.S2x16x256x4x128 .f32} {x6 : FVec Ideal Cert.SampleReferenceIdeal.S2x1024 .f32} {x7 : FVec Ideal Cert.SampleReferenceIdeal.S1x1024x4096 .f32} {x8 : FVec Ideal Cert.SampleReferenceIdeal.S1x31x1024 .f32} {x9 : FVec Ideal Cert.SampleReferenceIdeal.S1x1024 .f32} {x10 : FVec Ideal Cert.SampleReferenceIdeal.S1x1024 .f32} {x11 : FVec Ideal Cert.SampleReferenceIdeal.S1x1024 .f32} {x12 : FVec Ideal Cert.SampleReferenceIdeal.S1x1024x3328 .f32} {x13 : FVec Ideal Cert.SampleReferenceIdeal.S1x16 .f32} {x14 : FVec Ideal Cert.SampleReferenceIdeal.S2x1536x1024 .f32} {x15 : FVec Ideal Cert.SampleReferenceIdeal.S1024 .f32}

/-- The stacked rows are the residual stream's. -/
theorem kX_eq {W : Win Ideal} {T : Fin 8} (hW : Fits W T x0 x1 x2 x3 x4 x5 x6 x7 x8 x9 x10 x11 x12 x13 x14 x15) (r : Fin 128) (d : Fin 1024) : kX W.w1 (ix2 r d) = x0 (ix3 (st T r) (po r) d) := by
  rw [kX_at, hW.h1]

/-- A layer's gain row. -/
theorem kNg_eq {W : Win Ideal} {T : Fin 8} (hW : Fits W T x0 x1 x2 x3 x4 x5 x6 x7 x8 x9 x10 x11 x12 x13 x14 x15) (l : ℕ) (h : l + 1 ≤ 2) (d : Fin 1024) : kNg W.w9 l h (ix2 0 d) = x6 (ix2 ⟨l, h⟩ d) := by
  refine (kLd2 W.w9 _ 0 d).trans (Eq.trans ?_ (hW.h9 ⟨l, h⟩ d))
  simp

/-- The layer normalization's gain row. -/
theorem kRow13_eq {W : Win Ideal} {T : Fin 8} (hW : Fits W T x0 x1 x2 x3 x4 x5 x6 x7 x8 x9 x10 x11 x12 x13 x14 x15) (d : Fin 1024) : kRow W.w13 (ix2 0 d) = x10 (ix2 0 d) := by
  refine (kLd2 W.w13 _ 0 d).trans (Eq.trans ?_ (hW.h13 d))
  simp

/-- The layer normalization's bias row. -/
theorem kRow14_eq {W : Win Ideal} {T : Fin 8} (hW : Fits W T x0 x1 x2 x3 x4 x5 x6 x7 x8 x9 x10 x11 x12 x13 x14 x15) (d : Fin 1024) : kRow W.w14 (ix2 0 d) = x11 (ix2 0 d) := by
  refine (kLd2 W.w14 _ 0 d).trans (Eq.trans ?_ (hW.h14 d))
  simp

/-- The last normalization's gain row. -/
theorem kRow17_eq {W : Win Ideal} {T : Fin 8} (hW : Fits W T x0 x1 x2 x3 x4 x5 x6 x7 x8 x9 x10 x11 x12 x13 x14 x15) (d : Fin 1024) : kRow W.w17 (ix2 0 d) = x15 (ix1 d) := by
  refine (kLd2 W.w17 _ 0 d).trans (Eq.trans ?_ (hW.h17 d))
  simp

/-- Columns of the convolution half's input weights. -/
theorem kWc_eq {W : Win Ideal} {T : Fin 8} (hW : Fits W T x0 x1 x2 x3 x4 x5 x6 x7 x8 x9 x10 x11 x12 x13 x14 x15) (c n : ℕ) (h : c + n ≤ 4224) (h' : c + n ≤ 4096) (k : Fin 1024) (d : Fin n) :
    kWc W.w10 c n h (ix3 0 k d) = x7 (ix3 0 k ⟨c + d.val, by omega⟩) := by
  refine (kLd3 W.w10 _ 0 k d).trans (Eq.trans ?_ (hW.h10 k ⟨c + d.val, by omega⟩))
  simp

/-- Columns of the attention half's input weights. -/
theorem kWa_eq {W : Win Ideal} {T : Fin 8} (hW : Fits W T x0 x1 x2 x3 x4 x5 x6 x7 x8 x9 x10 x11 x12 x13 x14 x15) (c n : ℕ) (h : c + n ≤ 3328) (k : Fin 1024) (d : Fin n) :
    kWa W.w15 c n h (ix3 0 k d) = x12 (ix3 0 k ⟨c + d.val, by omega⟩) := by
  refine (kLd3 W.w15 _ 0 k d).trans (Eq.trans ?_ (hW.h15 k ⟨c + d.val, by omega⟩))
  simp

/-- A layer's output weights. -/
theorem kWo_eq {W : Win Ideal} {T : Fin 8} (hW : Fits W T x0 x1 x2 x3 x4 x5 x6 x7 x8 x9 x10 x11 x12 x13 x14 x15) (l : ℕ) (h : l + 1 ≤ 2) (k : Fin 1536) (d : Fin 1024) : kWo W.w16 l h (ix3 0 k d) = x14 (ix3 ⟨l, h⟩ k d) := by
  refine (kLd3 W.w16 _ 0 k d).trans (Eq.trans ?_ (hW.h16 ⟨l, h⟩ k d))
  simp

/-- A stream's memory. -/
theorem kMk7_eq {W : Win Ideal} {T : Fin 8} (hW : Fits W T x0 x1 x2 x3 x4 x5 x6 x7 x8 x9 x10 x11 x12 x13 x14 x15) (l s : ℕ) (hl : l < 2) (hs : s < 2) (m : Fin 256) (e : Fin 512) :
    kMk W.w7 l s hl hs (ix2 m e) = x4 (ix5 ⟨l, hl⟩ ⟨2 * T.val + s, by omega⟩ m ⟨e.val / 128, by omega⟩ ⟨e.val % 128, by omega⟩) := by
  rw [kMk_at, hW.h7]
  exact congrArg x4 (ix5_ext rfl rfl (by show (4 * m.val + e.val / 128) / 4 = m.val; omega) (by show (4 * m.val + e.val / 128) % 4 = e.val / 128; omega) rfl)

/-- A stream's memory. -/
theorem kMk8_eq {W : Win Ideal} {T : Fin 8} (hW : Fits W T x0 x1 x2 x3 x4 x5 x6 x7 x8 x9 x10 x11 x12 x13 x14 x15) (l s : ℕ) (hl : l < 2) (hs : s < 2) (m : Fin 256) (e : Fin 512) :
    kMk W.w8 l s hl hs (ix2 m e) = x5 (ix5 ⟨l, hl⟩ ⟨2 * T.val + s, by omega⟩ m ⟨e.val / 128, by omega⟩ ⟨e.val % 128, by omega⟩) := by
  rw [kMk_at, hW.h8]
  exact congrArg x5 (ix5_ext rfl rfl (by show (4 * m.val + e.val / 128) / 4 = m.val; omega) (by show (4 * m.val + e.val / 128) % 4 = e.val / 128; omega) rfl)

/-- The convolution half's normalized rows. -/
theorem kH_eq {W : Win Ideal} {T : Fin 8} (hW : Fits W T x0 x1 x2 x3 x4 x5 x6 x7 x8 x9 x10 x11 x12 x13 x14 x15) (r : Fin 128) (d : Fin 1024) : kH W (ix2 r d) = val_main_v17 (F := Ideal) x0 x6 (ix3 (st T r) (po r) d) := by
  rw [v17_at]
  show kRms (kX W.w1) (kNg W.w9 0 (by omega)) (ix2 r d) = _
  rw [kRms_at, kNg_eq hW]
  simp only [kX_eq hW]
  rfl

/-- A block of the gated input. -/
theorem kU_eq {W : Win Ideal} {T : Fin 8} (hW : Fits W T x0 x1 x2 x3 x4 x5 x6 x7 x8 x9 x10 x11 x12 x13 x14 x15) (c0 : ℕ) (hc : c0 + 256 ≤ 1024) (s : Fin 2) (i : Fin 64) (d : Fin 256) :
    kU W c0 hc (ix3 s i d) = val_main_v31 (F := Ideal) x0 x6 x7 (ix3 ⟨2 * T.val + s.val, by omega⟩ i ⟨c0 + d.val, by omega⟩) := by
  have e1 : st T ⟨s.val * 64 + i.val, by omega⟩ = ⟨2 * T.val + s.val, by omega⟩ := Fin.ext (by show 2 * T.val + (s.val * 64 + i.val) / 64 = 2 * T.val + s.val; omega)
  have e2 : po ⟨s.val * 64 + i.val, by omega⟩ = i := Fin.ext (by show (s.val * 64 + i.val) % 64 = i.val; omega)
  rw [v31_at, v19_at, v19_at]
  unfold kU
  rw [kGlu_at]
  simp only [kH_eq hW, kWc_eq hW c0 256 (by omega) (by omega), kWc_eq hW (1024 + c0) 256 (by omega) (by omega), Nat.add_assoc, e1, e2]

/-- A convolution block, given its input's columns. -/
theorem kConv_eq {W : Win Ideal} {T : Fin 8} (hW : Fits W T x0 x1 x2 x3 x4 x5 x6 x7 x8 x9 x10 x11 x12 x13 x14 x15) (c0 : ℕ) (hc : c0 + 256 ≤ 1024) (U : FVec Ideal S2x96x1024 .f32)
    (hU : ∀ (s : Fin 2) (i : Fin 94) (d : Fin 256), U (ix3 s ⟨2 + i.val, by omega⟩ ⟨c0 + d.val, by omega⟩) = val_main_v33 (F := Ideal) x0 x1 x6 x7 (ix3 ⟨2 * T.val + s.val, by omega⟩ i ⟨c0 + d.val, by omega⟩)) (r : Fin 128) (d : Fin 256) :
    kConv U W.w11 W.w12 c0 hc (ix2 r d) = val_main_v256 (F := Ideal) x0 x1 x6 x7 x8 x9 (ix3 (st T r) (po r) ⟨c0 + d.val, by omega⟩) := by
  rw [kConv_at, v256_at, hW.h12]
  congr 1
  refine Finset.sum_congr rfl fun k _ => ?_
  rw [hW.h11]
  congr 1
  refine Eq.trans ?_ (hU ⟨r.val / 64, by omega⟩ ⟨k.val + r.val % 64, by omega⟩ d)
  exact congrArg U (ix3_ext rfl (by show 2 + k.val + r.val % 64 = 2 + (k.val + r.val % 64); omega) rfl)

/-- The residual stream after the convolution half. -/
theorem kX1_eq {W : Win Ideal} {T : Fin 8} (hW : Fits W T x0 x1 x2 x3 x4 x5 x6 x7 x8 x9 x10 x11 x12 x13 x14 x15) (hR : Reals x2 x4 x6 x7 x12 x13) (U0 U1 U2 U3 : FVec Ideal S2x96x1024 .f32)
    (h0 : ∀ (s : Fin 2) (i : Fin 94) (d : Fin 256), U0 (ix3 s ⟨2 + i.val, by omega⟩ ⟨0 + d.val, by omega⟩) = val_main_v33 (F := Ideal) x0 x1 x6 x7 (ix3 ⟨2 * T.val + s.val, by omega⟩ i ⟨0 + d.val, by omega⟩))
    (h1 : ∀ (s : Fin 2) (i : Fin 94) (d : Fin 256), U1 (ix3 s ⟨2 + i.val, by omega⟩ ⟨256 + d.val, by omega⟩) = val_main_v33 (F := Ideal) x0 x1 x6 x7 (ix3 ⟨2 * T.val + s.val, by omega⟩ i ⟨256 + d.val, by omega⟩))
    (h2 : ∀ (s : Fin 2) (i : Fin 94) (d : Fin 256), U2 (ix3 s ⟨2 + i.val, by omega⟩ ⟨512 + d.val, by omega⟩) = val_main_v33 (F := Ideal) x0 x1 x6 x7 (ix3 ⟨2 * T.val + s.val, by omega⟩ i ⟨512 + d.val, by omega⟩))
    (h3 : ∀ (s : Fin 2) (i : Fin 94) (d : Fin 256), U3 (ix3 s ⟨2 + i.val, by omega⟩ ⟨768 + d.val, by omega⟩) = val_main_v33 (F := Ideal) x0 x1 x6 x7 (ix3 ⟨2 * T.val + s.val, by omega⟩ i ⟨768 + d.val, by omega⟩)) (r : Fin 128) (d : Fin 1024) :
    kX1 W U0 U1 U2 U3 (ix2 r d) = val_main_v313 (F := Ideal) x0 x1 x4 x5 x6 x7 x8 x9 x10 x11 x14 (ix3 (st T r) (po r) d) := by
  have hC := cat4_at (kConv U0 W.w11 W.w12 0 (by omega)) (kConv U1 W.w11 W.w12 256 (by omega)) (kConv U2 W.w11 W.w12 512 (by omega))
    (kConv U3 W.w11 W.w12 768 (by omega)) r (fun d => val_main_v256 (F := Ideal) x0 x1 x6 x7 x8 x9 (ix3 (st T r) (po r) d))
    (kConv_eq hW 0 (by omega) U0 h0 r) (kConv_eq hW 256 (by omega) U1 h1 r)
    (kConv_eq hW 512 (by omega) U2 h2 r) (kConv_eq hW 768 (by omega) U3 h3 r)
  have hM : ∀ k : Fin 1024, mulf (kSilu (kLn (concatenate S128x1024 1 [⟨S128x256, kConv U0 W.w11 W.w12 0 (by omega)⟩,
      ⟨S128x256, kConv U1 W.w11 W.w12 256 (by omega)⟩, ⟨S128x256, kConv U2 W.w11 W.w12 512 (by omega)⟩,
      ⟨S128x256, kConv U3 W.w11 W.w12 768 (by omega)⟩] concatenates_S128x256_S128x256_S128x256_S128x256_S128x1024_d1) (kRow W.w13) (kRow W.w14)))
      (kSilu (kDot1024 (kH W) (kWc W.w10 2048 1024 (by omega)))) (ix2 r k) =
      val_main_v283 (F := Ideal) x0 x1 x6 x7 x8 x9 x10 x11 (ix3 (st T r) (po r) k) := fun k => by
    rw [kSilu_mul_at, kLn_at, kDot1024_at, v283_at, v280_at, v19_at, kRow13_eq hW,
      kRow14_eq hW]
    simp only [hC, kH_eq hW, kWc_eq hW 2048 1024 (by omega) (by omega)]
  have hQ : ∀ (r : Fin 128) (e : Fin 512), kDot512 (kH W) (kWc W.w10 3072 512 (by omega)) (ix2 r e) =
      val_main_v19 (F := Ideal) x0 x6 x7 (ix3 (st T r) (po r) ⟨3072 + e.val, by omega⟩) := fun r e => by
    rw [kDot512_at, v19_at]
    simp only [kH_eq hW, kWc_eq hW 3072 512 (by omega) (by omega)]
  have hXO : ∀ k : Fin 512, mulf (kMem2 (kDot512 (kH W) (kWc W.w10 3072 512 (by omega))) (kMk W.w7 0 0 (by omega) (by omega)) (kMk W.w8 0 0 (by omega) (by omega)) (kMk W.w7 0 1 (by omega) (by omega)) (kMk W.w8 0 1 (by omega) (by omega)))
      (kSilu (kDot512 (kH W) (kWc W.w10 3584 512 (by omega)))) (ix2 r k) =
      val_main_v308 (F := Ideal) x0 x4 x5 x6 x7 (ix3 (st T r) (po r) k) := fun k => by
    have hA := kMem2_at (kDot512 (kH W) (kWc W.w10 3072 512 (by omega))) (fun s => kMk W.w7 0 s.val (by omega) s.isLt) (fun s => kMk W.w8 0 s.val (by omega) s.isLt) r k
      (fun r e => by
        rw [hQ]
        exact v19_real hR _ _ _)
      (fun s m e => by
        beta_reduce
        rw [kMk7_eq hW]
        exact hR.r4 _)
    rw [kMul_silu_at, v308_at, v306_at]
    congr 1
    · refine hA.trans ?_
      congr 1
      · funext e; exact hQ _ _
      · funext m e
        refine (kMk7_eq hW _ _ _ _ _ _).trans (congrArg x4 ?_)
        exact ix5_ext rfl rfl rfl (by show (k.val / 128 * 128 + e.val) / 128 = k.val / 128; omega) (by show (k.val / 128 * 128 + e.val) % 128 = e.val; omega)
      · funext m; exact kMk8_eq hW _ _ _ _ _ _
    · rw [kDot512_at, v19_at]
      simp only [kH_eq hW, kWc_eq hW 3584 512 (by omega) (by omega)]
  rw [v313_at]
  unfold kX1
  show kX W.w1 (ix2 r d) + kOut _ _ _ (ix2 r d) = _
  rw [kX_eq hW, kOut_at]
  simp only [hM, hXO, kWo_eq hW]
  rfl

/-- The attention half's normalized rows. -/
theorem kH2_eq {W : Win Ideal} {T : Fin 8} (hW : Fits W T x0 x1 x2 x3 x4 x5 x6 x7 x8 x9 x10 x11 x12 x13 x14 x15) {X1 : FVec Ideal S128x1024 .f32} (hX : ∀ (r : Fin 128) (d : Fin 1024), X1 (ix2 r d) = val_main_v313 (F := Ideal) x0 x1 x4 x5 x6 x7 x8 x9 x10 x11 x14 (ix3 (st T r) (po r) d)) (r : Fin 128) (d : Fin 1024) : kH2 W X1 (ix2 r d) = val_main_v328 (F := Ideal) x0 x1 x4 x5 x6 x7 x8 x9 x10 x11 x14 (ix3 (st T r) (po r) d) := by
  rw [v328_at]
  show kRms X1 (kNg W.w9 1 (by omega)) (ix2 r d) = _
  rw [kRms_at, kNg_eq hW]
  simp only [hX]
  rfl

/-- The tile's values. -/
theorem kV_eq {W : Win Ideal} {T : Fin 8} (hW : Fits W T x0 x1 x2 x3 x4 x5 x6 x7 x8 x9 x10 x11 x12 x13 x14 x15) {X1 : FVec Ideal S128x1024 .f32} (hX : ∀ (r : Fin 128) (d : Fin 1024), X1 (ix2 r d) = val_main_v313 (F := Ideal) x0 x1 x4 x5 x6 x7 x8 x9 x10 x11 x14 (ix3 (st T r) (po r) d)) (r : Fin 128) (d : Fin 128) :
    kV W X1 (ix2 r d) = val_main_v405 (F := Ideal) x0 x1 x4 x5 x6 x7 x8 x9 x10 x11 x12 x14 (ix4 (st T r) (po r) ⟨d.val / 64, by omega⟩ ⟨d.val % 64, by omega⟩) := by
  unfold kV
  rw [kDot128_at, v405_at, v330_at]
  simp only [kH2_eq hW hX, kWa_eq hW]
  refine Finset.sum_congr rfl fun k _ => congrArg _ (congrArg x12 ?_)
  congr 1
  exact Fin.ext (by show 1152 + d.val = 1152 + (d.val / 64 * 64 + d.val % 64); omega)

/-- The step's cosine lanes. -/
theorem cos_eq {W : Win Ideal} {T : Fin 8} (hW : Fits W T x0 x1 x2 x3 x4 x5 x6 x7 x8 x9 x10 x11 x12 x13 x14 x15) (r : Fin 128) (d : Fin 128) : kCos (kTab W.w2) (ix2 r d) = Ideal.cos (angle (2048 + (po r).val) (d.val % 32)) := by
  rw [kCos_at, kTab_at, hW.h2]

/-- The step's sine lanes. -/
theorem sin_eq {W : Win Ideal} {T : Fin 8} (hW : Fits W T x0 x1 x2 x3 x4 x5 x6 x7 x8 x9 x10 x11 x12 x13 x14 x15) (r : Fin 128) (d : Fin 128) : kSin (kTab W.w3) (ix2 r d) =
    if d.val % 64 < 32 then -Ideal.sin (angle (2048 + (po r).val) (d.val % 32)) else Ideal.sin (angle (2048 + (po r).val) (d.val % 32)) := by
  rw [kSin_at, kTab_at, hW.h3]

/-- The tile's keys. -/
theorem kK_eq {W : Win Ideal} {T : Fin 8} (hW : Fits W T x0 x1 x2 x3 x4 x5 x6 x7 x8 x9 x10 x11 x12 x13 x14 x15) {X1 : FVec Ideal S128x1024 .f32} (hX : ∀ (r : Fin 128) (d : Fin 1024), X1 (ix2 r d) = val_main_v313 (F := Ideal) x0 x1 x4 x5 x6 x7 x8 x9 x10 x11 x14 (ix3 (st T r) (po r) d)) (r : Fin 128) (d : Fin 128) :
    kK W X1 (ix2 r d) = val_main_v404 (F := Ideal) x0 x1 x4 x5 x6 x7 x8 x9 x10 x11 x12 x14 (ix4 (st T r) (po r) ⟨d.val / 64, by omega⟩ ⟨d.val % 64, by omega⟩) := by
  rw [v404_at]
  unfold kK
  refine rope_lane _ _ _ (2048 + (po r).val) r d _ (cos_eq hW r d) (sin_eq hW r d) fun e => ?_
  rw [kDot128_at, v330_at]
  simp only [kH2_eq hW hX, kWa_eq hW]

/-- The tile's queries. -/
theorem kQW_eq {W : Win Ideal} {T : Fin 8} (hW : Fits W T x0 x1 x2 x3 x4 x5 x6 x7 x8 x9 x10 x11 x12 x13 x14 x15) {X1 : FVec Ideal S128x1024 .f32} (hX : ∀ (r : Fin 128) (d : Fin 1024), X1 (ix2 r d) = val_main_v313 (F := Ideal) x0 x1 x4 x5 x6 x7 x8 x9 x10 x11 x14 (ix3 (st T r) (po r) d)) (r : Fin 128) (d : Fin 1024) :
    kQW W X1 (ix2 r d) = val_main_v370 (F := Ideal) x0 x1 x4 x5 x6 x7 x8 x9 x10 x11 x12 x14 (ix4 (st T r) (po r) ⟨d.val / 64, by omega⟩ ⟨d.val % 64, by omega⟩) * ((qScale : ℝ) : EReal) := by
  have key : ∀ (o : ℕ) (ho : o + 128 ≤ 1024) (h64 : o % 64 = 0) (hs : S128x1024.Slices ![0, o] S128x128) (l : Fin 128),
      kRope (extractStridedSlice S128x128 ![0, o] (kDot1024 (kH2 W X1) (kWa W.w15 0 1024 (by omega))) hs) (kScaled (kCos (kTab W.w2))) (kScaled (kSin (kTab W.w3))) (ix2 r l) =
        val_main_v370 (F := Ideal) x0 x1 x4 x5 x6 x7 x8 x9 x10 x11 x12 x14 (ix4 (st T r) (po r) ⟨(o + l.val) / 64, by omega⟩ ⟨(o + l.val) % 64, by omega⟩) * ((qScale : ℝ) : EReal) := fun o ho h64 hs l => by
    have e64 : (o + l.val) % 64 = l.val % 64 := by omega
    rw [rope_scaled, v370_at]
    refine congrArg (· * _) ?_
    simp only [e64]
    refine rope_lane _ _ _ (2048 + (po r).val) r l _ (cos_eq hW r l) (sin_eq hW r l) fun e => ?_
    have hsl : extractStridedSlice S128x128 ![0, o] (kDot1024 (kH2 W X1) (kWa W.w15 0 1024 (by omega))) hs (ix2 r ⟨l.val / 64 * 64 + e.val, by omega⟩) =
        kDot1024 (kH2 W X1) (kWa W.w15 0 1024 (by omega)) (ix2 r ⟨o + (l.val / 64 * 64 + e.val), by omega⟩) := by pointwise []
    rw [hsl, kDot1024_at, v330_at]
    simp only [kH2_eq hW hX, kWa_eq hW]
    refine Finset.sum_congr rfl fun k _ => congrArg _ (congrArg x12 ?_)
    congr 1
    exact Fin.ext (by show 0 + (o + (l.val / 64 * 64 + e.val)) = (o + l.val) / 64 * 64 + e.val; omega)
  unfold kQW kQ
  exact cols8_at _ _ _ _ _ _ _ _ concatenates_S128x128_S128x128_S128x128_S128x128_S128x128_S128x128_S128x128_S128x128_S128x1024_d1 r (fun d => val_main_v370 (F := Ideal) x0 x1 x4 x5 x6 x7 x8 x9 x10 x11 x12 x14 (ix4 (st T r) (po r) ⟨d.val / 64, by omega⟩ ⟨d.val % 64, by omega⟩) * ((qScale : ℝ) : EReal))
    (key 0 (by omega) rfl _) (key 128 (by omega) rfl _) (key 256 (by omega) rfl _) (key 384 (by omega) rfl _) (key 512 (by omega) rfl _)
    (key 640 (by omega) rfl _) (key 768 (by omega) rfl _) (key 896 (by omega) rfl _) d

/-- The residual stream after the attention half. -/
theorem kX2_eq {W : Win Ideal} {T : Fin 8} (hW : Fits W T x0 x1 x2 x3 x4 x5 x6 x7 x8 x9 x10 x11 x12 x13 x14 x15) (hR : Reals x2 x4 x6 x7 x12 x13) {X1 : FVec Ideal S128x1024 .f32} (hX : ∀ (r : Fin 128) (d : Fin 1024), X1 (ix2 r d) = val_main_v313 (F := Ideal) x0 x1 x4 x5 x6 x7 x8 x9 x10 x11 x14 (ix3 (st T r) (po r) d)) {O : FVec Ideal S128x1024 .f32}
    (hO : ∀ (r : Fin 128) (d : Fin 1024), O (ix2 r d) = val_main_v431 (F := Ideal) x0 x1 x2 x3 x4 x5 x6 x7 x8 x9 x10 x11 x12 x13 x14 (ix3 (st T r) (po r) d)) (r : Fin 128) (d : Fin 1024) :
    kX2 W X1 O (ix2 r d) = val_main_v462 (F := Ideal) x0 x1 x2 x3 x4 x5 x6 x7 x8 x9 x10 x11 x12 x13 x14 (ix3 (st T r) (po r) d) := by
  have hQ : ∀ (r : Fin 128) (e : Fin 512), kDot512 (kH2 W X1) (kWa W.w15 2304 512 (by omega)) (ix2 r e) = val_main_v330 (F := Ideal) x0 x1 x4 x5 x6 x7 x8 x9 x10 x11 x12 x14 (ix3 (st T r) (po r) ⟨2304 + e.val, by omega⟩) := fun r e => by
    rw [kDot512_at, v330_at]
    simp only [kH2_eq hW hX, kWa_eq hW]
  have hM : ∀ k : Fin 1024, mulf O (kSilu (kDot1024 (kH2 W X1) (kWa W.w15 1280 1024 (by omega)))) (ix2 r k) = val_main_v433 (F := Ideal) x0 x1 x2 x3 x4 x5 x6 x7 x8 x9 x10 x11 x12 x13 x14 (ix3 (st T r) (po r) k) := fun k => by
    rw [v433_at, ← hO]
    have e : ∀ A B : FVec Ideal S128x1024 .f32, mulf A (kSilu B) (ix2 r k) = A (ix2 r k) * (B (ix2 r k) * Ideal.logistic (B (ix2 r k))) := fun A B => rfl
    rw [e, kDot1024_at, v330_at]
    simp only [kH2_eq hW hX, kWa_eq hW]
  have hXO : ∀ k : Fin 512, mulf (kMem2 (kDot512 (kH2 W X1) (kWa W.w15 2304 512 (by omega))) (kMk W.w7 1 0 (by omega) (by omega)) (kMk W.w8 1 0 (by omega) (by omega)) (kMk W.w7 1 1 (by omega) (by omega)) (kMk W.w8 1 1 (by omega) (by omega)))
      (kSilu (kDot512 (kH2 W X1) (kWa W.w15 2816 512 (by omega)))) (ix2 r k) = val_main_v457 (F := Ideal) x0 x1 x4 x5 x6 x7 x8 x9 x10 x11 x12 x14 (ix3 (st T r) (po r) k) := fun k => by
    have hA := kMem2_at (kDot512 (kH2 W X1) (kWa W.w15 2304 512 (by omega))) (fun s => kMk W.w7 1 s.val (by omega) s.isLt) (fun s => kMk W.w8 1 s.val (by omega) s.isLt) r k
      (fun r e => by
        rw [hQ]
        exact v330_real hR _ _ _)
      (fun s m e => by
        beta_reduce
        rw [kMk7_eq hW]
        exact hR.r4 _)
    rw [kMul_silu_at, v457_at, v455_at]
    congr 1
    · refine hA.trans ?_
      congr 1
      · funext e; exact hQ _ _
      · funext m e
        refine (kMk7_eq hW _ _ _ _ _ _).trans (congrArg x4 ?_)
        exact ix5_ext rfl rfl rfl (by show (k.val / 128 * 128 + e.val) / 128 = k.val / 128; omega) (by show (k.val / 128 * 128 + e.val) % 128 = e.val; omega)
      · funext m; exact kMk8_eq hW _ _ _ _ _ _
    · rw [kDot512_at, v330_at]
      simp only [kH2_eq hW hX, kWa_eq hW]
  rw [v462_at]
  unfold kX2
  show X1 (ix2 r d) + kOut _ _ _ (ix2 r d) = _
  rw [hX, kOut_at]
  simp only [hM, hXO, kWo_eq hW]
  rfl

/-- The step's result rows. -/
theorem kY_eq {W : Win Ideal} {T : Fin 8} (hW : Fits W T x0 x1 x2 x3 x4 x5 x6 x7 x8 x9 x10 x11 x12 x13 x14 x15) (hR : Reals x2 x4 x6 x7 x12 x13) {X1 : FVec Ideal S128x1024 .f32} (hX : ∀ (r : Fin 128) (d : Fin 1024), X1 (ix2 r d) = val_main_v313 (F := Ideal) x0 x1 x4 x5 x6 x7 x8 x9 x10 x11 x14 (ix3 (st T r) (po r) d)) {O : FVec Ideal S128x1024 .f32}
    (hO : ∀ (r : Fin 128) (d : Fin 1024), O (ix2 r d) = val_main_v431 (F := Ideal) x0 x1 x2 x3 x4 x5 x6 x7 x8 x9 x10 x11 x12 x13 x14 (ix3 (st T r) (po r) d)) (s : Fin 2) (i : Fin 64) (d : Fin 1024) :
    kY W X1 O (ix3 s i d) = val_main_v475 (F := Ideal) x0 x1 x2 x3 x4 x5 x6 x7 x8 x9 x10 x11 x12 x13 x14 x15 (ix3 ⟨2 * T.val + s.val, by omega⟩ i d) := by
  have e1 : st T ⟨s.val * 64 + i.val, by omega⟩ = ⟨2 * T.val + s.val, by omega⟩ := Fin.ext (by show 2 * T.val + (s.val * 64 + i.val) / 64 = 2 * T.val + s.val; omega)
  have e2 : po ⟨s.val * 64 + i.val, by omega⟩ = i := Fin.ext (by show (s.val * 64 + i.val) % 64 = i.val; omega)
  have h : kY W X1 O (ix3 s i d) = kRms (kX2 W X1 O) (kRow W.w17) (ix2 ⟨s.val * 64 + i.val, by omega⟩ d) := by
    unfold kY
    pointwise []
  rw [h, kRms_at, v475_at, kRow17_eq hW]
  simp only [kX2_eq hW hR hX hO, e1, e2]

/-- The reference's queries are real. -/
theorem v370_real (hR : Reals x2 x4 x6 x7 x12 x13) (b : Fin 16) (n : Fin 64) (h : Fin 16) (e : Fin 64) : IsR (val_main_v370 (F := Ideal) x0 x1 x4 x5 x6 x7 x8 x9 x10 x11 x12 x14 (ix4 b n h e)) := by
  rw [v370_at]
  exact ropeRow_real _ _ _ fun _ => v330_real hR _ _ _

/-- The reference's keys, cached and new, are real. -/
theorem v407_real (hR : Reals x2 x4 x6 x7 x12 x13) (b : Fin 16) (m : Fin 192) (h : Fin 2) (e : Fin 64) : IsR (val_main_v407 (F := Ideal) x0 x1 x2 x4 x5 x6 x7 x8 x9 x10 x11 x12 x14 (ix4 b m h e)) := by
  rw [v407_at]
  by_cases h' : m.val < 128
  · rw [dif_pos h']; exact hR.r2 _
  · rw [dif_neg h', v404_at]
    exact ropeRow_real _ _ _ fun _ => v330_real hR _ _ _

/-- The reference's scores never are the largest element. -/
theorem refScr_ne_top (hR : Reals x2 x4 x6 x7 x12 x13) (b : Fin 16) (n : Fin 64) (h : Fin 16) (x : Fin 192) : refScr x0 x1 x2 x4 x5 x6 x7 x8 x9 x10 x11 x12 x14 b n h x ≠ ⊤ :=
  ((IsR.sum _ fun e _ => (v407_real hR _ _ _ _).mul (v370_real hR _ _ _ _)).mul (IsR.coe _)).ne_top

/-- A stream's scratch as one of the trunk kernel's: its 192 rows, over and over. -/
def padK (K : FVec Ideal S2x2x192x128 .bf16) (s : Fin 2) : FVec Ideal Cert.KernelIdeal.S2x1x384x128 .bf16 :=
  fun i => K (ix4 (i 0) s ⟨(i 2).val % 192, by omega⟩ (i 3))

/-- A scratch's rows are the padded scratch's. -/
theorem rows_pad (K : FVec Ideal S2x2x192x128 .bf16) (h s : ℕ) (hh : h + 1 ≤ 2) (hs : s + 1 ≤ 2) :
    kRowsS K h s hh hs = kRows (padK K ⟨s, hs⟩) h 0 hh (by omega) := by
  funext i
  rw [ValueIdx.eq_ix4 i]
  refine (kLd4 K _ _ _ _ _).trans (Eq.trans ?_ (kLd4 (padK K ⟨s, hs⟩) _ _ _ _ _).symm)
  refine congrArg K (ix4_ext rfl ?_ ?_ rfl)
  · show s + (i 1).val = s
    have : (i 1).val < 1 := (i 1).isLt
    omega
  · show 0 + (i 2).val = (0 + (i 2).val) % 192
    have : (i 2).val < 192 := (i 2).isLt
    omega

/-- A stream's chunk is one of the trunk kernel's. -/
theorem kChunkS_eq (Q : FVec Ideal S64x1024 .f32) (KA KB VA VB : FVec Ideal S2x2x192x128 .bf16) (sk : FVec Ideal S16 .f32) (s : ℕ) (hs : s + 1 ≤ 2) :
    kChunkS Q KA KB VA VB sk s hs = kChunkN Q (padK KA ⟨s, hs⟩) (padK KB ⟨s, hs⟩) (padK VA ⟨s, hs⟩) (padK VB ⟨s, hs⟩) sk 0 (by omega) := by
  unfold kChunkS
  simp only [rows_pad]
  rfl

/-- A scratch that holds each head's 64 lanes below and zeros above. -/
def LowS (K : FVec Ideal S2x2x192x128 .bf16) (k : Fin 2 → Fin 2 → Fin 192 → Fin 64 → EReal) : Prop :=
  ∀ (g s : Fin 2) (x : Fin 192) (l : Fin 128), K (ix4 g s x l) = if h : l.val < 64 then k s g x ⟨l.val, h⟩ else 0

/-- A scratch that holds each head's 64 lanes above and zeros below. -/
def HighS (K : FVec Ideal S2x2x192x128 .bf16) (k : Fin 2 → Fin 2 → Fin 192 → Fin 64 → EReal) : Prop :=
  ∀ (g s : Fin 2) (x : Fin 192) (l : Fin 128), K (ix4 g s x l) = if h : l.val < 64 then 0 else k s g x ⟨l.val - 64, by omega⟩

/-- A stream's rows of such a scratch. -/
theorem LowS.of {K : FVec Ideal S2x2x192x128 .bf16} {k : Fin 2 → Fin 2 → Fin 192 → Fin 64 → EReal} (h : LowS K k) (s : Fin 2) : LowOf (padK K s) 0 (by omega) (k s) :=
  fun g x l => (congrArg K (ix4_ext rfl rfl (by show (0 + x.val) % 192 = x.val; omega) rfl)).trans (h g s x l)

/-- A stream's rows of such a scratch. -/
theorem HighS.of {K : FVec Ideal S2x2x192x128 .bf16} {k : Fin 2 → Fin 2 → Fin 192 → Fin 64 → EReal} (h : HighS K k) (s : Fin 2) : HighOf (padK K s) 0 (by omega) (k s) :=
  fun g x l => (congrArg K (ix4_ext rfl rfl (by show (0 + x.val) % 192 = x.val; omega) rfl)).trans (h g s x l)

/-- The kernel's scores, in powers of two, give the reference's attention. -/
theorem attV_eq (hR : Reals x2 x4 x6 x7 x12 x13) (b : Fin 16) (n : Fin 64) (d : Fin 1024) (s : Fin 192 → EReal) (t : EReal)
    (hs : ∀ x, s x = scr (fun c => val_main_v370 (F := Ideal) x0 x1 x4 x5 x6 x7 x8 x9 x10 x11 x12 x14 (ix4 b n ⟨c.val / 64, by omega⟩ ⟨c.val % 64, by omega⟩) * ((qScale : ℝ) : EReal))
        (fun g x e => val_main_v407 (F := Ideal) x0 x1 x2 x4 x5 x6 x7 x8 x9 x10 x11 x12 x14 (ix4 b x g e)) ⟨d.val / 64, by omega⟩ x)
    (ht : t = x13 (ix2 0 ⟨d.val / 64, by omega⟩) * (kLog : EReal)) :
    attV s t (fun x => val_main_v409 (F := Ideal) x0 x1 x3 x4 x5 x6 x7 x8 x9 x10 x11 x12 x14 (ix4 b x ⟨d.val / 512, by omega⟩ ⟨d.val % 64, by omega⟩)) = val_main_v431 (F := Ideal) x0 x1 x2 x3 x4 x5 x6 x7 x8 x9 x10 x11 x12 x13 x14 (ix3 b n d) := by
  have hsr : s = fun x => refScr x0 x1 x2 x4 x5 x6 x7 x8 x9 x10 x11 x12 x14 b n ⟨d.val / 64, by omega⟩ x * (kLog : EReal) := by
    funext x
    rw [hs]
    unfold refScr
    rw [mul_assoc, ← EReal.coe_mul, show (8 : ℝ)⁻¹ * kLog = qScale from mul_comm _ _, sum_mul_real _ _ (show (0 : ℝ) ≤ qScale from mul_nonneg kLog_pos.le (by norm_num))]
    refine Finset.sum_congr rfl fun e _ => ?_
    refine (mul_right_comm _ _ _).trans (congrArg (· * _) ((mul_comm _ _).trans ?_))
    congr 1
    refine congrArg _ (ix4_ext rfl rfl ?_ ?_)
    · show (64 * (d.val / 64) + e.val) / 64 = d.val / 64
      omega
    · show (64 * (d.val / 64) + e.val) % 64 = e.val
      omega
  rw [v431_at b _ d _ _ rfl rfl, hsr, ht]
  exact soft_sink _ _ _ (refScr_ne_top hR _ _ _) (hR.r13 _)

/-- The windowed attention of both streams is the reference's. -/
theorem kSwa_eq {W : Win Ideal} {T : Fin 8} (hW : Fits W T x0 x1 x2 x3 x4 x5 x6 x7 x8 x9 x10 x11 x12 x13 x14 x15) (hR : Reals x2 x4 x6 x7 x12 x13) {Q : FVec Ideal S128x1024 .f32} {KA KB VA VB : FVec Ideal S2x2x192x128 .bf16}
    (hQ : ∀ (r : Fin 128) (d : Fin 1024), Q (ix2 r d) = val_main_v370 (F := Ideal) x0 x1 x4 x5 x6 x7 x8 x9 x10 x11 x12 x14 (ix4 (st T r) (po r) ⟨d.val / 64, by omega⟩ ⟨d.val % 64, by omega⟩) * ((qScale : ℝ) : EReal))
    (hKA : LowS KA fun s g x e => val_main_v407 (F := Ideal) x0 x1 x2 x4 x5 x6 x7 x8 x9 x10 x11 x12 x14 (ix4 ⟨2 * T.val + s.val, by omega⟩ x g e)) (hKB : HighS KB fun s g x e => val_main_v407 (F := Ideal) x0 x1 x2 x4 x5 x6 x7 x8 x9 x10 x11 x12 x14 (ix4 ⟨2 * T.val + s.val, by omega⟩ x g e))
    (hVA : LowS VA fun s g x e => val_main_v409 (F := Ideal) x0 x1 x3 x4 x5 x6 x7 x8 x9 x10 x11 x12 x14 (ix4 ⟨2 * T.val + s.val, by omega⟩ x g e)) (hVB : HighS VB fun s g x e => val_main_v409 (F := Ideal) x0 x1 x3 x4 x5 x6 x7 x8 x9 x10 x11 x12 x14 (ix4 ⟨2 * T.val + s.val, by omega⟩ x g e))
    (r : Fin 128) (d : Fin 1024) : kSwa Q KA KB VA VB W.w0 (ix2 r d) = val_main_v431 (F := Ideal) x0 x1 x2 x3 x4 x5 x6 x7 x8 x9 x10 x11 x12 x13 x14 (ix3 (st T r) (po r) d) := by
  have ht : snk W.w0 ⟨d.val / 64, by omega⟩ = x13 (ix2 0 ⟨d.val / 64, by omega⟩) * (kLog : EReal) := congrArg (· * _) (hW.h0 _)
  have key : ∀ (o : ℕ) (ho : o + 64 ≤ 128) (hsl : S128x1024.Slices ![o, 0] S64x1024) (s : Fin 2) (hs : 64 * s.val = o) (i : Fin 64),
      kChunkS (extractStridedSlice S64x1024 ![o, 0] Q hsl) KA KB VA VB W.w0 s.val s.isLt (ix2 i d) = val_main_v431 (F := Ideal) x0 x1 x2 x3 x4 x5 x6 x7 x8 x9 x10 x11 x12 x13 x14 (ix3 (st T ⟨o + i.val, by omega⟩) (po ⟨o + i.val, by omega⟩) d) := fun o ho hsl s hs i => by
    have e1 : (⟨2 * T.val + s.val, by omega⟩ : Fin 16) = st T ⟨o + i.val, by omega⟩ := Fin.ext (by show 2 * T.val + s.val = 2 * T.val + (o + i.val) / 64; omega)
    have hq : (fun c : Fin 1024 => extractStridedSlice S64x1024 ![o, 0] Q hsl (ix2 i c)) =
        fun c => val_main_v370 (F := Ideal) x0 x1 x4 x5 x6 x7 x8 x9 x10 x11 x12 x14 (ix4 (st T ⟨o + i.val, by omega⟩) (po ⟨o + i.val, by omega⟩) ⟨c.val / 64, by omega⟩ ⟨c.val % 64, by omega⟩) * ((qScale : ℝ) : EReal) := by
      funext c
      have e : extractStridedSlice S64x1024 ![o, 0] Q hsl (ix2 i c) = Q (ix2 ⟨o + i.val, by omega⟩ c) := by pointwise []
      rw [e, hQ]
    rw [kChunkS_eq]
    refine (kChunkN_at _ _ _ _ _ _ 0 _ _ _ (hKA.of s) (hKB.of s) (hVA.of s) (hVB.of s) i d).trans ?_
    rw [hq, e1]
    exact attV_eq hR _ _ d _ _ (fun x => rfl) ht
  unfold kSwa
  exact rows2_1024 _ _ r d (fun r => val_main_v431 (F := Ideal) x0 x1 x2 x3 x4 x5 x6 x7 x8 x9 x10 x11 x12 x13 x14 (ix3 (st T r) (po r) d))
    (fun i => (key 0 (by omega) _ 0 rfl i).trans (by congr 2 <;> exact Fin.ext (by simp)))
    (fun i => key 64 (by omega) _ 1 rfl i)

end Cert.SampleIdeal.Trunk
-- ==== Proof.SampleIdent.lean ====
module

public import proofs.«01_k».proof.Proof.SampleBody
public import proofs.«01_k».proof.Proof.Gen.SampleIdeal.Value
public import Idealize.ShloMosaic.Lib.Tactic.Stretches

@[expose] public section

set_option maxRecDepth 16384

noncomputable section

namespace Cert.SampleIdeal.Trunk

open Idealize.ShloMosaic Idealize.ShloMosaic.TcCoe Idealize.SL.Sem
open Idealize.ShloMosaic.Pipeline (Dat)
open Cert.SampleIdeal Cert.SampleIdeal.Gen
open Cert.KernelIdeal.Trunk (kLd inb2 inb3 inb4)

variable {F : FTy → Type} [FloatOps F] [Named F]

/-! # The sample step's definitions are the parts of the kernel's function

Each theorem opens one generated result of a step and finds in it the parts named before. -/

variable (c : Dev nD) (i : grid0.Coords) (arg1 : Memref sig .tc .smem S16 .f32) (harg1 : arg1.IsWhole) (arg2 : Memref sig .tc .vmem S2x64x1024 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x2x30x1024 .f32) (harg5 : arg5.IsWhole) (arg6 : Memref sig .tc .vmem S1x2x128x128 .f32) (harg6 : arg6.IsWhole) (arg7 : Memref sig .tc .vmem S1x2x128x128 .f32) (harg7 : arg7.IsWhole) (arg8 : Memref sig .tc .vmem S2x2x1024x128 .f32) (harg8 : arg8.IsWhole) (arg9 : Memref sig .tc .vmem S2x2x1024x128 .f32) (harg9 : arg9.IsWhole) (arg10 : Memref sig .tc .vmem S2x1024 .f32) (harg10 : arg10.IsWhole) (arg11 : Memref sig .tc .vmem S1x1024x4224 .bf16) (harg11 : arg11.IsWhole) (arg12 : Memref sig .tc .vmem S1x31x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x3328 .bf16) (harg16 : arg16.IsWhole) (arg17 : Memref sig .tc .vmem S2x1536x1152 .bf16) (harg17 : arg17.IsWhole) (arg18 : Memref sig .tc .vmem S1x1024 .f32) (harg18 : arg18.IsWhole) (arg19 : Memref sig .tc .vmem S2x64x1024 .f32) (harg19 : arg19.IsWhole) (arg20 : Memref sig .tc .vmem S1x2x30x1024 .f32) (harg20 : arg20.IsWhole) (arg21 : Memref sig .tc .vmem S1x2x128x128 .f32) (harg21 : arg21.IsWhole) (arg22 : Memref sig .tc .vmem S1x2x128x128 .f32) (harg22 : arg22.IsWhole) (arg23 : Memref sig .tc .vmem S2x96x1024 .f32) (harg23 : arg23.IsWhole) (arg24 : Memref sig .tc .vmem S2x2x192x128 .bf16) (harg24 : arg24.IsWhole) (arg25 : Memref sig .tc .vmem S2x2x192x128 .bf16) (harg25 : arg25.IsWhole) (arg26 : Memref sig .tc .vmem S2x2x192x128 .bf16) (harg26 : arg26.IsWhole) (arg27 : Memref sig .tc .vmem S2x2x192x128 .bf16) (harg27 : arg27.IsWhole)
  (x0 : Vec F S16 .f32) (x1 : Vec F S2x64x1024 .f32) (x2 : Vec F S32x128 .f32) (x3 : Vec F S32x128 .f32) (x4 : Vec F S1x2x30x1024 .f32) (x5 : Vec F S1x2x128x128 .f32) (x6 : Vec F S1x2x128x128 .f32) (x7 : Vec F S2x2x1024x128 .f32) (x8 : Vec F S2x2x1024x128 .f32) (x9 : Vec F S2x1024 .f32) (x10 : Vec F S1x1024x4224 .bf16) (x11 : Vec F S1x31x1024 .f32) (x12 : Vec F S1x1024 .f32) (x13 : Vec F S1x1024 .f32) (x14 : Vec F S1x1024 .f32) (x15 : Vec F S1x1024x3328 .bf16) (x16 : Vec F S2x1536x1152 .bf16) (x17 : Vec F S1x1024 .f32)

/-- The windows of a step, as the memories they arrive in are read. -/
abbrev winOf : Win F :=
  ⟨View.read (Elt F) arg1.view (harg1.unread x0), View.read (Elt F) arg2.view (harg2.unread x1), View.read (Elt F) arg3.view (harg3.unread x2), View.read (Elt F) arg4.view (harg4.unread x3), View.read (Elt F) arg5.view (harg5.unread x4), View.read (Elt F) arg6.view (harg6.unread x5), View.read (Elt F) arg7.view (harg7.unread x6), View.read (Elt F) arg8.view (harg8.unread x7), View.read (Elt F) arg9.view (harg9.unread x8), View.read (Elt F) arg10.view (harg10.unread x9), View.read (Elt F) arg11.view (harg11.unread x10), View.read (Elt F) arg12.view (harg12.unread x11), View.read (Elt F) arg13.view (harg13.unread x12), View.read (Elt F) arg14.view (harg14.unread x13), View.read (Elt F) arg15.view (harg15.unread x14), View.read (Elt F) arg16.view (harg16.unread x15), View.read (Elt F) arg17.view (harg17.unread x16), View.read (Elt F) arg18.view (harg18.unread x17)⟩

/-- A step's result: the result rows. -/
theorem out0_A_18_eq :
    let W : Win F := winOf arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17
    let X1 := kX1' W arg23.view arg23.view.junk (kUHist W)
    Gen.out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 =
      View.read (Elt F) VO0_18 (VO0_18.writes (Elt F) VO0_18.junk [⟨Rect.unit (s := S2x64x1024) ![0, 0, 0] S2x64x1024.size (inb3 (Nat.le_refl 2) (Nat.le_refl 64) (Nat.le_refl 1024)), kY W X1 (kSwa' W X1 arg24.view arg25.view arg26.view arg27.view)⟩]) := by
  intro W X1
  frame_open
  sl_kernel_rfl

/-- A step's result: the last rows of the convolution's input. -/
theorem out0_A_19_eq :
    let W : Win F := winOf arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17
    let X1 := kX1' W arg23.view arg23.view.junk (kUHist W)
    Gen.out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 =
      View.read (Elt F) VO0_19 (VO0_19.writes (Elt F) VO0_19.junk [⟨Rect.unit (s := S1x2x30x1024) ![0, 0, 0, 0] S1x2x30x1024.size (inb4 (Nat.le_refl 1) (Nat.le_refl 2) (Nat.le_refl 30) (Nat.le_refl 1024)), kConvOut (kRd arg23.view arg23.view.junk (kUs3 W (kUHist W)))⟩]) := by
  intro W X1
  frame_open
  sl_kernel_rfl

/-- A step's result: the last keys. -/
theorem out0_A_20_eq :
    let W : Win F := winOf arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17
    let X1 := kX1' W arg23.view arg23.view.junk (kUHist W)
    Gen.out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 =
      View.read (Elt F) VO0_20 (VO0_20.writes (Elt F) VO0_20.junk (kLasts W.w5 (kK W X1))) := by
  intro W X1
  frame_open
  sl_kernel_rfl

/-- A step's result: the last values. -/
theorem out0_A_21_eq :
    let W : Win F := winOf arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17
    let X1 := kX1' W arg23.view arg23.view.junk (kUHist W)
    Gen.out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 =
      View.read (Elt F) VO0_21 (VO0_21.writes (Elt F) VO0_21.junk (kLasts W.w6 (kV W X1))) := by
  intro W X1
  frame_open
  sl_kernel_rfl

end Cert.SampleIdeal.Trunk
-- ==== Proof.SampleStep.lean ====
module

public import proofs.«01_k».proof.Proof.SampleHalf
public import proofs.«01_k».proof.Proof.SampleIdent
public import Idealize.ShloMosaic.Lib.WritesUnit

@[expose] public section

set_option maxRecDepth 16384

noncomputable section

namespace Cert.SampleIdeal.Trunk

open Idealize.ShloMosaic Idealize.ShloMosaic.TcCoe Idealize.SL.Sem
open Idealize.ShloMosaic.Pipeline (Dat)
open Cert.SampleIdeal Cert.SampleIdeal.Gen Cert.SampleReferenceIdeal.Read
open Cert.KernelIdeal.Trunk (ix3_ext ix4_ext ix5_ext kLd kLd3 kLd4 inb2 inb3 inb4 qScale)

/-! # A whole step of the sample kernel -/

variable {x0 : FVec Ideal Cert.SampleReferenceIdeal.S16x64x1024 .f32} {x1 : FVec Ideal Cert.SampleReferenceIdeal.S1x16x30x1024 .f32} {x2 : FVec Ideal Cert.SampleReferenceIdeal.S1x16x128x2x64 .f32} {x3 : FVec Ideal Cert.SampleReferenceIdeal.S1x16x128x2x64 .f32} {x4 : FVec Ideal Cert.SampleReferenceIdeal.S2x16x256x4x128 .f32} {x5 : FVec Ideal Cert.SampleReferenceIdeal.S2x16x256x4x128 .f32} {x6 : FVec Ideal Cert.SampleReferenceIdeal.S2x1024 .f32} {x7 : FVec Ideal Cert.SampleReferenceIdeal.S1x1024x4096 .f32} {x8 : FVec Ideal Cert.SampleReferenceIdeal.S1x31x1024 .f32} {x9 : FVec Ideal Cert.SampleReferenceIdeal.S1x1024 .f32} {x10 : FVec Ideal Cert.SampleReferenceIdeal.S1x1024 .f32} {x11 : FVec Ideal Cert.SampleReferenceIdeal.S1x1024 .f32} {x12 : FVec Ideal Cert.SampleReferenceIdeal.S1x1024x3328 .f32} {x13 : FVec Ideal Cert.SampleReferenceIdeal.S1x16 .f32} {x14 : FVec Ideal Cert.SampleReferenceIdeal.S2x1536x1024 .f32} {x15 : FVec Ideal Cert.SampleReferenceIdeal.S1024 .f32}

/-- The convolution's history is stored before the new rows. -/
theorem kUHist_at {W : Win Ideal} {T : Fin 8} (hW : Fits W T x0 x1 x2 x3 x4 x5 x6 x7 x8 x9 x10 x11 x12 x13 x14 x15) (v : View sig .tc .vmem S2x96x1024 .f32) (f : v.ty.Contents (Elt Ideal)) (s : Fin 2) (i : Fin 30) (d : Fin 1024) :
    kRd v f (kUHist W) (ix3 s ⟨2 + i.val, by omega⟩ d) = x1 (ix4 0 ⟨2 * T.val + s.val, by omega⟩ i d) := by
  unfold kUHist
  refine (View.read_writes_cons_unit_of_mem v f _ _ [] _ (ix3 s i d) rfl fun a => ?_).trans ?_
  · match a with
    | ⟨0, _⟩ => show s.val = 0 + s.val; omega
    | ⟨1, _⟩ => rfl
    | ⟨2, _⟩ => show d.val = 0 + d.val; omega
  · refine Eq.trans ?_ (((kLd4 (n0 := 1) (n1 := 2) (n2 := 30) (n3 := 1024) (o0 := 0) (o1 := 0) (o2 := 0) (o3 := 0) W.w4 (inb4 (Nat.le_refl 1) (Nat.le_refl 2) (Nat.le_refl 30) (Nat.le_refl 1024)) 0 s i d).trans (congrArg W.w4 (ix4_ext ?_ ?_ ?_ ?_))).trans (hW.h4 s i d))
    · pointwise []
    · rfl
    · exact Nat.zero_add _
    · exact Nat.zero_add _
    · exact Nat.zero_add _

/-- A block of the convolution's input, where it was stored. -/
theorem kUPiece_hit (W : Win Ideal) (c0 : ℕ) (hc : c0 + 256 ≤ 1024) (v : View sig .tc .vmem S2x96x1024 .f32) (f : v.ty.Contents (Elt Ideal)) (L : List (View.Piece (Elt Ideal) S2x96x1024 .f32)) (s : Fin 2) (r : Fin 64) (d : Fin 256) :
    kRd v f (kUPiece W c0 hc :: L) (ix3 s ⟨32 + r.val, by omega⟩ ⟨c0 + d.val, by omega⟩) = kU W c0 hc (ix3 s r d) := by
  refine (View.read_writes_cons_unit_of_mem v f _ _ L _ (ix3 s r d) rfl fun a => ?_).trans ?_
  · match a with
    | ⟨0, _⟩ => show s.val = 0 + s.val; omega
    | ⟨1, _⟩ => rfl
    | ⟨2, _⟩ => rfl
  · pointwise []

/-- The rows of history are not touched. -/
theorem kUPiece_row (W : Win Ideal) (c0 : ℕ) (hc : c0 + 256 ≤ 1024) (v : View sig .tc .vmem S2x96x1024 .f32) (f : v.ty.Contents (Elt Ideal)) (L : List (View.Piece (Elt Ideal) S2x96x1024 .f32)) (s : Fin 2) (r : Fin 96) (hr : r.val < 32) (d : Fin 1024) :
    kRd v f (kUPiece W c0 hc :: L) (ix3 s r d) = kRd v f L (ix3 s r d) :=
  View.read_writes_cons_unit_of_not_mem v f _ _ L _ rfl 1 (.inl hr)

/-- The other columns are not touched. -/
theorem kUPiece_col (W : Win Ideal) (c0 : ℕ) (hc : c0 + 256 ≤ 1024) (v : View sig .tc .vmem S2x96x1024 .f32) (f : v.ty.Contents (Elt Ideal)) (L : List (View.Piece (Elt Ideal) S2x96x1024 .f32)) (s : Fin 2) (r : Fin 96) (d : Fin 1024) (hd : d.val < c0 ∨ c0 + 256 ≤ d.val) :
    kRd v f (kUPiece W c0 hc :: L) (ix3 s r d) = kRd v f L (ix3 s r d) :=
  View.read_writes_cons_unit_of_not_mem v f _ _ L _ rfl 2 hd

/-- A scratch whose rows of history are the reference's. -/
def UBefore (T : Fin 8) (h : FVec Ideal Cert.SampleReferenceIdeal.S1x16x30x1024 .f32) (U : FVec Ideal S2x96x1024 .f32) : Prop :=
  ∀ (s : Fin 2) (i : Fin 30) (d : Fin 1024), U (ix3 s ⟨2 + i.val, by omega⟩ d) = h (ix4 0 ⟨2 * T.val + s.val, by omega⟩ i d)

/-- The rows of history stay when a block is stored. -/
theorem UBefore.cons {T : Fin 8} (W : Win Ideal) (c0 : ℕ) (hc : c0 + 256 ≤ 1024) (v : View sig .tc .vmem S2x96x1024 .f32) (f : v.ty.Contents (Elt Ideal)) (L : List (View.Piece (Elt Ideal) S2x96x1024 .f32)) (hU : UBefore T x1 (kRd v f L)) :
    UBefore T x1 (kRd v f (kUPiece W c0 hc :: L)) := fun s i d =>
  (kUPiece_row W c0 hc v f L s _ (by show 2 + i.val < 32; omega) d).trans (hU s i d)

/-- A stored block and the rows of history, against the reference. -/
theorem kUPiece_eq {W : Win Ideal} {T : Fin 8} (hW : Fits W T x0 x1 x2 x3 x4 x5 x6 x7 x8 x9 x10 x11 x12 x13 x14 x15) (c0 : ℕ) (hc : c0 + 256 ≤ 1024) (v : View sig .tc .vmem S2x96x1024 .f32) (f : v.ty.Contents (Elt Ideal)) (L : List (View.Piece (Elt Ideal) S2x96x1024 .f32)) (hU : UBefore T x1 (kRd v f L)) (s : Fin 2) (i : Fin 94) (d : Fin 256) :
    kRd v f (kUPiece W c0 hc :: L) (ix3 s ⟨2 + i.val, by omega⟩ ⟨c0 + d.val, by omega⟩) = val_main_v33 (F := Ideal) x0 x1 x6 x7 (ix3 ⟨2 * T.val + s.val, by omega⟩ i ⟨c0 + d.val, by omega⟩) := by
  rw [v33_at]
  by_cases h : i.val < 30
  · rw [dif_pos h, kUPiece_row W c0 hc v f L s _ (by show 2 + i.val < 32; omega)]
    exact hU s ⟨i.val, h⟩ _
  · rw [dif_neg h]
    refine Eq.trans (congrArg _ (ix3_ext rfl (by show 2 + i.val = 32 + (i.val - 30); omega) rfl)) ((kUPiece_hit W c0 hc v f L s ⟨i.val - 30, by omega⟩ d).trans (kU_eq hW c0 hc s _ d))

/-- The residual stream after the convolution half. -/
theorem kX1'_eq {W : Win Ideal} {T : Fin 8} (hW : Fits W T x0 x1 x2 x3 x4 x5 x6 x7 x8 x9 x10 x11 x12 x13 x14 x15) (hR : Reals x2 x4 x6 x7 x12 x13) (v : View sig .tc .vmem S2x96x1024 .f32) (f : v.ty.Contents (Elt Ideal)) (r : Fin 128) (d : Fin 1024) :
    kX1' W v f (kUHist W) (ix2 r d) = val_main_v313 (F := Ideal) x0 x1 x4 x5 x6 x7 x8 x9 x10 x11 x14 (ix3 (st T r) (po r) d) := by
  have h0 : UBefore T x1 (kRd v f (kUHist W)) := kUHist_at hW v f
  have h1 := h0.cons W 0 (by omega) v f _
  have h2 := h1.cons W 256 (by omega) v f _
  have h3 := h2.cons W 512 (by omega) v f _
  exact kX1_eq hW hR _ _ _ _ (kUPiece_eq hW 0 (by omega) v f _ h0) (kUPiece_eq hW 256 (by omega) v f _ h1)
    (kUPiece_eq hW 512 (by omega) v f _ h2) (kUPiece_eq hW 768 (by omega) v f _ h3) r d

/-- The new rows of the convolution's input once all four blocks are in. -/
theorem kUs3_eq {W : Win Ideal} {T : Fin 8} (hW : Fits W T x0 x1 x2 x3 x4 x5 x6 x7 x8 x9 x10 x11 x12 x13 x14 x15) (v : View sig .tc .vmem S2x96x1024 .f32) (f : v.ty.Contents (Elt Ideal)) (L : List (View.Piece (Elt Ideal) S2x96x1024 .f32)) (s : Fin 2) (r : Fin 64) (d : Fin 1024) :
    kRd v f (kUs3 W L) (ix3 s ⟨32 + r.val, by omega⟩ d) = val_main_v31 (F := Ideal) x0 x6 x7 (ix3 ⟨2 * T.val + s.val, by omega⟩ r d) := by
  have hit : ∀ (c0 : ℕ) (hc : c0 + 256 ≤ 1024) (L' : List (View.Piece (Elt Ideal) S2x96x1024 .f32)), c0 ≤ d.val → d.val < c0 + 256 →
      kRd v f (kUPiece W c0 hc :: L') (ix3 s ⟨32 + r.val, by omega⟩ d) = val_main_v31 (F := Ideal) x0 x6 x7 (ix3 ⟨2 * T.val + s.val, by omega⟩ r d) := fun c0 hc L' h h' => by
    have e : d = ⟨c0 + (⟨d.val - c0, by omega⟩ : Fin 256).val, by show c0 + (d.val - c0) < 1024; omega⟩ := Fin.ext (by show d.val = c0 + (d.val - c0); omega)
    rw [e]
    exact (kUPiece_hit W c0 hc v f L' s r ⟨d.val - c0, by omega⟩).trans (kU_eq hW c0 hc s r _)
  unfold kUs3 kUs2 kUs1 kUs0
  by_cases h3 : 768 ≤ d.val
  · exact hit 768 _ _ h3 (by omega)
  rw [kUPiece_col W 768 _ v f _ s _ d (.inl (by omega))]
  by_cases h2 : 512 ≤ d.val
  · exact hit 512 _ _ h2 (by omega)
  rw [kUPiece_col W 512 _ v f _ s _ d (.inl (by omega))]
  by_cases h1 : 256 ≤ d.val
  · exact hit 256 _ _ h1 (by omega)
  rw [kUPiece_col W 256 _ v f _ s _ d (.inl (by omega))]
  exact hit 0 _ _ (by omega) (by omega)

/-- The convolution's last rows, as they are read. -/
theorem kConvOut_at (U : FVec Ideal S2x96x1024 .f32) (s : Fin 2) (r : Fin 30) (d : Fin 1024) : kConvOut U (ix4 0 s r d) = U (ix3 s ⟨66 + r.val, by omega⟩ d) := by
  have e : ∀ X : FVec Ideal S2x30x1024 .f32, shapeCast S1x2x30x1024 X shapeCasts_S2x30x1024_S1x2x30x1024 (ix4 0 s r d) = X (ix3 s r d) := fun X => by pointwise []
  refine (e _).trans ((kLd3 (n0 := 2) (n1 := 30) (n2 := 1024) (o0 := 0) (o1 := 66) (o2 := 0) U (inb3 (Nat.le_refl 2) (Nat.le_refl 96) (Nat.le_refl 1024)) s r d).trans (congrArg U (ix3_ext ?_ rfl ?_))) <;> exact Nat.zero_add _

/-- The convolution's last rows. -/
theorem kConvOut_eq {W : Win Ideal} {T : Fin 8} (hW : Fits W T x0 x1 x2 x3 x4 x5 x6 x7 x8 x9 x10 x11 x12 x13 x14 x15) (v : View sig .tc .vmem S2x96x1024 .f32) (f : v.ty.Contents (Elt Ideal)) (L : List (View.Piece (Elt Ideal) S2x96x1024 .f32)) (s : Fin 2) (r : Fin 30) (d : Fin 1024) :
    kConvOut (kRd v f (kUs3 W L)) (ix4 0 s r d) = val_main_v480 (F := Ideal) x0 x1 x6 x7 (ix4 0 ⟨2 * T.val + s.val, by omega⟩ r d) := by
  rw [v480_at, v33_at, dif_neg (by show ¬64 + r.val < 30; omega)]
  refine (kConvOut_at _ s r d).trans (Eq.trans (congrArg _ (ix3_ext rfl ?_ rfl)) ((kUs3_eq hW v f L s ⟨34 + r.val, by omega⟩ d).trans (congrArg _ (ix3_ext rfl ?_ rfl))))
  · show 66 + r.val = 32 + (34 + r.val); omega
  · show 34 + r.val = 64 + r.val - 30; omega

/-- The rows of history of a head of a stream, where they were stored. -/
theorem kPieceH_hit (h s : ℕ) (hh : h + 1 ≤ 2) (hs : s + 1 ≤ 2) (X : FVec Ideal S1x1x128x128 .bf16) (v : View sig .tc .vmem S2x2x192x128 .bf16) (f : v.ty.Contents (Elt Ideal)) (L : List (View.Piece (Elt Ideal) S2x2x192x128 .bf16)) (x : Fin 128) (l : Fin 128) :
    kRd v f (kPieceH h s hh hs X :: L) (ix4 ⟨h, hh⟩ ⟨s, hs⟩ ⟨0 + x.val, by omega⟩ l) = X (ix4 0 0 x l) := by
  refine (View.read_writes_cons_unit_of_mem v f _ _ L _ (ix4 (n0 := 1) (n1 := 1) (n2 := 128) (n3 := 128) 0 0 x l) rfl fun a => ?_).trans ?_
  · match a with
    | ⟨0, _⟩ => rfl
    | ⟨1, _⟩ => rfl
    | ⟨2, _⟩ => rfl
    | ⟨3, _⟩ => show l.val = 0 + l.val; omega
  · rfl

/-- The other heads, the other streams are not touched. -/
theorem kPieceH_skip (h s : ℕ) (hh : h + 1 ≤ 2) (hs : s + 1 ≤ 2) (X : FVec Ideal S1x1x128x128 .bf16) (v : View sig .tc .vmem S2x2x192x128 .bf16) (f : v.ty.Contents (Elt Ideal)) (L : List (View.Piece (Elt Ideal) S2x2x192x128 .bf16)) (g s' : Fin 2) (x : Fin 192) (l : Fin 128)
    (hd : g.val ≠ h ∨ s'.val ≠ s) : kRd v f (kPieceH h s hh hs X :: L) (ix4 g s' x l) = kRd v f L (ix4 g s' x l) := by
  rcases hd with hd | hd
  · exact View.read_writes_cons_unit_of_not_mem v f _ _ L _ rfl 0 (show g.val < h ∨ h + 1 ≤ g.val by omega)
  · exact View.read_writes_cons_unit_of_not_mem v f _ _ L _ rfl 1 (show s'.val < s ∨ s + 1 ≤ s'.val by omega)

/-- The new rows of a head of a stream, where they were stored. -/
theorem kPieceN_hit (h s : ℕ) (hh : h + 1 ≤ 2) (hs : s + 1 ≤ 2) (X : FVec Ideal S1x1x64x128 .bf16) (v : View sig .tc .vmem S2x2x192x128 .bf16) (f : v.ty.Contents (Elt Ideal)) (L : List (View.Piece (Elt Ideal) S2x2x192x128 .bf16)) (x : Fin 64) (l : Fin 128) :
    kRd v f (kPieceN h s hh hs X :: L) (ix4 ⟨h, hh⟩ ⟨s, hs⟩ ⟨128 + x.val, by omega⟩ l) = X (ix4 0 0 x l) := by
  refine (View.read_writes_cons_unit_of_mem v f _ _ L _ (ix4 (n0 := 1) (n1 := 1) (n2 := 64) (n3 := 128) 0 0 x l) rfl fun a => ?_).trans ?_
  · match a with
    | ⟨0, _⟩ => rfl
    | ⟨1, _⟩ => rfl
    | ⟨2, _⟩ => rfl
    | ⟨3, _⟩ => show l.val = 0 + l.val; omega
  · rfl

/-- The other heads, the other streams and the rows of history are not touched. -/
theorem kPieceN_skip (h s : ℕ) (hh : h + 1 ≤ 2) (hs : s + 1 ≤ 2) (X : FVec Ideal S1x1x64x128 .bf16) (v : View sig .tc .vmem S2x2x192x128 .bf16) (f : v.ty.Contents (Elt Ideal)) (L : List (View.Piece (Elt Ideal) S2x2x192x128 .bf16)) (g s' : Fin 2) (x : Fin 192) (l : Fin 128)
    (hd : g.val ≠ h ∨ s'.val ≠ s ∨ x.val < 128) : kRd v f (kPieceN h s hh hs X :: L) (ix4 g s' x l) = kRd v f L (ix4 g s' x l) := by
  rcases hd with hd | hd | hd
  · exact View.read_writes_cons_unit_of_not_mem v f _ _ L _ rfl 0 (show g.val < h ∨ h + 1 ≤ g.val by omega)
  · exact View.read_writes_cons_unit_of_not_mem v f _ _ L _ rfl 1 (show s'.val < s ∨ s + 1 ≤ s'.val by omega)
  · exact View.read_writes_cons_unit_of_not_mem v f _ _ L _ rfl 2 (.inl hd)

/-- A scratch of keys or values once the history and the new rows of both heads of both streams are in. -/
theorem kFill_at {h00 h10 h01 h11 : FVec Ideal S1x1x128x128 .bf16} {n00 n10 n01 n11 : FVec Ideal S1x1x64x128 .bf16} {k : Fin 2 → Fin 2 → Fin 192 → Fin 128 → EReal}
    (a00 : ∀ (x l : Fin 128), h00 (ix4 0 0 x l) = k 0 0 ⟨0 + x.val, by omega⟩ l) (a10 : ∀ (x l : Fin 128), h10 (ix4 0 0 x l) = k 1 0 ⟨0 + x.val, by omega⟩ l) (a01 : ∀ (x l : Fin 128), h01 (ix4 0 0 x l) = k 0 1 ⟨0 + x.val, by omega⟩ l) (a11 : ∀ (x l : Fin 128), h11 (ix4 0 0 x l) = k 1 1 ⟨0 + x.val, by omega⟩ l)
    (b00 : ∀ (x : Fin 64) (l : Fin 128), n00 (ix4 0 0 x l) = k 0 0 ⟨128 + x.val, by omega⟩ l) (b10 : ∀ (x : Fin 64) (l : Fin 128), n10 (ix4 0 0 x l) = k 1 0 ⟨128 + x.val, by omega⟩ l) (b01 : ∀ (x : Fin 64) (l : Fin 128), n01 (ix4 0 0 x l) = k 0 1 ⟨128 + x.val, by omega⟩ l) (b11 : ∀ (x : Fin 64) (l : Fin 128), n11 (ix4 0 0 x l) = k 1 1 ⟨128 + x.val, by omega⟩ l)
    (v : View sig .tc .vmem S2x2x192x128 .bf16) (f : v.ty.Contents (Elt Ideal)) (g s : Fin 2) (x : Fin 192) (l : Fin 128) : kRd v f (kFill h00 h10 h01 h11 n00 n10 n01 n11) (ix4 g s x l) = k g s x l := by
  unfold kFill
  obtain ⟨rfl, rfl⟩ | ⟨rfl, rfl⟩ | ⟨rfl, rfl⟩ | ⟨rfl, rfl⟩ : (g = 0 ∧ s = 0) ∨ (g = 1 ∧ s = 0) ∨ (g = 0 ∧ s = 1) ∨ (g = 1 ∧ s = 1) := by omega
  · by_cases hx : x.val < 128
    · obtain ⟨y, rfl⟩ : ∃ y : Fin 128, x = ⟨0 + y.val, by clear hx; omega⟩ := ⟨⟨x.val, hx⟩, Fin.ext (Nat.zero_add _).symm⟩
      rw [kPieceN_skip _ _ _ _ _ _ _ _ _ _ _ _ (.inr (.inr hx)), kPieceN_skip _ _ _ _ _ _ _ _ _ _ _ _ (.inr (.inr hx)), kPieceN_skip _ _ _ _ _ _ _ _ _ _ _ _ (.inr (.inr hx)), kPieceN_skip _ _ _ _ _ _ _ _ _ _ _ _ (.inr (.inr hx)), kPieceH_skip _ _ _ _ _ _ _ _ _ _ _ _ (.inl (by decide)), kPieceH_skip _ _ _ _ _ _ _ _ _ _ _ _ (.inr (by decide)), kPieceH_skip _ _ _ _ _ _ _ _ _ _ _ _ (.inl (by decide))]
      exact (kPieceH_hit 0 0 _ _ _ v f _ y l).trans (a00 y l)
    · obtain ⟨y, rfl⟩ : ∃ y : Fin 64, x = ⟨128 + y.val, by clear hx; omega⟩ := ⟨⟨x.val - 128, by omega⟩, Fin.ext (by show x.val = 128 + (x.val - 128); omega)⟩
      rw [kPieceN_skip _ _ _ _ _ _ _ _ _ _ _ _ (.inl (by decide)), kPieceN_skip _ _ _ _ _ _ _ _ _ _ _ _ (.inr (.inl (by decide))), kPieceN_skip _ _ _ _ _ _ _ _ _ _ _ _ (.inl (by decide))]
      exact (kPieceN_hit 0 0 _ _ _ v f _ y l).trans (b00 y l)
  · by_cases hx : x.val < 128
    · obtain ⟨y, rfl⟩ : ∃ y : Fin 128, x = ⟨0 + y.val, by clear hx; omega⟩ := ⟨⟨x.val, hx⟩, Fin.ext (Nat.zero_add _).symm⟩
      rw [kPieceN_skip _ _ _ _ _ _ _ _ _ _ _ _ (.inr (.inr hx)), kPieceN_skip _ _ _ _ _ _ _ _ _ _ _ _ (.inr (.inr hx)), kPieceN_skip _ _ _ _ _ _ _ _ _ _ _ _ (.inr (.inr hx)), kPieceN_skip _ _ _ _ _ _ _ _ _ _ _ _ (.inr (.inr hx)), kPieceH_skip _ _ _ _ _ _ _ _ _ _ _ _ (.inr (by decide)), kPieceH_skip _ _ _ _ _ _ _ _ _ _ _ _ (.inl (by decide))]
      exact (kPieceH_hit 1 0 _ _ _ v f _ y l).trans (a10 y l)
    · obtain ⟨y, rfl⟩ : ∃ y : Fin 64, x = ⟨128 + y.val, by clear hx; omega⟩ := ⟨⟨x.val - 128, by omega⟩, Fin.ext (by show x.val = 128 + (x.val - 128); omega)⟩
      rw [kPieceN_skip _ _ _ _ _ _ _ _ _ _ _ _ (.inr (.inl (by decide))), kPieceN_skip _ _ _ _ _ _ _ _ _ _ _ _ (.inl (by decide))]
      exact (kPieceN_hit 1 0 _ _ _ v f _ y l).trans (b10 y l)
  · by_cases hx : x.val < 128
    · obtain ⟨y, rfl⟩ : ∃ y : Fin 128, x = ⟨0 + y.val, by clear hx; omega⟩ := ⟨⟨x.val, hx⟩, Fin.ext (Nat.zero_add _).symm⟩
      rw [kPieceN_skip _ _ _ _ _ _ _ _ _ _ _ _ (.inr (.inr hx)), kPieceN_skip _ _ _ _ _ _ _ _ _ _ _ _ (.inr (.inr hx)), kPieceN_skip _ _ _ _ _ _ _ _ _ _ _ _ (.inr (.inr hx)), kPieceN_skip _ _ _ _ _ _ _ _ _ _ _ _ (.inr (.inr hx)), kPieceH_skip _ _ _ _ _ _ _ _ _ _ _ _ (.inl (by decide))]
      exact (kPieceH_hit 0 1 _ _ _ v f _ y l).trans (a01 y l)
    · obtain ⟨y, rfl⟩ : ∃ y : Fin 64, x = ⟨128 + y.val, by clear hx; omega⟩ := ⟨⟨x.val - 128, by omega⟩, Fin.ext (by show x.val = 128 + (x.val - 128); omega)⟩
      rw [kPieceN_skip _ _ _ _ _ _ _ _ _ _ _ _ (.inl (by decide))]
      exact (kPieceN_hit 0 1 _ _ _ v f _ y l).trans (b01 y l)
  · by_cases hx : x.val < 128
    · obtain ⟨y, rfl⟩ : ∃ y : Fin 128, x = ⟨0 + y.val, by clear hx; omega⟩ := ⟨⟨x.val, hx⟩, Fin.ext (Nat.zero_add _).symm⟩
      rw [kPieceN_skip _ _ _ _ _ _ _ _ _ _ _ _ (.inr (.inr hx)), kPieceN_skip _ _ _ _ _ _ _ _ _ _ _ _ (.inr (.inr hx)), kPieceN_skip _ _ _ _ _ _ _ _ _ _ _ _ (.inr (.inr hx)), kPieceN_skip _ _ _ _ _ _ _ _ _ _ _ _ (.inr (.inr hx))]
      exact (kPieceH_hit 1 1 _ _ _ v f _ y l).trans (a11 y l)
    · obtain ⟨y, rfl⟩ : ∃ y : Fin 64, x = ⟨128 + y.val, by clear hx; omega⟩ := ⟨⟨x.val - 128, by omega⟩, Fin.ext (by show x.val = 128 + (x.val - 128); omega)⟩
      exact (kPieceN_hit 1 1 _ _ _ v f _ y l).trans (b11 y l)

/-- A stream's rows of history. -/
theorem kOld_at (w : FVec Ideal S1x2x128x128 .f32) (s : ℕ) (hs : s + 1 ≤ 2) (r d : Fin 128) : kOld w s hs (ix2 r d) = w (ix4 0 ⟨s, hs⟩ r d) := by
  have e : ∀ X : FVec Ideal S1x1x128x128 .f32, shapeCast S128x128 X shapeCasts_S1x1x128x128_S128x128 (ix2 r d) = X (ix4 0 0 r d) := fun X => by pointwise []
  refine (e _).trans ((kLd4 (n0 := 1) (n1 := 1) (n2 := 128) (n3 := 128) (o0 := 0) (o1 := s) (o2 := 0) (o3 := 0) w (inb4 (Nat.le_refl 1) hs (Nat.le_refl 128) (Nat.le_refl 128)) 0 0 r d).trans (congrArg w (ix4_ext rfl rfl ?_ ?_))) <;> exact Nat.zero_add _

/-- The first stream's new rows. -/
theorem kNew0_at (K : FVec Ideal S128x128 .f32) (r : Fin 64) (d : Fin 128) : kNew0 K (ix2 r d) = K (ix2 ⟨64 * 0 + r.val, by omega⟩ d) := by
  have e : kNew0 K (ix2 r d) = K (ix2 ⟨r.val, by omega⟩ d) := by pointwise [kNew0]
  exact e.trans (congrArg (fun n => K (ix2 n d)) (Fin.ext (by show r.val = 64 * 0 + r.val; omega)))

/-- The second stream's new rows. -/
theorem kNew1_at (K : FVec Ideal S128x128 .f32) (r : Fin 64) (d : Fin 128) : kNew1 K (ix2 r d) = K (ix2 ⟨64 * 1 + r.val, by omega⟩ d) := by
  have e : kNew1 K (ix2 r d) = K (ix2 ⟨64 + r.val, by omega⟩ d) := by pointwise [kNew1]
  exact e.trans (congrArg (fun n => K (ix2 n d)) (Fin.ext (by show 64 + r.val = 64 * 1 + r.val; omega)))

/-- Rows of history and new rows of keys or values, by stream, head, row and lane. -/
structure Rows (w : FVec Ideal S1x2x128x128 .f32) (K : FVec Ideal S128x128 .f32) (k : Fin 2 → Fin 2 → Fin 192 → Fin 64 → EReal) : Prop where
  old : ∀ (s : Fin 2) (r d : Fin 128), w (ix4 0 s r d) = k s ⟨d.val / 64, by omega⟩ ⟨r.val, by omega⟩ ⟨d.val % 64, by omega⟩
  new : ∀ (s : Fin 2) (r : Fin 64) (d : Fin 128), K (ix2 ⟨64 * s.val + r.val, by omega⟩ d) = k s ⟨d.val / 64, by omega⟩ ⟨128 + r.val, by omega⟩ ⟨d.val % 64, by omega⟩

/-- A row of history of a head. -/
theorem Rows.old_at {w : FVec Ideal S1x2x128x128 .f32} {K : FVec Ideal S128x128 .f32} {k : Fin 2 → Fin 2 → Fin 192 → Fin 64 → EReal} (h : Rows w K k) (g s : Fin 2) (r : Fin 128) (l : Fin 64) :
    kOld w s.val s.isLt (ix2 r ⟨g.val * 64 + l.val, by omega⟩) = k s g ⟨0 + r.val, by omega⟩ l := by
  rw [kOld_at, h.old]
  congr 1
  · exact Fin.ext (by show (g.val * 64 + l.val) / 64 = g.val; omega)
  · exact Fin.ext (by show r.val = 0 + r.val; omega)
  · exact Fin.ext (by show (g.val * 64 + l.val) % 64 = l.val; omega)

/-- A new row of a head. -/
theorem Rows.new_at {w : FVec Ideal S1x2x128x128 .f32} {K : FVec Ideal S128x128 .f32} {k : Fin 2 → Fin 2 → Fin 192 → Fin 64 → EReal} (h : Rows w K k) (g s : Fin 2) (r : Fin 64) (l : Fin 64) :
    K (ix2 ⟨64 * s.val + r.val, by omega⟩ ⟨g.val * 64 + l.val, by omega⟩) = k s g ⟨128 + r.val, by omega⟩ l := by
  rw [h.new]
  congr 1
  · exact Fin.ext (by show (g.val * 64 + l.val) / 64 = g.val; omega)
  · exact Fin.ext (by show (g.val * 64 + l.val) % 64 = l.val; omega)

/-- The stores over the low lanes fill the scratch with both streams' rows. -/
theorem Rows.fillA {w : FVec Ideal S1x2x128x128 .f32} {K : FVec Ideal S128x128 .f32} {k : Fin 2 → Fin 2 → Fin 192 → Fin 64 → EReal} (h : Rows w K k) (v : View sig .tc .vmem S2x2x192x128 .bf16) (f : v.ty.Contents (Elt Ideal)) :
    LowS (kRd v f (kFillA w K)) k := fun g s x l =>
  kFill_at (k := fun g s x l => if h : l.val < 64 then k s g x ⟨l.val, h⟩ else 0)
    (fun r l => (kHistA0_at _ r l).trans (dite_congr rfl (fun hl => h.old_at 0 0 r ⟨l.val, hl⟩) fun hl => rfl))
    (fun r l => (kHistA1_at _ r l).trans (dite_congr rfl (fun hl => h.old_at 1 0 r ⟨l.val, hl⟩) fun hl => rfl))
    (fun r l => (kHistA0_at _ r l).trans (dite_congr rfl (fun hl => h.old_at 0 1 r ⟨l.val, hl⟩) fun hl => rfl))
    (fun r l => (kHistA1_at _ r l).trans (dite_congr rfl (fun hl => h.old_at 1 1 r ⟨l.val, hl⟩) fun hl => rfl))
    (fun r l => (kNewA0_at _ r l).trans (dite_congr rfl (fun hl => (kNew0_at K r _).trans (h.new_at 0 0 r ⟨l.val, hl⟩)) fun hl => rfl))
    (fun r l => (kNewA1_at _ r l).trans (dite_congr rfl (fun hl => (kNew0_at K r _).trans (h.new_at 1 0 r ⟨l.val, hl⟩)) fun hl => rfl))
    (fun r l => (kNewA0_at _ r l).trans (dite_congr rfl (fun hl => (kNew1_at K r _).trans (h.new_at 0 1 r ⟨l.val, hl⟩)) fun hl => rfl))
    (fun r l => (kNewA1_at _ r l).trans (dite_congr rfl (fun hl => (kNew1_at K r _).trans (h.new_at 1 1 r ⟨l.val, hl⟩)) fun hl => rfl))
    v f g s x l

/-- The stores over the high lanes fill the scratch with both streams' rows. -/
theorem Rows.fillB {w : FVec Ideal S1x2x128x128 .f32} {K : FVec Ideal S128x128 .f32} {k : Fin 2 → Fin 2 → Fin 192 → Fin 64 → EReal} (h : Rows w K k) (v : View sig .tc .vmem S2x2x192x128 .bf16) (f : v.ty.Contents (Elt Ideal)) :
    HighS (kRd v f (kFillB w K)) k := fun g s x l =>
  kFill_at (k := fun g s x l => if h : l.val < 64 then 0 else k s g x ⟨l.val - 64, by omega⟩)
    (fun r l => (kHistB0_at _ r l).trans (dite_congr rfl (fun hl => rfl) fun hl => h.old_at 0 0 r ⟨l.val - 64, by omega⟩))
    (fun r l => (kHistB1_at _ r l).trans (dite_congr rfl (fun hl => rfl) fun hl => h.old_at 1 0 r ⟨l.val - 64, by omega⟩))
    (fun r l => (kHistB0_at _ r l).trans (dite_congr rfl (fun hl => rfl) fun hl => h.old_at 0 1 r ⟨l.val - 64, by omega⟩))
    (fun r l => (kHistB1_at _ r l).trans (dite_congr rfl (fun hl => rfl) fun hl => h.old_at 1 1 r ⟨l.val - 64, by omega⟩))
    (fun r l => (kNewB0_at _ r l).trans (dite_congr rfl (fun hl => rfl) fun hl => (kNew0_at K r _).trans (h.new_at 0 0 r ⟨l.val - 64, by omega⟩)))
    (fun r l => (kNewB1_at _ r l).trans (dite_congr rfl (fun hl => rfl) fun hl => (kNew0_at K r _).trans (h.new_at 1 0 r ⟨l.val - 64, by omega⟩)))
    (fun r l => (kNewB0_at _ r l).trans (dite_congr rfl (fun hl => rfl) fun hl => (kNew1_at K r _).trans (h.new_at 0 1 r ⟨l.val - 64, by omega⟩)))
    (fun r l => (kNewB1_at _ r l).trans (dite_congr rfl (fun hl => rfl) fun hl => (kNew1_at K r _).trans (h.new_at 1 1 r ⟨l.val - 64, by omega⟩)))
    v f g s x l

/-- A step's rows of keys are the reference's. -/
theorem keys_rows {W : Win Ideal} {T : Fin 8} (hW : Fits W T x0 x1 x2 x3 x4 x5 x6 x7 x8 x9 x10 x11 x12 x13 x14 x15) {X1 : FVec Ideal S128x1024 .f32} (hX : ∀ (r : Fin 128) (d : Fin 1024), X1 (ix2 r d) = val_main_v313 (F := Ideal) x0 x1 x4 x5 x6 x7 x8 x9 x10 x11 x14 (ix3 (st T r) (po r) d)) :
    Rows W.w5 (kK W X1) fun s g x e => val_main_v407 (F := Ideal) x0 x1 x2 x4 x5 x6 x7 x8 x9 x10 x11 x12 x14 (ix4 ⟨2 * T.val + s.val, by omega⟩ x g e) where
  old s r d := by
    rw [v407_at, dif_pos r.isLt]
    exact hW.h5 s r d
  new s r d := by
    rw [v407_at, dif_neg (by show ¬128 + r.val < 128; omega), kK_eq hW hX]
    refine congrArg _ (ix4_ext ?_ ?_ rfl rfl)
    · show 2 * T.val + (64 * s.val + r.val) / 64 = 2 * T.val + s.val; omega
    · show (64 * s.val + r.val) % 64 = 128 + r.val - 128; omega

/-- A step's rows of values are the reference's. -/
theorem vals_rows {W : Win Ideal} {T : Fin 8} (hW : Fits W T x0 x1 x2 x3 x4 x5 x6 x7 x8 x9 x10 x11 x12 x13 x14 x15) {X1 : FVec Ideal S128x1024 .f32} (hX : ∀ (r : Fin 128) (d : Fin 1024), X1 (ix2 r d) = val_main_v313 (F := Ideal) x0 x1 x4 x5 x6 x7 x8 x9 x10 x11 x14 (ix3 (st T r) (po r) d)) :
    Rows W.w6 (kV W X1) fun s g x e => val_main_v409 (F := Ideal) x0 x1 x3 x4 x5 x6 x7 x8 x9 x10 x11 x12 x14 (ix4 ⟨2 * T.val + s.val, by omega⟩ x g e) where
  old s r d := by
    rw [v409_at, dif_pos r.isLt]
    exact hW.h6 s r d
  new s r d := by
    rw [v409_at, dif_neg (by show ¬128 + r.val < 128; omega), kV_eq hW hX]
    refine congrArg _ (ix4_ext ?_ ?_ rfl rfl)
    · show 2 * T.val + (64 * s.val + r.val) / 64 = 2 * T.val + s.val; omega
    · show (64 * s.val + r.val) % 64 = 128 + r.val - 128; omega

/-- The windowed attention of a step. -/
theorem kSwa'_eq {W : Win Ideal} {T : Fin 8} (hW : Fits W T x0 x1 x2 x3 x4 x5 x6 x7 x8 x9 x10 x11 x12 x13 x14 x15) (hR : Reals x2 x4 x6 x7 x12 x13) {X1 : FVec Ideal S128x1024 .f32} (hX : ∀ (r : Fin 128) (d : Fin 1024), X1 (ix2 r d) = val_main_v313 (F := Ideal) x0 x1 x4 x5 x6 x7 x8 x9 x10 x11 x14 (ix3 (st T r) (po r) d)) (v1 v2 v3 v4 : View sig .tc .vmem S2x2x192x128 .bf16) (r : Fin 128) (d : Fin 1024) :
    kSwa' W X1 v1 v2 v3 v4 (ix2 r d) = val_main_v431 (F := Ideal) x0 x1 x2 x3 x4 x5 x6 x7 x8 x9 x10 x11 x12 x13 x14 (ix3 (st T r) (po r) d) :=
  kSwa_eq hW hR (kQW_eq hW hX) ((keys_rows hW hX).fillA v1 v1.junk) ((keys_rows hW hX).fillB v2 v2.junk) ((vals_rows hW hX).fillA v3 v3.junk) ((vals_rows hW hX).fillB v4 v4.junk) r d

/-- The last rows of a stream. -/
theorem kLast_at (w : FVec Ideal S1x2x128x128 .f32) (s : ℕ) (hs : s + 1 ≤ 2) (N : FVec Ideal S64x128 .f32) (r d : Fin 128) :
    kLast w s hs N (ix4 0 0 r d) = if h : r.val < 64 then w (ix4 0 ⟨s, hs⟩ ⟨64 + r.val, by omega⟩ d) else N (ix2 ⟨r.val - 64, by omega⟩ d) := by
  have e64 : ∀ (X : FVec Ideal S1x1x64x128 .f32) (i : Fin 64), shapeCast S64x128 X shapeCasts_S1x1x64x128_S64x128 (ix2 i d) = X (ix4 0 0 i d) := fun X i => by pointwise []
  have e : ∀ X : FVec Ideal S64x128 .f32, shapeCast S1x1x128x128 (concatenate S128x128 0 [⟨S64x128, X⟩, ⟨S64x128, N⟩] concatenates_S64x128_S64x128_S128x128_d0) shapeCasts_S128x128_S1x1x128x128 (ix4 0 0 r d) =
      if h : r.val < 64 then X (ix2 ⟨r.val, h⟩ d) else N (ix2 ⟨r.val - 64, by omega⟩ d) := fun X => by pointwise []
  refine (e _).trans (dite_congr rfl (fun h => ?_) fun h => rfl)
  refine (e64 _ _).trans ((kLd4 (n0 := 1) (n1 := 1) (n2 := 64) (n3 := 128) (o0 := 0) (o1 := s) (o2 := 64) (o3 := 0) w (inb4 (Nat.le_refl 1) hs (Nat.le_refl 128) (Nat.le_refl 128)) 0 0 _ d).trans (congrArg w (ix4_ext rfl rfl rfl ?_)))
  exact Nat.zero_add _

/-- A stream's last rows, against the reference's. -/
theorem Rows.last {w : FVec Ideal S1x2x128x128 .f32} {K : FVec Ideal S128x128 .f32} {k : Fin 2 → Fin 2 → Fin 192 → Fin 64 → EReal} (h : Rows w K k) (s : Fin 2) (N : FVec Ideal S64x128 .f32)
    (hN : ∀ (r : Fin 64) (d : Fin 128), N (ix2 r d) = K (ix2 ⟨64 * s.val + r.val, by omega⟩ d)) (r d : Fin 128) :
    kLast w s.val s.isLt N (ix4 0 0 r d) = k s ⟨d.val / 64, by omega⟩ ⟨64 + r.val, by omega⟩ ⟨d.val % 64, by omega⟩ := by
  rw [kLast_at]
  split
  · exact h.old s _ d
  · rw [hN, h.new]
    exact congrArg (fun n => k s _ n _) (Fin.ext (by show 128 + (r.val - 64) = 64 + r.val; omega))

/-- The stores into a result of keys or values. -/
theorem Rows.lasts {w : FVec Ideal S1x2x128x128 .f32} {K : FVec Ideal S128x128 .f32} {k : Fin 2 → Fin 2 → Fin 192 → Fin 64 → EReal} (h : Rows w K k) (v : View sig .tc .vmem S1x2x128x128 .f32) (f : v.ty.Contents (Elt Ideal)) (s : Fin 2) (r d : Fin 128) :
    kRd v f (kLasts w K) (ix4 0 s r d) = k s ⟨d.val / 64, by omega⟩ ⟨64 + r.val, by omega⟩ ⟨d.val % 64, by omega⟩ := by
  unfold kLasts
  obtain rfl | rfl : s = 0 ∨ s = 1 := by omega
  · refine (View.read_writes_cons_unit_of_not_mem v f _ _ _ _ rfl 1 (.inl (show (0 : ℕ) < 1 by omega))).trans ?_
    refine (View.read_writes_cons_unit_of_mem v f _ _ [] _ (ix4 (n0 := 1) (n1 := 1) (n2 := 128) (n3 := 128) 0 0 r d) rfl fun a => ?_).trans (h.last 0 _ (kNew0_at K) r d)
    match a with
    | ⟨0, _⟩ => rfl
    | ⟨1, _⟩ => rfl
    | ⟨2, _⟩ => show r.val = 0 + r.val; omega
    | ⟨3, _⟩ => show d.val = 0 + d.val; omega
  · refine (View.read_writes_cons_unit_of_mem v f _ _ _ _ (ix4 (n0 := 1) (n1 := 1) (n2 := 128) (n3 := 128) 0 0 r d) rfl fun a => ?_).trans (h.last 1 _ (kNew1_at K) r d)
    match a with
    | ⟨0, _⟩ => rfl
    | ⟨1, _⟩ => rfl
    | ⟨2, _⟩ => show r.val = 0 + r.val; omega
    | ⟨3, _⟩ => show d.val = 0 + d.val; omega

end Cert.SampleIdeal.Trunk
-- ==== Proof.SampleFitsV.lean ====
module

public import Idealize.ShloMosaic.Lib.Pipeline.ValueKit
public import Idealize.ShloMosaic.Lib.StableHlo.ReadAt
public import Idealize.ShloMosaic.Lib.Claim
public import proofs.«01_k».proof.Proof.Gen.SampleIdeal.Value
public import proofs.«01_k».proof.Proof.SampleFits

@[expose] public section

set_option maxRecDepth 16384

noncomputable section

namespace Cert.SampleIdeal.Trunk

open Idealize.ShloMosaic Idealize.ShloMosaic.TcCoe Idealize.SL.Sem
open Idealize.ShloMosaic.Pipeline (Dat)
open Cert.SampleIdeal Cert.SampleIdeal.Gen
open Cert.KernelIdeal.Trunk (angle)

/-! # What the windows of a step of the sample kernel hold -/

variable (m : (ℓ : Loc nD τ sig) → Buf (Elt Ideal) ℓ) (c : Dev nD)

/-- Where each window's block sits at a point of the grid. -/
theorem idx : ∀ t : Fin cfg0.N, win0_0.index t = ![0] ∧ win0_1.index t = ![t.val, 0, 0] ∧ win0_2.index t = ![0, 0] ∧ win0_3.index t = ![0, 0] ∧
    win0_4.index t = ![0, t.val, 0, 0] ∧ win0_5.index t = ![0, t.val, 0, 0] ∧ win0_6.index t = ![0, t.val, 0, 0] ∧ win0_7.index t = ![0, t.val, 0, 0] ∧
    win0_8.index t = ![0, t.val, 0, 0] ∧ win0_9.index t = ![0, 0] ∧ win0_10.index t = ![0, 0, 0] ∧ win0_11.index t = ![0, 0, 0] ∧ win0_12.index t = ![0, 0] ∧
    win0_13.index t = ![0, 0] ∧ win0_14.index t = ![0, 0] ∧ win0_15.index t = ![0, 0, 0] ∧ win0_16.index t = ![0, 0, 0] ∧ win0_17.index t = ![0, 0] :=
  (by decide +kernel : ∀ t : Fin grid0.N, _)

/-- A step's number. -/
abbrev stepOf (t : Fin cfg0.N) : Fin 8 := ⟨t.val, by have := t.isLt; have : cfg0.N = 8 := N_0; omega⟩

/-- The sinks, one row. -/
theorem host6_at (k : Fin 16) : V m c main_v6 (ix1 k) = (m ((c : Thread nD τ).loc main_arg13)) (ix2 0 k) := by
  show StableHlo.after _ _ (Proc.devRef .tc main_v6) _ = _
  after_reads_at

/-- The last gain, one row. -/
theorem host5_at (d : Fin 1024) : V m c main_v5 (ix2 0 d) = (m ((c : Thread nD τ).loc main_arg15)) (ix1 d) := by
  show StableHlo.after _ _ (Proc.devRef .tc main_v5) _ = _
  after_reads_at

/-- The first weights, widened. -/
theorem host1_at (k : Fin 1024) (d : Fin 4096) : V m c main_v1 (ix3 0 k ⟨d.val, by omega⟩) = (m ((c : Thread nD τ).loc main_arg7)) (ix3 0 k d) := by
  show StableHlo.after _ _ (Proc.devRef .tc main_v1) _ = _
  after_reads_at

/-- The second weights. -/
theorem host2_at (k : Fin 1024) (d : Fin 3328) : V m c main_v2 (ix3 0 k d) = (m ((c : Thread nD τ).loc main_arg12)) (ix3 0 k d) := by
  show StableHlo.after _ _ (Proc.devRef .tc main_v2) _ = _
  after_reads_at

/-- The output weights, widened. -/
theorem host4_at (l : Fin 2) (k : Fin 1536) (d : Fin 1024) : V m c main_v4 (ix3 l k ⟨d.val, by omega⟩) = (m ((c : Thread nD τ).loc main_arg14)) (ix3 l k d) := by
  show StableHlo.after _ _ (Proc.devRef .tc main_v4) _ = _
  after_reads_at

/-- The rotary table. -/
theorem host22_at (j : Fin 32) (r : Fin 128) : V m c main_v22 (ix2 j r) = Ideal.cos (angle (2048 + r.val) j.val) := by
  show StableHlo.after _ _ (Proc.devRef .tc main_v22) _ = _
  after_reads_at
  have e : IntOp.addi 2048#32 (BitVec.ofNat 32 r.val) = BitVec.ofNat 32 (2048 + r.val) := (BitVec.ofNat_add 2048 r.val).symm
  unfold angle
  rw [← e]
  exact congrArg Ideal.cos (mul_comm _ _)

/-- The rotary table. -/
theorem host23_at (j : Fin 32) (r : Fin 128) : V m c main_v23 (ix2 j r) = Ideal.sin (angle (2048 + r.val) j.val) := by
  show StableHlo.after _ _ (Proc.devRef .tc main_v23) _ = _
  after_reads_at
  have e : IntOp.addi 2048#32 (BitVec.ofNat 32 r.val) = BitVec.ofNat 32 (2048 + r.val) := (BitVec.ofNat_add 2048 r.val).symm
  unfold angle
  rw [← e]
  exact congrArg Ideal.sin (mul_comm _ _)

/-- The cache, heads side by side. -/
theorem host24_at (b : Fin 16) (r d : Fin 128) : V m c main_v24 (ix4 0 b r d) = (m ((c : Thread nD τ).loc main_arg2)) (ix5 0 b r ⟨d.val / 64, by omega⟩ ⟨d.val % 64, by omega⟩) := by
  show StableHlo.after _ _ (Proc.devRef .tc main_v24) _ = _
  after_reads_at

/-- The cache, heads side by side. -/
theorem host25_at (b : Fin 16) (r d : Fin 128) : V m c main_v25 (ix4 0 b r d) = (m ((c : Thread nD τ).loc main_arg3)) (ix5 0 b r ⟨d.val / 64, by omega⟩ ⟨d.val % 64, by omega⟩) := by
  show StableHlo.after _ _ (Proc.devRef .tc main_v25) _ = _
  after_reads_at

/-- The memory, heads under one another. -/
theorem host26_at (l : Fin 2) (b : Fin 16) (k : Fin 1024) (e : Fin 128) : V m c main_v26 (ix4 l b k e) = (m ((c : Thread nD τ).loc main_arg4)) (ix5 l b ⟨k.val / 4, by omega⟩ ⟨k.val % 4, by omega⟩ e) := by
  show StableHlo.after _ _ (Proc.devRef .tc main_v26) _ = _
  after_reads_at

/-- The memory, heads under one another. -/
theorem host27_at (l : Fin 2) (b : Fin 16) (k : Fin 1024) (e : Fin 128) : V m c main_v27 (ix4 l b k e) = (m ((c : Thread nD τ).loc main_arg5)) (ix5 l b ⟨k.val / 4, by omega⟩ ⟨k.val % 4, by omega⟩ e) := by
  show StableHlo.after _ _ (Proc.devRef .tc main_v27) _ = _
  after_reads_at

/-- Window 0 at a step. -/
theorem win0_at (t : Fin cfg0.N) (k : Fin 16) : iblk m c 0 t (ix1 k) = (m ((c : Thread nD τ).loc main_arg13)) (ix2 0 k) := by
  refine Eq.trans ?_ (host6_at m c k)
  blk_ext [iblk, idx t]

/-- Window 1 at a step. -/
theorem win1_at (t : Fin cfg0.N) (s : Fin 2) (n : Fin 64) (d : Fin 1024) : iblk m c 1 t (ix3 s n d) = (m ((c : Thread nD τ).loc main_arg0)) (ix3 ⟨2 * (stepOf t).val + s.val, by omega⟩ n d) := by
  blk_ext [iblk, V, idx t]

/-- Window 2 at a step. -/
theorem win2_at (t : Fin cfg0.N) (j : Fin 32) (r : Fin 128) : iblk m c 2 t (ix2 j r) = Ideal.cos (angle (2048 + r.val) j.val) := by
  refine Eq.trans ?_ (host22_at m c j r)
  blk_ext [iblk, idx t]

/-- Window 3 at a step. -/
theorem win3_at (t : Fin cfg0.N) (j : Fin 32) (r : Fin 128) : iblk m c 3 t (ix2 j r) = Ideal.sin (angle (2048 + r.val) j.val) := by
  refine Eq.trans ?_ (host23_at m c j r)
  blk_ext [iblk, idx t]

/-- Window 4 at a step. -/
theorem win4_at (t : Fin cfg0.N) (s : Fin 2) (r : Fin 30) (d : Fin 1024) : iblk m c 4 t (ix4 0 s r d) = (m ((c : Thread nD τ).loc main_arg1)) (ix4 0 ⟨2 * (stepOf t).val + s.val, by omega⟩ r d) := by
  blk_ext [iblk, V, idx t]

/-- Window 5 at a step. -/
theorem win5_at (t : Fin cfg0.N) (s : Fin 2) (r d : Fin 128) : iblk m c 5 t (ix4 0 s r d) = (m ((c : Thread nD τ).loc main_arg2)) (ix5 0 ⟨2 * (stepOf t).val + s.val, by omega⟩ r ⟨d.val / 64, by omega⟩ ⟨d.val % 64, by omega⟩) := by
  refine Eq.trans ?_ (host24_at m c ⟨2 * (stepOf t).val + s.val, by omega⟩ r d)
  blk_ext [iblk, idx t]

/-- Window 6 at a step. -/
theorem win6_at (t : Fin cfg0.N) (s : Fin 2) (r d : Fin 128) : iblk m c 6 t (ix4 0 s r d) = (m ((c : Thread nD τ).loc main_arg3)) (ix5 0 ⟨2 * (stepOf t).val + s.val, by omega⟩ r ⟨d.val / 64, by omega⟩ ⟨d.val % 64, by omega⟩) := by
  refine Eq.trans ?_ (host25_at m c ⟨2 * (stepOf t).val + s.val, by omega⟩ r d)
  blk_ext [iblk, idx t]

/-- Window 7 at a step. -/
theorem win7_at (t : Fin cfg0.N) (l s : Fin 2) (k : Fin 1024) (e : Fin 128) : iblk m c 7 t (ix4 l s k e) = (m ((c : Thread nD τ).loc main_arg4)) (ix5 l ⟨2 * (stepOf t).val + s.val, by omega⟩ ⟨k.val / 4, by omega⟩ ⟨k.val % 4, by omega⟩ e) := by
  refine Eq.trans ?_ (host26_at m c l ⟨2 * (stepOf t).val + s.val, by omega⟩ k e)
  blk_ext [iblk, idx t]

/-- Window 8 at a step. -/
theorem win8_at (t : Fin cfg0.N) (l s : Fin 2) (k : Fin 1024) (e : Fin 128) : iblk m c 8 t (ix4 l s k e) = (m ((c : Thread nD τ).loc main_arg5)) (ix5 l ⟨2 * (stepOf t).val + s.val, by omega⟩ ⟨k.val / 4, by omega⟩ ⟨k.val % 4, by omega⟩ e) := by
  refine Eq.trans ?_ (host27_at m c l ⟨2 * (stepOf t).val + s.val, by omega⟩ k e)
  blk_ext [iblk, idx t]

/-- Window 9 at a step. -/
theorem win9_at (t : Fin cfg0.N) (l : Fin 2) (d : Fin 1024) : iblk m c 9 t (ix2 l d) = (m ((c : Thread nD τ).loc main_arg6)) (ix2 l d) := by
  blk_ext [iblk, V, idx t]

/-- Window 10 at a step. -/
theorem win10_at (t : Fin cfg0.N) (k : Fin 1024) (d : Fin 4096) : iblk m c 10 t (ix3 0 k ⟨d.val, by omega⟩) = (m ((c : Thread nD τ).loc main_arg7)) (ix3 0 k d) := by
  refine Eq.trans ?_ (host1_at m c k d)
  blk_ext [iblk, idx t]

/-- Window 11 at a step. -/
theorem win11_at (t : Fin cfg0.N) (k : Fin 31) (d : Fin 1024) : iblk m c 11 t (ix3 0 k d) = (m ((c : Thread nD τ).loc main_arg8)) (ix3 0 k d) := by
  blk_ext [iblk, V, idx t]

/-- Window 12 at a step. -/
theorem win12_at (t : Fin cfg0.N) (d : Fin 1024) : iblk m c 12 t (ix2 0 d) = (m ((c : Thread nD τ).loc main_arg9)) (ix2 0 d) := by
  blk_ext [iblk, V, idx t]

/-- Window 13 at a step. -/
theorem win13_at (t : Fin cfg0.N) (d : Fin 1024) : iblk m c 13 t (ix2 0 d) = (m ((c : Thread nD τ).loc main_arg10)) (ix2 0 d) := by
  blk_ext [iblk, V, idx t]

/-- Window 14 at a step. -/
theorem win14_at (t : Fin cfg0.N) (d : Fin 1024) : iblk m c 14 t (ix2 0 d) = (m ((c : Thread nD τ).loc main_arg11)) (ix2 0 d) := by
  blk_ext [iblk, V, idx t]

/-- Window 15 at a step. -/
theorem win15_at (t : Fin cfg0.N) (k : Fin 1024) (d : Fin 3328) : iblk m c 15 t (ix3 0 k d) = (m ((c : Thread nD τ).loc main_arg12)) (ix3 0 k d) := by
  refine Eq.trans ?_ (host2_at m c k d)
  blk_ext [iblk, idx t]

/-- Window 16 at a step. -/
theorem win16_at (t : Fin cfg0.N) (l : Fin 2) (k : Fin 1536) (d : Fin 1024) : iblk m c 16 t (ix3 l k ⟨d.val, by omega⟩) = (m ((c : Thread nD τ).loc main_arg14)) (ix3 l k d) := by
  refine Eq.trans ?_ (host4_at m c l k d)
  blk_ext [iblk, idx t]

/-- Window 17 at a step. -/
theorem win17_at (t : Fin cfg0.N) (d : Fin 1024) : iblk m c 17 t (ix2 0 d) = (m ((c : Thread nD τ).loc main_arg15)) (ix1 d) := by
  refine Eq.trans ?_ (host5_at m c d)
  blk_ext [iblk, idx t]

set_option maxHeartbeats 4000000 in
/-- The windows of every step hold the parts of the arguments its streams name. -/
theorem fits (t : Fin cfg0.N) : Fits ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩ (stepOf t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) where
  h0 := win0_at m c t
  h1 := win1_at m c t
  h2 := win2_at m c t
  h3 := win3_at m c t
  h4 := win4_at m c t
  h5 := win5_at m c t
  h6 := win6_at m c t
  h7 := win7_at m c t
  h8 := win8_at m c t
  h9 := win9_at m c t
  h10 := win10_at m c t
  h11 := win11_at m c t
  h12 := win12_at m c t
  h13 := win13_at m c t
  h14 := win14_at m c t
  h15 := win15_at m c t
  h16 := win16_at m c t
  h17 := win17_at m c t

end Cert.SampleIdeal.Trunk
-- ==== Proof.SampleFinals.lean ====
module

public import proofs.«01_k».proof.Proof.SampleStep
public import proofs.«01_k».proof.Proof.SampleFitsV

@[expose] public section

set_option maxRecDepth 16384

noncomputable section

namespace Cert.SampleIdeal.Trunk

open Idealize.ShloMosaic Idealize.ShloMosaic.TcCoe Idealize.SL.Sem
open Idealize.ShloMosaic.Pipeline (Dat)
open Cert.SampleIdeal Cert.SampleIdeal.Gen Cert.SampleIdeal.Value Cert.SampleReferenceIdeal.Read
open Cert.KernelIdeal.Trunk (ix3_ext ix4_ext)

/-! # The sample kernel's four results -/

variable {x0 : FVec Ideal Cert.SampleReferenceIdeal.S16x64x1024 .f32} {x1 : FVec Ideal Cert.SampleReferenceIdeal.S1x16x30x1024 .f32} {x2 : FVec Ideal Cert.SampleReferenceIdeal.S1x16x128x2x64 .f32} {x3 : FVec Ideal Cert.SampleReferenceIdeal.S1x16x128x2x64 .f32} {x4 : FVec Ideal Cert.SampleReferenceIdeal.S2x16x256x4x128 .f32} {x5 : FVec Ideal Cert.SampleReferenceIdeal.S2x16x256x4x128 .f32} {x6 : FVec Ideal Cert.SampleReferenceIdeal.S2x1024 .f32} {x7 : FVec Ideal Cert.SampleReferenceIdeal.S1x1024x4096 .f32} {x8 : FVec Ideal Cert.SampleReferenceIdeal.S1x31x1024 .f32} {x9 : FVec Ideal Cert.SampleReferenceIdeal.S1x1024 .f32} {x10 : FVec Ideal Cert.SampleReferenceIdeal.S1x1024 .f32} {x11 : FVec Ideal Cert.SampleReferenceIdeal.S1x1024 .f32} {x12 : FVec Ideal Cert.SampleReferenceIdeal.S1x1024x3328 .f32} {x13 : FVec Ideal Cert.SampleReferenceIdeal.S1x16 .f32} {x14 : FVec Ideal Cert.SampleReferenceIdeal.S2x1536x1024 .f32} {x15 : FVec Ideal Cert.SampleReferenceIdeal.S1024 .f32}

/-- What a step leaves. -/
structure Done (T : Fin 8) (y : FVec Ideal Cert.SampleReferenceIdeal.S16x64x1024 .f32) (cv : FVec Ideal Cert.SampleReferenceIdeal.S1x16x30x1024 .f32) (k v : FVec Ideal Cert.SampleReferenceIdeal.S1x16x128x128 .f32)
    (o18 : FVec Ideal S2x64x1024 .f32) (o19 : FVec Ideal S1x2x30x1024 .f32) (o20 o21 : FVec Ideal S1x2x128x128 .f32) : Prop where
  y : ∀ (s : Fin 2) (i : Fin 64) (d : Fin 1024), o18 (ix3 s i d) = y (ix3 ⟨2 * T.val + s.val, by omega⟩ i d)
  conv : ∀ (s : Fin 2) (r : Fin 30) (d : Fin 1024), o19 (ix4 0 s r d) = cv (ix4 0 ⟨2 * T.val + s.val, by omega⟩ r d)
  k : ∀ (s : Fin 2) (r d : Fin 128), o20 (ix4 0 s r d) = k (ix4 0 ⟨2 * T.val + s.val, by omega⟩ r d)
  v : ∀ (s : Fin 2) (r d : Fin 128), o21 (ix4 0 s r d) = v (ix4 0 ⟨2 * T.val + s.val, by omega⟩ r d)

/-- A step, in any memories, leaves the reference's entries of its two streams. -/
theorem step {T : Fin 8} (c : Dev nD) (i : grid0.Coords) (arg1 : Memref sig .tc .smem S16 .f32) (harg1 : arg1.IsWhole) (arg2 : Memref sig .tc .vmem S2x64x1024 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x2x30x1024 .f32) (harg5 : arg5.IsWhole) (arg6 : Memref sig .tc .vmem S1x2x128x128 .f32) (harg6 : arg6.IsWhole) (arg7 : Memref sig .tc .vmem S1x2x128x128 .f32) (harg7 : arg7.IsWhole) (arg8 : Memref sig .tc .vmem S2x2x1024x128 .f32) (harg8 : arg8.IsWhole) (arg9 : Memref sig .tc .vmem S2x2x1024x128 .f32) (harg9 : arg9.IsWhole) (arg10 : Memref sig .tc .vmem S2x1024 .f32) (harg10 : arg10.IsWhole) (arg11 : Memref sig .tc .vmem S1x1024x4224 .bf16) (harg11 : arg11.IsWhole) (arg12 : Memref sig .tc .vmem S1x31x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x3328 .bf16) (harg16 : arg16.IsWhole) (arg17 : Memref sig .tc .vmem S2x1536x1152 .bf16) (harg17 : arg17.IsWhole) (arg18 : Memref sig .tc .vmem S1x1024 .f32) (harg18 : arg18.IsWhole) (arg19 : Memref sig .tc .vmem S2x64x1024 .f32) (harg19 : arg19.IsWhole) (arg20 : Memref sig .tc .vmem S1x2x30x1024 .f32) (harg20 : arg20.IsWhole) (arg21 : Memref sig .tc .vmem S1x2x128x128 .f32) (harg21 : arg21.IsWhole) (arg22 : Memref sig .tc .vmem S1x2x128x128 .f32) (harg22 : arg22.IsWhole) (arg23 : Memref sig .tc .vmem S2x96x1024 .f32) (harg23 : arg23.IsWhole) (arg24 : Memref sig .tc .vmem S2x2x192x128 .bf16) (harg24 : arg24.IsWhole) (arg25 : Memref sig .tc .vmem S2x2x192x128 .bf16) (harg25 : arg25.IsWhole) (arg26 : Memref sig .tc .vmem S2x2x192x128 .bf16) (harg26 : arg26.IsWhole) (arg27 : Memref sig .tc .vmem S2x2x192x128 .bf16) (harg27 : arg27.IsWhole)
  (y0 : Vec Ideal S16 .f32) (y1 : Vec Ideal S2x64x1024 .f32) (y2 : Vec Ideal S32x128 .f32) (y3 : Vec Ideal S32x128 .f32) (y4 : Vec Ideal S1x2x30x1024 .f32) (y5 : Vec Ideal S1x2x128x128 .f32) (y6 : Vec Ideal S1x2x128x128 .f32) (y7 : Vec Ideal S2x2x1024x128 .f32) (y8 : Vec Ideal S2x2x1024x128 .f32) (y9 : Vec Ideal S2x1024 .f32) (y10 : Vec Ideal S1x1024x4224 .bf16) (y11 : Vec Ideal S1x31x1024 .f32) (y12 : Vec Ideal S1x1024 .f32) (y13 : Vec Ideal S1x1024 .f32) (y14 : Vec Ideal S1x1024 .f32) (y15 : Vec Ideal S1x1024x3328 .bf16) (y16 : Vec Ideal S2x1536x1152 .bf16) (y17 : Vec Ideal S1x1024 .f32)
    (hW0 : Fits ⟨y0, y1, y2, y3, y4, y5, y6, y7, y8, y9, y10, y11, y12, y13, y14, y15, y16, y17⟩ T x0 x1 x2 x3 x4 x5 x6 x7 x8 x9 x10 x11 x12 x13 x14 x15) (hR : Reals x2 x4 x6 x7 x12 x13) :
    Done T (val_main_v475 (F := Ideal) x0 x1 x2 x3 x4 x5 x6 x7 x8 x9 x10 x11 x12 x13 x14 x15) (val_main_v480 (F := Ideal) x0 x1 x6 x7) (val_main_v477 (F := Ideal) x0 x1 x2 x4 x5 x6 x7 x8 x9 x10 x11 x12 x14) (val_main_v479 (F := Ideal) x0 x1 x3 x4 x5 x6 x7 x8 x9 x10 x11 x12 x14) (Gen.out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 y0 y1 y2 y3 y4 y5 y6 y7 y8 y9 y10 y11 y12 y13 y14 y15 y16 y17)
      (Gen.out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 y0 y1 y2 y3 y4 y5 y6 y7 y8 y9 y10 y11 y12 y13 y14 y15 y16 y17)
      (Gen.out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 y0 y1 y2 y3 y4 y5 y6 y7 y8 y9 y10 y11 y12 y13 y14 y15 y16 y17)
      (Gen.out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 y0 y1 y2 y3 y4 y5 y6 y7 y8 y9 y10 y11 y12 y13 y14 y15 y16 y17) := by
  have hW : Fits (winOf arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 y0 y1 y2 y3 y4 y5 y6 y7 y8 y9 y10 y11 y12 y13 y14 y15 y16 y17) T x0 x1 x2 x3 x4 x5 x6 x7 x8 x9 x10 x11 x12 x13 x14 x15 := by
    simpa only [winOf, Memref.IsWhole.read_unread] using hW0
  have hX := kX1'_eq hW hR arg23.view arg23.view.junk
  exact {
    y := fun s i' d => by
      refine (congrFun (out0_A_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 y0 y1 y2 y3 y4 y5 y6 y7 y8 y9 y10 y11 y12 y13 y14 y15 y16 y17) _).trans ?_
      refine (View.read_writes_cons_unit_of_mem _ _ _ _ [] _ (ix3 s i' d) rfl fun a => ?_).trans ?_
      · match a with
        | ⟨0, _⟩ => show s.val = 0 + s.val; omega
        | ⟨1, _⟩ => show i'.val = 0 + i'.val; omega
        | ⟨2, _⟩ => show d.val = 0 + d.val; omega
      · exact kY_eq hW hR hX (kSwa'_eq hW hR hX arg24.view arg25.view arg26.view arg27.view) s i' d
    conv := fun s r d => by
      refine (congrFun (out0_A_19_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 y0 y1 y2 y3 y4 y5 y6 y7 y8 y9 y10 y11 y12 y13 y14 y15 y16 y17) _).trans ?_
      refine (View.read_writes_cons_unit_of_mem _ _ _ _ [] _ (ix4 (n0 := 1) 0 s r d) rfl fun a => ?_).trans ?_
      · match a with
        | ⟨0, _⟩ => rfl
        | ⟨1, _⟩ => show s.val = 0 + s.val; omega
        | ⟨2, _⟩ => show r.val = 0 + r.val; omega
        | ⟨3, _⟩ => show d.val = 0 + d.val; omega
      · exact kConvOut_eq hW arg23.view arg23.view.junk (kUHist _) s r d
    k := fun s r d =>
      (congrFun (out0_A_20_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 y0 y1 y2 y3 y4 y5 y6 y7 y8 y9 y10 y11 y12 y13 y14 y15 y16 y17) _).trans (((keys_rows hW hX).lasts VO0_20 _ s r d).trans (v477_at _ r d).symm)
    v := fun s r d =>
      (congrFun (out0_A_21_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 y0 y1 y2 y3 y4 y5 y6 y7 y8 y9 y10 y11 y12 y13 y14 y15 y16 y17) _).trans (((vals_rows hW hX).lasts VO0_21 _ s r d).trans (v479_at _ r d).symm) }

variable (m : (ℓ : Loc nD τ sig) → Buf (Elt Ideal) ℓ) (c : Dev nD)

set_option maxHeartbeats 4000000 in
/-- Every step leaves the reference's entries of its two streams. -/
theorem done (hR : Reals (m ((c : Thread nD τ).loc main_arg2)) (m ((c : Thread nD τ).loc main_arg4)) (m ((c : Thread nD τ).loc main_arg6)) (m ((c : Thread nD τ).loc main_arg7)) (m ((c : Thread nD τ).loc main_arg12)) (m ((c : Thread nD τ).loc main_arg13))) (t : Fin cfg0.N) : Done (stepOf t) (val_main_v475 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (val_main_v480 (F := Ideal) (m ((c : Thread nD τ).loc main_arg0)) (m ((c : Thread nD τ).loc main_arg1)) (m ((c : Thread nD τ).loc main_arg6)) (m ((c : Thread nD τ).loc main_arg7)))
    (val_main_v477 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)))
    (val_main_v479 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14))) (outsAt0 m c t).1 (outsAt0 m c t).2.1 (outsAt0 m c t).2.2.1 (outsAt0 m c t).2.2.2 := by
  dsimp only [outsAt0]
  exact step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fits m c t) hR

/-- Where each result's block sits at a point of the grid. -/
theorem idxo : ∀ t : Fin cfg0.N, win0_18.index t = ![t.val, 0, 0] ∧ win0_19.index t = ![0, t.val, 0, 0] ∧ win0_20.index t = ![0, t.val, 0, 0] ∧ win0_21.index t = ![0, t.val, 0, 0] :=
  (by decide +kernel : ∀ t : Fin grid0.N, _)

/-- After the run the array of the result rows is the reference's. -/
theorem final18 (hR : Reals (m ((c : Thread nD τ).loc main_arg2)) (m ((c : Thread nD τ).loc main_arg4)) (m ((c : Thread nD τ).loc main_arg6)) (m ((c : Thread nD τ).loc main_arg7)) (m ((c : Thread nD τ).loc main_arg12)) (m ((c : Thread nD τ).loc main_arg13))) : (dats m 0 c).arrAt 18 cfg0.N = val_main_v475 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 18 _ (by decide +kernel) fun t _ y => ?_
  blk_simp
  rw [after0_18]
  obtain ⟨s, i, d, rfl⟩ : ∃ (s : Fin 2) (i : Fin 64) (d : Fin 1024), y = ix3 s i d := ⟨y 0, y 1, y 2, ValueIdx.eq_ix3 y⟩
  refine ((done m c hR t).y s i d).trans ?_
  blk_ext [idxo t]

/-- After the run the array of the convolution's last rows is the reference's. -/
theorem final19 (hR : Reals (m ((c : Thread nD τ).loc main_arg2)) (m ((c : Thread nD τ).loc main_arg4)) (m ((c : Thread nD τ).loc main_arg6)) (m ((c : Thread nD τ).loc main_arg7)) (m ((c : Thread nD τ).loc main_arg12)) (m ((c : Thread nD τ).loc main_arg13))) : (dats m 0 c).arrAt 19 cfg0.N = val_main_v480 (F := Ideal) (m ((c : Thread nD τ).loc main_arg0)) (m ((c : Thread nD τ).loc main_arg1)) (m ((c : Thread nD τ).loc main_arg6)) (m ((c : Thread nD τ).loc main_arg7)) := by
  refine (dats m 0 c).arrAt_eq_of_covers 19 _ (by decide +kernel) fun t _ y => ?_
  blk_simp
  rw [after0_19]
  obtain ⟨a, s, i, d, rfl⟩ : ∃ (a : Fin 1) (s : Fin 2) (i : Fin 30) (d : Fin 1024), y = ix4 a s i d := ⟨y 0, y 1, y 2, y 3, ValueIdx.eq_ix4 y⟩
  obtain rfl : a = 0 := Subsingleton.elim _ _
  refine ((done m c hR t).conv s i d).trans ?_
  blk_ext [idxo t]

/-- After the run the array of the last keys is the reference's. -/
theorem final20 (hR : Reals (m ((c : Thread nD τ).loc main_arg2)) (m ((c : Thread nD τ).loc main_arg4)) (m ((c : Thread nD τ).loc main_arg6)) (m ((c : Thread nD τ).loc main_arg7)) (m ((c : Thread nD τ).loc main_arg12)) (m ((c : Thread nD τ).loc main_arg13))) : (dats m 0 c).arrAt 20 cfg0.N = val_main_v477 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) := by
  refine (dats m 0 c).arrAt_eq_of_covers 20 _ (by decide +kernel) fun t _ y => ?_
  blk_simp
  rw [after0_20]
  obtain ⟨a, s, i, d, rfl⟩ : ∃ (a : Fin 1) (s : Fin 2) (i : Fin 128) (d : Fin 128), y = ix4 a s i d := ⟨y 0, y 1, y 2, y 3, ValueIdx.eq_ix4 y⟩
  obtain rfl : a = 0 := Subsingleton.elim _ _
  refine ((done m c hR t).k s i d).trans ?_
  blk_ext [idxo t]

/-- After the run the array of the last values is the reference's. -/
theorem final21 (hR : Reals (m ((c : Thread nD τ).loc main_arg2)) (m ((c : Thread nD τ).loc main_arg4)) (m ((c : Thread nD τ).loc main_arg6)) (m ((c : Thread nD τ).loc main_arg7)) (m ((c : Thread nD τ).loc main_arg12)) (m ((c : Thread nD τ).loc main_arg13))) : (dats m 0 c).arrAt 21 cfg0.N = val_main_v479 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) := by
  refine (dats m 0 c).arrAt_eq_of_covers 21 _ (by decide +kernel) fun t _ y => ?_
  blk_simp
  rw [after0_21]
  obtain ⟨a, s, i, d, rfl⟩ : ∃ (a : Fin 1) (s : Fin 2) (i : Fin 128) (d : Fin 128), y = ix4 a s i d := ⟨y 0, y 1, y 2, y 3, ValueIdx.eq_ix4 y⟩
  obtain rfl : a = 0 := Subsingleton.elim _ _
  refine ((done m c hR t).v s i d).trans ?_
  blk_ext [idxo t]

end Cert.SampleIdeal.Trunk
-- ==== Proof.SampleClaim.lean ====
/- The sample trunk's claims. -/
module

public import proofs.«01_k».proof.Proof.TrunkClaim
public import proofs.«01_k».proof.Proof.SampleFinals
public import proofs.«01_k».proof.Proof.Gen.Pre_sample_finite
public import proofs.«01_k».proof.Proof.Gen.Sample.Frame
public import proofs.«01_k».proof.Proof.Gen.Sample
public import proofs.«01_k».proof.Proof.Gen.SampleIdeal
public import proofs.«01_k».proof.Proof.Gen.SampleIdeal.Frame
public import proofs.«01_k».proof.Proof.Gen.SampleReferenceIdeal
public import proofs.«01_k».proof.Proof.Gen.SampleReferenceIdeal.Run
public import proofs.«01_k».proof.Proof.Gen.SampleReferenceIdeal.Read
public import Idealize.ShloMosaic.Lib.Quiescent

@[expose] public section

set_option maxRecDepth 16384

noncomputable section

namespace Cert.Proof

open Idealize.ShloMosaic Idealize.ShloMosaic.TcCoe Idealize.SL.Sem

/-- The sample kernel runs, quiescent, with its arguments unchanged. -/
theorem frame_p3 : Cert.quiescent_Sample := fun m ρ _ => Cert.Sample.Gen.frame m ρ

/-- So does the sample kernel at the exact numbers. -/
theorem frame_pi3 : Cert.quiescent_SampleIdeal := fun m ρ _ => Cert.SampleIdeal.Gen.frame m ρ

/-- The same under the value claim's precondition, which the frame does not use. -/
theorem frame_pi3_finite : Cert.quiescent_SampleIdeal_pre_sample_finite := fun m ρ _ => Cert.SampleIdeal.Gen.frame m ρ

/-- The sample trunk's reference runs with its arguments unchanged; it declares no semaphore. -/
theorem frame_ri3 : Cert.quiescent_SampleReferenceIdeal := fun m ρ _ =>
  (θ_run Cert.SampleReferenceIdeal.defs _ _).mono (fun r h => ⟨fun c => (h c).2.2.2.2,
      Idealize.ShloMosaic.sem_eq_zero_of_no_sems (by decide) r.2⟩)
    (Cert.SampleReferenceIdeal.Value.run (F := Ideal) m ρ)

/-- The same under the value claim's precondition, which the frame does not use. -/
theorem frame_ri3_finite : Cert.quiescent_SampleReferenceIdeal_pre_sample_finite := fun m ρ _ => frame_ri3 m ρ trivial

/-- Each named constant of the sample kernel is the value its name is given. -/
theorem preserves3 : Cert.preserves_Sample_SampleIdeal :=
  ⟨IdealRules.named_const.statement Cert.SampleIdeal.κ "mem_scale" .f32 0x3E0293EE#32 _ rfl,
    IdealRules.named_const.statement Cert.SampleIdeal.κ "swa_scale" .f32 0x3E38AA3B#32 _ rfl,
    IdealRules.named_const.statement Cert.SampleIdeal.κ "log2e" .f32 0x3FB8AA3B#32 _ rfl⟩

/-- The sample predicate's result has one index. -/
theorem one_index3 (a b : Cert.Pre_sample_finite.S_.Idx) : a = b := funext fun i => i.elim0

/-- The precondition gives real entries of the six arguments it names. -/
theorem sample_reals_of (x0 x1 x2 x3 x4 x5 x6 x7 x8 x9 x10 x11 x12 x13 x14 x15) (h : ∀ j, Cert.Pre_sample_finite.fn (F := Ideal) x0 x1 x2 x3 x4 x5 x6 x7 x8 x9 x10 x11 x12 x13 x14 x15 j = 1#1) :
    Cert.SampleIdeal.Trunk.Reals x2 x4 x6 x7 x12 x13 := by
  haveI : Subsingleton Cert.Pre_sample_finite.S_.Idx := ⟨one_index3⟩
  have h0 := h (fun i => i.elim0)
  dsimp only [Cert.Pre_sample_finite.fn_part1, Cert.Pre_sample_finite.fn] at h0
  obtain ⟨h0, h13⟩ := and_bits _ _ h0
  obtain ⟨h0, h12⟩ := and_bits _ _ h0
  obtain ⟨h0, h7⟩ := and_bits _ _ h0
  obtain ⟨h0, h6⟩ := and_bits _ _ h0
  obtain ⟨h2, h4⟩ := and_bits _ _ h0
  exact ⟨fun i => real_of_lt (Host.reduce_andi_all _ _ _ _ _ h2 i), fun i => real_of_lt (Host.reduce_andi_all _ _ _ _ _ h4 i),
    fun i => real_of_lt (Host.reduce_andi_all _ _ _ _ _ h6 i), fun i => real_of_lt (Host.reduce_andi_all _ _ _ _ _ h7 i),
    fun i => real_of_lt (Host.reduce_andi_all _ _ _ _ _ h12 i), fun i => real_of_lt (Host.reduce_andi_all _ _ _ _ _ h13 i)⟩

/-- The precondition on the sample kernel's arguments gives real entries. -/
theorem sample_reals_pre (m : (ℓ : Loc Cert.SampleIdeal.nD Cert.SampleIdeal.τ Cert.SampleIdeal.sig) → Buf (Elt Ideal) ℓ) (h : Cert.Pre_SampleIdeal_sample_finite m) (c : Dev Cert.SampleIdeal.nD) :
    Cert.SampleIdeal.Trunk.Reals (m ((c : Thread Cert.SampleIdeal.nD Cert.SampleIdeal.τ).loc Cert.SampleIdeal.main_arg2)) (m ((c : Thread Cert.SampleIdeal.nD Cert.SampleIdeal.τ).loc Cert.SampleIdeal.main_arg4)) (m ((c : Thread Cert.SampleIdeal.nD Cert.SampleIdeal.τ).loc Cert.SampleIdeal.main_arg6)) (m ((c : Thread Cert.SampleIdeal.nD Cert.SampleIdeal.τ).loc Cert.SampleIdeal.main_arg7)) (m ((c : Thread Cert.SampleIdeal.nD Cert.SampleIdeal.τ).loc Cert.SampleIdeal.main_arg12)) (m ((c : Thread Cert.SampleIdeal.nD Cert.SampleIdeal.τ).loc Cert.SampleIdeal.main_arg13)) :=
  sample_reals_of _ _ _ _ _ _ _ _ _ _ _ _ _ _ _ _ (fun j => congrFun (h c) j)

/-- At the exact numbers the sample kernel and its reference leave the same four arrays, given finite weights and caches. -/
theorem algebraic_sample : Cert.algebraic_SampleIdeal_SampleReferenceIdeal_pre_sample_finite := by
  pair_intro
  · run_from Cert.SampleIdeal.Value.run_blocks m g
  · run_from Cert.SampleReferenceIdeal.Value.run m' g'
    · rw [← (hagree c).2.2.2.2.2.2.2.2.2.2.2.2.2.2.2]
      refine (Cert.SampleReferenceIdeal.Read.val_main_v475_eq (Idealize.ShloMosaic.StableHlo.launchContents m' c)).trans ?_
      simp only [Idealize.ShloMosaic.StableHlo.launchContents_devRef, hagree c]
      exact (Cert.SampleIdeal.Trunk.final18 m c (sample_reals_pre m hpre c)).symm
    · refine (Cert.SampleReferenceIdeal.Read.val_main_v480_eq (Idealize.ShloMosaic.StableHlo.launchContents m' c)).trans ?_
      simp only [Idealize.ShloMosaic.StableHlo.launchContents_devRef, hagree c]
      exact (Cert.SampleIdeal.Trunk.final19 m c (sample_reals_pre m hpre c)).symm
    · refine (Cert.SampleReferenceIdeal.Read.val_main_v477_eq (Idealize.ShloMosaic.StableHlo.launchContents m' c)).trans ?_
      simp only [Idealize.ShloMosaic.StableHlo.launchContents_devRef, hagree c]
      exact (Cert.SampleIdeal.Trunk.final20 m c (sample_reals_pre m hpre c)).symm
    · refine (Cert.SampleReferenceIdeal.Read.val_main_v479_eq (Idealize.ShloMosaic.StableHlo.launchContents m' c)).trans ?_
      simp only [Idealize.ShloMosaic.StableHlo.launchContents_devRef, hagree c]
      exact (Cert.SampleIdeal.Trunk.final21 m c (sample_reals_pre m hpre c)).symm

end Cert.Proof

end
-- ==== Proof.lean ====
module

public import proofs.«01_k».proof.Defs
public import proofs.«01_k».proof.Proof.Frames
public import proofs.«01_k».proof.Proof.MemClaim
public import proofs.«01_k».proof.Proof.TrunkClaim
public import proofs.«01_k».proof.Proof.SampleClaim
public import proofs.«01_k».proof.Proof.Gen.Kernel
public import proofs.«01_k».proof.Proof.Gen.KernelIdeal
public import proofs.«01_k».proof.Proof.Gen.ReferenceIdeal
public import proofs.«01_k».proof.Proof.Gen.MemKv
public import proofs.«01_k».proof.Proof.Gen.MemKvIdeal
public import proofs.«01_k».proof.Proof.Gen.MemKvReferenceIdeal
public import proofs.«01_k».proof.Proof.Gen.Pre_finite

@[expose] public section

noncomputable section

namespace Cert.Proof

open Idealize.ShloMosaic Idealize.SL.Sem

/-- All the claims, behind the witnesses of the programs' stated facts. -/
theorem claim : Cert.Claim :=
  ⟨Cert.Kernel.Gen.facts, Cert.KernelIdeal.Gen.facts, Cert.ReferenceIdeal.Gen.facts, Cert.MemKv.Gen.facts,
    Cert.MemKvIdeal.Gen.facts, Cert.MemKvReferenceIdeal.Gen.facts, Cert.Sample.Gen.facts,
    Cert.SampleIdeal.Gen.facts, Cert.SampleReferenceIdeal.Gen.facts, Cert.Pre_finite.Gen.facts, Cert.Pre_sample_finite.Gen.facts,
    frame_p, frame_pi, frame_pi_finite, frame_ri, frame_ri_finite, frame_p2, frame_pi2, frame_ri2,
    frame_p3, frame_pi3, frame_pi3_finite, frame_ri3, frame_ri3_finite,
    preserves, algebraic_trunk, trivial, algebraic_mem, preserves3, algebraic_sample⟩

end Cert.Proof

end
